-- ==== Defs.lean ====
def Pre_KernelMixIn (m : (ℓ : Loc Cert.KernelMixIn.nD Cert.KernelMixIn.τ Cert.KernelMixIn.sig) → Buf (Elt Bits) ℓ) : Prop :=
  True

def Pre_KernelMixInIdeal (m : (ℓ : Loc Cert.KernelMixInIdeal.nD Cert.KernelMixInIdeal.τ Cert.KernelMixInIdeal.sig) → Buf (Elt Ideal) ℓ) : Prop :=
  True

def Pre_KernelMixInIdeal_finite_mix_in [hPre_finite_mix_in : Cert.Pre_finite_mix_in.Facts] (m : (ℓ : Loc Cert.KernelMixInIdeal.nD Cert.KernelMixInIdeal.τ Cert.KernelMixInIdeal.sig) → Buf (Elt Ideal) ℓ) : Prop :=
  ∀ c : Dev Cert.KernelMixInIdeal.nD,
    (Cert.Pre_finite_mix_in.fn (F := Ideal) (m ((c.tc : Thread Cert.KernelMixInIdeal.nD Cert.KernelMixInIdeal.τ).loc Cert.KernelMixInIdeal.main_arg0)) (m ((c.tc : Thread Cert.KernelMixInIdeal.nD Cert.KernelMixInIdeal.τ).loc Cert.KernelMixInIdeal.main_arg1)) (m ((c.tc : Thread Cert.KernelMixInIdeal.nD Cert.KernelMixInIdeal.τ).loc Cert.KernelMixInIdeal.main_arg2)) (m ((c.tc : Thread Cert.KernelMixInIdeal.nD Cert.KernelMixInIdeal.τ).loc Cert.KernelMixInIdeal.main_arg3)) (m ((c.tc : Thread Cert.KernelMixInIdeal.nD Cert.KernelMixInIdeal.τ).loc Cert.KernelMixInIdeal.main_arg4))).1 = (fun _ => 1#1)
    ∧ (Cert.Pre_finite_mix_in.fn (F := Ideal) (m ((c.tc : Thread Cert.KernelMixInIdeal.nD Cert.KernelMixInIdeal.τ).loc Cert.KernelMixInIdeal.main_arg0)) (m ((c.tc : Thread Cert.KernelMixInIdeal.nD Cert.KernelMixInIdeal.τ).loc Cert.KernelMixInIdeal.main_arg1)) (m ((c.tc : Thread Cert.KernelMixInIdeal.nD Cert.KernelMixInIdeal.τ).loc Cert.KernelMixInIdeal.main_arg2)) (m ((c.tc : Thread Cert.KernelMixInIdeal.nD Cert.KernelMixInIdeal.τ).loc Cert.KernelMixInIdeal.main_arg3)) (m ((c.tc : Thread Cert.KernelMixInIdeal.nD Cert.KernelMixInIdeal.τ).loc Cert.KernelMixInIdeal.main_arg4))).2.1 = (fun _ => 1#1)
    ∧ (Cert.Pre_finite_mix_in.fn (F := Ideal) (m ((c.tc : Thread Cert.KernelMixInIdeal.nD Cert.KernelMixInIdeal.τ).loc Cert.KernelMixInIdeal.main_arg0)) (m ((c.tc : Thread Cert.KernelMixInIdeal.nD Cert.KernelMixInIdeal.τ).loc Cert.KernelMixInIdeal.main_arg1)) (m ((c.tc : Thread Cert.KernelMixInIdeal.nD Cert.KernelMixInIdeal.τ).loc Cert.KernelMixInIdeal.main_arg2)) (m ((c.tc : Thread Cert.KernelMixInIdeal.nD Cert.KernelMixInIdeal.τ).loc Cert.KernelMixInIdeal.main_arg3)) (m ((c.tc : Thread Cert.KernelMixInIdeal.nD Cert.KernelMixInIdeal.τ).loc Cert.KernelMixInIdeal.main_arg4))).2.2.1 = (fun _ => 1#1)
    ∧ (Cert.Pre_finite_mix_in.fn (F := Ideal) (m ((c.tc : Thread Cert.KernelMixInIdeal.nD Cert.KernelMixInIdeal.τ).loc Cert.KernelMixInIdeal.main_arg0)) (m ((c.tc : Thread Cert.KernelMixInIdeal.nD Cert.KernelMixInIdeal.τ).loc Cert.KernelMixInIdeal.main_arg1)) (m ((c.tc : Thread Cert.KernelMixInIdeal.nD Cert.KernelMixInIdeal.τ).loc Cert.KernelMixInIdeal.main_arg2)) (m ((c.tc : Thread Cert.KernelMixInIdeal.nD Cert.KernelMixInIdeal.τ).loc Cert.KernelMixInIdeal.main_arg3)) (m ((c.tc : Thread Cert.KernelMixInIdeal.nD Cert.KernelMixInIdeal.τ).loc Cert.KernelMixInIdeal.main_arg4))).2.2.2.1 = (fun _ => 1#1)
    ∧ (Cert.Pre_finite_mix_in.fn (F := Ideal) (m ((c.tc : Thread Cert.KernelMixInIdeal.nD Cert.KernelMixInIdeal.τ).loc Cert.KernelMixInIdeal.main_arg0)) (m ((c.tc : Thread Cert.KernelMixInIdeal.nD Cert.KernelMixInIdeal.τ).loc Cert.KernelMixInIdeal.main_arg1)) (m ((c.tc : Thread Cert.KernelMixInIdeal.nD Cert.KernelMixInIdeal.τ).loc Cert.KernelMixInIdeal.main_arg2)) (m ((c.tc : Thread Cert.KernelMixInIdeal.nD Cert.KernelMixInIdeal.τ).loc Cert.KernelMixInIdeal.main_arg3)) (m ((c.tc : Thread Cert.KernelMixInIdeal.nD Cert.KernelMixInIdeal.τ).loc Cert.KernelMixInIdeal.main_arg4))).2.2.2.2 = (fun _ => 1#1)

def Pre_ReferenceMixInIdeal (m : (ℓ : Loc Cert.ReferenceMixInIdeal.nD Cert.ReferenceMixInIdeal.τ Cert.ReferenceMixInIdeal.sig) → Buf (Elt Ideal) ℓ) : Prop :=
  True

def Pre_ReferenceMixInIdeal_finite_mix_in [hPre_finite_mix_in : Cert.Pre_finite_mix_in.Facts] (m : (ℓ : Loc Cert.ReferenceMixInIdeal.nD Cert.ReferenceMixInIdeal.τ Cert.ReferenceMixInIdeal.sig) → Buf (Elt Ideal) ℓ) : Prop :=
  ∀ c : Dev Cert.ReferenceMixInIdeal.nD,
    (Cert.Pre_finite_mix_in.fn (F := Ideal) (m ((c.tc : Thread Cert.ReferenceMixInIdeal.nD Cert.ReferenceMixInIdeal.τ).loc Cert.ReferenceMixInIdeal.main_arg0)) (m ((c.tc : Thread Cert.ReferenceMixInIdeal.nD Cert.ReferenceMixInIdeal.τ).loc Cert.ReferenceMixInIdeal.main_arg1)) (m ((c.tc : Thread Cert.ReferenceMixInIdeal.nD Cert.ReferenceMixInIdeal.τ).loc Cert.ReferenceMixInIdeal.main_arg2)) (m ((c.tc : Thread Cert.ReferenceMixInIdeal.nD Cert.ReferenceMixInIdeal.τ).loc Cert.ReferenceMixInIdeal.main_arg3)) (m ((c.tc : Thread Cert.ReferenceMixInIdeal.nD Cert.ReferenceMixInIdeal.τ).loc Cert.ReferenceMixInIdeal.main_arg4))).1 = (fun _ => 1#1)
    ∧ (Cert.Pre_finite_mix_in.fn (F := Ideal) (m ((c.tc : Thread Cert.ReferenceMixInIdeal.nD Cert.ReferenceMixInIdeal.τ).loc Cert.ReferenceMixInIdeal.main_arg0)) (m ((c.tc : Thread Cert.ReferenceMixInIdeal.nD Cert.ReferenceMixInIdeal.τ).loc Cert.ReferenceMixInIdeal.main_arg1)) (m ((c.tc : Thread Cert.ReferenceMixInIdeal.nD Cert.ReferenceMixInIdeal.τ).loc Cert.ReferenceMixInIdeal.main_arg2)) (m ((c.tc : Thread Cert.ReferenceMixInIdeal.nD Cert.ReferenceMixInIdeal.τ).loc Cert.ReferenceMixInIdeal.main_arg3)) (m ((c.tc : Thread Cert.ReferenceMixInIdeal.nD Cert.ReferenceMixInIdeal.τ).loc Cert.ReferenceMixInIdeal.main_arg4))).2.1 = (fun _ => 1#1)
    ∧ (Cert.Pre_finite_mix_in.fn (F := Ideal) (m ((c.tc : Thread Cert.ReferenceMixInIdeal.nD Cert.ReferenceMixInIdeal.τ).loc Cert.ReferenceMixInIdeal.main_arg0)) (m ((c.tc : Thread Cert.ReferenceMixInIdeal.nD Cert.ReferenceMixInIdeal.τ).loc Cert.ReferenceMixInIdeal.main_arg1)) (m ((c.tc : Thread Cert.ReferenceMixInIdeal.nD Cert.ReferenceMixInIdeal.τ).loc Cert.ReferenceMixInIdeal.main_arg2)) (m ((c.tc : Thread Cert.ReferenceMixInIdeal.nD Cert.ReferenceMixInIdeal.τ).loc Cert.ReferenceMixInIdeal.main_arg3)) (m ((c.tc : Thread Cert.ReferenceMixInIdeal.nD Cert.ReferenceMixInIdeal.τ).loc Cert.ReferenceMixInIdeal.main_arg4))).2.2.1 = (fun _ => 1#1)
    ∧ (Cert.Pre_finite_mix_in.fn (F := Ideal) (m ((c.tc : Thread Cert.ReferenceMixInIdeal.nD Cert.ReferenceMixInIdeal.τ).loc Cert.ReferenceMixInIdeal.main_arg0)) (m ((c.tc : Thread Cert.ReferenceMixInIdeal.nD Cert.ReferenceMixInIdeal.τ).loc Cert.ReferenceMixInIdeal.main_arg1)) (m ((c.tc : Thread Cert.ReferenceMixInIdeal.nD Cert.ReferenceMixInIdeal.τ).loc Cert.ReferenceMixInIdeal.main_arg2)) (m ((c.tc : Thread Cert.ReferenceMixInIdeal.nD Cert.ReferenceMixInIdeal.τ).loc Cert.ReferenceMixInIdeal.main_arg3)) (m ((c.tc : Thread Cert.ReferenceMixInIdeal.nD Cert.ReferenceMixInIdeal.τ).loc Cert.ReferenceMixInIdeal.main_arg4))).2.2.2.1 = (fun _ => 1#1)
    ∧ (Cert.Pre_finite_mix_in.fn (F := Ideal) (m ((c.tc : Thread Cert.ReferenceMixInIdeal.nD Cert.ReferenceMixInIdeal.τ).loc Cert.ReferenceMixInIdeal.main_arg0)) (m ((c.tc : Thread Cert.ReferenceMixInIdeal.nD Cert.ReferenceMixInIdeal.τ).loc Cert.ReferenceMixInIdeal.main_arg1)) (m ((c.tc : Thread Cert.ReferenceMixInIdeal.nD Cert.ReferenceMixInIdeal.τ).loc Cert.ReferenceMixInIdeal.main_arg2)) (m ((c.tc : Thread Cert.ReferenceMixInIdeal.nD Cert.ReferenceMixInIdeal.τ).loc Cert.ReferenceMixInIdeal.main_arg3)) (m ((c.tc : Thread Cert.ReferenceMixInIdeal.nD Cert.ReferenceMixInIdeal.τ).loc Cert.ReferenceMixInIdeal.main_arg4))).2.2.2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.2.2 = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.2.2 = (fun _ => 1#1)

def Pre_KernelXattn (m : (ℓ : Loc Cert.KernelXattn.nD Cert.KernelXattn.τ Cert.KernelXattn.sig) → Buf (Elt Bits) ℓ) : Prop :=
  True

def Pre_KernelXattnIdeal (m : (ℓ : Loc Cert.KernelXattnIdeal.nD Cert.KernelXattnIdeal.τ Cert.KernelXattnIdeal.sig) → Buf (Elt Ideal) ℓ) : Prop :=
  True

def Pre_KernelXattnIdeal_finite_xattn [hPre_finite_xattn : Cert.Pre_finite_xattn.Facts] (m : (ℓ : Loc Cert.KernelXattnIdeal.nD Cert.KernelXattnIdeal.τ Cert.KernelXattnIdeal.sig) → Buf (Elt Ideal) ℓ) : Prop :=
  ∀ c : Dev Cert.KernelXattnIdeal.nD,
    (Cert.Pre_finite_xattn.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1)) (m ((c.tc : Thread Cert.KernelXattnIdeal.nD Cert.KernelXattnIdeal.τ).loc Cert.KernelXattnIdeal.main_arg2)) (m ((c.tc : Thread Cert.KernelXattnIdeal.nD Cert.KernelXattnIdeal.τ).loc Cert.KernelXattnIdeal.main_arg3)) (m ((c.tc : Thread Cert.KernelXattnIdeal.nD Cert.KernelXattnIdeal.τ).loc Cert.KernelXattnIdeal.main_arg4)) (m ((c.tc : Thread Cert.KernelXattnIdeal.nD Cert.KernelXattnIdeal.τ).loc Cert.KernelXattnIdeal.main_arg5)) (m ((c.tc : Thread Cert.KernelXattnIdeal.nD Cert.KernelXattnIdeal.τ).loc Cert.KernelXattnIdeal.main_arg6)) (m ((c.tc : Thread Cert.KernelXattnIdeal.nD Cert.KernelXattnIdeal.τ).loc Cert.KernelXattnIdeal.main_arg7))).1 = (fun _ => 1#1)
    ∧ (Cert.Pre_finite_xattn.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1)) (m ((c.tc : Thread Cert.KernelXattnIdeal.nD Cert.KernelXattnIdeal.τ).loc Cert.KernelXattnIdeal.main_arg2)) (m ((c.tc : Thread Cert.KernelXattnIdeal.nD Cert.KernelXattnIdeal.τ).loc Cert.KernelXattnIdeal.main_arg3)) (m ((c.tc : Thread Cert.KernelXattnIdeal.nD Cert.KernelXattnIdeal.τ).loc Cert.KernelXattnIdeal.main_arg4)) (m ((c.tc : Thread Cert.KernelXattnIdeal.nD Cert.KernelXattnIdeal.τ).loc Cert.KernelXattnIdeal.main_arg5)) (m ((c.tc : Thread Cert.KernelXattnIdeal.nD Cert.KernelXattnIdeal.τ).loc Cert.KernelXattnIdeal.main_arg6)) (m ((c.tc : Thread Cert.KernelXattnIdeal.nD Cert.KernelXattnIdeal.τ).loc Cert.KernelXattnIdeal.main_arg7))).2.1 = (fun _ => 1#1)
    ∧ (Cert.Pre_finite_xattn.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1)) (m ((c.tc : Thread Cert.KernelXattnIdeal.nD Cert.KernelXattnIdeal.τ).loc Cert.KernelXattnIdeal.main_arg2)) (m ((c.tc : Thread Cert.KernelXattnIdeal.nD Cert.KernelXattnIdeal.τ).loc Cert.KernelXattnIdeal.main_arg3)) (m ((c.tc : Thread Cert.KernelXattnIdeal.nD Cert.KernelXattnIdeal.τ).loc Cert.KernelXattnIdeal.main_arg4)) (m ((c.tc : Thread Cert.KernelXattnIdeal.nD Cert.KernelXattnIdeal.τ).loc Cert.KernelXattnIdeal.main_arg5)) (m ((c.tc : Thread Cert.KernelXattnIdeal.nD Cert.KernelXattnIdeal.τ).loc Cert.KernelXattnIdeal.main_arg6)) (m ((c.tc : Thread Cert.KernelXattnIdeal.nD Cert.KernelXattnIdeal.τ).loc Cert.KernelXattnIdeal.main_arg7))).2.2.1 = (fun _ => 1#1)
    ∧ (Cert.Pre_finite_xattn.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1)) (m ((c.tc : Thread Cert.KernelXattnIdeal.nD Cert.KernelXattnIdeal.τ).loc Cert.KernelXattnIdeal.main_arg2)) (m ((c.tc : Thread Cert.KernelXattnIdeal.nD Cert.KernelXattnIdeal.τ).loc Cert.KernelXattnIdeal.main_arg3)) (m ((c.tc : Thread Cert.KernelXattnIdeal.nD Cert.KernelXattnIdeal.τ).loc Cert.KernelXattnIdeal.main_arg4)) (m ((c.tc : Thread Cert.KernelXattnIdeal.nD Cert.KernelXattnIdeal.τ).loc Cert.KernelXattnIdeal.main_arg5)) (m ((c.tc : Thread Cert.KernelXattnIdeal.nD Cert.KernelXattnIdeal.τ).loc Cert.KernelXattnIdeal.main_arg6)) (m ((c.tc : Thread Cert.KernelXattnIdeal.nD Cert.KernelXattnIdeal.τ).loc Cert.KernelXattnIdeal.main_arg7))).2.2.2.1 = (fun _ => 1#1)
    ∧ (Cert.Pre_finite_xattn.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1)) (m ((c.tc : Thread Cert.KernelXattnIdeal.nD Cert.KernelXattnIdeal.τ).loc Cert.KernelXattnIdeal.main_arg2)) (m ((c.tc : Thread Cert.KernelXattnIdeal.nD Cert.KernelXattnIdeal.τ).loc Cert.KernelXattnIdeal.main_arg3)) (m ((c.tc : Thread Cert.KernelXattnIdeal.nD Cert.KernelXattnIdeal.τ).loc Cert.KernelXattnIdeal.main_arg4)) (m ((c.tc : Thread Cert.KernelXattnIdeal.nD Cert.KernelXattnIdeal.τ).loc Cert.KernelXattnIdeal.main_arg5)) (m ((c.tc : Thread Cert.KernelXattnIdeal.nD Cert.KernelXattnIdeal.τ).loc Cert.KernelXattnIdeal.main_arg6)) (m ((c.tc : Thread Cert.KernelXattnIdeal.nD Cert.KernelXattnIdeal.τ).loc Cert.KernelXattnIdeal.main_arg7))).2.2.2.2.1 = (fun _ => 1#1)
    ∧ (Cert.Pre_finite_xattn.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1)) (m ((c.tc : Thread Cert.KernelXattnIdeal.nD Cert.KernelXattnIdeal.τ).loc Cert.KernelXattnIdeal.main_arg2)) (m ((c.tc : Thread Cert.KernelXattnIdeal.nD Cert.KernelXattnIdeal.τ).loc Cert.KernelXattnIdeal.main_arg3)) (m ((c.tc : Thread Cert.KernelXattnIdeal.nD Cert.KernelXattnIdeal.τ).loc Cert.KernelXattnIdeal.main_arg4)) (m ((c.tc : Thread Cert.KernelXattnIdeal.nD Cert.KernelXattnIdeal.τ).loc Cert.KernelXattnIdeal.main_arg5)) (m ((c.tc : Thread Cert.KernelXattnIdeal.nD Cert.KernelXattnIdeal.τ).loc Cert.KernelXattnIdeal.main_arg6)) (m ((c.tc : Thread Cert.KernelXattnIdeal.nD Cert.KernelXattnIdeal.τ).loc Cert.KernelXattnIdeal.main_arg7))).2.2.2.2.2.1 = (fun _ => 1#1)
    ∧ (Cert.Pre_finite_xattn.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1)) (m ((c.tc : Thread Cert.KernelXattnIdeal.nD Cert.KernelXattnIdeal.τ).loc Cert.KernelXattnIdeal.main_arg2)) (m ((c.tc : Thread Cert.KernelXattnIdeal.nD Cert.KernelXattnIdeal.τ).loc Cert.KernelXattnIdeal.main_arg3)) (m ((c.tc : Thread Cert.KernelXattnIdeal.nD Cert.KernelXattnIdeal.τ).loc Cert.KernelXattnIdeal.main_arg4)) (m ((c.tc : Thread Cert.KernelXattnIdeal.nD Cert.KernelXattnIdeal.τ).loc Cert.KernelXattnIdeal.main_arg5)) (m ((c.tc : Thread Cert.KernelXattnIdeal.nD Cert.KernelXattnIdeal.τ).loc Cert.KernelXattnIdeal.main_arg6)) (m ((c.tc : Thread Cert.KernelXattnIdeal.nD Cert.KernelXattnIdeal.τ).loc Cert.KernelXattnIdeal.main_arg7))).2.2.2.2.2.2.1 = (fun _ => 1#1)
    ∧ (Cert.Pre_finite_xattn.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1)) (m ((c.tc : Thread Cert.KernelXattnIdeal.nD Cert.KernelXattnIdeal.τ).loc Cert.KernelXattnIdeal.main_arg2)) (m ((c.tc : Thread Cert.KernelXattnIdeal.nD Cert.KernelXattnIdeal.τ).loc Cert.KernelXattnIdeal.main_arg3)) (m ((c.tc : Thread Cert.KernelXattnIdeal.nD Cert.KernelXattnIdeal.τ).loc Cert.KernelXattnIdeal.main_arg4)) (m ((c.tc : Thread Cert.KernelXattnIdeal.nD Cert.KernelXattnIdeal.τ).loc Cert.KernelXattnIdeal.main_arg5)) (m ((c.tc : Thread Cert.KernelXattnIdeal.nD Cert.KernelXattnIdeal.τ).loc Cert.KernelXattnIdeal.main_arg6)) (m ((c.tc : Thread Cert.KernelXattnIdeal.nD Cert.KernelXattnIdeal.τ).loc Cert.KernelXattnIdeal.main_arg7))).2.2.2.2.2.2.2 = (fun _ => 1#1)

def Pre_ReferenceXattnIdeal (m : (ℓ : Loc Cert.ReferenceXattnIdeal.nD Cert.ReferenceXattnIdeal.τ Cert.ReferenceXattnIdeal.sig) → Buf (Elt Ideal) ℓ) : Prop :=
  True

def Pre_ReferenceXattnIdeal_finite_xattn [hPre_finite_xattn : Cert.Pre_finite_xattn.Facts] (m : (ℓ : Loc Cert.ReferenceXattnIdeal.nD Cert.ReferenceXattnIdeal.τ Cert.ReferenceXattnIdeal.sig) → Buf (Elt Ideal) ℓ) : Prop :=
  ∀ c : Dev Cert.ReferenceXattnIdeal.nD,
    (Cert.Pre_finite_xattn.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1)) (m ((c.tc : Thread Cert.ReferenceXattnIdeal.nD Cert.ReferenceXattnIdeal.τ).loc Cert.ReferenceXattnIdeal.main_arg2)) (m ((c.tc : Thread Cert.ReferenceXattnIdeal.nD Cert.ReferenceXattnIdeal.τ).loc Cert.ReferenceXattnIdeal.main_arg3)) (m ((c.tc : Thread Cert.ReferenceXattnIdeal.nD Cert.ReferenceXattnIdeal.τ).loc Cert.ReferenceXattnIdeal.main_arg4)) (m ((c.tc : Thread Cert.ReferenceXattnIdeal.nD Cert.ReferenceXattnIdeal.τ).loc Cert.ReferenceXattnIdeal.main_arg5)) (m ((c.tc : Thread Cert.ReferenceXattnIdeal.nD Cert.ReferenceXattnIdeal.τ).loc Cert.ReferenceXattnIdeal.main_arg6)) (m ((c.tc : Thread Cert.ReferenceXattnIdeal.nD Cert.ReferenceXattnIdeal.τ).loc Cert.ReferenceXattnIdeal.main_arg7))).1 = (fun _ => 1#1)
    ∧ (Cert.Pre_finite_xattn.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1)) (m ((c.tc : Thread Cert.ReferenceXattnIdeal.nD Cert.ReferenceXattnIdeal.τ).loc Cert.ReferenceXattnIdeal.main_arg2)) (m ((c.tc : Thread Cert.ReferenceXattnIdeal.nD Cert.ReferenceXattnIdeal.τ).loc Cert.ReferenceXattnIdeal.main_arg3)) (m ((c.tc : Thread Cert.ReferenceXattnIdeal.nD Cert.ReferenceXattnIdeal.τ).loc Cert.ReferenceXattnIdeal.main_arg4)) (m ((c.tc : Thread Cert.ReferenceXattnIdeal.nD Cert.ReferenceXattnIdeal.τ).loc Cert.ReferenceXattnIdeal.main_arg5)) (m ((c.tc : Thread Cert.ReferenceXattnIdeal.nD Cert.ReferenceXattnIdeal.τ).loc Cert.ReferenceXattnIdeal.main_arg6)) (m ((c.tc : Thread Cert.ReferenceXattnIdeal.nD Cert.ReferenceXattnIdeal.τ).loc Cert.ReferenceXattnIdeal.main_arg7))).2.1 = (fun _ => 1#1)
    ∧ (Cert.Pre_finite_xattn.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1)) (m ((c.tc : Thread Cert.ReferenceXattnIdeal.nD Cert.ReferenceXattnIdeal.τ).loc Cert.ReferenceXattnIdeal.main_arg2)) (m ((c.tc : Thread Cert.ReferenceXattnIdeal.nD Cert.ReferenceXattnIdeal.τ).loc Cert.ReferenceXattnIdeal.main_arg3)) (m ((c.tc : Thread Cert.ReferenceXattnIdeal.nD Cert.ReferenceXattnIdeal.τ).loc Cert.ReferenceXattnIdeal.main_arg4)) (m ((c.tc : Thread Cert.ReferenceXattnIdeal.nD Cert.ReferenceXattnIdeal.τ).loc Cert.ReferenceXattnIdeal.main_arg5)) (m ((c.tc : Thread Cert.ReferenceXattnIdeal.nD Cert.ReferenceXattnIdeal.τ).loc Cert.ReferenceXattnIdeal.main_arg6)) (m ((c.tc : Thread Cert.ReferenceXattnIdeal.nD Cert.ReferenceXattnIdeal.τ).loc Cert.ReferenceXattnIdeal.main_arg7))).2.2.1 = (fun _ => 1#1)
    ∧ (Cert.Pre_finite_xattn.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1)) (m ((c.tc : Thread Cert.ReferenceXattnIdeal.nD Cert.ReferenceXattnIdeal.τ).loc Cert.ReferenceXattnIdeal.main_arg2)) (m ((c.tc : Thread Cert.ReferenceXattnIdeal.nD Cert.ReferenceXattnIdeal.τ).loc Cert.ReferenceXattnIdeal.main_arg3)) (m ((c.tc : Thread Cert.ReferenceXattnIdeal.nD Cert.ReferenceXattnIdeal.τ).loc Cert.ReferenceXattnIdeal.main_arg4)) (m ((c.tc : Thread Cert.ReferenceXattnIdeal.nD Cert.ReferenceXattnIdeal.τ).loc Cert.ReferenceXattnIdeal.main_arg5)) (m ((c.tc : Thread Cert.ReferenceXattnIdeal.nD Cert.ReferenceXattnIdeal.τ).loc Cert.ReferenceXattnIdeal.main_arg6)) (m ((c.tc : Thread Cert.ReferenceXattnIdeal.nD Cert.ReferenceXattnIdeal.τ).loc Cert.ReferenceXattnIdeal.main_arg7))).2.2.2.1 = (fun _ => 1#1)
    ∧ (Cert.Pre_finite_xattn.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1)) (m ((c.tc : Thread Cert.ReferenceXattnIdeal.nD Cert.ReferenceXattnIdeal.τ).loc Cert.ReferenceXattnIdeal.main_arg2)) (m ((c.tc : Thread Cert.ReferenceXattnIdeal.nD Cert.ReferenceXattnIdeal.τ).loc Cert.ReferenceXattnIdeal.main_arg3)) (m ((c.tc : Thread Cert.ReferenceXattnIdeal.nD Cert.ReferenceXattnIdeal.τ).loc Cert.ReferenceXattnIdeal.main_arg4)) (m ((c.tc : Thread Cert.ReferenceXattnIdeal.nD Cert.ReferenceXattnIdeal.τ).loc Cert.ReferenceXattnIdeal.main_arg5)) (m ((c.tc : Thread Cert.ReferenceXattnIdeal.nD Cert.ReferenceXattnIdeal.τ).loc Cert.ReferenceXattnIdeal.main_arg6)) (m ((c.tc : Thread Cert.ReferenceXattnIdeal.nD Cert.ReferenceXattnIdeal.τ).loc Cert.ReferenceXattnIdeal.main_arg7))).2.2.2.2.1 = (fun _ => 1#1)
    ∧ (Cert.Pre_finite_xattn.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1)) (m ((c.tc : Thread Cert.ReferenceXattnIdeal.nD Cert.ReferenceXattnIdeal.τ).loc Cert.ReferenceXattnIdeal.main_arg2)) (m ((c.tc : Thread Cert.ReferenceXattnIdeal.nD Cert.ReferenceXattnIdeal.τ).loc Cert.ReferenceXattnIdeal.main_arg3)) (m ((c.tc : Thread Cert.ReferenceXattnIdeal.nD Cert.ReferenceXattnIdeal.τ).loc Cert.ReferenceXattnIdeal.main_arg4)) (m ((c.tc : Thread Cert.ReferenceXattnIdeal.nD Cert.ReferenceXattnIdeal.τ).loc Cert.ReferenceXattnIdeal.main_arg5)) (m ((c.tc : Thread Cert.ReferenceXattnIdeal.nD Cert.ReferenceXattnIdeal.τ).loc Cert.ReferenceXattnIdeal.main_arg6)) (m ((c.tc : Thread Cert.ReferenceXattnIdeal.nD Cert.ReferenceXattnIdeal.τ).loc Cert.ReferenceXattnIdeal.main_arg7))).2.2.2.2.2.1 = (fun _ => 1#1)
    ∧ (Cert.Pre_finite_xattn.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1)) (m ((c.tc : Thread Cert.ReferenceXattnIdeal.nD Cert.ReferenceXattnIdeal.τ).loc Cert.ReferenceXattnIdeal.main_arg2)) (m ((c.tc : Thread Cert.ReferenceXattnIdeal.nD Cert.ReferenceXattnIdeal.τ).loc Cert.ReferenceXattnIdeal.main_arg3)) (m ((c.tc : Thread Cert.ReferenceXattnIdeal.nD Cert.ReferenceXattnIdeal.τ).loc Cert.ReferenceXattnIdeal.main_arg4)) (m ((c.tc : Thread Cert.ReferenceXattnIdeal.nD Cert.ReferenceXattnIdeal.τ).loc Cert.ReferenceXattnIdeal.main_arg5)) (m ((c.tc : Thread Cert.ReferenceXattnIdeal.nD Cert.ReferenceXattnIdeal.τ).loc Cert.ReferenceXattnIdeal.main_arg6)) (m ((c.tc : Thread Cert.ReferenceXattnIdeal.nD Cert.ReferenceXattnIdeal.τ).loc Cert.ReferenceXattnIdeal.main_arg7))).2.2.2.2.2.2.1 = (fun _ => 1#1)
    ∧ (Cert.Pre_finite_xattn.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1)) (m ((c.tc : Thread Cert.ReferenceXattnIdeal.nD Cert.ReferenceXattnIdeal.τ).loc Cert.ReferenceXattnIdeal.main_arg2)) (m ((c.tc : Thread Cert.ReferenceXattnIdeal.nD Cert.ReferenceXattnIdeal.τ).loc Cert.ReferenceXattnIdeal.main_arg3)) (m ((c.tc : Thread Cert.ReferenceXattnIdeal.nD Cert.ReferenceXattnIdeal.τ).loc Cert.ReferenceXattnIdeal.main_arg4)) (m ((c.tc : Thread Cert.ReferenceXattnIdeal.nD Cert.ReferenceXattnIdeal.τ).loc Cert.ReferenceXattnIdeal.main_arg5)) (m ((c.tc : Thread Cert.ReferenceXattnIdeal.nD Cert.ReferenceXattnIdeal.τ).loc Cert.ReferenceXattnIdeal.main_arg6)) (m ((c.tc : Thread Cert.ReferenceXattnIdeal.nD Cert.ReferenceXattnIdeal.τ).loc Cert.ReferenceXattnIdeal.main_arg7))).2.2.2.2.2.2.2 = (fun _ => 1#1)

def Pre_KernelHead (m : (ℓ : Loc Cert.KernelHead.nD Cert.KernelHead.τ Cert.KernelHead.sig) → Buf (Elt Bits) ℓ) : Prop :=
  True

def Pre_KernelHeadIdeal (m : (ℓ : Loc Cert.KernelHeadIdeal.nD Cert.KernelHeadIdeal.τ Cert.KernelHeadIdeal.sig) → Buf (Elt Ideal) ℓ) : Prop :=
  True

def Pre_KernelHeadIdeal_finite_head [hPre_finite_head : Cert.Pre_finite_head.Facts] (m : (ℓ : Loc Cert.KernelHeadIdeal.nD Cert.KernelHeadIdeal.τ Cert.KernelHeadIdeal.sig) → Buf (Elt Ideal) ℓ) : Prop :=
  ∀ c : Dev Cert.KernelHeadIdeal.nD,
    (Cert.Pre_finite_head.fn (F := Ideal) (m ((c.tc : Thread Cert.KernelHeadIdeal.nD Cert.KernelHeadIdeal.τ).loc Cert.KernelHeadIdeal.main_arg0)) (m ((c.tc : Thread Cert.KernelHeadIdeal.nD Cert.KernelHeadIdeal.τ).loc Cert.KernelHeadIdeal.main_arg1)) (m ((c.tc : Thread Cert.KernelHeadIdeal.nD Cert.KernelHeadIdeal.τ).loc Cert.KernelHeadIdeal.main_arg2)) (m ((c.tc : Thread Cert.KernelHeadIdeal.nD Cert.KernelHeadIdeal.τ).loc Cert.KernelHeadIdeal.main_arg3)) (m ((c.tc : Thread Cert.KernelHeadIdeal.nD Cert.KernelHeadIdeal.τ).loc Cert.KernelHeadIdeal.main_arg4)) (m ((c.tc : Thread Cert.KernelHeadIdeal.nD Cert.KernelHeadIdeal.τ).loc Cert.KernelHeadIdeal.main_arg5))).1 = (fun _ => 1#1)
    ∧ (Cert.Pre_finite_head.fn (F := Ideal) (m ((c.tc : Thread Cert.KernelHeadIdeal.nD Cert.KernelHeadIdeal.τ).loc Cert.KernelHeadIdeal.main_arg0)) (m ((c.tc : Thread Cert.KernelHeadIdeal.nD Cert.KernelHeadIdeal.τ).loc Cert.KernelHeadIdeal.main_arg1)) (m ((c.tc : Thread Cert.KernelHeadIdeal.nD Cert.KernelHeadIdeal.τ).loc Cert.KernelHeadIdeal.main_arg2)) (m ((c.tc : Thread Cert.KernelHeadIdeal.nD Cert.KernelHeadIdeal.τ).loc Cert.KernelHeadIdeal.main_arg3)) (m ((c.tc : Thread Cert.KernelHeadIdeal.nD Cert.KernelHeadIdeal.τ).loc Cert.KernelHeadIdeal.main_arg4)) (m ((c.tc : Thread Cert.KernelHeadIdeal.nD Cert.KernelHeadIdeal.τ).loc Cert.KernelHeadIdeal.main_arg5))).2.1 = (fun _ => 1#1)
    ∧ (Cert.Pre_finite_head.fn (F := Ideal) (m ((c.tc : Thread Cert.KernelHeadIdeal.nD Cert.KernelHeadIdeal.τ).loc Cert.KernelHeadIdeal.main_arg0)) (m ((c.tc : Thread Cert.KernelHeadIdeal.nD Cert.KernelHeadIdeal.τ).loc Cert.KernelHeadIdeal.main_arg1)) (m ((c.tc : Thread Cert.KernelHeadIdeal.nD Cert.KernelHeadIdeal.τ).loc Cert.KernelHeadIdeal.main_arg2)) (m ((c.tc : Thread Cert.KernelHeadIdeal.nD Cert.KernelHeadIdeal.τ).loc Cert.KernelHeadIdeal.main_arg3)) (m ((c.tc : Thread Cert.KernelHeadIdeal.nD Cert.KernelHeadIdeal.τ).loc Cert.KernelHeadIdeal.main_arg4)) (m ((c.tc : Thread Cert.KernelHeadIdeal.nD Cert.KernelHeadIdeal.τ).loc Cert.KernelHeadIdeal.main_arg5))).2.2.1 = (fun _ => 1#1)
    ∧ (Cert.Pre_finite_head.fn (F := Ideal) (m ((c.tc : Thread Cert.KernelHeadIdeal.nD Cert.KernelHeadIdeal.τ).loc Cert.KernelHeadIdeal.main_arg0)) (m ((c.tc : Thread Cert.KernelHeadIdeal.nD Cert.KernelHeadIdeal.τ).loc Cert.KernelHeadIdeal.main_arg1)) (m ((c.tc : Thread Cert.KernelHeadIdeal.nD Cert.KernelHeadIdeal.τ).loc Cert.KernelHeadIdeal.main_arg2)) (m ((c.tc : Thread Cert.KernelHeadIdeal.nD Cert.KernelHeadIdeal.τ).loc Cert.KernelHeadIdeal.main_arg3)) (m ((c.tc : Thread Cert.KernelHeadIdeal.nD Cert.KernelHeadIdeal.τ).loc Cert.KernelHeadIdeal.main_arg4)) (m ((c.tc : Thread Cert.KernelHeadIdeal.nD Cert.KernelHeadIdeal.τ).loc Cert.KernelHeadIdeal.main_arg5))).2.2.2.1 = (fun _ => 1#1)
    ∧ (Cert.Pre_finite_head.fn (F := Ideal) (m ((c.tc : Thread Cert.KernelHeadIdeal.nD Cert.KernelHeadIdeal.τ).loc Cert.KernelHeadIdeal.main_arg0)) (m ((c.tc : Thread Cert.KernelHeadIdeal.nD Cert.KernelHeadIdeal.τ).loc Cert.KernelHeadIdeal.main_arg1)) (m ((c.tc : Thread Cert.KernelHeadIdeal.nD Cert.KernelHeadIdeal.τ).loc Cert.KernelHeadIdeal.main_arg2)) (m ((c.tc : Thread Cert.KernelHeadIdeal.nD Cert.KernelHeadIdeal.τ).loc Cert.KernelHeadIdeal.main_arg3)) (m ((c.tc : Thread Cert.KernelHeadIdeal.nD Cert.KernelHeadIdeal.τ).loc Cert.KernelHeadIdeal.main_arg4)) (m ((c.tc : Thread Cert.KernelHeadIdeal.nD Cert.KernelHeadIdeal.τ).loc Cert.KernelHeadIdeal.main_arg5))).2.2.2.2.1 = (fun _ => 1#1)
    ∧ (Cert.Pre_finite_head.fn (F := Ideal) (m ((c.tc : Thread Cert.KernelHeadIdeal.nD Cert.KernelHeadIdeal.τ).loc Cert.KernelHeadIdeal.main_arg0)) (m ((c.tc : Thread Cert.KernelHeadIdeal.nD Cert.KernelHeadIdeal.τ).loc Cert.KernelHeadIdeal.main_arg1)) (m ((c.tc : Thread Cert.KernelHeadIdeal.nD Cert.KernelHeadIdeal.τ).loc Cert.KernelHeadIdeal.main_arg2)) (m ((c.tc : Thread Cert.KernelHeadIdeal.nD Cert.KernelHeadIdeal.τ).loc Cert.KernelHeadIdeal.main_arg3)) (m ((c.tc : Thread Cert.KernelHeadIdeal.nD Cert.KernelHeadIdeal.τ).loc Cert.KernelHeadIdeal.main_arg4)) (m ((c.tc : Thread Cert.KernelHeadIdeal.nD Cert.KernelHeadIdeal.τ).loc Cert.KernelHeadIdeal.main_arg5))).2.2.2.2.2 = (fun _ => 1#1)

def Pre_ReferenceHeadIdeal (m : (ℓ : Loc Cert.ReferenceHeadIdeal.nD Cert.ReferenceHeadIdeal.τ Cert.ReferenceHeadIdeal.sig) → Buf (Elt Ideal) ℓ) : Prop :=
  True

def Pre_ReferenceHeadIdeal_finite_head [hPre_finite_head : Cert.Pre_finite_head.Facts] (m : (ℓ : Loc Cert.ReferenceHeadIdeal.nD Cert.ReferenceHeadIdeal.τ Cert.ReferenceHeadIdeal.sig) → Buf (Elt Ideal) ℓ) : Prop :=
  ∀ c : Dev Cert.ReferenceHeadIdeal.nD,
    (Cert.Pre_finite_head.fn (F := Ideal) (m ((c.tc : Thread Cert.ReferenceHeadIdeal.nD Cert.ReferenceHeadIdeal.τ).loc Cert.ReferenceHeadIdeal.main_arg0)) (m ((c.tc : Thread Cert.ReferenceHeadIdeal.nD Cert.ReferenceHeadIdeal.τ).loc Cert.ReferenceHeadIdeal.main_arg1)) (m ((c.tc : Thread Cert.ReferenceHeadIdeal.nD Cert.ReferenceHeadIdeal.τ).loc Cert.ReferenceHeadIdeal.main_arg2)) (m ((c.tc : Thread Cert.ReferenceHeadIdeal.nD Cert.ReferenceHeadIdeal.τ).loc Cert.ReferenceHeadIdeal.main_arg3)) (m ((c.tc : Thread Cert.ReferenceHeadIdeal.nD Cert.ReferenceHeadIdeal.τ).loc Cert.ReferenceHeadIdeal.main_arg4)) (m ((c.tc : Thread Cert.ReferenceHeadIdeal.nD Cert.ReferenceHeadIdeal.τ).loc Cert.ReferenceHeadIdeal.main_arg5))).1 = (fun _ => 1#1)
    ∧ (Cert.Pre_finite_head.fn (F := Ideal) (m ((c.tc : Thread Cert.ReferenceHeadIdeal.nD Cert.ReferenceHeadIdeal.τ).loc Cert.ReferenceHeadIdeal.main_arg0)) (m ((c.tc : Thread Cert.ReferenceHeadIdeal.nD Cert.ReferenceHeadIdeal.τ).loc Cert.ReferenceHeadIdeal.main_arg1)) (m ((c.tc : Thread Cert.ReferenceHeadIdeal.nD Cert.ReferenceHeadIdeal.τ).loc Cert.ReferenceHeadIdeal.main_arg2)) (m ((c.tc : Thread Cert.ReferenceHeadIdeal.nD Cert.ReferenceHeadIdeal.τ).loc Cert.ReferenceHeadIdeal.main_arg3)) (m ((c.tc : Thread Cert.ReferenceHeadIdeal.nD Cert.ReferenceHeadIdeal.τ).loc Cert.ReferenceHeadIdeal.main_arg4)) (m ((c.tc : Thread Cert.ReferenceHeadIdeal.nD Cert.ReferenceHeadIdeal.τ).loc Cert.ReferenceHeadIdeal.main_arg5))).2.1 = (fun _ => 1#1)
    ∧ (Cert.Pre_finite_head.fn (F := Ideal) (m ((c.tc : Thread Cert.ReferenceHeadIdeal.nD Cert.ReferenceHeadIdeal.τ).loc Cert.ReferenceHeadIdeal.main_arg0)) (m ((c.tc : Thread Cert.ReferenceHeadIdeal.nD Cert.ReferenceHeadIdeal.τ).loc Cert.ReferenceHeadIdeal.main_arg1)) (m ((c.tc : Thread Cert.ReferenceHeadIdeal.nD Cert.ReferenceHeadIdeal.τ).loc Cert.ReferenceHeadIdeal.main_arg2)) (m ((c.tc : Thread Cert.ReferenceHeadIdeal.nD Cert.ReferenceHeadIdeal.τ).loc Cert.ReferenceHeadIdeal.main_arg3)) (m ((c.tc : Thread Cert.ReferenceHeadIdeal.nD Cert.ReferenceHeadIdeal.τ).loc Cert.ReferenceHeadIdeal.main_arg4)) (m ((c.tc : Thread Cert.ReferenceHeadIdeal.nD Cert.ReferenceHeadIdeal.τ).loc Cert.ReferenceHeadIdeal.main_arg5))).2.2.1 = (fun _ => 1#1)
    ∧ (Cert.Pre_finite_head.fn (F := Ideal) (m ((c.tc : Thread Cert.ReferenceHeadIdeal.nD Cert.ReferenceHeadIdeal.τ).loc Cert.ReferenceHeadIdeal.main_arg0)) (m ((c.tc : Thread Cert.ReferenceHeadIdeal.nD Cert.ReferenceHeadIdeal.τ).loc Cert.ReferenceHeadIdeal.main_arg1)) (m ((c.tc : Thread Cert.ReferenceHeadIdeal.nD Cert.ReferenceHeadIdeal.τ).loc Cert.ReferenceHeadIdeal.main_arg2)) (m ((c.tc : Thread Cert.ReferenceHeadIdeal.nD Cert.ReferenceHeadIdeal.τ).loc Cert.ReferenceHeadIdeal.main_arg3)) (m ((c.tc : Thread Cert.ReferenceHeadIdeal.nD Cert.ReferenceHeadIdeal.τ).loc Cert.ReferenceHeadIdeal.main_arg4)) (m ((c.tc : Thread Cert.ReferenceHeadIdeal.nD Cert.ReferenceHeadIdeal.τ).loc Cert.ReferenceHeadIdeal.main_arg5))).2.2.2.1 = (fun _ => 1#1)
    ∧ (Cert.Pre_finite_head.fn (F := Ideal) (m ((c.tc : Thread Cert.ReferenceHeadIdeal.nD Cert.ReferenceHeadIdeal.τ).loc Cert.ReferenceHeadIdeal.main_arg0)) (m ((c.tc : Thread Cert.ReferenceHeadIdeal.nD Cert.ReferenceHeadIdeal.τ).loc Cert.ReferenceHeadIdeal.main_arg1)) (m ((c.tc : Thread Cert.ReferenceHeadIdeal.nD Cert.ReferenceHeadIdeal.τ).loc Cert.ReferenceHeadIdeal.main_arg2)) (m ((c.tc : Thread Cert.ReferenceHeadIdeal.nD Cert.ReferenceHeadIdeal.τ).loc Cert.ReferenceHeadIdeal.main_arg3)) (m ((c.tc : Thread Cert.ReferenceHeadIdeal.nD Cert.ReferenceHeadIdeal.τ).loc Cert.ReferenceHeadIdeal.main_arg4)) (m ((c.tc : Thread Cert.ReferenceHeadIdeal.nD Cert.ReferenceHeadIdeal.τ).loc Cert.ReferenceHeadIdeal.main_arg5))).2.2.2.2.1 = (fun _ => 1#1)
    ∧ (Cert.Pre_finite_head.fn (F := Ideal) (m ((c.tc : Thread Cert.ReferenceHeadIdeal.nD Cert.ReferenceHeadIdeal.τ).loc Cert.ReferenceHeadIdeal.main_arg0)) (m ((c.tc : Thread Cert.ReferenceHeadIdeal.nD Cert.ReferenceHeadIdeal.τ).loc Cert.ReferenceHeadIdeal.main_arg1)) (m ((c.tc : Thread Cert.ReferenceHeadIdeal.nD Cert.ReferenceHeadIdeal.τ).loc Cert.ReferenceHeadIdeal.main_arg2)) (m ((c.tc : Thread Cert.ReferenceHeadIdeal.nD Cert.ReferenceHeadIdeal.τ).loc Cert.ReferenceHeadIdeal.main_arg3)) (m ((c.tc : Thread Cert.ReferenceHeadIdeal.nD Cert.ReferenceHeadIdeal.τ).loc Cert.ReferenceHeadIdeal.main_arg4)) (m ((c.tc : Thread Cert.ReferenceHeadIdeal.nD Cert.ReferenceHeadIdeal.τ).loc Cert.ReferenceHeadIdeal.main_arg5))).2.2.2.2.2 = (fun _ => 1#1)

def Pre_KernelBias (m : (ℓ : Loc Cert.KernelBias.nD Cert.KernelBias.τ Cert.KernelBias.sig) → Buf (Elt Bits) ℓ) : Prop :=
  True

def Pre_KernelBiasIdeal (m : (ℓ : Loc Cert.KernelBiasIdeal.nD Cert.KernelBiasIdeal.τ Cert.KernelBiasIdeal.sig) → Buf (Elt Ideal) ℓ) : Prop :=
  True

def Pre_ReferenceBiasIdeal (m : (ℓ : Loc Cert.ReferenceBiasIdeal.nD Cert.ReferenceBiasIdeal.τ Cert.ReferenceBiasIdeal.sig) → Buf (Elt Ideal) ℓ) : Prop :=
  True

def Pre_KernelXattnFwd (m : (ℓ : Loc Cert.KernelXattnFwd.nD Cert.KernelXattnFwd.τ Cert.KernelXattnFwd.sig) → Buf (Elt Bits) ℓ) : Prop :=
  True

def Pre_KernelXattnFwdIdeal (m : (ℓ : Loc Cert.KernelXattnFwdIdeal.nD Cert.KernelXattnFwdIdeal.τ Cert.KernelXattnFwdIdeal.sig) → Buf (Elt Ideal) ℓ) : Prop :=
  True

def Pre_KernelXattnFwdIdeal_finite_xattn_fwd [hPre_finite_xattn_fwd : Cert.Pre_finite_xattn_fwd.Facts] (m : (ℓ : Loc Cert.KernelXattnFwdIdeal.nD Cert.KernelXattnFwdIdeal.τ Cert.KernelXattnFwdIdeal.sig) → Buf (Elt Ideal) ℓ) : Prop :=
  ∀ c : Dev Cert.KernelXattnFwdIdeal.nD,
    (Cert.Pre_finite_xattn_fwd.fn (F := Ideal) (m ((c.tc : Thread Cert.KernelXattnFwdIdeal.nD Cert.KernelXattnFwdIdeal.τ).loc Cert.KernelXattnFwdIdeal.main_arg0)) (m ((c.tc : Thread Cert.KernelXattnFwdIdeal.nD Cert.KernelXattnFwdIdeal.τ).loc Cert.KernelXattnFwdIdeal.main_arg1)) (m ((c.tc : Thread Cert.KernelXattnFwdIdeal.nD Cert.KernelXattnFwdIdeal.τ).loc Cert.KernelXattnFwdIdeal.main_arg2)) (m ((c.tc : Thread Cert.KernelXattnFwdIdeal.nD Cert.KernelXattnFwdIdeal.τ).loc Cert.KernelXattnFwdIdeal.main_arg3)) (m ((c.tc : Thread Cert.KernelXattnFwdIdeal.nD Cert.KernelXattnFwdIdeal.τ).loc Cert.KernelXattnFwdIdeal.main_arg4)) (m ((c.tc : Thread Cert.KernelXattnFwdIdeal.nD Cert.KernelXattnFwdIdeal.τ).loc Cert.KernelXattnFwdIdeal.main_arg5)) (m ((c.tc : Thread Cert.KernelXattnFwdIdeal.nD Cert.KernelXattnFwdIdeal.τ).loc Cert.KernelXattnFwdIdeal.main_arg6))).1 = (fun _ => 1#1)
    ∧ (Cert.Pre_finite_xattn_fwd.fn (F := Ideal) (m ((c.tc : Thread Cert.KernelXattnFwdIdeal.nD Cert.KernelXattnFwdIdeal.τ).loc Cert.KernelXattnFwdIdeal.main_arg0)) (m ((c.tc : Thread Cert.KernelXattnFwdIdeal.nD Cert.KernelXattnFwdIdeal.τ).loc Cert.KernelXattnFwdIdeal.main_arg1)) (m ((c.tc : Thread Cert.KernelXattnFwdIdeal.nD Cert.KernelXattnFwdIdeal.τ).loc Cert.KernelXattnFwdIdeal.main_arg2)) (m ((c.tc : Thread Cert.KernelXattnFwdIdeal.nD Cert.KernelXattnFwdIdeal.τ).loc Cert.KernelXattnFwdIdeal.main_arg3)) (m ((c.tc : Thread Cert.KernelXattnFwdIdeal.nD Cert.KernelXattnFwdIdeal.τ).loc Cert.KernelXattnFwdIdeal.main_arg4)) (m ((c.tc : Thread Cert.KernelXattnFwdIdeal.nD Cert.KernelXattnFwdIdeal.τ).loc Cert.KernelXattnFwdIdeal.main_arg5)) (m ((c.tc : Thread Cert.KernelXattnFwdIdeal.nD Cert.KernelXattnFwdIdeal.τ).loc Cert.KernelXattnFwdIdeal.main_arg6))).2.1 = (fun _ => 1#1)
    ∧ (Cert.Pre_finite_xattn_fwd.fn (F := Ideal) (m ((c.tc : Thread Cert.KernelXattnFwdIdeal.nD Cert.KernelXattnFwdIdeal.τ).loc Cert.KernelXattnFwdIdeal.main_arg0)) (m ((c.tc : Thread Cert.KernelXattnFwdIdeal.nD Cert.KernelXattnFwdIdeal.τ).loc Cert.KernelXattnFwdIdeal.main_arg1)) (m ((c.tc : Thread Cert.KernelXattnFwdIdeal.nD Cert.KernelXattnFwdIdeal.τ).loc Cert.KernelXattnFwdIdeal.main_arg2)) (m ((c.tc : Thread Cert.KernelXattnFwdIdeal.nD Cert.KernelXattnFwdIdeal.τ).loc Cert.KernelXattnFwdIdeal.main_arg3)) (m ((c.tc : Thread Cert.KernelXattnFwdIdeal.nD Cert.KernelXattnFwdIdeal.τ).loc Cert.KernelXattnFwdIdeal.main_arg4)) (m ((c.tc : Thread Cert.KernelXattnFwdIdeal.nD Cert.KernelXattnFwdIdeal.τ).loc Cert.KernelXattnFwdIdeal.main_arg5)) (m ((c.tc : Thread Cert.KernelXattnFwdIdeal.nD Cert.KernelXattnFwdIdeal.τ).loc Cert.KernelXattnFwdIdeal.main_arg6))).2.2.1 = (fun _ => 1#1)
    ∧ (Cert.Pre_finite_xattn_fwd.fn (F := Ideal) (m ((c.tc : Thread Cert.KernelXattnFwdIdeal.nD Cert.KernelXattnFwdIdeal.τ).loc Cert.KernelXattnFwdIdeal.main_arg0)) (m ((c.tc : Thread Cert.KernelXattnFwdIdeal.nD Cert.KernelXattnFwdIdeal.τ).loc Cert.KernelXattnFwdIdeal.main_arg1)) (m ((c.tc : Thread Cert.KernelXattnFwdIdeal.nD Cert.KernelXattnFwdIdeal.τ).loc Cert.KernelXattnFwdIdeal.main_arg2)) (m ((c.tc : Thread Cert.KernelXattnFwdIdeal.nD Cert.KernelXattnFwdIdeal.τ).loc Cert.KernelXattnFwdIdeal.main_arg3)) (m ((c.tc : Thread Cert.KernelXattnFwdIdeal.nD Cert.KernelXattnFwdIdeal.τ).loc Cert.KernelXattnFwdIdeal.main_arg4)) (m ((c.tc : Thread Cert.KernelXattnFwdIdeal.nD Cert.KernelXattnFwdIdeal.τ).loc Cert.KernelXattnFwdIdeal.main_arg5)) (m ((c.tc : Thread Cert.KernelXattnFwdIdeal.nD Cert.KernelXattnFwdIdeal.τ).loc Cert.KernelXattnFwdIdeal.main_arg6))).2.2.2.1 = (fun _ => 1#1)
    ∧ (Cert.Pre_finite_xattn_fwd.fn (F := Ideal) (m ((c.tc : Thread Cert.KernelXattnFwdIdeal.nD Cert.KernelXattnFwdIdeal.τ).loc Cert.KernelXattnFwdIdeal.main_arg0)) (m ((c.tc : Thread Cert.KernelXattnFwdIdeal.nD Cert.KernelXattnFwdIdeal.τ).loc Cert.KernelXattnFwdIdeal.main_arg1)) (m ((c.tc : Thread Cert.KernelXattnFwdIdeal.nD Cert.KernelXattnFwdIdeal.τ).loc Cert.KernelXattnFwdIdeal.main_arg2)) (m ((c.tc : Thread Cert.KernelXattnFwdIdeal.nD Cert.KernelXattnFwdIdeal.τ).loc Cert.KernelXattnFwdIdeal.main_arg3)) (m ((c.tc : Thread Cert.KernelXattnFwdIdeal.nD Cert.KernelXattnFwdIdeal.τ).loc Cert.KernelXattnFwdIdeal.main_arg4)) (m ((c.tc : Thread Cert.KernelXattnFwdIdeal.nD Cert.KernelXattnFwdIdeal.τ).loc Cert.KernelXattnFwdIdeal.main_arg5)) (m ((c.tc : Thread Cert.KernelXattnFwdIdeal.nD Cert.KernelXattnFwdIdeal.τ).loc Cert.KernelXattnFwdIdeal.main_arg6))).2.2.2.2.1 = (fun _ => 1#1)
    ∧ (Cert.Pre_finite_xattn_fwd.fn (F := Ideal) (m ((c.tc : Thread Cert.KernelXattnFwdIdeal.nD Cert.KernelXattnFwdIdeal.τ).loc Cert.KernelXattnFwdIdeal.main_arg0)) (m ((c.tc : Thread Cert.KernelXattnFwdIdeal.nD Cert.KernelXattnFwdIdeal.τ).loc Cert.KernelXattnFwdIdeal.main_arg1)) (m ((c.tc : Thread Cert.KernelXattnFwdIdeal.nD Cert.KernelXattnFwdIdeal.τ).loc Cert.KernelXattnFwdIdeal.main_arg2)) (m ((c.tc : Thread Cert.KernelXattnFwdIdeal.nD Cert.KernelXattnFwdIdeal.τ).loc Cert.KernelXattnFwdIdeal.main_arg3)) (m ((c.tc : Thread Cert.KernelXattnFwdIdeal.nD Cert.KernelXattnFwdIdeal.τ).loc Cert.KernelXattnFwdIdeal.main_arg4)) (m ((c.tc : Thread Cert.KernelXattnFwdIdeal.nD Cert.KernelXattnFwdIdeal.τ).loc Cert.KernelXattnFwdIdeal.main_arg5)) (m ((c.tc : Thread Cert.KernelXattnFwdIdeal.nD Cert.KernelXattnFwdIdeal.τ).loc Cert.KernelXattnFwdIdeal.main_arg6))).2.2.2.2.2 = (fun _ => 1#1)

def Pre_ReferenceXattnFwdIdeal (m : (ℓ : Loc Cert.ReferenceXattnFwdIdeal.nD Cert.ReferenceXattnFwdIdeal.τ Cert.ReferenceXattnFwdIdeal.sig) → Buf (Elt Ideal) ℓ) : Prop :=
  True

def Pre_ReferenceXattnFwdIdeal_finite_xattn_fwd [hPre_finite_xattn_fwd : Cert.Pre_finite_xattn_fwd.Facts] (m : (ℓ : Loc Cert.ReferenceXattnFwdIdeal.nD Cert.ReferenceXattnFwdIdeal.τ Cert.ReferenceXattnFwdIdeal.sig) → Buf (Elt Ideal) ℓ) : Prop :=
  ∀ c : Dev Cert.ReferenceXattnFwdIdeal.nD,
    (Cert.Pre_finite_xattn_fwd.fn (F := Ideal) (m ((c.tc : Thread Cert.ReferenceXattnFwdIdeal.nD Cert.ReferenceXattnFwdIdeal.τ).loc Cert.ReferenceXattnFwdIdeal.main_arg0)) (m ((c.tc : Thread Cert.ReferenceXattnFwdIdeal.nD Cert.ReferenceXattnFwdIdeal.τ).loc Cert.ReferenceXattnFwdIdeal.main_arg1)) (m ((c.tc : Thread Cert.ReferenceXattnFwdIdeal.nD Cert.ReferenceXattnFwdIdeal.τ).loc Cert.ReferenceXattnFwdIdeal.main_arg2)) (m ((c.tc : Thread Cert.ReferenceXattnFwdIdeal.nD Cert.ReferenceXattnFwdIdeal.τ).loc Cert.ReferenceXattnFwdIdeal.main_arg3)) (m ((c.tc : Thread Cert.ReferenceXattnFwdIdeal.nD Cert.ReferenceXattnFwdIdeal.τ).loc Cert.ReferenceXattnFwdIdeal.main_arg4)) (m ((c.tc : Thread Cert.ReferenceXattnFwdIdeal.nD Cert.ReferenceXattnFwdIdeal.τ).loc Cert.ReferenceXattnFwdIdeal.main_arg5)) (m ((c.tc : Thread Cert.ReferenceXattnFwdIdeal.nD Cert.ReferenceXattnFwdIdeal.τ).loc Cert.ReferenceXattnFwdIdeal.main_arg6))).1 = (fun _ => 1#1)
    ∧ (Cert.Pre_finite_xattn_fwd.fn (F := Ideal) (m ((c.tc : Thread Cert.ReferenceXattnFwdIdeal.nD Cert.ReferenceXattnFwdIdeal.τ).loc Cert.ReferenceXattnFwdIdeal.main_arg0)) (m ((c.tc : Thread Cert.ReferenceXattnFwdIdeal.nD Cert.ReferenceXattnFwdIdeal.τ).loc Cert.ReferenceXattnFwdIdeal.main_arg1)) (m ((c.tc : Thread Cert.ReferenceXattnFwdIdeal.nD Cert.ReferenceXattnFwdIdeal.τ).loc Cert.ReferenceXattnFwdIdeal.main_arg2)) (m ((c.tc : Thread Cert.ReferenceXattnFwdIdeal.nD Cert.ReferenceXattnFwdIdeal.τ).loc Cert.ReferenceXattnFwdIdeal.main_arg3)) (m ((c.tc : Thread Cert.ReferenceXattnFwdIdeal.nD Cert.ReferenceXattnFwdIdeal.τ).loc Cert.ReferenceXattnFwdIdeal.main_arg4)) (m ((c.tc : Thread Cert.ReferenceXattnFwdIdeal.nD Cert.ReferenceXattnFwdIdeal.τ).loc Cert.ReferenceXattnFwdIdeal.main_arg5)) (m ((c.tc : Thread Cert.ReferenceXattnFwdIdeal.nD Cert.ReferenceXattnFwdIdeal.τ).loc Cert.ReferenceXattnFwdIdeal.main_arg6))).2.1 = (fun _ => 1#1)
    ∧ (Cert.Pre_finite_xattn_fwd.fn (F := Ideal) (m ((c.tc : Thread Cert.ReferenceXattnFwdIdeal.nD Cert.ReferenceXattnFwdIdeal.τ).loc Cert.ReferenceXattnFwdIdeal.main_arg0)) (m ((c.tc : Thread Cert.ReferenceXattnFwdIdeal.nD Cert.ReferenceXattnFwdIdeal.τ).loc Cert.ReferenceXattnFwdIdeal.main_arg1)) (m ((c.tc : Thread Cert.ReferenceXattnFwdIdeal.nD Cert.ReferenceXattnFwdIdeal.τ).loc Cert.ReferenceXattnFwdIdeal.main_arg2)) (m ((c.tc : Thread Cert.ReferenceXattnFwdIdeal.nD Cert.ReferenceXattnFwdIdeal.τ).loc Cert.ReferenceXattnFwdIdeal.main_arg3)) (m ((c.tc : Thread Cert.ReferenceXattnFwdIdeal.nD Cert.ReferenceXattnFwdIdeal.τ).loc Cert.ReferenceXattnFwdIdeal.main_arg4)) (m ((c.tc : Thread Cert.ReferenceXattnFwdIdeal.nD Cert.ReferenceXattnFwdIdeal.τ).loc Cert.ReferenceXattnFwdIdeal.main_arg5)) (m ((c.tc : Thread Cert.ReferenceXattnFwdIdeal.nD Cert.ReferenceXattnFwdIdeal.τ).loc Cert.ReferenceXattnFwdIdeal.main_arg6))).2.2.1 = (fun _ => 1#1)
    ∧ (Cert.Pre_finite_xattn_fwd.fn (F := Ideal) (m ((c.tc : Thread Cert.ReferenceXattnFwdIdeal.nD Cert.ReferenceXattnFwdIdeal.τ).loc Cert.ReferenceXattnFwdIdeal.main_arg0)) (m ((c.tc : Thread Cert.ReferenceXattnFwdIdeal.nD Cert.ReferenceXattnFwdIdeal.τ).loc Cert.ReferenceXattnFwdIdeal.main_arg1)) (m ((c.tc : Thread Cert.ReferenceXattnFwdIdeal.nD Cert.ReferenceXattnFwdIdeal.τ).loc Cert.ReferenceXattnFwdIdeal.main_arg2)) (m ((c.tc : Thread Cert.ReferenceXattnFwdIdeal.nD Cert.ReferenceXattnFwdIdeal.τ).loc Cert.ReferenceXattnFwdIdeal.main_arg3)) (m ((c.tc : Thread Cert.ReferenceXattnFwdIdeal.nD Cert.ReferenceXattnFwdIdeal.τ).loc Cert.ReferenceXattnFwdIdeal.main_arg4)) (m ((c.tc : Thread Cert.ReferenceXattnFwdIdeal.nD Cert.ReferenceXattnFwdIdeal.τ).loc Cert.ReferenceXattnFwdIdeal.main_arg5)) (m ((c.tc : Thread Cert.ReferenceXattnFwdIdeal.nD Cert.ReferenceXattnFwdIdeal.τ).loc Cert.ReferenceXattnFwdIdeal.main_arg6))).2.2.2.1 = (fun _ => 1#1)
    ∧ (Cert.Pre_finite_xattn_fwd.fn (F := Ideal) (m ((c.tc : Thread Cert.ReferenceXattnFwdIdeal.nD Cert.ReferenceXattnFwdIdeal.τ).loc Cert.ReferenceXattnFwdIdeal.main_arg0)) (m ((c.tc : Thread Cert.ReferenceXattnFwdIdeal.nD Cert.ReferenceXattnFwdIdeal.τ).loc Cert.ReferenceXattnFwdIdeal.main_arg1)) (m ((c.tc : Thread Cert.ReferenceXattnFwdIdeal.nD Cert.ReferenceXattnFwdIdeal.τ).loc Cert.ReferenceXattnFwdIdeal.main_arg2)) (m ((c.tc : Thread Cert.ReferenceXattnFwdIdeal.nD Cert.ReferenceXattnFwdIdeal.τ).loc Cert.ReferenceXattnFwdIdeal.main_arg3)) (m ((c.tc : Thread Cert.ReferenceXattnFwdIdeal.nD Cert.ReferenceXattnFwdIdeal.τ).loc Cert.ReferenceXattnFwdIdeal.main_arg4)) (m ((c.tc : Thread Cert.ReferenceXattnFwdIdeal.nD Cert.ReferenceXattnFwdIdeal.τ).loc Cert.ReferenceXattnFwdIdeal.main_arg5)) (m ((c.tc : Thread Cert.ReferenceXattnFwdIdeal.nD Cert.ReferenceXattnFwdIdeal.τ).loc Cert.ReferenceXattnFwdIdeal.main_arg6))).2.2.2.2.1 = (fun _ => 1#1)
    ∧ (Cert.Pre_finite_xattn_fwd.fn (F := Ideal) (m ((c.tc : Thread Cert.ReferenceXattnFwdIdeal.nD Cert.ReferenceXattnFwdIdeal.τ).loc Cert.ReferenceXattnFwdIdeal.main_arg0)) (m ((c.tc : Thread Cert.ReferenceXattnFwdIdeal.nD Cert.ReferenceXattnFwdIdeal.τ).loc Cert.ReferenceXattnFwdIdeal.main_arg1)) (m ((c.tc : Thread Cert.ReferenceXattnFwdIdeal.nD Cert.ReferenceXattnFwdIdeal.τ).loc Cert.ReferenceXattnFwdIdeal.main_arg2)) (m ((c.tc : Thread Cert.ReferenceXattnFwdIdeal.nD Cert.ReferenceXattnFwdIdeal.τ).loc Cert.ReferenceXattnFwdIdeal.main_arg3)) (m ((c.tc : Thread Cert.ReferenceXattnFwdIdeal.nD Cert.ReferenceXattnFwdIdeal.τ).loc Cert.ReferenceXattnFwdIdeal.main_arg4)) (m ((c.tc : Thread Cert.ReferenceXattnFwdIdeal.nD Cert.ReferenceXattnFwdIdeal.τ).loc Cert.ReferenceXattnFwdIdeal.main_arg5)) (m ((c.tc : Thread Cert.ReferenceXattnFwdIdeal.nD Cert.ReferenceXattnFwdIdeal.τ).loc Cert.ReferenceXattnFwdIdeal.main_arg6))).2.2.2.2.2 = (fun _ => 1#1)

def Pre_KernelSwaFwd (m : (ℓ : Loc Cert.KernelSwaFwd.nD Cert.KernelSwaFwd.τ Cert.KernelSwaFwd.sig) → Buf (Elt Bits) ℓ) : Prop :=
  True

def Pre_KernelSwaFwdIdeal (m : (ℓ : Loc Cert.KernelSwaFwdIdeal.nD Cert.KernelSwaFwdIdeal.τ Cert.KernelSwaFwdIdeal.sig) → Buf (Elt Ideal) ℓ) : Prop :=
  True

def Pre_KernelSwaFwdIdeal_finite_swa_fwd [hPre_finite_swa_fwd : Cert.Pre_finite_swa_fwd.Facts] (m : (ℓ : Loc Cert.KernelSwaFwdIdeal.nD Cert.KernelSwaFwdIdeal.τ Cert.KernelSwaFwdIdeal.sig) → Buf (Elt Ideal) ℓ) : Prop :=
  ∀ c : Dev Cert.KernelSwaFwdIdeal.nD,
    (Cert.Pre_finite_swa_fwd.fn (F := Ideal) (m ((c.tc : Thread Cert.KernelSwaFwdIdeal.nD Cert.KernelSwaFwdIdeal.τ).loc Cert.KernelSwaFwdIdeal.main_arg0)) (m ((c.tc : Thread Cert.KernelSwaFwdIdeal.nD Cert.KernelSwaFwdIdeal.τ).loc Cert.KernelSwaFwdIdeal.main_arg1)) (m ((c.tc : Thread Cert.KernelSwaFwdIdeal.nD Cert.KernelSwaFwdIdeal.τ).loc Cert.KernelSwaFwdIdeal.main_arg2)) (m ((c.tc : Thread Cert.KernelSwaFwdIdeal.nD Cert.KernelSwaFwdIdeal.τ).loc Cert.KernelSwaFwdIdeal.main_arg3)) (m ((c.tc : Thread Cert.KernelSwaFwdIdeal.nD Cert.KernelSwaFwdIdeal.τ).loc Cert.KernelSwaFwdIdeal.main_arg4)) (m ((c.tc : Thread Cert.KernelSwaFwdIdeal.nD Cert.KernelSwaFwdIdeal.τ).loc Cert.KernelSwaFwdIdeal.main_arg5))).1 = (fun _ => 1#1)
    ∧ (Cert.Pre_finite_swa_fwd.fn (F := Ideal) (m ((c.tc : Thread Cert.KernelSwaFwdIdeal.nD Cert.KernelSwaFwdIdeal.τ).loc Cert.KernelSwaFwdIdeal.main_arg0)) (m ((c.tc : Thread Cert.KernelSwaFwdIdeal.nD Cert.KernelSwaFwdIdeal.τ).loc Cert.KernelSwaFwdIdeal.main_arg1)) (m ((c.tc : Thread Cert.KernelSwaFwdIdeal.nD Cert.KernelSwaFwdIdeal.τ).loc Cert.KernelSwaFwdIdeal.main_arg2)) (m ((c.tc : Thread Cert.KernelSwaFwdIdeal.nD Cert.KernelSwaFwdIdeal.τ).loc Cert.KernelSwaFwdIdeal.main_arg3)) (m ((c.tc : Thread Cert.KernelSwaFwdIdeal.nD Cert.KernelSwaFwdIdeal.τ).loc Cert.KernelSwaFwdIdeal.main_arg4)) (m ((c.tc : Thread Cert.KernelSwaFwdIdeal.nD Cert.KernelSwaFwdIdeal.τ).loc Cert.KernelSwaFwdIdeal.main_arg5))).2.1 = (fun _ => 1#1)
    ∧ (Cert.Pre_finite_swa_fwd.fn (F := Ideal) (m ((c.tc : Thread Cert.KernelSwaFwdIdeal.nD Cert.KernelSwaFwdIdeal.τ).loc Cert.KernelSwaFwdIdeal.main_arg0)) (m ((c.tc : Thread Cert.KernelSwaFwdIdeal.nD Cert.KernelSwaFwdIdeal.τ).loc Cert.KernelSwaFwdIdeal.main_arg1)) (m ((c.tc : Thread Cert.KernelSwaFwdIdeal.nD Cert.KernelSwaFwdIdeal.τ).loc Cert.KernelSwaFwdIdeal.main_arg2)) (m ((c.tc : Thread Cert.KernelSwaFwdIdeal.nD Cert.KernelSwaFwdIdeal.τ).loc Cert.KernelSwaFwdIdeal.main_arg3)) (m ((c.tc : Thread Cert.KernelSwaFwdIdeal.nD Cert.KernelSwaFwdIdeal.τ).loc Cert.KernelSwaFwdIdeal.main_arg4)) (m ((c.tc : Thread Cert.KernelSwaFwdIdeal.nD Cert.KernelSwaFwdIdeal.τ).loc Cert.KernelSwaFwdIdeal.main_arg5))).2.2.1 = (fun _ => 1#1)
    ∧ (Cert.Pre_finite_swa_fwd.fn (F := Ideal) (m ((c.tc : Thread Cert.KernelSwaFwdIdeal.nD Cert.KernelSwaFwdIdeal.τ).loc Cert.KernelSwaFwdIdeal.main_arg0)) (m ((c.tc : Thread Cert.KernelSwaFwdIdeal.nD Cert.KernelSwaFwdIdeal.τ).loc Cert.KernelSwaFwdIdeal.main_arg1)) (m ((c.tc : Thread Cert.KernelSwaFwdIdeal.nD Cert.KernelSwaFwdIdeal.τ).loc Cert.KernelSwaFwdIdeal.main_arg2)) (m ((c.tc : Thread Cert.KernelSwaFwdIdeal.nD Cert.KernelSwaFwdIdeal.τ).loc Cert.KernelSwaFwdIdeal.main_arg3)) (m ((c.tc : Thread Cert.KernelSwaFwdIdeal.nD Cert.KernelSwaFwdIdeal.τ).loc Cert.KernelSwaFwdIdeal.main_arg4)) (m ((c.tc : Thread Cert.KernelSwaFwdIdeal.nD Cert.KernelSwaFwdIdeal.τ).loc Cert.KernelSwaFwdIdeal.main_arg5))).2.2.2.1 = (fun _ => 1#1)
    ∧ (Cert.Pre_finite_swa_fwd.fn (F := Ideal) (m ((c.tc : Thread Cert.KernelSwaFwdIdeal.nD Cert.KernelSwaFwdIdeal.τ).loc Cert.KernelSwaFwdIdeal.main_arg0)) (m ((c.tc : Thread Cert.KernelSwaFwdIdeal.nD Cert.KernelSwaFwdIdeal.τ).loc Cert.KernelSwaFwdIdeal.main_arg1)) (m ((c.tc : Thread Cert.KernelSwaFwdIdeal.nD Cert.KernelSwaFwdIdeal.τ).loc Cert.KernelSwaFwdIdeal.main_arg2)) (m ((c.tc : Thread Cert.KernelSwaFwdIdeal.nD Cert.KernelSwaFwdIdeal.τ).loc Cert.KernelSwaFwdIdeal.main_arg3)) (m ((c.tc : Thread Cert.KernelSwaFwdIdeal.nD Cert.KernelSwaFwdIdeal.τ).loc Cert.KernelSwaFwdIdeal.main_arg4)) (m ((c.tc : Thread Cert.KernelSwaFwdIdeal.nD Cert.KernelSwaFwdIdeal.τ).loc Cert.KernelSwaFwdIdeal.main_arg5))).2.2.2.2.1 = (fun _ => 1#1)
    ∧ (Cert.Pre_finite_swa_fwd.fn (F := Ideal) (m ((c.tc : Thread Cert.KernelSwaFwdIdeal.nD Cert.KernelSwaFwdIdeal.τ).loc Cert.KernelSwaFwdIdeal.main_arg0)) (m ((c.tc : Thread Cert.KernelSwaFwdIdeal.nD Cert.KernelSwaFwdIdeal.τ).loc Cert.KernelSwaFwdIdeal.main_arg1)) (m ((c.tc : Thread Cert.KernelSwaFwdIdeal.nD Cert.KernelSwaFwdIdeal.τ).loc Cert.KernelSwaFwdIdeal.main_arg2)) (m ((c.tc : Thread Cert.KernelSwaFwdIdeal.nD Cert.KernelSwaFwdIdeal.τ).loc Cert.KernelSwaFwdIdeal.main_arg3)) (m ((c.tc : Thread Cert.KernelSwaFwdIdeal.nD Cert.KernelSwaFwdIdeal.τ).loc Cert.KernelSwaFwdIdeal.main_arg4)) (m ((c.tc : Thread Cert.KernelSwaFwdIdeal.nD Cert.KernelSwaFwdIdeal.τ).loc Cert.KernelSwaFwdIdeal.main_arg5))).2.2.2.2.2 = (fun _ => 1#1)

def Pre_ReferenceSwaFwdIdeal (m : (ℓ : Loc Cert.ReferenceSwaFwdIdeal.nD Cert.ReferenceSwaFwdIdeal.τ Cert.ReferenceSwaFwdIdeal.sig) → Buf (Elt Ideal) ℓ) : Prop :=
  True

def Pre_ReferenceSwaFwdIdeal_finite_swa_fwd [hPre_finite_swa_fwd : Cert.Pre_finite_swa_fwd.Facts] (m : (ℓ : Loc Cert.ReferenceSwaFwdIdeal.nD Cert.ReferenceSwaFwdIdeal.τ Cert.ReferenceSwaFwdIdeal.sig) → Buf (Elt Ideal) ℓ) : Prop :=
  ∀ c : Dev Cert.ReferenceSwaFwdIdeal.nD,
    (Cert.Pre_finite_swa_fwd.fn (F := Ideal) (m ((c.tc : Thread Cert.ReferenceSwaFwdIdeal.nD Cert.ReferenceSwaFwdIdeal.τ).loc Cert.ReferenceSwaFwdIdeal.main_arg0)) (m ((c.tc : Thread Cert.ReferenceSwaFwdIdeal.nD Cert.ReferenceSwaFwdIdeal.τ).loc Cert.ReferenceSwaFwdIdeal.main_arg1)) (m ((c.tc : Thread Cert.ReferenceSwaFwdIdeal.nD Cert.ReferenceSwaFwdIdeal.τ).loc Cert.ReferenceSwaFwdIdeal.main_arg2)) (m ((c.tc : Thread Cert.ReferenceSwaFwdIdeal.nD Cert.ReferenceSwaFwdIdeal.τ).loc Cert.ReferenceSwaFwdIdeal.main_arg3)) (m ((c.tc : Thread Cert.ReferenceSwaFwdIdeal.nD Cert.ReferenceSwaFwdIdeal.τ).loc Cert.ReferenceSwaFwdIdeal.main_arg4)) (m ((c.tc : Thread Cert.ReferenceSwaFwdIdeal.nD Cert.ReferenceSwaFwdIdeal.τ).loc Cert.ReferenceSwaFwdIdeal.main_arg5))).1 = (fun _ => 1#1)
    ∧ (Cert.Pre_finite_swa_fwd.fn (F := Ideal) (m ((c.tc : Thread Cert.ReferenceSwaFwdIdeal.nD Cert.ReferenceSwaFwdIdeal.τ).loc Cert.ReferenceSwaFwdIdeal.main_arg0)) (m ((c.tc : Thread Cert.ReferenceSwaFwdIdeal.nD Cert.ReferenceSwaFwdIdeal.τ).loc Cert.ReferenceSwaFwdIdeal.main_arg1)) (m ((c.tc : Thread Cert.ReferenceSwaFwdIdeal.nD Cert.ReferenceSwaFwdIdeal.τ).loc Cert.ReferenceSwaFwdIdeal.main_arg2)) (m ((c.tc : Thread Cert.ReferenceSwaFwdIdeal.nD Cert.ReferenceSwaFwdIdeal.τ).loc Cert.ReferenceSwaFwdIdeal.main_arg3)) (m ((c.tc : Thread Cert.ReferenceSwaFwdIdeal.nD Cert.ReferenceSwaFwdIdeal.τ).loc Cert.ReferenceSwaFwdIdeal.main_arg4)) (m ((c.tc : Thread Cert.ReferenceSwaFwdIdeal.nD Cert.ReferenceSwaFwdIdeal.τ).loc Cert.ReferenceSwaFwdIdeal.main_arg5))).2.1 = (fun _ => 1#1)
    ∧ (Cert.Pre_finite_swa_fwd.fn (F := Ideal) (m ((c.tc : Thread Cert.ReferenceSwaFwdIdeal.nD Cert.ReferenceSwaFwdIdeal.τ).loc Cert.ReferenceSwaFwdIdeal.main_arg0)) (m ((c.tc : Thread Cert.ReferenceSwaFwdIdeal.nD Cert.ReferenceSwaFwdIdeal.τ).loc Cert.ReferenceSwaFwdIdeal.main_arg1)) (m ((c.tc : Thread Cert.ReferenceSwaFwdIdeal.nD Cert.ReferenceSwaFwdIdeal.τ).loc Cert.ReferenceSwaFwdIdeal.main_arg2)) (m ((c.tc : Thread Cert.ReferenceSwaFwdIdeal.nD Cert.ReferenceSwaFwdIdeal.τ).loc Cert.ReferenceSwaFwdIdeal.main_arg3)) (m ((c.tc : Thread Cert.ReferenceSwaFwdIdeal.nD Cert.ReferenceSwaFwdIdeal.τ).loc Cert.ReferenceSwaFwdIdeal.main_arg4)) (m ((c.tc : Thread Cert.ReferenceSwaFwdIdeal.nD Cert.ReferenceSwaFwdIdeal.τ).loc Cert.ReferenceSwaFwdIdeal.main_arg5))).2.2.1 = (fun _ => 1#1)
    ∧ (Cert.Pre_finite_swa_fwd.fn (F := Ideal) (m ((c.tc : Thread Cert.ReferenceSwaFwdIdeal.nD Cert.ReferenceSwaFwdIdeal.τ).loc Cert.ReferenceSwaFwdIdeal.main_arg0)) (m ((c.tc : Thread Cert.ReferenceSwaFwdIdeal.nD Cert.ReferenceSwaFwdIdeal.τ).loc Cert.ReferenceSwaFwdIdeal.main_arg1)) (m ((c.tc : Thread Cert.ReferenceSwaFwdIdeal.nD Cert.ReferenceSwaFwdIdeal.τ).loc Cert.ReferenceSwaFwdIdeal.main_arg2)) (m ((c.tc : Thread Cert.ReferenceSwaFwdIdeal.nD Cert.ReferenceSwaFwdIdeal.τ).loc Cert.ReferenceSwaFwdIdeal.main_arg3)) (m ((c.tc : Thread Cert.ReferenceSwaFwdIdeal.nD Cert.ReferenceSwaFwdIdeal.τ).loc Cert.ReferenceSwaFwdIdeal.main_arg4)) (m ((c.tc : Thread Cert.ReferenceSwaFwdIdeal.nD Cert.ReferenceSwaFwdIdeal.τ).loc Cert.ReferenceSwaFwdIdeal.main_arg5))).2.2.2.1 = (fun _ => 1#1)
    ∧ (Cert.Pre_finite_swa_fwd.fn (F := Ideal) (m ((c.tc : Thread Cert.ReferenceSwaFwdIdeal.nD Cert.ReferenceSwaFwdIdeal.τ).loc Cert.ReferenceSwaFwdIdeal.main_arg0)) (m ((c.tc : Thread Cert.ReferenceSwaFwdIdeal.nD Cert.ReferenceSwaFwdIdeal.τ).loc Cert.ReferenceSwaFwdIdeal.main_arg1)) (m ((c.tc : Thread Cert.ReferenceSwaFwdIdeal.nD Cert.ReferenceSwaFwdIdeal.τ).loc Cert.ReferenceSwaFwdIdeal.main_arg2)) (m ((c.tc : Thread Cert.ReferenceSwaFwdIdeal.nD Cert.ReferenceSwaFwdIdeal.τ).loc Cert.ReferenceSwaFwdIdeal.main_arg3)) (m ((c.tc : Thread Cert.ReferenceSwaFwdIdeal.nD Cert.ReferenceSwaFwdIdeal.τ).loc Cert.ReferenceSwaFwdIdeal.main_arg4)) (m ((c.tc : Thread Cert.ReferenceSwaFwdIdeal.nD Cert.ReferenceSwaFwdIdeal.τ).loc Cert.ReferenceSwaFwdIdeal.main_arg5))).2.2.2.2.1 = (fun _ => 1#1)
    ∧ (Cert.Pre_finite_swa_fwd.fn (F := Ideal) (m ((c.tc : Thread Cert.ReferenceSwaFwdIdeal.nD Cert.ReferenceSwaFwdIdeal.τ).loc Cert.ReferenceSwaFwdIdeal.main_arg0)) (m ((c.tc : Thread Cert.ReferenceSwaFwdIdeal.nD Cert.ReferenceSwaFwdIdeal.τ).loc Cert.ReferenceSwaFwdIdeal.main_arg1)) (m ((c.tc : Thread Cert.ReferenceSwaFwdIdeal.nD Cert.ReferenceSwaFwdIdeal.τ).loc Cert.ReferenceSwaFwdIdeal.main_arg2)) (m ((c.tc : Thread Cert.ReferenceSwaFwdIdeal.nD Cert.ReferenceSwaFwdIdeal.τ).loc Cert.ReferenceSwaFwdIdeal.main_arg3)) (m ((c.tc : Thread Cert.ReferenceSwaFwdIdeal.nD Cert.ReferenceSwaFwdIdeal.τ).loc Cert.ReferenceSwaFwdIdeal.main_arg4)) (m ((c.tc : Thread Cert.ReferenceSwaFwdIdeal.nD Cert.ReferenceSwaFwdIdeal.τ).loc Cert.ReferenceSwaFwdIdeal.main_arg5))).2.2.2.2.2 = (fun _ => 1#1)

def Pre_KernelMixOutFwd (m : (ℓ : Loc Cert.KernelMixOutFwd.nD Cert.KernelMixOutFwd.τ Cert.KernelMixOutFwd.sig) → Buf (Elt Bits) ℓ) : Prop :=
  True

def Pre_KernelMixOutFwdIdeal (m : (ℓ : Loc Cert.KernelMixOutFwdIdeal.nD Cert.KernelMixOutFwdIdeal.τ Cert.KernelMixOutFwdIdeal.sig) → Buf (Elt Ideal) ℓ) : Prop :=
  True

def Pre_ReferenceMixOutFwdIdeal (m : (ℓ : Loc Cert.ReferenceMixOutFwdIdeal.nD Cert.ReferenceMixOutFwdIdeal.τ Cert.ReferenceMixOutFwdIdeal.sig) → Buf (Elt Ideal) ℓ) : Prop :=
  True

def Pre_KernelFfnFwd (m : (ℓ : Loc Cert.KernelFfnFwd.nD Cert.KernelFfnFwd.τ Cert.KernelFfnFwd.sig) → Buf (Elt Bits) ℓ) : Prop :=
  True

def Pre_KernelFfnFwdIdeal (m : (ℓ : Loc Cert.KernelFfnFwdIdeal.nD Cert.KernelFfnFwdIdeal.τ Cert.KernelFfnFwdIdeal.sig) → Buf (Elt Ideal) ℓ) : Prop :=
  True

def Pre_ReferenceFfnFwdIdeal (m : (ℓ : Loc Cert.ReferenceFfnFwdIdeal.nD Cert.ReferenceFfnFwdIdeal.τ Cert.ReferenceFfnFwdIdeal.sig) → Buf (Elt Ideal) ℓ) : Prop :=
  True

def Pre_KernelMixProj (m : (ℓ : Loc Cert.KernelMixProj.nD Cert.KernelMixProj.τ Cert.KernelMixProj.sig) → Buf (Elt Bits) ℓ) : Prop :=
  True

def Pre_KernelMixProjIdeal (m : (ℓ : Loc Cert.KernelMixProjIdeal.nD Cert.KernelMixProjIdeal.τ Cert.KernelMixProjIdeal.sig) → Buf (Elt Ideal) ℓ) : Prop :=
  True

def Pre_ReferenceMixProjIdeal (m : (ℓ : Loc Cert.ReferenceMixProjIdeal.nD Cert.ReferenceMixProjIdeal.τ Cert.ReferenceMixProjIdeal.sig) → Buf (Elt Ideal) ℓ) : Prop :=
  True

def Pre_KernelMemKv (m : (ℓ : Loc Cert.KernelMemKv.nD Cert.KernelMemKv.τ Cert.KernelMemKv.sig) → Buf (Elt Bits) ℓ) : Prop :=
  True

def Pre_KernelMemKvIdeal (m : (ℓ : Loc Cert.KernelMemKvIdeal.nD Cert.KernelMemKvIdeal.τ Cert.KernelMemKvIdeal.sig) → Buf (Elt Ideal) ℓ) : Prop :=
  True

def Pre_ReferenceMemKvIdeal (m : (ℓ : Loc Cert.ReferenceMemKvIdeal.nD Cert.ReferenceMemKvIdeal.τ Cert.ReferenceMemKvIdeal.sig) → Buf (Elt Ideal) ℓ) : Prop :=
  True

def quiescent_KernelMixIn [hKernelMixIn : Cert.KernelMixIn.Facts] : Prop :=
  ∀ (m : (ℓ : Loc Cert.KernelMixIn.nD Cert.KernelMixIn.τ Cert.KernelMixIn.sig) → Buf (Elt Bits) ℓ) (g : Dev Cert.KernelMixIn.nD → PrngReg), Pre_KernelMixIn m →
    θ_run (Cert.KernelMixIn.defs (F := Bits)) (onTc (τ := Cert.KernelMixIn.τ) (Cert.KernelMixIn.main (F := Bits))) ⟨m, fun _ => 0, g⟩ (fun r => (∀ c : Dev Cert.KernelMixIn.nD,
      r.2.mem ((c.tc : Thread Cert.KernelMixIn.nD Cert.KernelMixIn.τ).loc Cert.KernelMixIn.main_arg0) = m ((c.tc : Thread Cert.KernelMixIn.nD Cert.KernelMixIn.τ).loc Cert.KernelMixIn.main_arg0)
      ∧ r.2.mem ((c.tc : Thread Cert.KernelMixIn.nD Cert.KernelMixIn.τ).loc Cert.KernelMixIn.main_arg1) = m ((c.tc : Thread Cert.KernelMixIn.nD Cert.KernelMixIn.τ).loc Cert.KernelMixIn.main_arg1)
      ∧ r.2.mem ((c.tc : Thread Cert.KernelMixIn.nD Cert.KernelMixIn.τ).loc Cert.KernelMixIn.main_arg2) = m ((c.tc : Thread Cert.KernelMixIn.nD Cert.KernelMixIn.τ).loc Cert.KernelMixIn.main_arg2)
      ∧ r.2.mem ((c.tc : Thread Cert.KernelMixIn.nD Cert.KernelMixIn.τ).loc Cert.KernelMixIn.main_arg3) = m ((c.tc : Thread Cert.KernelMixIn.nD Cert.KernelMixIn.τ).loc Cert.KernelMixIn.main_arg3)
      ∧ r.2.mem ((c.tc : Thread Cert.KernelMixIn.nD Cert.KernelMixIn.τ).loc Cert.KernelMixIn.main_arg4) = m ((c.tc : Thread Cert.KernelMixIn.nD Cert.KernelMixIn.τ).loc Cert.KernelMixIn.main_arg4))
      ∧ r.2.sem = fun _ => 0)

def quiescent_KernelMixInIdeal [hKernelMixInIdeal : Cert.KernelMixInIdeal.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg), Pre_KernelMixInIdeal m →
    θ_run (Cert.KernelMixInIdeal.defs (F := Ideal)) (onTc (τ := Cert.KernelMixInIdeal.τ) (Cert.KernelMixInIdeal.main (F := Ideal))) ⟨m, fun _ => 0, g⟩ (fun r => (∀ c : Dev Cert.KernelMixInIdeal.nD,
      r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
      ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
      ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
      ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3)
      ∧ r.2.mem ((c.tc : Thread Cert.KernelMixInIdeal.nD Cert.KernelMixInIdeal.τ).loc Cert.KernelMixInIdeal.main_arg4) = m ((c.tc : Thread Cert.KernelMixInIdeal.nD Cert.KernelMixInIdeal.τ).loc Cert.KernelMixInIdeal.main_arg4))
      ∧ r.2.sem = fun _ => 0)

def quiescent_KernelMixInIdeal_pre_finite_mix_in [hKernelMixInIdeal : Cert.KernelMixInIdeal.Facts] [hPre_finite_mix_in : Cert.Pre_finite_mix_in.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg), Pre_KernelMixInIdeal_finite_mix_in m →
    θ_run (Cert.KernelMixInIdeal.defs (F := Ideal)) (onTc (τ := Cert.KernelMixInIdeal.τ) (Cert.KernelMixInIdeal.main (F := Ideal))) ⟨m, fun _ => 0, g⟩ (fun r => (∀ c : Dev Cert.KernelMixInIdeal.nD,
      r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
      ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
      ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
      ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3)
      ∧ r.2.mem ((c.tc : Thread Cert.KernelMixInIdeal.nD Cert.KernelMixInIdeal.τ).loc Cert.KernelMixInIdeal.main_arg4) = m ((c.tc : Thread Cert.KernelMixInIdeal.nD Cert.KernelMixInIdeal.τ).loc Cert.KernelMixInIdeal.main_arg4))
      ∧ r.2.sem = fun _ => 0)

def quiescent_ReferenceMixInIdeal [hReferenceMixInIdeal : Cert.ReferenceMixInIdeal.Facts] : Prop :=
  ∀ (m : (ℓ : Loc Cert.ReferenceMixInIdeal.nD Cert.ReferenceMixInIdeal.τ Cert.ReferenceMixInIdeal.sig) → Buf (Elt Ideal) ℓ) (g : Dev Cert.ReferenceMixInIdeal.nD → PrngReg), Pre_ReferenceMixInIdeal m →
    θ_run (Cert.ReferenceMixInIdeal.defs (F := Ideal)) (onTc (τ := Cert.ReferenceMixInIdeal.τ) (Cert.ReferenceMixInIdeal.main (F := Ideal))) ⟨m, fun _ => 0, g⟩ (fun r => (∀ c : Dev Cert.ReferenceMixInIdeal.nD,
      r.2.mem ((c.tc : Thread Cert.ReferenceMixInIdeal.nD Cert.ReferenceMixInIdeal.τ).loc Cert.ReferenceMixInIdeal.main_arg0) = m ((c.tc : Thread Cert.ReferenceMixInIdeal.nD Cert.ReferenceMixInIdeal.τ).loc Cert.ReferenceMixInIdeal.main_arg0)
      ∧ r.2.mem ((c.tc : Thread Cert.ReferenceMixInIdeal.nD Cert.ReferenceMixInIdeal.τ).loc Cert.ReferenceMixInIdeal.main_arg1) = m ((c.tc : Thread Cert.ReferenceMixInIdeal.nD Cert.ReferenceMixInIdeal.τ).loc Cert.ReferenceMixInIdeal.main_arg1)
      ∧ r.2.mem ((c.tc : Thread Cert.ReferenceMixInIdeal.nD Cert.ReferenceMixInIdeal.τ).loc Cert.ReferenceMixInIdeal.main_arg2) = m ((c.tc : Thread Cert.ReferenceMixInIdeal.nD Cert.ReferenceMixInIdeal.τ).loc Cert.ReferenceMixInIdeal.main_arg2)
      ∧ r.2.mem ((c.tc : Thread Cert.ReferenceMixInIdeal.nD Cert.ReferenceMixInIdeal.τ).loc Cert.ReferenceMixInIdeal.main_arg3) = m ((c.tc : Thread Cert.ReferenceMixInIdeal.nD Cert.ReferenceMixInIdeal.τ).loc Cert.ReferenceMixInIdeal.main_arg3)
      ∧ r.2.mem ((c.tc : Thread Cert.ReferenceMixInIdeal.nD Cert.ReferenceMixInIdeal.τ).loc Cert.ReferenceMixInIdeal.main_arg4) = m ((c.tc : Thread Cert.ReferenceMixInIdeal.nD Cert.ReferenceMixInIdeal.τ).loc Cert.ReferenceMixInIdeal.main_arg4))
      ∧ r.2.sem = fun _ => 0)

def quiescent_ReferenceMixInIdeal_pre_finite_mix_in [hReferenceMixInIdeal : Cert.ReferenceMixInIdeal.Facts] [hPre_finite_mix_in : Cert.Pre_finite_mix_in.Facts] : Prop :=
  ∀ (m : (ℓ : Loc Cert.ReferenceMixInIdeal.nD Cert.ReferenceMixInIdeal.τ Cert.ReferenceMixInIdeal.sig) → Buf (Elt Ideal) ℓ) (g : Dev Cert.ReferenceMixInIdeal.nD → PrngReg), Pre_ReferenceMixInIdeal_finite_mix_in m →
    θ_run (Cert.ReferenceMixInIdeal.defs (F := Ideal)) (onTc (τ := Cert.ReferenceMixInIdeal.τ) (Cert.ReferenceMixInIdeal.main (F := Ideal))) ⟨m, fun _ => 0, g⟩ (fun r => (∀ c : Dev Cert.ReferenceMixInIdeal.nD,
      r.2.mem ((c.tc : Thread Cert.ReferenceMixInIdeal.nD Cert.ReferenceMixInIdeal.τ).loc Cert.ReferenceMixInIdeal.main_arg0) = m ((c.tc : Thread Cert.ReferenceMixInIdeal.nD Cert.ReferenceMixInIdeal.τ).loc Cert.ReferenceMixInIdeal.main_arg0)
      ∧ r.2.mem ((c.tc : Thread Cert.ReferenceMixInIdeal.nD Cert.ReferenceMixInIdeal.τ).loc Cert.ReferenceMixInIdeal.main_arg1) = m ((c.tc : Thread Cert.ReferenceMixInIdeal.nD Cert.ReferenceMixInIdeal.τ).loc Cert.ReferenceMixInIdeal.main_arg1)
      ∧ r.2.mem ((c.tc : Thread Cert.ReferenceMixInIdeal.nD Cert.ReferenceMixInIdeal.τ).loc Cert.ReferenceMixInIdeal.main_arg2) = m ((c.tc : Thread Cert.ReferenceMixInIdeal.nD Cert.ReferenceMixInIdeal.τ).loc Cert.ReferenceMixInIdeal.main_arg2)
      ∧ r.2.mem ((c.tc : Thread Cert.ReferenceMixInIdeal.nD Cert.ReferenceMixInIdeal.τ).loc Cert.ReferenceMixInIdeal.main_arg3) = m ((c.tc : Thread Cert.ReferenceMixInIdeal.nD Cert.ReferenceMixInIdeal.τ).loc Cert.ReferenceMixInIdeal.main_arg3)
      ∧ r.2.mem ((c.tc : Thread Cert.ReferenceMixInIdeal.nD Cert.ReferenceMixInIdeal.τ).loc Cert.ReferenceMixInIdeal.main_arg4) = m ((c.tc : Thread Cert.ReferenceMixInIdeal.nD Cert.ReferenceMixInIdeal.τ).loc Cert.ReferenceMixInIdeal.main_arg4))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelXattn [hKernelXattn : Cert.KernelXattn.Facts] : Prop :=
  ∀ (m : (ℓ : Loc Cert.KernelXattn.nD Cert.KernelXattn.τ Cert.KernelXattn.sig) → Buf (Elt Bits) ℓ) (g : Dev Cert.KernelXattn.nD → PrngReg), Pre_KernelXattn m →
    θ_run (Cert.KernelXattn.defs (F := Bits)) (onTc (τ := Cert.KernelXattn.τ) (Cert.KernelXattn.main (F := Bits))) ⟨m, fun _ => 0, g⟩ (fun r => (∀ c : Dev Cert.KernelXattn.nD,
      r.2.mem ((c.tc : Thread Cert.KernelXattn.nD Cert.KernelXattn.τ).loc Cert.KernelXattn.main_arg0) = m ((c.tc : Thread Cert.KernelXattn.nD Cert.KernelXattn.τ).loc Cert.KernelXattn.main_arg0)
      ∧ r.2.mem ((c.tc : Thread Cert.KernelXattn.nD Cert.KernelXattn.τ).loc Cert.KernelXattn.main_arg1) = m ((c.tc : Thread Cert.KernelXattn.nD Cert.KernelXattn.τ).loc Cert.KernelXattn.main_arg1)
      ∧ r.2.mem ((c.tc : Thread Cert.KernelXattn.nD Cert.KernelXattn.τ).loc Cert.KernelXattn.main_arg2) = m ((c.tc : Thread Cert.KernelXattn.nD Cert.KernelXattn.τ).loc Cert.KernelXattn.main_arg2)
      ∧ r.2.mem ((c.tc : Thread Cert.KernelXattn.nD Cert.KernelXattn.τ).loc Cert.KernelXattn.main_arg3) = m ((c.tc : Thread Cert.KernelXattn.nD Cert.KernelXattn.τ).loc Cert.KernelXattn.main_arg3)
      ∧ r.2.mem ((c.tc : Thread Cert.KernelXattn.nD Cert.KernelXattn.τ).loc Cert.KernelXattn.main_arg4) = m ((c.tc : Thread Cert.KernelXattn.nD Cert.KernelXattn.τ).loc Cert.KernelXattn.main_arg4)
      ∧ r.2.mem ((c.tc : Thread Cert.KernelXattn.nD Cert.KernelXattn.τ).loc Cert.KernelXattn.main_arg5) = m ((c.tc : Thread Cert.KernelXattn.nD Cert.KernelXattn.τ).loc Cert.KernelXattn.main_arg5)
      ∧ r.2.mem ((c.tc : Thread Cert.KernelXattn.nD Cert.KernelXattn.τ).loc Cert.KernelXattn.main_arg6) = m ((c.tc : Thread Cert.KernelXattn.nD Cert.KernelXattn.τ).loc Cert.KernelXattn.main_arg6)
      ∧ r.2.mem ((c.tc : Thread Cert.KernelXattn.nD Cert.KernelXattn.τ).loc Cert.KernelXattn.main_arg7) = m ((c.tc : Thread Cert.KernelXattn.nD Cert.KernelXattn.τ).loc Cert.KernelXattn.main_arg7))
      ∧ r.2.sem = fun _ => 0)

def quiescent_KernelXattnIdeal [hKernelXattnIdeal : Cert.KernelXattnIdeal.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg), Pre_KernelXattnIdeal m →
    θ_run (Cert.KernelXattnIdeal.defs (F := Ideal)) (onTc (τ := Cert.KernelXattnIdeal.τ) (Cert.KernelXattnIdeal.main (F := Ideal))) ⟨m, fun _ => 0, g⟩ (fun r => (∀ c : Dev Cert.KernelXattnIdeal.nD,
      r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
      ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1)
      ∧ r.2.mem ((c.tc : Thread Cert.KernelXattnIdeal.nD Cert.KernelXattnIdeal.τ).loc Cert.KernelXattnIdeal.main_arg2) = m ((c.tc : Thread Cert.KernelXattnIdeal.nD Cert.KernelXattnIdeal.τ).loc Cert.KernelXattnIdeal.main_arg2)
      ∧ r.2.mem ((c.tc : Thread Cert.KernelXattnIdeal.nD Cert.KernelXattnIdeal.τ).loc Cert.KernelXattnIdeal.main_arg3) = m ((c.tc : Thread Cert.KernelXattnIdeal.nD Cert.KernelXattnIdeal.τ).loc Cert.KernelXattnIdeal.main_arg3)
      ∧ r.2.mem ((c.tc : Thread Cert.KernelXattnIdeal.nD Cert.KernelXattnIdeal.τ).loc Cert.KernelXattnIdeal.main_arg4) = m ((c.tc : Thread Cert.KernelXattnIdeal.nD Cert.KernelXattnIdeal.τ).loc Cert.KernelXattnIdeal.main_arg4)
      ∧ r.2.mem ((c.tc : Thread Cert.KernelXattnIdeal.nD Cert.KernelXattnIdeal.τ).loc Cert.KernelXattnIdeal.main_arg5) = m ((c.tc : Thread Cert.KernelXattnIdeal.nD Cert.KernelXattnIdeal.τ).loc Cert.KernelXattnIdeal.main_arg5)
      ∧ r.2.mem ((c.tc : Thread Cert.KernelXattnIdeal.nD Cert.KernelXattnIdeal.τ).loc Cert.KernelXattnIdeal.main_arg6) = m ((c.tc : Thread Cert.KernelXattnIdeal.nD Cert.KernelXattnIdeal.τ).loc Cert.KernelXattnIdeal.main_arg6)
      ∧ r.2.mem ((c.tc : Thread Cert.KernelXattnIdeal.nD Cert.KernelXattnIdeal.τ).loc Cert.KernelXattnIdeal.main_arg7) = m ((c.tc : Thread Cert.KernelXattnIdeal.nD Cert.KernelXattnIdeal.τ).loc Cert.KernelXattnIdeal.main_arg7))
      ∧ r.2.sem = fun _ => 0)

def quiescent_KernelXattnIdeal_pre_finite_xattn [hKernelXattnIdeal : Cert.KernelXattnIdeal.Facts] [hPre_finite_xattn : Cert.Pre_finite_xattn.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg), Pre_KernelXattnIdeal_finite_xattn m →
    θ_run (Cert.KernelXattnIdeal.defs (F := Ideal)) (onTc (τ := Cert.KernelXattnIdeal.τ) (Cert.KernelXattnIdeal.main (F := Ideal))) ⟨m, fun _ => 0, g⟩ (fun r => (∀ c : Dev Cert.KernelXattnIdeal.nD,
      r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
      ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1)
      ∧ r.2.mem ((c.tc : Thread Cert.KernelXattnIdeal.nD Cert.KernelXattnIdeal.τ).loc Cert.KernelXattnIdeal.main_arg2) = m ((c.tc : Thread Cert.KernelXattnIdeal.nD Cert.KernelXattnIdeal.τ).loc Cert.KernelXattnIdeal.main_arg2)
      ∧ r.2.mem ((c.tc : Thread Cert.KernelXattnIdeal.nD Cert.KernelXattnIdeal.τ).loc Cert.KernelXattnIdeal.main_arg3) = m ((c.tc : Thread Cert.KernelXattnIdeal.nD Cert.KernelXattnIdeal.τ).loc Cert.KernelXattnIdeal.main_arg3)
      ∧ r.2.mem ((c.tc : Thread Cert.KernelXattnIdeal.nD Cert.KernelXattnIdeal.τ).loc Cert.KernelXattnIdeal.main_arg4) = m ((c.tc : Thread Cert.KernelXattnIdeal.nD Cert.KernelXattnIdeal.τ).loc Cert.KernelXattnIdeal.main_arg4)
      ∧ r.2.mem ((c.tc : Thread Cert.KernelXattnIdeal.nD Cert.KernelXattnIdeal.τ).loc Cert.KernelXattnIdeal.main_arg5) = m ((c.tc : Thread Cert.KernelXattnIdeal.nD Cert.KernelXattnIdeal.τ).loc Cert.KernelXattnIdeal.main_arg5)
      ∧ r.2.mem ((c.tc : Thread Cert.KernelXattnIdeal.nD Cert.KernelXattnIdeal.τ).loc Cert.KernelXattnIdeal.main_arg6) = m ((c.tc : Thread Cert.KernelXattnIdeal.nD Cert.KernelXattnIdeal.τ).loc Cert.KernelXattnIdeal.main_arg6)
      ∧ r.2.mem ((c.tc : Thread Cert.KernelXattnIdeal.nD Cert.KernelXattnIdeal.τ).loc Cert.KernelXattnIdeal.main_arg7) = m ((c.tc : Thread Cert.KernelXattnIdeal.nD Cert.KernelXattnIdeal.τ).loc Cert.KernelXattnIdeal.main_arg7))
      ∧ r.2.sem = fun _ => 0)

def quiescent_ReferenceXattnIdeal [hReferenceXattnIdeal : Cert.ReferenceXattnIdeal.Facts] : Prop :=
  ∀ (m : (ℓ : Loc Cert.ReferenceXattnIdeal.nD Cert.ReferenceXattnIdeal.τ Cert.ReferenceXattnIdeal.sig) → Buf (Elt Ideal) ℓ) (g : Dev Cert.ReferenceXattnIdeal.nD → PrngReg), Pre_ReferenceXattnIdeal m →
    θ_run (Cert.ReferenceXattnIdeal.defs (F := Ideal)) (onTc (τ := Cert.ReferenceXattnIdeal.τ) (Cert.ReferenceXattnIdeal.main (F := Ideal))) ⟨m, fun _ => 0, g⟩ (fun r => (∀ c : Dev Cert.ReferenceXattnIdeal.nD,
      r.2.mem ((c.tc : Thread Cert.ReferenceXattnIdeal.nD Cert.ReferenceXattnIdeal.τ).loc Cert.ReferenceXattnIdeal.main_arg0) = m ((c.tc : Thread Cert.ReferenceXattnIdeal.nD Cert.ReferenceXattnIdeal.τ).loc Cert.ReferenceXattnIdeal.main_arg0)
      ∧ r.2.mem ((c.tc : Thread Cert.ReferenceXattnIdeal.nD Cert.ReferenceXattnIdeal.τ).loc Cert.ReferenceXattnIdeal.main_arg1) = m ((c.tc : Thread Cert.ReferenceXattnIdeal.nD Cert.ReferenceXattnIdeal.τ).loc Cert.ReferenceXattnIdeal.main_arg1)
      ∧ r.2.mem ((c.tc : Thread Cert.ReferenceXattnIdeal.nD Cert.ReferenceXattnIdeal.τ).loc Cert.ReferenceXattnIdeal.main_arg2) = m ((c.tc : Thread Cert.ReferenceXattnIdeal.nD Cert.ReferenceXattnIdeal.τ).loc Cert.ReferenceXattnIdeal.main_arg2)
      ∧ r.2.mem ((c.tc : Thread Cert.ReferenceXattnIdeal.nD Cert.ReferenceXattnIdeal.τ).loc Cert.ReferenceXattnIdeal.main_arg3) = m ((c.tc : Thread Cert.ReferenceXattnIdeal.nD Cert.ReferenceXattnIdeal.τ).loc Cert.ReferenceXattnIdeal.main_arg3)
      ∧ r.2.mem ((c.tc : Thread Cert.ReferenceXattnIdeal.nD Cert.ReferenceXattnIdeal.τ).loc Cert.ReferenceXattnIdeal.main_arg4) = m ((c.tc : Thread Cert.ReferenceXattnIdeal.nD Cert.ReferenceXattnIdeal.τ).loc Cert.ReferenceXattnIdeal.main_arg4)
      ∧ r.2.mem ((c.tc : Thread Cert.ReferenceXattnIdeal.nD Cert.ReferenceXattnIdeal.τ).loc Cert.ReferenceXattnIdeal.main_arg5) = m ((c.tc : Thread Cert.ReferenceXattnIdeal.nD Cert.ReferenceXattnIdeal.τ).loc Cert.ReferenceXattnIdeal.main_arg5)
      ∧ r.2.mem ((c.tc : Thread Cert.ReferenceXattnIdeal.nD Cert.ReferenceXattnIdeal.τ).loc Cert.ReferenceXattnIdeal.main_arg6) = m ((c.tc : Thread Cert.ReferenceXattnIdeal.nD Cert.ReferenceXattnIdeal.τ).loc Cert.ReferenceXattnIdeal.main_arg6)
      ∧ r.2.mem ((c.tc : Thread Cert.ReferenceXattnIdeal.nD Cert.ReferenceXattnIdeal.τ).loc Cert.ReferenceXattnIdeal.main_arg7) = m ((c.tc : Thread Cert.ReferenceXattnIdeal.nD Cert.ReferenceXattnIdeal.τ).loc Cert.ReferenceXattnIdeal.main_arg7))
      ∧ r.2.sem = fun _ => 0)

def quiescent_ReferenceXattnIdeal_pre_finite_xattn [hReferenceXattnIdeal : Cert.ReferenceXattnIdeal.Facts] [hPre_finite_xattn : Cert.Pre_finite_xattn.Facts] : Prop :=
  ∀ (m : (ℓ : Loc Cert.ReferenceXattnIdeal.nD Cert.ReferenceXattnIdeal.τ Cert.ReferenceXattnIdeal.sig) → Buf (Elt Ideal) ℓ) (g : Dev Cert.ReferenceXattnIdeal.nD → PrngReg), Pre_ReferenceXattnIdeal_finite_xattn m →
    θ_run (Cert.ReferenceXattnIdeal.defs (F := Ideal)) (onTc (τ := Cert.ReferenceXattnIdeal.τ) (Cert.ReferenceXattnIdeal.main (F := Ideal))) ⟨m, fun _ => 0, g⟩ (fun r => (∀ c : Dev Cert.ReferenceXattnIdeal.nD,
      r.2.mem ((c.tc : Thread Cert.ReferenceXattnIdeal.nD Cert.ReferenceXattnIdeal.τ).loc Cert.ReferenceXattnIdeal.main_arg0) = m ((c.tc : Thread Cert.ReferenceXattnIdeal.nD Cert.ReferenceXattnIdeal.τ).loc Cert.ReferenceXattnIdeal.main_arg0)
      ∧ r.2.mem ((c.tc : Thread Cert.ReferenceXattnIdeal.nD Cert.ReferenceXattnIdeal.τ).loc Cert.ReferenceXattnIdeal.main_arg1) = m ((c.tc : Thread Cert.ReferenceXattnIdeal.nD Cert.ReferenceXattnIdeal.τ).loc Cert.ReferenceXattnIdeal.main_arg1)
      ∧ r.2.mem ((c.tc : Thread Cert.ReferenceXattnIdeal.nD Cert.ReferenceXattnIdeal.τ).loc Cert.ReferenceXattnIdeal.main_arg2) = m ((c.tc : Thread Cert.ReferenceXattnIdeal.nD Cert.ReferenceXattnIdeal.τ).loc Cert.ReferenceXattnIdeal.main_arg2)
      ∧ r.2.mem ((c.tc : Thread Cert.ReferenceXattnIdeal.nD Cert.ReferenceXattnIdeal.τ).loc Cert.ReferenceXattnIdeal.main_arg3) = m ((c.tc : Thread Cert.ReferenceXattnIdeal.nD Cert.ReferenceXattnIdeal.τ).loc Cert.ReferenceXattnIdeal.main_arg3)
      ∧ r.2.mem ((c.tc : Thread Cert.ReferenceXattnIdeal.nD Cert.ReferenceXattnIdeal.τ).loc Cert.ReferenceXattnIdeal.main_arg4) = m ((c.tc : Thread Cert.ReferenceXattnIdeal.nD Cert.ReferenceXattnIdeal.τ).loc Cert.ReferenceXattnIdeal.main_arg4)
      ∧ r.2.mem ((c.tc : Thread Cert.ReferenceXattnIdeal.nD Cert.ReferenceXattnIdeal.τ).loc Cert.ReferenceXattnIdeal.main_arg5) = m ((c.tc : Thread Cert.ReferenceXattnIdeal.nD Cert.ReferenceXattnIdeal.τ).loc Cert.ReferenceXattnIdeal.main_arg5)
      ∧ r.2.mem ((c.tc : Thread Cert.ReferenceXattnIdeal.nD Cert.ReferenceXattnIdeal.τ).loc Cert.ReferenceXattnIdeal.main_arg6) = m ((c.tc : Thread Cert.ReferenceXattnIdeal.nD Cert.ReferenceXattnIdeal.τ).loc Cert.ReferenceXattnIdeal.main_arg6)
      ∧ r.2.mem ((c.tc : Thread Cert.ReferenceXattnIdeal.nD Cert.ReferenceXattnIdeal.τ).loc Cert.ReferenceXattnIdeal.main_arg7) = m ((c.tc : Thread Cert.ReferenceXattnIdeal.nD Cert.ReferenceXattnIdeal.τ).loc Cert.ReferenceXattnIdeal.main_arg7))
      ∧ r.2.sem = fun _ => 0)

def quiescent_KernelHead [hKernelHead : Cert.KernelHead.Facts] : Prop :=
  ∀ (m : (ℓ : Loc Cert.KernelHead.nD Cert.KernelHead.τ Cert.KernelHead.sig) → Buf (Elt Bits) ℓ) (g : Dev Cert.KernelHead.nD → PrngReg), Pre_KernelHead m →
    θ_run (Cert.KernelHead.defs (F := Bits)) (onTc (τ := Cert.KernelHead.τ) (Cert.KernelHead.main (F := Bits))) ⟨m, fun _ => 0, g⟩ (fun r => (∀ c : Dev Cert.KernelHead.nD,
      r.2.mem ((c.tc : Thread Cert.KernelHead.nD Cert.KernelHead.τ).loc Cert.KernelHead.main_arg0) = m ((c.tc : Thread Cert.KernelHead.nD Cert.KernelHead.τ).loc Cert.KernelHead.main_arg0)
      ∧ r.2.mem ((c.tc : Thread Cert.KernelHead.nD Cert.KernelHead.τ).loc Cert.KernelHead.main_arg1) = m ((c.tc : Thread Cert.KernelHead.nD Cert.KernelHead.τ).loc Cert.KernelHead.main_arg1)
      ∧ r.2.mem ((c.tc : Thread Cert.KernelHead.nD Cert.KernelHead.τ).loc Cert.KernelHead.main_arg2) = m ((c.tc : Thread Cert.KernelHead.nD Cert.KernelHead.τ).loc Cert.KernelHead.main_arg2)
      ∧ r.2.mem ((c.tc : Thread Cert.KernelHead.nD Cert.KernelHead.τ).loc Cert.KernelHead.main_arg3) = m ((c.tc : Thread Cert.KernelHead.nD Cert.KernelHead.τ).loc Cert.KernelHead.main_arg3)
      ∧ r.2.mem ((c.tc : Thread Cert.KernelHead.nD Cert.KernelHead.τ).loc Cert.KernelHead.main_arg4) = m ((c.tc : Thread Cert.KernelHead.nD Cert.KernelHead.τ).loc Cert.KernelHead.main_arg4)
      ∧ r.2.mem ((c.tc : Thread Cert.KernelHead.nD Cert.KernelHead.τ).loc Cert.KernelHead.main_arg5) = m ((c.tc : Thread Cert.KernelHead.nD Cert.KernelHead.τ).loc Cert.KernelHead.main_arg5))
      ∧ r.2.sem = fun _ => 0)

def quiescent_KernelHeadIdeal [hKernelHeadIdeal : Cert.KernelHeadIdeal.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg), Pre_KernelHeadIdeal m →
    θ_run (Cert.KernelHeadIdeal.defs (F := Ideal)) (onTc (τ := Cert.KernelHeadIdeal.τ) (Cert.KernelHeadIdeal.main (F := Ideal))) ⟨m, fun _ => 0, g⟩ (fun r => (∀ c : Dev Cert.KernelHeadIdeal.nD,
      r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
      ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
      ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
      ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3)
      ∧ r.2.mem ((c.tc : Thread Cert.KernelHeadIdeal.nD Cert.KernelHeadIdeal.τ).loc Cert.KernelHeadIdeal.main_arg4) = m ((c.tc : Thread Cert.KernelHeadIdeal.nD Cert.KernelHeadIdeal.τ).loc Cert.KernelHeadIdeal.main_arg4)
      ∧ r.2.mem ((c.tc : Thread Cert.KernelHeadIdeal.nD Cert.KernelHeadIdeal.τ).loc Cert.KernelHeadIdeal.main_arg5) = m ((c.tc : Thread Cert.KernelHeadIdeal.nD Cert.KernelHeadIdeal.τ).loc Cert.KernelHeadIdeal.main_arg5))
      ∧ r.2.sem = fun _ => 0)

def quiescent_KernelHeadIdeal_pre_finite_head [hKernelHeadIdeal : Cert.KernelHeadIdeal.Facts] [hPre_finite_head : Cert.Pre_finite_head.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg), Pre_KernelHeadIdeal_finite_head m →
    θ_run (Cert.KernelHeadIdeal.defs (F := Ideal)) (onTc (τ := Cert.KernelHeadIdeal.τ) (Cert.KernelHeadIdeal.main (F := Ideal))) ⟨m, fun _ => 0, g⟩ (fun r => (∀ c : Dev Cert.KernelHeadIdeal.nD,
      r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
      ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
      ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
      ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3)
      ∧ r.2.mem ((c.tc : Thread Cert.KernelHeadIdeal.nD Cert.KernelHeadIdeal.τ).loc Cert.KernelHeadIdeal.main_arg4) = m ((c.tc : Thread Cert.KernelHeadIdeal.nD Cert.KernelHeadIdeal.τ).loc Cert.KernelHeadIdeal.main_arg4)
      ∧ r.2.mem ((c.tc : Thread Cert.KernelHeadIdeal.nD Cert.KernelHeadIdeal.τ).loc Cert.KernelHeadIdeal.main_arg5) = m ((c.tc : Thread Cert.KernelHeadIdeal.nD Cert.KernelHeadIdeal.τ).loc Cert.KernelHeadIdeal.main_arg5))
      ∧ r.2.sem = fun _ => 0)

def quiescent_ReferenceHeadIdeal [hReferenceHeadIdeal : Cert.ReferenceHeadIdeal.Facts] : Prop :=
  ∀ (m : (ℓ : Loc Cert.ReferenceHeadIdeal.nD Cert.ReferenceHeadIdeal.τ Cert.ReferenceHeadIdeal.sig) → Buf (Elt Ideal) ℓ) (g : Dev Cert.ReferenceHeadIdeal.nD → PrngReg), Pre_ReferenceHeadIdeal m →
    θ_run (Cert.ReferenceHeadIdeal.defs (F := Ideal)) (onTc (τ := Cert.ReferenceHeadIdeal.τ) (Cert.ReferenceHeadIdeal.main (F := Ideal))) ⟨m, fun _ => 0, g⟩ (fun r => (∀ c : Dev Cert.ReferenceHeadIdeal.nD,
      r.2.mem ((c.tc : Thread Cert.ReferenceHeadIdeal.nD Cert.ReferenceHeadIdeal.τ).loc Cert.ReferenceHeadIdeal.main_arg0) = m ((c.tc : Thread Cert.ReferenceHeadIdeal.nD Cert.ReferenceHeadIdeal.τ).loc Cert.ReferenceHeadIdeal.main_arg0)
      ∧ r.2.mem ((c.tc : Thread Cert.ReferenceHeadIdeal.nD Cert.ReferenceHeadIdeal.τ).loc Cert.ReferenceHeadIdeal.main_arg1) = m ((c.tc : Thread Cert.ReferenceHeadIdeal.nD Cert.ReferenceHeadIdeal.τ).loc Cert.ReferenceHeadIdeal.main_arg1)
      ∧ r.2.mem ((c.tc : Thread Cert.ReferenceHeadIdeal.nD Cert.ReferenceHeadIdeal.τ).loc Cert.ReferenceHeadIdeal.main_arg2) = m ((c.tc : Thread Cert.ReferenceHeadIdeal.nD Cert.ReferenceHeadIdeal.τ).loc Cert.ReferenceHeadIdeal.main_arg2)
      ∧ r.2.mem ((c.tc : Thread Cert.ReferenceHeadIdeal.nD Cert.ReferenceHeadIdeal.τ).loc Cert.ReferenceHeadIdeal.main_arg3) = m ((c.tc : Thread Cert.ReferenceHeadIdeal.nD Cert.ReferenceHeadIdeal.τ).loc Cert.ReferenceHeadIdeal.main_arg3)
      ∧ r.2.mem ((c.tc : Thread Cert.ReferenceHeadIdeal.nD Cert.ReferenceHeadIdeal.τ).loc Cert.ReferenceHeadIdeal.main_arg4) = m ((c.tc : Thread Cert.ReferenceHeadIdeal.nD Cert.ReferenceHeadIdeal.τ).loc Cert.ReferenceHeadIdeal.main_arg4)
      ∧ r.2.mem ((c.tc : Thread Cert.ReferenceHeadIdeal.nD Cert.ReferenceHeadIdeal.τ).loc Cert.ReferenceHeadIdeal.main_arg5) = m ((c.tc : Thread Cert.ReferenceHeadIdeal.nD Cert.ReferenceHeadIdeal.τ).loc Cert.ReferenceHeadIdeal.main_arg5))
      ∧ r.2.sem = fun _ => 0)

def quiescent_ReferenceHeadIdeal_pre_finite_head [hReferenceHeadIdeal : Cert.ReferenceHeadIdeal.Facts] [hPre_finite_head : Cert.Pre_finite_head.Facts] : Prop :=
  ∀ (m : (ℓ : Loc Cert.ReferenceHeadIdeal.nD Cert.ReferenceHeadIdeal.τ Cert.ReferenceHeadIdeal.sig) → Buf (Elt Ideal) ℓ) (g : Dev Cert.ReferenceHeadIdeal.nD → PrngReg), Pre_ReferenceHeadIdeal_finite_head m →
    θ_run (Cert.ReferenceHeadIdeal.defs (F := Ideal)) (onTc (τ := Cert.ReferenceHeadIdeal.τ) (Cert.ReferenceHeadIdeal.main (F := Ideal))) ⟨m, fun _ => 0, g⟩ (fun r => (∀ c : Dev Cert.ReferenceHeadIdeal.nD,
      r.2.mem ((c.tc : Thread Cert.ReferenceHeadIdeal.nD Cert.ReferenceHeadIdeal.τ).loc Cert.ReferenceHeadIdeal.main_arg0) = m ((c.tc : Thread Cert.ReferenceHeadIdeal.nD Cert.ReferenceHeadIdeal.τ).loc Cert.ReferenceHeadIdeal.main_arg0)
      ∧ r.2.mem ((c.tc : Thread Cert.ReferenceHeadIdeal.nD Cert.ReferenceHeadIdeal.τ).loc Cert.ReferenceHeadIdeal.main_arg1) = m ((c.tc : Thread Cert.ReferenceHeadIdeal.nD Cert.ReferenceHeadIdeal.τ).loc Cert.ReferenceHeadIdeal.main_arg1)
      ∧ r.2.mem ((c.tc : Thread Cert.ReferenceHeadIdeal.nD Cert.ReferenceHeadIdeal.τ).loc Cert.ReferenceHeadIdeal.main_arg2) = m ((c.tc : Thread Cert.ReferenceHeadIdeal.nD Cert.ReferenceHeadIdeal.τ).loc Cert.ReferenceHeadIdeal.main_arg2)
      ∧ r.2.mem ((c.tc : Thread Cert.ReferenceHeadIdeal.nD Cert.ReferenceHeadIdeal.τ).loc Cert.ReferenceHeadIdeal.main_arg3) = m ((c.tc : Thread Cert.ReferenceHeadIdeal.nD Cert.ReferenceHeadIdeal.τ).loc Cert.ReferenceHeadIdeal.main_arg3)
      ∧ r.2.mem ((c.tc : Thread Cert.ReferenceHeadIdeal.nD Cert.ReferenceHeadIdeal.τ).loc Cert.ReferenceHeadIdeal.main_arg4) = m ((c.tc : Thread Cert.ReferenceHeadIdeal.nD Cert.ReferenceHeadIdeal.τ).loc Cert.ReferenceHeadIdeal.main_arg4)
      ∧ r.2.mem ((c.tc : Thread Cert.ReferenceHeadIdeal.nD Cert.ReferenceHeadIdeal.τ).loc Cert.ReferenceHeadIdeal.main_arg5) = m ((c.tc : Thread Cert.ReferenceHeadIdeal.nD Cert.ReferenceHeadIdeal.τ).loc Cert.ReferenceHeadIdeal.main_arg5))
      ∧ r.2.sem = fun _ => 0)

def quiescent_KernelBias [hKernelBias : Cert.KernelBias.Facts] : Prop :=
  ∀ (m : (ℓ : Loc Cert.KernelBias.nD Cert.KernelBias.τ Cert.KernelBias.sig) → Buf (Elt Bits) ℓ) (g : Dev Cert.KernelBias.nD → PrngReg), Pre_KernelBias m →
    θ_run (Cert.KernelBias.defs (F := Bits)) (onTc (τ := Cert.KernelBias.τ) (Cert.KernelBias.main (F := Bits))) ⟨m, fun _ => 0, g⟩ (fun r => (∀ c : Dev Cert.KernelBias.nD,
      r.2.mem ((c.tc : Thread Cert.KernelBias.nD Cert.KernelBias.τ).loc Cert.KernelBias.main_arg0) = m ((c.tc : Thread Cert.KernelBias.nD Cert.KernelBias.τ).loc Cert.KernelBias.main_arg0)
      ∧ r.2.mem ((c.tc : Thread Cert.KernelBias.nD Cert.KernelBias.τ).loc Cert.KernelBias.main_arg1) = m ((c.tc : Thread Cert.KernelBias.nD Cert.KernelBias.τ).loc Cert.KernelBias.main_arg1)
      ∧ r.2.mem ((c.tc : Thread Cert.KernelBias.nD Cert.KernelBias.τ).loc Cert.KernelBias.main_arg2) = m ((c.tc : Thread Cert.KernelBias.nD Cert.KernelBias.τ).loc Cert.KernelBias.main_arg2)
      ∧ r.2.mem ((c.tc : Thread Cert.KernelBias.nD Cert.KernelBias.τ).loc Cert.KernelBias.main_arg3) = m ((c.tc : Thread Cert.KernelBias.nD Cert.KernelBias.τ).loc Cert.KernelBias.main_arg3))
      ∧ r.2.sem = fun _ => 0)

def quiescent_KernelBiasIdeal [hKernelBiasIdeal : Cert.KernelBiasIdeal.Facts] : Prop :=
  ∀ (m : (ℓ : Loc Cert.KernelBiasIdeal.nD Cert.KernelBiasIdeal.τ Cert.KernelBiasIdeal.sig) → Buf (Elt Ideal) ℓ) (g : Dev Cert.KernelBiasIdeal.nD → PrngReg), Pre_KernelBiasIdeal m →
    θ_run (Cert.KernelBiasIdeal.defs (F := Ideal)) (onTc (τ := Cert.KernelBiasIdeal.τ) (Cert.KernelBiasIdeal.main (F := Ideal))) ⟨m, fun _ => 0, g⟩ (fun r => (∀ c : Dev Cert.KernelBiasIdeal.nD,
      r.2.mem ((c.tc : Thread Cert.KernelBiasIdeal.nD Cert.KernelBiasIdeal.τ).loc Cert.KernelBiasIdeal.main_arg0) = m ((c.tc : Thread Cert.KernelBiasIdeal.nD Cert.KernelBiasIdeal.τ).loc Cert.KernelBiasIdeal.main_arg0)
      ∧ r.2.mem ((c.tc : Thread Cert.KernelBiasIdeal.nD Cert.KernelBiasIdeal.τ).loc Cert.KernelBiasIdeal.main_arg1) = m ((c.tc : Thread Cert.KernelBiasIdeal.nD Cert.KernelBiasIdeal.τ).loc Cert.KernelBiasIdeal.main_arg1)
      ∧ r.2.mem ((c.tc : Thread Cert.KernelBiasIdeal.nD Cert.KernelBiasIdeal.τ).loc Cert.KernelBiasIdeal.main_arg2) = m ((c.tc : Thread Cert.KernelBiasIdeal.nD Cert.KernelBiasIdeal.τ).loc Cert.KernelBiasIdeal.main_arg2)
      ∧ r.2.mem ((c.tc : Thread Cert.KernelBiasIdeal.nD Cert.KernelBiasIdeal.τ).loc Cert.KernelBiasIdeal.main_arg3) = m ((c.tc : Thread Cert.KernelBiasIdeal.nD Cert.KernelBiasIdeal.τ).loc Cert.KernelBiasIdeal.main_arg3))
      ∧ r.2.sem = fun _ => 0)

def quiescent_ReferenceBiasIdeal [hReferenceBiasIdeal : Cert.ReferenceBiasIdeal.Facts] : Prop :=
  ∀ (m : (ℓ : Loc Cert.ReferenceBiasIdeal.nD Cert.ReferenceBiasIdeal.τ Cert.ReferenceBiasIdeal.sig) → Buf (Elt Ideal) ℓ) (g : Dev Cert.ReferenceBiasIdeal.nD → PrngReg), Pre_ReferenceBiasIdeal m →
    θ_run (Cert.ReferenceBiasIdeal.defs (F := Ideal)) (onTc (τ := Cert.ReferenceBiasIdeal.τ) (Cert.ReferenceBiasIdeal.main (F := Ideal))) ⟨m, fun _ => 0, g⟩ (fun r => (∀ c : Dev Cert.ReferenceBiasIdeal.nD,
      r.2.mem ((c.tc : Thread Cert.ReferenceBiasIdeal.nD Cert.ReferenceBiasIdeal.τ).loc Cert.ReferenceBiasIdeal.main_arg0) = m ((c.tc : Thread Cert.ReferenceBiasIdeal.nD Cert.ReferenceBiasIdeal.τ).loc Cert.ReferenceBiasIdeal.main_arg0)
      ∧ r.2.mem ((c.tc : Thread Cert.ReferenceBiasIdeal.nD Cert.ReferenceBiasIdeal.τ).loc Cert.ReferenceBiasIdeal.main_arg1) = m ((c.tc : Thread Cert.ReferenceBiasIdeal.nD Cert.ReferenceBiasIdeal.τ).loc Cert.ReferenceBiasIdeal.main_arg1)
      ∧ r.2.mem ((c.tc : Thread Cert.ReferenceBiasIdeal.nD Cert.ReferenceBiasIdeal.τ).loc Cert.ReferenceBiasIdeal.main_arg2) = m ((c.tc : Thread Cert.ReferenceBiasIdeal.nD Cert.ReferenceBiasIdeal.τ).loc Cert.ReferenceBiasIdeal.main_arg2)
      ∧ r.2.mem ((c.tc : Thread Cert.ReferenceBiasIdeal.nD Cert.ReferenceBiasIdeal.τ).loc Cert.ReferenceBiasIdeal.main_arg3) = m ((c.tc : Thread Cert.ReferenceBiasIdeal.nD Cert.ReferenceBiasIdeal.τ).loc Cert.ReferenceBiasIdeal.main_arg3))
      ∧ r.2.sem = fun _ => 0)

def quiescent_KernelXattnFwd [hKernelXattnFwd : Cert.KernelXattnFwd.Facts] : Prop :=
  ∀ (m : (ℓ : Loc Cert.KernelXattnFwd.nD Cert.KernelXattnFwd.τ Cert.KernelXattnFwd.sig) → Buf (Elt Bits) ℓ) (g : Dev Cert.KernelXattnFwd.nD → PrngReg), Pre_KernelXattnFwd m →
    θ_run (Cert.KernelXattnFwd.defs (F := Bits)) (onTc (τ := Cert.KernelXattnFwd.τ) (Cert.KernelXattnFwd.main (F := Bits))) ⟨m, fun _ => 0, g⟩ (fun r => (∀ c : Dev Cert.KernelXattnFwd.nD,
      r.2.mem ((c.tc : Thread Cert.KernelXattnFwd.nD Cert.KernelXattnFwd.τ).loc Cert.KernelXattnFwd.main_arg0) = m ((c.tc : Thread Cert.KernelXattnFwd.nD Cert.KernelXattnFwd.τ).loc Cert.KernelXattnFwd.main_arg0)
      ∧ r.2.mem ((c.tc : Thread Cert.KernelXattnFwd.nD Cert.KernelXattnFwd.τ).loc Cert.KernelXattnFwd.main_arg1) = m ((c.tc : Thread Cert.KernelXattnFwd.nD Cert.KernelXattnFwd.τ).loc Cert.KernelXattnFwd.main_arg1)
      ∧ r.2.mem ((c.tc : Thread Cert.KernelXattnFwd.nD Cert.KernelXattnFwd.τ).loc Cert.KernelXattnFwd.main_arg2) = m ((c.tc : Thread Cert.KernelXattnFwd.nD Cert.KernelXattnFwd.τ).loc Cert.KernelXattnFwd.main_arg2)
      ∧ r.2.mem ((c.tc : Thread Cert.KernelXattnFwd.nD Cert.KernelXattnFwd.τ).loc Cert.KernelXattnFwd.main_arg3) = m ((c.tc : Thread Cert.KernelXattnFwd.nD Cert.KernelXattnFwd.τ).loc Cert.KernelXattnFwd.main_arg3)
      ∧ r.2.mem ((c.tc : Thread Cert.KernelXattnFwd.nD Cert.KernelXattnFwd.τ).loc Cert.KernelXattnFwd.main_arg4) = m ((c.tc : Thread Cert.KernelXattnFwd.nD Cert.KernelXattnFwd.τ).loc Cert.KernelXattnFwd.main_arg4)
      ∧ r.2.mem ((c.tc : Thread Cert.KernelXattnFwd.nD Cert.KernelXattnFwd.τ).loc Cert.KernelXattnFwd.main_arg5) = m ((c.tc : Thread Cert.KernelXattnFwd.nD Cert.KernelXattnFwd.τ).loc Cert.KernelXattnFwd.main_arg5)
      ∧ r.2.mem ((c.tc : Thread Cert.KernelXattnFwd.nD Cert.KernelXattnFwd.τ).loc Cert.KernelXattnFwd.main_arg6) = m ((c.tc : Thread Cert.KernelXattnFwd.nD Cert.KernelXattnFwd.τ).loc Cert.KernelXattnFwd.main_arg6))
      ∧ r.2.sem = fun _ => 0)

def quiescent_KernelXattnFwdIdeal [hKernelXattnFwdIdeal : Cert.KernelXattnFwdIdeal.Facts] : Prop :=
  ∀ (m : (ℓ : Loc Cert.KernelXattnFwdIdeal.nD Cert.KernelXattnFwdIdeal.τ Cert.KernelXattnFwdIdeal.sig) → Buf (Elt Ideal) ℓ) (g : Dev Cert.KernelXattnFwdIdeal.nD → PrngReg), Pre_KernelXattnFwdIdeal m →
    θ_run (Cert.KernelXattnFwdIdeal.defs (F := Ideal)) (onTc (τ := Cert.KernelXattnFwdIdeal.τ) (Cert.KernelXattnFwdIdeal.main (F := Ideal))) ⟨m, fun _ => 0, g⟩ (fun r => (∀ c : Dev Cert.KernelXattnFwdIdeal.nD,
      r.2.mem ((c.tc : Thread Cert.KernelXattnFwdIdeal.nD Cert.KernelXattnFwdIdeal.τ).loc Cert.KernelXattnFwdIdeal.main_arg0) = m ((c.tc : Thread Cert.KernelXattnFwdIdeal.nD Cert.KernelXattnFwdIdeal.τ).loc Cert.KernelXattnFwdIdeal.main_arg0)
      ∧ r.2.mem ((c.tc : Thread Cert.KernelXattnFwdIdeal.nD Cert.KernelXattnFwdIdeal.τ).loc Cert.KernelXattnFwdIdeal.main_arg1) = m ((c.tc : Thread Cert.KernelXattnFwdIdeal.nD Cert.KernelXattnFwdIdeal.τ).loc Cert.KernelXattnFwdIdeal.main_arg1)
      ∧ r.2.mem ((c.tc : Thread Cert.KernelXattnFwdIdeal.nD Cert.KernelXattnFwdIdeal.τ).loc Cert.KernelXattnFwdIdeal.main_arg2) = m ((c.tc : Thread Cert.KernelXattnFwdIdeal.nD Cert.KernelXattnFwdIdeal.τ).loc Cert.KernelXattnFwdIdeal.main_arg2)
      ∧ r.2.mem ((c.tc : Thread Cert.KernelXattnFwdIdeal.nD Cert.KernelXattnFwdIdeal.τ).loc Cert.KernelXattnFwdIdeal.main_arg3) = m ((c.tc : Thread Cert.KernelXattnFwdIdeal.nD Cert.KernelXattnFwdIdeal.τ).loc Cert.KernelXattnFwdIdeal.main_arg3)
      ∧ r.2.mem ((c.tc : Thread Cert.KernelXattnFwdIdeal.nD Cert.KernelXattnFwdIdeal.τ).loc Cert.KernelXattnFwdIdeal.main_arg4) = m ((c.tc : Thread Cert.KernelXattnFwdIdeal.nD Cert.KernelXattnFwdIdeal.τ).loc Cert.KernelXattnFwdIdeal.main_arg4)
      ∧ r.2.mem ((c.tc : Thread Cert.KernelXattnFwdIdeal.nD Cert.KernelXattnFwdIdeal.τ).loc Cert.KernelXattnFwdIdeal.main_arg5) = m ((c.tc : Thread Cert.KernelXattnFwdIdeal.nD Cert.KernelXattnFwdIdeal.τ).loc Cert.KernelXattnFwdIdeal.main_arg5)
      ∧ r.2.mem ((c.tc : Thread Cert.KernelXattnFwdIdeal.nD Cert.KernelXattnFwdIdeal.τ).loc Cert.KernelXattnFwdIdeal.main_arg6) = m ((c.tc : Thread Cert.KernelXattnFwdIdeal.nD Cert.KernelXattnFwdIdeal.τ).loc Cert.KernelXattnFwdIdeal.main_arg6))
      ∧ r.2.sem = fun _ => 0)

def quiescent_KernelXattnFwdIdeal_pre_finite_xattn_fwd [hKernelXattnFwdIdeal : Cert.KernelXattnFwdIdeal.Facts] [hPre_finite_xattn_fwd : Cert.Pre_finite_xattn_fwd.Facts] : Prop :=
  ∀ (m : (ℓ : Loc Cert.KernelXattnFwdIdeal.nD Cert.KernelXattnFwdIdeal.τ Cert.KernelXattnFwdIdeal.sig) → Buf (Elt Ideal) ℓ) (g : Dev Cert.KernelXattnFwdIdeal.nD → PrngReg), Pre_KernelXattnFwdIdeal_finite_xattn_fwd m →
    θ_run (Cert.KernelXattnFwdIdeal.defs (F := Ideal)) (onTc (τ := Cert.KernelXattnFwdIdeal.τ) (Cert.KernelXattnFwdIdeal.main (F := Ideal))) ⟨m, fun _ => 0, g⟩ (fun r => (∀ c : Dev Cert.KernelXattnFwdIdeal.nD,
      r.2.mem ((c.tc : Thread Cert.KernelXattnFwdIdeal.nD Cert.KernelXattnFwdIdeal.τ).loc Cert.KernelXattnFwdIdeal.main_arg0) = m ((c.tc : Thread Cert.KernelXattnFwdIdeal.nD Cert.KernelXattnFwdIdeal.τ).loc Cert.KernelXattnFwdIdeal.main_arg0)
      ∧ r.2.mem ((c.tc : Thread Cert.KernelXattnFwdIdeal.nD Cert.KernelXattnFwdIdeal.τ).loc Cert.KernelXattnFwdIdeal.main_arg1) = m ((c.tc : Thread Cert.KernelXattnFwdIdeal.nD Cert.KernelXattnFwdIdeal.τ).loc Cert.KernelXattnFwdIdeal.main_arg1)
      ∧ r.2.mem ((c.tc : Thread Cert.KernelXattnFwdIdeal.nD Cert.KernelXattnFwdIdeal.τ).loc Cert.KernelXattnFwdIdeal.main_arg2) = m ((c.tc : Thread Cert.KernelXattnFwdIdeal.nD Cert.KernelXattnFwdIdeal.τ).loc Cert.KernelXattnFwdIdeal.main_arg2)
      ∧ r.2.mem ((c.tc : Thread Cert.KernelXattnFwdIdeal.nD Cert.KernelXattnFwdIdeal.τ).loc Cert.KernelXattnFwdIdeal.main_arg3) = m ((c.tc : Thread Cert.KernelXattnFwdIdeal.nD Cert.KernelXattnFwdIdeal.τ).loc Cert.KernelXattnFwdIdeal.main_arg3)
      ∧ r.2.mem ((c.tc : Thread Cert.KernelXattnFwdIdeal.nD Cert.KernelXattnFwdIdeal.τ).loc Cert.KernelXattnFwdIdeal.main_arg4) = m ((c.tc : Thread Cert.KernelXattnFwdIdeal.nD Cert.KernelXattnFwdIdeal.τ).loc Cert.KernelXattnFwdIdeal.main_arg4)
      ∧ r.2.mem ((c.tc : Thread Cert.KernelXattnFwdIdeal.nD Cert.KernelXattnFwdIdeal.τ).loc Cert.KernelXattnFwdIdeal.main_arg5) = m ((c.tc : Thread Cert.KernelXattnFwdIdeal.nD Cert.KernelXattnFwdIdeal.τ).loc Cert.KernelXattnFwdIdeal.main_arg5)
      ∧ r.2.mem ((c.tc : Thread Cert.KernelXattnFwdIdeal.nD Cert.KernelXattnFwdIdeal.τ).loc Cert.KernelXattnFwdIdeal.main_arg6) = m ((c.tc : Thread Cert.KernelXattnFwdIdeal.nD Cert.KernelXattnFwdIdeal.τ).loc Cert.KernelXattnFwdIdeal.main_arg6))
      ∧ r.2.sem = fun _ => 0)

def quiescent_ReferenceXattnFwdIdeal [hReferenceXattnFwdIdeal : Cert.ReferenceXattnFwdIdeal.Facts] : Prop :=
  ∀ (m : (ℓ : Loc Cert.ReferenceXattnFwdIdeal.nD Cert.ReferenceXattnFwdIdeal.τ Cert.ReferenceXattnFwdIdeal.sig) → Buf (Elt Ideal) ℓ) (g : Dev Cert.ReferenceXattnFwdIdeal.nD → PrngReg), Pre_ReferenceXattnFwdIdeal m →
    θ_run (Cert.ReferenceXattnFwdIdeal.defs (F := Ideal)) (onTc (τ := Cert.ReferenceXattnFwdIdeal.τ) (Cert.ReferenceXattnFwdIdeal.main (F := Ideal))) ⟨m, fun _ => 0, g⟩ (fun r => (∀ c : Dev Cert.ReferenceXattnFwdIdeal.nD,
      r.2.mem ((c.tc : Thread Cert.ReferenceXattnFwdIdeal.nD Cert.ReferenceXattnFwdIdeal.τ).loc Cert.ReferenceXattnFwdIdeal.main_arg0) = m ((c.tc : Thread Cert.ReferenceXattnFwdIdeal.nD Cert.ReferenceXattnFwdIdeal.τ).loc Cert.ReferenceXattnFwdIdeal.main_arg0)
      ∧ r.2.mem ((c.tc : Thread Cert.ReferenceXattnFwdIdeal.nD Cert.ReferenceXattnFwdIdeal.τ).loc Cert.ReferenceXattnFwdIdeal.main_arg1) = m ((c.tc : Thread Cert.ReferenceXattnFwdIdeal.nD Cert.ReferenceXattnFwdIdeal.τ).loc Cert.ReferenceXattnFwdIdeal.main_arg1)
      ∧ r.2.mem ((c.tc : Thread Cert.ReferenceXattnFwdIdeal.nD Cert.ReferenceXattnFwdIdeal.τ).loc Cert.ReferenceXattnFwdIdeal.main_arg2) = m ((c.tc : Thread Cert.ReferenceXattnFwdIdeal.nD Cert.ReferenceXattnFwdIdeal.τ).loc Cert.ReferenceXattnFwdIdeal.main_arg2)
      ∧ r.2.mem ((c.tc : Thread Cert.ReferenceXattnFwdIdeal.nD Cert.ReferenceXattnFwdIdeal.τ).loc Cert.ReferenceXattnFwdIdeal.main_arg3) = m ((c.tc : Thread Cert.ReferenceXattnFwdIdeal.nD Cert.ReferenceXattnFwdIdeal.τ).loc Cert.ReferenceXattnFwdIdeal.main_arg3)
      ∧ r.2.mem ((c.tc : Thread Cert.ReferenceXattnFwdIdeal.nD Cert.ReferenceXattnFwdIdeal.τ).loc Cert.ReferenceXattnFwdIdeal.main_arg4) = m ((c.tc : Thread Cert.ReferenceXattnFwdIdeal.nD Cert.ReferenceXattnFwdIdeal.τ).loc Cert.ReferenceXattnFwdIdeal.main_arg4)
      ∧ r.2.mem ((c.tc : Thread Cert.ReferenceXattnFwdIdeal.nD Cert.ReferenceXattnFwdIdeal.τ).loc Cert.ReferenceXattnFwdIdeal.main_arg5) = m ((c.tc : Thread Cert.ReferenceXattnFwdIdeal.nD Cert.ReferenceXattnFwdIdeal.τ).loc Cert.ReferenceXattnFwdIdeal.main_arg5)
      ∧ r.2.mem ((c.tc : Thread Cert.ReferenceXattnFwdIdeal.nD Cert.ReferenceXattnFwdIdeal.τ).loc Cert.ReferenceXattnFwdIdeal.main_arg6) = m ((c.tc : Thread Cert.ReferenceXattnFwdIdeal.nD Cert.ReferenceXattnFwdIdeal.τ).loc Cert.ReferenceXattnFwdIdeal.main_arg6))
      ∧ r.2.sem = fun _ => 0)

def quiescent_ReferenceXattnFwdIdeal_pre_finite_xattn_fwd [hReferenceXattnFwdIdeal : Cert.ReferenceXattnFwdIdeal.Facts] [hPre_finite_xattn_fwd : Cert.Pre_finite_xattn_fwd.Facts] : Prop :=
  ∀ (m : (ℓ : Loc Cert.ReferenceXattnFwdIdeal.nD Cert.ReferenceXattnFwdIdeal.τ Cert.ReferenceXattnFwdIdeal.sig) → Buf (Elt Ideal) ℓ) (g : Dev Cert.ReferenceXattnFwdIdeal.nD → PrngReg), Pre_ReferenceXattnFwdIdeal_finite_xattn_fwd m →
    θ_run (Cert.ReferenceXattnFwdIdeal.defs (F := Ideal)) (onTc (τ := Cert.ReferenceXattnFwdIdeal.τ) (Cert.ReferenceXattnFwdIdeal.main (F := Ideal))) ⟨m, fun _ => 0, g⟩ (fun r => (∀ c : Dev Cert.ReferenceXattnFwdIdeal.nD,
      r.2.mem ((c.tc : Thread Cert.ReferenceXattnFwdIdeal.nD Cert.ReferenceXattnFwdIdeal.τ).loc Cert.ReferenceXattnFwdIdeal.main_arg0) = m ((c.tc : Thread Cert.ReferenceXattnFwdIdeal.nD Cert.ReferenceXattnFwdIdeal.τ).loc Cert.ReferenceXattnFwdIdeal.main_arg0)
      ∧ r.2.mem ((c.tc : Thread Cert.ReferenceXattnFwdIdeal.nD Cert.ReferenceXattnFwdIdeal.τ).loc Cert.ReferenceXattnFwdIdeal.main_arg1) = m ((c.tc : Thread Cert.ReferenceXattnFwdIdeal.nD Cert.ReferenceXattnFwdIdeal.τ).loc Cert.ReferenceXattnFwdIdeal.main_arg1)
      ∧ r.2.mem ((c.tc : Thread Cert.ReferenceXattnFwdIdeal.nD Cert.ReferenceXattnFwdIdeal.τ).loc Cert.ReferenceXattnFwdIdeal.main_arg2) = m ((c.tc : Thread Cert.ReferenceXattnFwdIdeal.nD Cert.ReferenceXattnFwdIdeal.τ).loc Cert.ReferenceXattnFwdIdeal.main_arg2)
      ∧ r.2.mem ((c.tc : Thread Cert.ReferenceXattnFwdIdeal.nD Cert.ReferenceXattnFwdIdeal.τ).loc Cert.ReferenceXattnFwdIdeal.main_arg3) = m ((c.tc : Thread Cert.ReferenceXattnFwdIdeal.nD Cert.ReferenceXattnFwdIdeal.τ).loc Cert.ReferenceXattnFwdIdeal.main_arg3)
      ∧ r.2.mem ((c.tc : Thread Cert.ReferenceXattnFwdIdeal.nD Cert.ReferenceXattnFwdIdeal.τ).loc Cert.ReferenceXattnFwdIdeal.main_arg4) = m ((c.tc : Thread Cert.ReferenceXattnFwdIdeal.nD Cert.ReferenceXattnFwdIdeal.τ).loc Cert.ReferenceXattnFwdIdeal.main_arg4)
      ∧ r.2.mem ((c.tc : Thread Cert.ReferenceXattnFwdIdeal.nD Cert.ReferenceXattnFwdIdeal.τ).loc Cert.ReferenceXattnFwdIdeal.main_arg5) = m ((c.tc : Thread Cert.ReferenceXattnFwdIdeal.nD Cert.ReferenceXattnFwdIdeal.τ).loc Cert.ReferenceXattnFwdIdeal.main_arg5)
      ∧ r.2.mem ((c.tc : Thread Cert.ReferenceXattnFwdIdeal.nD Cert.ReferenceXattnFwdIdeal.τ).loc Cert.ReferenceXattnFwdIdeal.main_arg6) = m ((c.tc : Thread Cert.ReferenceXattnFwdIdeal.nD Cert.ReferenceXattnFwdIdeal.τ).loc Cert.ReferenceXattnFwdIdeal.main_arg6))
      ∧ r.2.sem = fun _ => 0)

def quiescent_KernelSwaFwd [hKernelSwaFwd : Cert.KernelSwaFwd.Facts] : Prop :=
  ∀ (m : (ℓ : Loc Cert.KernelSwaFwd.nD Cert.KernelSwaFwd.τ Cert.KernelSwaFwd.sig) → Buf (Elt Bits) ℓ) (g : Dev Cert.KernelSwaFwd.nD → PrngReg), Pre_KernelSwaFwd m →
    θ_run (Cert.KernelSwaFwd.defs (F := Bits)) (onTc (τ := Cert.KernelSwaFwd.τ) (Cert.KernelSwaFwd.main (F := Bits))) ⟨m, fun _ => 0, g⟩ (fun r => (∀ c : Dev Cert.KernelSwaFwd.nD,
      r.2.mem ((c.tc : Thread Cert.KernelSwaFwd.nD Cert.KernelSwaFwd.τ).loc Cert.KernelSwaFwd.main_arg0) = m ((c.tc : Thread Cert.KernelSwaFwd.nD Cert.KernelSwaFwd.τ).loc Cert.KernelSwaFwd.main_arg0)
      ∧ r.2.mem ((c.tc : Thread Cert.KernelSwaFwd.nD Cert.KernelSwaFwd.τ).loc Cert.KernelSwaFwd.main_arg1) = m ((c.tc : Thread Cert.KernelSwaFwd.nD Cert.KernelSwaFwd.τ).loc Cert.KernelSwaFwd.main_arg1)
      ∧ r.2.mem ((c.tc : Thread Cert.KernelSwaFwd.nD Cert.KernelSwaFwd.τ).loc Cert.KernelSwaFwd.main_arg2) = m ((c.tc : Thread Cert.KernelSwaFwd.nD Cert.KernelSwaFwd.τ).loc Cert.KernelSwaFwd.main_arg2)
      ∧ r.2.mem ((c.tc : Thread Cert.KernelSwaFwd.nD Cert.KernelSwaFwd.τ).loc Cert.KernelSwaFwd.main_arg3) = m ((c.tc : Thread Cert.KernelSwaFwd.nD Cert.KernelSwaFwd.τ).loc Cert.KernelSwaFwd.main_arg3)
      ∧ r.2.mem ((c.tc : Thread Cert.KernelSwaFwd.nD Cert.KernelSwaFwd.τ).loc Cert.KernelSwaFwd.main_arg4) = m ((c.tc : Thread Cert.KernelSwaFwd.nD Cert.KernelSwaFwd.τ).loc Cert.KernelSwaFwd.main_arg4)
      ∧ r.2.mem ((c.tc : Thread Cert.KernelSwaFwd.nD Cert.KernelSwaFwd.τ).loc Cert.KernelSwaFwd.main_arg5) = m ((c.tc : Thread Cert.KernelSwaFwd.nD Cert.KernelSwaFwd.τ).loc Cert.KernelSwaFwd.main_arg5))
      ∧ r.2.sem = fun _ => 0)

def quiescent_KernelSwaFwdIdeal [hKernelSwaFwdIdeal : Cert.KernelSwaFwdIdeal.Facts] : Prop :=
  ∀ (m : (ℓ : Loc Cert.KernelSwaFwdIdeal.nD Cert.KernelSwaFwdIdeal.τ Cert.KernelSwaFwdIdeal.sig) → Buf (Elt Ideal) ℓ) (g : Dev Cert.KernelSwaFwdIdeal.nD → PrngReg), Pre_KernelSwaFwdIdeal m →
    θ_run (Cert.KernelSwaFwdIdeal.defs (F := Ideal)) (onTc (τ := Cert.KernelSwaFwdIdeal.τ) (Cert.KernelSwaFwdIdeal.main (F := Ideal))) ⟨m, fun _ => 0, g⟩ (fun r => (∀ c : Dev Cert.KernelSwaFwdIdeal.nD,
      r.2.mem ((c.tc : Thread Cert.KernelSwaFwdIdeal.nD Cert.KernelSwaFwdIdeal.τ).loc Cert.KernelSwaFwdIdeal.main_arg0) = m ((c.tc : Thread Cert.KernelSwaFwdIdeal.nD Cert.KernelSwaFwdIdeal.τ).loc Cert.KernelSwaFwdIdeal.main_arg0)
      ∧ r.2.mem ((c.tc : Thread Cert.KernelSwaFwdIdeal.nD Cert.KernelSwaFwdIdeal.τ).loc Cert.KernelSwaFwdIdeal.main_arg1) = m ((c.tc : Thread Cert.KernelSwaFwdIdeal.nD Cert.KernelSwaFwdIdeal.τ).loc Cert.KernelSwaFwdIdeal.main_arg1)
      ∧ r.2.mem ((c.tc : Thread Cert.KernelSwaFwdIdeal.nD Cert.KernelSwaFwdIdeal.τ).loc Cert.KernelSwaFwdIdeal.main_arg2) = m ((c.tc : Thread Cert.KernelSwaFwdIdeal.nD Cert.KernelSwaFwdIdeal.τ).loc Cert.KernelSwaFwdIdeal.main_arg2)
      ∧ r.2.mem ((c.tc : Thread Cert.KernelSwaFwdIdeal.nD Cert.KernelSwaFwdIdeal.τ).loc Cert.KernelSwaFwdIdeal.main_arg3) = m ((c.tc : Thread Cert.KernelSwaFwdIdeal.nD Cert.KernelSwaFwdIdeal.τ).loc Cert.KernelSwaFwdIdeal.main_arg3)
      ∧ r.2.mem ((c.tc : Thread Cert.KernelSwaFwdIdeal.nD Cert.KernelSwaFwdIdeal.τ).loc Cert.KernelSwaFwdIdeal.main_arg4) = m ((c.tc : Thread Cert.KernelSwaFwdIdeal.nD Cert.KernelSwaFwdIdeal.τ).loc Cert.KernelSwaFwdIdeal.main_arg4)
      ∧ r.2.mem ((c.tc : Thread Cert.KernelSwaFwdIdeal.nD Cert.KernelSwaFwdIdeal.τ).loc Cert.KernelSwaFwdIdeal.main_arg5) = m ((c.tc : Thread Cert.KernelSwaFwdIdeal.nD Cert.KernelSwaFwdIdeal.τ).loc Cert.KernelSwaFwdIdeal.main_arg5))
      ∧ r.2.sem = fun _ => 0)

def quiescent_KernelSwaFwdIdeal_pre_finite_swa_fwd [hKernelSwaFwdIdeal : Cert.KernelSwaFwdIdeal.Facts] [hPre_finite_swa_fwd : Cert.Pre_finite_swa_fwd.Facts] : Prop :=
  ∀ (m : (ℓ : Loc Cert.KernelSwaFwdIdeal.nD Cert.KernelSwaFwdIdeal.τ Cert.KernelSwaFwdIdeal.sig) → Buf (Elt Ideal) ℓ) (g : Dev Cert.KernelSwaFwdIdeal.nD → PrngReg), Pre_KernelSwaFwdIdeal_finite_swa_fwd m →
    θ_run (Cert.KernelSwaFwdIdeal.defs (F := Ideal)) (onTc (τ := Cert.KernelSwaFwdIdeal.τ) (Cert.KernelSwaFwdIdeal.main (F := Ideal))) ⟨m, fun _ => 0, g⟩ (fun r => (∀ c : Dev Cert.KernelSwaFwdIdeal.nD,
      r.2.mem ((c.tc : Thread Cert.KernelSwaFwdIdeal.nD Cert.KernelSwaFwdIdeal.τ).loc Cert.KernelSwaFwdIdeal.main_arg0) = m ((c.tc : Thread Cert.KernelSwaFwdIdeal.nD Cert.KernelSwaFwdIdeal.τ).loc Cert.KernelSwaFwdIdeal.main_arg0)
      ∧ r.2.mem ((c.tc : Thread Cert.KernelSwaFwdIdeal.nD Cert.KernelSwaFwdIdeal.τ).loc Cert.KernelSwaFwdIdeal.main_arg1) = m ((c.tc : Thread Cert.KernelSwaFwdIdeal.nD Cert.KernelSwaFwdIdeal.τ).loc Cert.KernelSwaFwdIdeal.main_arg1)
      ∧ r.2.mem ((c.tc : Thread Cert.KernelSwaFwdIdeal.nD Cert.KernelSwaFwdIdeal.τ).loc Cert.KernelSwaFwdIdeal.main_arg2) = m ((c.tc : Thread Cert.KernelSwaFwdIdeal.nD Cert.KernelSwaFwdIdeal.τ).loc Cert.KernelSwaFwdIdeal.main_arg2)
      ∧ r.2.mem ((c.tc : Thread Cert.KernelSwaFwdIdeal.nD Cert.KernelSwaFwdIdeal.τ).loc Cert.KernelSwaFwdIdeal.main_arg3) = m ((c.tc : Thread Cert.KernelSwaFwdIdeal.nD Cert.KernelSwaFwdIdeal.τ).loc Cert.KernelSwaFwdIdeal.main_arg3)
      ∧ r.2.mem ((c.tc : Thread Cert.KernelSwaFwdIdeal.nD Cert.KernelSwaFwdIdeal.τ).loc Cert.KernelSwaFwdIdeal.main_arg4) = m ((c.tc : Thread Cert.KernelSwaFwdIdeal.nD Cert.KernelSwaFwdIdeal.τ).loc Cert.KernelSwaFwdIdeal.main_arg4)
      ∧ r.2.mem ((c.tc : Thread Cert.KernelSwaFwdIdeal.nD Cert.KernelSwaFwdIdeal.τ).loc Cert.KernelSwaFwdIdeal.main_arg5) = m ((c.tc : Thread Cert.KernelSwaFwdIdeal.nD Cert.KernelSwaFwdIdeal.τ).loc Cert.KernelSwaFwdIdeal.main_arg5))
      ∧ r.2.sem = fun _ => 0)

def quiescent_ReferenceSwaFwdIdeal [hReferenceSwaFwdIdeal : Cert.ReferenceSwaFwdIdeal.Facts] : Prop :=
  ∀ (m : (ℓ : Loc Cert.ReferenceSwaFwdIdeal.nD Cert.ReferenceSwaFwdIdeal.τ Cert.ReferenceSwaFwdIdeal.sig) → Buf (Elt Ideal) ℓ) (g : Dev Cert.ReferenceSwaFwdIdeal.nD → PrngReg), Pre_ReferenceSwaFwdIdeal m →
    θ_run (Cert.ReferenceSwaFwdIdeal.defs (F := Ideal)) (onTc (τ := Cert.ReferenceSwaFwdIdeal.τ) (Cert.ReferenceSwaFwdIdeal.main (F := Ideal))) ⟨m, fun _ => 0, g⟩ (fun r => (∀ c : Dev Cert.ReferenceSwaFwdIdeal.nD,
      r.2.mem ((c.tc : Thread Cert.ReferenceSwaFwdIdeal.nD Cert.ReferenceSwaFwdIdeal.τ).loc Cert.ReferenceSwaFwdIdeal.main_arg0) = m ((c.tc : Thread Cert.ReferenceSwaFwdIdeal.nD Cert.ReferenceSwaFwdIdeal.τ).loc Cert.ReferenceSwaFwdIdeal.main_arg0)
      ∧ r.2.mem ((c.tc : Thread Cert.ReferenceSwaFwdIdeal.nD Cert.ReferenceSwaFwdIdeal.τ).loc Cert.ReferenceSwaFwdIdeal.main_arg1) = m ((c.tc : Thread Cert.ReferenceSwaFwdIdeal.nD Cert.ReferenceSwaFwdIdeal.τ).loc Cert.ReferenceSwaFwdIdeal.main_arg1)
      ∧ r.2.mem ((c.tc : Thread Cert.ReferenceSwaFwdIdeal.nD Cert.ReferenceSwaFwdIdeal.τ).loc Cert.ReferenceSwaFwdIdeal.main_arg2) = m ((c.tc : Thread Cert.ReferenceSwaFwdIdeal.nD Cert.ReferenceSwaFwdIdeal.τ).loc Cert.ReferenceSwaFwdIdeal.main_arg2)
      ∧ r.2.mem ((c.tc : Thread Cert.ReferenceSwaFwdIdeal.nD Cert.ReferenceSwaFwdIdeal.τ).loc Cert.ReferenceSwaFwdIdeal.main_arg3) = m ((c.tc : Thread Cert.ReferenceSwaFwdIdeal.nD Cert.ReferenceSwaFwdIdeal.τ).loc Cert.ReferenceSwaFwdIdeal.main_arg3)
      ∧ r.2.mem ((c.tc : Thread Cert.ReferenceSwaFwdIdeal.nD Cert.ReferenceSwaFwdIdeal.τ).loc Cert.ReferenceSwaFwdIdeal.main_arg4) = m ((c.tc : Thread Cert.ReferenceSwaFwdIdeal.nD Cert.ReferenceSwaFwdIdeal.τ).loc Cert.ReferenceSwaFwdIdeal.main_arg4)
      ∧ r.2.mem ((c.tc : Thread Cert.ReferenceSwaFwdIdeal.nD Cert.ReferenceSwaFwdIdeal.τ).loc Cert.ReferenceSwaFwdIdeal.main_arg5) = m ((c.tc : Thread Cert.ReferenceSwaFwdIdeal.nD Cert.ReferenceSwaFwdIdeal.τ).loc Cert.ReferenceSwaFwdIdeal.main_arg5))
      ∧ r.2.sem = fun _ => 0)

def quiescent_ReferenceSwaFwdIdeal_pre_finite_swa_fwd [hReferenceSwaFwdIdeal : Cert.ReferenceSwaFwdIdeal.Facts] [hPre_finite_swa_fwd : Cert.Pre_finite_swa_fwd.Facts] : Prop :=
  ∀ (m : (ℓ : Loc Cert.ReferenceSwaFwdIdeal.nD Cert.ReferenceSwaFwdIdeal.τ Cert.ReferenceSwaFwdIdeal.sig) → Buf (Elt Ideal) ℓ) (g : Dev Cert.ReferenceSwaFwdIdeal.nD → PrngReg), Pre_ReferenceSwaFwdIdeal_finite_swa_fwd m →
    θ_run (Cert.ReferenceSwaFwdIdeal.defs (F := Ideal)) (onTc (τ := Cert.ReferenceSwaFwdIdeal.τ) (Cert.ReferenceSwaFwdIdeal.main (F := Ideal))) ⟨m, fun _ => 0, g⟩ (fun r => (∀ c : Dev Cert.ReferenceSwaFwdIdeal.nD,
      r.2.mem ((c.tc : Thread Cert.ReferenceSwaFwdIdeal.nD Cert.ReferenceSwaFwdIdeal.τ).loc Cert.ReferenceSwaFwdIdeal.main_arg0) = m ((c.tc : Thread Cert.ReferenceSwaFwdIdeal.nD Cert.ReferenceSwaFwdIdeal.τ).loc Cert.ReferenceSwaFwdIdeal.main_arg0)
      ∧ r.2.mem ((c.tc : Thread Cert.ReferenceSwaFwdIdeal.nD Cert.ReferenceSwaFwdIdeal.τ).loc Cert.ReferenceSwaFwdIdeal.main_arg1) = m ((c.tc : Thread Cert.ReferenceSwaFwdIdeal.nD Cert.ReferenceSwaFwdIdeal.τ).loc Cert.ReferenceSwaFwdIdeal.main_arg1)
      ∧ r.2.mem ((c.tc : Thread Cert.ReferenceSwaFwdIdeal.nD Cert.ReferenceSwaFwdIdeal.τ).loc Cert.ReferenceSwaFwdIdeal.main_arg2) = m ((c.tc : Thread Cert.ReferenceSwaFwdIdeal.nD Cert.ReferenceSwaFwdIdeal.τ).loc Cert.ReferenceSwaFwdIdeal.main_arg2)
      ∧ r.2.mem ((c.tc : Thread Cert.ReferenceSwaFwdIdeal.nD Cert.ReferenceSwaFwdIdeal.τ).loc Cert.ReferenceSwaFwdIdeal.main_arg3) = m ((c.tc : Thread Cert.ReferenceSwaFwdIdeal.nD Cert.ReferenceSwaFwdIdeal.τ).loc Cert.ReferenceSwaFwdIdeal.main_arg3)
      ∧ r.2.mem ((c.tc : Thread Cert.ReferenceSwaFwdIdeal.nD Cert.ReferenceSwaFwdIdeal.τ).loc Cert.ReferenceSwaFwdIdeal.main_arg4) = m ((c.tc : Thread Cert.ReferenceSwaFwdIdeal.nD Cert.ReferenceSwaFwdIdeal.τ).loc Cert.ReferenceSwaFwdIdeal.main_arg4)
      ∧ r.2.mem ((c.tc : Thread Cert.ReferenceSwaFwdIdeal.nD Cert.ReferenceSwaFwdIdeal.τ).loc Cert.ReferenceSwaFwdIdeal.main_arg5) = m ((c.tc : Thread Cert.ReferenceSwaFwdIdeal.nD Cert.ReferenceSwaFwdIdeal.τ).loc Cert.ReferenceSwaFwdIdeal.main_arg5))
      ∧ r.2.sem = fun _ => 0)

def quiescent_KernelMixOutFwd [hKernelMixOutFwd : Cert.KernelMixOutFwd.Facts] : Prop :=
  ∀ (m : (ℓ : Loc Cert.KernelMixOutFwd.nD Cert.KernelMixOutFwd.τ Cert.KernelMixOutFwd.sig) → Buf (Elt Bits) ℓ) (g : Dev Cert.KernelMixOutFwd.nD → PrngReg), Pre_KernelMixOutFwd m →
    θ_run (Cert.KernelMixOutFwd.defs (F := Bits)) (onTc (τ := Cert.KernelMixOutFwd.τ) (Cert.KernelMixOutFwd.main (F := Bits))) ⟨m, fun _ => 0, g⟩ (fun r => (∀ c : Dev Cert.KernelMixOutFwd.nD,
      r.2.mem ((c.tc : Thread Cert.KernelMixOutFwd.nD Cert.KernelMixOutFwd.τ).loc Cert.KernelMixOutFwd.main_arg0) = m ((c.tc : Thread Cert.KernelMixOutFwd.nD Cert.KernelMixOutFwd.τ).loc Cert.KernelMixOutFwd.main_arg0)
      ∧ r.2.mem ((c.tc : Thread Cert.KernelMixOutFwd.nD Cert.KernelMixOutFwd.τ).loc Cert.KernelMixOutFwd.main_arg1) = m ((c.tc : Thread Cert.KernelMixOutFwd.nD Cert.KernelMixOutFwd.τ).loc Cert.KernelMixOutFwd.main_arg1)
      ∧ r.2.mem ((c.tc : Thread Cert.KernelMixOutFwd.nD Cert.KernelMixOutFwd.τ).loc Cert.KernelMixOutFwd.main_arg2) = m ((c.tc : Thread Cert.KernelMixOutFwd.nD Cert.KernelMixOutFwd.τ).loc Cert.KernelMixOutFwd.main_arg2)
      ∧ r.2.mem ((c.tc : Thread Cert.KernelMixOutFwd.nD Cert.KernelMixOutFwd.τ).loc Cert.KernelMixOutFwd.main_arg3) = m ((c.tc : Thread Cert.KernelMixOutFwd.nD Cert.KernelMixOutFwd.τ).loc Cert.KernelMixOutFwd.main_arg3)
      ∧ r.2.mem ((c.tc : Thread Cert.KernelMixOutFwd.nD Cert.KernelMixOutFwd.τ).loc Cert.KernelMixOutFwd.main_arg4) = m ((c.tc : Thread Cert.KernelMixOutFwd.nD Cert.KernelMixOutFwd.τ).loc Cert.KernelMixOutFwd.main_arg4))
      ∧ r.2.sem = fun _ => 0)

def quiescent_KernelMixOutFwdIdeal [hKernelMixOutFwdIdeal : Cert.KernelMixOutFwdIdeal.Facts] : Prop :=
  ∀ (m : (ℓ : Loc Cert.KernelMixOutFwdIdeal.nD Cert.KernelMixOutFwdIdeal.τ Cert.KernelMixOutFwdIdeal.sig) → Buf (Elt Ideal) ℓ) (g : Dev Cert.KernelMixOutFwdIdeal.nD → PrngReg), Pre_KernelMixOutFwdIdeal m →
    θ_run (Cert.KernelMixOutFwdIdeal.defs (F := Ideal)) (onTc (τ := Cert.KernelMixOutFwdIdeal.τ) (Cert.KernelMixOutFwdIdeal.main (F := Ideal))) ⟨m, fun _ => 0, g⟩ (fun r => (∀ c : Dev Cert.KernelMixOutFwdIdeal.nD,
      r.2.mem ((c.tc : Thread Cert.KernelMixOutFwdIdeal.nD Cert.KernelMixOutFwdIdeal.τ).loc Cert.KernelMixOutFwdIdeal.main_arg0) = m ((c.tc : Thread Cert.KernelMixOutFwdIdeal.nD Cert.KernelMixOutFwdIdeal.τ).loc Cert.KernelMixOutFwdIdeal.main_arg0)
      ∧ r.2.mem ((c.tc : Thread Cert.KernelMixOutFwdIdeal.nD Cert.KernelMixOutFwdIdeal.τ).loc Cert.KernelMixOutFwdIdeal.main_arg1) = m ((c.tc : Thread Cert.KernelMixOutFwdIdeal.nD Cert.KernelMixOutFwdIdeal.τ).loc Cert.KernelMixOutFwdIdeal.main_arg1)
      ∧ r.2.mem ((c.tc : Thread Cert.KernelMixOutFwdIdeal.nD Cert.KernelMixOutFwdIdeal.τ).loc Cert.KernelMixOutFwdIdeal.main_arg2) = m ((c.tc : Thread Cert.KernelMixOutFwdIdeal.nD Cert.KernelMixOutFwdIdeal.τ).loc Cert.KernelMixOutFwdIdeal.main_arg2)
      ∧ r.2.mem ((c.tc : Thread Cert.KernelMixOutFwdIdeal.nD Cert.KernelMixOutFwdIdeal.τ).loc Cert.KernelMixOutFwdIdeal.main_arg3) = m ((c.tc : Thread Cert.KernelMixOutFwdIdeal.nD Cert.KernelMixOutFwdIdeal.τ).loc Cert.KernelMixOutFwdIdeal.main_arg3)
      ∧ r.2.mem ((c.tc : Thread Cert.KernelMixOutFwdIdeal.nD Cert.KernelMixOutFwdIdeal.τ).loc Cert.KernelMixOutFwdIdeal.main_arg4) = m ((c.tc : Thread Cert.KernelMixOutFwdIdeal.nD Cert.KernelMixOutFwdIdeal.τ).loc Cert.KernelMixOutFwdIdeal.main_arg4))
      ∧ r.2.sem = fun _ => 0)

def quiescent_ReferenceMixOutFwdIdeal [hReferenceMixOutFwdIdeal : Cert.ReferenceMixOutFwdIdeal.Facts] : Prop :=
  ∀ (m : (ℓ : Loc Cert.ReferenceMixOutFwdIdeal.nD Cert.ReferenceMixOutFwdIdeal.τ Cert.ReferenceMixOutFwdIdeal.sig) → Buf (Elt Ideal) ℓ) (g : Dev Cert.ReferenceMixOutFwdIdeal.nD → PrngReg), Pre_ReferenceMixOutFwdIdeal m →
    θ_run (Cert.ReferenceMixOutFwdIdeal.defs (F := Ideal)) (onTc (τ := Cert.ReferenceMixOutFwdIdeal.τ) (Cert.ReferenceMixOutFwdIdeal.main (F := Ideal))) ⟨m, fun _ => 0, g⟩ (fun r => (∀ c : Dev Cert.ReferenceMixOutFwdIdeal.nD,
      r.2.mem ((c.tc : Thread Cert.ReferenceMixOutFwdIdeal.nD Cert.ReferenceMixOutFwdIdeal.τ).loc Cert.ReferenceMixOutFwdIdeal.main_arg0) = m ((c.tc : Thread Cert.ReferenceMixOutFwdIdeal.nD Cert.ReferenceMixOutFwdIdeal.τ).loc Cert.ReferenceMixOutFwdIdeal.main_arg0)
      ∧ r.2.mem ((c.tc : Thread Cert.ReferenceMixOutFwdIdeal.nD Cert.ReferenceMixOutFwdIdeal.τ).loc Cert.ReferenceMixOutFwdIdeal.main_arg1) = m ((c.tc : Thread Cert.ReferenceMixOutFwdIdeal.nD Cert.ReferenceMixOutFwdIdeal.τ).loc Cert.ReferenceMixOutFwdIdeal.main_arg1)
      ∧ r.2.mem ((c.tc : Thread Cert.ReferenceMixOutFwdIdeal.nD Cert.ReferenceMixOutFwdIdeal.τ).loc Cert.ReferenceMixOutFwdIdeal.main_arg2) = m ((c.tc : Thread Cert.ReferenceMixOutFwdIdeal.nD Cert.ReferenceMixOutFwdIdeal.τ).loc Cert.ReferenceMixOutFwdIdeal.main_arg2)
      ∧ r.2.mem ((c.tc : Thread Cert.ReferenceMixOutFwdIdeal.nD Cert.ReferenceMixOutFwdIdeal.τ).loc Cert.ReferenceMixOutFwdIdeal.main_arg3) = m ((c.tc : Thread Cert.ReferenceMixOutFwdIdeal.nD Cert.ReferenceMixOutFwdIdeal.τ).loc Cert.ReferenceMixOutFwdIdeal.main_arg3)
      ∧ r.2.mem ((c.tc : Thread Cert.ReferenceMixOutFwdIdeal.nD Cert.ReferenceMixOutFwdIdeal.τ).loc Cert.ReferenceMixOutFwdIdeal.main_arg4) = m ((c.tc : Thread Cert.ReferenceMixOutFwdIdeal.nD Cert.ReferenceMixOutFwdIdeal.τ).loc Cert.ReferenceMixOutFwdIdeal.main_arg4))
      ∧ r.2.sem = fun _ => 0)

def quiescent_KernelFfnFwd [hKernelFfnFwd : Cert.KernelFfnFwd.Facts] : Prop :=
  ∀ (m : (ℓ : Loc Cert.KernelFfnFwd.nD Cert.KernelFfnFwd.τ Cert.KernelFfnFwd.sig) → Buf (Elt Bits) ℓ) (g : Dev Cert.KernelFfnFwd.nD → PrngReg), Pre_KernelFfnFwd m →
    θ_run (Cert.KernelFfnFwd.defs (F := Bits)) (onTc (τ := Cert.KernelFfnFwd.τ) (Cert.KernelFfnFwd.main (F := Bits))) ⟨m, fun _ => 0, g⟩ (fun r => (∀ c : Dev Cert.KernelFfnFwd.nD,
      r.2.mem ((c.tc : Thread Cert.KernelFfnFwd.nD Cert.KernelFfnFwd.τ).loc Cert.KernelFfnFwd.main_arg0) = m ((c.tc : Thread Cert.KernelFfnFwd.nD Cert.KernelFfnFwd.τ).loc Cert.KernelFfnFwd.main_arg0)
      ∧ r.2.mem ((c.tc : Thread Cert.KernelFfnFwd.nD Cert.KernelFfnFwd.τ).loc Cert.KernelFfnFwd.main_arg1) = m ((c.tc : Thread Cert.KernelFfnFwd.nD Cert.KernelFfnFwd.τ).loc Cert.KernelFfnFwd.main_arg1)
      ∧ r.2.mem ((c.tc : Thread Cert.KernelFfnFwd.nD Cert.KernelFfnFwd.τ).loc Cert.KernelFfnFwd.main_arg2) = m ((c.tc : Thread Cert.KernelFfnFwd.nD Cert.KernelFfnFwd.τ).loc Cert.KernelFfnFwd.main_arg2)
      ∧ r.2.mem ((c.tc : Thread Cert.KernelFfnFwd.nD Cert.KernelFfnFwd.τ).loc Cert.KernelFfnFwd.main_arg3) = m ((c.tc : Thread Cert.KernelFfnFwd.nD Cert.KernelFfnFwd.τ).loc Cert.KernelFfnFwd.main_arg3))
      ∧ r.2.sem = fun _ => 0)

def quiescent_KernelFfnFwdIdeal [hKernelFfnFwdIdeal : Cert.KernelFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg), Pre_KernelFfnFwdIdeal m →
    θ_run (Cert.KernelFfnFwdIdeal.defs (F := Ideal)) (onTc (τ := Cert.KernelFfnFwdIdeal.τ) (Cert.KernelFfnFwdIdeal.main (F := Ideal))) ⟨m, fun _ => 0, g⟩ (fun r => (∀ c : Dev Cert.KernelFfnFwdIdeal.nD,
      r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
      ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
      ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
      ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3))
      ∧ r.2.sem = fun _ => 0)

def quiescent_ReferenceFfnFwdIdeal [hReferenceFfnFwdIdeal : Cert.ReferenceFfnFwdIdeal.Facts] : Prop :=
  ∀ (m : (ℓ : Loc Cert.ReferenceFfnFwdIdeal.nD Cert.ReferenceFfnFwdIdeal.τ Cert.ReferenceFfnFwdIdeal.sig) → Buf (Elt Ideal) ℓ) (g : Dev Cert.ReferenceFfnFwdIdeal.nD → PrngReg), Pre_ReferenceFfnFwdIdeal m →
    θ_run (Cert.ReferenceFfnFwdIdeal.defs (F := Ideal)) (onTc (τ := Cert.ReferenceFfnFwdIdeal.τ) (Cert.ReferenceFfnFwdIdeal.main (F := Ideal))) ⟨m, fun _ => 0, g⟩ (fun r => (∀ c : Dev Cert.ReferenceFfnFwdIdeal.nD,
      r.2.mem ((c.tc : Thread Cert.ReferenceFfnFwdIdeal.nD Cert.ReferenceFfnFwdIdeal.τ).loc Cert.ReferenceFfnFwdIdeal.main_arg0) = m ((c.tc : Thread Cert.ReferenceFfnFwdIdeal.nD Cert.ReferenceFfnFwdIdeal.τ).loc Cert.ReferenceFfnFwdIdeal.main_arg0)
      ∧ r.2.mem ((c.tc : Thread Cert.ReferenceFfnFwdIdeal.nD Cert.ReferenceFfnFwdIdeal.τ).loc Cert.ReferenceFfnFwdIdeal.main_arg1) = m ((c.tc : Thread Cert.ReferenceFfnFwdIdeal.nD Cert.ReferenceFfnFwdIdeal.τ).loc Cert.ReferenceFfnFwdIdeal.main_arg1)
      ∧ r.2.mem ((c.tc : Thread Cert.ReferenceFfnFwdIdeal.nD Cert.ReferenceFfnFwdIdeal.τ).loc Cert.ReferenceFfnFwdIdeal.main_arg2) = m ((c.tc : Thread Cert.ReferenceFfnFwdIdeal.nD Cert.ReferenceFfnFwdIdeal.τ).loc Cert.ReferenceFfnFwdIdeal.main_arg2)
      ∧ r.2.mem ((c.tc : Thread Cert.ReferenceFfnFwdIdeal.nD Cert.ReferenceFfnFwdIdeal.τ).loc Cert.ReferenceFfnFwdIdeal.main_arg3) = m ((c.tc : Thread Cert.ReferenceFfnFwdIdeal.nD Cert.ReferenceFfnFwdIdeal.τ).loc Cert.ReferenceFfnFwdIdeal.main_arg3))
      ∧ r.2.sem = fun _ => 0)

def quiescent_KernelMixProj [hKernelMixProj : Cert.KernelMixProj.Facts] : Prop :=
  ∀ (m : (ℓ : Loc Cert.KernelMixProj.nD Cert.KernelMixProj.τ Cert.KernelMixProj.sig) → Buf (Elt Bits) ℓ) (g : Dev Cert.KernelMixProj.nD → PrngReg), Pre_KernelMixProj m →
    θ_run (Cert.KernelMixProj.defs (F := Bits)) (onTc (τ := Cert.KernelMixProj.τ) (Cert.KernelMixProj.main (F := Bits))) ⟨m, fun _ => 0, g⟩ (fun r => (∀ c : Dev Cert.KernelMixProj.nD,
      r.2.mem ((c.tc : Thread Cert.KernelMixProj.nD Cert.KernelMixProj.τ).loc Cert.KernelMixProj.main_arg0) = m ((c.tc : Thread Cert.KernelMixProj.nD Cert.KernelMixProj.τ).loc Cert.KernelMixProj.main_arg0)
      ∧ r.2.mem ((c.tc : Thread Cert.KernelMixProj.nD Cert.KernelMixProj.τ).loc Cert.KernelMixProj.main_arg1) = m ((c.tc : Thread Cert.KernelMixProj.nD Cert.KernelMixProj.τ).loc Cert.KernelMixProj.main_arg1)
      ∧ r.2.mem ((c.tc : Thread Cert.KernelMixProj.nD Cert.KernelMixProj.τ).loc Cert.KernelMixProj.main_arg2) = m ((c.tc : Thread Cert.KernelMixProj.nD Cert.KernelMixProj.τ).loc Cert.KernelMixProj.main_arg2))
      ∧ r.2.sem = fun _ => 0)

def quiescent_KernelMixProjIdeal [hKernelMixProjIdeal : Cert.KernelMixProjIdeal.Facts] : Prop :=
  ∀ (m : (ℓ : Loc Cert.KernelMixProjIdeal.nD Cert.KernelMixProjIdeal.τ Cert.KernelMixProjIdeal.sig) → Buf (Elt Ideal) ℓ) (g : Dev Cert.KernelMixProjIdeal.nD → PrngReg), Pre_KernelMixProjIdeal m →
    θ_run (Cert.KernelMixProjIdeal.defs (F := Ideal)) (onTc (τ := Cert.KernelMixProjIdeal.τ) (Cert.KernelMixProjIdeal.main (F := Ideal))) ⟨m, fun _ => 0, g⟩ (fun r => (∀ c : Dev Cert.KernelMixProjIdeal.nD,
      r.2.mem ((c.tc : Thread Cert.KernelMixProjIdeal.nD Cert.KernelMixProjIdeal.τ).loc Cert.KernelMixProjIdeal.main_arg0) = m ((c.tc : Thread Cert.KernelMixProjIdeal.nD Cert.KernelMixProjIdeal.τ).loc Cert.KernelMixProjIdeal.main_arg0)
      ∧ r.2.mem ((c.tc : Thread Cert.KernelMixProjIdeal.nD Cert.KernelMixProjIdeal.τ).loc Cert.KernelMixProjIdeal.main_arg1) = m ((c.tc : Thread Cert.KernelMixProjIdeal.nD Cert.KernelMixProjIdeal.τ).loc Cert.KernelMixProjIdeal.main_arg1)
      ∧ r.2.mem ((c.tc : Thread Cert.KernelMixProjIdeal.nD Cert.KernelMixProjIdeal.τ).loc Cert.KernelMixProjIdeal.main_arg2) = m ((c.tc : Thread Cert.KernelMixProjIdeal.nD Cert.KernelMixProjIdeal.τ).loc Cert.KernelMixProjIdeal.main_arg2))
      ∧ r.2.sem = fun _ => 0)

def quiescent_ReferenceMixProjIdeal [hReferenceMixProjIdeal : Cert.ReferenceMixProjIdeal.Facts] : Prop :=
  ∀ (m : (ℓ : Loc Cert.ReferenceMixProjIdeal.nD Cert.ReferenceMixProjIdeal.τ Cert.ReferenceMixProjIdeal.sig) → Buf (Elt Ideal) ℓ) (g : Dev Cert.ReferenceMixProjIdeal.nD → PrngReg), Pre_ReferenceMixProjIdeal m →
    θ_run (Cert.ReferenceMixProjIdeal.defs (F := Ideal)) (onTc (τ := Cert.ReferenceMixProjIdeal.τ) (Cert.ReferenceMixProjIdeal.main (F := Ideal))) ⟨m, fun _ => 0, g⟩ (fun r => (∀ c : Dev Cert.ReferenceMixProjIdeal.nD,
      r.2.mem ((c.tc : Thread Cert.ReferenceMixProjIdeal.nD Cert.ReferenceMixProjIdeal.τ).loc Cert.ReferenceMixProjIdeal.main_arg0) = m ((c.tc : Thread Cert.ReferenceMixProjIdeal.nD Cert.ReferenceMixProjIdeal.τ).loc Cert.ReferenceMixProjIdeal.main_arg0)
      ∧ r.2.mem ((c.tc : Thread Cert.ReferenceMixProjIdeal.nD Cert.ReferenceMixProjIdeal.τ).loc Cert.ReferenceMixProjIdeal.main_arg1) = m ((c.tc : Thread Cert.ReferenceMixProjIdeal.nD Cert.ReferenceMixProjIdeal.τ).loc Cert.ReferenceMixProjIdeal.main_arg1)
      ∧ r.2.mem ((c.tc : Thread Cert.ReferenceMixProjIdeal.nD Cert.ReferenceMixProjIdeal.τ).loc Cert.ReferenceMixProjIdeal.main_arg2) = m ((c.tc : Thread Cert.ReferenceMixProjIdeal.nD Cert.ReferenceMixProjIdeal.τ).loc Cert.ReferenceMixProjIdeal.main_arg2))
      ∧ r.2.sem = fun _ => 0)

def quiescent_KernelMemKv [hKernelMemKv : Cert.KernelMemKv.Facts] : Prop :=
  ∀ (m : (ℓ : Loc Cert.KernelMemKv.nD Cert.KernelMemKv.τ Cert.KernelMemKv.sig) → Buf (Elt Bits) ℓ) (g : Dev Cert.KernelMemKv.nD → PrngReg), Pre_KernelMemKv m →
    θ_run (Cert.KernelMemKv.defs (F := Bits)) (onTc (τ := Cert.KernelMemKv.τ) (Cert.KernelMemKv.main (F := Bits))) ⟨m, fun _ => 0, g⟩ (fun r => (∀ c : Dev Cert.KernelMemKv.nD,
      r.2.mem ((c.tc : Thread Cert.KernelMemKv.nD Cert.KernelMemKv.τ).loc Cert.KernelMemKv.main_arg0) = m ((c.tc : Thread Cert.KernelMemKv.nD Cert.KernelMemKv.τ).loc Cert.KernelMemKv.main_arg0)
      ∧ r.2.mem ((c.tc : Thread Cert.KernelMemKv.nD Cert.KernelMemKv.τ).loc Cert.KernelMemKv.main_arg1) = m ((c.tc : Thread Cert.KernelMemKv.nD Cert.KernelMemKv.τ).loc Cert.KernelMemKv.main_arg1)
      ∧ r.2.mem ((c.tc : Thread Cert.KernelMemKv.nD Cert.KernelMemKv.τ).loc Cert.KernelMemKv.main_arg2) = m ((c.tc : Thread Cert.KernelMemKv.nD Cert.KernelMemKv.τ).loc Cert.KernelMemKv.main_arg2))
      ∧ r.2.sem = fun _ => 0)

def quiescent_KernelMemKvIdeal [hKernelMemKvIdeal : Cert.KernelMemKvIdeal.Facts] : Prop :=
  ∀ (m : (ℓ : Loc Cert.KernelMemKvIdeal.nD Cert.KernelMemKvIdeal.τ Cert.KernelMemKvIdeal.sig) → Buf (Elt Ideal) ℓ) (g : Dev Cert.KernelMemKvIdeal.nD → PrngReg), Pre_KernelMemKvIdeal m →
    θ_run (Cert.KernelMemKvIdeal.defs (F := Ideal)) (onTc (τ := Cert.KernelMemKvIdeal.τ) (Cert.KernelMemKvIdeal.main (F := Ideal))) ⟨m, fun _ => 0, g⟩ (fun r => (∀ c : Dev Cert.KernelMemKvIdeal.nD,
      r.2.mem ((c.tc : Thread Cert.KernelMemKvIdeal.nD Cert.KernelMemKvIdeal.τ).loc Cert.KernelMemKvIdeal.main_arg0) = m ((c.tc : Thread Cert.KernelMemKvIdeal.nD Cert.KernelMemKvIdeal.τ).loc Cert.KernelMemKvIdeal.main_arg0)
      ∧ r.2.mem ((c.tc : Thread Cert.KernelMemKvIdeal.nD Cert.KernelMemKvIdeal.τ).loc Cert.KernelMemKvIdeal.main_arg1) = m ((c.tc : Thread Cert.KernelMemKvIdeal.nD Cert.KernelMemKvIdeal.τ).loc Cert.KernelMemKvIdeal.main_arg1)
      ∧ r.2.mem ((c.tc : Thread Cert.KernelMemKvIdeal.nD Cert.KernelMemKvIdeal.τ).loc Cert.KernelMemKvIdeal.main_arg2) = m ((c.tc : Thread Cert.KernelMemKvIdeal.nD Cert.KernelMemKvIdeal.τ).loc Cert.KernelMemKvIdeal.main_arg2))
      ∧ r.2.sem = fun _ => 0)

def quiescent_ReferenceMemKvIdeal [hReferenceMemKvIdeal : Cert.ReferenceMemKvIdeal.Facts] : Prop :=
  ∀ (m : (ℓ : Loc Cert.ReferenceMemKvIdeal.nD Cert.ReferenceMemKvIdeal.τ Cert.ReferenceMemKvIdeal.sig) → Buf (Elt Ideal) ℓ) (g : Dev Cert.ReferenceMemKvIdeal.nD → PrngReg), Pre_ReferenceMemKvIdeal m →
    θ_run (Cert.ReferenceMemKvIdeal.defs (F := Ideal)) (onTc (τ := Cert.ReferenceMemKvIdeal.τ) (Cert.ReferenceMemKvIdeal.main (F := Ideal))) ⟨m, fun _ => 0, g⟩ (fun r => (∀ c : Dev Cert.ReferenceMemKvIdeal.nD,
      r.2.mem ((c.tc : Thread Cert.ReferenceMemKvIdeal.nD Cert.ReferenceMemKvIdeal.τ).loc Cert.ReferenceMemKvIdeal.main_arg0) = m ((c.tc : Thread Cert.ReferenceMemKvIdeal.nD Cert.ReferenceMemKvIdeal.τ).loc Cert.ReferenceMemKvIdeal.main_arg0)
      ∧ r.2.mem ((c.tc : Thread Cert.ReferenceMemKvIdeal.nD Cert.ReferenceMemKvIdeal.τ).loc Cert.ReferenceMemKvIdeal.main_arg1) = m ((c.tc : Thread Cert.ReferenceMemKvIdeal.nD Cert.ReferenceMemKvIdeal.τ).loc Cert.ReferenceMemKvIdeal.main_arg1)
      ∧ r.2.mem ((c.tc : Thread Cert.ReferenceMemKvIdeal.nD Cert.ReferenceMemKvIdeal.τ).loc Cert.ReferenceMemKvIdeal.main_arg2) = m ((c.tc : Thread Cert.ReferenceMemKvIdeal.nD Cert.ReferenceMemKvIdeal.τ).loc Cert.ReferenceMemKvIdeal.main_arg2))
      ∧ r.2.sem = fun _ => 0)

def preserves_KernelMixIn_KernelMixInIdeal : Prop :=
  True

def algebraic_KernelMixInIdeal_ReferenceMixInIdeal_pre_finite_mix_in [hKernelMixInIdeal : Cert.KernelMixInIdeal.Facts] [hReferenceMixInIdeal : Cert.ReferenceMixInIdeal.Facts] [hPre_finite_mix_in : Cert.Pre_finite_mix_in.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg)
    (m' : (ℓ : Loc Cert.ReferenceMixInIdeal.nD Cert.ReferenceMixInIdeal.τ Cert.ReferenceMixInIdeal.sig) → Buf (Elt Ideal) ℓ) (g' : Dev Cert.ReferenceMixInIdeal.nD → PrngReg), Pre_KernelMixInIdeal_finite_mix_in m →
    (∀ c : Dev Cert.KernelMixInIdeal.nD,
      m' ((c.tc : Thread Cert.ReferenceMixInIdeal.nD Cert.ReferenceMixInIdeal.τ).loc Cert.ReferenceMixInIdeal.main_arg0) = m ((c.tc : Thread Cert.KernelMixInIdeal.nD Cert.KernelMixInIdeal.τ).loc Cert.KernelMixInIdeal.main_arg0)
      ∧ m' ((c.tc : Thread Cert.ReferenceMixInIdeal.nD Cert.ReferenceMixInIdeal.τ).loc Cert.ReferenceMixInIdeal.main_arg1) = m ((c.tc : Thread Cert.KernelMixInIdeal.nD Cert.KernelMixInIdeal.τ).loc Cert.KernelMixInIdeal.main_arg1)
      ∧ m' ((c.tc : Thread Cert.ReferenceMixInIdeal.nD Cert.ReferenceMixInIdeal.τ).loc Cert.ReferenceMixInIdeal.main_arg2) = m ((c.tc : Thread Cert.KernelMixInIdeal.nD Cert.KernelMixInIdeal.τ).loc Cert.KernelMixInIdeal.main_arg2)
      ∧ m' ((c.tc : Thread Cert.ReferenceMixInIdeal.nD Cert.ReferenceMixInIdeal.τ).loc Cert.ReferenceMixInIdeal.main_arg3) = m ((c.tc : Thread Cert.KernelMixInIdeal.nD Cert.KernelMixInIdeal.τ).loc Cert.KernelMixInIdeal.main_arg3)
      ∧ m' ((c.tc : Thread Cert.ReferenceMixInIdeal.nD Cert.ReferenceMixInIdeal.τ).loc Cert.ReferenceMixInIdeal.main_arg4) = m ((c.tc : Thread Cert.KernelMixInIdeal.nD Cert.KernelMixInIdeal.τ).loc Cert.KernelMixInIdeal.main_arg4)) →
    ∃ (v0 : (c : Dev Cert.KernelMixInIdeal.nD) → Buf (Elt Ideal) ((c.tc : Thread Cert.KernelMixInIdeal.nD Cert.KernelMixInIdeal.τ).loc Cert.KernelMixInIdeal.main_v6_0)) (v1 : (c : Dev Cert.KernelMixInIdeal.nD) → Buf (Elt Ideal) ((c.tc : Thread Cert.KernelMixInIdeal.nD Cert.KernelMixInIdeal.τ).loc Cert.KernelMixInIdeal.main_v6_1)) (v2 : (c : Dev Cert.KernelMixInIdeal.nD) → Buf (Elt Ideal) ((c.tc : Thread Cert.KernelMixInIdeal.nD Cert.KernelMixInIdeal.τ).loc Cert.KernelMixInIdeal.main_v6_2)),
      θ_run (Cert.KernelMixInIdeal.defs (F := Ideal)) (onTc (τ := Cert.KernelMixInIdeal.τ) (Cert.KernelMixInIdeal.main (F := Ideal))) ⟨m, fun _ => 0, g⟩ (fun r => ∀ c : Dev Cert.KernelMixInIdeal.nD,
          r.2.mem ((c.tc : Thread Cert.KernelMixInIdeal.nD Cert.KernelMixInIdeal.τ).loc Cert.KernelMixInIdeal.main_v6_0) = v0 c
          ∧ r.2.mem ((c.tc : Thread Cert.KernelMixInIdeal.nD Cert.KernelMixInIdeal.τ).loc Cert.KernelMixInIdeal.main_v6_1) = v1 c
          ∧ r.2.mem ((c.tc : Thread Cert.KernelMixInIdeal.nD Cert.KernelMixInIdeal.τ).loc Cert.KernelMixInIdeal.main_v6_2) = v2 c
          ∧ r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
          ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
          ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
          ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3)
          ∧ r.2.mem ((c.tc : Thread Cert.KernelMixInIdeal.nD Cert.KernelMixInIdeal.τ).loc Cert.KernelMixInIdeal.main_arg4) = m ((c.tc : Thread Cert.KernelMixInIdeal.nD Cert.KernelMixInIdeal.τ).loc Cert.KernelMixInIdeal.main_arg4))
      ∧ θ_run (Cert.ReferenceMixInIdeal.defs (F := Ideal)) (onTc (τ := Cert.ReferenceMixInIdeal.τ) (Cert.ReferenceMixInIdeal.main (F := Ideal))) ⟨m', fun _ => 0, g'⟩ (fun r => ∀ c : Dev Cert.ReferenceMixInIdeal.nD,
          r.2.mem ((c.tc : Thread Cert.ReferenceMixInIdeal.nD Cert.ReferenceMixInIdeal.τ).loc Cert.ReferenceMixInIdeal.main_v43) = v0 c
          ∧ r.2.mem ((c.tc : Thread Cert.ReferenceMixInIdeal.nD Cert.ReferenceMixInIdeal.τ).loc Cert.ReferenceMixInIdeal.main_v44) = v1 c
          ∧ r.2.mem ((c.tc : Thread Cert.ReferenceMixInIdeal.nD Cert.ReferenceMixInIdeal.τ).loc Cert.ReferenceMixInIdeal.main_v62) = v2 c
          ∧ r.2.mem ((c.tc : Thread Cert.ReferenceMixInIdeal.nD Cert.ReferenceMixInIdeal.τ).loc Cert.ReferenceMixInIdeal.main_arg0) = m' ((c.tc : Thread Cert.ReferenceMixInIdeal.nD Cert.ReferenceMixInIdeal.τ).loc Cert.ReferenceMixInIdeal.main_arg0)
          ∧ r.2.mem ((c.tc : Thread Cert.ReferenceMixInIdeal.nD Cert.ReferenceMixInIdeal.τ).loc Cert.ReferenceMixInIdeal.main_arg1) = m' ((c.tc : Thread Cert.ReferenceMixInIdeal.nD Cert.ReferenceMixInIdeal.τ).loc Cert.ReferenceMixInIdeal.main_arg1)
          ∧ r.2.mem ((c.tc : Thread Cert.ReferenceMixInIdeal.nD Cert.ReferenceMixInIdeal.τ).loc Cert.ReferenceMixInIdeal.main_arg2) = m' ((c.tc : Thread Cert.ReferenceMixInIdeal.nD Cert.ReferenceMixInIdeal.τ).loc Cert.ReferenceMixInIdeal.main_arg2)
          ∧ r.2.mem ((c.tc : Thread Cert.ReferenceMixInIdeal.nD Cert.ReferenceMixInIdeal.τ).loc Cert.ReferenceMixInIdeal.main_arg3) = m' ((c.tc : Thread Cert.ReferenceMixInIdeal.nD Cert.ReferenceMixInIdeal.τ).loc Cert.ReferenceMixInIdeal.main_arg3)
          ∧ r.2.mem ((c.tc : Thread Cert.ReferenceMixInIdeal.nD Cert.ReferenceMixInIdeal.τ).loc Cert.ReferenceMixInIdeal.main_arg4) = m' ((c.tc : Thread Cert.ReferenceMixInIdeal.nD Cert.ReferenceMixInIdeal.τ).loc Cert.ReferenceMixInIdeal.main_arg4))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v27_0)) (v1 : (c : Dev Cert.KernelFfnIdeal.nD) → Buf (Elt Ideal) ((c.tc : Thread Cert.KernelFfnIdeal.nD Cert.KernelFfnIdeal.τ).loc Cert.KernelFfnIdeal.main_v27_1)) (v2 : (c : Dev Cert.KernelFfnIdeal.nD) → Buf (Elt Ideal) ((c.tc : Thread Cert.KernelFfnIdeal.nD Cert.KernelFfnIdeal.τ).loc Cert.KernelFfnIdeal.main_v27_2)) (v3 : (c : Dev Cert.KernelFfnIdeal.nD) → Buf (Elt Ideal) ((c.tc : Thread Cert.KernelFfnIdeal.nD Cert.KernelFfnIdeal.τ).loc Cert.KernelFfnIdeal.main_v27_3)) (v4 : (c : Dev Cert.KernelFfnIdeal.nD) → Buf (Elt Ideal) ((c.tc : Thread Cert.KernelFfnIdeal.nD Cert.KernelFfnIdeal.τ).loc Cert.KernelFfnIdeal.main_v27_4)) (v5 : (c : Dev Cert.KernelFfnIdeal.nD) → Buf (Elt Ideal) ((c.tc : Thread Cert.KernelFfnIdeal.nD Cert.KernelFfnIdeal.τ).loc Cert.KernelFfnIdeal.main_v27_5)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v27_0) = v0 c
          ∧ r.2.mem ((c.tc : Thread Cert.KernelFfnIdeal.nD Cert.KernelFfnIdeal.τ).loc Cert.KernelFfnIdeal.main_v27_1) = v1 c
          ∧ r.2.mem ((c.tc : Thread Cert.KernelFfnIdeal.nD Cert.KernelFfnIdeal.τ).loc Cert.KernelFfnIdeal.main_v27_2) = v2 c
          ∧ r.2.mem ((c.tc : Thread Cert.KernelFfnIdeal.nD Cert.KernelFfnIdeal.τ).loc Cert.KernelFfnIdeal.main_v27_3) = v3 c
          ∧ r.2.mem ((c.tc : Thread Cert.KernelFfnIdeal.nD Cert.KernelFfnIdeal.τ).loc Cert.KernelFfnIdeal.main_v27_4) = v4 c
          ∧ r.2.mem ((c.tc : Thread Cert.KernelFfnIdeal.nD Cert.KernelFfnIdeal.τ).loc Cert.KernelFfnIdeal.main_v27_5) = v5 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v62) = v0 c
          ∧ r.2.mem ((c.tc : Thread Cert.ReferenceFfnIdeal.nD Cert.ReferenceFfnIdeal.τ).loc Cert.ReferenceFfnIdeal.main_v63) = v1 c
          ∧ r.2.mem ((c.tc : Thread Cert.ReferenceFfnIdeal.nD Cert.ReferenceFfnIdeal.τ).loc Cert.ReferenceFfnIdeal.main_v64) = v2 c
          ∧ r.2.mem ((c.tc : Thread Cert.ReferenceFfnIdeal.nD Cert.ReferenceFfnIdeal.τ).loc Cert.ReferenceFfnIdeal.main_v65) = v3 c
          ∧ r.2.mem ((c.tc : Thread Cert.ReferenceFfnIdeal.nD Cert.ReferenceFfnIdeal.τ).loc Cert.ReferenceFfnIdeal.main_v66) = v4 c
          ∧ r.2.mem ((c.tc : Thread Cert.ReferenceFfnIdeal.nD Cert.ReferenceFfnIdeal.τ).loc Cert.ReferenceFfnIdeal.main_v67) = v5 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelXattn_KernelXattnIdeal : Prop :=
  True

def algebraic_KernelXattnIdeal_ReferenceXattnIdeal_pre_finite_xattn [hKernelXattnIdeal : Cert.KernelXattnIdeal.Facts] [hReferenceXattnIdeal : Cert.ReferenceXattnIdeal.Facts] [hPre_finite_xattn : Cert.Pre_finite_xattn.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg)
    (m' : (ℓ : Loc Cert.ReferenceXattnIdeal.nD Cert.ReferenceXattnIdeal.τ Cert.ReferenceXattnIdeal.sig) → Buf (Elt Ideal) ℓ) (g' : Dev Cert.ReferenceXattnIdeal.nD → PrngReg), Pre_KernelXattnIdeal_finite_xattn m →
    (∀ c : Dev Cert.KernelXattnIdeal.nD,
      m' ((c.tc : Thread Cert.ReferenceXattnIdeal.nD Cert.ReferenceXattnIdeal.τ).loc Cert.ReferenceXattnIdeal.main_arg0) = m ((c.tc : Thread Cert.KernelXattnIdeal.nD Cert.KernelXattnIdeal.τ).loc Cert.KernelXattnIdeal.main_arg0)
      ∧ m' ((c.tc : Thread Cert.ReferenceXattnIdeal.nD Cert.ReferenceXattnIdeal.τ).loc Cert.ReferenceXattnIdeal.main_arg1) = m ((c.tc : Thread Cert.KernelXattnIdeal.nD Cert.KernelXattnIdeal.τ).loc Cert.KernelXattnIdeal.main_arg1)
      ∧ m' ((c.tc : Thread Cert.ReferenceXattnIdeal.nD Cert.ReferenceXattnIdeal.τ).loc Cert.ReferenceXattnIdeal.main_arg2) = m ((c.tc : Thread Cert.KernelXattnIdeal.nD Cert.KernelXattnIdeal.τ).loc Cert.KernelXattnIdeal.main_arg2)
      ∧ m' ((c.tc : Thread Cert.ReferenceXattnIdeal.nD Cert.ReferenceXattnIdeal.τ).loc Cert.ReferenceXattnIdeal.main_arg3) = m ((c.tc : Thread Cert.KernelXattnIdeal.nD Cert.KernelXattnIdeal.τ).loc Cert.KernelXattnIdeal.main_arg3)
      ∧ m' ((c.tc : Thread Cert.ReferenceXattnIdeal.nD Cert.ReferenceXattnIdeal.τ).loc Cert.ReferenceXattnIdeal.main_arg4) = m ((c.tc : Thread Cert.KernelXattnIdeal.nD Cert.KernelXattnIdeal.τ).loc Cert.KernelXattnIdeal.main_arg4)
      ∧ m' ((c.tc : Thread Cert.ReferenceXattnIdeal.nD Cert.ReferenceXattnIdeal.τ).loc Cert.ReferenceXattnIdeal.main_arg5) = m ((c.tc : Thread Cert.KernelXattnIdeal.nD Cert.KernelXattnIdeal.τ).loc Cert.KernelXattnIdeal.main_arg5)
      ∧ m' ((c.tc : Thread Cert.ReferenceXattnIdeal.nD Cert.ReferenceXattnIdeal.τ).loc Cert.ReferenceXattnIdeal.main_arg6) = m ((c.tc : Thread Cert.KernelXattnIdeal.nD Cert.KernelXattnIdeal.τ).loc Cert.KernelXattnIdeal.main_arg6)
      ∧ m' ((c.tc : Thread Cert.ReferenceXattnIdeal.nD Cert.ReferenceXattnIdeal.τ).loc Cert.ReferenceXattnIdeal.main_arg7) = m ((c.tc : Thread Cert.KernelXattnIdeal.nD Cert.KernelXattnIdeal.τ).loc Cert.KernelXattnIdeal.main_arg7)) →
    ∃ (v0 : (c : Dev Cert.KernelXattnIdeal.nD) → Buf (Elt Ideal) ((c.tc : Thread Cert.KernelXattnIdeal.nD Cert.KernelXattnIdeal.τ).loc Cert.KernelXattnIdeal.main_v46_0)) (v1 : (c : Dev Cert.KernelXattnIdeal.nD) → Buf (Elt Ideal) ((c.tc : Thread Cert.KernelXattnIdeal.nD Cert.KernelXattnIdeal.τ).loc Cert.KernelXattnIdeal.main_v46_1)) (v2 : (c : Dev Cert.KernelXattnIdeal.nD) → Buf (Elt Ideal) ((c.tc : Thread Cert.KernelXattnIdeal.nD Cert.KernelXattnIdeal.τ).loc Cert.KernelXattnIdeal.main_v46_2)) (v3 : (c : Dev Cert.KernelXattnIdeal.nD) → Buf (Elt Ideal) ((c.tc : Thread Cert.KernelXattnIdeal.nD Cert.KernelXattnIdeal.τ).loc Cert.KernelXattnIdeal.main_v46_3)) (v4 : (c : Dev Cert.KernelXattnIdeal.nD) → Buf (Elt Ideal) ((c.tc : Thread Cert.KernelXattnIdeal.nD Cert.KernelXattnIdeal.τ).loc Cert.KernelXattnIdeal.main_v46_4)) (v5 : (c : Dev Cert.KernelXattnIdeal.nD) → Buf (Elt Ideal) ((c.tc : Thread Cert.KernelXattnIdeal.nD Cert.KernelXattnIdeal.τ).loc Cert.KernelXattnIdeal.main_v46_5)) (v6 : (c : Dev Cert.KernelXattnIdeal.nD) → Buf (Elt Ideal) ((c.tc : Thread Cert.KernelXattnIdeal.nD Cert.KernelXattnIdeal.τ).loc Cert.KernelXattnIdeal.main_v46_6)) (v7 : (c : Dev Cert.KernelXattnIdeal.nD) → Buf (Elt Ideal) ((c.tc : Thread Cert.KernelXattnIdeal.nD Cert.KernelXattnIdeal.τ).loc Cert.KernelXattnIdeal.main_v46_7)),
      θ_run (Cert.KernelXattnIdeal.defs (F := Ideal)) (onTc (τ := Cert.KernelXattnIdeal.τ) (Cert.KernelXattnIdeal.main (F := Ideal))) ⟨m, fun _ => 0, g⟩ (fun r => ∀ c : Dev Cert.KernelXattnIdeal.nD,
          r.2.mem ((c.tc : Thread Cert.KernelXattnIdeal.nD Cert.KernelXattnIdeal.τ).loc Cert.KernelXattnIdeal.main_v46_0) = v0 c
          ∧ r.2.mem ((c.tc : Thread Cert.KernelXattnIdeal.nD Cert.KernelXattnIdeal.τ).loc Cert.KernelXattnIdeal.main_v46_1) = v1 c
          ∧ r.2.mem ((c.tc : Thread Cert.KernelXattnIdeal.nD Cert.KernelXattnIdeal.τ).loc Cert.KernelXattnIdeal.main_v46_2) = v2 c
          ∧ r.2.mem ((c.tc : Thread Cert.KernelXattnIdeal.nD Cert.KernelXattnIdeal.τ).loc Cert.KernelXattnIdeal.main_v46_3) = v3 c
          ∧ r.2.mem ((c.tc : Thread Cert.KernelXattnIdeal.nD Cert.KernelXattnIdeal.τ).loc Cert.KernelXattnIdeal.main_v46_4) = v4 c
          ∧ r.2.mem ((c.tc : Thread Cert.KernelXattnIdeal.nD Cert.KernelXattnIdeal.τ).loc Cert.KernelXattnIdeal.main_v46_5) = v5 c
          ∧ r.2.mem ((c.tc : Thread Cert.KernelXattnIdeal.nD Cert.KernelXattnIdeal.τ).loc Cert.KernelXattnIdeal.main_v46_6) = v6 c
          ∧ r.2.mem ((c.tc : Thread Cert.KernelXattnIdeal.nD Cert.KernelXattnIdeal.τ).loc Cert.KernelXattnIdeal.main_v46_7) = v7 c
          ∧ r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
          ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1)
          ∧ r.2.mem ((c.tc : Thread Cert.KernelXattnIdeal.nD Cert.KernelXattnIdeal.τ).loc Cert.KernelXattnIdeal.main_arg2) = m ((c.tc : Thread Cert.KernelXattnIdeal.nD Cert.KernelXattnIdeal.τ).loc Cert.KernelXattnIdeal.main_arg2)
          ∧ r.2.mem ((c.tc : Thread Cert.KernelXattnIdeal.nD Cert.KernelXattnIdeal.τ).loc Cert.KernelXattnIdeal.main_arg3) = m ((c.tc : Thread Cert.KernelXattnIdeal.nD Cert.KernelXattnIdeal.τ).loc Cert.KernelXattnIdeal.main_arg3)
          ∧ r.2.mem ((c.tc : Thread Cert.KernelXattnIdeal.nD Cert.KernelXattnIdeal.τ).loc Cert.KernelXattnIdeal.main_arg4) = m ((c.tc : Thread Cert.KernelXattnIdeal.nD Cert.KernelXattnIdeal.τ).loc Cert.KernelXattnIdeal.main_arg4)
          ∧ r.2.mem ((c.tc : Thread Cert.KernelXattnIdeal.nD Cert.KernelXattnIdeal.τ).loc Cert.KernelXattnIdeal.main_arg5) = m ((c.tc : Thread Cert.KernelXattnIdeal.nD Cert.KernelXattnIdeal.τ).loc Cert.KernelXattnIdeal.main_arg5)
          ∧ r.2.mem ((c.tc : Thread Cert.KernelXattnIdeal.nD Cert.KernelXattnIdeal.τ).loc Cert.KernelXattnIdeal.main_arg6) = m ((c.tc : Thread Cert.KernelXattnIdeal.nD Cert.KernelXattnIdeal.τ).loc Cert.KernelXattnIdeal.main_arg6)
          ∧ r.2.mem ((c.tc : Thread Cert.KernelXattnIdeal.nD Cert.KernelXattnIdeal.τ).loc Cert.KernelXattnIdeal.main_arg7) = m ((c.tc : Thread Cert.KernelXattnIdeal.nD Cert.KernelXattnIdeal.τ).loc Cert.KernelXattnIdeal.main_arg7))
      ∧ θ_run (Cert.ReferenceXattnIdeal.defs (F := Ideal)) (onTc (τ := Cert.ReferenceXattnIdeal.τ) (Cert.ReferenceXattnIdeal.main (F := Ideal))) ⟨m', fun _ => 0, g'⟩ (fun r => ∀ c : Dev Cert.ReferenceXattnIdeal.nD,
          r.2.mem ((c.tc : Thread Cert.ReferenceXattnIdeal.nD Cert.ReferenceXattnIdeal.τ).loc Cert.ReferenceXattnIdeal.main_v156) = v0 c
          ∧ r.2.mem ((c.tc : Thread Cert.ReferenceXattnIdeal.nD Cert.ReferenceXattnIdeal.τ).loc Cert.ReferenceXattnIdeal.main_v141) = v1 c
          ∧ r.2.mem ((c.tc : Thread Cert.ReferenceXattnIdeal.nD Cert.ReferenceXattnIdeal.τ).loc Cert.ReferenceXattnIdeal.main_v158) = v2 c
          ∧ r.2.mem ((c.tc : Thread Cert.ReferenceXattnIdeal.nD Cert.ReferenceXattnIdeal.τ).loc Cert.ReferenceXattnIdeal.main_v160) = v3 c
          ∧ r.2.mem ((c.tc : Thread Cert.ReferenceXattnIdeal.nD Cert.ReferenceXattnIdeal.τ).loc Cert.ReferenceXattnIdeal.main_v162) = v4 c
          ∧ r.2.mem ((c.tc : Thread Cert.ReferenceXattnIdeal.nD Cert.ReferenceXattnIdeal.τ).loc Cert.ReferenceXattnIdeal.main_v165) = v5 c
          ∧ r.2.mem ((c.tc : Thread Cert.ReferenceXattnIdeal.nD Cert.ReferenceXattnIdeal.τ).loc Cert.ReferenceXattnIdeal.main_v168) = v6 c
          ∧ r.2.mem ((c.tc : Thread Cert.ReferenceXattnIdeal.nD Cert.ReferenceXattnIdeal.τ).loc Cert.ReferenceXattnIdeal.main_v118) = v7 c
          ∧ r.2.mem ((c.tc : Thread Cert.ReferenceXattnIdeal.nD Cert.ReferenceXattnIdeal.τ).loc Cert.ReferenceXattnIdeal.main_arg0) = m' ((c.tc : Thread Cert.ReferenceXattnIdeal.nD Cert.ReferenceXattnIdeal.τ).loc Cert.ReferenceXattnIdeal.main_arg0)
          ∧ r.2.mem ((c.tc : Thread Cert.ReferenceXattnIdeal.nD Cert.ReferenceXattnIdeal.τ).loc Cert.ReferenceXattnIdeal.main_arg1) = m' ((c.tc : Thread Cert.ReferenceXattnIdeal.nD Cert.ReferenceXattnIdeal.τ).loc Cert.ReferenceXattnIdeal.main_arg1)
          ∧ r.2.mem ((c.tc : Thread Cert.ReferenceXattnIdeal.nD Cert.ReferenceXattnIdeal.τ).loc Cert.ReferenceXattnIdeal.main_arg2) = m' ((c.tc : Thread Cert.ReferenceXattnIdeal.nD Cert.ReferenceXattnIdeal.τ).loc Cert.ReferenceXattnIdeal.main_arg2)
          ∧ r.2.mem ((c.tc : Thread Cert.ReferenceXattnIdeal.nD Cert.ReferenceXattnIdeal.τ).loc Cert.ReferenceXattnIdeal.main_arg3) = m' ((c.tc : Thread Cert.ReferenceXattnIdeal.nD Cert.ReferenceXattnIdeal.τ).loc Cert.ReferenceXattnIdeal.main_arg3)
          ∧ r.2.mem ((c.tc : Thread Cert.ReferenceXattnIdeal.nD Cert.ReferenceXattnIdeal.τ).loc Cert.ReferenceXattnIdeal.main_arg4) = m' ((c.tc : Thread Cert.ReferenceXattnIdeal.nD Cert.ReferenceXattnIdeal.τ).loc Cert.ReferenceXattnIdeal.main_arg4)
          ∧ r.2.mem ((c.tc : Thread Cert.ReferenceXattnIdeal.nD Cert.ReferenceXattnIdeal.τ).loc Cert.ReferenceXattnIdeal.main_arg5) = m' ((c.tc : Thread Cert.ReferenceXattnIdeal.nD Cert.ReferenceXattnIdeal.τ).loc Cert.ReferenceXattnIdeal.main_arg5)
          ∧ r.2.mem ((c.tc : Thread Cert.ReferenceXattnIdeal.nD Cert.ReferenceXattnIdeal.τ).loc Cert.ReferenceXattnIdeal.main_arg6) = m' ((c.tc : Thread Cert.ReferenceXattnIdeal.nD Cert.ReferenceXattnIdeal.τ).loc Cert.ReferenceXattnIdeal.main_arg6)
          ∧ r.2.mem ((c.tc : Thread Cert.ReferenceXattnIdeal.nD Cert.ReferenceXattnIdeal.τ).loc Cert.ReferenceXattnIdeal.main_arg7) = m' ((c.tc : Thread Cert.ReferenceXattnIdeal.nD Cert.ReferenceXattnIdeal.τ).loc Cert.ReferenceXattnIdeal.main_arg7))

def preserves_KernelHead_KernelHeadIdeal : Prop :=
  True

def algebraic_KernelHeadIdeal_ReferenceHeadIdeal_pre_finite_head [hKernelHeadIdeal : Cert.KernelHeadIdeal.Facts] [hReferenceHeadIdeal : Cert.ReferenceHeadIdeal.Facts] [hPre_finite_head : Cert.Pre_finite_head.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg)
    (m' : (ℓ : Loc Cert.ReferenceHeadIdeal.nD Cert.ReferenceHeadIdeal.τ Cert.ReferenceHeadIdeal.sig) → Buf (Elt Ideal) ℓ) (g' : Dev Cert.ReferenceHeadIdeal.nD → PrngReg), Pre_KernelHeadIdeal_finite_head m →
    (∀ c : Dev Cert.KernelHeadIdeal.nD,
      m' ((c.tc : Thread Cert.ReferenceHeadIdeal.nD Cert.ReferenceHeadIdeal.τ).loc Cert.ReferenceHeadIdeal.main_arg0) = m ((c.tc : Thread Cert.KernelHeadIdeal.nD Cert.KernelHeadIdeal.τ).loc Cert.KernelHeadIdeal.main_arg0)
      ∧ m' ((c.tc : Thread Cert.ReferenceHeadIdeal.nD Cert.ReferenceHeadIdeal.τ).loc Cert.ReferenceHeadIdeal.main_arg1) = m ((c.tc : Thread Cert.KernelHeadIdeal.nD Cert.KernelHeadIdeal.τ).loc Cert.KernelHeadIdeal.main_arg1)
      ∧ m' ((c.tc : Thread Cert.ReferenceHeadIdeal.nD Cert.ReferenceHeadIdeal.τ).loc Cert.ReferenceHeadIdeal.main_arg2) = m ((c.tc : Thread Cert.KernelHeadIdeal.nD Cert.KernelHeadIdeal.τ).loc Cert.KernelHeadIdeal.main_arg2)
      ∧ m' ((c.tc : Thread Cert.ReferenceHeadIdeal.nD Cert.ReferenceHeadIdeal.τ).loc Cert.ReferenceHeadIdeal.main_arg3) = m ((c.tc : Thread Cert.KernelHeadIdeal.nD Cert.KernelHeadIdeal.τ).loc Cert.KernelHeadIdeal.main_arg3)
      ∧ m' ((c.tc : Thread Cert.ReferenceHeadIdeal.nD Cert.ReferenceHeadIdeal.τ).loc Cert.ReferenceHeadIdeal.main_arg4) = m ((c.tc : Thread Cert.KernelHeadIdeal.nD Cert.KernelHeadIdeal.τ).loc Cert.KernelHeadIdeal.main_arg4)
      ∧ m' ((c.tc : Thread Cert.ReferenceHeadIdeal.nD Cert.ReferenceHeadIdeal.τ).loc Cert.ReferenceHeadIdeal.main_arg5) = m ((c.tc : Thread Cert.KernelHeadIdeal.nD Cert.KernelHeadIdeal.τ).loc Cert.KernelHeadIdeal.main_arg5)) →
    ∃ (v0 : (c : Dev Cert.KernelHeadIdeal.nD) → Buf (Elt Ideal) ((c.tc : Thread Cert.KernelHeadIdeal.nD Cert.KernelHeadIdeal.τ).loc Cert.KernelHeadIdeal.main_v7_0)) (v1 : (c : Dev Cert.KernelHeadIdeal.nD) → Buf (Elt Ideal) ((c.tc : Thread Cert.KernelHeadIdeal.nD Cert.KernelHeadIdeal.τ).loc Cert.KernelHeadIdeal.main_v7_1)) (v2 : (c : Dev Cert.KernelHeadIdeal.nD) → Buf (Elt Ideal) ((c.tc : Thread Cert.KernelHeadIdeal.nD Cert.KernelHeadIdeal.τ).loc Cert.KernelHeadIdeal.main_v7_2)) (v3 : (c : Dev Cert.KernelHeadIdeal.nD) → Buf (Elt Ideal) ((c.tc : Thread Cert.KernelHeadIdeal.nD Cert.KernelHeadIdeal.τ).loc Cert.KernelHeadIdeal.main_v7_3)) (v4 : (c : Dev Cert.KernelHeadIdeal.nD) → Buf (Elt Ideal) ((c.tc : Thread Cert.KernelHeadIdeal.nD Cert.KernelHeadIdeal.τ).loc Cert.KernelHeadIdeal.main_v7_4)),
      θ_run (Cert.KernelHeadIdeal.defs (F := Ideal)) (onTc (τ := Cert.KernelHeadIdeal.τ) (Cert.KernelHeadIdeal.main (F := Ideal))) ⟨m, fun _ => 0, g⟩ (fun r => ∀ c : Dev Cert.KernelHeadIdeal.nD,
          r.2.mem ((c.tc : Thread Cert.KernelHeadIdeal.nD Cert.KernelHeadIdeal.τ).loc Cert.KernelHeadIdeal.main_v7_0) = v0 c
          ∧ r.2.mem ((c.tc : Thread Cert.KernelHeadIdeal.nD Cert.KernelHeadIdeal.τ).loc Cert.KernelHeadIdeal.main_v7_1) = v1 c
          ∧ r.2.mem ((c.tc : Thread Cert.KernelHeadIdeal.nD Cert.KernelHeadIdeal.τ).loc Cert.KernelHeadIdeal.main_v7_2) = v2 c
          ∧ r.2.mem ((c.tc : Thread Cert.KernelHeadIdeal.nD Cert.KernelHeadIdeal.τ).loc Cert.KernelHeadIdeal.main_v7_3) = v3 c
          ∧ r.2.mem ((c.tc : Thread Cert.KernelHeadIdeal.nD Cert.KernelHeadIdeal.τ).loc Cert.KernelHeadIdeal.main_v7_4) = v4 c
          ∧ r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
          ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
          ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
          ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3)
          ∧ r.2.mem ((c.tc : Thread Cert.KernelHeadIdeal.nD Cert.KernelHeadIdeal.τ).loc Cert.KernelHeadIdeal.main_arg4) = m ((c.tc : Thread Cert.KernelHeadIdeal.nD Cert.KernelHeadIdeal.τ).loc Cert.KernelHeadIdeal.main_arg4)
          ∧ r.2.mem ((c.tc : Thread Cert.KernelHeadIdeal.nD Cert.KernelHeadIdeal.τ).loc Cert.KernelHeadIdeal.main_arg5) = m ((c.tc : Thread Cert.KernelHeadIdeal.nD Cert.KernelHeadIdeal.τ).loc Cert.KernelHeadIdeal.main_arg5))
      ∧ θ_run (Cert.ReferenceHeadIdeal.defs (F := Ideal)) (onTc (τ := Cert.ReferenceHeadIdeal.τ) (Cert.ReferenceHeadIdeal.main (F := Ideal))) ⟨m', fun _ => 0, g'⟩ (fun r => ∀ c : Dev Cert.ReferenceHeadIdeal.nD,
          r.2.mem ((c.tc : Thread Cert.ReferenceHeadIdeal.nD Cert.ReferenceHeadIdeal.τ).loc Cert.ReferenceHeadIdeal.main_v78) = v0 c
          ∧ r.2.mem ((c.tc : Thread Cert.ReferenceHeadIdeal.nD Cert.ReferenceHeadIdeal.τ).loc Cert.ReferenceHeadIdeal.main_v79) = v1 c
          ∧ r.2.mem ((c.tc : Thread Cert.ReferenceHeadIdeal.nD Cert.ReferenceHeadIdeal.τ).loc Cert.ReferenceHeadIdeal.main_v80) = v2 c
          ∧ r.2.mem ((c.tc : Thread Cert.ReferenceHeadIdeal.nD Cert.ReferenceHeadIdeal.τ).loc Cert.ReferenceHeadIdeal.main_v81) = v3 c
          ∧ r.2.mem ((c.tc : Thread Cert.ReferenceHeadIdeal.nD Cert.ReferenceHeadIdeal.τ).loc Cert.ReferenceHeadIdeal.main_v82) = v4 c
          ∧ r.2.mem ((c.tc : Thread Cert.ReferenceHeadIdeal.nD Cert.ReferenceHeadIdeal.τ).loc Cert.ReferenceHeadIdeal.main_arg0) = m' ((c.tc : Thread Cert.ReferenceHeadIdeal.nD Cert.ReferenceHeadIdeal.τ).loc Cert.ReferenceHeadIdeal.main_arg0)
          ∧ r.2.mem ((c.tc : Thread Cert.ReferenceHeadIdeal.nD Cert.ReferenceHeadIdeal.τ).loc Cert.ReferenceHeadIdeal.main_arg1) = m' ((c.tc : Thread Cert.ReferenceHeadIdeal.nD Cert.ReferenceHeadIdeal.τ).loc Cert.ReferenceHeadIdeal.main_arg1)
          ∧ r.2.mem ((c.tc : Thread Cert.ReferenceHeadIdeal.nD Cert.ReferenceHeadIdeal.τ).loc Cert.ReferenceHeadIdeal.main_arg2) = m' ((c.tc : Thread Cert.ReferenceHeadIdeal.nD Cert.ReferenceHeadIdeal.τ).loc Cert.ReferenceHeadIdeal.main_arg2)
          ∧ r.2.mem ((c.tc : Thread Cert.ReferenceHeadIdeal.nD Cert.ReferenceHeadIdeal.τ).loc Cert.ReferenceHeadIdeal.main_arg3) = m' ((c.tc : Thread Cert.ReferenceHeadIdeal.nD Cert.ReferenceHeadIdeal.τ).loc Cert.ReferenceHeadIdeal.main_arg3)
          ∧ r.2.mem ((c.tc : Thread Cert.ReferenceHeadIdeal.nD Cert.ReferenceHeadIdeal.τ).loc Cert.ReferenceHeadIdeal.main_arg4) = m' ((c.tc : Thread Cert.ReferenceHeadIdeal.nD Cert.ReferenceHeadIdeal.τ).loc Cert.ReferenceHeadIdeal.main_arg4)
          ∧ r.2.mem ((c.tc : Thread Cert.ReferenceHeadIdeal.nD Cert.ReferenceHeadIdeal.τ).loc Cert.ReferenceHeadIdeal.main_arg5) = m' ((c.tc : Thread Cert.ReferenceHeadIdeal.nD Cert.ReferenceHeadIdeal.τ).loc Cert.ReferenceHeadIdeal.main_arg5))

def preserves_KernelBias_KernelBiasIdeal : Prop :=
  True

def preserves_KernelXattnFwd_KernelXattnFwdIdeal : Prop :=
  True

def algebraic_KernelXattnFwdIdeal_ReferenceXattnFwdIdeal_pre_finite_xattn_fwd [hKernelXattnFwdIdeal : Cert.KernelXattnFwdIdeal.Facts] [hReferenceXattnFwdIdeal : Cert.ReferenceXattnFwdIdeal.Facts] [hPre_finite_xattn_fwd : Cert.Pre_finite_xattn_fwd.Facts] : Prop :=
  ∀ (m : (ℓ : Loc Cert.KernelXattnFwdIdeal.nD Cert.KernelXattnFwdIdeal.τ Cert.KernelXattnFwdIdeal.sig) → Buf (Elt Ideal) ℓ) (g : Dev Cert.KernelXattnFwdIdeal.nD → PrngReg)
    (m' : (ℓ : Loc Cert.ReferenceXattnFwdIdeal.nD Cert.ReferenceXattnFwdIdeal.τ Cert.ReferenceXattnFwdIdeal.sig) → Buf (Elt Ideal) ℓ) (g' : Dev Cert.ReferenceXattnFwdIdeal.nD → PrngReg), Pre_KernelXattnFwdIdeal_finite_xattn_fwd m →
    (∀ c : Dev Cert.KernelXattnFwdIdeal.nD,
      m' ((c.tc : Thread Cert.ReferenceXattnFwdIdeal.nD Cert.ReferenceXattnFwdIdeal.τ).loc Cert.ReferenceXattnFwdIdeal.main_arg0) = m ((c.tc : Thread Cert.KernelXattnFwdIdeal.nD Cert.KernelXattnFwdIdeal.τ).loc Cert.KernelXattnFwdIdeal.main_arg0)
      ∧ m' ((c.tc : Thread Cert.ReferenceXattnFwdIdeal.nD Cert.ReferenceXattnFwdIdeal.τ).loc Cert.ReferenceXattnFwdIdeal.main_arg1) = m ((c.tc : Thread Cert.KernelXattnFwdIdeal.nD Cert.KernelXattnFwdIdeal.τ).loc Cert.KernelXattnFwdIdeal.main_arg1)
      ∧ m' ((c.tc : Thread Cert.ReferenceXattnFwdIdeal.nD Cert.ReferenceXattnFwdIdeal.τ).loc Cert.ReferenceXattnFwdIdeal.main_arg2) = m ((c.tc : Thread Cert.KernelXattnFwdIdeal.nD Cert.KernelXattnFwdIdeal.τ).loc Cert.KernelXattnFwdIdeal.main_arg2)
      ∧ m' ((c.tc : Thread Cert.ReferenceXattnFwdIdeal.nD Cert.ReferenceXattnFwdIdeal.τ).loc Cert.ReferenceXattnFwdIdeal.main_arg3) = m ((c.tc : Thread Cert.KernelXattnFwdIdeal.nD Cert.KernelXattnFwdIdeal.τ).loc Cert.KernelXattnFwdIdeal.main_arg3)
      ∧ m' ((c.tc : Thread Cert.ReferenceXattnFwdIdeal.nD Cert.ReferenceXattnFwdIdeal.τ).loc Cert.ReferenceXattnFwdIdeal.main_arg4) = m ((c.tc : Thread Cert.KernelXattnFwdIdeal.nD Cert.KernelXattnFwdIdeal.τ).loc Cert.KernelXattnFwdIdeal.main_arg4)
      ∧ m' ((c.tc : Thread Cert.ReferenceXattnFwdIdeal.nD Cert.ReferenceXattnFwdIdeal.τ).loc Cert.ReferenceXattnFwdIdeal.main_arg5) = m ((c.tc : Thread Cert.KernelXattnFwdIdeal.nD Cert.KernelXattnFwdIdeal.τ).loc Cert.KernelXattnFwdIdeal.main_arg5)
      ∧ m' ((c.tc : Thread Cert.ReferenceXattnFwdIdeal.nD Cert.ReferenceXattnFwdIdeal.τ).loc Cert.ReferenceXattnFwdIdeal.main_arg6) = m ((c.tc : Thread Cert.KernelXattnFwdIdeal.nD Cert.KernelXattnFwdIdeal.τ).loc Cert.KernelXattnFwdIdeal.main_arg6)) →
    ∃ (v0 : (c : Dev Cert.KernelXattnFwdIdeal.nD) → Buf (Elt Ideal) ((c.tc : Thread Cert.KernelXattnFwdIdeal.nD Cert.KernelXattnFwdIdeal.τ).loc Cert.KernelXattnFwdIdeal.main_v23_0)) (v1 : (c : Dev Cert.KernelXattnFwdIdeal.nD) → Buf (Elt Ideal) ((c.tc : Thread Cert.KernelXattnFwdIdeal.nD Cert.KernelXattnFwdIdeal.τ).loc Cert.KernelXattnFwdIdeal.main_v23_1)) (v2 : (c : Dev Cert.KernelXattnFwdIdeal.nD) → Buf (Elt Ideal) ((c.tc : Thread Cert.KernelXattnFwdIdeal.nD Cert.KernelXattnFwdIdeal.τ).loc Cert.KernelXattnFwdIdeal.main_v23_2)),
      θ_run (Cert.KernelXattnFwdIdeal.defs (F := Ideal)) (onTc (τ := Cert.KernelXattnFwdIdeal.τ) (Cert.KernelXattnFwdIdeal.main (F := Ideal))) ⟨m, fun _ => 0, g⟩ (fun r => ∀ c : Dev Cert.KernelXattnFwdIdeal.nD,
          r.2.mem ((c.tc : Thread Cert.KernelXattnFwdIdeal.nD Cert.KernelXattnFwdIdeal.τ).loc Cert.KernelXattnFwdIdeal.main_v23_0) = v0 c
          ∧ r.2.mem ((c.tc : Thread Cert.KernelXattnFwdIdeal.nD Cert.KernelXattnFwdIdeal.τ).loc Cert.KernelXattnFwdIdeal.main_v23_1) = v1 c
          ∧ r.2.mem ((c.tc : Thread Cert.KernelXattnFwdIdeal.nD Cert.KernelXattnFwdIdeal.τ).loc Cert.KernelXattnFwdIdeal.main_v23_2) = v2 c
          ∧ r.2.mem ((c.tc : Thread Cert.KernelXattnFwdIdeal.nD Cert.KernelXattnFwdIdeal.τ).loc Cert.KernelXattnFwdIdeal.main_arg0) = m ((c.tc : Thread Cert.KernelXattnFwdIdeal.nD Cert.KernelXattnFwdIdeal.τ).loc Cert.KernelXattnFwdIdeal.main_arg0)
          ∧ r.2.mem ((c.tc : Thread Cert.KernelXattnFwdIdeal.nD Cert.KernelXattnFwdIdeal.τ).loc Cert.KernelXattnFwdIdeal.main_arg1) = m ((c.tc : Thread Cert.KernelXattnFwdIdeal.nD Cert.KernelXattnFwdIdeal.τ).loc Cert.KernelXattnFwdIdeal.main_arg1)
          ∧ r.2.mem ((c.tc : Thread Cert.KernelXattnFwdIdeal.nD Cert.KernelXattnFwdIdeal.τ).loc Cert.KernelXattnFwdIdeal.main_arg2) = m ((c.tc : Thread Cert.KernelXattnFwdIdeal.nD Cert.KernelXattnFwdIdeal.τ).loc Cert.KernelXattnFwdIdeal.main_arg2)
          ∧ r.2.mem ((c.tc : Thread Cert.KernelXattnFwdIdeal.nD Cert.KernelXattnFwdIdeal.τ).loc Cert.KernelXattnFwdIdeal.main_arg3) = m ((c.tc : Thread Cert.KernelXattnFwdIdeal.nD Cert.KernelXattnFwdIdeal.τ).loc Cert.KernelXattnFwdIdeal.main_arg3)
          ∧ r.2.mem ((c.tc : Thread Cert.KernelXattnFwdIdeal.nD Cert.KernelXattnFwdIdeal.τ).loc Cert.KernelXattnFwdIdeal.main_arg4) = m ((c.tc : Thread Cert.KernelXattnFwdIdeal.nD Cert.KernelXattnFwdIdeal.τ).loc Cert.KernelXattnFwdIdeal.main_arg4)
          ∧ r.2.mem ((c.tc : Thread Cert.KernelXattnFwdIdeal.nD Cert.KernelXattnFwdIdeal.τ).loc Cert.KernelXattnFwdIdeal.main_arg5) = m ((c.tc : Thread Cert.KernelXattnFwdIdeal.nD Cert.KernelXattnFwdIdeal.τ).loc Cert.KernelXattnFwdIdeal.main_arg5)
          ∧ r.2.mem ((c.tc : Thread Cert.KernelXattnFwdIdeal.nD Cert.KernelXattnFwdIdeal.τ).loc Cert.KernelXattnFwdIdeal.main_arg6) = m ((c.tc : Thread Cert.KernelXattnFwdIdeal.nD Cert.KernelXattnFwdIdeal.τ).loc Cert.KernelXattnFwdIdeal.main_arg6))
      ∧ θ_run (Cert.ReferenceXattnFwdIdeal.defs (F := Ideal)) (onTc (τ := Cert.ReferenceXattnFwdIdeal.τ) (Cert.ReferenceXattnFwdIdeal.main (F := Ideal))) ⟨m', fun _ => 0, g'⟩ (fun r => ∀ c : Dev Cert.ReferenceXattnFwdIdeal.nD,
          r.2.mem ((c.tc : Thread Cert.ReferenceXattnFwdIdeal.nD Cert.ReferenceXattnFwdIdeal.τ).loc Cert.ReferenceXattnFwdIdeal.main_v57) = v0 c
          ∧ r.2.mem ((c.tc : Thread Cert.ReferenceXattnFwdIdeal.nD Cert.ReferenceXattnFwdIdeal.τ).loc Cert.ReferenceXattnFwdIdeal.main_v59) = v1 c
          ∧ r.2.mem ((c.tc : Thread Cert.ReferenceXattnFwdIdeal.nD Cert.ReferenceXattnFwdIdeal.τ).loc Cert.ReferenceXattnFwdIdeal.main_v61) = v2 c
          ∧ r.2.mem ((c.tc : Thread Cert.ReferenceXattnFwdIdeal.nD Cert.ReferenceXattnFwdIdeal.τ).loc Cert.ReferenceXattnFwdIdeal.main_arg0) = m' ((c.tc : Thread Cert.ReferenceXattnFwdIdeal.nD Cert.ReferenceXattnFwdIdeal.τ).loc Cert.ReferenceXattnFwdIdeal.main_arg0)
          ∧ r.2.mem ((c.tc : Thread Cert.ReferenceXattnFwdIdeal.nD Cert.ReferenceXattnFwdIdeal.τ).loc Cert.ReferenceXattnFwdIdeal.main_arg1) = m' ((c.tc : Thread Cert.ReferenceXattnFwdIdeal.nD Cert.ReferenceXattnFwdIdeal.τ).loc Cert.ReferenceXattnFwdIdeal.main_arg1)
          ∧ r.2.mem ((c.tc : Thread Cert.ReferenceXattnFwdIdeal.nD Cert.ReferenceXattnFwdIdeal.τ).loc Cert.ReferenceXattnFwdIdeal.main_arg2) = m' ((c.tc : Thread Cert.ReferenceXattnFwdIdeal.nD Cert.ReferenceXattnFwdIdeal.τ).loc Cert.ReferenceXattnFwdIdeal.main_arg2)
          ∧ r.2.mem ((c.tc : Thread Cert.ReferenceXattnFwdIdeal.nD Cert.ReferenceXattnFwdIdeal.τ).loc Cert.ReferenceXattnFwdIdeal.main_arg3) = m' ((c.tc : Thread Cert.ReferenceXattnFwdIdeal.nD Cert.ReferenceXattnFwdIdeal.τ).loc Cert.ReferenceXattnFwdIdeal.main_arg3)
          ∧ r.2.mem ((c.tc : Thread Cert.ReferenceXattnFwdIdeal.nD Cert.ReferenceXattnFwdIdeal.τ).loc Cert.ReferenceXattnFwdIdeal.main_arg4) = m' ((c.tc : Thread Cert.ReferenceXattnFwdIdeal.nD Cert.ReferenceXattnFwdIdeal.τ).loc Cert.ReferenceXattnFwdIdeal.main_arg4)
          ∧ r.2.mem ((c.tc : Thread Cert.ReferenceXattnFwdIdeal.nD Cert.ReferenceXattnFwdIdeal.τ).loc Cert.ReferenceXattnFwdIdeal.main_arg5) = m' ((c.tc : Thread Cert.ReferenceXattnFwdIdeal.nD Cert.ReferenceXattnFwdIdeal.τ).loc Cert.ReferenceXattnFwdIdeal.main_arg5)
          ∧ r.2.mem ((c.tc : Thread Cert.ReferenceXattnFwdIdeal.nD Cert.ReferenceXattnFwdIdeal.τ).loc Cert.ReferenceXattnFwdIdeal.main_arg6) = m' ((c.tc : Thread Cert.ReferenceXattnFwdIdeal.nD Cert.ReferenceXattnFwdIdeal.τ).loc Cert.ReferenceXattnFwdIdeal.main_arg6))

def preserves_KernelSwaFwd_KernelSwaFwdIdeal : Prop :=
  IdealRules.named_const.Statement Cert.KernelSwaFwdIdeal.κ "mask" .f32 0xF149F2CA#32 ⊥

def algebraic_KernelSwaFwdIdeal_ReferenceSwaFwdIdeal_pre_finite_swa_fwd [hKernelSwaFwdIdeal : Cert.KernelSwaFwdIdeal.Facts] [hReferenceSwaFwdIdeal : Cert.ReferenceSwaFwdIdeal.Facts] [hPre_finite_swa_fwd : Cert.Pre_finite_swa_fwd.Facts] : Prop :=
  ∀ (m : (ℓ : Loc Cert.KernelSwaFwdIdeal.nD Cert.KernelSwaFwdIdeal.τ Cert.KernelSwaFwdIdeal.sig) → Buf (Elt Ideal) ℓ) (g : Dev Cert.KernelSwaFwdIdeal.nD → PrngReg)
    (m' : (ℓ : Loc Cert.ReferenceSwaFwdIdeal.nD Cert.ReferenceSwaFwdIdeal.τ Cert.ReferenceSwaFwdIdeal.sig) → Buf (Elt Ideal) ℓ) (g' : Dev Cert.ReferenceSwaFwdIdeal.nD → PrngReg), Pre_KernelSwaFwdIdeal_finite_swa_fwd m →
    (∀ c : Dev Cert.KernelSwaFwdIdeal.nD,
      m' ((c.tc : Thread Cert.ReferenceSwaFwdIdeal.nD Cert.ReferenceSwaFwdIdeal.τ).loc Cert.ReferenceSwaFwdIdeal.main_arg0) = m ((c.tc : Thread Cert.KernelSwaFwdIdeal.nD Cert.KernelSwaFwdIdeal.τ).loc Cert.KernelSwaFwdIdeal.main_arg0)
      ∧ m' ((c.tc : Thread Cert.ReferenceSwaFwdIdeal.nD Cert.ReferenceSwaFwdIdeal.τ).loc Cert.ReferenceSwaFwdIdeal.main_arg1) = m ((c.tc : Thread Cert.KernelSwaFwdIdeal.nD Cert.KernelSwaFwdIdeal.τ).loc Cert.KernelSwaFwdIdeal.main_arg1)
      ∧ m' ((c.tc : Thread Cert.ReferenceSwaFwdIdeal.nD Cert.ReferenceSwaFwdIdeal.τ).loc Cert.ReferenceSwaFwdIdeal.main_arg2) = m ((c.tc : Thread Cert.KernelSwaFwdIdeal.nD Cert.KernelSwaFwdIdeal.τ).loc Cert.KernelSwaFwdIdeal.main_arg2)
      ∧ m' ((c.tc : Thread Cert.ReferenceSwaFwdIdeal.nD Cert.ReferenceSwaFwdIdeal.τ).loc Cert.ReferenceSwaFwdIdeal.main_arg3) = m ((c.tc : Thread Cert.KernelSwaFwdIdeal.nD Cert.KernelSwaFwdIdeal.τ).loc Cert.KernelSwaFwdIdeal.main_arg3)
      ∧ m' ((c.tc : Thread Cert.ReferenceSwaFwdIdeal.nD Cert.ReferenceSwaFwdIdeal.τ).loc Cert.ReferenceSwaFwdIdeal.main_arg4) = m ((c.tc : Thread Cert.KernelSwaFwdIdeal.nD Cert.KernelSwaFwdIdeal.τ).loc Cert.KernelSwaFwdIdeal.main_arg4)
      ∧ m' ((c.tc : Thread Cert.ReferenceSwaFwdIdeal.nD Cert.ReferenceSwaFwdIdeal.τ).loc Cert.ReferenceSwaFwdIdeal.main_arg5) = m ((c.tc : Thread Cert.KernelSwaFwdIdeal.nD Cert.KernelSwaFwdIdeal.τ).loc Cert.KernelSwaFwdIdeal.main_arg5)) →
    ∃ (v0 : (c : Dev Cert.KernelSwaFwdIdeal.nD) → Buf (Elt Ideal) ((c.tc : Thread Cert.KernelSwaFwdIdeal.nD Cert.KernelSwaFwdIdeal.τ).loc Cert.KernelSwaFwdIdeal.main_v44)),
      θ_run (Cert.KernelSwaFwdIdeal.defs (F := Ideal)) (onTc (τ := Cert.KernelSwaFwdIdeal.τ) (Cert.KernelSwaFwdIdeal.main (F := Ideal))) ⟨m, fun _ => 0, g⟩ (fun r => ∀ c : Dev Cert.KernelSwaFwdIdeal.nD,
          r.2.mem ((c.tc : Thread Cert.KernelSwaFwdIdeal.nD Cert.KernelSwaFwdIdeal.τ).loc Cert.KernelSwaFwdIdeal.main_v44) = v0 c
          ∧ r.2.mem ((c.tc : Thread Cert.KernelSwaFwdIdeal.nD Cert.KernelSwaFwdIdeal.τ).loc Cert.KernelSwaFwdIdeal.main_arg0) = m ((c.tc : Thread Cert.KernelSwaFwdIdeal.nD Cert.KernelSwaFwdIdeal.τ).loc Cert.KernelSwaFwdIdeal.main_arg0)
          ∧ r.2.mem ((c.tc : Thread Cert.KernelSwaFwdIdeal.nD Cert.KernelSwaFwdIdeal.τ).loc Cert.KernelSwaFwdIdeal.main_arg1) = m ((c.tc : Thread Cert.KernelSwaFwdIdeal.nD Cert.KernelSwaFwdIdeal.τ).loc Cert.KernelSwaFwdIdeal.main_arg1)
          ∧ r.2.mem ((c.tc : Thread Cert.KernelSwaFwdIdeal.nD Cert.KernelSwaFwdIdeal.τ).loc Cert.KernelSwaFwdIdeal.main_arg2) = m ((c.tc : Thread Cert.KernelSwaFwdIdeal.nD Cert.KernelSwaFwdIdeal.τ).loc Cert.KernelSwaFwdIdeal.main_arg2)
          ∧ r.2.mem ((c.tc : Thread Cert.KernelSwaFwdIdeal.nD Cert.KernelSwaFwdIdeal.τ).loc Cert.KernelSwaFwdIdeal.main_arg3) = m ((c.tc : Thread Cert.KernelSwaFwdIdeal.nD Cert.KernelSwaFwdIdeal.τ).loc Cert.KernelSwaFwdIdeal.main_arg3)
          ∧ r.2.mem ((c.tc : Thread Cert.KernelSwaFwdIdeal.nD Cert.KernelSwaFwdIdeal.τ).loc Cert.KernelSwaFwdIdeal.main_arg4) = m ((c.tc : Thread Cert.KernelSwaFwdIdeal.nD Cert.KernelSwaFwdIdeal.τ).loc Cert.KernelSwaFwdIdeal.main_arg4)
          ∧ r.2.mem ((c.tc : Thread Cert.KernelSwaFwdIdeal.nD Cert.KernelSwaFwdIdeal.τ).loc Cert.KernelSwaFwdIdeal.main_arg5) = m ((c.tc : Thread Cert.KernelSwaFwdIdeal.nD Cert.KernelSwaFwdIdeal.τ).loc Cert.KernelSwaFwdIdeal.main_arg5))
      ∧ θ_run (Cert.ReferenceSwaFwdIdeal.defs (F := Ideal)) (onTc (τ := Cert.ReferenceSwaFwdIdeal.τ) (Cert.ReferenceSwaFwdIdeal.main (F := Ideal))) ⟨m', fun _ => 0, g'⟩ (fun r => ∀ c : Dev Cert.ReferenceSwaFwdIdeal.nD,
          r.2.mem ((c.tc : Thread Cert.ReferenceSwaFwdIdeal.nD Cert.ReferenceSwaFwdIdeal.τ).loc Cert.ReferenceSwaFwdIdeal.main_v87) = v0 c
          ∧ r.2.mem ((c.tc : Thread Cert.ReferenceSwaFwdIdeal.nD Cert.ReferenceSwaFwdIdeal.τ).loc Cert.ReferenceSwaFwdIdeal.main_arg0) = m' ((c.tc : Thread Cert.ReferenceSwaFwdIdeal.nD Cert.ReferenceSwaFwdIdeal.τ).loc Cert.ReferenceSwaFwdIdeal.main_arg0)
          ∧ r.2.mem ((c.tc : Thread Cert.ReferenceSwaFwdIdeal.nD Cert.ReferenceSwaFwdIdeal.τ).loc Cert.ReferenceSwaFwdIdeal.main_arg1) = m' ((c.tc : Thread Cert.ReferenceSwaFwdIdeal.nD Cert.ReferenceSwaFwdIdeal.τ).loc Cert.ReferenceSwaFwdIdeal.main_arg1)
          ∧ r.2.mem ((c.tc : Thread Cert.ReferenceSwaFwdIdeal.nD Cert.ReferenceSwaFwdIdeal.τ).loc Cert.ReferenceSwaFwdIdeal.main_arg2) = m' ((c.tc : Thread Cert.ReferenceSwaFwdIdeal.nD Cert.ReferenceSwaFwdIdeal.τ).loc Cert.ReferenceSwaFwdIdeal.main_arg2)
          ∧ r.2.mem ((c.tc : Thread Cert.ReferenceSwaFwdIdeal.nD Cert.ReferenceSwaFwdIdeal.τ).loc Cert.ReferenceSwaFwdIdeal.main_arg3) = m' ((c.tc : Thread Cert.ReferenceSwaFwdIdeal.nD Cert.ReferenceSwaFwdIdeal.τ).loc Cert.ReferenceSwaFwdIdeal.main_arg3)
          ∧ r.2.mem ((c.tc : Thread Cert.ReferenceSwaFwdIdeal.nD Cert.ReferenceSwaFwdIdeal.τ).loc Cert.ReferenceSwaFwdIdeal.main_arg4) = m' ((c.tc : Thread Cert.ReferenceSwaFwdIdeal.nD Cert.ReferenceSwaFwdIdeal.τ).loc Cert.ReferenceSwaFwdIdeal.main_arg4)
          ∧ r.2.mem ((c.tc : Thread Cert.ReferenceSwaFwdIdeal.nD Cert.ReferenceSwaFwdIdeal.τ).loc Cert.ReferenceSwaFwdIdeal.main_arg5) = m' ((c.tc : Thread Cert.ReferenceSwaFwdIdeal.nD Cert.ReferenceSwaFwdIdeal.τ).loc Cert.ReferenceSwaFwdIdeal.main_arg5))

def preserves_KernelMixOutFwd_KernelMixOutFwdIdeal : Prop :=
  True

def algebraic_KernelMixOutFwdIdeal_ReferenceMixOutFwdIdeal [hKernelMixOutFwdIdeal : Cert.KernelMixOutFwdIdeal.Facts] [hReferenceMixOutFwdIdeal : Cert.ReferenceMixOutFwdIdeal.Facts] : Prop :=
  ∀ (m : (ℓ : Loc Cert.KernelMixOutFwdIdeal.nD Cert.KernelMixOutFwdIdeal.τ Cert.KernelMixOutFwdIdeal.sig) → Buf (Elt Ideal) ℓ) (g : Dev Cert.KernelMixOutFwdIdeal.nD → PrngReg)
    (m' : (ℓ : Loc Cert.ReferenceMixOutFwdIdeal.nD Cert.ReferenceMixOutFwdIdeal.τ Cert.ReferenceMixOutFwdIdeal.sig) → Buf (Elt Ideal) ℓ) (g' : Dev Cert.ReferenceMixOutFwdIdeal.nD → PrngReg), Pre_KernelMixOutFwdIdeal m →
    (∀ c : Dev Cert.KernelMixOutFwdIdeal.nD,
      m' ((c.tc : Thread Cert.ReferenceMixOutFwdIdeal.nD Cert.ReferenceMixOutFwdIdeal.τ).loc Cert.ReferenceMixOutFwdIdeal.main_arg0) = m ((c.tc : Thread Cert.KernelMixOutFwdIdeal.nD Cert.KernelMixOutFwdIdeal.τ).loc Cert.KernelMixOutFwdIdeal.main_arg0)
      ∧ m' ((c.tc : Thread Cert.ReferenceMixOutFwdIdeal.nD Cert.ReferenceMixOutFwdIdeal.τ).loc Cert.ReferenceMixOutFwdIdeal.main_arg1) = m ((c.tc : Thread Cert.KernelMixOutFwdIdeal.nD Cert.KernelMixOutFwdIdeal.τ).loc Cert.KernelMixOutFwdIdeal.main_arg1)
      ∧ m' ((c.tc : Thread Cert.ReferenceMixOutFwdIdeal.nD Cert.ReferenceMixOutFwdIdeal.τ).loc Cert.ReferenceMixOutFwdIdeal.main_arg2) = m ((c.tc : Thread Cert.KernelMixOutFwdIdeal.nD Cert.KernelMixOutFwdIdeal.τ).loc Cert.KernelMixOutFwdIdeal.main_arg2)
      ∧ m' ((c.tc : Thread Cert.ReferenceMixOutFwdIdeal.nD Cert.ReferenceMixOutFwdIdeal.τ).loc Cert.ReferenceMixOutFwdIdeal.main_arg3) = m ((c.tc : Thread Cert.KernelMixOutFwdIdeal.nD Cert.KernelMixOutFwdIdeal.τ).loc Cert.KernelMixOutFwdIdeal.main_arg3)
      ∧ m' ((c.tc : Thread Cert.ReferenceMixOutFwdIdeal.nD Cert.ReferenceMixOutFwdIdeal.τ).loc Cert.ReferenceMixOutFwdIdeal.main_arg4) = m ((c.tc : Thread Cert.KernelMixOutFwdIdeal.nD Cert.KernelMixOutFwdIdeal.τ).loc Cert.KernelMixOutFwdIdeal.main_arg4)) →
    ∃ (v0 : (c : Dev Cert.KernelMixOutFwdIdeal.nD) → Buf (Elt Ideal) ((c.tc : Thread Cert.KernelMixOutFwdIdeal.nD Cert.KernelMixOutFwdIdeal.τ).loc Cert.KernelMixOutFwdIdeal.main_v7_0)) (v1 : (c : Dev Cert.KernelMixOutFwdIdeal.nD) → Buf (Elt Ideal) ((c.tc : Thread Cert.KernelMixOutFwdIdeal.nD Cert.KernelMixOutFwdIdeal.τ).loc Cert.KernelMixOutFwdIdeal.main_v7_1)),
      θ_run (Cert.KernelMixOutFwdIdeal.defs (F := Ideal)) (onTc (τ := Cert.KernelMixOutFwdIdeal.τ) (Cert.KernelMixOutFwdIdeal.main (F := Ideal))) ⟨m, fun _ => 0, g⟩ (fun r => ∀ c : Dev Cert.KernelMixOutFwdIdeal.nD,
          r.2.mem ((c.tc : Thread Cert.KernelMixOutFwdIdeal.nD Cert.KernelMixOutFwdIdeal.τ).loc Cert.KernelMixOutFwdIdeal.main_v7_0) = v0 c
          ∧ r.2.mem ((c.tc : Thread Cert.KernelMixOutFwdIdeal.nD Cert.KernelMixOutFwdIdeal.τ).loc Cert.KernelMixOutFwdIdeal.main_v7_1) = v1 c
          ∧ r.2.mem ((c.tc : Thread Cert.KernelMixOutFwdIdeal.nD Cert.KernelMixOutFwdIdeal.τ).loc Cert.KernelMixOutFwdIdeal.main_arg0) = m ((c.tc : Thread Cert.KernelMixOutFwdIdeal.nD Cert.KernelMixOutFwdIdeal.τ).loc Cert.KernelMixOutFwdIdeal.main_arg0)
          ∧ r.2.mem ((c.tc : Thread Cert.KernelMixOutFwdIdeal.nD Cert.KernelMixOutFwdIdeal.τ).loc Cert.KernelMixOutFwdIdeal.main_arg1) = m ((c.tc : Thread Cert.KernelMixOutFwdIdeal.nD Cert.KernelMixOutFwdIdeal.τ).loc Cert.KernelMixOutFwdIdeal.main_arg1)
          ∧ r.2.mem ((c.tc : Thread Cert.KernelMixOutFwdIdeal.nD Cert.KernelMixOutFwdIdeal.τ).loc Cert.KernelMixOutFwdIdeal.main_arg2) = m ((c.tc : Thread Cert.KernelMixOutFwdIdeal.nD Cert.KernelMixOutFwdIdeal.τ).loc Cert.KernelMixOutFwdIdeal.main_arg2)
          ∧ r.2.mem ((c.tc : Thread Cert.KernelMixOutFwdIdeal.nD Cert.KernelMixOutFwdIdeal.τ).loc Cert.KernelMixOutFwdIdeal.main_arg3) = m ((c.tc : Thread Cert.KernelMixOutFwdIdeal.nD Cert.KernelMixOutFwdIdeal.τ).loc Cert.KernelMixOutFwdIdeal.main_arg3)
          ∧ r.2.mem ((c.tc : Thread Cert.KernelMixOutFwdIdeal.nD Cert.KernelMixOutFwdIdeal.τ).loc Cert.KernelMixOutFwdIdeal.main_arg4) = m ((c.tc : Thread Cert.KernelMixOutFwdIdeal.nD Cert.KernelMixOutFwdIdeal.τ).loc Cert.KernelMixOutFwdIdeal.main_arg4))
      ∧ θ_run (Cert.ReferenceMixOutFwdIdeal.defs (F := Ideal)) (onTc (τ := Cert.ReferenceMixOutFwdIdeal.τ) (Cert.ReferenceMixOutFwdIdeal.main (F := Ideal))) ⟨m', fun _ => 0, g'⟩ (fun r => ∀ c : Dev Cert.ReferenceMixOutFwdIdeal.nD,
          r.2.mem ((c.tc : Thread Cert.ReferenceMixOutFwdIdeal.nD Cert.ReferenceMixOutFwdIdeal.τ).loc Cert.ReferenceMixOutFwdIdeal.main_v49) = v0 c
          ∧ r.2.mem ((c.tc : Thread Cert.ReferenceMixOutFwdIdeal.nD Cert.ReferenceMixOutFwdIdeal.τ).loc Cert.ReferenceMixOutFwdIdeal.main_v51) = v1 c
          ∧ r.2.mem ((c.tc : Thread Cert.ReferenceMixOutFwdIdeal.nD Cert.ReferenceMixOutFwdIdeal.τ).loc Cert.ReferenceMixOutFwdIdeal.main_arg0) = m' ((c.tc : Thread Cert.ReferenceMixOutFwdIdeal.nD Cert.ReferenceMixOutFwdIdeal.τ).loc Cert.ReferenceMixOutFwdIdeal.main_arg0)
          ∧ r.2.mem ((c.tc : Thread Cert.ReferenceMixOutFwdIdeal.nD Cert.ReferenceMixOutFwdIdeal.τ).loc Cert.ReferenceMixOutFwdIdeal.main_arg1) = m' ((c.tc : Thread Cert.ReferenceMixOutFwdIdeal.nD Cert.ReferenceMixOutFwdIdeal.τ).loc Cert.ReferenceMixOutFwdIdeal.main_arg1)
          ∧ r.2.mem ((c.tc : Thread Cert.ReferenceMixOutFwdIdeal.nD Cert.ReferenceMixOutFwdIdeal.τ).loc Cert.ReferenceMixOutFwdIdeal.main_arg2) = m' ((c.tc : Thread Cert.ReferenceMixOutFwdIdeal.nD Cert.ReferenceMixOutFwdIdeal.τ).loc Cert.ReferenceMixOutFwdIdeal.main_arg2)
          ∧ r.2.mem ((c.tc : Thread Cert.ReferenceMixOutFwdIdeal.nD Cert.ReferenceMixOutFwdIdeal.τ).loc Cert.ReferenceMixOutFwdIdeal.main_arg3) = m' ((c.tc : Thread Cert.ReferenceMixOutFwdIdeal.nD Cert.ReferenceMixOutFwdIdeal.τ).loc Cert.ReferenceMixOutFwdIdeal.main_arg3)
          ∧ r.2.mem ((c.tc : Thread Cert.ReferenceMixOutFwdIdeal.nD Cert.ReferenceMixOutFwdIdeal.τ).loc Cert.ReferenceMixOutFwdIdeal.main_arg4) = m' ((c.tc : Thread Cert.ReferenceMixOutFwdIdeal.nD Cert.ReferenceMixOutFwdIdeal.τ).loc Cert.ReferenceMixOutFwdIdeal.main_arg4))

def preserves_KernelFfnFwd_KernelFfnFwdIdeal : Prop :=
  True

def algebraic_KernelFfnFwdIdeal_ReferenceFfnFwdIdeal [hKernelFfnFwdIdeal : Cert.KernelFfnFwdIdeal.Facts] [hReferenceFfnFwdIdeal : Cert.ReferenceFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg)
    (m' : (ℓ : Loc Cert.ReferenceFfnFwdIdeal.nD Cert.ReferenceFfnFwdIdeal.τ Cert.ReferenceFfnFwdIdeal.sig) → Buf (Elt Ideal) ℓ) (g' : Dev Cert.ReferenceFfnFwdIdeal.nD → PrngReg), Pre_KernelFfnFwdIdeal m →
    (∀ c : Dev Cert.KernelFfnFwdIdeal.nD,
      m' ((c.tc : Thread Cert.ReferenceFfnFwdIdeal.nD Cert.ReferenceFfnFwdIdeal.τ).loc Cert.ReferenceFfnFwdIdeal.main_arg0) = m ((c.tc : Thread Cert.KernelFfnFwdIdeal.nD Cert.KernelFfnFwdIdeal.τ).loc Cert.KernelFfnFwdIdeal.main_arg0)
      ∧ m' ((c.tc : Thread Cert.ReferenceFfnFwdIdeal.nD Cert.ReferenceFfnFwdIdeal.τ).loc Cert.ReferenceFfnFwdIdeal.main_arg1) = m ((c.tc : Thread Cert.KernelFfnFwdIdeal.nD Cert.KernelFfnFwdIdeal.τ).loc Cert.KernelFfnFwdIdeal.main_arg1)
      ∧ m' ((c.tc : Thread Cert.ReferenceFfnFwdIdeal.nD Cert.ReferenceFfnFwdIdeal.τ).loc Cert.ReferenceFfnFwdIdeal.main_arg2) = m ((c.tc : Thread Cert.KernelFfnFwdIdeal.nD Cert.KernelFfnFwdIdeal.τ).loc Cert.KernelFfnFwdIdeal.main_arg2)
      ∧ m' ((c.tc : Thread Cert.ReferenceFfnFwdIdeal.nD Cert.ReferenceFfnFwdIdeal.τ).loc Cert.ReferenceFfnFwdIdeal.main_arg3) = m ((c.tc : Thread Cert.KernelFfnFwdIdeal.nD Cert.KernelFfnFwdIdeal.τ).loc Cert.KernelFfnFwdIdeal.main_arg3)) →
    ∃ (v0 : (c : Dev Cert.KernelFfnFwdIdeal.nD) → Buf (Elt Ideal) ((c.tc : Thread Cert.KernelFfnFwdIdeal.nD Cert.KernelFfnFwdIdeal.τ).loc Cert.KernelFfnFwdIdeal.main_v5_0)) (v1 : (c : Dev Cert.KernelFfnFwdIdeal.nD) → Buf (Elt Ideal) ((c.tc : Thread Cert.KernelFfnFwdIdeal.nD Cert.KernelFfnFwdIdeal.τ).loc Cert.KernelFfnFwdIdeal.main_v5_1)) (v2 : (c : Dev Cert.KernelFfnFwdIdeal.nD) → Buf (Elt Ideal) ((c.tc : Thread Cert.KernelFfnFwdIdeal.nD Cert.KernelFfnFwdIdeal.τ).loc Cert.KernelFfnFwdIdeal.main_v5_2)),
      θ_run (Cert.KernelFfnFwdIdeal.defs (F := Ideal)) (onTc (τ := Cert.KernelFfnFwdIdeal.τ) (Cert.KernelFfnFwdIdeal.main (F := Ideal))) ⟨m, fun _ => 0, g⟩ (fun r => ∀ c : Dev Cert.KernelFfnFwdIdeal.nD,
          r.2.mem ((c.tc : Thread Cert.KernelFfnFwdIdeal.nD Cert.KernelFfnFwdIdeal.τ).loc Cert.KernelFfnFwdIdeal.main_v5_0) = v0 c
          ∧ r.2.mem ((c.tc : Thread Cert.KernelFfnFwdIdeal.nD Cert.KernelFfnFwdIdeal.τ).loc Cert.KernelFfnFwdIdeal.main_v5_1) = v1 c
          ∧ r.2.mem ((c.tc : Thread Cert.KernelFfnFwdIdeal.nD Cert.KernelFfnFwdIdeal.τ).loc Cert.KernelFfnFwdIdeal.main_v5_2) = v2 c
          ∧ r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
          ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
          ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
          ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3))
      ∧ θ_run (Cert.ReferenceFfnFwdIdeal.defs (F := Ideal)) (onTc (τ := Cert.ReferenceFfnFwdIdeal.τ) (Cert.ReferenceFfnFwdIdeal.main (F := Ideal))) ⟨m', fun _ => 0, g'⟩ (fun r => ∀ c : Dev Cert.ReferenceFfnFwdIdeal.nD,
          r.2.mem ((c.tc : Thread Cert.ReferenceFfnFwdIdeal.nD Cert.ReferenceFfnFwdIdeal.τ).loc Cert.ReferenceFfnFwdIdeal.main_v26) = v0 c
          ∧ r.2.mem ((c.tc : Thread Cert.ReferenceFfnFwdIdeal.nD Cert.ReferenceFfnFwdIdeal.τ).loc Cert.ReferenceFfnFwdIdeal.main_v27) = v1 c
          ∧ r.2.mem ((c.tc : Thread Cert.ReferenceFfnFwdIdeal.nD Cert.ReferenceFfnFwdIdeal.τ).loc Cert.ReferenceFfnFwdIdeal.main_v28) = v2 c
          ∧ r.2.mem ((c.tc : Thread Cert.ReferenceFfnFwdIdeal.nD Cert.ReferenceFfnFwdIdeal.τ).loc Cert.ReferenceFfnFwdIdeal.main_arg0) = m' ((c.tc : Thread Cert.ReferenceFfnFwdIdeal.nD Cert.ReferenceFfnFwdIdeal.τ).loc Cert.ReferenceFfnFwdIdeal.main_arg0)
          ∧ r.2.mem ((c.tc : Thread Cert.ReferenceFfnFwdIdeal.nD Cert.ReferenceFfnFwdIdeal.τ).loc Cert.ReferenceFfnFwdIdeal.main_arg1) = m' ((c.tc : Thread Cert.ReferenceFfnFwdIdeal.nD Cert.ReferenceFfnFwdIdeal.τ).loc Cert.ReferenceFfnFwdIdeal.main_arg1)
          ∧ r.2.mem ((c.tc : Thread Cert.ReferenceFfnFwdIdeal.nD Cert.ReferenceFfnFwdIdeal.τ).loc Cert.ReferenceFfnFwdIdeal.main_arg2) = m' ((c.tc : Thread Cert.ReferenceFfnFwdIdeal.nD Cert.ReferenceFfnFwdIdeal.τ).loc Cert.ReferenceFfnFwdIdeal.main_arg2)
          ∧ r.2.mem ((c.tc : Thread Cert.ReferenceFfnFwdIdeal.nD Cert.ReferenceFfnFwdIdeal.τ).loc Cert.ReferenceFfnFwdIdeal.main_arg3) = m' ((c.tc : Thread Cert.ReferenceFfnFwdIdeal.nD Cert.ReferenceFfnFwdIdeal.τ).loc Cert.ReferenceFfnFwdIdeal.main_arg3))

def preserves_KernelMixProj_KernelMixProjIdeal : Prop :=
  True

def algebraic_KernelMixProjIdeal_ReferenceMixProjIdeal [hKernelMixProjIdeal : Cert.KernelMixProjIdeal.Facts] [hReferenceMixProjIdeal : Cert.ReferenceMixProjIdeal.Facts] : Prop :=
  ∀ (m : (ℓ : Loc Cert.KernelMixProjIdeal.nD Cert.KernelMixProjIdeal.τ Cert.KernelMixProjIdeal.sig) → Buf (Elt Ideal) ℓ) (g : Dev Cert.KernelMixProjIdeal.nD → PrngReg)
    (m' : (ℓ : Loc Cert.ReferenceMixProjIdeal.nD Cert.ReferenceMixProjIdeal.τ Cert.ReferenceMixProjIdeal.sig) → Buf (Elt Ideal) ℓ) (g' : Dev Cert.ReferenceMixProjIdeal.nD → PrngReg), Pre_KernelMixProjIdeal m →
    (∀ c : Dev Cert.KernelMixProjIdeal.nD,
      m' ((c.tc : Thread Cert.ReferenceMixProjIdeal.nD Cert.ReferenceMixProjIdeal.τ).loc Cert.ReferenceMixProjIdeal.main_arg0) = m ((c.tc : Thread Cert.KernelMixProjIdeal.nD Cert.KernelMixProjIdeal.τ).loc Cert.KernelMixProjIdeal.main_arg0)
      ∧ m' ((c.tc : Thread Cert.ReferenceMixProjIdeal.nD Cert.ReferenceMixProjIdeal.τ).loc Cert.ReferenceMixProjIdeal.main_arg1) = m ((c.tc : Thread Cert.KernelMixProjIdeal.nD Cert.KernelMixProjIdeal.τ).loc Cert.KernelMixProjIdeal.main_arg1)
      ∧ m' ((c.tc : Thread Cert.ReferenceMixProjIdeal.nD Cert.ReferenceMixProjIdeal.τ).loc Cert.ReferenceMixProjIdeal.main_arg2) = m ((c.tc : Thread Cert.KernelMixProjIdeal.nD Cert.KernelMixProjIdeal.τ).loc Cert.KernelMixProjIdeal.main_arg2)) →
    ∃ (v0 : (c : Dev Cert.KernelMixProjIdeal.nD) → Buf (Elt Ideal) ((c.tc : Thread Cert.KernelMixProjIdeal.nD Cert.KernelMixProjIdeal.τ).loc Cert.KernelMixProjIdeal.main_v3_0)) (v1 : (c : Dev Cert.KernelMixProjIdeal.nD) → Buf (Elt Ideal) ((c.tc : Thread Cert.KernelMixProjIdeal.nD Cert.KernelMixProjIdeal.τ).loc Cert.KernelMixProjIdeal.main_v3_1)),
      θ_run (Cert.KernelMixProjIdeal.defs (F := Ideal)) (onTc (τ := Cert.KernelMixProjIdeal.τ) (Cert.KernelMixProjIdeal.main (F := Ideal))) ⟨m, fun _ => 0, g⟩ (fun r => ∀ c : Dev Cert.KernelMixProjIdeal.nD,
          r.2.mem ((c.tc : Thread Cert.KernelMixProjIdeal.nD Cert.KernelMixProjIdeal.τ).loc Cert.KernelMixProjIdeal.main_v3_0) = v0 c
          ∧ r.2.mem ((c.tc : Thread Cert.KernelMixProjIdeal.nD Cert.KernelMixProjIdeal.τ).loc Cert.KernelMixProjIdeal.main_v3_1) = v1 c
          ∧ r.2.mem ((c.tc : Thread Cert.KernelMixProjIdeal.nD Cert.KernelMixProjIdeal.τ).loc Cert.KernelMixProjIdeal.main_arg0) = m ((c.tc : Thread Cert.KernelMixProjIdeal.nD Cert.KernelMixProjIdeal.τ).loc Cert.KernelMixProjIdeal.main_arg0)
          ∧ r.2.mem ((c.tc : Thread Cert.KernelMixProjIdeal.nD Cert.KernelMixProjIdeal.τ).loc Cert.KernelMixProjIdeal.main_arg1) = m ((c.tc : Thread Cert.KernelMixProjIdeal.nD Cert.KernelMixProjIdeal.τ).loc Cert.KernelMixProjIdeal.main_arg1)
          ∧ r.2.mem ((c.tc : Thread Cert.KernelMixProjIdeal.nD Cert.KernelMixProjIdeal.τ).loc Cert.KernelMixProjIdeal.main_arg2) = m ((c.tc : Thread Cert.KernelMixProjIdeal.nD Cert.KernelMixProjIdeal.τ).loc Cert.KernelMixProjIdeal.main_arg2))
      ∧ θ_run (Cert.ReferenceMixProjIdeal.defs (F := Ideal)) (onTc (τ := Cert.ReferenceMixProjIdeal.τ) (Cert.ReferenceMixProjIdeal.main (F := Ideal))) ⟨m', fun _ => 0, g'⟩ (fun r => ∀ c : Dev Cert.ReferenceMixProjIdeal.nD,
          r.2.mem ((c.tc : Thread Cert.ReferenceMixProjIdeal.nD Cert.ReferenceMixProjIdeal.τ).loc Cert.ReferenceMixProjIdeal.main_v18) = v0 c
          ∧ r.2.mem ((c.tc : Thread Cert.ReferenceMixProjIdeal.nD Cert.ReferenceMixProjIdeal.τ).loc Cert.ReferenceMixProjIdeal.main_v20) = v1 c
          ∧ r.2.mem ((c.tc : Thread Cert.ReferenceMixProjIdeal.nD Cert.ReferenceMixProjIdeal.τ).loc Cert.ReferenceMixProjIdeal.main_arg0) = m' ((c.tc : Thread Cert.ReferenceMixProjIdeal.nD Cert.ReferenceMixProjIdeal.τ).loc Cert.ReferenceMixProjIdeal.main_arg0)
          ∧ r.2.mem ((c.tc : Thread Cert.ReferenceMixProjIdeal.nD Cert.ReferenceMixProjIdeal.τ).loc Cert.ReferenceMixProjIdeal.main_arg1) = m' ((c.tc : Thread Cert.ReferenceMixProjIdeal.nD Cert.ReferenceMixProjIdeal.τ).loc Cert.ReferenceMixProjIdeal.main_arg1)
          ∧ r.2.mem ((c.tc : Thread Cert.ReferenceMixProjIdeal.nD Cert.ReferenceMixProjIdeal.τ).loc Cert.ReferenceMixProjIdeal.main_arg2) = m' ((c.tc : Thread Cert.ReferenceMixProjIdeal.nD Cert.ReferenceMixProjIdeal.τ).loc Cert.ReferenceMixProjIdeal.main_arg2))

def preserves_KernelMemKv_KernelMemKvIdeal : Prop :=
  True

def algebraic_KernelMemKvIdeal_ReferenceMemKvIdeal [hKernelMemKvIdeal : Cert.KernelMemKvIdeal.Facts] [hReferenceMemKvIdeal : Cert.ReferenceMemKvIdeal.Facts] : Prop :=
  ∀ (m : (ℓ : Loc Cert.KernelMemKvIdeal.nD Cert.KernelMemKvIdeal.τ Cert.KernelMemKvIdeal.sig) → Buf (Elt Ideal) ℓ) (g : Dev Cert.KernelMemKvIdeal.nD → PrngReg)
    (m' : (ℓ : Loc Cert.ReferenceMemKvIdeal.nD Cert.ReferenceMemKvIdeal.τ Cert.ReferenceMemKvIdeal.sig) → Buf (Elt Ideal) ℓ) (g' : Dev Cert.ReferenceMemKvIdeal.nD → PrngReg), Pre_KernelMemKvIdeal m →
    (∀ c : Dev Cert.KernelMemKvIdeal.nD,
      m' ((c.tc : Thread Cert.ReferenceMemKvIdeal.nD Cert.ReferenceMemKvIdeal.τ).loc Cert.ReferenceMemKvIdeal.main_arg0) = m ((c.tc : Thread Cert.KernelMemKvIdeal.nD Cert.KernelMemKvIdeal.τ).loc Cert.KernelMemKvIdeal.main_arg0)
      ∧ m' ((c.tc : Thread Cert.ReferenceMemKvIdeal.nD Cert.ReferenceMemKvIdeal.τ).loc Cert.ReferenceMemKvIdeal.main_arg1) = m ((c.tc : Thread Cert.KernelMemKvIdeal.nD Cert.KernelMemKvIdeal.τ).loc Cert.KernelMemKvIdeal.main_arg1)
      ∧ m' ((c.tc : Thread Cert.ReferenceMemKvIdeal.nD Cert.ReferenceMemKvIdeal.τ).loc Cert.ReferenceMemKvIdeal.main_arg2) = m ((c.tc : Thread Cert.KernelMemKvIdeal.nD Cert.KernelMemKvIdeal.τ).loc Cert.KernelMemKvIdeal.main_arg2)) →
    ∃ (v0 : (c : Dev Cert.KernelMemKvIdeal.nD) → Buf (Elt Ideal) ((c.tc : Thread Cert.KernelMemKvIdeal.nD Cert.KernelMemKvIdeal.τ).loc Cert.KernelMemKvIdeal.main_v3_0)) (v1 : (c : Dev Cert.KernelMemKvIdeal.nD) → Buf (Elt Ideal) ((c.tc : Thread Cert.KernelMemKvIdeal.nD Cert.KernelMemKvIdeal.τ).loc Cert.KernelMemKvIdeal.main_v3_1)),
      θ_run (Cert.KernelMemKvIdeal.defs (F := Ideal)) (onTc (τ := Cert.KernelMemKvIdeal.τ) (Cert.KernelMemKvIdeal.main (F := Ideal))) ⟨m, fun _ => 0, g⟩ (fun r => ∀ c : Dev Cert.KernelMemKvIdeal.nD,
          r.2.mem ((c.tc : Thread Cert.KernelMemKvIdeal.nD Cert.KernelMemKvIdeal.τ).loc Cert.KernelMemKvIdeal.main_v3_0) = v0 c
          ∧ r.2.mem ((c.tc : Thread Cert.KernelMemKvIdeal.nD Cert.KernelMemKvIdeal.τ).loc Cert.KernelMemKvIdeal.main_v3_1) = v1 c
          ∧ r.2.mem ((c.tc : Thread Cert.KernelMemKvIdeal.nD Cert.KernelMemKvIdeal.τ).loc Cert.KernelMemKvIdeal.main_arg0) = m ((c.tc : Thread Cert.KernelMemKvIdeal.nD Cert.KernelMemKvIdeal.τ).loc Cert.KernelMemKvIdeal.main_arg0)
          ∧ r.2.mem ((c.tc : Thread Cert.KernelMemKvIdeal.nD Cert.KernelMemKvIdeal.τ).loc Cert.KernelMemKvIdeal.main_arg1) = m ((c.tc : Thread Cert.KernelMemKvIdeal.nD Cert.KernelMemKvIdeal.τ).loc Cert.KernelMemKvIdeal.main_arg1)
          ∧ r.2.mem ((c.tc : Thread Cert.KernelMemKvIdeal.nD Cert.KernelMemKvIdeal.τ).loc Cert.KernelMemKvIdeal.main_arg2) = m ((c.tc : Thread Cert.KernelMemKvIdeal.nD Cert.KernelMemKvIdeal.τ).loc Cert.KernelMemKvIdeal.main_arg2))
      ∧ θ_run (Cert.ReferenceMemKvIdeal.defs (F := Ideal)) (onTc (τ := Cert.ReferenceMemKvIdeal.τ) (Cert.ReferenceMemKvIdeal.main (F := Ideal))) ⟨m', fun _ => 0, g'⟩ (fun r => ∀ c : Dev Cert.ReferenceMemKvIdeal.nD,
          r.2.mem ((c.tc : Thread Cert.ReferenceMemKvIdeal.nD Cert.ReferenceMemKvIdeal.τ).loc Cert.ReferenceMemKvIdeal.main_v15) = v0 c
          ∧ r.2.mem ((c.tc : Thread Cert.ReferenceMemKvIdeal.nD Cert.ReferenceMemKvIdeal.τ).loc Cert.ReferenceMemKvIdeal.main_v18) = v1 c
          ∧ r.2.mem ((c.tc : Thread Cert.ReferenceMemKvIdeal.nD Cert.ReferenceMemKvIdeal.τ).loc Cert.ReferenceMemKvIdeal.main_arg0) = m' ((c.tc : Thread Cert.ReferenceMemKvIdeal.nD Cert.ReferenceMemKvIdeal.τ).loc Cert.ReferenceMemKvIdeal.main_arg0)
          ∧ r.2.mem ((c.tc : Thread Cert.ReferenceMemKvIdeal.nD Cert.ReferenceMemKvIdeal.τ).loc Cert.ReferenceMemKvIdeal.main_arg1) = m' ((c.tc : Thread Cert.ReferenceMemKvIdeal.nD Cert.ReferenceMemKvIdeal.τ).loc Cert.ReferenceMemKvIdeal.main_arg1)
          ∧ r.2.mem ((c.tc : Thread Cert.ReferenceMemKvIdeal.nD Cert.ReferenceMemKvIdeal.τ).loc Cert.ReferenceMemKvIdeal.main_arg2) = m' ((c.tc : Thread Cert.ReferenceMemKvIdeal.nD Cert.ReferenceMemKvIdeal.τ).loc Cert.ReferenceMemKvIdeal.main_arg2))

def Claim : Prop :=
  ∃ (hKernelMixIn : Cert.KernelMixIn.Facts) (hKernelMixInIdeal : Cert.KernelMixInIdeal.Facts) (hReferenceMixInIdeal : Cert.ReferenceMixInIdeal.Facts) (hKernelFfn : Cert.KernelFfn.Facts) (hKernelFfnIdeal : Cert.KernelFfnIdeal.Facts) (hReferenceFfnIdeal : Cert.ReferenceFfnIdeal.Facts) (hKernelXattn : Cert.KernelXattn.Facts) (hKernelXattnIdeal : Cert.KernelXattnIdeal.Facts) (hReferenceXattnIdeal : Cert.ReferenceXattnIdeal.Facts) (hKernelHead : Cert.KernelHead.Facts) (hKernelHeadIdeal : Cert.KernelHeadIdeal.Facts) (hReferenceHeadIdeal : Cert.ReferenceHeadIdeal.Facts) (hKernelBias : Cert.KernelBias.Facts) (hKernelBiasIdeal : Cert.KernelBiasIdeal.Facts) (hReferenceBiasIdeal : Cert.ReferenceBiasIdeal.Facts) (hKernelXattnFwd : Cert.KernelXattnFwd.Facts) (hKernelXattnFwdIdeal : Cert.KernelXattnFwdIdeal.Facts) (hReferenceXattnFwdIdeal : Cert.ReferenceXattnFwdIdeal.Facts) (hKernelSwaFwd : Cert.KernelSwaFwd.Facts) (hKernelSwaFwdIdeal : Cert.KernelSwaFwdIdeal.Facts) (hReferenceSwaFwdIdeal : Cert.ReferenceSwaFwdIdeal.Facts) (hKernelMixOutFwd : Cert.KernelMixOutFwd.Facts) (hKernelMixOutFwdIdeal : Cert.KernelMixOutFwdIdeal.Facts) (hReferenceMixOutFwdIdeal : Cert.ReferenceMixOutFwdIdeal.Facts) (hKernelFfnFwd : Cert.KernelFfnFwd.Facts) (hKernelFfnFwdIdeal : Cert.KernelFfnFwdIdeal.Facts) (hReferenceFfnFwdIdeal : Cert.ReferenceFfnFwdIdeal.Facts) (hKernelMixProj : Cert.KernelMixProj.Facts) (hKernelMixProjIdeal : Cert.KernelMixProjIdeal.Facts) (hReferenceMixProjIdeal : Cert.ReferenceMixProjIdeal.Facts) (hKernelMemKv : Cert.KernelMemKv.Facts) (hKernelMemKvIdeal : Cert.KernelMemKvIdeal.Facts) (hReferenceMemKvIdeal : Cert.ReferenceMemKvIdeal.Facts) (hPre_finite_mix_in : Cert.Pre_finite_mix_in.Facts) (hPre_finite_ffn : Cert.Pre_finite_ffn.Facts) (hPre_finite_xattn : Cert.Pre_finite_xattn.Facts) (hPre_finite_head : Cert.Pre_finite_head.Facts) (hPre_finite_xattn_fwd : Cert.Pre_finite_xattn_fwd.Facts) (hPre_finite_swa_fwd : Cert.Pre_finite_swa_fwd.Facts),
    quiescent_KernelMixIn (hKernelMixIn := hKernelMixIn)
    ∧ quiescent_KernelMixInIdeal (hKernelMixInIdeal := hKernelMixInIdeal)
    ∧ quiescent_KernelMixInIdeal_pre_finite_mix_in (hKernelMixInIdeal := hKernelMixInIdeal) (hPre_finite_mix_in := hPre_finite_mix_in)
    ∧ quiescent_ReferenceMixInIdeal (hReferenceMixInIdeal := hReferenceMixInIdeal)
    ∧ quiescent_ReferenceMixInIdeal_pre_finite_mix_in (hReferenceMixInIdeal := hReferenceMixInIdeal) (hPre_finite_mix_in := hPre_finite_mix_in)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelXattn (hKernelXattn := hKernelXattn)
    ∧ quiescent_KernelXattnIdeal (hKernelXattnIdeal := hKernelXattnIdeal)
    ∧ quiescent_KernelXattnIdeal_pre_finite_xattn (hKernelXattnIdeal := hKernelXattnIdeal) (hPre_finite_xattn := hPre_finite_xattn)
    ∧ quiescent_ReferenceXattnIdeal (hReferenceXattnIdeal := hReferenceXattnIdeal)
    ∧ quiescent_ReferenceXattnIdeal_pre_finite_xattn (hReferenceXattnIdeal := hReferenceXattnIdeal) (hPre_finite_xattn := hPre_finite_xattn)
    ∧ quiescent_KernelHead (hKernelHead := hKernelHead)
    ∧ quiescent_KernelHeadIdeal (hKernelHeadIdeal := hKernelHeadIdeal)
    ∧ quiescent_KernelHeadIdeal_pre_finite_head (hKernelHeadIdeal := hKernelHeadIdeal) (hPre_finite_head := hPre_finite_head)
    ∧ quiescent_ReferenceHeadIdeal (hReferenceHeadIdeal := hReferenceHeadIdeal)
    ∧ quiescent_ReferenceHeadIdeal_pre_finite_head (hReferenceHeadIdeal := hReferenceHeadIdeal) (hPre_finite_head := hPre_finite_head)
    ∧ quiescent_KernelBias (hKernelBias := hKernelBias)
    ∧ quiescent_KernelBiasIdeal (hKernelBiasIdeal := hKernelBiasIdeal)
    ∧ quiescent_ReferenceBiasIdeal (hReferenceBiasIdeal := hReferenceBiasIdeal)
    ∧ quiescent_KernelXattnFwd (hKernelXattnFwd := hKernelXattnFwd)
    ∧ quiescent_KernelXattnFwdIdeal (hKernelXattnFwdIdeal := hKernelXattnFwdIdeal)
    ∧ quiescent_KernelXattnFwdIdeal_pre_finite_xattn_fwd (hKernelXattnFwdIdeal := hKernelXattnFwdIdeal) (hPre_finite_xattn_fwd := hPre_finite_xattn_fwd)
    ∧ quiescent_ReferenceXattnFwdIdeal (hReferenceXattnFwdIdeal := hReferenceXattnFwdIdeal)
    ∧ quiescent_ReferenceXattnFwdIdeal_pre_finite_xattn_fwd (hReferenceXattnFwdIdeal := hReferenceXattnFwdIdeal) (hPre_finite_xattn_fwd := hPre_finite_xattn_fwd)
    ∧ quiescent_KernelSwaFwd (hKernelSwaFwd := hKernelSwaFwd)
    ∧ quiescent_KernelSwaFwdIdeal (hKernelSwaFwdIdeal := hKernelSwaFwdIdeal)
    ∧ quiescent_KernelSwaFwdIdeal_pre_finite_swa_fwd (hKernelSwaFwdIdeal := hKernelSwaFwdIdeal) (hPre_finite_swa_fwd := hPre_finite_swa_fwd)
    ∧ quiescent_ReferenceSwaFwdIdeal (hReferenceSwaFwdIdeal := hReferenceSwaFwdIdeal)
    ∧ quiescent_ReferenceSwaFwdIdeal_pre_finite_swa_fwd (hReferenceSwaFwdIdeal := hReferenceSwaFwdIdeal) (hPre_finite_swa_fwd := hPre_finite_swa_fwd)
    ∧ quiescent_KernelMixOutFwd (hKernelMixOutFwd := hKernelMixOutFwd)
    ∧ quiescent_KernelMixOutFwdIdeal (hKernelMixOutFwdIdeal := hKernelMixOutFwdIdeal)
    ∧ quiescent_ReferenceMixOutFwdIdeal (hReferenceMixOutFwdIdeal := hReferenceMixOutFwdIdeal)
    ∧ quiescent_KernelFfnFwd (hKernelFfnFwd := hKernelFfnFwd)
    ∧ quiescent_KernelFfnFwdIdeal (hKernelFfnFwdIdeal := hKernelFfnFwdIdeal)
    ∧ quiescent_ReferenceFfnFwdIdeal (hReferenceFfnFwdIdeal := hReferenceFfnFwdIdeal)
    ∧ quiescent_KernelMixProj (hKernelMixProj := hKernelMixProj)
    ∧ quiescent_KernelMixProjIdeal (hKernelMixProjIdeal := hKernelMixProjIdeal)
    ∧ quiescent_ReferenceMixProjIdeal (hReferenceMixProjIdeal := hReferenceMixProjIdeal)
    ∧ quiescent_KernelMemKv (hKernelMemKv := hKernelMemKv)
    ∧ quiescent_KernelMemKvIdeal (hKernelMemKvIdeal := hKernelMemKvIdeal)
    ∧ quiescent_ReferenceMemKvIdeal (hReferenceMemKvIdeal := hReferenceMemKvIdeal)
    ∧ preserves_KernelMixIn_KernelMixInIdeal
    ∧ algebraic_KernelMixInIdeal_ReferenceMixInIdeal_pre_finite_mix_in (hKernelMixInIdeal := hKernelMixInIdeal) (hReferenceMixInIdeal := hReferenceMixInIdeal) (hPre_finite_mix_in := hPre_finite_mix_in)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelXattn_KernelXattnIdeal
    ∧ algebraic_KernelXattnIdeal_ReferenceXattnIdeal_pre_finite_xattn (hKernelXattnIdeal := hKernelXattnIdeal) (hReferenceXattnIdeal := hReferenceXattnIdeal) (hPre_finite_xattn := hPre_finite_xattn)
    ∧ preserves_KernelHead_KernelHeadIdeal
    ∧ algebraic_KernelHeadIdeal_ReferenceHeadIdeal_pre_finite_head (hKernelHeadIdeal := hKernelHeadIdeal) (hReferenceHeadIdeal := hReferenceHeadIdeal) (hPre_finite_head := hPre_finite_head)
    ∧ preserves_KernelBias_KernelBiasIdeal
    ∧ preserves_KernelXattnFwd_KernelXattnFwdIdeal
    ∧ algebraic_KernelXattnFwdIdeal_ReferenceXattnFwdIdeal_pre_finite_xattn_fwd (hKernelXattnFwdIdeal := hKernelXattnFwdIdeal) (hReferenceXattnFwdIdeal := hReferenceXattnFwdIdeal) (hPre_finite_xattn_fwd := hPre_finite_xattn_fwd)
    ∧ preserves_KernelSwaFwd_KernelSwaFwdIdeal
    ∧ algebraic_KernelSwaFwdIdeal_ReferenceSwaFwdIdeal_pre_finite_swa_fwd (hKernelSwaFwdIdeal := hKernelSwaFwdIdeal) (hReferenceSwaFwdIdeal := hReferenceSwaFwdIdeal) (hPre_finite_swa_fwd := hPre_finite_swa_fwd)
    ∧ preserves_KernelMixOutFwd_KernelMixOutFwdIdeal
    ∧ algebraic_KernelMixOutFwdIdeal_ReferenceMixOutFwdIdeal (hKernelMixOutFwdIdeal := hKernelMixOutFwdIdeal) (hReferenceMixOutFwdIdeal := hReferenceMixOutFwdIdeal)
    ∧ preserves_KernelFfnFwd_KernelFfnFwdIdeal
    ∧ algebraic_KernelFfnFwdIdeal_ReferenceFfnFwdIdeal (hKernelFfnFwdIdeal := hKernelFfnFwdIdeal) (hReferenceFfnFwdIdeal := hReferenceFfnFwdIdeal)
    ∧ preserves_KernelMixProj_KernelMixProjIdeal
    ∧ algebraic_KernelMixProjIdeal_ReferenceMixProjIdeal (hKernelMixProjIdeal := hKernelMixProjIdeal) (hReferenceMixProjIdeal := hReferenceMixProjIdeal)
    ∧ preserves_KernelMemKv_KernelMemKvIdeal
    ∧ algebraic_KernelMemKvIdeal_ReferenceMemKvIdeal (hKernelMemKvIdeal := hKernelMemKvIdeal) (hReferenceMemKvIdeal := hReferenceMemKvIdeal)
-- ==== Pre_finite_ffn.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn {F : FTy → Type} [FloatOps F] (main_arg0 : FVec F S1x4096x1024 .f32) (main_arg1 : FVec F S1x1024 .f32) (main_arg2 : FVec F S1x1024x5632 .f32) (main_arg3 : FVec F S1x2816x1024 .f32) (main_arg4 : FVec F S1x4096x1024 .f32) : IVec S1x4096x1024 1 × IVec S1x1024 1 × IVec S1x1024x5632 1 × IVec S1x2816x1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5632 .f32 := Host.absf main_arg2
  let main_cst_1 : FVec F S_ .f32 := constant S_ .f32 0x7F800000#32
  let main_v7 : FVec F S1x1024x5632 .f32 := broadcastInDim S1x1024x5632 ![] bcast_S_S1x1024x5632 main_cst_1
  let main_v8 : IVec S1x1024x5632 1 := cmpf .olt main_v6 main_v7
  let main_v9 : FVec F S1x2816x1024 .f32 := Host.absf main_arg3
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_v12 : FVec F S1x4096x1024 .f32 := Host.absf main_arg4
  let main_cst_3 : FVec F S_ .f32 := constant S_ .f32 0x7F800000#32
  let main_v13 : FVec F S1x4096x1024 .f32 := broadcastInDim S1x4096x1024 ![] bcast_S_S1x4096x1024 main_cst_3
  let main_v14 : IVec S1x4096x1024 1 := cmpf .olt main_v12 main_v13
  (main_v2, main_v5, main_v8, main_v11, main_v14)
-- ==== Pre_finite_head.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)
  bcast_S_S1024 : S_.BroadcastsInDim S1024 (![] : Fin 0 → Fin S1024.rank)

variable [Facts]

def fn {F : FTy → Type} [FloatOps F] (main_arg0 : FVec F S1x4096x1024 .f32) (main_arg1 : FVec F S1x1024 .f32) (main_arg2 : FVec F S1x1024x5632 .f32) (main_arg3 : FVec F S1x2816x1024 .f32) (main_arg4 : FVec F S1024 .f32) (main_arg5 : FVec F S1x4096x1024 .f32) : IVec S1x4096x1024 1 × IVec S1x1024 1 × IVec S1x1024x5632 1 × IVec S1x2816x1024 1 × IVec S1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5632 .f32 := Host.absf main_arg2
  let main_cst_1 : FVec F S_ .f32 := constant S_ .f32 0x7F800000#32
  let main_v7 : FVec F S1x1024x5632 .f32 := broadcastInDim S1x1024x5632 ![] bcast_S_S1x1024x5632 main_cst_1
  let main_v8 : IVec S1x1024x5632 1 := cmpf .olt main_v6 main_v7
  let main_v9 : FVec F S1x2816x1024 .f32 := Host.absf main_arg3
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1x4096x1024 .f32 := Host.absf main_arg5
  let main_cst_4 : FVec F S_ .f32 := constant S_ .f32 0x7F800000#32
  let main_v16 : FVec F S1x4096x1024 .f32 := broadcastInDim S1x4096x1024 ![] bcast_S_S1x4096x1024 main_cst_4
  let main_v17 : IVec S1x4096x1024 1 := cmpf .olt main_v15 main_v16
  (main_v2, main_v5, main_v8, main_v11, main_v14, main_v17)
-- ==== Pre_finite_mix_in.lean ====
abbrev S1x4096x1024 : Shape := ⟨3, ![1, 4096, 1024]⟩
abbrev S1x1024 : Shape := ⟨2, ![1, 1024]⟩
abbrev S1x1024x6656 : Shape := ⟨3, ![1, 1024, 6656]⟩
abbrev S1x4096x6656 : Shape := ⟨3, ![1, 4096, 6656]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x6656 : S_.BroadcastsInDim S1x1024x6656 (![] : Fin 0 → Fin S1x1024x6656.rank)
  bcast_S_S1x4096x6656 : S_.BroadcastsInDim S1x4096x6656 (![] : Fin 0 → Fin S1x4096x6656.rank)

variable [Facts]

def fn {F : FTy → Type} [FloatOps F] (main_arg0 : FVec F S1x4096x1024 .f32) (main_arg1 : FVec F S1x1024 .f32) (main_arg2 : FVec F S1x1024x6656 .f32) (main_arg3 : FVec F S1x4096x6656 .f32) (main_arg4 : FVec F S1x4096x1024 .f32) : IVec S1x4096x1024 1 × IVec S1x1024 1 × IVec S1x1024x6656 1 × IVec S1x4096x6656 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x6656 .f32 := Host.absf main_arg2
  let main_cst_1 : FVec F S_ .f32 := constant S_ .f32 0x7F800000#32
  let main_v7 : FVec F S1x1024x6656 .f32 := broadcastInDim S1x1024x6656 ![] bcast_S_S1x1024x6656 main_cst_1
  let main_v8 : IVec S1x1024x6656 1 := cmpf .olt main_v6 main_v7
  let main_v9 : FVec F S1x4096x6656 .f32 := Host.absf main_arg3
  let main_cst_2 : FVec F S_ .f32 := constant S_ .f32 0x7F800000#32
  let main_v10 : FVec F S1x4096x6656 .f32 := broadcastInDim S1x4096x6656 ![] bcast_S_S1x4096x6656 main_cst_2
  let main_v11 : IVec S1x4096x6656 1 := cmpf .olt main_v9 main_v10
  let main_v12 : FVec F S1x4096x1024 .f32 := Host.absf main_arg4
  let main_cst_3 : FVec F S_ .f32 := constant S_ .f32 0x7F800000#32
  let main_v13 : FVec F S1x4096x1024 .f32 := broadcastInDim S1x4096x1024 ![] bcast_S_S1x4096x1024 main_cst_3
  let main_v14 : IVec S1x4096x1024 1 := cmpf .olt main_v12 main_v13
  (main_v2, main_v5, main_v8, main_v11, main_v14)
-- ==== Pre_finite_swa_fwd.lean ====
abbrev S1x4096x1024 : Shape := ⟨3, ![1, 4096, 1024]⟩
abbrev S1x4096x256 : Shape := ⟨3, ![1, 4096, 256]⟩
abbrev S1x4096 : Shape := ⟨2, ![1, 4096]⟩
abbrev S32x16 : Shape := ⟨2, ![32, 16]⟩
abbrev S1x16 : Shape := ⟨2, ![1, 16]⟩
abbrev S_ : Shape := ⟨0, ![]⟩
abbrev S1x32x128 : Shape := ⟨3, ![1, 32, 128]⟩
abbrev S1x1x128 : Shape := ⟨3, ![1, 1, 128]⟩
abbrev S1x31x128 : Shape := ⟨3, ![1, 31, 128]⟩
abbrev S1x32x256 : Shape := ⟨3, ![1, 32, 256]⟩
abbrev S1x32x128x1 : Shape := ⟨4, ![1, 32, 128, 1]⟩
abbrev S1x32x1x256 : Shape := ⟨4, ![1, 32, 1, 256]⟩
abbrev S1x32x128x256 : Shape := ⟨4, ![1, 32, 128, 256]⟩

class Facts : Prop where
  bcast_S_S1x4096x1024 : S_.BroadcastsInDim S1x4096x1024 (![] : Fin 0 → Fin S1x4096x1024.rank)
  bcast_S_S1x4096x256 : S_.BroadcastsInDim S1x4096x256 (![] : Fin 0 → Fin S1x4096x256.rank)
  bcast_S_S32x16 : S_.BroadcastsInDim S32x16 (![] : Fin 0 → Fin S32x16.rank)
  bcast_S_S1x16 : S_.BroadcastsInDim S1x16 (![] : Fin 0 → Fin S1x16.rank)
  shapeCasts_S1x4096_S1x32x128 : S1x4096.ShapeCasts S1x32x128
  slices_S1x32x128_S1x1x128_0_0_0 : S1x32x128.Slices ![0, 0, 0] S1x1x128
  bcast_S_S1x1x128 : S_.BroadcastsInDim S1x1x128 (![] : Fin 0 → Fin S1x1x128.rank)
  slices_S1x32x128_S1x31x128_0_0_0 : S1x32x128.Slices ![0, 0, 0] S1x31x128
  concatenates_S1x1x128_S1x31x128_S1x32x128_d1 : Shape.Concatenates [S1x1x128, S1x31x128] S1x32x128 1
  concatenates_S1x32x128_S1x32x128_S1x32x256_d2 : Shape.Concatenates [S1x32x128, S1x32x128] S1x32x256 2
  bcast_S1x32x128_S1x32x128x1_0_1_2 : S1x32x128.BroadcastsInDim S1x32x128x1 (![0, 1, 2] : Fin 3 → Fin S1x32x128x1.rank)
  bcast_S1x32x256_S1x32x1x256_0_1_3 : S1x32x256.BroadcastsInDim S1x32x1x256 (![0, 1, 3] : Fin 3 → Fin S1x32x1x256.rank)
  bcast_S1x32x128x1_S1x32x128x256_0_1_2_3 : S1x32x128x1.BroadcastsInDim S1x32x128x256 (![0, 1, 2, 3] : Fin 4 → Fin S1x32x128x256.rank)
  bcast_S1x32x1x256_S1x32x128x256_0_1_2_3 : S1x32x1x256.BroadcastsInDim S1x32x128x256 (![0, 1, 2, 3] : Fin 4 → Fin S1x32x128x256.rank)
  bcast_S_S1x32x128x256 : S_.BroadcastsInDim S1x32x128x256 (![] : Fin 0 → Fin S1x32x128x256.rank)

variable [Facts]

def fn_part1 {F : FTy → Type} [FloatOps F] (main_arg3 : IVec S1x4096 32) (main_v2 : IVec S1x4096x1024 1) (main_v5 : IVec S1x4096x256 1) (main_v8 : IVec S1x4096x256 1) (main_v11 : IVec S32x16 1) (main_v14 : IVec S1x16 1) (main_v15 : IVec S1x32x128 32) (main_v17 : IVec S1x1x128 32) : IVec S1x4096x1024 1 × IVec S1x4096x256 1 × IVec S1x4096x256 1 × IVec S32x16 1 × IVec S1x16 1 × IVec S1x32x128x256 1 :=
  let main_v18 : IVec S1x31x128 32 := (extractStridedSlice S1x31x128 ![0, 0, 0] · slices_S1x32x128_S1x31x128_0_0_0) main_v15
  let main_v19 : IVec S1x32x128 32 := (fun a b => concatenate S1x32x128 1 [⟨S1x1x128, a⟩, ⟨S1x31x128, b⟩] concatenates_S1x1x128_S1x31x128_S1x32x128_d1) main_v17 main_v18
  let main_v20 : IVec S1x32x256 32 := (fun a b => concatenate S1x32x256 2 [⟨S1x32x128, a⟩, ⟨S1x32x128, b⟩] concatenates_S1x32x128_S1x32x128_S1x32x256_d2) main_v19 main_v15
  let main_v21 : IVec S1x32x128 32 := shapeCast S1x32x128 main_arg3 shapeCasts_S1x4096_S1x32x128
  let main_v22 : IVec S1x32x128x1 32 := broadcastInDim S1x32x128x1 ![0, 1, 2] bcast_S1x32x128_S1x32x128x1_0_1_2 main_v21
  let main_v23 : IVec S1x32x1x256 32 := broadcastInDim S1x32x1x256 ![0, 1, 3] bcast_S1x32x256_S1x32x1x256_0_1_3 main_v20
  let main_v24 : IVec S1x32x128x256 32 := broadcastInDim S1x32x128x256 ![0, 1, 2, 3] bcast_S1x32x128x1_S1x32x128x256_0_1_2_3 main_v22
  let main_v25 : IVec S1x32x128x256 32 := broadcastInDim S1x32x128x256 ![0, 1, 2, 3] bcast_S1x32x1x256_S1x32x128x256_0_1_2_3 main_v23
  let main_v26 : IVec S1x32x128x256 32 := subi main_v24 main_v25
  let main_v27 : IVec S1x32x128x256 32 := iotaInDim S1x32x128x256 32 2
  let main_v28 : IVec S1x32x128x256 32 := iotaInDim S1x32x128x256 32 3
  let main_c_4 : IVec S_ 32 := constantI S_ 32 0#32
  let main_v29 : IVec S1x32x128x256 32 := broadcastInDim S1x32x128x256 ![] bcast_S_S1x32x128x256 main_c_4
  let main_v30 : IVec S1x32x128x256 1 := cmpi .slt main_v26 main_v29
  let main_c_5 : IVec S_ 32 := constantI S_ 32 128#32
  let main_v31 : IVec S1x32x128x256 32 := broadcastInDim S1x32x128x256 ![] bcast_S_S1x32x128x256 main_c_5
  let main_v32 : IVec S1x32x128x256 1 := cmpi .sge main_v26 main_v31
  let main_v33 : IVec S1x32x128x256 1 := ori main_v30 main_v32
  let main_c_6 : IVec S_ 32 := constantI S_ 32 128#32
  let main_v34 : IVec S1x32x128x256 32 := broadcastInDim S1x32x128x256 ![] bcast_S_S1x32x128x256 main_c_6
  let main_v35 : IVec S1x32x128x256 32 := addi main_v27 main_v34
  let main_v36 : IVec S1x32x128x256 32 := subi main_v35 main_v28
  let main_v37 : IVec S1x32x128x256 1 := cmpi .eq main_v26 main_v36
  let main_v38 : IVec S1x32x128x256 1 := ori main_v33 main_v37
  (main_v2, main_v5, main_v8, main_v11, main_v14, main_v38)

def fn {F : FTy → Type} [FloatOps F] (main_arg0 : FVec F S1x4096x1024 .f32) (main_arg1 : FVec F S1x4096x256 .f32) (main_arg2 : FVec F S1x4096x256 .f32) (main_arg3 : IVec S1x4096 32) (main_arg4 : FVec F S32x16 .f32) (main_arg5 : FVec F S1x16 .f32) : IVec S1x4096x1024 1 × IVec S1x4096x256 1 × IVec S1x4096x256 1 × IVec S32x16 1 × IVec S1x16 1 × IVec S1x32x128x256 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x256 .f32 := Host.absf main_arg1
  let main_cst_0 : FVec F S_ .f32 := constant S_ .f32 0x7F800000#32
  let main_v4 : FVec F S1x4096x256 .f32 := broadcastInDim S1x4096x256 ![] bcast_S_S1x4096x256 main_cst_0
  let main_v5 : IVec S1x4096x256 1 := cmpf .olt main_v3 main_v4
  let main_v6 : FVec F S1x4096x256 .f32 := Host.absf main_arg2
  let main_cst_1 : FVec F S_ .f32 := constant S_ .f32 0x7F800000#32
  let main_v7 : FVec F S1x4096x256 .f32 := broadcastInDim S1x4096x256 ![] bcast_S_S1x4096x256 main_cst_1
  let main_v8 : IVec S1x4096x256 1 := cmpf .olt main_v6 main_v7
  let main_v9 : FVec F S32x16 .f32 := Host.absf main_arg4
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_v12 : FVec F S1x16 .f32 := Host.absf main_arg5
  let main_cst_3 : FVec F S_ .f32 := constant S_ .f32 0x7F800000#32
  let main_v13 : FVec F S1x16 .f32 := broadcastInDim S1x16 ![] bcast_S_S1x16 main_cst_3
  let main_v14 : IVec S1x16 1 := cmpf .olt main_v12 main_v13
  let main_v15 : IVec S1x32x128 32 := shapeCast S1x32x128 main_arg3 shapeCasts_S1x4096_S1x32x128
  let main_v16 : IVec S1x1x128 32 := (extractStridedSlice S1x1x128 ![0, 0, 0] · slices_S1x32x128_S1x1x128_0_0_0) main_v15
  let main_c : IVec S_ 32 := constantI S_ 32 1073741824#32
  let main_v17 : IVec S1x1x128 32 := broadcastInDim S1x1x128 ![] bcast_S_S1x1x128 main_c
  fn_part1 (F := F) main_arg3 main_v2 main_v5 main_v8 main_v11 main_v14 main_v15 main_v17
-- ==== Pre_finite_xattn.lean ====
abbrev S1x4096x1024 : Shape := ⟨3, ![1, 4096, 1024]⟩
abbrev S1x256x1024 : Shape := ⟨3, ![1, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S_ : Shape := ⟨0, ![]⟩

class Facts : Prop where
  bcast_S_S1x4096x1024 : S_.BroadcastsInDim S1x4096x1024 (![] : Fin 0 → Fin S1x4096x1024.rank)
  bcast_S_S1x256x1024 : S_.BroadcastsInDim S1x256x1024 (![] : Fin 0 → Fin S1x256x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)
  bcast_S_S1x1024x2048 : S_.BroadcastsInDim S1x1024x2048 (![] : Fin 0 → Fin S1x1024x2048.rank)

variable [Facts]

def fn_part1 {F : FTy → Type} [FloatOps F] (main_arg6 : FVec F S1x1024x1024 .f32) (main_arg7 : FVec F S1x4096x1024 .f32) (main_v2 : IVec S1x4096x1024 1) (main_v5 : IVec S1x256x1024 1) (main_v8 : IVec S1x1024 1) (main_v11 : IVec S1x1024 1) (main_v14 : IVec S1x1024x1024 1) (main_v17 : IVec S1x1024x2048 1) : IVec S1x4096x1024 1 × IVec S1x256x1024 1 × IVec S1x1024 1 × IVec S1x1024 1 × IVec S1x1024x1024 1 × IVec S1x1024x2048 1 × IVec S1x1024x1024 1 × IVec S1x4096x1024 1 :=
  let main_v18 : FVec F S1x1024x1024 .f32 := Host.absf main_arg6
  let main_cst_5 : FVec F S_ .f32 := constant S_ .f32 0x7F800000#32
  let main_v19 : FVec F S1x1024x1024 .f32 := broadcastInDim S1x1024x1024 ![] bcast_S_S1x1024x1024 main_cst_5
  let main_v20 : IVec S1x1024x1024 1 := cmpf .olt main_v18 main_v19
  let main_v21 : FVec F S1x4096x1024 .f32 := Host.absf main_arg7
  let main_cst_6 : FVec F S_ .f32 := constant S_ .f32 0x7F800000#32
  let main_v22 : FVec F S1x4096x1024 .f32 := broadcastInDim S1x4096x1024 ![] bcast_S_S1x4096x1024 main_cst_6
  let main_v23 : IVec S1x4096x1024 1 := cmpf .olt main_v21 main_v22
  (main_v2, main_v5, main_v8, main_v11, main_v14, main_v17, main_v20, main_v23)

def fn {F : FTy → Type} [FloatOps F] (main_arg0 : FVec F S1x4096x1024 .f32) (main_arg1 : FVec F S1x256x1024 .f32) (main_arg2 : FVec F S1x1024 .f32) (main_arg3 : FVec F S1x1024 .f32) (main_arg4 : FVec F S1x1024x1024 .f32) (main_arg5 : FVec F S1x1024x2048 .f32) (main_arg6 : FVec F S1x1024x1024 .f32) (main_arg7 : FVec F S1x4096x1024 .f32) : IVec S1x4096x1024 1 × IVec S1x256x1024 1 × IVec S1x1024 1 × IVec S1x1024 1 × IVec S1x1024x1024 1 × IVec S1x1024x2048 1 × IVec S1x1024x1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x256x1024 .f32 := Host.absf main_arg1
  let main_cst_0 : FVec F S_ .f32 := constant S_ .f32 0x7F800000#32
  let main_v4 : FVec F S1x256x1024 .f32 := broadcastInDim S1x256x1024 ![] bcast_S_S1x256x1024 main_cst_0
  let main_v5 : IVec S1x256x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x1024 .f32 := Host.absf main_arg4
  let main_cst_3 : FVec F S_ .f32 := constant S_ .f32 0x7F800000#32
  let main_v13 : FVec F S1x1024x1024 .f32 := broadcastInDim S1x1024x1024 ![] bcast_S_S1x1024x1024 main_cst_3
  let main_v14 : IVec S1x1024x1024 1 := cmpf .olt main_v12 main_v13
  let main_v15 : FVec F S1x1024x2048 .f32 := Host.absf main_arg5
  let main_cst_4 : FVec F S_ .f32 := constant S_ .f32 0x7F800000#32
  let main_v16 : FVec F S1x1024x2048 .f32 := broadcastInDim S1x1024x2048 ![] bcast_S_S1x1024x2048 main_cst_4
  let main_v17 : IVec S1x1024x2048 1 := cmpf .olt main_v15 main_v16
  fn_part1 (F := F) main_arg6 main_arg7 main_v2 main_v5 main_v8 main_v11 main_v14 main_v17
-- ==== Pre_finite_xattn_fwd.lean ====
abbrev S1x4096x1024 : Shape := ⟨3, ![1, 4096, 1024]⟩
abbrev S1x256x1024 : Shape := ⟨3, ![1, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S_ : Shape := ⟨0, ![]⟩

class Facts : Prop where
  bcast_S_S1x4096x1024 : S_.BroadcastsInDim S1x4096x1024 (![] : Fin 0 → Fin S1x4096x1024.rank)
  bcast_S_S1x256x1024 : S_.BroadcastsInDim S1x256x1024 (![] : Fin 0 → Fin S1x256x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)
  bcast_S_S1x1024x2048 : S_.BroadcastsInDim S1x1024x2048 (![] : Fin 0 → Fin S1x1024x2048.rank)

variable [Facts]

def fn {F : FTy → Type} [FloatOps F] (main_arg0 : FVec F S1x4096x1024 .f32) (main_arg1 : FVec F S1x256x1024 .f32) (main_arg2 : FVec F S1x1024 .f32) (main_arg3 : FVec F S1x1024 .f32) (main_arg4 : FVec F S1x1024x1024 .f32) (main_arg5 : FVec F S1x1024x2048 .f32) (main_arg6 : FVec F S1x1024x1024 .f32) : IVec S1x4096x1024 1 × IVec S1x256x1024 1 × IVec S1x1024 1 × IVec S1x1024 1 × IVec S1x1024x1024 1 × IVec S1x1024x2048 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x256x1024 .f32 := Host.absf main_arg1
  let main_cst_0 : FVec F S_ .f32 := constant S_ .f32 0x7F800000#32
  let main_v4 : FVec F S1x256x1024 .f32 := broadcastInDim S1x256x1024 ![] bcast_S_S1x256x1024 main_cst_0
  let main_v5 : IVec S1x256x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x1024 .f32 := Host.absf main_arg4
  let main_cst_3 : FVec F S_ .f32 := constant S_ .f32 0x7F800000#32
  let main_v13 : FVec F S1x1024x1024 .f32 := broadcastInDim S1x1024x1024 ![] bcast_S_S1x1024x1024 main_cst_3
  let main_v14 : IVec S1x1024x1024 1 := cmpf .olt main_v12 main_v13
  let main_v15 : FVec F S1x1024x2048 .f32 := Host.absf main_arg5
  let main_cst_4 : FVec F S_ .f32 := constant S_ .f32 0x7F800000#32
  let main_v16 : FVec F S1x1024x2048 .f32 := broadcastInDim S1x1024x2048 ![] bcast_S_S1x1024x2048 main_cst_4
  let main_v17 : IVec S1x1024x2048 1 := cmpf .olt main_v15 main_v16
  (main_v2, main_v5, main_v8, main_v11, main_v14, main_v17)
-- ==== KernelMixIn.lean ====
abbrev S1x4096x1024 : Shape := ⟨3, ![1, 4096, 1024]⟩
abbrev S1x1024 : Shape := ⟨2, ![1, 1024]⟩
abbrev S1x1024x6656 : Shape := ⟨3, ![1, 1024, 6656]⟩
abbrev S1x4096x6656 : Shape := ⟨3, ![1, 4096, 6656]⟩
abbrev S4096x6656 : Shape := ⟨2, ![4096, 6656]⟩
abbrev S4096x1024 : Shape := ⟨2, ![4096, 1024]⟩
abbrev S1024x6656 : Shape := ⟨2, ![1024, 6656]⟩
abbrev S256x6656 : Shape := ⟨2, ![256, 6656]⟩
abbrev S256x1024 : Shape := ⟨2, ![256, 1024]⟩
abbrev S1024x1024 : Shape := ⟨2, ![1024, 1024]⟩
abbrev S256x512 : Shape := ⟨2, ![256, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 14
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x6656, .f32⟩
  | .hbm, ⟨3, _⟩ => ⟨S1x4096x6656, .f32⟩
  | .hbm, ⟨4, _⟩ => ⟨S1x4096x1024, .f32⟩
  | .hbm, ⟨5, _⟩ => ⟨S4096x6656, .f32⟩
  | .hbm, ⟨6, _⟩ => ⟨S4096x6656, .bf16⟩
  | .hbm, ⟨7, _⟩ => ⟨S4096x1024, .f32⟩
  | .hbm, ⟨8, _⟩ => ⟨S1024x6656, .f32⟩
  | .hbm, ⟨9, _⟩ => ⟨S1024x6656, .bf16⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S4096x1024, .bf16⟩
  | .local _ .vmem, ⟨0, _⟩ => ⟨S256x6656, .bf16⟩
  | .local _ .vmem, ⟨1, _⟩ => ⟨S256x6656, .bf16⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x6656, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .bf16⟩
  | .local _ .vmem, ⟨12, _⟩ => ⟨S256x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6656 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceMixInIdeal.lean ====
abbrev S1x4096x1024 : Shape := ⟨3, ![1, 4096, 1024]⟩
abbrev S1x1024 : Shape := ⟨2, ![1, 1024]⟩
abbrev S1x1024x6656 : Shape := ⟨3, ![1, 1024, 6656]⟩
abbrev S1x4096x6656 : Shape := ⟨3, ![1, 4096, 6656]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x6656 : Shape := ⟨2, ![1024, 6656]⟩
abbrev S4096x6656 : Shape := ⟨2, ![4096, 6656]⟩

abbrev nBuf : Space → Nat
  | .hbm => 80
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x6656, .f32⟩
  | .hbm, ⟨3, _⟩ => ⟨S1x4096x6656, .f32⟩
  | .hbm, ⟨4, _⟩ => ⟨S1x4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1024x6656, .f32⟩
  | .hbm, ⟨28, _⟩ => ⟨S4096x6656, .f32⟩
  | .hbm, ⟨29, _⟩ => ⟨S4096x6656, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S1024x6656, .f32⟩
  | .hbm, ⟨78, _⟩ => ⟨S4096x6656, .f32⟩
  | .hbm, ⟨79, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== KernelFfn.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x2816 : Shape := ⟨2, ![4096, 2816]⟩
abbrev S2816x1024 : Shape := ⟨2, ![2816, 1024]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S256x1408 : Shape := ⟨2, ![256, 1408]⟩
abbrev S1408x1024 : Shape := ⟨2, ![1408, 1024]⟩
abbrev S1024x1408 : Shape := ⟨2, ![1024, 1408]⟩

abbrev nBuf : Space → Nat
  | .hbm => 41
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1024x5632, .f32⟩
  | .hbm, ⟨24, _⟩ => ⟨S4096x5632, .f32⟩
  | .hbm, ⟨25, _⟩ => ⟨S4096x2816, .f32⟩
  | .hbm, ⟨26, _⟩ => ⟨S4096x2816, .f32⟩
  | .hbm, ⟨27, _⟩ => ⟨S4096x1024, .f32⟩
  | .hbm, ⟨28, _⟩ => ⟨S4096x1024, .f32⟩
  | .hbm, ⟨29, _⟩ => ⟨S4096x2816, .bf16⟩
  | .hbm, ⟨30, _⟩ => ⟨S4096x2816, .bf16⟩
  | .hbm, ⟨31, _⟩ => ⟨S1024x5632, .f32⟩
  | .hbm, ⟨32, _⟩ => ⟨S1024x5632, .bf16⟩
  | .hbm, ⟨33, _⟩ => ⟨S2816x1024, .f32⟩
  | .hbm, ⟨34, _⟩ => ⟨S2816x1024, .bf16⟩
  | .hbm, ⟨35, _⟩ => ⟨S4096x1024, .f32⟩
  | .hbm, ⟨36, _⟩ => ⟨S1x1024, .f32⟩
  | .hbm, ⟨37, _⟩ => ⟨S4096x5632, .bf16⟩
  | .hbm, ⟨38, _⟩ => ⟨S4096x2816, .bf16⟩
  | .hbm, ⟨39, _⟩ => ⟨S4096x1024, .bf16⟩
  | .hbm, ⟨40, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S1024x5632, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x5632, .bf16⟩
  | .local _ .vmem, ⟨15, _⟩ => ⟨S256x5632, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev main_v27_3 : Ref sig .tc := ⟨.hbm, 38, rfl⟩
abbrev main_v27_4 : Ref sig .tc := ⟨.hbm, 39, rfl⟩
abbrev main_v27_5 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceFfnIdeal.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S4096x5632 : Shape := ⟨2, ![4096, 5632]⟩
abbrev S4096x1024 : Shape := ⟨2, ![4096, 1024]⟩
abbrev S1024 : Shape := ⟨1, ![1024]⟩
abbrev S4096 : Shape := ⟨1, ![4096]⟩
abbrev S4096x1 : Shape := ⟨2, ![4096, 1]⟩
abbrev S1024x5632 : Shape := ⟨2, ![1024, 5632]⟩
abbrev S4096x2816 : Shape := ⟨2, ![4096, 2816]⟩
abbrev S2816x1024 : Shape := ⟨2, ![2816, 1024]⟩

abbrev nBuf : Space → Nat
  | .hbm => 101
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x4096x1024, .f32⟩
  | .hbm, ⟨5, _⟩ => ⟨S_, .f32⟩
  | .hbm, ⟨6, _⟩ => ⟨S4096x5632, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1024x5632, .f32⟩
  | .hbm, ⟨32, _⟩ => ⟨S4096x5632, .f32⟩
  | .hbm, ⟨33, _⟩ => ⟨S4096x5632, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S2816x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S4096x2816, .f32⟩
  | .hbm, ⟨65, _⟩ => ⟨S4096x2816, .f32⟩
  | .hbm, ⟨66, _⟩ => ⟨S4096x2816, .f32⟩
  | .hbm, ⟨67, _⟩ => ⟨S4096x2816, .f32⟩
  | .hbm, ⟨68, _⟩ => ⟨S4096x5632, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S1x1024, .f32⟩
  | .hbm, ⟨97, _⟩ => ⟨S4096x5632, .bf16⟩
  | .hbm, ⟨98, _⟩ => ⟨S4096x2816, .bf16⟩
  | .hbm, ⟨99, _⟩ => ⟨S4096x1024, .bf16⟩
  | .hbm, ⟨100, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v25_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v25_1 : Ref sig .tc := ⟨.hbm, 47, rfl⟩
abbrev main_v25_0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩

abbrev nD : Nat := 1
abbrev τ : Topo := Topo.v7x

variable {F : FTy → Type} [FloatOps F]
-- ==== KernelXattn.lean ====
abbrev S1x4096x1024 : Shape := ⟨3, ![1, 4096, 1024]⟩
abbrev S1x256x1024 : Shape := ⟨3, ![1, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S1024x2048 : Shape := ⟨2, ![1024, 2048]⟩
abbrev S256x2048 : Shape := ⟨2, ![256, 2048]⟩
abbrev S512x2048 : Shape := ⟨2, ![512, 2048]⟩
abbrev S256x256 : Shape := ⟨2, ![256, 256]⟩

abbrev nBuf : Space → Nat
  | .hbm => 68
  | .vmem => 27
  | .smem => 0
  | _ => 0

abbrev bufTy : (tb : Table) → Fin (tcTables nBuf tb) → BufTy
  | .hbm, ⟨0, _⟩ => ⟨S1x4096x1024, .f32⟩
  | .hbm, ⟨1, _⟩ => ⟨S1x256x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024x2048, .f32⟩
  | .hbm, ⟨6, _⟩ => ⟨S1x1024x1024, .f32⟩
  | .hbm, ⟨7, _⟩ => ⟨S1x4096x1024, .f32⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S256x1024, .f32⟩
  | .hbm, ⟨27, _⟩ => ⟨S1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S_, .f32⟩
  | .hbm, ⟨33, _⟩ => ⟨S256x1, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S256x1, .f32⟩
  | .hbm, ⟨39, _⟩ => ⟨S256x1024, .f32⟩
  | .hbm, ⟨40, _⟩ => ⟨S256x1024, .f32⟩
  | .hbm, ⟨41, _⟩ => ⟨S1x1024, .f32⟩
  | .hbm, ⟨42, _⟩ => ⟨S256x1024, .f32⟩
  | .hbm, ⟨43, _⟩ => ⟨S256x1024, .f32⟩
  | .hbm, ⟨44, _⟩ => ⟨S1024x1024, .f32⟩
  | .hbm, ⟨45, _⟩ => ⟨S4096x1024, .f32⟩
  | .hbm, ⟨46, _⟩ => ⟨S4096x1024, .bf16⟩
  | .hbm, ⟨47, _⟩ => ⟨S1024x2048, .f32⟩
  | .hbm, ⟨48, _⟩ => ⟨S256x2048, .f32⟩
  | .hbm, ⟨49, _⟩ => ⟨S256x2048, .bf16⟩
  | .hbm, ⟨50, _⟩ => ⟨S4096x1024, .f32⟩
  | .hbm, ⟨51, _⟩ => ⟨S4096x1024, .f32⟩
  | .hbm, ⟨52, _⟩ => ⟨S1024x1024, .f32⟩
  | .hbm, ⟨53, _⟩ => ⟨S1024x1024, .bf16⟩
  | .hbm, ⟨54, _⟩ => ⟨S1024x1024, .f32⟩
  | .hbm, ⟨55, _⟩ => ⟨S1024x1024, .bf16⟩
  | .hbm, ⟨56, _⟩ => ⟨S256x1024, .bf16⟩
  | .hbm, ⟨57, _⟩ => ⟨S256x1024, .f32⟩
  | .hbm, ⟨58, _⟩ => ⟨S1024x2048, .f32⟩
  | .hbm, ⟨59, _⟩ => ⟨S1024x2048, .bf16⟩
  | .hbm, ⟨60, _⟩ => ⟨S4096x1024, .f32⟩
  | .hbm, ⟨61, _⟩ => ⟨S1x1024, .f32⟩
  | .hbm, ⟨62, _⟩ => ⟨S4096x1024, .bf16⟩
  | .hbm, ⟨63, _⟩ => ⟨S4096x1024, .bf16⟩
  | .hbm, ⟨64, _⟩ => ⟨S4096x1024, .bf16⟩
  | .hbm, ⟨65, _⟩ => ⟨S512x2048, .bf16⟩
  | .hbm, ⟨66, _⟩ => ⟨S512x2048, .bf16⟩
  | .hbm, ⟨67, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S256x2048, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S256x1024, .f32⟩
  | .local _ .vmem, ⟨12, _⟩ => ⟨S1024x2048, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S512x2048, .bf16⟩
  | .local _ .vmem, ⟨23, _⟩ => ⟨S512x2048, .bf16⟩
  | .local _ .vmem, ⟨24, _⟩ => ⟨S1x1024, .f32⟩
  | .local _ .vmem, ⟨25, _⟩ => ⟨S256x2048, .f32⟩
  | .local _ .vmem, ⟨26, _⟩ => ⟨S1024x2048, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46_0 : Ref sig .tc := ⟨.hbm, 60, rfl⟩
abbrev main_v46_1 : Ref sig .tc := ⟨.hbm, 61, rfl⟩
abbrev main_v46_2 : Ref sig .tc := ⟨.hbm, 62, rfl⟩
abbrev main_v46_3 : Ref sig .tc := ⟨.hbm, 63, rfl⟩
abbrev main_v46_4 : Ref sig .tc := ⟨.hbm, 64, rfl⟩
abbrev main_v46_5 : Ref sig .tc := ⟨.hbm, 65, rfl⟩
abbrev main_v46_6 : Ref sig .tc := ⟨.hbm, 66, rfl⟩
abbrev main_v46_7 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem16_0 : DmaSem sig := 23
abbrev cc0_sem17_0 : DmaSem sig := 24

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v235 : BitVec 1 := Scalar.cmpi .eq arg0 c15_i32
  let v236 : BitVec 32 := Scalar.extui v235
  let c0_i32_122 : BitVec 32 := 0#32
  let v237 : BitVec 1 := Scalar.cmpi .ne v236 c0_i32_122
  v237

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S512x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceXattnIdeal.lean ====
abbrev S1x4096x1024 : Shape := ⟨3, ![1, 4096, 1024]⟩
abbrev S1x256x1024 : Shape := ⟨3, ![1, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S_ : Shape := ⟨0, ![]⟩
abbrev S1024 : Shape := ⟨1, ![1024]⟩
abbrev S1x4096 : Shape := ⟨2, ![1, 4096]⟩
abbrev S1x4096x1 : Shape := ⟨3, ![1, 4096, 1]⟩
abbrev S1x1x1024 : Shape := ⟨3, ![1, 1, 1024]⟩
abbrev S1x256 : Shape := ⟨2, ![1, 256]⟩
abbrev S1x256x1 : Shape := ⟨3, ![1, 256, 1]⟩
abbrev S1024x1024 : Shape := ⟨2, ![1024, 1024]⟩
abbrev S1024x2048 : Shape := ⟨2, ![1024, 2048]⟩
abbrev S1x4096x4x256 : Shape := ⟨4, ![1, 4096, 4, 256]⟩
abbrev S1x256x2048 : Shape := ⟨3, ![1, 256, 2048]⟩
abbrev S1x256x4x256 : Shape := ⟨4, ![1, 256, 4, 256]⟩
abbrev S1x4x4096x256 : Shape := ⟨4, ![1, 4, 4096, 256]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S1x4x256x256 : Shape := ⟨4, ![1, 4, 256, 256]⟩
abbrev S4x4096 : Shape := ⟨2, ![4, 4096]⟩
abbrev S2048x1024 : Shape := ⟨2, ![2048, 1024]⟩
abbrev S4096 : Shape := ⟨1, ![4096]⟩
abbrev S4096x1024 : Shape := ⟨2, ![4096, 1024]⟩
abbrev S1x512x2048 : Shape := ⟨3, ![1, 512, 2048]⟩
abbrev S512x2048 : Shape := ⟨2, ![512, 2048]⟩

abbrev nBuf : Space → Nat
  | .hbm => 209
  | .vmem => 0
  | .smem => 0
  | _ => 0

abbrev hbmTy0_0 (i : Nat) : BufTy := match i % 128 with
  | 0 => ⟨S1x4096x1024, .f32⟩
  | 1 => ⟨S1x256x1024, .f32⟩
  | 2 => ⟨S1x1024, .f32⟩
  | 3 => ⟨S1x1024, .f32⟩
  | 4 => ⟨S1x1024x1024, .f32⟩
  | 5 => ⟨S1x1024x2048, .f32⟩
  | 6 => ⟨S1x1024x1024, .f32⟩
  | 7 => ⟨S1x4096x1024, .f32⟩
  | 8 => ⟨S_, .f32⟩
  | 9 => ⟨S1x4096x1024, .f32⟩
  | 10 => ⟨S1024, .f32⟩
  | 11 => ⟨S1x4096x1024, .f32⟩
  | 12 => ⟨S_, .f32⟩
  | 13 => ⟨S1x4096, .f32⟩
  | 14 => ⟨S1x4096x1, .f32⟩
  | 15 => ⟨S_, .f32⟩
  | 16 => ⟨S1x4096x1, .f32⟩
  | 17 => ⟨S1x4096x1, .f32⟩
  | 18 => ⟨S_, .f32⟩
  | 19 => ⟨S1x4096x1, .f32⟩
  | 20 => ⟨S1x4096x1, .f32⟩
  | 21 => ⟨S1x4096x1, .f32⟩
  | 22 => ⟨S1x4096x1, .f32⟩
  | 23 => ⟨S_, .f32⟩
  | 24 => ⟨S1x4096x1, .f32⟩
  | 25 => ⟨S1x4096x1, .f32⟩
  | 26 => ⟨S1x4096x1024, .f32⟩
  | 27 => ⟨S1x4096x1024, .f32⟩
  | 28 => ⟨S1x1x1024, .f32⟩
  | 29 => ⟨S1x4096x1024, .f32⟩
  | 30 => ⟨S1x4096x1024, .f32⟩
  | 31 => ⟨S1024, .f32⟩
  | 32 => ⟨S1x256x1024, .f32⟩
  | 33 => ⟨S_, .f32⟩
  | 34 => ⟨S1x256, .f32⟩
  | 35 => ⟨S1x256x1, .f32⟩
  | 36 => ⟨S_, .f32⟩
  | 37 => ⟨S1x256x1, .f32⟩
  | 38 => ⟨S1x256x1, .f32⟩
  | 39 => ⟨S_, .f32⟩
  | 40 => ⟨S1x256x1, .f32⟩
  | 41 => ⟨S1x256x1, .f32⟩
  | 42 => ⟨S1x256x1, .f32⟩
  | 43 => ⟨S1x256x1024, .f32⟩
  | 44 => ⟨S1x256x1024, .f32⟩
  | 45 => ⟨S1x1x1024, .f32⟩
  | 46 => ⟨S1x256x1024, .f32⟩
  | 47 => ⟨S1x256x1024, .f32⟩
  | 48 => ⟨S1024x1024, .f32⟩
  | 49 => ⟨S1024x2048, .f32⟩
  | 50 => ⟨S1024x1024, .f32⟩
  | 51 => ⟨S1x4096x1024, .f32⟩
  | 52 => ⟨S1x4096x1024, .f32⟩
  | 53 => ⟨S1x4096x4x256, .f32⟩
  | 54 => ⟨S1x256x2048, .f32⟩
  | 55 => ⟨S1x256x1024, .f32⟩
  | 56 => ⟨S1x256x1024, .f32⟩
  | 57 => ⟨S1x256x4x256, .f32⟩
  | 58 => ⟨S1x256x4x256, .f32⟩
  | 59 => ⟨S1x4x4096x256, .f32⟩
  | 60 => ⟨S_, .f32⟩
  | 61 => ⟨S1x4x4096x256, .f32⟩
  | 62 => ⟨S1x4x4096x256, .f32⟩
  | 63 => ⟨S_, .f32⟩
  | 64 => ⟨S1x4x4096, .f32⟩
  | 65 => ⟨S1x4x4096x1, .f32⟩
  | 66 => ⟨S1x4x4096x256, .f32⟩
  | 67 => ⟨S1x4x4096x256, .i1⟩
  | 68 => ⟨S1x4x4096x256, .f32⟩
  | 69 => ⟨S_, .f32⟩
  | 70 => ⟨S1x4x4096, .f32⟩
  | 71 => ⟨S_, .f32⟩
  | 72 => ⟨S1x4x4096, .f32⟩
  | 73 => ⟨S1x4x4096, .f32⟩
  | 74 => ⟨S_, .f32⟩
  | 75 => ⟨S1x4x4096, .f32⟩
  | 76 => ⟨S1x4x4096, .i1⟩
  | 77 => ⟨S_, .f32⟩
  | 78 => ⟨S1x4x4096, .f32⟩
  | 79 => ⟨S1x4x4096, .i1⟩
  | 80 => ⟨S_, .f32⟩
  | 81 => ⟨S1x4x4096, .f32⟩
  | 82 => ⟨S_, .f32⟩
  | 83 => ⟨S1x4x4096, .f32⟩
  | 84 => ⟨S_, .f32⟩
  | 85 => ⟨S1x4x4096, .f32⟩
  | 86 => ⟨S1x4x4096, .f32⟩
  | 87 => ⟨S1x4x4096, .f32⟩
  | 88 => ⟨S1x4x4096x1, .f32⟩
  | 89 => ⟨S1x4x4096x256, .f32⟩
  | 90 => ⟨S1x4x4096x256, .f32⟩
  | 91 => ⟨S1x4x4096x256, .f32⟩
  | 92 => ⟨S_, .f32⟩
  | 93 => ⟨S1x4x4096, .f32⟩
  | 94 => ⟨S1x4x4096x1, .f32⟩
  | 95 => ⟨S1x4x4096x256, .f32⟩
  | 96 => ⟨S1x4x4096x256, .f32⟩
  | 97 => ⟨S1x4x4096x1, .f32⟩
  | 98 => ⟨S_, .f32⟩
  | 99 => ⟨S1x4x4096x1, .f32⟩
  | 100 => ⟨S1x4x4096x1, .f32⟩
  | 101 => ⟨S1x4x256x4096, .f32⟩
  | 102 => ⟨S1x4096x4x256, .f32⟩
  | 103 => ⟨S1x4096x1024, .f32⟩
  | 104 => ⟨S1x4096x1024, .f32⟩
  | 105 => ⟨S1x4096x1024, .f32⟩
  | 106 => ⟨S1x4096x1024, .f32⟩
  | 107 => ⟨S1x4096x1024, .f32⟩
  | 108 => ⟨S1x4096x4x256, .f32⟩
  | 109 => ⟨S1x4x256x4096, .f32⟩
  | 110 => ⟨S1x4x4096x256, .f32⟩
  | 111 => ⟨S1x4x256x256, .f32⟩
  | 112 => ⟨S1x256x4x256, .f32⟩
  | 113 => ⟨S1x4x4096x256, .f32⟩
  | 114 => ⟨S1x4x4096x256, .f32⟩
  | 115 => ⟨S1x4x4096x256, .f32⟩
  | 116 => ⟨S_, .f32⟩
  | 117 => ⟨S1x4x4096, .f32⟩
  | 118 => ⟨S1x4x4096x1, .f32⟩
  | 119 => ⟨S1x4x4096x1, .f32⟩
  | 120 => ⟨S1x4x4096x256, .f32⟩
  | 121 => ⟨S1x4x4096x256, .f32⟩
  | 122 => ⟨S_, .f32⟩
  | 123 => ⟨S4x4096, .f32⟩
  | 124 => ⟨S1x4x4096, .f32⟩
  | 125 => ⟨S1x4x4096x256, .f32⟩
  | 126 => ⟨S1x4x4096x256, .f32⟩
  | 127 => ⟨S1x4x4096x256, .f32⟩
  | _ => ⟨S1x4096x1024, .f32⟩

abbrev hbmTy0_1 (i : Nat) : BufTy := match i % 128 with
  | 0 => ⟨S_, .f32⟩
  | 1 => ⟨S1x4x4096x256, .f32⟩
  | 2 => ⟨S1x4x4096x256, .f32⟩
  | 3 => ⟨S1x4x256x256, .f32⟩
  | 4 => ⟨S1x256x4x256, .f32⟩
  | 5 => ⟨S1x4x4096x256, .f32⟩
  | 6 => ⟨S1x4096x4x256, .f32⟩
  | 7 => ⟨S1x256x1024, .f32⟩
  | 8 => ⟨S1x256x1024, .f32⟩
  | 9 => ⟨S1x256x2048, .f32⟩
  | 10 => ⟨S2048x1024, .f32⟩
  | 11 => ⟨S1024x2048, .f32⟩
  | 12 => ⟨S1x256x1024, .f32⟩
  | 13 => ⟨S1x4096x1024, .f32⟩
  | 14 => ⟨S1x4096x1024, .f32⟩
  | 15 => ⟨S1x1024x2048, .f32⟩
  | 16 => ⟨S1x256x1024, .f32⟩
  | 17 => ⟨S_, .f32⟩
  | 18 => ⟨S1x1024, .f32⟩
  | 19 => ⟨S1x1x1024, .f32⟩
  | 20 => ⟨S_, .f32⟩
  | 21 => ⟨S1024, .f32⟩
  | 22 => ⟨S1x1024, .f32⟩
  | 23 => ⟨S1x4096x1024, .f32⟩
  | 24 => ⟨S_, .f32⟩
  | 25 => ⟨S1x1024, .f32⟩
  | 26 => ⟨S1x1x1024, .f32⟩
  | 27 => ⟨S1x4096x1024, .f32⟩
  | 28 => ⟨S1x4096x1024, .f32⟩
  | 29 => ⟨S_, .f32⟩
  | 30 => ⟨S1024, .f32⟩
  | 31 => ⟨S1x4096x1024, .f32⟩
  | 32 => ⟨S_, .f32⟩
  | 33 => ⟨S1x4096, .f32⟩
  | 34 => ⟨S1x4096x1, .f32⟩
  | 35 => ⟨S1x4096x1024, .f32⟩
  | 36 => ⟨S1x4096x1024, .f32⟩
  | 37 => ⟨S1x4096x1024, .f32⟩
  | 38 => ⟨S1x4096x1, .f32⟩
  | 39 => ⟨S_, .f32⟩
  | 40 => ⟨S1x4096x1, .f32⟩
  | 41 => ⟨S1x4096x1, .f32⟩
  | 42 => ⟨S_, .f32⟩
  | 43 => ⟨S4096, .f32⟩
  | 44 => ⟨S1x4096, .f32⟩
  | 45 => ⟨S1x4096x1024, .f32⟩
  | 46 => ⟨S1x4096x1024, .f32⟩
  | 47 => ⟨S1x4096x1024, .f32⟩
  | 48 => ⟨S1x4096x1024, .f32⟩
  | 49 => ⟨S1x4096x1024, .f32⟩
  | 50 => ⟨S1x1024, .f32⟩
  | 51 => ⟨S1024, .f32⟩
  | 52 => ⟨S1x4096x1024, .f32⟩
  | 53 => ⟨S_, .f32⟩
  | 54 => ⟨S1x4096, .f32⟩
  | 55 => ⟨S1x4096x1, .f32⟩
  | 56 => ⟨S_, .f32⟩
  | 57 => ⟨S1x4096x1, .f32⟩
  | 58 => ⟨S1x4096x1, .f32⟩
  | 59 => ⟨S_, .f32⟩
  | 60 => ⟨S1x4096x1, .f32⟩
  | 61 => ⟨S1x4096x1, .f32⟩
  | 62 => ⟨S1x4096x1, .f32⟩
  | 63 => ⟨S1x4096x1024, .f32⟩
  | 64 => ⟨S1x4096x1024, .f32⟩
  | 65 => ⟨S1x1x1024, .f32⟩
  | 66 => ⟨S1x4096x1024, .f32⟩
  | 67 => ⟨S1x4096x1024, .f32⟩
  | 68 => ⟨S4096x1024, .f32⟩
  | 69 => ⟨S4096x1024, .f32⟩
  | 70 => ⟨S4096x1024, .bf16⟩
  | 71 => ⟨S4096x1024, .f32⟩
  | 72 => ⟨S4096x1024, .bf16⟩
  | 73 => ⟨S4096x1024, .f32⟩
  | 74 => ⟨S4096x1024, .bf16⟩
  | 75 => ⟨S1x512x2048, .f32⟩
  | 76 => ⟨S512x2048, .f32⟩
  | 77 => ⟨S512x2048, .bf16⟩
  | 78 => ⟨S1x512x2048, .f32⟩
  | 79 => ⟨S512x2048, .f32⟩
  | 80 => ⟨S512x2048, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_17 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_18 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_19 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_20 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_21 : Ref sig .tc := ⟨.hbm, 145, rfl⟩
abbrev main_v115 : Ref sig .tc := ⟨.hbm, 146, rfl⟩
abbrev main_v116 : Ref sig .tc := ⟨.hbm, 147, rfl⟩
abbrev main_cst_22 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_23 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_24 : Ref sig .tc := ⟨.hbm, 157, rfl⟩
abbrev main_v124 : Ref sig .tc := ⟨.hbm, 158, rfl⟩
abbrev main_v125 : Ref sig .tc := ⟨.hbm, 159, rfl⟩
abbrev main_cst_25 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_26 : Ref sig .tc := ⟨.hbm, 167, rfl⟩
abbrev main_v132 : Ref sig .tc := ⟨.hbm, 168, rfl⟩
abbrev main_v133 : Ref sig .tc := ⟨.hbm, 169, rfl⟩
abbrev main_cst_27 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_cst_28 : Ref sig .tc := ⟨.hbm, 181, rfl⟩
abbrev main_v144 : Ref sig .tc := ⟨.hbm, 182, rfl⟩
abbrev main_v145 : Ref sig .tc := ⟨.hbm, 183, rfl⟩
abbrev main_cst_29 : Ref sig .tc := ⟨.hbm, 184, rfl⟩
abbrev main_v146 : Ref sig .tc := ⟨.hbm, 185, rfl⟩
abbrev main_v147 : Ref sig .tc := ⟨.hbm, 186, rfl⟩
abbrev main_cst_30 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩

abbrev nD : Nat := 1
abbrev τ : Topo := Topo.v7x

variable {F : FTy → Type} [FloatOps F]
-- ==== KernelHead.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S4096x1024 : Shape := ⟨2, ![4096, 1024]⟩
abbrev S1024x5632 : Shape := ⟨2, ![1024, 5632]⟩
abbrev S2816x1024 : Shape := ⟨2, ![2816, 1024]⟩
abbrev S4096x2816 : Shape := ⟨2, ![4096, 2816]⟩
abbrev S1x128 : Shape := ⟨2, ![1, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩
abbrev S1 : Shape := ⟨1, ![1]⟩
abbrev S1x1 : Shape := ⟨2, ![1, 1]⟩

abbrev nBuf : Space → Nat
  | .hbm => 18
  | .vmem => 16
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1x4096x1024, .f32⟩
  | .hbm, ⟨6, _⟩ => ⟨S4096x1024, .f32⟩
  | .hbm, ⟨7, _⟩ => ⟨S1024x5632, .f32⟩
  | .hbm, ⟨8, _⟩ => ⟨S1024x5632, .bf16⟩
  | .hbm, ⟨9, _⟩ => ⟨S2816x1024, .f32⟩
  | .hbm, ⟨10, _⟩ => ⟨S2816x1024, .bf16⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x2816, .bf16⟩
  | .hbm, ⟨15, _⟩ => ⟨S4096x2816, .bf16⟩
  | .hbm, ⟨16, _⟩ => ⟨S1x1024, .f32⟩
  | .hbm, ⟨17, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S1x1024, .f32⟩
  | .local _ .vmem, ⟨15, _⟩ => ⟨S1x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceHeadIdeal.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x2816 : Shape := ⟨2, ![4096, 2816]⟩
abbrev S2816x1024 : Shape := ⟨2, ![2816, 1024]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1x4096x1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1024x5632, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S2816x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S_, .f32⟩
  | .hbm, ⟨74, _⟩ => ⟨S4096, .f32⟩
  | .hbm, ⟨75, _⟩ => ⟨S4096, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S4096, .f32⟩
  | .hbm, ⟨84, _⟩ => ⟨S_, .f32⟩
  | .hbm, ⟨85, _⟩ => ⟨S4096, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S1024, .f32⟩
  | .hbm, ⟨97, _⟩ => ⟨S4096x1024, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S4096x1024, .f32⟩
  | .hbm, ⟨102, _⟩ => ⟨S4096x1024, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S4096x2816, .bf16⟩
  | .hbm, ⟨115, _⟩ => ⟨S4096x2816, .bf16⟩
  | .hbm, ⟨116, _⟩ => ⟨S1x1024, .f32⟩
  | .hbm, ⟨117, _⟩ => ⟨S1x128, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_cst_12 : Ref sig .tc := ⟨.hbm, 80, rfl⟩
abbrev main_cst_13 : Ref sig .tc := ⟨.hbm, 81, rfl⟩
abbrev main_v53 : Ref sig .tc := ⟨.hbm, 82, rfl⟩
abbrev main_v54 : Ref sig .tc := ⟨.hbm, 83, rfl⟩
abbrev main_cst_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_15 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_16 : Ref sig .tc := ⟨.hbm, 95, rfl⟩
abbrev main_v64 : Ref sig .tc := ⟨.hbm, 96, rfl⟩
abbrev main_v65 : Ref sig .tc := ⟨.hbm, 97, rfl⟩
abbrev main_cst_17 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_18 : Ref sig .tc := ⟨.hbm, 104, rfl⟩
abbrev main_v71 : Ref sig .tc := ⟨.hbm, 105, rfl⟩
abbrev main_v72 : Ref sig .tc := ⟨.hbm, 106, rfl⟩
abbrev main_cst_19 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩

abbrev nD : Nat := 1
abbrev τ : Topo := Topo.v7x

variable {F : FTy → Type} [FloatOps F]
-- ==== KernelBias.lean ====
abbrev S32x16 : Shape := ⟨2, ![32, 16]⟩
abbrev S1x16 : Shape := ⟨2, ![1, 16]⟩
abbrev S16x128x256 : Shape := ⟨3, ![16, 128, 256]⟩
abbrev S16x128x1 : Shape := ⟨3, ![16, 128, 1]⟩
abbrev S16x32 : Shape := ⟨2, ![16, 32]⟩
abbrev S128x256 : Shape := ⟨2, ![128, 256]⟩
abbrev S1x128x256 : Shape := ⟨3, ![1, 128, 256]⟩
abbrev S1 : Shape := ⟨1, ![1]⟩
abbrev S1x1x1 : Shape := ⟨3, ![1, 1, 1]⟩
abbrev S1x1 : Shape := ⟨2, ![1, 1]⟩
abbrev S1x128x1 : Shape := ⟨3, ![1, 128, 1]⟩
abbrev S128x1 : Shape := ⟨2, ![128, 1]⟩

abbrev nBuf : Space → Nat
  | .hbm => 6
  | .vmem => 2
  | .smem => 2
  | _ => 0

abbrev bufTy : (tb : Table) → Fin (tcTables nBuf tb) → BufTy
  | .hbm, ⟨0, _⟩ => ⟨S32x16, .f32⟩
  | .hbm, ⟨1, _⟩ => ⟨S1x16, .f32⟩
  | .hbm, ⟨2, _⟩ => ⟨S16x128x256, .f32⟩
  | .hbm, ⟨3, _⟩ => ⟨S16x128x1, .f32⟩
  | .hbm, ⟨4, _⟩ => ⟨S16x32, .f32⟩
  | .hbm, ⟨5, _⟩ => ⟨S1x16, .f32⟩
  | .local _ .vmem, ⟨0, _⟩ => ⟨S16x128x256, .f32⟩
  | .local _ .vmem, ⟨1, _⟩ => ⟨S16x128x1, .f32⟩
  | .local _ .smem, ⟨0, _⟩ => ⟨S16x32, .f32⟩
  | .local _ .smem, ⟨1, _⟩ => ⟨S1x16, .f32⟩
  | _, _ => ⟨S32x16, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceBiasIdeal.lean ====
abbrev S32x16 : Shape := ⟨2, ![32, 16]⟩
abbrev S1x16 : Shape := ⟨2, ![1, 16]⟩
abbrev S16x128x256 : Shape := ⟨3, ![16, 128, 256]⟩
abbrev S16x128x1 : Shape := ⟨3, ![16, 128, 1]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x1x1 : Shape := ⟨3, ![16, 1, 1]⟩
abbrev S16 : Shape := ⟨1, ![16]⟩
abbrev S16x32 : Shape := ⟨2, ![16, 32]⟩

abbrev nBuf : Space → Nat
  | .hbm => 63
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S1x16, .f32⟩
  | .hbm, ⟨2, _⟩ => ⟨S16x128x256, .f32⟩
  | .hbm, ⟨3, _⟩ => ⟨S16x128x1, .f32⟩
  | .hbm, ⟨4, _⟩ => ⟨S128, .i32⟩
  | .hbm, ⟨5, _⟩ => ⟨S128x1, .i32⟩
  | .hbm, ⟨6, _⟩ => ⟨S_, .i32⟩
  | .hbm, ⟨7, _⟩ => ⟨S128x1, .i32⟩
  | .hbm, ⟨8, _⟩ => ⟨S128x1, .i32⟩
  | .hbm, ⟨9, _⟩ => ⟨S256, .i32⟩
  | .hbm, ⟨10, _⟩ => ⟨S1x256, .i32⟩
  | .hbm, ⟨11, _⟩ => ⟨S128x256, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .i32⟩
  | .hbm, ⟨46, _⟩ => ⟨S128x256, .i32⟩
  | .hbm, ⟨47, _⟩ => ⟨S128x256, .i32⟩
  | .hbm, ⟨48, _⟩ => ⟨S128x256, .i32⟩
  | .hbm, ⟨49, _⟩ => ⟨S128x256x1, .i32⟩
  | .hbm, ⟨50, _⟩ => ⟨S128x256x16, .f32⟩
  | .hbm, ⟨51, _⟩ => ⟨S16x128x256, .f32⟩
  | .hbm, ⟨52, _⟩ => ⟨S16x1x1, .f32⟩
  | .hbm, ⟨53, _⟩ => ⟨S16x128x1, .f32⟩
  | .hbm, ⟨54, _⟩ => ⟨S_, .f32⟩
  | .hbm, ⟨55, _⟩ => ⟨S16, .f32⟩
  | .hbm, ⟨56, _⟩ => ⟨S16x1x1, .f32⟩
  | .hbm, ⟨57, _⟩ => ⟨S1x16, .f32⟩
  | .hbm, ⟨58, _⟩ => ⟨S128x256x16, .f32⟩
  | .hbm, ⟨59, _⟩ => ⟨S_, .f32⟩
  | .hbm, ⟨60, _⟩ => ⟨S32x16, .f32⟩
  | .hbm, ⟨61, _⟩ => ⟨S32x16, .f32⟩
  | .hbm, ⟨62, _⟩ => ⟨S16x32, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_c_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== KernelXattnFwd.lean ====
abbrev S1x4096x1024 : Shape := ⟨3, ![1, 4096, 1024]⟩
abbrev S1x256x1024 : Shape := ⟨3, ![1, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S4096x1024 : Shape := ⟨2, ![4096, 1024]⟩
abbrev S1024x1024 : Shape := ⟨2, ![1024, 1024]⟩
abbrev S256x256 : Shape := ⟨2, ![256, 256]⟩

abbrev nBuf : Space → Nat
  | .hbm => 36
  | .vmem => 12
  | .smem => 0
  | _ => 0

abbrev bufTy : (tb : Table) → Fin (tcTables nBuf tb) → BufTy
  | .hbm, ⟨0, _⟩ => ⟨S1x4096x1024, .f32⟩
  | .hbm, ⟨1, _⟩ => ⟨S1x256x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024x2048, .f32⟩
  | .hbm, ⟨6, _⟩ => ⟨S1x1024x1024, .f32⟩
  | .hbm, ⟨7, _⟩ => ⟨S256x1024, .f32⟩
  | .hbm, ⟨8, _⟩ => ⟨S1024, .f32⟩
  | .hbm, ⟨9, _⟩ => ⟨S256x1024, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x1024, .f32⟩
  | .hbm, ⟨21, _⟩ => ⟨S256x1024, .f32⟩
  | .hbm, ⟨22, _⟩ => ⟨S1x1024, .f32⟩
  | .hbm, ⟨23, _⟩ => ⟨S256x1024, .f32⟩
  | .hbm, ⟨24, _⟩ => ⟨S256x1024, .f32⟩
  | .hbm, ⟨25, _⟩ => ⟨S1024x2048, .f32⟩
  | .hbm, ⟨26, _⟩ => ⟨S256x2048, .f32⟩
  | .hbm, ⟨27, _⟩ => ⟨S256x2048, .bf16⟩
  | .hbm, ⟨28, _⟩ => ⟨S4096x1024, .f32⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1024x1024, .bf16⟩
  | .hbm, ⟨33, _⟩ => ⟨S4096x1024, .f32⟩
  | .hbm, ⟨34, _⟩ => ⟨S4096x1024, .bf16⟩
  | .hbm, ⟨35, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x2048, .bf16⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceXattnFwdIdeal.lean ====
abbrev S1x4096x1024 : Shape := ⟨3, ![1, 4096, 1024]⟩
abbrev S1x256x1024 : Shape := ⟨3, ![1, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x256 : Shape := ⟨2, ![1, 256]⟩
abbrev S1x256x1 : Shape := ⟨3, ![1, 256, 1]⟩
abbrev S1024x1024 : Shape := ⟨2, ![1024, 1024]⟩
abbrev S1024x2048 : Shape := ⟨2, ![1024, 2048]⟩
abbrev S1x4096x4x256 : Shape := ⟨4, ![1, 4096, 4, 256]⟩
abbrev S1x256x2048 : Shape := ⟨3, ![1, 256, 2048]⟩
abbrev S1x256x4x256 : Shape := ⟨4, ![1, 256, 4, 256]⟩
abbrev S1x4x4096x256 : Shape := ⟨4, ![1, 4, 4096, 256]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S4096x1024 : Shape := ⟨2, ![4096, 1024]⟩

abbrev nBuf : Space → Nat
  | .hbm => 79
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x256x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024x2048, .f32⟩
  | .hbm, ⟨6, _⟩ => ⟨S1x1024x1024, .f32⟩
  | .hbm, ⟨7, _⟩ => ⟨S1024, .f32⟩
  | .hbm, ⟨8, _⟩ => ⟨S1x4096x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1024, .f32⟩
  | .hbm, ⟨20, _⟩ => ⟨S1x4096x1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S1024, .f32⟩
  | .hbm, ⟨25, _⟩ => ⟨S1x256x1024, .f32⟩
  | .hbm, ⟨26, _⟩ => ⟨S_, .f32⟩
  | .hbm, ⟨27, _⟩ => ⟨S1x256, .f32⟩
  | .hbm, ⟨28, _⟩ => ⟨S1x256x1, .f32⟩
  | .hbm, ⟨29, _⟩ => ⟨S_, .f32⟩
  | .hbm, ⟨30, _⟩ => ⟨S1x256x1, .f32⟩
  | .hbm, ⟨31, _⟩ => ⟨S1x256x1, .f32⟩
  | .hbm, ⟨32, _⟩ => ⟨S_, .f32⟩
  | .hbm, ⟨33, _⟩ => ⟨S1x256x1, .f32⟩
  | .hbm, ⟨34, _⟩ => ⟨S1x256x1, .f32⟩
  | .hbm, ⟨35, _⟩ => ⟨S1x256x1, .f32⟩
  | .hbm, ⟨36, _⟩ => ⟨S1x256x1024, .f32⟩
  | .hbm, ⟨37, _⟩ => ⟨S1x256x1024, .f32⟩
  | .hbm, ⟨38, _⟩ => ⟨S1x1x1024, .f32⟩
  | .hbm, ⟨39, _⟩ => ⟨S1x256x1024, .f32⟩
  | .hbm, ⟨40, _⟩ => ⟨S1x256x1024, .f32⟩
  | .hbm, ⟨41, _⟩ => ⟨S1024x1024, .f32⟩
  | .hbm, ⟨42, _⟩ => ⟨S1024x2048, .f32⟩
  | .hbm, ⟨43, _⟩ => ⟨S1024x1024, .f32⟩
  | .hbm, ⟨44, _⟩ => ⟨S1x4096x1024, .f32⟩
  | .hbm, ⟨45, _⟩ => ⟨S1x4096x4x256, .f32⟩
  | .hbm, ⟨46, _⟩ => ⟨S1x256x2048, .f32⟩
  | .hbm, ⟨47, _⟩ => ⟨S1x256x1024, .f32⟩
  | .hbm, ⟨48, _⟩ => ⟨S1x256x1024, .f32⟩
  | .hbm, ⟨49, _⟩ => ⟨S1x256x4x256, .f32⟩
  | .hbm, ⟨50, _⟩ => ⟨S1x256x4x256, .f32⟩
  | .hbm, ⟨51, _⟩ => ⟨S1x4x4096x256, .f32⟩
  | .hbm, ⟨52, _⟩ => ⟨S_, .f32⟩
  | .hbm, ⟨53, _⟩ => ⟨S1x4x4096x256, .f32⟩
  | .hbm, ⟨54, _⟩ => ⟨S1x4x4096x256, .f32⟩
  | .hbm, ⟨55, _⟩ => ⟨S_, .f32⟩
  | .hbm, ⟨56, _⟩ => ⟨S1x4x4096, .f32⟩
  | .hbm, ⟨57, _⟩ => ⟨S_, .f32⟩
  | .hbm, ⟨58, _⟩ => ⟨S1x4x4096, .f32⟩
  | .hbm, ⟨59, _⟩ => ⟨S1x4x4096, .f32⟩
  | .hbm, ⟨60, _⟩ => ⟨S1x4x4096x1, .f32⟩
  | .hbm, ⟨61, _⟩ => ⟨S1x4x4096x256, .f32⟩
  | .hbm, ⟨62, _⟩ => ⟨S1x4x4096x256, .f32⟩
  | .hbm, ⟨63, _⟩ => ⟨S1x4x4096x256, .f32⟩
  | .hbm, ⟨64, _⟩ => ⟨S_, .f32⟩
  | .hbm, ⟨65, _⟩ => ⟨S1x4x4096, .f32⟩
  | .hbm, ⟨66, _⟩ => ⟨S1x4x4096x1, .f32⟩
  | .hbm, ⟨67, _⟩ => ⟨S1x4x4096x256, .f32⟩
  | .hbm, ⟨68, _⟩ => ⟨S1x4x4096x256, .f32⟩
  | .hbm, ⟨69, _⟩ => ⟨S1x4x256x4096, .f32⟩
  | .hbm, ⟨70, _⟩ => ⟨S1x4096x4x256, .f32⟩
  | .hbm, ⟨71, _⟩ => ⟨S1x4096x1024, .f32⟩
  | .hbm, ⟨72, _⟩ => ⟨S1x4096x1024, .f32⟩
  | .hbm, ⟨73, _⟩ => ⟨S1x4096x1024, .f32⟩
  | .hbm, ⟨74, _⟩ => ⟨S4096x1024, .f32⟩
  | .hbm, ⟨75, _⟩ => ⟨S4096x1024, .f32⟩
  | .hbm, ⟨76, _⟩ => ⟨S4096x1024, .bf16⟩
  | .hbm, ⟨77, _⟩ => ⟨S4096x1024, .f32⟩
  | .hbm, ⟨78, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== KernelSwaFwd.lean ====
abbrev S1x4096x1024 : Shape := ⟨3, ![1, 4096, 1024]⟩
abbrev S1x4096x256 : Shape := ⟨3, ![1, 4096, 256]⟩
abbrev S1x4096 : Shape := ⟨2, ![1, 4096]⟩
abbrev S32x16 : Shape := ⟨2, ![32, 16]⟩
abbrev S1x16 : Shape := ⟨2, ![1, 16]⟩
abbrev S4096x1024 : Shape := ⟨2, ![4096, 1024]⟩
abbrev S4096x256 : Shape := ⟨2, ![4096, 256]⟩
abbrev S4096x1536 : Shape := ⟨2, ![4096, 1536]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S4096x1 : Shape := ⟨2, ![4096, 1]⟩
abbrev S4x512x256 : Shape := ⟨3, ![4, 512, 256]⟩
abbrev S128x1024 : Shape := ⟨2, ![128, 1024]⟩
abbrev S1x128 : Shape := ⟨2, ![1, 128]⟩
abbrev S512x1 : Shape := ⟨2, ![512, 1]⟩
abbrev S512x256 : Shape := ⟨2, ![512, 256]⟩
abbrev S1x128x256 : Shape := ⟨3, ![1, 128, 256]⟩
abbrev S1 : Shape := ⟨1, ![1]⟩
abbrev S1x1x1 : Shape := ⟨3, ![1, 1, 1]⟩
abbrev S256x256 : Shape := ⟨2, ![256, 256]⟩
abbrev S256x64 : Shape := ⟨2, ![256, 64]⟩
abbrev S128x64 : Shape := ⟨2, ![128, 64]⟩
abbrev S512x64 : Shape := ⟨2, ![512, 64]⟩
abbrev S1x512x256 : Shape := ⟨3, ![1, 512, 256]⟩
abbrev S1x1 : Shape := ⟨2, ![1, 1]⟩
abbrev S512 : Shape := ⟨1, ![512]⟩

abbrev nBuf : Space → Nat
  | .hbm => 62
  | .vmem => 19
  | .smem => 1
  | _ => 0

abbrev bufTy : (tb : Table) → Fin (tcTables nBuf tb) → BufTy
  | .hbm, ⟨0, _⟩ => ⟨S1x4096x1024, .f32⟩
  | .hbm, ⟨1, _⟩ => ⟨S1x4096x256, .f32⟩
  | .hbm, ⟨2, _⟩ => ⟨S1x4096x256, .f32⟩
  | .hbm, ⟨3, _⟩ => ⟨S1x4096, .i32⟩
  | .hbm, ⟨4, _⟩ => ⟨S32x16, .f32⟩
  | .hbm, ⟨5, _⟩ => ⟨S1x16, .f32⟩
  | .hbm, ⟨6, _⟩ => ⟨S4096x1024, .f32⟩
  | .hbm, ⟨7, _⟩ => ⟨S4096x256, .f32⟩
  | .hbm, ⟨8, _⟩ => ⟨S4096x256, .f32⟩
  | .hbm, ⟨9, _⟩ => ⟨S4096x1536, .f32⟩
  | .hbm, ⟨10, _⟩ => ⟨S4096x1536, .bf16⟩
  | .hbm, ⟨11, _⟩ => ⟨S128, .i32⟩
  | .hbm, ⟨12, _⟩ => ⟨S128x1, .i32⟩
  | .hbm, ⟨13, _⟩ => ⟨S_, .i32⟩
  | .hbm, ⟨14, _⟩ => ⟨S128x1, .i32⟩
  | .hbm, ⟨15, _⟩ => ⟨S128x1, .i32⟩
  | .hbm, ⟨16, _⟩ => ⟨S256, .i32⟩
  | .hbm, ⟨17, _⟩ => ⟨S1x256, .i32⟩
  | .hbm, ⟨18, _⟩ => ⟨S128x256, .i32⟩
  | .hbm, ⟨19, _⟩ => ⟨S128x256, .i32⟩
  | .hbm, ⟨20, _⟩ => ⟨S128x256, .i32⟩
  | .hbm, ⟨21, _⟩ => ⟨S_, .i32⟩
  | .hbm, ⟨22, _⟩ => ⟨S128x256, .i32⟩
  | .hbm, ⟨23, _⟩ => ⟨S128x256, .i32⟩
  | .hbm, ⟨24, _⟩ => ⟨S_, .i32⟩
  | .hbm, ⟨25, _⟩ => ⟨S128x256, .i32⟩
  | .hbm, ⟨26, _⟩ => ⟨S128x256, .i32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S_, .f32⟩
  | .hbm, ⟨36, _⟩ => ⟨S128x256, .f32⟩
  | .hbm, ⟨37, _⟩ => ⟨S128x256, .f32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S128x256, .i32⟩
  | .hbm, ⟨49, _⟩ => ⟨S_, .i32⟩
  | .hbm, ⟨50, _⟩ => ⟨S128x256, .i32⟩
  | .hbm, ⟨51, _⟩ => ⟨S128x256, .i1⟩
  | .hbm, ⟨52, _⟩ => ⟨S_, .i32⟩
  | .hbm, ⟨53, _⟩ => ⟨S128x256, .i32⟩
  | .hbm, ⟨54, _⟩ => ⟨S128x256, .i32⟩
  | .hbm, ⟨55, _⟩ => ⟨S128x256, .i32⟩
  | .hbm, ⟨56, _⟩ => ⟨S128x256x1, .i32⟩
  | .hbm, ⟨57, _⟩ => ⟨S128x256x16, .f32⟩
  | .hbm, ⟨58, _⟩ => ⟨S16x128x256, .f32⟩
  | .hbm, ⟨59, _⟩ => ⟨S4096x1, .i32⟩
  | .hbm, ⟨60, _⟩ => ⟨S4x512x256, .f32⟩
  | .hbm, ⟨61, _⟩ => ⟨S4096x1024, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x1, .i32⟩
  | .local _ .vmem, ⟨11, _⟩ => ⟨S128x1, .i32⟩
  | .local _ .vmem, ⟨12, _⟩ => ⟨S1x128, .i32⟩
  | .local _ .vmem, ⟨13, _⟩ => ⟨S1x128, .i32⟩
  | .local _ .vmem, ⟨14, _⟩ => ⟨S1x128, .i32⟩
  | .local _ .vmem, ⟨15, _⟩ => ⟨S1x128, .i32⟩
  | .local _ .vmem, ⟨16, _⟩ => ⟨S4x512x256, .f32⟩
  | .local _ .vmem, ⟨17, _⟩ => ⟨S128x1024, .f32⟩
  | .local _ .vmem, ⟨18, _⟩ => ⟨S128x1024, .f32⟩
  | .local _ .smem, ⟨0, _⟩ => ⟨S1x16, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelSwaFwdIdeal.lean ====
variable {F : FTy → Type} [FloatOps F] [Named F]
def κ : String → Option EReal := fun
  | "mask" => some ⊥
  | _ => none
-- ==== ReferenceSwaFwdIdeal.lean ====
abbrev S1x4096x1024 : Shape := ⟨3, ![1, 4096, 1024]⟩
abbrev S1x4096x256 : Shape := ⟨3, ![1, 4096, 256]⟩
abbrev S1x4096 : Shape := ⟨2, ![1, 4096]⟩
abbrev S32x16 : Shape := ⟨2, ![32, 16]⟩
abbrev S1x16 : Shape := ⟨2, ![1, 16]⟩
abbrev S16 : Shape := ⟨1, ![16]⟩
abbrev S1x32x128x4x4x64 : Shape := ⟨6, ![1, 32, 128, 4, 4, 64]⟩
abbrev S1x4096x4x64 : Shape := ⟨4, ![1, 4096, 4, 64]⟩
abbrev S1x32x128x4x64 : Shape := ⟨5, ![1, 32, 128, 4, 64]⟩
abbrev S1x1x128x4x64 : Shape := ⟨5, ![1, 1, 128, 4, 64]⟩
abbrev S_ : Shape := ⟨0, ![]⟩
abbrev S1x31x128x4x64 : Shape := ⟨5, ![1, 31, 128, 4, 64]⟩
abbrev S1x32x256x4x64 : Shape := ⟨5, ![1, 32, 256, 4, 64]⟩
abbrev S1x32x128 : Shape := ⟨3, ![1, 32, 128]⟩
abbrev S1x1x128 : Shape := ⟨3, ![1, 1, 128]⟩
abbrev S1x31x128 : Shape := ⟨3, ![1, 31, 128]⟩
abbrev S1x32x256 : Shape := ⟨3, ![1, 32, 256]⟩
abbrev S1x32x128x1 : Shape := ⟨4, ![1, 32, 128, 1]⟩
abbrev S1x32x1x256 : Shape := ⟨4, ![1, 32, 1, 256]⟩
abbrev S1x32x128x256 : Shape := ⟨4, ![1, 32, 128, 256]⟩
abbrev S1x32x128x256x1 : Shape := ⟨5, ![1, 32, 128, 256, 1]⟩
abbrev S1x32x128x256x16 : Shape := ⟨5, ![1, 32, 128, 256, 16]⟩
abbrev S1x32x16x128x256 : Shape := ⟨5, ![1, 32, 16, 128, 256]⟩
abbrev S1x32x4x4x128x256 : Shape := ⟨6, ![1, 32, 4, 4, 128, 256]⟩
abbrev S1x32x4x256x128x4 : Shape := ⟨6, ![1, 32, 4, 256, 128, 4]⟩
abbrev S1x32x1x1x128x256 : Shape := ⟨6, ![1, 32, 1, 1, 128, 256]⟩
abbrev S1x1x4x4x1x1 : Shape := ⟨6, ![1, 1, 4, 4, 1, 1]⟩
abbrev S1x32x4x4x128x1 : Shape := ⟨6, ![1, 32, 4, 4, 128, 1]⟩
abbrev S1x32x4x4x128x257 : Shape := ⟨6, ![1, 32, 4, 4, 128, 257]⟩
abbrev S1x32x4x4x128 : Shape := ⟨5, ![1, 32, 4, 4, 128]⟩
abbrev S1x32x4x64x4x128 : Shape := ⟨6, ![1, 32, 4, 64, 4, 128]⟩
abbrev S4096x1024 : Shape := ⟨2, ![4096, 1024]⟩

abbrev nBuf : Space → Nat
  | .hbm => 117
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x256, .f32⟩
  | .hbm, ⟨2, _⟩ => ⟨S1x4096x256, .f32⟩
  | .hbm, ⟨3, _⟩ => ⟨S1x4096, .i32⟩
  | .hbm, ⟨4, _⟩ => ⟨S32x16, .f32⟩
  | .hbm, ⟨5, _⟩ => ⟨S1x16, .f32⟩
  | .hbm, ⟨6, _⟩ => ⟨S16, .f32⟩
  | .hbm, ⟨7, _⟩ => ⟨S1x32x128x4x4x64, .f32⟩
  | .hbm, ⟨8, _⟩ => ⟨S1x4096x4x64, .f32⟩
  | .hbm, ⟨9, _⟩ => ⟨S1x32x128x4x64, .f32⟩
  | .hbm, ⟨10, _⟩ => ⟨S1x1x128x4x64, .f32⟩
  | .hbm, ⟨11, _⟩ => ⟨S_, .f32⟩
  | .hbm, ⟨12, _⟩ => ⟨S1x1x128x4x64, .f32⟩
  | .hbm, ⟨13, _⟩ => ⟨S1x31x128x4x64, .f32⟩
  | .hbm, ⟨14, _⟩ => ⟨S1x32x128x4x64, .f32⟩
  | .hbm, ⟨15, _⟩ => ⟨S1x32x256x4x64, .f32⟩
  | .hbm, ⟨16, _⟩ => ⟨S1x4096x4x64, .f32⟩
  | .hbm, ⟨17, _⟩ => ⟨S1x32x128x4x64, .f32⟩
  | .hbm, ⟨18, _⟩ => ⟨S1x1x128x4x64, .f32⟩
  | .hbm, ⟨19, _⟩ => ⟨S_, .f32⟩
  | .hbm, ⟨20, _⟩ => ⟨S1x1x128x4x64, .f32⟩
  | .hbm, ⟨21, _⟩ => ⟨S1x31x128x4x64, .f32⟩
  | .hbm, ⟨22, _⟩ => ⟨S1x32x128x4x64, .f32⟩
  | .hbm, ⟨23, _⟩ => ⟨S1x32x256x4x64, .f32⟩
  | .hbm, ⟨24, _⟩ => ⟨S1x32x128, .i32⟩
  | .hbm, ⟨25, _⟩ => ⟨S1x32x128, .i32⟩
  | .hbm, ⟨26, _⟩ => ⟨S1x1x128, .i32⟩
  | .hbm, ⟨27, _⟩ => ⟨S_, .i32⟩
  | .hbm, ⟨28, _⟩ => ⟨S1x1x128, .i32⟩
  | .hbm, ⟨29, _⟩ => ⟨S1x31x128, .i32⟩
  | .hbm, ⟨30, _⟩ => ⟨S1x32x128, .i32⟩
  | .hbm, ⟨31, _⟩ => ⟨S1x32x256, .i32⟩
  | .hbm, ⟨32, _⟩ => ⟨S1x32x128x1, .i32⟩
  | .hbm, ⟨33, _⟩ => ⟨S1x32x1x256, .i32⟩
  | .hbm, ⟨34, _⟩ => ⟨S1x32x128x256, .i32⟩
  | .hbm, ⟨35, _⟩ => ⟨S1x32x128x256, .i32⟩
  | .hbm, ⟨36, _⟩ => ⟨S1x32x128x256, .i32⟩
  | .hbm, ⟨37, _⟩ => ⟨S_, .i32⟩
  | .hbm, ⟨38, _⟩ => ⟨S1x32x128x256, .i32⟩
  | .hbm, ⟨39, _⟩ => ⟨S1x32x128x256, .i1⟩
  | .hbm, ⟨40, _⟩ => ⟨S_, .i32⟩
  | .hbm, ⟨41, _⟩ => ⟨S1x32x128x256, .i32⟩
  | .hbm, ⟨42, _⟩ => ⟨S1x32x128x256, .i1⟩
  | .hbm, ⟨43, _⟩ => ⟨S1x32x128x256, .i1⟩
  | .hbm, ⟨44, _⟩ => ⟨S_, .i32⟩
  | .hbm, ⟨45, _⟩ => ⟨S1x32x128x256, .i32⟩
  | .hbm, ⟨46, _⟩ => ⟨S1x32x128x256, .i32⟩
  | .hbm, ⟨47, _⟩ => ⟨S_, .i32⟩
  | .hbm, ⟨48, _⟩ => ⟨S1x32x128x256, .i32⟩
  | .hbm, ⟨49, _⟩ => ⟨S1x32x128x256, .i32⟩
  | .hbm, ⟨50, _⟩ => ⟨S1x32x128x256, .f32⟩
  | .hbm, ⟨51, _⟩ => ⟨S_, .f32⟩
  | .hbm, ⟨52, _⟩ => ⟨S1x32x128x256, .f32⟩
  | .hbm, ⟨53, _⟩ => ⟨S1x32x128x256, .f32⟩
  | .hbm, ⟨54, _⟩ => ⟨S1x32x128x256, .f32⟩
  | .hbm, ⟨55, _⟩ => ⟨S_, .f32⟩
  | .hbm, ⟨56, _⟩ => ⟨S1x32x128x256, .f32⟩
  | .hbm, ⟨57, _⟩ => ⟨S1x32x128x256, .f32⟩
  | .hbm, ⟨58, _⟩ => ⟨S_, .f32⟩
  | .hbm, ⟨59, _⟩ => ⟨S1x32x128x256, .f32⟩
  | .hbm, ⟨60, _⟩ => ⟨S1x32x128x256, .f32⟩
  | .hbm, ⟨61, _⟩ => ⟨S1x32x128x256, .i32⟩
  | .hbm, ⟨62, _⟩ => ⟨S_, .i32⟩
  | .hbm, ⟨63, _⟩ => ⟨S1x32x128x256, .i32⟩
  | .hbm, ⟨64, _⟩ => ⟨S1x32x128x256, .i32⟩
  | .hbm, ⟨65, _⟩ => ⟨S_, .i32⟩
  | .hbm, ⟨66, _⟩ => ⟨S1x32x128x256, .i32⟩
  | .hbm, ⟨67, _⟩ => ⟨S1x32x128x256, .i32⟩
  | .hbm, ⟨68, _⟩ => ⟨S_, .i32⟩
  | .hbm, ⟨69, _⟩ => ⟨S1x32x128x256, .i32⟩
  | .hbm, ⟨70, _⟩ => ⟨S1x32x128x256, .i1⟩
  | .hbm, ⟨71, _⟩ => ⟨S1x32x128x256, .i32⟩
  | .hbm, ⟨72, _⟩ => ⟨S_, .i32⟩
  | .hbm, ⟨73, _⟩ => ⟨S1x32x128x256, .i32⟩
  | .hbm, ⟨74, _⟩ => ⟨S1x32x128x256, .i1⟩
  | .hbm, ⟨75, _⟩ => ⟨S_, .i32⟩
  | .hbm, ⟨76, _⟩ => ⟨S1x32x128x256, .i32⟩
  | .hbm, ⟨77, _⟩ => ⟨S1x32x128x256, .i32⟩
  | .hbm, ⟨78, _⟩ => ⟨S1x32x128x256, .i32⟩
  | .hbm, ⟨79, _⟩ => ⟨S1x32x128x256x1, .i32⟩
  | .hbm, ⟨80, _⟩ => ⟨S1x32x128x256x16, .f32⟩
  | .hbm, ⟨81, _⟩ => ⟨S1x32x16x128x256, .f32⟩
  | .hbm, ⟨82, _⟩ => ⟨S1x32x4x4x128x256, .f32⟩
  | .hbm, ⟨83, _⟩ => ⟨S1x32x4x256x128x4, .f32⟩
  | .hbm, ⟨84, _⟩ => ⟨S1x32x4x4x128x256, .f32⟩
  | .hbm, ⟨85, _⟩ => ⟨S_, .f32⟩
  | .hbm, ⟨86, _⟩ => ⟨S1x32x4x4x128x256, .f32⟩
  | .hbm, ⟨87, _⟩ => ⟨S1x32x4x4x128x256, .f32⟩
  | .hbm, ⟨88, _⟩ => ⟨S1x32x1x1x128x256, .i1⟩
  | .hbm, ⟨89, _⟩ => ⟨S1x32x4x4x128x256, .f32⟩
  | .hbm, ⟨90, _⟩ => ⟨S_, .f32⟩
  | .hbm, ⟨91, _⟩ => ⟨S_, .f32⟩
  | .hbm, ⟨92, _⟩ => ⟨S1x32x4x4x128x256, .i1⟩
  | .hbm, ⟨93, _⟩ => ⟨S1x32x4x4x128x256, .f32⟩
  | .hbm, ⟨94, _⟩ => ⟨S1x32x4x4x128x256, .f32⟩
  | .hbm, ⟨95, _⟩ => ⟨S1x1x4x4x1x1, .f32⟩
  | .hbm, ⟨96, _⟩ => ⟨S1x32x4x4x128x1, .f32⟩
  | .hbm, ⟨97, _⟩ => ⟨S1x32x4x4x128x257, .f32⟩
  | .hbm, ⟨98, _⟩ => ⟨S_, .f32⟩
  | .hbm, ⟨99, _⟩ => ⟨S1x32x4x4x128, .f32⟩
  | .hbm, ⟨100, _⟩ => ⟨S_, .f32⟩
  | .hbm, ⟨101, _⟩ => ⟨S1x32x4x4x128, .f32⟩
  | .hbm, ⟨102, _⟩ => ⟨S1x32x4x4x128, .f32⟩
  | .hbm, ⟨103, _⟩ => ⟨S1x32x4x4x128x1, .f32⟩
  | .hbm, ⟨104, _⟩ => ⟨S1x32x4x4x128x257, .f32⟩
  | .hbm, ⟨105, _⟩ => ⟨S1x32x4x4x128x257, .f32⟩
  | .hbm, ⟨106, _⟩ => ⟨S1x32x4x4x128x257, .f32⟩
  | .hbm, ⟨107, _⟩ => ⟨S_, .f32⟩
  | .hbm, ⟨108, _⟩ => ⟨S1x32x4x4x128, .f32⟩
  | .hbm, ⟨109, _⟩ => ⟨S1x32x4x4x128x1, .f32⟩
  | .hbm, ⟨110, _⟩ => ⟨S1x32x4x4x128x257, .f32⟩
  | .hbm, ⟨111, _⟩ => ⟨S1x32x4x4x128x257, .f32⟩
  | .hbm, ⟨112, _⟩ => ⟨S1x32x4x4x128x256, .f32⟩
  | .hbm, ⟨113, _⟩ => ⟨S1x32x4x64x4x128, .f32⟩
  | .hbm, ⟨114, _⟩ => ⟨S1x32x128x4x4x64, .f32⟩
  | .hbm, ⟨115, _⟩ => ⟨S1x4096x1024, .f32⟩
  | .hbm, ⟨116, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_1 : Ref sig .tc := ⟨.hbm, 37, rfl⟩
abbrev main_v28 : Ref sig .tc := ⟨.hbm, 38, rfl⟩
abbrev main_v29 : Ref sig .tc := ⟨.hbm, 39, rfl⟩
abbrev main_c_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_3 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_cst_16 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]
-- ==== KernelMixOutFwd.lean ====
abbrev S1x4096x1024 : Shape := ⟨3, ![1, 4096, 1024]⟩
abbrev S1x4096x5120 : Shape := ⟨3, ![1, 4096, 5120]⟩
abbrev S1x3x1024 : Shape := ⟨3, ![1, 3, 1024]⟩
abbrev S1x1024x1024 : Shape := ⟨3, ![1, 1024, 1024]⟩
abbrev S4096x5120 : Shape := ⟨2, ![4096, 5120]⟩
abbrev S4096x1024 : Shape := ⟨2, ![4096, 1024]⟩
abbrev S3x1024 : Shape := ⟨2, ![3, 1024]⟩
abbrev S1024x1024 : Shape := ⟨2, ![1024, 1024]⟩
abbrev S256x1024 : Shape := ⟨2, ![256, 1024]⟩
abbrev S16x1024 : Shape := ⟨2, ![16, 1024]⟩
abbrev S256x1 : Shape := ⟨2, ![256, 1]⟩
abbrev S1x1024 : Shape := ⟨2, ![1, 1024]⟩

abbrev nBuf : Space → Nat
  | .hbm => 14
  | .vmem => 24
  | .smem => 0
  | _ => 0

abbrev bufTy : (tb : Table) → Fin (tcTables nBuf tb) → BufTy
  | .hbm, ⟨0, _⟩ => ⟨S1x4096x1024, .f32⟩
  | .hbm, ⟨1, _⟩ => ⟨S1x4096x5120, .f32⟩
  | .hbm, ⟨2, _⟩ => ⟨S1x4096x1024, .f32⟩
  | .hbm, ⟨3, _⟩ => ⟨S1x3x1024, .f32⟩
  | .hbm, ⟨4, _⟩ => ⟨S1x1024x1024, .f32⟩
  | .hbm, ⟨5, _⟩ => ⟨S4096x5120, .f32⟩
  | .hbm, ⟨6, _⟩ => ⟨S4096x5120, .bf16⟩
  | .hbm, ⟨7, _⟩ => ⟨S4096x1024, .f32⟩
  | .hbm, ⟨8, _⟩ => ⟨S3x1024, .f32⟩
  | .hbm, ⟨9, _⟩ => ⟨S1024x1024, .f32⟩
  | .hbm, ⟨10, _⟩ => ⟨S1024x1024, .bf16⟩
  | .hbm, ⟨11, _⟩ => ⟨S4096x1024, .f32⟩
  | .hbm, ⟨12, _⟩ => ⟨S4096x1024, .f32⟩
  | .hbm, ⟨13, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S256x1024, .f32⟩
  | .local _ .vmem, ⟨15, _⟩ => ⟨S256x1024, .f32⟩
  | .local _ .vmem, ⟨16, _⟩ => ⟨S3x1024, .f32⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceMixOutFwdIdeal.lean ====
abbrev S1x4096x1024 : Shape := ⟨3, ![1, 4096, 1024]⟩
abbrev S1x4096x5120 : Shape := ⟨3, ![1, 4096, 5120]⟩
abbrev S1x3x1024 : Shape := ⟨3, ![1, 3, 1024]⟩
abbrev S1x1024x1024 : Shape := ⟨3, ![1, 1024, 1024]⟩
abbrev S3x1024 : Shape := ⟨2, ![3, 1024]⟩
abbrev S_ : Shape := ⟨0, ![]⟩
abbrev S1x4098x1024 : Shape := ⟨3, ![1, 4098, 1024]⟩
abbrev S1x1024 : Shape := ⟨2, ![1, 1024]⟩
abbrev S1024 : Shape := ⟨1, ![1024]⟩
abbrev S1x1x1024 : Shape := ⟨3, ![1, 1, 1024]⟩
abbrev S1024x1024 : Shape := ⟨2, ![1024, 1024]⟩
abbrev S4096x1024 : Shape := ⟨2, ![4096, 1024]⟩

abbrev nBuf : Space → Nat
  | .hbm => 64
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x5120, .f32⟩
  | .hbm, ⟨2, _⟩ => ⟨S1x4096x1024, .f32⟩
  | .hbm, ⟨3, _⟩ => ⟨S1x3x1024, .f32⟩
  | .hbm, ⟨4, _⟩ => ⟨S1x1024x1024, .f32⟩
  | .hbm, ⟨5, _⟩ => ⟨S1x4096x1024, .f32⟩
  | .hbm, ⟨6, _⟩ => ⟨S1x4096x1024, .f32⟩
  | .hbm, ⟨7, _⟩ => ⟨S1x4096x1024, .f32⟩
  | .hbm, ⟨8, _⟩ => ⟨S1x4096x1024, .f32⟩
  | .hbm, ⟨9, _⟩ => ⟨S1x4096x1024, .f32⟩
  | .hbm, ⟨10, _⟩ => ⟨S1x4096x1024, .f32⟩
  | .hbm, ⟨11, _⟩ => ⟨S3x1024, .f32⟩
  | .hbm, ⟨12, _⟩ => ⟨S_, .i32⟩
  | .hbm, ⟨13, _⟩ => ⟨S_, .f32⟩
  | .hbm, ⟨14, _⟩ => ⟨S1x4098x1024, .f32⟩
  | .hbm, ⟨15, _⟩ => ⟨S1x1024, .f32⟩
  | .hbm, ⟨16, _⟩ => ⟨S1024, .f32⟩
  | .hbm, ⟨17, _⟩ => ⟨S1x4096x1024, .f32⟩
  | .hbm, ⟨18, _⟩ => ⟨S1x1x1024, .f32⟩
  | .hbm, ⟨19, _⟩ => ⟨S1x4096x1024, .f32⟩
  | .hbm, ⟨20, _⟩ => ⟨S1x4096x1024, .f32⟩
  | .hbm, ⟨21, _⟩ => ⟨S_, .f32⟩
  | .hbm, ⟨22, _⟩ => ⟨S1x4096x1024, .f32⟩
  | .hbm, ⟨23, _⟩ => ⟨S1x4096x1024, .f32⟩
  | .hbm, ⟨24, _⟩ => ⟨S1x1024, .f32⟩
  | .hbm, ⟨25, _⟩ => ⟨S1024, .f32⟩
  | .hbm, ⟨26, _⟩ => ⟨S1x4096x1024, .f32⟩
  | .hbm, ⟨27, _⟩ => ⟨S1x1x1024, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S1x1024, .f32⟩
  | .hbm, ⟨32, _⟩ => ⟨S1024, .f32⟩
  | .hbm, ⟨33, _⟩ => ⟨S1x4096x1024, .f32⟩
  | .hbm, ⟨34, _⟩ => ⟨S1x1x1024, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S1x4096x1024, .f32⟩
  | .hbm, ⟨39, _⟩ => ⟨S1x4096x1024, .f32⟩
  | .hbm, ⟨40, _⟩ => ⟨S1x4096x1024, .f32⟩
  | .hbm, ⟨41, _⟩ => ⟨S_, .f32⟩
  | .hbm, ⟨42, _⟩ => ⟨S1x4096x1024, .f32⟩
  | .hbm, ⟨43, _⟩ => ⟨S1x4096x1024, .f32⟩
  | .hbm, ⟨44, _⟩ => ⟨S_, .f32⟩
  | .hbm, ⟨45, _⟩ => ⟨S1x4096x1024, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S1x4096x1024, .f32⟩
  | .hbm, ⟨50, _⟩ => ⟨S_, .f32⟩
  | .hbm, ⟨51, _⟩ => ⟨S1x4096x1024, .f32⟩
  | .hbm, ⟨52, _⟩ => ⟨S1x4096x1024, .f32⟩
  | .hbm, ⟨53, _⟩ => ⟨S_, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1024x1024, .f32⟩
  | .hbm, ⟨59, _⟩ => ⟨S1x4096x1024, .f32⟩
  | .hbm, ⟨60, _⟩ => ⟨S1x4096x1024, .f32⟩
  | .hbm, ⟨61, _⟩ => ⟨S4096x1024, .f32⟩
  | .hbm, ⟨62, _⟩ => ⟨S4096x1024, .f32⟩
  | .hbm, ⟨63, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩

abbrev nD : Nat := 1
abbrev τ : Topo := Topo.v7x

variable {F : FTy → Type} [FloatOps F]
-- ==== KernelFfnFwd.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S4096x1024 : Shape := ⟨2, ![4096, 1024]⟩
abbrev S1024x5632 : Shape := ⟨2, ![1024, 5632]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 12
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S4096x1024, .f32⟩
  | .hbm, ⟨5, _⟩ => ⟨S1024x5632, .f32⟩
  | .hbm, ⟨6, _⟩ => ⟨S1024x5632, .bf16⟩
  | .hbm, ⟨7, _⟩ => ⟨S2816x1024, .f32⟩
  | .hbm, ⟨8, _⟩ => ⟨S2816x1024, .bf16⟩
  | .hbm, ⟨9, _⟩ => ⟨S4096x1024, .f32⟩
  | .hbm, ⟨10, _⟩ => ⟨S4096x2816, .bf16⟩
  | .hbm, ⟨11, _⟩ => ⟨S4096x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceFfnFwdIdeal.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x2816 : Shape := ⟨2, ![4096, 2816]⟩
abbrev S2816x1024 : Shape := ⟨2, ![2816, 1024]⟩

abbrev nBuf : Space → Nat
  | .hbm => 45
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1024x5632, .f32⟩
  | .hbm, ⟨23, _⟩ => ⟨S4096x5632, .f32⟩
  | .hbm, ⟨24, _⟩ => ⟨S4096x2816, .f32⟩
  | .hbm, ⟨25, _⟩ => ⟨S4096x2816, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S2816x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x2816, .bf16⟩
  | .hbm, ⟨44, _⟩ => ⟨S4096x2816, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== KernelMixProj.lean ====
abbrev S1x4096x1024 : Shape := ⟨3, ![1, 4096, 1024]⟩
abbrev S1x1024 : Shape := ⟨2, ![1, 1024]⟩
abbrev S1x1024x6656 : Shape := ⟨3, ![1, 1024, 6656]⟩
abbrev S4096x1024 : Shape := ⟨2, ![4096, 1024]⟩
abbrev S1024x6656 : Shape := ⟨2, ![1024, 6656]⟩
abbrev S4096x1536 : Shape := ⟨2, ![4096, 1536]⟩
abbrev S4096x5120 : Shape := ⟨2, ![4096, 5120]⟩
abbrev S256x1024 : Shape := ⟨2, ![256, 1024]⟩
abbrev S256x1536 : Shape := ⟨2, ![256, 1536]⟩
abbrev S256x5120 : Shape := ⟨2, ![256, 5120]⟩
abbrev S256 : Shape := ⟨1, ![256]⟩
abbrev S256x1 : Shape := ⟨2, ![256, 1]⟩
abbrev S1024x1536 : Shape := ⟨2, ![1024, 1536]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x6656, .f32⟩
  | .hbm, ⟨3, _⟩ => ⟨S4096x1024, .f32⟩
  | .hbm, ⟨4, _⟩ => ⟨S1024x6656, .f32⟩
  | .hbm, ⟨5, _⟩ => ⟨S1024x6656, .bf16⟩
  | .hbm, ⟨6, _⟩ => ⟨S4096x1536, .bf16⟩
  | .hbm, ⟨7, _⟩ => ⟨S4096x5120, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6656, .bf16⟩
  | .local _ .vmem, ⟨4, _⟩ => ⟨S256x1536, .bf16⟩
  | .local _ .vmem, ⟨5, _⟩ => ⟨S256x1536, .bf16⟩
  | .local _ .vmem, ⟨6, _⟩ => ⟨S256x5120, .bf16⟩
  | .local _ .vmem, ⟨7, _⟩ => ⟨S256x5120, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceMixProjIdeal.lean ====
abbrev S1x4096x1024 : Shape := ⟨3, ![1, 4096, 1024]⟩
abbrev S1x1024 : Shape := ⟨2, ![1, 1024]⟩
abbrev S1x1024x6656 : Shape := ⟨3, ![1, 1024, 6656]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x6656 : Shape := ⟨2, ![1024, 6656]⟩
abbrev S4096x6656 : Shape := ⟨2, ![4096, 6656]⟩
abbrev S4096x1536 : Shape := ⟨2, ![4096, 1536]⟩
abbrev S4096x5120 : Shape := ⟨2, ![4096, 5120]⟩

abbrev nBuf : Space → Nat
  | .hbm => 27
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x6656, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x6656, .f32⟩
  | .hbm, ⟨22, _⟩ => ⟨S4096x6656, .f32⟩
  | .hbm, ⟨23, _⟩ => ⟨S4096x1536, .f32⟩
  | .hbm, ⟨24, _⟩ => ⟨S4096x1536, .bf16⟩
  | .hbm, ⟨25, _⟩ => ⟨S4096x5120, .f32⟩
  | .hbm, ⟨26, _⟩ => ⟨S4096x5120, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== KernelMemKv.lean ====
abbrev S1x256x1024 : Shape := ⟨3, ![1, 256, 1024]⟩
abbrev S1x1024 : Shape := ⟨2, ![1, 1024]⟩
abbrev S1x1024x2048 : Shape := ⟨3, ![1, 1024, 2048]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 5
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x2048, .f32⟩
  | .hbm, ⟨3, _⟩ => ⟨S256x1024, .f32⟩
  | .hbm, ⟨4, _⟩ => ⟨S1024x2048, .f32⟩
  | .hbm, ⟨5, _⟩ => ⟨S1024x2048, .bf16⟩
  | .hbm, ⟨6, _⟩ => ⟨S256x1024, .bf16⟩
  | .hbm, ⟨7, _⟩ => ⟨S256x2048, .bf16⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S256x1024, .bf16⟩
  | .local _ .vmem, ⟨4, _⟩ => ⟨S256x2048, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceMemKvIdeal.lean ====
abbrev S1x256x1024 : Shape := ⟨3, ![1, 256, 1024]⟩
abbrev S1x1024 : Shape := ⟨2, ![1, 1024]⟩
abbrev S1x1024x2048 : Shape := ⟨3, ![1, 1024, 2048]⟩
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩

abbrev nBuf : Space → Nat
  | .hbm => 25
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x2048, .f32⟩
  | .hbm, ⟨3, _⟩ => ⟨S256x1024, .f32⟩
  | .hbm, ⟨4, _⟩ => ⟨S1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x1024, .bf16⟩
  | .hbm, ⟨22, _⟩ => ⟨S1024x2048, .f32⟩
  | .hbm, ⟨23, _⟩ => ⟨S256x2048, .f32⟩
  | .hbm, ⟨24, _⟩ => ⟨S256x2048, .bf16⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Lift.lean ====
/- Finite extended reals as reals: what the value proofs share. A program whose arguments are finite computes, at the
   ideal instance, the coercions of reals; the lemmas here carry sums, quotients, reciprocal square roots and the
   logistic through the coercion, and state the real identities that the hand-written gradients rest on. -/
module

public import Idealize.ShloMosaic.Lib.Pipeline.ValueKit
public import Idealize.ShloMosaic.Lib.Pointwise

@[expose] public section

noncomputable section

namespace Cert.Lift

open Idealize.ShloMosaic

/-- A finite sum of coerced reals is the coercion of the sum. -/
theorem sum_coe {ι : Type} [Fintype ι] (f : ι → ℝ) : (∑ k, ((f k : ℝ) : EReal)) = ((∑ k, f k : ℝ) : EReal) := by
  classical
  induction (Finset.univ : Finset ι) using Finset.induction_on with
  | empty => simp
  | insert a s ha ih => rw [Finset.sum_insert ha, Finset.sum_insert ha, ih, EReal.coe_add]

/-- A quotient of coerced reals with a nonzero divisor is the coercion of the quotient. -/
theorem div_coe (x : ℝ) {y : ℝ} (h : y ≠ 0) : Ideal.div (x : EReal) (y : EReal) = ((x / y : ℝ) : EReal) := by
  rw [Ideal.div_coe h, ← EReal.coe_mul, mul_one_div]

/-- The reciprocal square root of a positive real. -/
theorem rsqrt_coe {x : ℝ} (h : 0 < x) : Ideal.rsqrt (x : EReal) = (((√x)⁻¹ : ℝ) : EReal) := by
  rw [Ideal.rsqrt_coe, if_neg (not_lt.mpr h.le), if_neg h.ne']

/-- The word of 1024. -/
theorem w1024 : Ideal.ofBits .f32 0x44800000#32 = ((1024 : ℝ) : EReal) := by
  simp [Ideal.ofBits, Ideal.ieee, -EReal.coe_mul]; norm_num

/-- The normalisation's epsilon: the rational the word of 1e-6 denotes. -/
def eps : ℝ := 8796093 / 2 ^ 43

theorem eps_pos : 0 < eps := by unfold eps; norm_num

/-- The word of 1e-6. -/
theorem weps : Ideal.ofBits .f32 0x358637BD#32 = (eps : EReal) := by
  simp [Ideal.ofBits, Ideal.ieee, -EReal.coe_mul, eps]; norm_num

/-- The word of -1/2. -/
theorem wnhalf : Ideal.ofBits .f32 0xBF000000#32 = ((-(1 / 2) : ℝ) : EReal) := by
  simp [Ideal.ofBits, Ideal.ieee, -EReal.coe_mul]; norm_num

/-- The word of 1/2. -/
theorem whalf : Ideal.ofBits .f32 0x3F000000#32 = ((1 / 2 : ℝ) : EReal) := by
  simp [Ideal.ofBits, Ideal.ieee, -EReal.coe_mul]; norm_num

/-- The word of zero, as a coerced real. -/
theorem w0 : Ideal.ofBits .f32 0x00000000#32 = ((0 : ℝ) : EReal) :=
  Ideal.ofBits_zero_f32

/-- The word of one, as a coerced real. -/
theorem w1 : Ideal.ofBits .f32 0x3F800000#32 = ((1 : ℝ) : EReal) :=
  Ideal.ofBits_one_f32

/-- The word of the infinity. -/
theorem winf : Ideal.ofBits .f32 0x7F800000#32 = (⊤ : EReal) := by
  simp [Ideal.ofBits, Ideal.ieee]

/-- An extended real whose absolute value is below the infinity is a real. -/
theorem real_of_abs {a : EReal} (h : FloatOps.cmpf (F := Ideal) (φ := .f32) .olt (FloatOps.hostAbsf a) (FloatOps.ofBits .f32 0x7F800000#32) = 1#1) :
    a = ((a.toReal : ℝ) : EReal) := by
  change Ideal.cmp .olt (max a (-a)) (Ideal.ofBits .f32 0x7F800000#32) = 1#1 at h
  rw [winf] at h
  induction a with
  | bot => simp [Ideal.cmp] at h
  | top => simp [Ideal.cmp] at h
  | coe r => rfl

/-- The logistic function. -/
def sg (r : ℝ) : ℝ := (1 + Real.exp (-r))⁻¹

/-- The logistic as the kernels spell it. -/
theorem sg_kernel (r : ℝ) : Ideal.div ((1 : ℝ) : EReal) (((1 : ℝ) : EReal) + Ideal.exp (0 - (r : EReal))) = (sg r : EReal) := by
  rw [← EReal.coe_zero, ← EReal.coe_sub, Ideal.exp_coe, ← EReal.coe_add, div_coe _ (by positivity), zero_sub, one_div]; rfl

/-- The logistic as the references spell it. -/
theorem sg_host (r : ℝ) : Ideal.div ((1 : ℝ) : EReal) (((1 : ℝ) : EReal) + Ideal.exp (-(r : EReal))) = (sg r : EReal) := by
  rw [← EReal.coe_neg, Ideal.exp_coe, ← EReal.coe_add, div_coe _ (by positivity), one_div]; rfl

/-- A sum over `a + b` positions is the sum over the first `a` and the sum over the last `b`. -/
theorem sum_cut {M : Type} [AddCommMonoid M] {n : ℕ} (a b : ℕ) (h : n = a + b) (f : Fin n → M) :
    ∑ k : Fin n, f k = ∑ k : Fin a, f ⟨k.val, by omega⟩ + ∑ k : Fin b, f ⟨a + k.val, by omega⟩ := by
  subst h; rw [Fin.sum_univ_add]; rfl

/-- The sum of squares of a row, averaged and shifted by epsilon, is positive. -/
theorem ms_pos {ι : Type} [Fintype ι] (x : ι → ℝ) : 0 < (∑ k, x k * x k) / 1024 + eps := by
  have h : 0 ≤ ∑ k, x k * x k := Finset.sum_nonneg fun k _ => mul_self_nonneg _
  have := eps_pos
  positivity

/-- The reciprocal root mean square of a row of 1024. -/
def rinv {ι : Type} [Fintype ι] (x : ι → ℝ) : ℝ := (√((∑ k, x k * x k) / 1024 + eps))⁻¹

/-- What both spellings compute: the extended real reciprocal root of the mean square plus epsilon. -/
theorem rsqrt_ms {ι : Type} [Fintype ι] (x : ι → ℝ) :
    Ideal.rsqrt (((∑ k, x k * x k) / 1024 + eps : ℝ) : EReal) = (rinv x : EReal) :=
  rsqrt_coe (ms_pos x)

/-- A row of 1024, normalised by its root mean square and scaled. -/
def rmsRow {ι : Type} [Fintype ι] (x g : ι → ℝ) (j : ι) : ℝ := x j * rinv x * g j

/-- The cube of the reciprocal root, as the derivative of the reciprocal square root spells it. -/
theorem rinv_div {ι : Type} [Fintype ι] (x : ι → ℝ) :
    rinv x / ((∑ k, x k * x k) / 1024 + eps) = rinv x * rinv x * rinv x := by
  have h := ms_pos x
  have hs : √((∑ k, x k * x k) / 1024 + eps) * √((∑ k, x k * x k) / 1024 + eps) = (∑ k, x k * x k) / 1024 + eps :=
    Real.mul_self_sqrt h.le
  have hp := Real.sqrt_pos.mpr h
  unfold rinv
  set s := √((∑ k, x k * x k) / 1024 + eps) with hsd
  rw [← hs]; field_simp

/-- One entry of the gradient of the normalisation, as the kernels write it: the cotangent of the normalised row,
    less its projection on that row, scaled by the reciprocal root. -/
def rmsGrad {ι : Type} [Fintype ι] (x d : ι → ℝ) (j : ι) : ℝ :=
  rinv x * (d j - x j * rinv x * ((∑ k, d k * (x k * rinv x)) / 1024))

/-- The gradient of the normalisation as differentiation writes it, the mean square's part entering twice. -/
theorem rmsGrad_eq {ι : Type} [Fintype ι] (x d : ι → ℝ) (j : ι) :
    d j * rinv x + x j * ((∑ k, x k * d k) * (-(1 / 2) * (rinv x / ((∑ k, x k * x k) / 1024 + eps))) / 1024)
      + (∑ k, x k * d k) * (-(1 / 2) * (rinv x / ((∑ k, x k * x k) / 1024 + eps))) / 1024 * x j
      = rmsGrad x d j := by
  have h : ∑ k, d k * (x k * rinv x) = (∑ k, x k * d k) * rinv x := by
    rw [Finset.sum_mul]; exact Finset.sum_congr rfl fun k _ => by ring
  rw [rinv_div, rmsGrad, h]; ring

/-- The word of the negative infinity. -/
theorem wninf : Ideal.ofBits .f32 0xFF800000#32 = (⊥ : EReal) := by
  simp [Ideal.ofBits, Ideal.ieee]

/-- The word of 1/16. -/
theorem w16th : Ideal.ofBits .f32 0x3D800000#32 = ((1 / 16 : ℝ) : EReal) := by
  simp [Ideal.ofBits, Ideal.ieee, -EReal.coe_mul]; norm_num

/-- The softmax over the reals. -/
def soft {n : ℕ} (l : Fin n → ℝ) (s : Fin n) : ℝ := Real.exp (l s) / ∑ k, Real.exp (l k)

/-- The greatest of finitely many reals, one at least, is a real. -/
theorem fold_max_coe {ι : Type} [Fintype ι] [Nonempty ι] (l : ι → ℝ) :
    ∃ M : ℝ, Finset.fold max (⊥ : EReal) (fun k => (l k : EReal)) Finset.univ = (M : EReal) := by
  classical
  have h (u : Finset ι) : u = ∅ ∨ ∃ M : ℝ, Finset.fold max (⊥ : EReal) (fun k => (l k : EReal)) u = (M : EReal) := by
    induction u using Finset.induction_on with
    | empty => exact .inl rfl
    | insert a s ha ih =>
      refine .inr ?_
      rw [Finset.fold_insert ha]
      rcases ih with rfl | ⟨M, hM⟩
      · exact ⟨l a, by simp⟩
      · exact ⟨max (l a) M, by rw [hM]; exact (EReal.coe_strictMono.monotone.map_max).symm⟩
  exact (h Finset.univ).resolve_left Finset.univ_nonempty.ne_empty

theorem sum_exp_pos {n : ℕ} [NeZero n] (l : Fin n → ℝ) : 0 < ∑ k, Real.exp (l k) :=
  Finset.sum_pos (fun k _ => Real.exp_pos _) ⟨0, Finset.mem_univ _⟩

/-- A softmax does not see a shift of its row. -/
theorem soft_shift {n : ℕ} [NeZero n] (l : Fin n → ℝ) (M : ℝ) (s : Fin n) :
    Real.exp (l s - M) / ∑ k, Real.exp (l k - M) = soft l s := by
  have := sum_exp_pos l
  simp only [Real.exp_sub, ← Finset.sum_div]
  rw [soft, div_div_div_cancel_right₀ (Real.exp_ne_zero M)]

/-- The softmax as the kernels spell it: shifted by the row's maximum, times the reciprocal of the sum. -/
theorem soft_kernel {n : ℕ} [NeZero n] (l : Fin n → ℝ) (s : Fin n) :
    Ideal.exp ((l s : EReal) - Finset.fold max ⊥ (fun k => (l k : EReal)) Finset.univ)
      * Ideal.div ((1 : ℝ) : EReal) (∑ k, Ideal.exp ((l k : EReal) - Finset.fold max ⊥ (fun k => (l k : EReal)) Finset.univ)) = (soft l s : EReal) := by
  obtain ⟨M, hM⟩ := fold_max_coe l
  rw [hM]
  simp only [← EReal.coe_sub, Ideal.exp_coe, sum_coe]
  rw [div_coe _ (sum_exp_pos fun k => l k - M).ne', ← EReal.coe_mul, mul_one_div, soft_shift]

/-- The softmax as the references spell it: shifted by the row's maximum, over the sum. -/
theorem soft_host {n : ℕ} [NeZero n] (l : Fin n → ℝ) (s : Fin n) :
    Ideal.div (Ideal.exp ((l s : EReal) - Finset.fold max ⊥ (fun k => (l k : EReal)) Finset.univ))
      (∑ k, Ideal.exp ((l k : EReal) - Finset.fold max ⊥ (fun k => (l k : EReal)) Finset.univ)) = (soft l s : EReal) := by
  obtain ⟨M, hM⟩ := fold_max_coe l
  rw [hM]
  simp only [← EReal.coe_sub, Ideal.exp_coe, sum_coe]
  rw [div_coe _ (sum_exp_pos fun k => l k - M).ne', soft_shift]

/-- The gradient of a softmax as differentiation writes it, on the shifted exponentials. -/
theorem softGrad {n : ℕ} [NeZero n] (l d : Fin n → ℝ) (M : ℝ) (s : Fin n) :
    (d s / (∑ k, Real.exp (l k - M)) + -(∑ k, d k * (1 / ((∑ k, Real.exp (l k - M)) * (∑ k, Real.exp (l k - M)))) * Real.exp (l k - M)))
      * Real.exp (l s - M) = soft l s * (d s - ∑ k, soft l k * d k) := by
  simp only [← soft_shift l M]
  have hS := sum_exp_pos fun k => l k - M
  set S := ∑ k, Real.exp (l k - M)
  have e : ∑ k, d k * (1 / (S * S)) * Real.exp (l k - M) = (∑ k, Real.exp (l k - M) / S * d k) / S := by
    rw [Finset.sum_div]
    exact Finset.sum_congr rfl fun k _ => by field_simp
  rw [e]; field_simp; ring

/-- A host sum whose reduced axes all have extent one is the initial value plus the one element. -/
theorem reduce_point {s t : Shape} {axes : List (Fin s.rank)} (h : s.ReducesTo axes t) (v : s.Idx → EReal) (init : EReal) (j : t.Idx) (i : s.Idx)
    (hi : ∀ i', h.drop i' = j ↔ i' = i) : Ideal.hostReduceAdd h v init j = init + v i := by
  unfold Ideal.hostReduceAdd
  rw [Finset.sum_congr (Finset.filter_congr fun i' _ => hi i') fun _ _ => rfl, Finset.filter_eq' _ i, if_pos (Finset.mem_univ i), Finset.sum_singleton]

theorem reduce_03 {n1 n2 : ℕ} (h : (⟨4, ![1, n1, n2, 1]⟩ : Shape).ReducesTo [0, 3] ⟨2, ![n1, n2]⟩) (v : (⟨4, ![1, n1, n2, 1]⟩ : Shape).Idx → EReal)
    (init : EReal) (a : Fin n1) (b : Fin n2) : Ideal.hostReduceAdd h v init (ix2 a b) = init + v (ix4 0 a b 0) := by
  refine reduce_point h v init _ _ fun i => ⟨fun e => ?_, fun e => ?_⟩
  · funext k; apply Fin.ext
    match k with
    | ⟨0, _⟩ => exact congrArg Fin.val (Subsingleton.elim (α := Fin 1) (i 0) 0)
    | ⟨1, _⟩ => exact (congrArg Fin.val (congrFun e 0))
    | ⟨2, _⟩ => exact (congrArg Fin.val (congrFun e 1))
    | ⟨3, _⟩ => exact congrArg Fin.val (Subsingleton.elim (α := Fin 1) (i 3) 0)
  · subst e
    funext k; apply Fin.ext
    match k with
    | ⟨0, _⟩ => rfl
    | ⟨1, _⟩ => rfl

theorem reduce_01 {n : ℕ} (h : (⟨3, ![1, 1, n]⟩ : Shape).ReducesTo [0, 1] ⟨1, ![n]⟩) (v : (⟨3, ![1, 1, n]⟩ : Shape).Idx → EReal)
    (init : EReal) (a : Fin n) : Ideal.hostReduceAdd h v init (ix1 a) = init + v (ix3 0 0 a) := by
  refine reduce_point h v init _ _ fun i => ⟨fun e => ?_, fun e => ?_⟩
  · funext k; apply Fin.ext
    match k with
    | ⟨0, _⟩ => exact congrArg Fin.val (Subsingleton.elim (α := Fin 1) (i 0) 0)
    | ⟨1, _⟩ => exact congrArg Fin.val (Subsingleton.elim (α := Fin 1) (i 1) 0)
    | ⟨2, _⟩ => exact (congrArg Fin.val (congrFun e 0))
  · subst e
    funext k; apply Fin.ext
    match k with
    | ⟨0, _⟩ => rfl

theorem reduce_02 {n : ℕ} (h : (⟨3, ![1, n, 1]⟩ : Shape).ReducesTo [0, 2] ⟨1, ![n]⟩) (v : (⟨3, ![1, n, 1]⟩ : Shape).Idx → EReal)
    (init : EReal) (a : Fin n) : Ideal.hostReduceAdd h v init (ix1 a) = init + v (ix3 0 a 0) := by
  refine reduce_point h v init _ _ fun i => ⟨fun e => ?_, fun e => ?_⟩
  · funext k; apply Fin.ext
    match k with
    | ⟨0, _⟩ => exact congrArg Fin.val (Subsingleton.elim (α := Fin 1) (i 0) 0)
    | ⟨1, _⟩ => exact (congrArg Fin.val (congrFun e 0))
    | ⟨2, _⟩ => exact congrArg Fin.val (Subsingleton.elim (α := Fin 1) (i 2) 0)
  · subst e
    funext k; apply Fin.ext
    match k with
    | ⟨0, _⟩ => rfl
end Cert.Lift

end
-- ==== Proof.MixIn.lean ====
/- The gradient of the input projection and its normalisation (`mix_in_bwd`): the kernel's three results are what
   differentiation of the forward lines gives, over the reals that finite arguments denote. -/
module

public import proofs.«01_k».proof.Defs
public import proofs.«01_k».proof.Proof.Lift
public import proofs.«01_k».proof.Proof.Gen.KernelMixInIdeal.Value
public import proofs.«01_k».proof.Proof.Gen.ReferenceMixInIdeal.Read

@[expose] public section

set_option maxRecDepth 16384

noncomputable section

open Idealize.ShloMosaic Idealize.ShloMosaic.TcCoe Idealize.SL.Sem
open Idealize.ShloMosaic.Pipeline (Dat)
open Cert.Lift

namespace Cert.MixIn
open Cert.KernelMixInIdeal Cert.KernelMixInIdeal.Gen

/-! ## The gradient over the reals -/

/-- The cotangent of the normalised input: the projections' cotangent against the input weights. -/
def dh (w : Fin 1024 → Fin 6656 → ℝ) (p : Fin 4096 → Fin 6656 → ℝ) (i : Fin 4096) (j : Fin 1024) : ℝ := ∑ k, p i k * w j k

/-- The gradient of the block's input: the residual's cotangent and the normalisation's gradient. -/
def dx (x : Fin 4096 → Fin 1024 → ℝ) (g : Fin 1024 → ℝ) (w : Fin 1024 → Fin 6656 → ℝ) (p : Fin 4096 → Fin 6656 → ℝ)
    (r : Fin 4096 → Fin 1024 → ℝ) (i : Fin 4096) (j : Fin 1024) : ℝ :=
  r i j + rmsGrad (x i) (fun k => dh w p i k * g k) j

/-- The gradient of the normalisation's scale. -/
def dg (x : Fin 4096 → Fin 1024 → ℝ) (w : Fin 1024 → Fin 6656 → ℝ) (p : Fin 4096 → Fin 6656 → ℝ) (j : Fin 1024) : ℝ :=
  ∑ i, dh w p i j * (x i j * rinv (x i))

/-- The normalised input. -/
def hn (x : Fin 4096 → Fin 1024 → ℝ) (g : Fin 1024 → ℝ) (i : Fin 4096) (j : Fin 1024) : ℝ := x i j * rinv (x i) * g j

/-! ## One block's payloads -/

section Block
variable {D : Vec Ideal S256x6656 .bf16} {W : Vec Ideal S1024x6656 .bf16} {X : Vec Ideal S256x1024 .f32} {G : Vec Ideal S1x1024 .f32}
  {d : Fin 256 → Fin 6656 → ℝ} {w : Fin 1024 → Fin 6656 → ℝ} {x : Fin 256 → Fin 1024 → ℝ} {g : Fin 1024 → ℝ}

/-- The first four column groups' products of a block of the cotangent and the weights. -/
abbrev p4 (D : Vec Ideal S256x6656 .bf16) (W : Vec Ideal S1024x6656 .bf16) : FVec Ideal S256x1024 .f32 :=
  k0_pay4 (View.ld D (Rect.unit ![0, 0] ![256, 1024] inb_S256x6656_S256x1024_0_0))
    (View.ld W (Rect.unit ![0, 0] ![1024, 1024] inb_S1024x6656_S1024x1024_0_0))
    (View.ld D (Rect.unit ![0, 1024] ![256, 1024] inb_S256x6656_S256x1024_0_1024))
    (View.ld W (Rect.unit ![0, 1024] ![1024, 1024] inb_S1024x6656_S1024x1024_0_1024))
    (View.ld D (Rect.unit ![0, 2048] ![256, 1024] inb_S256x6656_S256x1024_0_2048))
    (View.ld W (Rect.unit ![0, 2048] ![1024, 1024] inb_S1024x6656_S1024x1024_0_2048))
    (View.ld D (Rect.unit ![0, 3072] ![256, 1024] inb_S256x6656_S256x1024_0_3072))
    (View.ld W (Rect.unit ![0, 3072] ![1024, 1024] inb_S1024x6656_S1024x1024_0_3072))

/-- All seven column groups' products of a block of the cotangent and the weights. -/
abbrev p6 (D : Vec Ideal S256x6656 .bf16) (W : Vec Ideal S1024x6656 .bf16) : FVec Ideal S256x1024 .f32 :=
  k0_pay6 (p4 D W)
    (k0_pay5 (View.ld D (Rect.unit ![0, 4096] ![256, 1024] inb_S256x6656_S256x1024_0_4096)))
    (View.ld W (Rect.unit ![0, 4096] ![1024, 1024] inb_S1024x6656_S1024x1024_0_4096))
    (View.ld D (Rect.unit ![0, 5120] ![256, 1024] inb_S256x6656_S256x1024_0_5120))
    (View.ld W (Rect.unit ![0, 5120] ![1024, 1024] inb_S1024x6656_S1024x1024_0_5120))
    (View.ld D (Rect.unit ![0, 6144] ![256, 512] inb_S256x6656_S256x512_0_6144))
    (View.ld W (Rect.unit ![0, 6144] ![1024, 512] inb_S1024x6656_S1024x512_0_6144))

/-- The seven column groups' products add up to the whole product. -/
theorem pay_dh (hD : ∀ a b, D (ix2 a b) = (d a b : EReal)) (hW : ∀ a b, W (ix2 a b) = (w a b : EReal)) (a : Fin 256) (b : Fin 1024) :
    p6 D W (ix2 a b) = ((∑ k, d a k * w b k : ℝ) : EReal) := by
  pointwise [k0_pay6, k0_pay5, k0_pay4]
  simp only [hD, hW, ← EReal.coe_mul, sum_coe, ← EReal.coe_add]
  refine congrArg _ ?_
  rw [sum_cut 6144 512 rfl, sum_cut 5120 1024 rfl, sum_cut 4096 1024 rfl, sum_cut 3072 1024 rfl, sum_cut 2048 1024 rfl, sum_cut 1024 1024 rfl]

/-- The block's reciprocal root mean square. -/
theorem pay_r (hX : ∀ a b, X (ix2 a b) = (x a b : EReal)) (a : Fin 256) : k0_pay8 X (ix2 a 0) = (rinv (x a) : EReal) := by
  pointwise [k0_pay8, k0_pay7]
  simp only [hX, ← EReal.coe_mul, sum_coe]
  rw [w1024, weps, div_coe _ (by norm_num), ← EReal.coe_add, rsqrt_ms]

/-- The block's normalised rows. -/
theorem pay_n (hX : ∀ a b, X (ix2 a b) = (x a b : EReal)) (a : Fin 256) (b : Fin 1024) :
    k0_pay9 X (ix2 a b) = ((x a b * rinv (x a) : ℝ) : EReal) := by
  pointwise [k0_pay9, k0_pay7]
  rw [pay_r hX, hX, EReal.coe_mul]

/-- The normalised and scaled rows that the call returns. -/
theorem pay_h (hX : ∀ a b, X (ix2 a b) = (x a b : EReal)) (hG : ∀ b, G (ix2 0 b) = (g b : EReal)) (a : Fin 256) (b : Fin 1024) :
    k0_pay10 X G (ix2 a b) = ((x a b * rinv (x a) * g b : ℝ) : EReal) := by
  pointwise [k0_pay10]
  rw [pay_n hX, hG, ← EReal.coe_mul]

/-- The input's gradient on the block, from the product of the cotangent and the weights. -/
theorem pay_dx {R : Vec Ideal S256x1024 .f32} {r : Fin 256 → Fin 1024 → ℝ}
    (hD : ∀ a b, D (ix2 a b) = (d a b : EReal)) (hW : ∀ a b, W (ix2 a b) = (w a b : EReal))
    (hX : ∀ a b, X (ix2 a b) = (x a b : EReal)) (hG : ∀ b, G (ix2 0 b) = (g b : EReal))
    (hR : ∀ a b, R (ix2 a b) = (r a b : EReal)) (a : Fin 256) (b : Fin 1024) :
    k0_pay1 (k0_pay8 X) (k0_pay9 X) (mulf (p6 D W) (broadcastTo S256x1024 G broadcasts_S1x1024_S256x1024))
      (shapeCast S256x1 (multiReduction .add [1] S256 (mulf (mulf (p6 D W) (broadcastTo S256x1024 G broadcasts_S1x1024_S256x1024)) (k0_pay9 X)) 0x00000000#32
        reduces_S256x1024_S256 (.inl rfl) rfl) shapeCasts_S256_S256x1) (Scalar.ofBits .f32 0x44800000#32) R (ix2 a b)
      = ((r a b + rmsGrad (x a) (fun j => (∑ k, d a k * w j k) * g j) b : ℝ) : EReal) := by
  pointwise [k0_pay1]
  simp only [pay_r hX, pay_n hX, hR, hG, pay_dh hD hW]
  rw [w1024]
  simp only [← EReal.coe_mul, sum_coe, ← EReal.coe_sub, ← EReal.coe_add, div_coe _ (show (1024 : ℝ) ≠ 0 by norm_num)]
  rfl

/-- The block's part of the scale's gradient. -/
theorem pay_dg {A : Vec Ideal S1x1024 .f32}
    (hD : ∀ a b, D (ix2 a b) = (d a b : EReal)) (hW : ∀ a b, W (ix2 a b) = (w a b : EReal))
    (hX : ∀ a b, X (ix2 a b) = (x a b : EReal)) (b : Fin 1024) :
    k0_pay2 (p6 D W) (k0_pay9 X) A (ix2 0 b) = A (ix2 0 b) + ((∑ a, (∑ k, d a k * w b k) * (x a b * rinv (x a)) : ℝ) : EReal) := by
  pointwise [k0_pay2]
  simp only [pay_n hX, pay_dh hD hW, ← EReal.coe_mul, sum_coe]

end Block

variable (m : (ℓ : Loc nD τ sig) → Buf (Elt Ideal) ℓ)

/-- The windows' index maps over the sixteen points. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, 0] ∧ win0_7.index t = ![t.val, 0] :=
  (by decide +kernel : ∀ t : Fin grid0.N, _)

/-- Row `a` of point `t`'s block. -/
abbrev row (t : Fin cfg0.N) (a : Fin 256) : Fin 4096 := ⟨t.val * 256 + a.val, by have := t.isLt; have := a.isLt; have : cfg0.N = 16 := rfl; omega⟩

section Point
variable (c : Dev nD)

theorem blk0 (t : Fin cfg0.N) (a : Fin 256) (b : Fin 6656) :
    iblk m c 0 t (ix2 a b) = m ((c : Thread nD τ).loc main_arg3) (ix3 0 (row t a) b) := by
  blk_point [iblk, V, idx t]

theorem blk1 (t : Fin cfg0.N) (a : Fin 256) (b : Fin 1024) :
    iblk m c 1 t (ix2 a b) = m ((c : Thread nD τ).loc main_arg0) (ix3 0 (row t a) b) := by
  blk_point [iblk, V, idx t]

theorem blk2 (t : Fin cfg0.N) (b : Fin 1024) :
    iblk m c 2 t (ix2 0 b) = m ((c : Thread nD τ).loc main_arg1) (ix2 0 b) := by
  blk_point [iblk, V, idx t]

theorem blk3 (t : Fin cfg0.N) (a : Fin 1024) (b : Fin 6656) :
    iblk m c 3 t (ix2 a b) = m ((c : Thread nD τ).loc main_arg2) (ix3 0 a b) := by
  blk_point [iblk, V, idx t]

theorem blk4 (t : Fin cfg0.N) (a : Fin 256) (b : Fin 1024) :
    iblk m c 4 t (ix2 a b) = m ((c : Thread nD τ).loc main_arg4) (ix3 0 (row t a) b) := by
  blk_point [iblk, V, idx t]

end Point

/-- The arguments are the coercions of these reals. -/
structure Args (a0 : Vec Ideal S1x4096x1024 .f32) (a1 : Vec Ideal S1x1024 .f32) (a2 : Vec Ideal S1x1024x6656 .f32)
    (a3 : Vec Ideal S1x4096x6656 .f32) (a4 : Vec Ideal S1x4096x1024 .f32) (x : Fin 4096 → Fin 1024 → ℝ) (g : Fin 1024 → ℝ)
    (w : Fin 1024 → Fin 6656 → ℝ) (p : Fin 4096 → Fin 6656 → ℝ) (r : Fin 4096 → Fin 1024 → ℝ) : Prop where
  h0 : ∀ i j, a0 (ix3 0 i j) = (x i j : EReal)
  h1 : ∀ j, a1 (ix2 0 j) = (g j : EReal)
  h2 : ∀ i j, a2 (ix3 0 i j) = (w i j : EReal)
  h3 : ∀ i j, a3 (ix3 0 i j) = (p i j : EReal)
  h4 : ∀ i j, a4 (ix3 0 i j) = (r i j : EReal)

section Out
variable (c : Dev nD) {x : Fin 4096 → Fin 1024 → ℝ} {g : Fin 1024 → ℝ} {w : Fin 1024 → Fin 6656 → ℝ} {p : Fin 4096 → Fin 6656 → ℝ}
  {r : Fin 4096 → Fin 1024 → ℝ}
  (H : Args (m ((c : Thread nD τ).loc main_arg0)) (m ((c : Thread nD τ).loc main_arg1)) (m ((c : Thread nD τ).loc main_arg2))
    (m ((c : Thread nD τ).loc main_arg3)) (m ((c : Thread nD τ).loc main_arg4)) x g w p r)
include H

/-- What point `t` leaves in the normalised rows' block. -/
theorem out7 (t : Fin cfg0.N) (a : Fin 256) (b : Fin 1024) :
    (outsAt0 m c t.val t.isLt).2.2 (ix2 a b) = (hn x g (row t a) b : EReal) := by
  have key : k0_pay10 (iblk m c 1 t) (iblk m c 2 t) (ix2 a b) = (hn x g (row t a) b : EReal) :=
    pay_h (fun a b => (blk1 m c t a b).trans (H.h0 _ _)) (fun b => (blk2 m c t b).trans (H.h1 _)) a b
  by_cases h0 : t.val % 16 = 0
  · rw [outsAt0_A m c t h0]; frame_out; exact key
  · rw [outsAt0_B m c t h0]; frame_out; exact key

/-- What point `t` leaves in the input gradient's block. -/
theorem out5 (t : Fin cfg0.N) (a : Fin 256) (b : Fin 1024) :
    (outsAt0 m c t.val t.isLt).1 (ix2 a b) = (dx x g w p r (row t a) b : EReal) := by
  have key := pay_dx (fun a b => (blk0 m c t a b).trans (H.h3 _ _)) (fun a b => (blk3 m c t a b).trans (H.h2 _ _))
    (fun a b => (blk1 m c t a b).trans (H.h0 _ _)) (fun b => (blk2 m c t b).trans (H.h1 _))
    (fun a b => (blk4 m c t a b).trans (H.h4 _ _)) a b
  by_cases h0 : t.val % 16 = 0
  · rw [outsAt0_A m c t h0]; frame_out; exact key
  · rw [outsAt0_B m c t h0]; frame_out; exact key

/-- The addend of point `t` to the scale's gradient. -/
def dgPart (x : Fin 4096 → Fin 1024 → ℝ) (w : Fin 1024 → Fin 6656 → ℝ) (p : Fin 4096 → Fin 6656 → ℝ) (t : Fin cfg0.N) (j : Fin 1024) : ℝ :=
  ∑ a, dh w p (row t a) j * (x (row t a) j * rinv (x (row t a)))

/-- The scale's gradient after the last point: the points' addends in turn, from zero. -/
theorem out6 (t : Fin cfg0.N) (ht : t.val + 1 = cfg0.N) (b : Fin 1024) :
    (outsAt0 m c t.val t.isLt).2.1 (ix2 0 b) = (dg x w p b : EReal) := by
  have key := fun (t : Fin cfg0.N) (A : Vec Ideal S1x1024 .f32) (b : Fin 1024) => pay_dg (A := A) (fun a b => (blk0 m c t a b).trans (H.h3 _ _))
    (fun a b => (blk3 m c t a b).trans (H.h2 _ _)) (fun a b => (blk1 m c t a b).trans (H.h0 _ _)) b
  have h := Pipeline.eq_sum_fin_of_reset_step_apply_last (fun n hn b => (outsAt0 m c n hn).2.1 (ix2 0 b)) 16 (fun _ => (0 : EReal))
    (fun t b => (dgPart x w p t b : EReal))
    (fun t h0 b => by
      show (outsAt0 m c t.val t.isLt).2.1 (ix2 0 b) = _
      rw [outsAt0_A m c t h0]; frame_out
      rw [key]
      pointwise [k0_pay3]
      rfl)
    (fun t h0 b => by
      show (outsAt0 m c t.val t.isLt).2.1 (ix2 0 b) = _
      rw [outsAt0_B m c t h0]; frame_out
      rw [key]
      rfl)
    (by decide) t ht b
  refine h.trans ?_
  rw [zero_add, sum_coe]
  refine congrArg _ ?_
  unfold dg dgPart
  exact (Fin.sum_univ_tiles 16 256 rfl fun i : Fin 4096 => dh w p i b * (x i b * rinv (x i))).symm

/-- The input gradient's array after the run. -/
theorem arr5 : (dats m 0 c).arrAt 5 cfg0.N = fun i => (dx x g w p r (i 0) (i 1) : EReal) := by
  refine (dats m 0 c).arrAt_eq_of_covers 5 _ (by decide +kernel) fun t _ y => ?_
  blk_simp
  rw [after0_5]
  idx_vars y
  rw [out5 m c H]
  exact congrArg _ (congrArg₂ _ (Fin.ext (by blk_simp [idx t])) (Fin.ext (by blk_simp [idx t])))

/-- The normalised rows' array after the run. -/
theorem arr7 : (dats m 0 c).arrAt 7 cfg0.N = fun i => (hn x g (i 0) (i 1) : EReal) := by
  refine (dats m 0 c).arrAt_eq_of_covers 7 _ (by decide +kernel) fun t _ y => ?_
  blk_simp
  rw [after0_7]
  idx_vars y
  rw [out7 m c H]
  exact congrArg _ (congrArg₂ _ (Fin.ext (by blk_simp [idx t])) (Fin.ext (by blk_simp [idx t])))

/-- The scale gradient's array after the run. -/
theorem arr6 : (dats m 0 c).arrAt 6 cfg0.N = fun i => (dg x w p (i 1) : EReal) := by
  refine (dats m 0 c).arrAt_eq_of_after_last 6 t0_15 (by decide +kernel) _ fun j => ?_
  blk_simp
  rw [after0_6]
  idx_vars j
  obtain rfl : j0 = 0 := Subsingleton.elim _ _
  rw [out6 m c H _ rfl]

end Out

/-! ## The reference -/

section Reference
open Cert.ReferenceMixInIdeal Cert.ReferenceMixInIdeal.Read
variable {a0 : Vec Ideal Cert.KernelMixInIdeal.S1x4096x1024 .f32} {a1 : Vec Ideal Cert.KernelMixInIdeal.S1x1024 .f32} {a2 : Vec Ideal Cert.KernelMixInIdeal.S1x1024x6656 .f32}
  {a3 : Vec Ideal Cert.KernelMixInIdeal.S1x4096x6656 .f32} {a4 : Vec Ideal Cert.KernelMixInIdeal.S1x4096x1024 .f32} {x : Fin 4096 → Fin 1024 → ℝ} {g : Fin 1024 → ℝ}
  {w : Fin 1024 → Fin 6656 → ℝ} {p : Fin 4096 → Fin 6656 → ℝ} {r : Fin 4096 → Fin 1024 → ℝ} (H : Args a0 a1 a2 a3 a4 x g w p r)
include H

/-- The reference's mean square plus epsilon. -/
theorem ref8 (i : Fin 4096) : val_main_v8 (F := Ideal) a0 (ix2 i 0) = (((∑ k, x i k * x i k) / 1024 + eps : ℝ) : EReal) := by
  pointwise [val_main_v8, val_main_v7, val_main_cst_1, val_main_v6, val_main_v5, val_main_cst_0, val_main_v4, val_main_v3, val_main_cst, val_main_v2, val_main_v0]
  simp only [H.h0, ← EReal.coe_mul, sum_coe]
  rw [w1024, weps, div_coe _ (by norm_num), ← EReal.coe_add]

/-- The reference's reciprocal root mean square. -/
theorem ref9 (i : Fin 4096) : val_main_v9 (F := Ideal) a0 (ix2 i 0) = (rinv (x i) : EReal) := by
  pointwise [val_main_v9]
  rw [ref8 H, rsqrt_ms]

/-- The reference's derivative of the reciprocal root. -/
theorem ref12 (i : Fin 4096) : val_main_v12 (F := Ideal) a0 (ix2 i 0)
    = ((-(1 / 2) * (rinv (x i) / ((∑ k, x i k * x i k) / 1024 + eps)) : ℝ) : EReal) := by
  pointwise [val_main_v12, val_main_v11, val_main_cst_2, val_main_v10]
  rw [ref8 H, ref9 H, wnhalf, div_coe _ (ms_pos _).ne', ← EReal.coe_mul]

/-- The reference's normalised rows. -/
theorem ref14 (i : Fin 4096) (j : Fin 1024) : val_main_v14 (F := Ideal) a0 (ix2 i j) = ((x i j * rinv (x i) : ℝ) : EReal) := by
  pointwise [val_main_v14, val_main_v13, val_main_v0]
  rw [ref9 H, H.h0, ← EReal.coe_mul]

/-- The reference's cotangent of the normalised input. -/
theorem ref22 (i : Fin 4096) (j : Fin 1024) : val_main_v22 (F := Ideal) a2 a3 (ix2 i j) = (dh w p i j : EReal) := by
  pointwise [val_main_v22, val_main_v20, val_main_v18]
  simp only [H.h2, H.h3, ← EReal.coe_mul, sum_coe]
  rfl

/-- The reference's cotangent of the normalised rows. -/
theorem ref27 (i : Fin 4096) (j : Fin 1024) : val_main_v27 (F := Ideal) a1 a2 a3 (ix2 i j) = ((dh w p i j * g j : ℝ) : EReal) := by
  pointwise [val_main_v27, val_main_v26, val_main_v15, val_main_v1]
  rw [ref22 H, H.h1, ← EReal.coe_mul]

/-- The reference's gradient of the scale. -/
theorem ref44 (j : Fin 1024) : val_main_v44 (F := Ideal) a0 a2 a3 (ix2 0 j) = (dg x w p j : EReal) := by
  pointwise [val_main_v44, val_main_v28, val_main_v25, val_main_v24, val_main_v23, val_main_cst_3, val_main_cst_4]
  simp only [ref22 H, ref14 H, ← EReal.coe_mul, sum_coe]
  rw [Fin.sum_univ_one]
  exact congrArg _ (Finset.sum_congr rfl fun i _ => mul_comm _ _)

/-- The reference's two equal parts of the mean square's cotangent. -/
theorem ref38 (i : Fin 4096) : val_main_v38 (F := Ideal) a0 a1 a2 a3 (ix1 i)
    = (((∑ k, x i k * (dh w p i k * g k)) * (-(1 / 2) * (rinv (x i) / ((∑ k, x i k * x i k) / 1024 + eps))) / 1024 : ℝ) : EReal) := by
  pointwise [val_main_v38, val_main_cst_7, val_main_v37, val_main_v36, val_main_cst_6, val_main_v35, val_main_v31, val_main_v30, val_main_cst_5, val_main_v29, val_main_v0]
  rw [Fin.sum_univ_one]
  simp only [ref27 H, ref12 H, H.h0, ← EReal.coe_mul, sum_coe]
  rw [w1024, div_coe _ (by norm_num)]

/-- The reference's gradient of the input. -/
theorem ref43 (i : Fin 4096) (j : Fin 1024) : val_main_v43 (F := Ideal) a0 a1 a2 a3 a4 (ix2 i j) = (dx x g w p r i j : EReal) := by
  pointwise [val_main_v43, val_main_v42, val_main_v41, val_main_v40, val_main_v39, val_main_v34, val_main_v33, val_main_v32, val_main_v21, val_main_v0]
  rw [ref38 H, ref27 H, ref9 H, H.h0, H.h4]
  simp only [← EReal.coe_mul, ← EReal.coe_add]
  rw [dx, ← rmsGrad_eq]
  exact congrArg _ (by ring)

/-- The reference's normalised input. -/
theorem ref62 (i : Fin 4096) (j : Fin 1024) : val_main_v62 (F := Ideal) a0 a1 (ix2 i j) = (hn x g i j : EReal) := by
  pointwise [val_main_v62, val_main_v59, val_main_v58, val_main_v57, val_main_v46, val_main_v56, val_main_v55, val_main_v54, val_main_v53, val_main_v52, val_main_cst_10,
    val_main_v51, val_main_v50, val_main_cst_9, val_main_v49, val_main_v48, val_main_cst_8, val_main_v47, val_main_v45]
  simp only [H.h0, H.h1, ← EReal.coe_mul, sum_coe]
  rw [w1024, weps, div_coe _ (by norm_num), ← EReal.coe_add, rsqrt_ms, ← EReal.coe_mul, ← EReal.coe_mul]
  rfl

end Reference

/-! ## The claim -/

/-- The precondition makes the arguments coercions of reals. -/
theorem args_of_pre (a0 : Vec Ideal S1x4096x1024 .f32) (a1 : Vec Ideal S1x1024 .f32) (a2 : Vec Ideal S1x1024x6656 .f32)
    (a3 : Vec Ideal S1x4096x6656 .f32) (a4 : Vec Ideal S1x4096x1024 .f32) [Cert.Pre_finite_mix_in.Facts]
    (h : (Cert.Pre_finite_mix_in.fn (F := Ideal) a0 a1 a2 a3 a4).1 = (fun _ => 1#1)
      ∧ (Cert.Pre_finite_mix_in.fn (F := Ideal) a0 a1 a2 a3 a4).2.1 = (fun _ => 1#1)
      ∧ (Cert.Pre_finite_mix_in.fn (F := Ideal) a0 a1 a2 a3 a4).2.2.1 = (fun _ => 1#1)
      ∧ (Cert.Pre_finite_mix_in.fn (F := Ideal) a0 a1 a2 a3 a4).2.2.2.1 = (fun _ => 1#1)
      ∧ (Cert.Pre_finite_mix_in.fn (F := Ideal) a0 a1 a2 a3 a4).2.2.2.2 = (fun _ => 1#1)) :
    Args a0 a1 a2 a3 a4 (fun i j => (a0 (ix3 0 i j)).toReal) (fun j => (a1 (ix2 0 j)).toReal) (fun i j => (a2 (ix3 0 i j)).toReal)
      (fun i j => (a3 (ix3 0 i j)).toReal) (fun i j => (a4 (ix3 0 i j)).toReal) :=
  ⟨fun i j => real_of_abs (congrFun h.1 (ix3 0 i j)), fun j => real_of_abs (congrFun h.2.1 (ix2 0 j)),
    fun i j => real_of_abs (congrFun h.2.2.1 (ix3 0 i j)), fun i j => real_of_abs (congrFun h.2.2.2.1 (ix3 0 i j)),
    fun i j => real_of_abs (congrFun h.2.2.2.2 (ix3 0 i j))⟩

/-- The gradient call of the input projection and its normalisation returns what differentiation of the forward lines
    returns. -/
theorem value [Cert.Pre_finite_mix_in.Facts] : Cert.algebraic_KernelMixInIdeal_ReferenceMixInIdeal_pre_finite_mix_in := by
  intro m g m' g' hpre hagree
  have H := fun c => args_of_pre _ _ _ _ _ (hpre c)
  refine ⟨_, _, _, Value.run_blocks m g, ?_⟩
  refine (θ_run _ _ _).mono (fun s h c => ?_) (Cert.ReferenceMixInIdeal.Value.run m' g')
  obtain ⟨e0, e1, e2, e3, e4⟩ := hagree c
  obtain ⟨h0, h1, h2, hr⟩ := h c
  refine ⟨h0.trans ?_, h1.trans ?_, h2.trans ?_, hr⟩
  · rw [Cert.ReferenceMixInIdeal.Read.val_main_v43_eq, e0, e1, e2, e3, e4, arr5 m c (H c)]
    funext i
    idx_vars i
    exact ref43 (H c) _ _
  · rw [Cert.ReferenceMixInIdeal.Read.val_main_v44_eq, e0, e2, e3, arr6 m c (H c)]
    funext i
    idx_vars i
    obtain rfl : i0 = 0 := Subsingleton.elim _ _
    exact ref44 (H c) _
  · rw [Cert.ReferenceMixInIdeal.Read.val_main_v62_eq, e0, e1, arr7 m c (H c)]
    funext i
    idx_vars i
    exact ref62 (H c) _ _

end Cert.MixIn
end
-- ==== Proof.Ffn.lean ====
/- The gradient of the feed-forward sublayer (`ffn_bwd`): the kernel's six results are what differentiation of the
   forward lines gives, over the reals that finite arguments denote. -/
module

public import proofs.«01_k».proof.Defs
public import proofs.«01_k».proof.Proof.Lift
public import proofs.«01_k».proof.Proof.Gen.KernelFfnIdeal.Value
public import proofs.«01_k».proof.Proof.Gen.ReferenceFfnIdeal.Read

@[expose] public section

set_option maxRecDepth 16384

noncomputable section

open Idealize.ShloMosaic Idealize.ShloMosaic.TcCoe Idealize.SL.Sem
open Idealize.ShloMosaic.Pipeline (Dat)
open Cert.Lift

namespace Cert.Ffn
open Cert.KernelFfnIdeal Cert.KernelFfnIdeal.Gen

/-! ## The gradient over the reals, row by row -/

/-- The gate's column of the joint projection. -/
abbrev gateCol (k : Fin 2816) : Fin 5632 := ⟨k.val, by omega⟩

/-- The value's column of the joint projection. -/
abbrev upCol (k : Fin 2816) : Fin 5632 := ⟨2816 + k.val, by omega⟩

/-- The joint projection of a normalised row. -/
def pre (x g : Fin 1024 → ℝ) (w : Fin 1024 → Fin 5632 → ℝ) (k : Fin 5632) : ℝ := ∑ j, rmsRow x g j * w j k

/-- The gated activation. -/
def act (ga up : Fin 2816 → ℝ) (k : Fin 2816) : ℝ := ga k * sg (ga k) * up k

/-- The cotangent of the activation. -/
def da (c : Fin 1024 → ℝ) (wd : Fin 2816 → Fin 1024 → ℝ) (k : Fin 2816) : ℝ := ∑ j, 1 / 2 * c j * wd k j

/-- The cotangent of the gate. -/
def dgate (c : Fin 1024 → ℝ) (wd : Fin 2816 → Fin 1024 → ℝ) (ga up : Fin 2816 → ℝ) (k : Fin 2816) : ℝ :=
  da c wd k * up k * (sg (ga k) * (1 + ga k * (1 - sg (ga k))))

/-- The cotangent of the value. -/
def dup (c : Fin 1024 → ℝ) (wd : Fin 2816 → Fin 1024 → ℝ) (ga : Fin 2816 → ℝ) (k : Fin 2816) : ℝ := da c wd k * (ga k * sg (ga k))

/-- The cotangent of the joint projection. -/
def dpre (c : Fin 1024 → ℝ) (wd : Fin 2816 → Fin 1024 → ℝ) (ga up : Fin 2816 → ℝ) (k : Fin 5632) : ℝ :=
  if h : k.val < 2816 then dgate c wd ga up ⟨k.val, h⟩ else dup c wd ga ⟨k.val - 2816, by omega⟩

/-- The cotangent of the normalised row. -/
def dh (c : Fin 1024 → ℝ) (wd : Fin 2816 → Fin 1024 → ℝ) (w : Fin 1024 → Fin 5632 → ℝ) (ga up : Fin 2816 → ℝ) (j : Fin 1024) : ℝ :=
  ∑ k, dpre c wd ga up k * w j k

theorem dpre_up (c : Fin 1024 → ℝ) (wd : Fin 2816 → Fin 1024 → ℝ) (ga up : Fin 2816 → ℝ) (k : ℕ) (h : 2816 + k < 5632) :
    dpre c wd ga up ⟨2816 + k, h⟩ = dup c wd ga ⟨k, by omega⟩ := by
  unfold dpre
  rw [dif_neg (by simp)]
  exact congrArg _ (Fin.ext (by simp))

/-- The cotangent of the normalised row as the two column groups' four products. -/
theorem dh_cut (c : Fin 1024 → ℝ) (wd : Fin 2816 → Fin 1024 → ℝ) (w : Fin 1024 → Fin 5632 → ℝ) (ga up : Fin 2816 → ℝ) (j : Fin 1024) :
    dh c wd w ga up j
      = ∑ k : Fin 1408, dgate c wd ga up ⟨k.val, by omega⟩ * w j ⟨k.val, by omega⟩
        + ∑ k : Fin 1408, dup c wd ga ⟨k.val, by omega⟩ * w j ⟨2816 + k.val, by omega⟩
        + ∑ k : Fin 1408, dgate c wd ga up ⟨1408 + k.val, by omega⟩ * w j ⟨1408 + k.val, by omega⟩
        + ∑ k : Fin 1408, dup c wd ga ⟨1408 + k.val, by omega⟩ * w j ⟨4224 + k.val, by omega⟩ := by
  have e (f : Fin 2816 → ℝ) : ∑ k, f k = ∑ k : Fin 1408, f ⟨k.val, by omega⟩ + ∑ k : Fin 1408, f ⟨1408 + k.val, by omega⟩ := sum_cut 1408 1408 rfl f
  unfold dh
  rw [sum_cut 2816 2816 rfl, e, e]
  have g (k : ℕ) (hk : k < 2816) : dpre c wd ga up ⟨k, by omega⟩ = dgate c wd ga up ⟨k, hk⟩ := dif_pos hk
  simp only [dpre_up, ← Nat.add_assoc]
  have g0 (k : Fin 1408) := g k.val (by omega)
  have g1 (k : Fin 1408) := g (1408 + k.val) (by omega)
  have u1 (k : Fin 1408) : dpre c wd ga up ⟨4224 + k.val, by omega⟩ = dup c wd ga ⟨1408 + k.val, by omega⟩ :=
    (congrArg (dpre c wd ga up) (Fin.ext (by simp only; omega))).trans (dpre_up c wd ga up (1408 + k.val) (by omega))
  simp only [g0, g1, Nat.reduceAdd, u1]
  ring

/-! ## One block's payloads -/

section Block
variable {C : Vec Ideal S256x1024 .f32} {X : Vec Ideal S256x1024 .f32} {G : Vec Ideal S1x1024 .f32} {A U : Vec Ideal S256x2816 .bf16}
  {W : Vec Ideal S1024x5632 .bf16} {D : Vec Ideal S2816x1024 .bf16}
  {c x : Fin 256 → Fin 1024 → ℝ} {g : Fin 1024 → ℝ} {ga up : Fin 256 → Fin 2816 → ℝ} {w : Fin 1024 → Fin 5632 → ℝ} {d : Fin 2816 → Fin 1024 → ℝ}

/-- The first half of a block's columns of the saved gate or value. -/
abbrev lo (A : Vec Ideal S256x2816 .bf16) : Vec Ideal S256x1408 .bf16 := View.ld A (Rect.unit ![0, 0] ![256, 1408] inb_S256x2816_S256x1408_0_0)
/-- The second half. -/
abbrev hi (A : Vec Ideal S256x2816 .bf16) : Vec Ideal S256x1408 .bf16 := View.ld A (Rect.unit ![0, 1408] ![256, 1408] inb_S256x2816_S256x1408_0_1408)
/-- The first half of the output weights' rows. -/
abbrev dlo (D : Vec Ideal S2816x1024 .bf16) : Vec Ideal S1408x1024 .bf16 := View.ld D (Rect.unit ![0, 0] ![1408, 1024] inb_S2816x1024_S1408x1024_0_0)
/-- The second half. -/
abbrev dhi (D : Vec Ideal S2816x1024 .bf16) : Vec Ideal S1408x1024 .bf16 := View.ld D (Rect.unit ![1408, 0] ![1408, 1024] inb_S2816x1024_S1408x1024_1408_0)

/-- The halved cotangent. -/
theorem pay_y (hC : ∀ a b, C (ix2 a b) = (c a b : EReal)) (a : Fin 256) (b : Fin 1024) :
    k0_pay6 C (ix2 a b) = ((1 / 2 * c a b : ℝ) : EReal) := by
  pointwise [k0_pay6, k0_pay5]
  rw [hC, whalf, ← EReal.coe_mul]

/-- The block's reciprocal root mean square. -/
theorem pay_r (hX : ∀ a b, X (ix2 a b) = (x a b : EReal)) (a : Fin 256) : k0_pay8 X (ix2 a 0) = (rinv (x a) : EReal) := by
  pointwise [k0_pay8, k0_pay7]
  simp only [hX, ← EReal.coe_mul, sum_coe]
  rw [w1024, weps, div_coe _ (by norm_num), ← EReal.coe_add, rsqrt_ms]

/-- The block's normalised rows. -/
theorem pay_n (hX : ∀ a b, X (ix2 a b) = (x a b : EReal)) (a : Fin 256) (b : Fin 1024) :
    k0_pay9 X (ix2 a b) = ((x a b * rinv (x a) : ℝ) : EReal) := by
  pointwise [k0_pay9, k0_pay7]
  rw [pay_r hX, hX, EReal.coe_mul]

/-- The normalised and scaled rows that the call returns. -/
theorem pay_h (hX : ∀ a b, X (ix2 a b) = (x a b : EReal)) (hG : ∀ b, G (ix2 0 b) = (g b : EReal)) (a : Fin 256) (b : Fin 1024) :
    k0_pay10 X G (ix2 a b) = (rmsRow (x a) g b : EReal) := by
  pointwise [k0_pay10]
  rw [pay_n hX, hG, ← EReal.coe_mul, rmsRow]

/-- The first half of the activation. -/
theorem pay_a0 (hA : ∀ a b, A (ix2 a b) = (ga a b : EReal)) (hU : ∀ a b, U (ix2 a b) = (up a b : EReal)) (a : Fin 256) (k : Fin 1408) :
    k0_pay17 (k0_pay12 (lo A)) (k0_pay13 (lo U)) (ix2 a k) = (act (ga a) (up a) ⟨k.val, by omega⟩ : EReal) := by
  pointwise [k0_pay17, k0_pay16, k0_pay15, k0_pay12, k0_pay13, lo, dlo]
  simp only [hA, hU, sg_kernel, ← EReal.coe_one, ← EReal.coe_mul]
  rfl

/-- The second half of the activation. -/
theorem pay_a1 (hA : ∀ a b, A (ix2 a b) = (ga a b : EReal)) (hU : ∀ a b, U (ix2 a b) = (up a b : EReal)) (a : Fin 256) (k : Fin 1408) :
    k0_pay27 (k0_pay21 (hi A)) (hi U) (ix2 a k) = (act (ga a) (up a) ⟨1408 + k.val, by omega⟩ : EReal) := by
  pointwise [k0_pay27, k0_pay26, k0_pay25, k0_pay22, k0_pay23, k0_pay21, hi, dhi]
  simp only [hA, hU, sg_kernel, ← EReal.coe_one, ← EReal.coe_mul]
  rfl

/-- The first half of the gate's cotangent. -/
theorem pay_g0 (hC : ∀ a b, C (ix2 a b) = (c a b : EReal)) (hA : ∀ a b, A (ix2 a b) = (ga a b : EReal)) (hU : ∀ a b, U (ix2 a b) = (up a b : EReal))
    (hD : ∀ a b, D (ix2 a b) = (d a b : EReal)) (a : Fin 256) (k : Fin 1408) :
    k0_pay18 (k0_pay6 C) (k0_pay12 (lo A)) (k0_pay13 (lo U)) (dlo D) (ix2 a k) = (dgate (c a) d (ga a) (up a) ⟨k.val, by omega⟩ : EReal) := by
  pointwise [k0_pay18, k0_pay14, k0_pay15, k0_pay12, k0_pay13, lo, dlo]
  simp only [pay_y hC, hA, hU, hD, sg_kernel, ← EReal.coe_one, ← EReal.coe_mul, ← EReal.coe_sub, ← EReal.coe_add, sum_coe]
  rfl

/-- The second half of the gate's cotangent. -/
theorem pay_g1 (hC : ∀ a b, C (ix2 a b) = (c a b : EReal)) (hA : ∀ a b, A (ix2 a b) = (ga a b : EReal)) (hU : ∀ a b, U (ix2 a b) = (up a b : EReal))
    (hD : ∀ a b, D (ix2 a b) = (d a b : EReal)) (a : Fin 256) (k : Fin 1408) :
    k0_pay28 (k0_pay6 C) (k0_pay21 (hi A)) (hi U) (dhi D) (ix2 a k) = (dgate (c a) d (ga a) (up a) ⟨1408 + k.val, by omega⟩ : EReal) := by
  pointwise [k0_pay28, k0_pay24, k0_pay25, k0_pay22, k0_pay23, k0_pay21, hi, dhi]
  simp only [pay_y hC, hA, hU, hD, sg_kernel, ← EReal.coe_one, ← EReal.coe_mul, ← EReal.coe_sub, ← EReal.coe_add, sum_coe]
  rfl

/-- The first half of the value's cotangent. -/
theorem pay_u0 (hC : ∀ a b, C (ix2 a b) = (c a b : EReal)) (hA : ∀ a b, A (ix2 a b) = (ga a b : EReal))
    (hD : ∀ a b, D (ix2 a b) = (d a b : EReal)) (a : Fin 256) (k : Fin 1408) :
    k0_pay19 (k0_pay6 C) (k0_pay12 (lo A)) (dlo D) (ix2 a k) = (dup (c a) d (ga a) ⟨k.val, by omega⟩ : EReal) := by
  pointwise [k0_pay19, k0_pay14, k0_pay16, k0_pay15, k0_pay12, lo, dlo]
  simp only [pay_y hC, hA, hD, sg_kernel, ← EReal.coe_one, ← EReal.coe_mul, sum_coe]
  rfl

/-- The second half of the value's cotangent. -/
theorem pay_u1 (hC : ∀ a b, C (ix2 a b) = (c a b : EReal)) (hA : ∀ a b, A (ix2 a b) = (ga a b : EReal))
    (hD : ∀ a b, D (ix2 a b) = (d a b : EReal)) (a : Fin 256) (k : Fin 1408) :
    k0_pay29 (k0_pay6 C) (k0_pay21 (hi A)) (dhi D) (ix2 a k) = (dup (c a) d (ga a) ⟨1408 + k.val, by omega⟩ : EReal) := by
  pointwise [k0_pay29, k0_pay24, k0_pay26, k0_pay25, k0_pay22, k0_pay21, hi, dhi]
  simp only [pay_y hC, hA, hD, sg_kernel, ← EReal.coe_one, ← EReal.coe_mul, sum_coe]
  rfl

/-- The first three products of the normalised row's cotangent. -/
abbrev v104 (C : Vec Ideal S256x1024 .f32) (A U : Vec Ideal S256x2816 .bf16) (W : Vec Ideal S1024x5632 .bf16) (D : Vec Ideal S2816x1024 .bf16) : FVec Ideal S256x1024 .f32 :=
  k0_pay30 (k0_pay6 C)
    (k0_pay20 (k0_pay6 C) k0_pay11 (k0_pay12 (lo A)) (k0_pay13 (lo U)) (dlo D)
      (View.ld W (Rect.unit ![0, 0] ![1024, 1408] inb_S1024x5632_S1024x1408_0_0))
      (View.ld W (Rect.unit ![0, 2816] ![1024, 1408] inb_S1024x5632_S1024x1408_0_2816)))
    (k0_pay21 (hi A)) (hi U) (dhi D)
    (View.ld W (Rect.unit ![0, 1408] ![1024, 1408] inb_S1024x5632_S1024x1408_0_1408))

/-- The normalised row's cotangent on a block. -/
abbrev v108 (C : Vec Ideal S256x1024 .f32) (A U : Vec Ideal S256x2816 .bf16) (W : Vec Ideal S1024x5632 .bf16) (D : Vec Ideal S2816x1024 .bf16) : FVec Ideal S256x1024 .f32 :=
  k0_pay1 (k0_pay29 (k0_pay6 C) (k0_pay21 (hi A)) (dhi D)) (v104 C A U W D)
    (View.ld W (Rect.unit ![0, 4224] ![1024, 1408] inb_S1024x5632_S1024x1408_0_4224))

theorem pay_dh (hC : ∀ a b, C (ix2 a b) = (c a b : EReal)) (hA : ∀ a b, A (ix2 a b) = (ga a b : EReal)) (hU : ∀ a b, U (ix2 a b) = (up a b : EReal))
    (hW : ∀ a b, W (ix2 a b) = (w a b : EReal)) (hD : ∀ a b, D (ix2 a b) = (d a b : EReal)) (a : Fin 256) (j : Fin 1024) :
    v108 C A U W D (ix2 a j) = (dh (c a) d w (ga a) (up a) j : EReal) := by
  pointwise [k0_pay1, k0_pay30, k0_pay20, k0_pay11]
  simp only [pay_g0 hC hA hU hD, pay_g1 hC hA hU hD, pay_u0 hC hA hD, pay_u1 hC hA hD, hW, ← EReal.coe_mul, ← EReal.coe_add, sum_coe]
  rw [dh_cut]

/-- The input's gradient on the block. -/
theorem pay_dx (hC : ∀ a b, C (ix2 a b) = (c a b : EReal)) (hX : ∀ a b, X (ix2 a b) = (x a b : EReal)) (hG : ∀ b, G (ix2 0 b) = (g b : EReal))
    (hA : ∀ a b, A (ix2 a b) = (ga a b : EReal)) (hU : ∀ a b, U (ix2 a b) = (up a b : EReal))
    (hW : ∀ a b, W (ix2 a b) = (w a b : EReal)) (hD : ∀ a b, D (ix2 a b) = (d a b : EReal)) (a : Fin 256) (j : Fin 1024) :
    k0_pay2 (k0_pay5 C) (k0_pay8 X) (k0_pay9 X) G (k0_pay29 (k0_pay6 C) (k0_pay21 (hi A)) (dhi D)) (v104 C A U W D)
      (View.ld W (Rect.unit ![0, 4224] ![1024, 1408] inb_S1024x5632_S1024x1408_0_4224)) (ix2 a j)
      = ((c a j + rmsGrad (x a) (fun j => dh (c a) d w (ga a) (up a) j * g j) j : ℝ) : EReal) := by
  pointwise [k0_pay2, k0_pay5]
  simp only [pay_r hX, pay_n hX, hC, hG, pay_dh hC hA hU hW hD]
  rw [w1024]
  simp only [← EReal.coe_mul, sum_coe, ← EReal.coe_sub, ← EReal.coe_add, div_coe _ (show (1024 : ℝ) ≠ 0 by norm_num)]
  rfl

/-- The block's part of the scale's gradient. -/
theorem pay_dg {Z : Vec Ideal S1x1024 .f32} (hC : ∀ a b, C (ix2 a b) = (c a b : EReal)) (hX : ∀ a b, X (ix2 a b) = (x a b : EReal))
    (hA : ∀ a b, A (ix2 a b) = (ga a b : EReal)) (hU : ∀ a b, U (ix2 a b) = (up a b : EReal))
    (hW : ∀ a b, W (ix2 a b) = (w a b : EReal)) (hD : ∀ a b, D (ix2 a b) = (d a b : EReal)) (j : Fin 1024) :
    k0_pay3 (k0_pay9 X) (k0_pay29 (k0_pay6 C) (k0_pay21 (hi A)) (dhi D)) (v104 C A U W D)
      (View.ld W (Rect.unit ![0, 4224] ![1024, 1408] inb_S1024x5632_S1024x1408_0_4224)) Z (ix2 0 j)
      = Z (ix2 0 j) + ((∑ a, dh (c a) d w (ga a) (up a) j * (x a j * rinv (x a)) : ℝ) : EReal) := by
  pointwise [k0_pay3]
  simp only [pay_n hX, pay_dh hC hA hU hW hD, ← EReal.coe_mul, sum_coe]

end Block

variable (m : (ℓ : Loc nD τ sig) → Buf (Elt Ideal) ℓ)

/-- The windows' index maps over the sixteen points. -/
theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![0, 0] ∧ win0_6.index t = ![0, 0] ∧ win0_7.index t = ![t.val, 0] ∧ win0_8.index t = ![0, 0]
    ∧ win0_9.index t = ![t.val, 0] ∧ win0_10.index t = ![t.val, 0] ∧ win0_11.index t = ![t.val, 0] ∧ win0_12.index t = ![t.val, 0] :=
  (by decide +kernel : ∀ t : Fin grid0.N, _)

/-- Row `a` of point `t`'s block. -/
abbrev row (t : Fin cfg0.N) (a : Fin 256) : Fin 4096 := ⟨t.val * 256 + a.val, by have := t.isLt; have := a.isLt; have : cfg0.N = 16 := rfl; omega⟩

/-- The arguments are the coercions of these reals. -/
structure Args (a0 : Vec Ideal S1x4096x1024 .f32) (a1 : Vec Ideal S1x1024 .f32) (a2 : Vec Ideal S1x1024x5632 .f32)
    (a3 : Vec Ideal S1x2816x1024 .f32) (a4 : Vec Ideal S1x4096x1024 .f32) (x : Fin 4096 → Fin 1024 → ℝ) (g : Fin 1024 → ℝ)
    (w : Fin 1024 → Fin 5632 → ℝ) (d : Fin 2816 → Fin 1024 → ℝ) (r : Fin 4096 → Fin 1024 → ℝ) : Prop where
  h0 : ∀ i j, a0 (ix3 0 i j) = (x i j : EReal)
  h1 : ∀ j, a1 (ix2 0 j) = (g j : EReal)
  h2 : ∀ i j, a2 (ix3 0 i j) = (w i j : EReal)
  h3 : ∀ i j, a3 (ix3 0 i j) = (d i j : EReal)
  h4 : ∀ i j, a4 (ix3 0 i j) = (r i j : EReal)

section Spec
variable (x : Fin 4096 → Fin 1024 → ℝ) (g : Fin 1024 → ℝ) (w : Fin 1024 → Fin 5632 → ℝ) (d : Fin 2816 → Fin 1024 → ℝ) (r : Fin 4096 → Fin 1024 → ℝ)

/-- The gate of row `i`. -/
def gate (i : Fin 4096) (k : Fin 2816) : ℝ := pre (x i) g w (gateCol k)
/-- The value of row `i`. -/
def upv (i : Fin 4096) (k : Fin 2816) : ℝ := pre (x i) g w (upCol k)
/-- The cotangent of row `i`'s joint projection. -/
def Dpre (i : Fin 4096) (k : Fin 5632) : ℝ := dpre (r i) d (gate x g w i) (upv x g w i) k
/-- The cotangent of the normalised row `i`. -/
def Dh (i : Fin 4096) (j : Fin 1024) : ℝ := dh (r i) d w (gate x g w i) (upv x g w i) j
/-- The input's gradient. -/
def Dx (i : Fin 4096) (j : Fin 1024) : ℝ := r i j + rmsGrad (x i) (fun j => Dh x g w d r i j * g j) j
/-- The scale's gradient. -/
def Dg (j : Fin 1024) : ℝ := ∑ i, Dh x g w d r i j * (x i j * rinv (x i))

theorem Dpre_gate (i : Fin 4096) (k : Fin 5632) (k' : Fin 2816) (h : k.val = k'.val) :
    Dpre x g w d r i k = dgate (r i) d (gate x g w i) (upv x g w i) k' := by
  obtain rfl : k = ⟨k'.val, by clear h; omega⟩ := Fin.ext h
  exact dif_pos k'.isLt

theorem Dpre_up (i : Fin 4096) (k : Fin 5632) (k' : Fin 2816) (h : k.val = 2816 + k'.val) :
    Dpre x g w d r i k = dup (r i) d (gate x g w i) k' := by
  obtain rfl : k = ⟨2816 + k'.val, by clear h; omega⟩ := Fin.ext h
  exact dpre_up _ _ _ _ _ _

end Spec

section Point
variable (c : Dev nD)

theorem blk0 (t : Fin cfg0.N) (a : Fin 256) (b : Fin 1024) :
    iblk m c 0 t (ix2 a b) = m ((c : Thread nD τ).loc main_arg4) (ix3 0 (row t a) b) := by
  blk_point [iblk, V, idx t]

theorem blk1 (t : Fin cfg0.N) (a : Fin 256) (b : Fin 1024) :
    iblk m c 1 t (ix2 a b) = m ((c : Thread nD τ).loc main_arg0) (ix3 0 (row t a) b) := by
  blk_point [iblk, V, idx t]

theorem blk2 (t : Fin cfg0.N) (b : Fin 1024) :
    iblk m c 2 t (ix2 0 b) = m ((c : Thread nD τ).loc main_arg1) (ix2 0 b) := by
  blk_point [iblk, V, idx t]

theorem blk5 (t : Fin cfg0.N) (a : Fin 1024) (b : Fin 5632) :
    iblk m c 5 t (ix2 a b) = m ((c : Thread nD τ).loc main_arg2) (ix3 0 a b) := by
  blk_point [iblk, V, idx t]

theorem blk6 (t : Fin cfg0.N) (a : Fin 2816) (b : Fin 1024) :
    iblk m c 6 t (ix2 a b) = m ((c : Thread nD τ).loc main_arg3) (ix3 0 a b) := by
  blk_point [iblk, V, idx t]

end Point

section Out
variable (c : Dev nD) {x : Fin 4096 → Fin 1024 → ℝ} {g : Fin 1024 → ℝ} {w : Fin 1024 → Fin 5632 → ℝ} {d : Fin 2816 → Fin 1024 → ℝ}
  {r : Fin 4096 → Fin 1024 → ℝ}
  (H : Args (m ((c : Thread nD τ).loc main_arg0)) (m ((c : Thread nD τ).loc main_arg1)) (m ((c : Thread nD τ).loc main_arg2))
    (m ((c : Thread nD τ).loc main_arg3)) (m ((c : Thread nD τ).loc main_arg4)) x g w d r)
include H

/-- The saved gate. -/
theorem saved_gate (i : Fin 4096) (k : Fin 2816) : (V m c main_v21 : Vec Ideal S4096x2816 .bf16) (ix2 i k) = (gate x g w i k : EReal) := by
  entry_read
  pointwise
  simp only [H.h0, H.h1, H.h2, ← EReal.coe_mul, sum_coe]
  rw [w1024, weps, div_coe _ (by norm_num), ← EReal.coe_add, rsqrt_ms]
  simp only [← EReal.coe_mul, sum_coe]
  rfl

/-- The block of the saved gate. -/
theorem blk3 (t : Fin cfg0.N) (a : Fin 256) (k : Fin 2816) : iblk m c 3 t (ix2 a k) = (gate x g w (row t a) k : EReal) := by
  refine Eq.trans ?_ (saved_gate m c H (row t a) k)
  unfold iblk
  blk_simp [idx t]
  blk_ext [idx t]

/-- The saved value. -/
theorem saved_up (i : Fin 4096) (k : Fin 2816) : (V m c main_v22 : Vec Ideal S4096x2816 .bf16) (ix2 i k) = (upv x g w i k : EReal) := by
  entry_read
  pointwise
  simp only [H.h0, H.h1, H.h2, ← EReal.coe_mul, sum_coe]
  rw [w1024, weps, div_coe _ (by norm_num), ← EReal.coe_add, rsqrt_ms]
  simp only [← EReal.coe_mul, sum_coe]
  rfl

/-- The block of the saved value. -/
theorem blk4 (t : Fin cfg0.N) (a : Fin 256) (k : Fin 2816) : iblk m c 4 t (ix2 a k) = (upv x g w (row t a) k : EReal) := by
  refine Eq.trans ?_ (saved_up m c H (row t a) k)
  unfold iblk
  blk_simp [idx t]
  blk_ext [idx t]

theorem C0 (t : Fin cfg0.N) (a : Fin 256) (b : Fin 1024) : iblk m c 0 t (ix2 a b) = (r (row t a) b : EReal) := (blk0 m c t a b).trans (H.h4 _ _)
theorem C1 (t : Fin cfg0.N) (a : Fin 256) (b : Fin 1024) : iblk m c 1 t (ix2 a b) = (x (row t a) b : EReal) := (blk1 m c t a b).trans (H.h0 _ _)
theorem C2 (t : Fin cfg0.N) (b : Fin 1024) : iblk m c 2 t (ix2 0 b) = (g b : EReal) := (blk2 m c t b).trans (H.h1 _)
theorem C5 (t : Fin cfg0.N) (a : Fin 1024) (b : Fin 5632) : iblk m c 5 t (ix2 a b) = (w a b : EReal) := (blk5 m c t a b).trans (H.h2 _ _)
theorem C6 (t : Fin cfg0.N) (a : Fin 2816) (b : Fin 1024) : iblk m c 6 t (ix2 a b) = (d a b : EReal) := (blk6 m c t a b).trans (H.h3 _ _)

/-- What point `t` leaves in the input gradient's block. -/
theorem out7 (t : Fin cfg0.N) (a : Fin 256) (b : Fin 1024) :
    (outsAt0 m c t.val t.isLt).1 (ix2 a b) = (Dx x g w d r (row t a) b : EReal) := by
  have key := pay_dx (C0 m c H t) (C1 m c H t) (C2 m c H t) (blk3 m c H t) (blk4 m c H t) (C5 m c H t) (C6 m c H t) a b
  by_cases h0 : t.val % 16 = 0
  · rw [outsAt0_A m c t h0]; frame_out; exact key
  · rw [outsAt0_B m c t h0]; frame_out; exact key

/-- The addend of point `t` to the scale's gradient. -/
def dgPart (x : Fin 4096 → Fin 1024 → ℝ) (g : Fin 1024 → ℝ) (w : Fin 1024 → Fin 5632 → ℝ) (d : Fin 2816 → Fin 1024 → ℝ)
    (r : Fin 4096 → Fin 1024 → ℝ) (t : Fin cfg0.N) (j : Fin 1024) : ℝ :=
  ∑ a, Dh x g w d r (row t a) j * (x (row t a) j * rinv (x (row t a)))

/-- The scale's gradient after the last point: the points' addends in turn, from zero. -/
theorem out8 (t : Fin cfg0.N) (ht : t.val + 1 = cfg0.N) (b : Fin 1024) :
    (outsAt0 m c t.val t.isLt).2.1 (ix2 0 b) = (Dg x g w d r b : EReal) := by
  have key := fun (t : Fin cfg0.N) (A : Vec Ideal S1x1024 .f32) (b : Fin 1024) =>
    pay_dg (Z := A) (C0 m c H t) (C1 m c H t) (blk3 m c H t) (blk4 m c H t) (C5 m c H t) (C6 m c H t) b
  have h := Pipeline.eq_sum_fin_of_reset_step_apply_last (fun n hn b => (outsAt0 m c n hn).2.1 (ix2 0 b)) 16 (fun _ => (0 : EReal))
    (fun t b => (dgPart x g w d r t b : EReal))
    (fun t h0 b => by
      show (outsAt0 m c t.val t.isLt).2.1 (ix2 0 b) = _
      rw [outsAt0_A m c t h0]; frame_out
      rw [key]
      pointwise [k0_pay4]
      rfl)
    (fun t h0 b => by
      show (outsAt0 m c t.val t.isLt).2.1 (ix2 0 b) = _
      rw [outsAt0_B m c t h0]; frame_out
      rw [key]
      rfl)
    (by decide) t ht b
  refine h.trans ?_
  rw [zero_add, sum_coe]
  refine congrArg _ ?_
  unfold Dg dgPart
  exact (Fin.sum_univ_tiles 16 256 rfl fun i : Fin 4096 => Dh x g w d r i b * (x i b * rinv (x i))).symm

/-- What point `t` leaves in the joint projection's cotangent block: four stores. -/
theorem out9 (t : Fin cfg0.N) (a : Fin 256) (k : Fin 5632) :
    (outsAt0 m c t.val t.isLt).2.2.1 (ix2 a k) = (Dpre x g w d r (row t a) k : EReal) := by
  have hg0 := pay_g0 (C0 m c H t) (blk3 m c H t) (blk4 m c H t) (C6 m c H t)
  have hg1 := pay_g1 (C0 m c H t) (blk3 m c H t) (blk4 m c H t) (C6 m c H t)
  have hu0 := pay_u0 (C0 m c H t) (blk3 m c H t) (C6 m c H t)
  have hu1 := pay_u1 (C0 m c H t) (blk3 m c H t) (C6 m c H t)
  by_cases hz : t.val % 16 = 0
  on_goal 1 => rw [outsAt0_A m c t hz]
  on_goal 2 => rw [outsAt0_B m c t hz]
  all_goals
    frame_out
    canon_tiles y h
    all_goals
      idx_vars y
      obtain rfl : y0 = a := Fin.ext h0.symm
    · exact (hu1 _ _).trans (congrArg _ (Dpre_up x g w d r _ _ _ (h1.trans (by simp only; omega))).symm)
    · exact (hg1 _ _).trans (congrArg _ (Dpre_gate x g w d r _ _ _ h1).symm)
    · exact (hu0 _ _).trans (congrArg _ (Dpre_up x g w d r _ _ _ h1).symm)
    · exact (hg0 _ _).trans (congrArg _ (Dpre_gate x g w d r _ _ _ h1).symm)

/-- What point `t` leaves in the activation's block: two stores. -/
theorem out10 (t : Fin cfg0.N) (a : Fin 256) (k : Fin 2816) :
    (outsAt0 m c t.val t.isLt).2.2.2.1 (ix2 a k) = (act (gate x g w (row t a)) (upv x g w (row t a)) k : EReal) := by
  by_cases hz : t.val % 16 = 0
  on_goal 1 => rw [outsAt0_A m c t hz]
  on_goal 2 => rw [outsAt0_B m c t hz]
  all_goals
    frame_out
    canon_tiles y h
    all_goals
      idx_vars y
      obtain rfl : y0 = a := Fin.ext h0.symm
    · obtain rfl : k = ⟨1408 + y1.val, by clear h1; omega⟩ := Fin.ext h1
      exact pay_a1 (blk3 m c H t) (blk4 m c H t) _ _
    · obtain rfl : k = ⟨y1.val, by clear h1; omega⟩ := Fin.ext h1
      exact pay_a0 (blk3 m c H t) (blk4 m c H t) _ _

/-- What point `t` leaves in the normalised rows' block. -/
theorem out11 (t : Fin cfg0.N) (a : Fin 256) (b : Fin 1024) :
    (outsAt0 m c t.val t.isLt).2.2.2.2.1 (ix2 a b) = (rmsRow (x (row t a)) g b : EReal) := by
  have key := pay_h (C1 m c H t) (C2 m c H t) a b
  by_cases h0 : t.val % 16 = 0
  · rw [outsAt0_A m c t h0]; frame_out; exact key
  · rw [outsAt0_B m c t h0]; frame_out; exact key

/-- What point `t` leaves in the halved cotangent's block. -/
theorem out12 (t : Fin cfg0.N) (a : Fin 256) (b : Fin 1024) :
    (outsAt0 m c t.val t.isLt).2.2.2.2.2 (ix2 a b) = ((1 / 2 * r (row t a) b : ℝ) : EReal) := by
  have key := pay_y (C0 m c H t) a b
  by_cases h0 : t.val % 16 = 0
  · rw [outsAt0_A m c t h0]; frame_out; exact key
  · rw [outsAt0_B m c t h0]; frame_out; exact key

theorem arr7 : (dats m 0 c).arrAt 7 cfg0.N = fun i => (Dx x g w d r (i 0) (i 1) : EReal) := by
  refine (dats m 0 c).arrAt_eq_of_covers 7 _ (by decide +kernel) fun t _ y => ?_
  blk_simp
  rw [after0_7]
  idx_vars y
  rw [out7 m c H]
  exact congrArg _ (congrArg₂ _ (Fin.ext (by blk_simp [idx t])) (Fin.ext (by blk_simp [idx t])))

theorem arr9 : (dats m 0 c).arrAt 9 cfg0.N = fun i => (Dpre x g w d r (i 0) (i 1) : EReal) := by
  refine (dats m 0 c).arrAt_eq_of_covers 9 _ (by decide +kernel) fun t _ y => ?_
  blk_simp
  rw [after0_9]
  idx_vars y
  rw [out9 m c H]
  exact congrArg _ (congrArg₂ _ (Fin.ext (by blk_simp [idx t])) (Fin.ext (by blk_simp [idx t])))

theorem arr10 : (dats m 0 c).arrAt 10 cfg0.N = fun i => (act (gate x g w (i 0)) (upv x g w (i 0)) (i 1) : EReal) := by
  refine (dats m 0 c).arrAt_eq_of_covers 10 _ (by decide +kernel) fun t _ y => ?_
  blk_simp
  rw [after0_10]
  idx_vars y
  rw [out10 m c H]
  exact congrArg _ (congrArg₂ (fun i k => act (gate x g w i) (upv x g w i) k) (Fin.ext (by blk_simp [idx t])) (Fin.ext (by blk_simp [idx t])))

theorem arr11 : (dats m 0 c).arrAt 11 cfg0.N = fun i => (rmsRow (x (i 0)) g (i 1) : EReal) := by
  refine (dats m 0 c).arrAt_eq_of_covers 11 _ (by decide +kernel) fun t _ y => ?_
  blk_simp
  rw [after0_11]
  idx_vars y
  rw [out11 m c H]
  exact congrArg _ (congrArg₂ (fun i k => rmsRow (x i) g k) (Fin.ext (by blk_simp [idx t])) (Fin.ext (by blk_simp [idx t])))

theorem arr12 : (dats m 0 c).arrAt 12 cfg0.N = fun i => ((1 / 2 * r (i 0) (i 1) : ℝ) : EReal) := by
  refine (dats m 0 c).arrAt_eq_of_covers 12 _ (by decide +kernel) fun t _ y => ?_
  blk_simp
  rw [after0_12]
  idx_vars y
  rw [out12 m c H]
  exact congrArg _ (congrArg₂ (fun i k => 1 / 2 * r i k) (Fin.ext (by blk_simp [idx t])) (Fin.ext (by blk_simp [idx t])))

theorem arr8 : (dats m 0 c).arrAt 8 cfg0.N = fun i => (Dg x g w d r (i 1) : EReal) := by
  refine (dats m 0 c).arrAt_eq_of_after_last 8 t0_15 (by decide +kernel) _ fun j => ?_
  blk_simp
  rw [after0_8]
  idx_vars j
  obtain rfl : j0 = 0 := Subsingleton.elim _ _
  rw [out8 m c H _ rfl]

end Out

/-! ## The reference -/

section Reference
open Cert.ReferenceFfnIdeal Cert.ReferenceFfnIdeal.Read
variable {a0 : Vec Ideal Cert.KernelFfnIdeal.S1x4096x1024 .f32} {a1 : Vec Ideal Cert.KernelFfnIdeal.S1x1024 .f32} {a2 : Vec Ideal Cert.KernelFfnIdeal.S1x1024x5632 .f32}
  {a3 : Vec Ideal Cert.KernelFfnIdeal.S1x2816x1024 .f32} {a4 : Vec Ideal Cert.KernelFfnIdeal.S1x4096x1024 .f32} {x : Fin 4096 → Fin 1024 → ℝ} {g : Fin 1024 → ℝ}
  {w : Fin 1024 → Fin 5632 → ℝ} {d : Fin 2816 → Fin 1024 → ℝ} {r : Fin 4096 → Fin 1024 → ℝ} (H : Args a0 a1 a2 a3 a4 x g w d r)
include H

theorem ref10 (i : Fin 4096) : val_main_v10 (F := Ideal) a0 (ix2 i 0) = (((∑ k, x i k * x i k) / 1024 + eps : ℝ) : EReal) := by
  pointwise [val_main_v10, val_main_v8, val_main_v9, val_main_v6, val_main_v7, val_main_cst_3, val_main_v5, val_main_cst_2, val_main_v4,
    val_main_cst_1, val_main_v1]
  simp only [H.h0, ← EReal.coe_mul, sum_coe]
  rw [w1024, weps, div_coe _ (by norm_num), ← EReal.coe_add]

theorem ref11 (i : Fin 4096) : val_main_v11 (F := Ideal) a0 (ix2 i 0) = (rinv (x i) : EReal) := by
  pointwise [val_main_v11]
  rw [ref10 H, rsqrt_ms]

theorem ref14 (i : Fin 4096) : val_main_v14 (F := Ideal) a0 (ix2 i 0)
    = ((-(1 / 2) * (rinv (x i) / ((∑ k, x i k * x i k) / 1024 + eps)) : ℝ) : EReal) := by
  pointwise [val_main_v14, val_main_v13, val_main_v12, val_main_cst_4]
  rw [ref10 H, ref11 H, wnhalf, div_coe _ (ms_pos _).ne', ← EReal.coe_mul]

theorem ref16 (i : Fin 4096) (j : Fin 1024) : val_main_v16 (F := Ideal) a0 (ix2 i j) = ((x i j * rinv (x i) : ℝ) : EReal) := by
  pointwise [val_main_v16, val_main_v1, val_main_v15]
  rw [ref11 H, H.h0, ← EReal.coe_mul]

theorem ref19 (i : Fin 4096) (j : Fin 1024) : val_main_v19 (F := Ideal) a0 a1 (ix2 i j) = (rmsRow (x i) g j : EReal) := by
  pointwise [val_main_v19, val_main_v18, val_main_v17, val_main_v3]
  rw [ref16 H, H.h1, ← EReal.coe_mul, rmsRow]

theorem ref22 (i : Fin 4096) (k : Fin 5632) : val_main_v22 (F := Ideal) a0 a1 a2 (ix2 i k) = (pre (x i) g w k : EReal) := by
  pointwise [val_main_v22, val_main_v21, val_main_v0, val_main_v20, val_main_cst]
  simp only [ref19 H, H.h2, ← EReal.coe_mul, sum_coe, add_zero]
  rfl

theorem ref23 (i : Fin 4096) (k : Fin 2816) : val_main_v23 (F := Ideal) a0 a1 a2 (ix2 i k) = (gate x g w i k : EReal) := by
  pointwise [val_main_v23]
  exact ref22 H _ _

theorem ref24 (i : Fin 4096) (k : Fin 2816) : val_main_v24 (F := Ideal) a0 a1 a2 (ix2 i k) = (upv x g w i k : EReal) := by
  pointwise [val_main_v24]
  exact ref22 H _ _

theorem ref25_2 (i : Fin 4096) (k : Fin 2816) : val_main_v25_2 (F := Ideal) a0 a1 a2 (ix2 i k) = (sg (gate x g w i k) : EReal) := by
  pointwise [val_main_v25_2, val_main_call0_v4, val_main_call0_v3, val_main_call0_cst_0, val_main_call0_v2, val_main_call0_v1, val_main_call0_cst,
    val_main_call0_v0]
  rw [ref23 H, ← EReal.coe_one, sg_host]

theorem ref25_0 (i : Fin 4096) (k : Fin 2816) : val_main_v25_0 (F := Ideal) a0 a1 a2 (ix2 i k) = ((gate x g w i k * sg (gate x g w i k) : ℝ) : EReal) := by
  pointwise [val_main_v25_0]
  rw [ref23 H, ref25_2 H, ← EReal.coe_mul]

theorem ref25_1 (i : Fin 4096) (k : Fin 2816) : val_main_v25_1 (F := Ideal) a0 a1 a2 (ix2 i k)
    = ((sg (gate x g w i k) * (1 - sg (gate x g w i k)) : ℝ) : EReal) := by
  pointwise [val_main_v25_1, val_main_call0_v7, val_main_call0_v6, val_main_call0_cst_1]
  rw [ref25_2 H, ← EReal.coe_one, ← EReal.coe_sub, ← EReal.coe_mul]

theorem ref26 (i : Fin 4096) (k : Fin 2816) : val_main_v26 (F := Ideal) a0 a1 a2 (ix2 i k) = (act (gate x g w i) (upv x g w i) k : EReal) := by
  pointwise [val_main_v26]
  rw [ref25_0 H, ref24 H, ← EReal.coe_mul, act]

theorem ref35 (i : Fin 4096) (j : Fin 1024) : val_main_v35 (F := Ideal) a4 (ix2 i j) = ((1 / 2 * r i j : ℝ) : EReal) := by
  pointwise [val_main_v35, val_main_v34, val_main_v33, val_main_cst_6]
  rw [H.h4, whalf, ← EReal.coe_mul]

theorem ref36 (i : Fin 4096) (k : Fin 2816) : val_main_v36 (F := Ideal) a3 a4 (ix2 i k) = (da (r i) d k : EReal) := by
  pointwise [val_main_v36, val_main_v27]
  simp only [ref35 H, H.h3, ← EReal.coe_mul, sum_coe]
  rfl

theorem ref37 (i : Fin 4096) (k : Fin 2816) : val_main_v37 (F := Ideal) a0 a1 a2 a3 a4 (ix2 i k) = (dup (r i) d (gate x g w i) k : EReal) := by
  pointwise [val_main_v37]
  rw [ref25_0 H, ref36 H, ← EReal.coe_mul, dup, mul_comm]

theorem ref39 (i : Fin 4096) (k : Fin 2816) : val_main_v39 (F := Ideal) a0 a1 a2 a3 a4 (ix2 i k)
    = (dgate (r i) d (gate x g w i) (upv x g w i) k : EReal) := by
  pointwise [val_main_v39, val_main_call1_v1, val_main_call1_v2, val_main_v38, val_main_call1_v0]
  rw [ref23 H, ref24 H, ref36 H, ref25_1 H, ref25_2 H]
  simp only [← EReal.coe_mul, ← EReal.coe_add]
  exact congrArg _ (by unfold dgate; ring)

theorem ref40 (i : Fin 4096) (k : Fin 5632) : val_main_v40 (F := Ideal) a0 a1 a2 a3 a4 (ix2 i k) = (Dpre x g w d r i k : EReal) := by
  unfold Dpre dpre
  pointwise [val_main_v40]
  split_ifs with h
  · exact ref39 H _ _
  all_goals exact ref37 H _ _

theorem ref41 (i : Fin 4096) (j : Fin 1024) : val_main_v41 (F := Ideal) a0 a1 a2 a3 a4 (ix2 i j) = (Dh x g w d r i j : EReal) := by
  pointwise [val_main_v41, val_main_v20]
  simp only [ref40 H, H.h2, ← EReal.coe_mul, sum_coe]
  rfl

theorem ref46 (i : Fin 4096) (j : Fin 1024) : val_main_v46 (F := Ideal) a0 a1 a2 a3 a4 (ix2 i j) = ((Dh x g w d r i j * g j : ℝ) : EReal) := by
  pointwise [val_main_v46, val_main_v45, val_main_v17, val_main_v3]
  rw [ref41 H, H.h1, ← EReal.coe_mul]

theorem ref63 (j : Fin 1024) : val_main_v63 (F := Ideal) a0 a1 a2 a3 a4 (ix2 0 j) = (Dg x g w d r j : EReal) := by
  pointwise [val_main_v63, val_main_v47, val_main_v44, val_main_cst_8, val_main_v43, val_main_v42, val_main_cst_7]
  simp only [ref41 H, ref16 H, ← EReal.coe_mul, sum_coe]
  rw [Fin.sum_univ_one]
  exact congrArg _ (Finset.sum_congr rfl fun i _ => mul_comm _ _)

theorem ref57 (i : Fin 4096) : val_main_v57 (F := Ideal) a0 a1 a2 a3 a4 (ix1 i)
    = (((∑ k, x i k * (Dh x g w d r i k * g k)) * (-(1 / 2) * (rinv (x i) / ((∑ k, x i k * x i k) / 1024 + eps))) / 1024 : ℝ) : EReal) := by
  pointwise [val_main_v57, val_main_v56, val_main_cst_11, val_main_v54, val_main_v55, val_main_v50, val_main_cst_10, val_main_v49, val_main_v48,
    val_main_cst_9, val_main_v1]
  rw [Fin.sum_univ_one]
  simp only [ref46 H, ref14 H, H.h0, ← EReal.coe_mul, sum_coe]
  rw [w1024, div_coe _ (by norm_num)]

theorem ref62 (i : Fin 4096) (j : Fin 1024) : val_main_v62 (F := Ideal) a0 a1 a2 a3 a4 (ix2 i j) = (Dx x g w d r i j : EReal) := by
  pointwise [val_main_v62, val_main_v60, val_main_v61, val_main_v53, val_main_v59, val_main_v58, val_main_v1, val_main_v33, val_main_v52, val_main_v51]
  rw [ref57 H, ref46 H, ref11 H, H.h0, H.h4]
  simp only [← EReal.coe_mul, ← EReal.coe_add]
  rw [Dx, ← rmsGrad_eq]
  exact congrArg _ (by ring)

theorem ref64 (i : Fin 4096) (k : Fin 5632) : val_main_v64 (F := Ideal) a0 a1 a2 a3 a4 (ix2 i k) = (Dpre x g w d r i k : EReal) := by
  pointwise [val_main_v64]
  exact ref40 H _ _

theorem ref65 (i : Fin 4096) (k : Fin 2816) : val_main_v65 (F := Ideal) a0 a1 a2 (ix2 i k) = (act (gate x g w i) (upv x g w i) k : EReal) := by
  pointwise [val_main_v65]
  exact ref26 H _ _

theorem ref66 (i : Fin 4096) (j : Fin 1024) : val_main_v66 (F := Ideal) a0 a1 (ix2 i j) = (rmsRow (x i) g j : EReal) := by
  pointwise [val_main_v66]
  exact ref19 H _ _

theorem ref67 (i : Fin 4096) (j : Fin 1024) : val_main_v67 (F := Ideal) a4 (ix2 i j) = ((1 / 2 * r i j : ℝ) : EReal) := by
  pointwise [val_main_v67]
  exact ref35 H _ _

end Reference

/-! ## The claim -/

/-- The precondition makes the arguments coercions of reals. -/
theorem args_of_pre (a0 : Vec Ideal S1x4096x1024 .f32) (a1 : Vec Ideal S1x1024 .f32) (a2 : Vec Ideal S1x1024x5632 .f32)
    (a3 : Vec Ideal S1x2816x1024 .f32) (a4 : Vec Ideal S1x4096x1024 .f32) [Cert.Pre_finite_ffn.Facts]
    (h : (Cert.Pre_finite_ffn.fn (F := Ideal) a0 a1 a2 a3 a4).1 = (fun _ => 1#1)
      ∧ (Cert.Pre_finite_ffn.fn (F := Ideal) a0 a1 a2 a3 a4).2.1 = (fun _ => 1#1)
      ∧ (Cert.Pre_finite_ffn.fn (F := Ideal) a0 a1 a2 a3 a4).2.2.1 = (fun _ => 1#1)
      ∧ (Cert.Pre_finite_ffn.fn (F := Ideal) a0 a1 a2 a3 a4).2.2.2.1 = (fun _ => 1#1)
      ∧ (Cert.Pre_finite_ffn.fn (F := Ideal) a0 a1 a2 a3 a4).2.2.2.2 = (fun _ => 1#1)) :
    Args a0 a1 a2 a3 a4 (fun i j => (a0 (ix3 0 i j)).toReal) (fun j => (a1 (ix2 0 j)).toReal) (fun i j => (a2 (ix3 0 i j)).toReal)
      (fun i j => (a3 (ix3 0 i j)).toReal) (fun i j => (a4 (ix3 0 i j)).toReal) :=
  ⟨fun i j => real_of_abs (congrFun h.1 (ix3 0 i j)), fun j => real_of_abs (congrFun h.2.1 (ix2 0 j)),
    fun i j => real_of_abs (congrFun h.2.2.1 (ix3 0 i j)), fun i j => real_of_abs (congrFun h.2.2.2.1 (ix3 0 i j)),
    fun i j => real_of_abs (congrFun h.2.2.2.2 (ix3 0 i j))⟩

set_option maxHeartbeats 1000000 in
/-- The gradient call of the feed-forward sublayer returns what differentiation of the forward lines returns. -/
theorem value [Cert.Pre_finite_ffn.Facts] : Cert.algebraic_KernelFfnIdeal_ReferenceFfnIdeal_pre_finite_ffn := by
  intro m g m' g' hpre hagree
  have H := fun c => args_of_pre _ _ _ _ _ (hpre c)
  refine ⟨_, _, _, _, _, _, Value.run_blocks m g, ?_⟩
  refine (θ_run _ _ _).mono (fun s h c => ?_) (Cert.ReferenceFfnIdeal.Value.run m' g')
  obtain ⟨e0, e1, e2, e3, e4⟩ := hagree c
  obtain ⟨h0, h1, h2, h3, h4, h5, hr⟩ := h c
  refine ⟨h0.trans ?_, h1.trans ?_, h2.trans ?_, h3.trans ?_, h4.trans ?_, h5.trans ?_, hr⟩
  · rw [Cert.ReferenceFfnIdeal.Read.val_main_v62_eq, e0, e1, e2, e3, e4, arr7 m c (H c)]
    funext i
    idx_vars i
    exact ref62 (H c) _ _
  · rw [Cert.ReferenceFfnIdeal.Read.val_main_v63_eq, e0, e1, e2, e3, e4, arr8 m c (H c)]
    funext i
    idx_vars i
    obtain rfl : i0 = 0 := Subsingleton.elim _ _
    exact ref63 (H c) _
  · rw [Cert.ReferenceFfnIdeal.Read.val_main_v64_eq, e0, e1, e2, e3, e4, arr9 m c (H c)]
    funext i
    idx_vars i
    exact ref64 (H c) _ _
  · rw [Cert.ReferenceFfnIdeal.Read.val_main_v65_eq, e0, e1, e2, arr10 m c (H c)]
    funext i
    idx_vars i
    exact ref65 (H c) _ _
  · rw [Cert.ReferenceFfnIdeal.Read.val_main_v66_eq, e0, e1, arr11 m c (H c)]
    funext i
    idx_vars i
    exact ref66 (H c) _ _
  · rw [Cert.ReferenceFfnIdeal.Read.val_main_v67_eq, e4, arr12 m c (H c)]
    funext i
    idx_vars i
    exact ref67 (H c) _ _

end Cert.Ffn
end
-- ==== Proof.XattnA.lean ====
/- The gradient of the cross-attention to the memory (`xattn_bwd`): the gradient over the reals, and what the kernel's payloads are on real blocks. -/
module

public import proofs.«01_k».proof.Defs
public import proofs.«01_k».proof.Proof.Lift
public import proofs.«01_k».proof.Proof.Gen.KernelXattnIdeal.Frame

@[expose] public section

set_option maxRecDepth 16384

noncomputable section

open Idealize.ShloMosaic Idealize.ShloMosaic.TcCoe Idealize.SL.Sem
open Idealize.ShloMosaic.Pipeline (Dat)
open Cert.Lift

namespace Cert.Xattn
open Cert.KernelXattnIdeal Cert.KernelXattnIdeal.Gen

/-! ## One query row's gradient over the reals -/

section Head
variable (q o : Fin 256 → ℝ) (k v : Fin 256 → Fin 256 → ℝ)

/-- The scaled product of the query row and a memory row. -/
def lg (s : Fin 256) : ℝ := (∑ e, q e * k s e) * (1 / 16)

/-- The cotangent of the attention weights. -/
def dpr (s : Fin 256) : ℝ := ∑ e, o e * v s e

/-- The cotangent of the scaled product, times its scale. -/
def dsr (s : Fin 256) : ℝ := soft (lg q k) s * (dpr o v s - ∑ s, soft (lg q k) s * dpr o v s) * (1 / 16)

/-- The cotangent of the query. -/
def dqr (e : Fin 256) : ℝ := ∑ s, dsr q o k v s * k s e

end Head

/-- Column `e` of head `h`. -/
abbrev hc (h : Fin 4) (e : Fin 256) : Fin 1024 := ⟨h.val * 256 + e.val, by omega⟩
/-- Column `e` of head `h`'s keys in the joint projection of the memory. -/
abbrev kc (h : Fin 4) (e : Fin 256) : Fin 2048 := ⟨h.val * 256 + e.val, by omega⟩
/-- Column `e` of head `h`'s values in the joint projection of the memory. -/
abbrev vc (h : Fin 4) (e : Fin 256) : Fin 2048 := ⟨1024 + (h.val * 256 + e.val), by omega⟩
/-- The head of a column. -/
abbrev hd (k : ℕ) (hk : k < 1024) : Fin 4 := ⟨k / 256, by omega⟩
/-- A column's place in its head. -/
abbrev he (k : ℕ) : Fin 256 := ⟨k % 256, by omega⟩

section Row
variable (q o : Fin 1024 → ℝ) (kv : Fin 256 → Fin 2048 → ℝ)

/-- A head's attention weights. -/
def Hp (h : Fin 4) (s : Fin 256) : ℝ := soft (lg (fun e => q (hc h e)) (fun s e => kv s (kc h e))) s
/-- A head's cotangent of the scaled product, times its scale. -/
def Hds (h : Fin 4) (s : Fin 256) : ℝ := dsr (fun e => q (hc h e)) (fun e => o (hc h e)) (fun s e => kv s (kc h e)) (fun s e => kv s (vc h e)) s
/-- The cotangent of the query row. -/
def Dq (k : Fin 1024) : ℝ := ∑ s, Hds q o kv (hd k.val k.isLt) s * kv s (kc (hd k.val k.isLt) (he k.val))
/-- The row's part of the cotangent of the memory's joint projection: keys first, then values. -/
def Tkv (s : Fin 256) (k : Fin 2048) : ℝ :=
  if h : k.val < 1024 then Hds q o kv (hd k.val h) s * q ⟨k.val, h⟩
  else Hp q kv (hd (k.val - 1024) (by omega)) s * o ⟨k.val - 1024, by omega⟩

theorem Dq_at (h : Fin 4) (e : Fin 256) (k : Fin 1024) (hk : k.val = h.val * 256 + e.val) :
    Dq q o kv k = dqr (fun e => q (hc h e)) (fun e => o (hc h e)) (fun s e => kv s (kc h e)) (fun s e => kv s (vc h e)) e := by
  have h1 : hd k.val k.isLt = h := Fin.ext (by simp only; omega)
  have h2 : he k.val = e := Fin.ext (by simp only; omega)
  unfold Dq
  rw [h1, h2]
  rfl

theorem Tkv_k (s : Fin 256) (h : Fin 4) (e : Fin 256) (k : Fin 2048) (hk : k.val = h.val * 256 + e.val) :
    Tkv q o kv s k = Hds q o kv h s * q (hc h e) := by
  have h0 : k.val < 1024 := by omega
  have h1 : hd k.val h0 = h := Fin.ext (by simp only; omega)
  have h2 : (⟨k.val, h0⟩ : Fin 1024) = hc h e := Fin.ext hk
  unfold Tkv
  rw [dif_pos h0, h1, h2]

theorem Tkv_v (s : Fin 256) (h : Fin 4) (e : Fin 256) (k : Fin 2048) (hk : k.val = 1024 + (h.val * 256 + e.val)) :
    Tkv q o kv s k = Hp q kv h s * o (hc h e) := by
  have h0 : ¬ k.val < 1024 := by omega
  have h1 : hd (k.val - 1024) (by omega) = h := Fin.ext (by simp only; omega)
  have h2 : (⟨k.val - 1024, by omega⟩ : Fin 1024) = hc h e := Fin.ext (by simp only; omega)
  unfold Tkv
  rw [dif_neg h0, h1, h2]

end Row

/-! ## One head's payloads on a block -/

section Block
variable {Q K V O : Vec Ideal S256x256 .bf16} {q k v o : Fin 256 → Fin 256 → ℝ}

/-- The attention weights of a head. -/
theorem pay_p (hQ : ∀ a b, Q (ix2 a b) = (q a b : EReal)) (hK : ∀ a b, K (ix2 a b) = (k a b : EReal)) (a s : Fin 256) :
    k0_pay26 (k0_pay25 Q K) (ix2 a s) = (soft (lg (q a) k) s : EReal) := by
  pointwise [k0_pay26, k0_pay25, k0_pay21, k0_pay22]
  rw [wninf, w16th]
  simp only [hQ, hK, ← EReal.coe_mul, sum_coe, ← EReal.coe_one]
  exact soft_kernel (lg (q a) k) s

/-- The cotangent of a head's scaled product. -/
theorem pay_ds (hQ : ∀ a b, Q (ix2 a b) = (q a b : EReal)) (hK : ∀ a b, K (ix2 a b) = (k a b : EReal))
    (hV : ∀ a b, V (ix2 a b) = (v a b : EReal)) (hO : ∀ a b, O (ix2 a b) = (o a b : EReal)) (a s : Fin 256) :
    k0_pay27 (k0_pay23 V) O (k0_pay25 Q K) (ix2 a s) = (dsr (q a) (o a) k v s : EReal) := by
  pointwise [k0_pay27, k0_pay23]
  simp only [pay_p hQ hK, hV, hO, ← EReal.coe_mul, sum_coe, w16th, ← EReal.coe_sub]
  rfl

/-- The cotangent of a head's queries. -/
theorem pay_dq (hQ : ∀ a b, Q (ix2 a b) = (q a b : EReal)) (hK : ∀ a b, K (ix2 a b) = (k a b : EReal))
    (hV : ∀ a b, V (ix2 a b) = (v a b : EReal)) (hO : ∀ a b, O (ix2 a b) = (o a b : EReal)) (a e : Fin 256) :
    k0_pay28 (k0_pay22 K) (k0_pay23 V) O (k0_pay25 Q K) (ix2 a e) = (dqr (q a) (o a) k v e : EReal) := by
  pointwise [k0_pay28, k0_pay22]
  simp only [pay_ds hQ hK hV hO, hK, ← EReal.coe_mul, sum_coe]
  rfl

/-- The block's part of the cotangent of a head's keys. -/
theorem pay_dk {Z : Vec Ideal S256x256 .f32} (hQ : ∀ a b, Q (ix2 a b) = (q a b : EReal)) (hK : ∀ a b, K (ix2 a b) = (k a b : EReal))
    (hV : ∀ a b, V (ix2 a b) = (v a b : EReal)) (hO : ∀ a b, O (ix2 a b) = (o a b : EReal)) (s e : Fin 256) :
    k0_pay29 (k0_pay21 Q) (k0_pay23 V) O (k0_pay25 Q K) Z (ix2 s e) = Z (ix2 s e) + ((∑ a, dsr (q a) (o a) k v s * q a e : ℝ) : EReal) := by
  pointwise [k0_pay29, k0_pay21]
  simp only [pay_ds hQ hK hV hO, hQ, ← EReal.coe_mul, sum_coe]

/-- The block's part of the cotangent of a head's values. -/
theorem pay_dv {Z : Vec Ideal S256x256 .f32} (hQ : ∀ a b, Q (ix2 a b) = (q a b : EReal)) (hK : ∀ a b, K (ix2 a b) = (k a b : EReal))
    (hO : ∀ a b, O (ix2 a b) = (o a b : EReal)) (s e : Fin 256) :
    k0_pay30 O (k0_pay25 Q K) Z (ix2 s e) = Z (ix2 s e) + ((∑ a, soft (lg (q a) k) s * o a e : ℝ) : EReal) := by
  pointwise [k0_pay30]
  simp only [pay_p hQ hK, hO, ← EReal.coe_mul, sum_coe]

end Block

/-! ## The four heads of a block -/

section Wide
variable {C X : Vec Ideal S256x1024 .f32} {G : Vec Ideal S1x1024 .f32} {Wo Wq : Vec Ideal S1024x1024 .bf16} {Q : Vec Ideal S256x1024 .bf16}
  {KV : Vec Ideal S256x2048 .bf16}
  {c x q : Fin 256 → Fin 1024 → ℝ} {g : Fin 1024 → ℝ} {wo wq : Fin 1024 → Fin 1024 → ℝ} {kv : Fin 256 → Fin 2048 → ℝ}

/-- The cotangent of the attention's output. -/
def dor (c : Fin 1024 → ℝ) (wo : Fin 1024 → Fin 1024 → ℝ) (k : Fin 1024) : ℝ := ∑ j, c j * wo k j

theorem pay_o (hC : ∀ a b, C (ix2 a b) = (c a b : EReal)) (hW : ∀ a b, Wo (ix2 a b) = (wo a b : EReal)) (a : Fin 256) (k : Fin 1024) :
    k0_pay10 C Wo (ix2 a k) = (dor (c a) wo k : EReal) := by
  pointwise [k0_pay10, k0_pay9, k0_pay8]
  simp only [hC, hW, ← EReal.coe_mul, sum_coe]
  rfl

/-- The heads' columns of the queries, the keys and the values. -/
abbrev q0 (Q : Vec Ideal S256x1024 .bf16) : Vec Ideal S256x256 .bf16 := View.ld Q (Rect.unit ![0, 0] ![256, 256] inb_S256x1024_S256x256_0_0)
abbrev q1 (Q : Vec Ideal S256x1024 .bf16) : Vec Ideal S256x256 .bf16 := View.ld Q (Rect.unit ![0, 256] ![256, 256] inb_S256x1024_S256x256_0_256)
abbrev q2 (Q : Vec Ideal S256x1024 .bf16) : Vec Ideal S256x256 .bf16 := View.ld Q (Rect.unit ![0, 512] ![256, 256] inb_S256x1024_S256x256_0_512)
abbrev q3 (Q : Vec Ideal S256x1024 .bf16) : Vec Ideal S256x256 .bf16 := View.ld Q (Rect.unit ![0, 768] ![256, 256] inb_S256x1024_S256x256_0_768)
abbrev k0 (KV : Vec Ideal S256x2048 .bf16) : Vec Ideal S256x256 .bf16 := View.ld KV (Rect.unit ![0, 0] ![256, 256] inb_S256x2048_S256x256_0_0)
abbrev k1 (KV : Vec Ideal S256x2048 .bf16) : Vec Ideal S256x256 .bf16 := View.ld KV (Rect.unit ![0, 256] ![256, 256] inb_S256x2048_S256x256_0_256)
abbrev k2 (KV : Vec Ideal S256x2048 .bf16) : Vec Ideal S256x256 .bf16 := View.ld KV (Rect.unit ![0, 512] ![256, 256] inb_S256x2048_S256x256_0_512)
abbrev k3 (KV : Vec Ideal S256x2048 .bf16) : Vec Ideal S256x256 .bf16 := View.ld KV (Rect.unit ![0, 768] ![256, 256] inb_S256x2048_S256x256_0_768)
abbrev v0 (KV : Vec Ideal S256x2048 .bf16) : Vec Ideal S256x256 .bf16 := View.ld KV (Rect.unit ![0, 1024] ![256, 256] inb_S256x2048_S256x256_0_1024)
abbrev v1 (KV : Vec Ideal S256x2048 .bf16) : Vec Ideal S256x256 .bf16 := View.ld KV (Rect.unit ![0, 1280] ![256, 256] inb_S256x2048_S256x256_0_1280)
abbrev v2 (KV : Vec Ideal S256x2048 .bf16) : Vec Ideal S256x256 .bf16 := View.ld KV (Rect.unit ![0, 1536] ![256, 256] inb_S256x2048_S256x256_0_1536)
abbrev v3 (KV : Vec Ideal S256x2048 .bf16) : Vec Ideal S256x256 .bf16 := View.ld KV (Rect.unit ![0, 1792] ![256, 256] inb_S256x2048_S256x256_0_1792)

/-- What the four heads read of a block, over the reals. -/
structure Reads (C : Vec Ideal S256x1024 .f32) (Wo : Vec Ideal S1024x1024 .bf16) (Q : Vec Ideal S256x1024 .bf16) (KV : Vec Ideal S256x2048 .bf16)
    (o q : Fin 256 → Fin 1024 → ℝ) (kv : Fin 256 → Fin 2048 → ℝ) : Prop where
  hq0 : ∀ a e, q0 Q (ix2 a e) = (q a (hc 0 e) : EReal)
  hq1 : ∀ a e, q1 Q (ix2 a e) = (q a (hc 1 e) : EReal)
  hq2 : ∀ a e, q2 Q (ix2 a e) = (q a (hc 2 e) : EReal)
  hq3 : ∀ a e, q3 Q (ix2 a e) = (q a (hc 3 e) : EReal)
  hk0 : ∀ s e, k0 KV (ix2 s e) = (kv s (kc 0 e) : EReal)
  hk1 : ∀ s e, k1 KV (ix2 s e) = (kv s (kc 1 e) : EReal)
  hk2 : ∀ s e, k2 KV (ix2 s e) = (kv s (kc 2 e) : EReal)
  hk3 : ∀ s e, k3 KV (ix2 s e) = (kv s (kc 3 e) : EReal)
  hv0 : ∀ s e, v0 KV (ix2 s e) = (kv s (vc 0 e) : EReal)
  hv1 : ∀ s e, v1 KV (ix2 s e) = (kv s (vc 1 e) : EReal)
  hv2 : ∀ s e, v2 KV (ix2 s e) = (kv s (vc 2 e) : EReal)
  hv3 : ∀ s e, v3 KV (ix2 s e) = (kv s (vc 3 e) : EReal)
  ho0 : ∀ a e, k0_pay13 C Wo (ix2 a e) = (o a (hc 0 e) : EReal)
  ho1 : ∀ a e, k0_pay24 (k0_pay10 C Wo) (ix2 a e) = (o a (hc 1 e) : EReal)
  ho2 : ∀ a e, k0_pay34 (k0_pay10 C Wo) (ix2 a e) = (o a (hc 2 e) : EReal)
  ho3 : ∀ a e, k0_pay42 (k0_pay10 C Wo) (ix2 a e) = (o a (hc 3 e) : EReal)

theorem reads (hC : ∀ a b, C (ix2 a b) = (c a b : EReal)) (hW : ∀ a b, Wo (ix2 a b) = (wo a b : EReal))
    (hQ : ∀ a b, Q (ix2 a b) = (q a b : EReal)) (hKV : ∀ a b, KV (ix2 a b) = (kv a b : EReal)) :
    Reads C Wo Q KV (fun a => dor (c a) wo) q kv := by
  refine ⟨fun a e => ?_, fun a e => ?_, fun a e => ?_, fun a e => ?_, fun a e => ?_, fun a e => ?_, fun a e => ?_, fun a e => ?_,
    fun a e => ?_, fun a e => ?_, fun a e => ?_, fun a e => ?_, fun a e => ?_, fun a e => ?_, fun a e => ?_, fun a e => ?_⟩
  all_goals
    pointwise [q0, q1, q2, q3, k0, k1, k2, k3, v0, v1, v2, v3, k0_pay13, k0_pay24, k0_pay34, k0_pay42]
    simp only [pay_o hC hW, hQ, hKV]
    refine congrArg _ (congrArg _ (Fin.ext ?_))
    simp <;> omega

/-- The four heads' query cotangents. -/
abbrev dq0 (C : Vec Ideal S256x1024 .f32) (Wo : Vec Ideal S1024x1024 .bf16) (Q : Vec Ideal S256x1024 .bf16) (KV : Vec Ideal S256x2048 .bf16) : FVec Ideal S256x256 .f32 :=
  k0_pay18 (k0_pay12 (k0 KV)) (k0_pay14 (q0 Q) (k0 KV)) (k0_pay15 C Wo (v0 KV)) (k0_pay16 C Wo (q0 Q) (k0 KV) (v0 KV))
abbrev dq1 (C : Vec Ideal S256x1024 .f32) (Wo : Vec Ideal S1024x1024 .bf16) (Q : Vec Ideal S256x1024 .bf16) (KV : Vec Ideal S256x2048 .bf16) : FVec Ideal S256x256 .f32 :=
  k0_pay28 (k0_pay22 (k1 KV)) (k0_pay23 (v1 KV)) (k0_pay24 (k0_pay10 C Wo)) (k0_pay25 (q1 Q) (k1 KV))
abbrev dq2 (C : Vec Ideal S256x1024 .f32) (Wo : Vec Ideal S1024x1024 .bf16) (Q : Vec Ideal S256x1024 .bf16) (KV : Vec Ideal S256x2048 .bf16) : FVec Ideal S256x256 .f32 :=
  k0_pay37 (k0_pay31 (q2 Q)) (k0_pay32 (k2 KV)) (k0_pay33 (v2 KV)) (k0_pay34 (k0_pay10 C Wo))
abbrev dq3 (C : Vec Ideal S256x1024 .f32) (Wo : Vec Ideal S1024x1024 .bf16) (Q : Vec Ideal S256x1024 .bf16) (KV : Vec Ideal S256x2048 .bf16) : FVec Ideal S256x256 .f32 :=
  k0_pay45 (k0_pay10 C Wo) (q3 Q) (k3 KV) (v3 KV)

/-- The query cotangent that the call returns. -/
abbrev dqv (C : Vec Ideal S256x1024 .f32) (Wo : Vec Ideal S1024x1024 .bf16) (Q : Vec Ideal S256x1024 .bf16) (KV : Vec Ideal S256x2048 .bf16) : FVec Ideal S256x1024 .bf16 :=
  k0_pay48 (dq0 C Wo Q KV) (dq1 C Wo Q KV) (dq2 C Wo Q KV) (dq3 C Wo Q KV)

variable {o : Fin 256 → Fin 1024 → ℝ}

theorem wide_dq (R : Reads C Wo Q KV o q kv) (a : Fin 256) (k : Fin 1024) :
    dqv C Wo Q KV (ix2 a k) = (Dq (q a) (o a) kv k : EReal) := by
  have d0 (e : Fin 256) : dq0 C Wo Q KV (ix2 a e) = _ := pay_dq R.hq0 R.hk0 R.hv0 R.ho0 a e
  have d1 (e : Fin 256) : dq1 C Wo Q KV (ix2 a e) = _ := pay_dq R.hq1 R.hk1 R.hv1 R.ho1 a e
  have d2 (e : Fin 256) : dq2 C Wo Q KV (ix2 a e) = _ := pay_dq R.hq2 R.hk2 R.hv2 R.ho2 a e
  have d3 (e : Fin 256) : dq3 C Wo Q KV (ix2 a e) = _ := pay_dq R.hq3 R.hk3 R.hv3 R.ho3 a e
  pointwise [dqv, k0_pay48]
  by_cases h0 : k.val < 256
  · rw [dif_pos h0, d0, Dq_at (q a) (o a) kv 0 ⟨k.val, by omega⟩ k (by simp)]
  rw [dif_neg h0]
  by_cases h1 : k.val - 256 < 256
  · rw [dif_pos h1, d1, Dq_at (q a) (o a) kv 1 ⟨k.val - 256, by omega⟩ k (by simp; omega)]
  rw [dif_neg h1]
  by_cases h2 : k.val - 256 - 256 < 256
  · rw [dif_pos h2, d2, Dq_at (q a) (o a) kv 2 ⟨k.val - 256 - 256, by omega⟩ k (by simp; omega)]
  rw [dif_neg h2]
  rw [d3, Dq_at (q a) (o a) kv 3 ⟨k.val - 256 - 256 - 256, by omega⟩ k (by simp; omega)]

/-- What the eight stores into the memory's cotangent add to a block's columns. -/
structure Adds (C : Vec Ideal S256x1024 .f32) (Wo : Vec Ideal S1024x1024 .bf16) (Q : Vec Ideal S256x1024 .bf16) (KV : Vec Ideal S256x2048 .bf16)
    (T : Fin 256 → Fin 2048 → ℝ) : Prop where
  ak0 : ∀ (Z : Vec Ideal S256x256 .f32) s e, k0_pay19 (k0_pay11 (q0 Q)) (k0_pay14 (q0 Q) (k0 KV)) (k0_pay15 C Wo (v0 KV))
    (k0_pay16 C Wo (q0 Q) (k0 KV) (v0 KV)) Z (ix2 s e) = Z (ix2 s e) + (T s (kc 0 e) : EReal)
  av0 : ∀ (Z : Vec Ideal S256x256 .f32) s e, k0_pay20 (k0_pay13 C Wo) (k0_pay14 (q0 Q) (k0 KV)) Z (ix2 s e) = Z (ix2 s e) + (T s (vc 0 e) : EReal)
  ak1 : ∀ (Z : Vec Ideal S256x256 .f32) s e, k0_pay29 (k0_pay21 (q1 Q)) (k0_pay23 (v1 KV)) (k0_pay24 (k0_pay10 C Wo)) (k0_pay25 (q1 Q) (k1 KV)) Z (ix2 s e)
    = Z (ix2 s e) + (T s (kc 1 e) : EReal)
  av1 : ∀ (Z : Vec Ideal S256x256 .f32) s e, k0_pay30 (k0_pay24 (k0_pay10 C Wo)) (k0_pay25 (q1 Q) (k1 KV)) Z (ix2 s e) = Z (ix2 s e) + (T s (vc 1 e) : EReal)
  ak2 : ∀ (Z : Vec Ideal S256x256 .f32) s e, k0_pay38 (k0_pay31 (q2 Q)) (k0_pay32 (k2 KV)) (k0_pay33 (v2 KV)) (k0_pay34 (k0_pay10 C Wo)) Z (ix2 s e)
    = Z (ix2 s e) + (T s (kc 2 e) : EReal)
  av2 : ∀ (Z : Vec Ideal S256x256 .f32) s e, k0_pay39 (k0_pay31 (q2 Q)) (k0_pay32 (k2 KV)) (k0_pay34 (k0_pay10 C Wo)) Z (ix2 s e)
    = Z (ix2 s e) + (T s (vc 2 e) : EReal)
  ak3 : ∀ (Z : Vec Ideal S256x256 .f32) s e, k0_pay46 (k0_pay10 C Wo) (q3 Q) (k3 KV) (v3 KV) Z (ix2 s e) = Z (ix2 s e) + (T s (kc 3 e) : EReal)
  av3 : ∀ (Z : Vec Ideal S256x256 .f32) s e, k0_pay47 (k0_pay42 (k0_pay10 C Wo)) (k0_pay43 (q3 Q) (k3 KV)) Z (ix2 s e) = Z (ix2 s e) + (T s (vc 3 e) : EReal)

theorem adds (R : Reads C Wo Q KV o q kv) : Adds C Wo Q KV fun s k => ∑ a, Tkv (q a) (o a) kv s k where
  ak0 Z s e := by simp only [Tkv_k _ _ kv s 0 e (kc 0 e) rfl]; exact pay_dk R.hq0 R.hk0 R.hv0 R.ho0 s e
  av0 Z s e := by simp only [Tkv_v _ _ kv s 0 e (vc 0 e) rfl]; exact pay_dv R.hq0 R.hk0 R.ho0 s e
  ak1 Z s e := by simp only [Tkv_k _ _ kv s 1 e (kc 1 e) rfl]; exact pay_dk R.hq1 R.hk1 R.hv1 R.ho1 s e
  av1 Z s e := by simp only [Tkv_v _ _ kv s 1 e (vc 1 e) rfl]; exact pay_dv R.hq1 R.hk1 R.ho1 s e
  ak2 Z s e := by simp only [Tkv_k _ _ kv s 2 e (kc 2 e) rfl]; exact pay_dk R.hq2 R.hk2 R.hv2 R.ho2 s e
  av2 Z s e := by simp only [Tkv_v _ _ kv s 2 e (vc 2 e) rfl]; exact pay_dv R.hq2 R.hk2 R.ho2 s e
  ak3 Z s e := by simp only [Tkv_k _ _ kv s 3 e (kc 3 e) rfl]; exact pay_dk R.hq3 R.hk3 R.hv3 R.ho3 s e
  av3 Z s e := by simp only [Tkv_v _ _ kv s 3 e (vc 3 e) rfl]; exact pay_dv R.hq3 R.hk3 R.ho3 s e

/-! ## The normalisation before the queries -/

/-- The cotangent of the normalised and scaled row. -/
def dhr (q o : Fin 1024 → ℝ) (kv : Fin 256 → Fin 2048 → ℝ) (wq : Fin 1024 → Fin 1024 → ℝ) (j : Fin 1024) : ℝ := ∑ k, Dq q o kv k * wq j k

/-- The block's reciprocal root mean square. -/
theorem pay_r (hX : ∀ a b, X (ix2 a b) = (x a b : EReal)) (a : Fin 256) : k0_pay50 X (ix2 a 0) = (rinv (x a) : EReal) := by
  pointwise [k0_pay50, k0_pay49]
  simp only [hX, ← EReal.coe_mul, sum_coe]
  rw [w1024, weps, div_coe _ (by norm_num), ← EReal.coe_add, rsqrt_ms]

/-- The block's normalised rows. -/
theorem pay_n (hX : ∀ a b, X (ix2 a b) = (x a b : EReal)) (a : Fin 256) (b : Fin 1024) :
    k0_pay51 X (ix2 a b) = ((x a b * rinv (x a) : ℝ) : EReal) := by
  pointwise [k0_pay51, k0_pay49]
  rw [pay_r hX, hX, EReal.coe_mul]

/-- The normalised and scaled rows that the call returns. -/
theorem pay_h (hX : ∀ a b, X (ix2 a b) = (x a b : EReal)) (hG : ∀ b, G (ix2 0 b) = (g b : EReal)) (a : Fin 256) (b : Fin 1024) :
    k0_pay52 X G (ix2 a b) = (rmsRow (x a) g b : EReal) := by
  pointwise [k0_pay52]
  rw [pay_n hX, hG, ← EReal.coe_mul, rmsRow]

theorem pay_dh (R : Reads C Wo Q KV o q kv) (hW : ∀ a b, Wq (ix2 a b) = (wq a b : EReal)) (a : Fin 256) (j : Fin 1024) :
    k0_pay53 (dq0 C Wo Q KV) (dq1 C Wo Q KV) (dq2 C Wo Q KV) (dq3 C Wo Q KV) Wq (ix2 a j) = (dhr (q a) (o a) kv wq j : EReal) := by
  pointwise [k0_pay53]
  have h (k : Fin 1024) := wide_dq R a k
  unfold dqv at h
  simp only [h, hW, ← EReal.coe_mul, sum_coe]
  rfl

/-- The input's gradient on the block. -/
theorem pay_dx (R : Reads C Wo Q KV o q kv) (hC : ∀ a b, C (ix2 a b) = (c a b : EReal)) (hX : ∀ a b, X (ix2 a b) = (x a b : EReal))
    (hG : ∀ b, G (ix2 0 b) = (g b : EReal)) (hW : ∀ a b, Wq (ix2 a b) = (wq a b : EReal)) (a : Fin 256) (j : Fin 1024) :
    k0_pay1 (k0_pay8 C) (k0_pay50 X) (k0_pay51 X) (k0_pay54 (dq0 C Wo Q KV) (dq1 C Wo Q KV) (dq2 C Wo Q KV) (dq3 C Wo Q KV) G Wq)
      (k0_pay55 (dq0 C Wo Q KV) (dq1 C Wo Q KV) (dq2 C Wo Q KV) (dq3 C Wo Q KV) X G Wq) (ix2 a j)
      = ((c a j + rmsGrad (x a) (fun j => dhr (q a) (o a) kv wq j * g j) j : ℝ) : EReal) := by
  pointwise [k0_pay1, k0_pay8, k0_pay54, k0_pay55]
  simp only [pay_r hX, pay_n hX, hC, hG, pay_dh R hW]
  rw [w1024]
  simp only [← EReal.coe_mul, sum_coe, ← EReal.coe_sub, ← EReal.coe_add, div_coe _ (show (1024 : ℝ) ≠ 0 by norm_num)]
  rfl

/-- The block's part of the scale's gradient. -/
theorem pay_dg {Z : Vec Ideal S1x1024 .f32} (R : Reads C Wo Q KV o q kv) (hX : ∀ a b, X (ix2 a b) = (x a b : EReal))
    (hW : ∀ a b, Wq (ix2 a b) = (wq a b : EReal)) (j : Fin 1024) :
    k0_pay2 (k0_pay51 X) (k0_pay53 (dq0 C Wo Q KV) (dq1 C Wo Q KV) (dq2 C Wo Q KV) (dq3 C Wo Q KV) Wq) Z (ix2 0 j)
      = Z (ix2 0 j) + ((∑ a, dhr (q a) (o a) kv wq j * (x a j * rinv (x a)) : ℝ) : EReal) := by
  pointwise [k0_pay2]
  simp only [pay_n hX, pay_dh R hW, ← EReal.coe_mul, sum_coe]

/-! ## The memory's side, at the last point -/

section Mem
variable {S : Vec Ideal S256x2048 .f32} {W : Vec Ideal S1024x2048 .bf16} {M : Vec Ideal S256x1024 .f32} {Mh : Vec Ideal S256x1024 .bf16}
  {s : Fin 256 → Fin 2048 → ℝ} {w : Fin 1024 → Fin 2048 → ℝ} {me mh : Fin 256 → Fin 1024 → ℝ}

/-- The gradient of the memory's joint projection weights. -/
theorem pay_dw (hS : ∀ a b, S (ix2 a b) = (s a b : EReal)) (hM : ∀ a b, Mh (ix2 a b) = (mh a b : EReal)) (j : Fin 1024) (k : Fin 2048) :
    k0_pay4 S Mh (ix2 j k) = ((∑ a, mh a j * s a k : ℝ) : EReal) := by
  pointwise [k0_pay4, k0_pay3]
  simp only [hS, hM, ← EReal.coe_mul, sum_coe]

/-- The gradient of the memory's normalisation scale. -/
theorem pay_dgm (hS : ∀ a b, S (ix2 a b) = (s a b : EReal)) (hW : ∀ a b, W (ix2 a b) = (w a b : EReal)) (hM : ∀ a b, M (ix2 a b) = (me a b : EReal))
    (j : Fin 1024) : k0_pay5 S W M (ix2 0 j) = ((∑ a, (∑ k, s a k * w j k) * (me a j * rinv (me a)) : ℝ) : EReal) := by
  pointwise [k0_pay5, k0_pay3]
  simp only [hS, hM, hW, ← EReal.coe_mul, sum_coe, w1024, weps, div_coe _ (show (1024 : ℝ) ≠ 0 by norm_num), ← EReal.coe_add, rsqrt_ms]

end Mem

end Wide

/-! ## The whole gradient over the reals -/

/-- The arguments as reals: input, memory, the two normalisations' scales, the weights, the cotangent. -/
structure Re where
  x : Fin 4096 → Fin 1024 → ℝ
  me : Fin 256 → Fin 1024 → ℝ
  gx : Fin 1024 → ℝ
  gm : Fin 1024 → ℝ
  wq : Fin 1024 → Fin 1024 → ℝ
  wkv : Fin 1024 → Fin 2048 → ℝ
  wo : Fin 1024 → Fin 1024 → ℝ
  r : Fin 4096 → Fin 1024 → ℝ

namespace Re
variable (z : Re)

/-- The queries. -/
def q (i : Fin 4096) (k : Fin 1024) : ℝ := ∑ j, rmsRow (z.x i) z.gx j * z.wq j k
/-- The normalised memory. -/
def mh (s : Fin 256) (j : Fin 1024) : ℝ := rmsRow (z.me s) z.gm j
/-- The keys and the values. -/
def kv (s : Fin 256) (k : Fin 2048) : ℝ := ∑ j, z.mh s j * z.wkv j k
/-- The cotangent of the attention's output. -/
def o (i : Fin 4096) (k : Fin 1024) : ℝ := dor (z.r i) z.wo k
/-- The cotangent of the queries. -/
def dq (i : Fin 4096) (k : Fin 1024) : ℝ := Dq (z.q i) (z.o i) z.kv k
/-- The cotangent of the normalised rows. -/
def dh (i : Fin 4096) (j : Fin 1024) : ℝ := dhr (z.q i) (z.o i) z.kv z.wq j
/-- The input's gradient. -/
def dx (i : Fin 4096) (j : Fin 1024) : ℝ := z.r i j + rmsGrad (z.x i) (fun j => z.dh i j * z.gx j) j
/-- The gradient of the scale before the queries. -/
def dg (j : Fin 1024) : ℝ := ∑ i, z.dh i j * (z.x i j * rinv (z.x i))
/-- The cotangent of the keys and the values. -/
def dkv (s : Fin 256) (k : Fin 2048) : ℝ := ∑ i, Tkv (z.q i) (z.o i) z.kv s k
/-- The gradient of the weights of keys and values. -/
def dw (j : Fin 1024) (k : Fin 2048) : ℝ := ∑ s, z.mh s j * z.dkv s k
/-- The gradient of the memory's scale. -/
def dgm (j : Fin 1024) : ℝ := ∑ s, (∑ k, z.dkv s k * z.wkv j k) * (z.me s j * rinv (z.me s))

end Re

/-- The arguments are the coercions of these reals. -/
structure Args (a0 : Vec Ideal S1x4096x1024 .f32) (a1 : Vec Ideal S1x256x1024 .f32) (a2 a3 : Vec Ideal S1x1024 .f32) (a4 : Vec Ideal S1x1024x1024 .f32)
    (a5 : Vec Ideal S1x1024x2048 .f32) (a6 : Vec Ideal S1x1024x1024 .f32) (a7 : Vec Ideal S1x4096x1024 .f32) (z : Re) : Prop where
  h0 : ∀ i j, a0 (ix3 0 i j) = (z.x i j : EReal)
  h1 : ∀ i j, a1 (ix3 0 i j) = (z.me i j : EReal)
  h2 : ∀ j, a2 (ix2 0 j) = (z.gx j : EReal)
  h3 : ∀ j, a3 (ix2 0 j) = (z.gm j : EReal)
  h4 : ∀ i j, a4 (ix3 0 i j) = (z.wq i j : EReal)
  h5 : ∀ i j, a5 (ix3 0 i j) = (z.wkv i j : EReal)
  h6 : ∀ i j, a6 (ix3 0 i j) = (z.wo i j : EReal)
  h7 : ∀ i j, a7 (ix3 0 i j) = (z.r i j : EReal)

end Cert.Xattn
end
-- ==== Proof.XattnB.lean ====
/- The gradient of the cross-attention to the memory (`xattn_bwd`): what each grid point leaves in the kernel's blocks. -/
module

public import proofs.«01_k».proof.Proof.XattnA
public import proofs.«01_k».proof.Proof.Gen.KernelXattnIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Lift

namespace Cert.Xattn
open Cert.KernelXattnIdeal Cert.KernelXattnIdeal.Gen

/-! ## The kernel's points -/

variable (m : (ℓ : Loc nD τ sig) → Buf (Elt Ideal) ℓ)

/-- The windows' index maps over the sixteen points. -/
theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![t.val, 0] ∧ win0_11.index t = ![0, 0] ∧ win0_12.index t = ![t.val, 0] ∧ win0_13.index t = ![t.val, 0]
    ∧ win0_14.index t = ![t.val, 0] ∧ win0_15.index t = ![0, 0] ∧ win0_16.index t = ![0, 0] ∧ win0_17.index t = ![0, 0] :=
  (by decide +kernel : ∀ t : Fin grid0.N, _)

/-- Row `a` of point `t`'s block. -/
abbrev row (t : Fin cfg0.N) (a : Fin 256) : Fin 4096 := ⟨t.val * 256 + a.val, by have := t.isLt; have := a.isLt; have : cfg0.N = 16 := rfl; omega⟩

theorem cases (t : Fin cfg0.N) : (t.val % 16 = 0 ∧ ¬t.val % 16 = 15) ∨ (¬t.val % 16 = 0 ∧ ¬t.val % 16 = 15) ∨ (¬t.val % 16 = 0 ∧ t.val % 16 = 15) := by omega

section Point
variable (c : Dev nD) {z : Re}
  (H : Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) z)
include H

set_option maxHeartbeats 1000000 in
theorem C0 (t : Fin cfg0.N) (a : Fin 256) (b : Fin 1024) : iblk m c 0 t (ix2 a b) = (z.r (row t a) b : EReal) := by
  rw [← H.h7]; blk_point [iblk, V, idx t]

set_option maxHeartbeats 1000000 in
theorem C1 (t : Fin cfg0.N) (a : Fin 256) (b : Fin 1024) : iblk m c 1 t (ix2 a b) = (z.x (row t a) b : EReal) := by
  rw [← H.h0]; blk_point [iblk, V, idx t]

theorem C2 (t : Fin cfg0.N) (b : Fin 1024) : iblk m c 2 t (ix2 0 b) = (z.gx b : EReal) := by
  rw [← H.h2]; blk_point [iblk, V, idx t]

theorem C5 (t : Fin cfg0.N) (a b : Fin 1024) : iblk m c 5 t (ix2 a b) = (z.wq a b : EReal) := by
  rw [← H.h4]; blk_point [iblk, V, idx t]

theorem C6 (t : Fin cfg0.N) (a b : Fin 1024) : iblk m c 6 t (ix2 a b) = (z.wo a b : EReal) := by
  rw [← H.h6]; blk_point [iblk, V, idx t]

theorem C8 (t : Fin cfg0.N) (a : Fin 256) (b : Fin 1024) : iblk m c 8 t (ix2 a b) = (z.me a b : EReal) := by
  rw [← H.h1]; blk_point [iblk, V, idx t]

theorem C9 (t : Fin cfg0.N) (a : Fin 1024) (b : Fin 2048) : iblk m c 9 t (ix2 a b) = (z.wkv a b : EReal) := by
  rw [← H.h5]; blk_point [iblk, V, idx t]

/-- The saved queries. -/
theorem saved_q (i : Fin 4096) (k : Fin 1024) : (V m c main_v32 : Vec Ideal S4096x1024 .bf16) (ix2 i k) = (z.q i k : EReal) := by
  entry_read
  pointwise
  simp only [H.h0, H.h2, H.h4, ← EReal.coe_mul, sum_coe]
  rw [w1024, weps, div_coe _ (by norm_num), ← EReal.coe_add, rsqrt_ms]
  simp only [← EReal.coe_mul, sum_coe]
  rfl

theorem C3 (t : Fin cfg0.N) (a : Fin 256) (k : Fin 1024) : iblk m c 3 t (ix2 a k) = (z.q (row t a) k : EReal) := by
  refine Eq.trans ?_ (saved_q m c H (row t a) k)
  unfold iblk
  blk_simp [idx t]
  blk_ext [idx t]

/-- The normalised memory. -/
theorem saved_mh (i : Fin 256) (k : Fin 1024) : (V m c main_v42 : Vec Ideal S256x1024 .bf16) (ix2 i k) = (z.mh i k : EReal) := by
  entry_read
  pointwise
  simp only [H.h1, H.h3, ← EReal.coe_mul, sum_coe]
  rw [w1024, weps, div_coe _ (by norm_num), ← EReal.coe_add, rsqrt_ms]
  simp only [← EReal.coe_mul, sum_coe]
  rfl

theorem C7 (t : Fin cfg0.N) (a : Fin 256) (k : Fin 1024) : iblk m c 7 t (ix2 a k) = (z.mh a k : EReal) := by
  refine Eq.trans ?_ (saved_mh m c H a k)
  unfold iblk
  blk_simp [idx t]
  blk_ext [idx t]

/-- The saved keys and values. -/
theorem saved_kv (i : Fin 256) (k : Fin 2048) : (V m c main_v35 : Vec Ideal S256x2048 .bf16) (ix2 i k) = (z.kv i k : EReal) := by
  entry_read
  pointwise
  simp only [H.h1, H.h3, H.h5, ← EReal.coe_mul, sum_coe]
  rw [w1024, weps, div_coe _ (by norm_num), ← EReal.coe_add, rsqrt_ms]
  simp only [← EReal.coe_mul, sum_coe]
  rfl

theorem C4 (t : Fin cfg0.N) (a : Fin 256) (k : Fin 2048) : iblk m c 4 t (ix2 a k) = (z.kv a k : EReal) := by
  refine Eq.trans ?_ (saved_kv m c H a k)
  unfold iblk
  blk_simp [idx t]
  blk_ext [idx t]

theorem rd (t : Fin cfg0.N) : Reads (iblk m c 0 t) (iblk m c 6 t) (iblk m c 3 t) (iblk m c 4 t) (fun a => z.o (row t a)) (fun a => z.q (row t a)) z.kv :=
  reads (C0 m c H t) (C6 m c H t) (C3 m c H t) (C4 m c H t)

/-- What point `t` leaves in the input gradient's block. -/
theorem out10 (t : Fin cfg0.N) (a : Fin 256) (b : Fin 1024) :
    (outsAt0 m c t.val t.isLt).1 (ix2 a b) = (z.dx (row t a) b : EReal) := by
  have key := pay_dx (rd m c H t) (C0 m c H t) (C1 m c H t) (C2 m c H t) (C5 m c H t) a b
  obtain ⟨h0, h1⟩ | ⟨h0, h1⟩ | ⟨h0, h1⟩ := cases t
  · rw [outsAt0_A m c t h0 h1]; frame_out; exact key
  · rw [outsAt0_B m c t h0 h1]; frame_out; exact key
  · rw [outsAt0_C m c t h0 h1]; frame_out; exact key

/-- The addend of point `t` to the scale's gradient. -/
def dgPart (z : Re) (t : Fin cfg0.N) (j : Fin 1024) : ℝ := ∑ a, z.dh (row t a) j * (z.x (row t a) j * rinv (z.x (row t a)))

/-- The scale's gradient after the last point: the points' addends in turn, from zero. -/
theorem out11 (t : Fin cfg0.N) (ht : t.val + 1 = cfg0.N) (b : Fin 1024) :
    (outsAt0 m c t.val t.isLt).2.1 (ix2 0 b) = (z.dg b : EReal) := by
  have key := fun (t : Fin cfg0.N) (A : Vec Ideal S1x1024 .f32) (b : Fin 1024) =>
    pay_dg (Z := A) (rd m c H t) (C1 m c H t) (C5 m c H t) b
  have h := Pipeline.eq_sum_fin_of_reset_step_apply_last (fun n hn b => (outsAt0 m c n hn).2.1 (ix2 0 b)) 16 (fun _ => (0 : EReal))
    (fun t b => (dgPart z t b : EReal))
    (fun t h0 b => by
      show (outsAt0 m c t.val t.isLt).2.1 (ix2 0 b) = _
      rw [outsAt0_A m c t h0 (by omega)]; frame_out
      rw [key]
      pointwise [k0_pay6]
      rfl)
    (fun t h0 b => by
      show (outsAt0 m c t.val t.isLt).2.1 (ix2 0 b) = _
      by_cases h1 : t.val % 16 = 15
      · rw [outsAt0_C m c t h0 h1]; frame_out
        rw [key]
        rfl
      · rw [outsAt0_B m c t h0 h1]; frame_out
        rw [key]
        rfl)
    (by decide) t ht b
  refine h.trans ?_
  rw [zero_add, sum_coe]
  refine congrArg _ ?_
  unfold Re.dg dgPart
  exact (Fin.sum_univ_tiles 16 256 rfl fun i : Fin 4096 => z.dh i b * (z.x i b * rinv (z.x i))).symm

/-- What point `t` leaves in the cotangent's rounded block. -/
theorem out12 (t : Fin cfg0.N) (a : Fin 256) (b : Fin 1024) :
    (outsAt0 m c t.val t.isLt).2.2.1 (ix2 a b) = (z.r (row t a) b : EReal) := by
  have key : k0_pay9 (iblk m c 0 t) (ix2 a b) = (z.r (row t a) b : EReal) := by
    pointwise [k0_pay9, k0_pay8]; exact C0 m c H t a b
  obtain ⟨h0, h1⟩ | ⟨h0, h1⟩ | ⟨h0, h1⟩ := cases t
  · rw [outsAt0_A m c t h0 h1]; frame_out; exact key
  · rw [outsAt0_B m c t h0 h1]; frame_out; exact key
  · rw [outsAt0_C m c t h0 h1]; frame_out; exact key

/-- What point `t` leaves in the normalised rows' block. -/
theorem out13 (t : Fin cfg0.N) (a : Fin 256) (b : Fin 1024) :
    (outsAt0 m c t.val t.isLt).2.2.2.1 (ix2 a b) = (rmsRow (z.x (row t a)) z.gx b : EReal) := by
  have key := pay_h (C1 m c H t) (C2 m c H t) a b
  obtain ⟨h0, h1⟩ | ⟨h0, h1⟩ | ⟨h0, h1⟩ := cases t
  · rw [outsAt0_A m c t h0 h1]; frame_out; exact key
  · rw [outsAt0_B m c t h0 h1]; frame_out; exact key
  · rw [outsAt0_C m c t h0 h1]; frame_out; exact key

/-- What point `t` leaves in the queries' cotangent block. -/
theorem out14 (t : Fin cfg0.N) (a : Fin 256) (b : Fin 1024) :
    (outsAt0 m c t.val t.isLt).2.2.2.2.1 (ix2 a b) = (z.dq (row t a) b : EReal) := by
  have key := wide_dq (rd m c H t) a b
  obtain ⟨h0, h1⟩ | ⟨h0, h1⟩ | ⟨h0, h1⟩ := cases t
  · rw [outsAt0_A m c t h0 h1]; frame_out; exact key
  · rw [outsAt0_B m c t h0 h1]; frame_out; exact key
  · rw [outsAt0_C m c t h0 h1]; frame_out; exact key

end Point
end Cert.Xattn
end
-- ==== Proof.XattnC.lean ====
/- The gradient of the cross-attention to the memory (`xattn_bwd`): what the reference's lines are on real arguments. -/
module

public import proofs.«01_k».proof.Proof.XattnA
public import proofs.«01_k».proof.Proof.Gen.ReferenceXattnIdeal.Read

@[expose] public section

set_option maxRecDepth 16384

noncomputable section

open Idealize.ShloMosaic Idealize.ShloMosaic.TcCoe Idealize.SL.Sem
open Cert.Lift

namespace Cert.Xattn
open Cert.ReferenceXattnIdeal Cert.ReferenceXattnIdeal.Read

/-- The product over the leading unit axis and the rows. -/
theorem dot108 (A : FVec Ideal S1x256x2048 .f32) (B : FVec Ideal S1x256x1024 .f32) (k : Fin 2048) (j : Fin 1024) :
    (Host.dotGeneral dot_S1x256x2048_S1x256x1024_S2048x1024_01_01_2_2_n_n none A B : FVec Ideal S2048x1024 .f32) (ix2 k j)
      = ∑ s : Fin 256, A (ix3 0 s k) * B (ix3 0 s j) := by
  let d := dot_S1x256x2048_S1x256x1024_S2048x1024_01_01_2_2_n_n
  simp only [Host.dotGeneral]
  rw [Ideal.dotGeneral_apply]
  refine Fintype.sum_bijective (fun q : d.contr.Idx => (⟨(q ⟨1, by decide⟩).val, (q ⟨1, by decide⟩).isLt⟩ : Fin 256)) ⟨fun q q' e => ?_, fun s => ?_⟩ _ _ fun q => ?_
  · funext a; apply Fin.ext
    match a with
    | ⟨0, h⟩ => exact congrArg Fin.val (Subsingleton.elim (α := Fin 1) (q ⟨0, h⟩) (q' ⟨0, h⟩))
    | ⟨1, h⟩ => exact congrArg Fin.val e
  · exact ⟨fun a => match a with
      | ⟨0, h⟩ => (0 : Fin 1)
      | ⟨1, h⟩ => (s : Fin 256), rfl⟩
  · refine congrArg₂ _ (congrArg A ?_) (congrArg B ?_)
    · funext a; apply Fin.ext
      match a with
      | ⟨0, h⟩ => exact congrArg Fin.val (Subsingleton.elim (α := Fin 1) _ _)
      | ⟨1, h⟩ => rfl
      | ⟨2, h⟩ => rfl
    · funext a; apply Fin.ext
      match a with
      | ⟨0, h⟩ => exact congrArg Fin.val (Subsingleton.elim (α := Fin 1) _ _)
      | ⟨1, h⟩ => rfl
      | ⟨2, h⟩ => rfl

variable {a0 : Vec Ideal Cert.KernelXattnIdeal.S1x4096x1024 .f32} {a1 : Vec Ideal Cert.KernelXattnIdeal.S1x256x1024 .f32}
  {a2 a3 : Vec Ideal Cert.KernelXattnIdeal.S1x1024 .f32} {a4 : Vec Ideal Cert.KernelXattnIdeal.S1x1024x1024 .f32}
  {a5 : Vec Ideal Cert.KernelXattnIdeal.S1x1024x2048 .f32} {a6 : Vec Ideal Cert.KernelXattnIdeal.S1x1024x1024 .f32}
  {a7 : Vec Ideal Cert.KernelXattnIdeal.S1x4096x1024 .f32} {z : Re} (H : Args a0 a1 a2 a3 a4 a5 a6 a7 z)
include H

/-! ### The two normalisations -/

theorem ref8 (i : Fin 4096) : val_main_v8 (F := Ideal) a0 (ix3 0 i 0) = (((∑ k, z.x i k * z.x i k) / 1024 + eps : ℝ) : EReal) := by
  pointwise [val_main_v8, val_main_v6, val_main_v7, val_main_v4, val_main_v5, val_main_cst_2, val_main_v3, val_main_cst_1, val_main_v2, val_main_cst_0]
  simp only [H.h0, ← EReal.coe_mul, sum_coe]
  rw [w1024, weps, div_coe _ (by norm_num), ← EReal.coe_add]

theorem ref9 (i : Fin 4096) : val_main_v9 (F := Ideal) a0 (ix3 0 i 0) = (rinv (z.x i) : EReal) := by
  pointwise [val_main_v9]
  rw [ref8 H, rsqrt_ms]

theorem ref12 (i : Fin 4096) : val_main_v12 (F := Ideal) a0 (ix3 0 i 0)
    = ((-(1 / 2) * (rinv (z.x i) / ((∑ k, z.x i k * z.x i k) / 1024 + eps)) : ℝ) : EReal) := by
  pointwise [val_main_v12, val_main_v11, val_main_v10, val_main_cst_3]
  rw [ref8 H, ref9 H, wnhalf, div_coe _ (ms_pos _).ne', ← EReal.coe_mul]

theorem ref14 (i : Fin 4096) (j : Fin 1024) : val_main_v14 (F := Ideal) a0 (ix3 0 i j) = ((z.x i j * rinv (z.x i) : ℝ) : EReal) := by
  pointwise [val_main_v14, val_main_v13]
  rw [ref9 H, H.h0, ← EReal.coe_mul]

theorem ref17 (i : Fin 4096) (j : Fin 1024) : val_main_v17 (F := Ideal) a0 a2 (ix3 0 i j) = (rmsRow (z.x i) z.gx j : EReal) := by
  pointwise [val_main_v17, val_main_v16, val_main_v15, val_main_v1]
  rw [ref14 H, H.h2, ← EReal.coe_mul, rmsRow]

theorem ref26 (s : Fin 256) : val_main_v26 (F := Ideal) a1 (ix3 0 s 0) = (rinv (z.me s) : EReal) := by
  pointwise [val_main_v26, val_main_v25, val_main_v23, val_main_v24, val_main_v21, val_main_v22, val_main_cst_6, val_main_v20, val_main_cst_5,
    val_main_v19, val_main_cst_4]
  simp only [H.h1, ← EReal.coe_mul, sum_coe]
  rw [w1024, weps, div_coe _ (by norm_num), ← EReal.coe_add, rsqrt_ms]

theorem ref28 (s : Fin 256) (j : Fin 1024) : val_main_v28 (F := Ideal) a1 (ix3 0 s j) = ((z.me s j * rinv (z.me s) : ℝ) : EReal) := by
  pointwise [val_main_v28, val_main_v27]
  rw [ref26 H, H.h1, ← EReal.coe_mul]

theorem ref31 (s : Fin 256) (j : Fin 1024) : val_main_v31 (F := Ideal) a1 a3 (ix3 0 s j) = (z.mh s j : EReal) := by
  pointwise [val_main_v31, val_main_v30, val_main_v29, val_main_v18]
  rw [ref28 H, H.h3, ← EReal.coe_mul]
  rfl

/-! ### The attention weights -/

theorem ref36 (i : Fin 4096) (k : Fin 1024) : val_main_v36 (F := Ideal) a0 a2 a4 (ix3 0 i k) = (z.q i k : EReal) := by
  pointwise [val_main_v36, val_main_v35, val_main_v0, val_main_v32, val_main_cst]
  simp only [ref17 H, H.h4, ← EReal.coe_mul, sum_coe, add_zero]
  rfl

theorem ref37 (i : Fin 4096) (h : Fin 4) (e : Fin 256) : val_main_v37 (F := Ideal) a0 a2 a4 (ix4 0 i h e) = (z.q i (hc h e) : EReal) := by
  pointwise [val_main_v37]
  exact (ref36 H _ _).trans (congrArg _ (congrArg₂ _ (Fin.ext (by simp only)) (Fin.ext (by simp only))))

theorem ref38 (s : Fin 256) (k : Fin 2048) : val_main_v38 (F := Ideal) a1 a3 a5 (ix3 0 s k) = (z.kv s k : EReal) := by
  pointwise [val_main_v38, val_main_v33]
  simp only [ref31 H, H.h5, ← EReal.coe_mul, sum_coe]
  rfl

theorem ref41 (s : Fin 256) (h : Fin 4) (e : Fin 256) : val_main_v41 (F := Ideal) a1 a3 a5 (ix4 0 s h e) = (z.kv s (kc h e) : EReal) := by
  pointwise [val_main_v41, val_main_v39]
  exact (ref38 H _ _).trans (congrArg _ (congrArg₂ _ (Fin.ext (by simp only)) (Fin.ext (by simp only))))

theorem ref42 (s : Fin 256) (h : Fin 4) (e : Fin 256) : val_main_v42 (F := Ideal) a1 a3 a5 (ix4 0 s h e) = (z.kv s (vc h e) : EReal) := by
  pointwise [val_main_v42, val_main_v40]
  exact (ref38 H _ _).trans (congrArg _ (congrArg₂ _ (Fin.ext (by simp only)) (Fin.ext (by simp only))))

/-- The scaled products of query `i` in head `h`. -/
abbrev Re.lg (z : Re) (i : Fin 4096) (h : Fin 4) : Fin 256 → ℝ := Cert.Xattn.lg (fun e => z.q i (hc h e)) (fun s e => z.kv s (kc h e))

theorem ref45 (h : Fin 4) (i : Fin 4096) (s : Fin 256) : val_main_v45 (F := Ideal) a0 a1 a2 a3 a4 a5 (ix4 0 h i s) = (z.lg i h s : EReal) := by
  pointwise [val_main_v45, val_main_v43, val_main_v44, val_main_cst_7]
  simp only [ref37 H, ref41 H, ← EReal.coe_mul, sum_coe, w16th]
  rfl

/-- The row's maximum, which the reference subtracts. -/
def mx (a0 : Vec Ideal Cert.KernelXattnIdeal.S1x4096x1024 .f32) (a1 : Vec Ideal Cert.KernelXattnIdeal.S1x256x1024 .f32)
    (a2 a3 : Vec Ideal Cert.KernelXattnIdeal.S1x1024 .f32) (a4 : Vec Ideal Cert.KernelXattnIdeal.S1x1024x1024 .f32)
    (a5 : Vec Ideal Cert.KernelXattnIdeal.S1x1024x2048 .f32) (i : Fin 4096) (h : Fin 4) : ℝ := (val_main_v53 (F := Ideal) a0 a1 a2 a3 a4 a5 (ix3 0 h i)).toReal

theorem ref46 (h : Fin 4) (i : Fin 4096) : ∃ M : ℝ, val_main_v46 (F := Ideal) a0 a1 a2 a3 a4 a5 (ix3 0 h i) = (M : EReal) := by
  pointwise [val_main_v46, val_main_cst_8]
  simp only [ref45 H, wninf]
  exact fold_max_coe _

theorem ref53 (h : Fin 4) (i : Fin 4096) : val_main_v53 (F := Ideal) a0 a1 a2 a3 a4 a5 (ix3 0 h i) = (mx a0 a1 a2 a3 a4 a5 i h : EReal) := by
  obtain ⟨M, k⟩ := ref46 H h i
  have e : val_main_v53 (F := Ideal) a0 a1 a2 a3 a4 a5 (ix3 0 h i) = (M : EReal) := by
    rw [val_main_v53_apply, k]
    pointwise [val_main_v52, val_main_cst_10]
    rw [wninf]
    exact max_eq_right bot_le
  unfold mx
  rw [e, EReal.toReal_coe]

/-- The shifted exponentials. -/
abbrev ex (a0 : Vec Ideal Cert.KernelXattnIdeal.S1x4096x1024 .f32) (a1 : Vec Ideal Cert.KernelXattnIdeal.S1x256x1024 .f32)
    (a2 a3 : Vec Ideal Cert.KernelXattnIdeal.S1x1024 .f32) (a4 : Vec Ideal Cert.KernelXattnIdeal.S1x1024x1024 .f32)
    (a5 : Vec Ideal Cert.KernelXattnIdeal.S1x1024x2048 .f32) (z : Re) (i : Fin 4096) (h : Fin 4) (s : Fin 256) : ℝ :=
  Real.exp (z.lg i h s - mx a0 a1 a2 a3 a4 a5 i h)

theorem ref66 (h : Fin 4) (i : Fin 4096) (s : Fin 256) : val_main_v66 (F := Ideal) a0 a1 a2 a3 a4 a5 (ix4 0 h i s) = (ex a0 a1 a2 a3 a4 a5 z i h s : EReal) := by
  pointwise [val_main_v66, val_main_v65, val_main_v64, val_main_v63]
  rw [ref45 H, ref53 H, ← EReal.coe_sub]
  rfl

theorem ref68 (h : Fin 4) (i : Fin 4096) : val_main_v68 (F := Ideal) a0 a1 a2 a3 a4 a5 (ix4 0 h i 0) = ((∑ s, ex a0 a1 a2 a3 a4 a5 z i h s : ℝ) : EReal) := by
  pointwise [val_main_v68, val_main_v67, val_main_cst_16]
  simp only [ref66 H, sum_coe, zero_add]

theorem ref70 (h : Fin 4) (i : Fin 4096) (s : Fin 256) : val_main_v70 (F := Ideal) a0 a1 a2 a3 a4 a5 (ix4 0 h i s) = (Hp (z.q i) z.kv h s : EReal) := by
  pointwise [val_main_v70, val_main_v69]
  rw [ref66 H, ref68 H, div_coe _ (sum_exp_pos _).ne', soft_shift]
  rfl

theorem ref73 (h : Fin 4) (i : Fin 4096) : val_main_v73 (F := Ideal) a0 a1 a2 a3 a4 a5 (ix4 0 h i 0)
    = ((1 / ((∑ s, ex a0 a1 a2 a3 a4 a5 z i h s) * ∑ s, ex a0 a1 a2 a3 a4 a5 z i h s) : ℝ) : EReal) := by
  have p := sum_exp_pos (fun s => z.lg i h s - mx a0 a1 a2 a3 a4 a5 i h)
  pointwise [val_main_v73, val_main_v72, val_main_v71, val_main_cst_17]
  rw [ref68 H, ← EReal.coe_one, ← EReal.coe_mul, div_coe _ (mul_pos p p).ne']

/-! ### The cotangents of the attention -/

theorem ref80 (i : Fin 4096) (k : Fin 1024) : val_main_v80 (F := Ideal) a6 a7 (ix3 0 i k) = (z.o i k : EReal) := by
  pointwise [val_main_v80, val_main_v79, val_main_v34]
  simp only [H.h6, H.h7, ← EReal.coe_mul, sum_coe]
  rfl

theorem ref82 (h : Fin 4) (e : Fin 256) (i : Fin 4096) : val_main_v82 (F := Ideal) a6 a7 (ix4 0 h e i) = (z.o i (hc h e) : EReal) := by
  pointwise [val_main_v82, val_main_v81]
  exact (ref80 H _ _).trans (congrArg _ (congrArg₂ _ (Fin.ext (by simp only)) (Fin.ext (by simp only))))

/-- The cotangent of the attention weights of query `i` in head `h`. -/
abbrev Re.dp (z : Re) (i : Fin 4096) (h : Fin 4) : Fin 256 → ℝ := dpr (fun e => z.o i (hc h e)) (fun s e => z.kv s (vc h e))

theorem ref83 (h : Fin 4) (i : Fin 4096) (s : Fin 256) : val_main_v83 (F := Ideal) a1 a3 a5 a6 a7 (ix4 0 h i s) = (z.dp i h s : EReal) := by
  pointwise [val_main_v83]
  simp only [ref82 H, ref42 H, ← EReal.coe_mul, sum_coe]
  rfl

theorem ref94 (h : Fin 4) (i : Fin 4096) : val_main_v94 (F := Ideal) a0 a1 a2 a3 a4 a5 a6 a7 (ix2 h i)
    = ((-∑ s, z.dp i h s * (1 / ((∑ s, ex a0 a1 a2 a3 a4 a5 z i h s) * ∑ s, ex a0 a1 a2 a3 a4 a5 z i h s)) * ex a0 a1 a2 a3 a4 a5 z i h s : ℝ) : EReal) := by
  pointwise [val_main_v94, val_main_cst_19]
  rw [reduce_03]
  pointwise [val_main_v91, val_main_v90, val_main_v89, val_main_v88, val_main_cst_18, val_main_v87, val_main_v86]
  simp only [ref83 H, ref66 H, ref73 H, ← EReal.coe_mul, sum_coe, zero_add, ← EReal.coe_neg]

theorem ref100 (h : Fin 4) (i : Fin 4096) (s : Fin 256) : val_main_v100 (F := Ideal) a0 a1 a2 a3 a4 a5 a6 a7 (ix4 0 h i s) = (Hds (z.q i) (z.o i) z.kv h s : EReal) := by
  pointwise [val_main_v100, val_main_v98, val_main_v99, val_main_v97, val_main_cst_20, val_main_v93, val_main_v96, val_main_v92, val_main_v95]
  rw [ref83 H, ref66 H, ref68 H, ref94 H, w16th, div_coe _ (sum_exp_pos _).ne', ← EReal.coe_add, ← EReal.coe_mul, ← EReal.coe_mul]
  rw [softGrad]
  rfl

theorem ref85 (s : Fin 256) (h : Fin 4) (e : Fin 256) : val_main_v85 (F := Ideal) a0 a1 a2 a3 a4 a5 a6 a7 (ix4 0 s h e)
    = ((∑ i, Hp (z.q i) z.kv h s * z.o i (hc h e) : ℝ) : EReal) := by
  pointwise [val_main_v85, val_main_v84]
  simp only [ref82 H, ref70 H, ← EReal.coe_mul, sum_coe]
  exact congrArg _ (Finset.sum_congr rfl fun i _ => mul_comm _ _)

theorem ref102 (s : Fin 256) (h : Fin 4) (e : Fin 256) : val_main_v102 (F := Ideal) a0 a1 a2 a3 a4 a5 a6 a7 (ix4 0 s h e)
    = ((∑ i, Hds (z.q i) (z.o i) z.kv h s * z.q i (hc h e) : ℝ) : EReal) := by
  pointwise [val_main_v102, val_main_v101]
  simp only [ref100 H, ref37 H, ← EReal.coe_mul, sum_coe]

theorem ref107 (s : Fin 256) (k : Fin 2048) : val_main_v107 (F := Ideal) a0 a1 a2 a3 a4 a5 a6 a7 (ix3 0 s k) = (z.dkv s k : EReal) := by
  unfold Re.dkv Tkv
  pointwise [val_main_v107, val_main_v106, val_main_v105]
  split_ifs with h
  · exact (ref102 H _ _ _).trans (congrArg _ (Finset.sum_congr rfl fun i _ => congrArg₂ _ rfl (congrArg _ (Fin.ext (by simp only; omega)))))
  all_goals exact (ref85 H _ _ _).trans (congrArg _ (Finset.sum_congr rfl fun i _ => congrArg₂ _ rfl (congrArg _ (Fin.ext (by simp only; omega)))))

theorem ref111 (i : Fin 4096) (k : Fin 1024) : val_main_v111 (F := Ideal) a0 a1 a2 a3 a4 a5 a6 a7 (ix3 0 i k) = (z.dq i k : EReal) := by
  pointwise [val_main_v111, val_main_v104, val_main_v103]
  simp only [ref100 H, ref41 H, ← EReal.coe_mul, sum_coe]
  rfl

theorem ref112 (i : Fin 4096) (j : Fin 1024) : val_main_v112 (F := Ideal) a0 a1 a2 a3 a4 a5 a6 a7 (ix3 0 i j) = (z.dh i j : EReal) := by
  pointwise [val_main_v112, val_main_v32]
  simp only [ref111 H, H.h4, ← EReal.coe_mul, sum_coe]
  rfl

theorem ref113 (j : Fin 1024) (k : Fin 2048) : val_main_v113 (F := Ideal) a0 a1 a2 a3 a4 a5 a6 a7 (ix3 0 j k) = (z.dw j k : EReal) := by
  pointwise [val_main_v113, val_main_v109]
  unfold val_main_v108
  rw [dot108]
  simp only [ref107 H, ref31 H, ← EReal.coe_mul, sum_coe]
  exact congrArg _ (Finset.sum_congr rfl fun i _ => mul_comm _ _)

/-! ### The results -/

theorem ref118 (j : Fin 1024) : val_main_v118 (F := Ideal) a0 a1 a2 a3 a4 a5 a6 a7 (ix2 0 j) = (z.dgm j : EReal) := by
  pointwise [val_main_v118, val_main_v117, val_main_cst_22]
  rw [reduce_01]
  pointwise [val_main_v116, val_main_v115, val_main_v114, val_main_cst_21, val_main_v110, val_main_v33]
  simp only [ref28 H, ref107 H, H.h5, ← EReal.coe_mul, sum_coe, zero_add]
  exact congrArg _ (Finset.sum_congr rfl fun i _ => mul_comm _ _)

theorem ref141 (j : Fin 1024) : val_main_v141 (F := Ideal) a0 a1 a2 a3 a4 a5 a6 a7 (ix2 0 j) = (z.dg j : EReal) := by
  pointwise [val_main_v141, val_main_v124, val_main_cst_24]
  rw [reduce_01]
  pointwise [val_main_v121, val_main_v120, val_main_v119, val_main_cst_23]
  simp only [ref14 H, ref112 H, ← EReal.coe_mul, sum_coe, zero_add]
  exact congrArg _ (Finset.sum_congr rfl fun i _ => mul_comm _ _)

theorem ref123 (i : Fin 4096) (j : Fin 1024) : val_main_v123 (F := Ideal) a0 a1 a2 a3 a4 a5 a6 a7 (ix3 0 i j) = ((z.dh i j * z.gx j : ℝ) : EReal) := by
  pointwise [val_main_v123, val_main_v122, val_main_v15, val_main_v1]
  rw [ref112 H, H.h2, ← EReal.coe_mul]

theorem ref134 (i : Fin 4096) : val_main_v134 (F := Ideal) a0 a1 a2 a3 a4 a5 a6 a7 (ix1 i)
    = (((∑ k, z.x i k * (z.dh i k * z.gx k)) * (-(1 / 2) * (rinv (z.x i) / ((∑ k, z.x i k * z.x i k) / 1024 + eps))) / 1024 : ℝ) : EReal) := by
  pointwise [val_main_v134, val_main_cst_27]
  rw [reduce_02]
  pointwise [val_main_v133, val_main_v131, val_main_v132, val_main_v127, val_main_cst_26, val_main_v126, val_main_v125, val_main_cst_25]
  simp only [zero_add, ref123 H, ref12 H, H.h0, ← EReal.coe_mul, sum_coe]
  rw [w1024, div_coe _ (by norm_num)]

theorem ref156 (i : Fin 4096) (j : Fin 1024) : val_main_v156 (F := Ideal) a0 a1 a2 a3 a4 a5 a6 a7 (ix2 i j) = (z.dx i j : EReal) := by
  pointwise [val_main_v156, val_main_v140, val_main_v138, val_main_v139, val_main_v130, val_main_v137, val_main_v136, val_main_v129, val_main_v135,
    val_main_v128]
  rw [ref134 H, ref123 H, ref9 H, H.h0, H.h7]
  simp only [← EReal.coe_mul, ← EReal.coe_add]
  rw [Re.dx, ← rmsGrad_eq]
  exact congrArg _ (by ring)

theorem ref158 (i : Fin 4096) (j : Fin 1024) : val_main_v158 (F := Ideal) a7 (ix2 i j) = (z.r i j : EReal) := by
  pointwise [val_main_v158, val_main_v157]
  exact H.h7 _ _

theorem ref160 (i : Fin 4096) (j : Fin 1024) : val_main_v160 (F := Ideal) a0 a2 (ix2 i j) = (rmsRow (z.x i) z.gx j : EReal) := by
  pointwise [val_main_v160, val_main_v159, val_main_v155, val_main_v152, val_main_v154, val_main_v151, val_main_v153, val_main_v150, val_main_v142,
    val_main_v149, val_main_v147, val_main_v148, val_main_v145, val_main_v146, val_main_cst_30, val_main_v144, val_main_cst_29, val_main_v143,
    val_main_cst_28]
  simp only [H.h0, H.h2, ← EReal.coe_mul, sum_coe]
  rw [w1024, weps, div_coe _ (by norm_num), ← EReal.coe_add, rsqrt_ms, ← EReal.coe_mul, ← EReal.coe_mul, rmsRow]

theorem ref162 (i : Fin 4096) (k : Fin 1024) : val_main_v162 (F := Ideal) a0 a1 a2 a3 a4 a5 a6 a7 (ix2 i k) = (z.dq i k : EReal) := by
  pointwise [val_main_v162, val_main_v161]
  exact ref111 H _ _

theorem ref165 (j : Fin 512) (k : Fin 2048) : val_main_v165 (F := Ideal) a0 a1 a2 a3 a4 a5 a6 a7 (ix2 j k) = (z.dw ⟨j.val, by omega⟩ k : EReal) := by
  pointwise [val_main_v165, val_main_v164, val_main_v163]
  exact ref113 H _ _

theorem ref168 (j : Fin 512) (k : Fin 2048) : val_main_v168 (F := Ideal) a0 a1 a2 a3 a4 a5 a6 a7 (ix2 j k) = (z.dw ⟨512 + j.val, by omega⟩ k : EReal) := by
  pointwise [val_main_v168, val_main_v167, val_main_v166]
  exact ref113 H _ _

end Cert.Xattn
end
-- ==== Proof.Xattn.lean ====
/- The gradient of the cross-attention to the memory (`xattn_bwd`): the memory's cotangent over the grid, the arrays, the claim. -/
module

public import Idealize.ShloMosaic.Lib.VecWindow
public import proofs.«01_k».proof.Defs
public import proofs.«01_k».proof.Proof.XattnB
public import proofs.«01_k».proof.Proof.XattnC
public import proofs.«01_k».proof.Proof.Gen.Pre_finite_xattn

@[expose] public section

set_option maxRecDepth 16384

noncomputable section

open Idealize.ShloMosaic Idealize.ShloMosaic.TcCoe Idealize.SL.Sem
open Idealize.ShloMosaic.Pipeline (Dat)
open Cert.Lift

namespace Cert.Xattn
open Cert.KernelXattnIdeal Cert.KernelXattnIdeal.Gen

variable (m : (ℓ : Loc nD τ sig) → Buf (Elt Ideal) ℓ)

section Point
variable (c : Dev nD) {z : Re}
  (H : Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) z)
include H

omit H in
/-- Earlier pieces do not show where later ones cover. -/
theorem canon_append {s : Shape} {e : EltTy} (L' : List (View.Piece (Elt Ideal) s e)) (y : s.Idx) :
    ∀ L : List (View.Piece (Elt Ideal) s e), (∃ p ∈ L, y ∈ p.1.set) → View.canon (L ++ L') y = View.canon L y
  | [], h => by obtain ⟨_, hm, _⟩ := h; exact absurd hm List.not_mem_nil
  | p :: L, h => by
    rw [List.cons_append, View.canon_cons, View.canon_cons]
    by_cases hy : y ∈ p.1.set
    · obtain ⟨x, rfl⟩ : ∃ x, p.1.emb x = y := p.1.exists_idx_of_mem hy
      rw [p.1.overlay_emb, p.1.overlay_emb]
    · rw [p.1.overlay_of_not_mem _ _ hy, p.1.overlay_of_not_mem _ _ hy]
      refine canon_append L' y L ?_
      obtain ⟨q, hm, hq⟩ := h
      rcases List.mem_cons.mp hm with rfl | hm
      · exact absurd hq hy
      · exact ⟨q, hm, hq⟩

/-! ### The memory's cotangent, carried from point to point -/

omit H in
/-- The eight stores of a point into the memory's cotangent, the last store first. -/
abbrev kvStores (C : Vec Ideal S256x1024 .f32) (Wo : Vec Ideal S1024x1024 .bf16) (Q : Vec Ideal S256x1024 .bf16) (KV : Vec Ideal S256x2048 .bf16)
    (X : Vec Ideal S256x2048 .f32) : List (View.Piece (Elt Ideal) S256x2048 .f32) :=
  [⟨Rect.unit ![0, 1792] ![256, 256] inb_S256x2048_S256x256_0_1792,
      k0_pay47 (k0_pay42 (k0_pay10 C Wo)) (k0_pay43 (q3 Q) (k3 KV))
        (View.ld X (Rect.unit ![0, 1792] ![256, 256] inb_S256x2048_S256x256_0_1792))⟩,
    ⟨Rect.unit ![0, 768] ![256, 256] inb_S256x2048_S256x256_0_768,
      k0_pay46 (k0_pay10 C Wo) (q3 Q) (k3 KV) (v3 KV)
        (View.ld X (Rect.unit ![0, 768] ![256, 256] inb_S256x2048_S256x256_0_768))⟩,
    ⟨Rect.unit ![0, 1536] ![256, 256] inb_S256x2048_S256x256_0_1536,
      k0_pay39 (k0_pay31 (q2 Q)) (k0_pay32 (k2 KV)) (k0_pay34 (k0_pay10 C Wo))
        (View.ld X (Rect.unit ![0, 1536] ![256, 256] inb_S256x2048_S256x256_0_1536))⟩,
    ⟨Rect.unit ![0, 512] ![256, 256] inb_S256x2048_S256x256_0_512,
      k0_pay38 (k0_pay31 (q2 Q)) (k0_pay32 (k2 KV)) (k0_pay33 (v2 KV)) (k0_pay34 (k0_pay10 C Wo))
        (View.ld X (Rect.unit ![0, 512] ![256, 256] inb_S256x2048_S256x256_0_512))⟩,
    ⟨Rect.unit ![0, 1280] ![256, 256] inb_S256x2048_S256x256_0_1280,
      k0_pay30 (k0_pay24 (k0_pay10 C Wo)) (k0_pay25 (q1 Q) (k1 KV))
        (View.ld X (Rect.unit ![0, 1280] ![256, 256] inb_S256x2048_S256x256_0_1280))⟩,
    ⟨Rect.unit ![0, 256] ![256, 256] inb_S256x2048_S256x256_0_256,
      k0_pay29 (k0_pay21 (q1 Q)) (k0_pay23 (v1 KV)) (k0_pay24 (k0_pay10 C Wo)) (k0_pay25 (q1 Q) (k1 KV))
        (View.ld X (Rect.unit ![0, 256] ![256, 256] inb_S256x2048_S256x256_0_256))⟩,
    ⟨Rect.unit ![0, 1024] ![256, 256] inb_S256x2048_S256x256_0_1024,
      k0_pay20 (k0_pay13 C Wo) (k0_pay14 (q0 Q) (k0 KV))
        (View.ld X (Rect.unit ![0, 1024] ![256, 256] inb_S256x2048_S256x256_0_1024))⟩,
    ⟨Rect.unit ![0, 0] ![256, 256] inb_S256x2048_S256x256_0_0,
      k0_pay19 (k0_pay11 (q0 Q)) (k0_pay14 (q0 Q) (k0 KV)) (k0_pay15 C Wo (v0 KV)) (k0_pay16 C Wo (q0 Q) (k0 KV) (v0 KV))
        (View.ld X (Rect.unit ![0, 0] ![256, 256] inb_S256x2048_S256x256_0_0))⟩]

omit H in
theorem kvStores_cover (C : Vec Ideal S256x1024 .f32) (Wo : Vec Ideal S1024x1024 .bf16) (Q : Vec Ideal S256x1024 .bf16) (KV : Vec Ideal S256x2048 .bf16)
    (X : Vec Ideal S256x2048 .f32) : ∀ y : S256x2048.Idx, ∃ p ∈ kvStores C Wo Q KV X, y ∈ p.1.set :=
  View.cover_of_tiledL _ ![256, 256] (by rfl)

omit H in
theorem kvStores_at {C : Vec Ideal S256x1024 .f32} {Wo : Vec Ideal S1024x1024 .bf16} {Q : Vec Ideal S256x1024 .bf16} {KV : Vec Ideal S256x2048 .bf16}
    {T : Fin 256 → Fin 2048 → ℝ} (K : Adds C Wo Q KV T) (X : Vec Ideal S256x2048 .f32) (s : Fin 256) (k : Fin 2048) :
    View.canon (kvStores C Wo Q KV X) (ix2 s k) = X (ix2 s k) + (T s k : EReal) := by
  have ld (o : ℕ) (inb) (a e : Fin 256) (h : k.val = o + e.val) :
      View.ld X (Rect.unit (s := S256x2048) ![0, o] ![256, 256] inb) (ix2 a e) = X (ix2 a k) := by
    pointwise
    exact congrArg X (congrArg₂ ix2 (Fin.ext (by simp)) (Fin.ext (by simp; omega)))
  have fin {A b : EReal} {k' : Fin 2048} (h : A = b + (T s k' : EReal)) (hb : b = X (ix2 s k)) (hk : k'.val = k.val) :
      A = X (ix2 s k) + (T s k : EReal) := by rw [h, hb, Fin.ext hk]
  canon_tiles y h
  all_goals
    idx_vars y
    obtain rfl : y0 = s := Fin.ext h0.symm
  · exact fin (K.av3 _ y0 y1) (ld 1792 _ _ _ (by omega)) (by simp; omega)
  · exact fin (K.ak3 _ y0 y1) (ld 768 _ _ _ (by omega)) (by simp; omega)
  · exact fin (K.av2 _ y0 y1) (ld 1536 _ _ _ (by omega)) (by simp; omega)
  · exact fin (K.ak2 _ y0 y1) (ld 512 _ _ _ (by omega)) (by simp; omega)
  · exact fin (K.av1 _ y0 y1) (ld 1280 _ _ _ (by omega)) (by simp; omega)
  · exact fin (K.ak1 _ y0 y1) (ld 256 _ _ _ (by omega)) (by simp; omega)
  · exact fin (K.av0 _ y0 y1) (ld 1024 _ _ _ (by omega)) (by simp; omega)
  · exact fin (K.ak0 _ y0 y1) (ld 0 _ _ _ (by omega)) (by simp; omega)

/-- The memory's cotangent after a point. -/
abbrev scr (t : Fin cfg0.N) : Vec Ideal S256x2048 .f32 := (outsAt0 m c t.val t.isLt).2.2.2.2.2.2.2.2

/-- The addend of point `t`. -/
def kvPart (z : Re) (t : Fin cfg0.N) (s : Fin 256) (k : Fin 2048) : ℝ := ∑ a, Tkv (z.q (row t a)) (z.o (row t a)) z.kv s k

set_option maxHeartbeats 1000000 in
theorem scr_A (t : Fin cfg0.N) (h0 : t.val % 16 = 0) (s : Fin 256) (k : Fin 2048) :
    (outsAt0 m c t.val t.isLt).2.2.2.2.2.2.2.2 (ix2 s k) = 0 + (kvPart z t s k : EReal) := by
  have key := kvStores_at (adds (rd m c H t)) (k0_pay7 (F := Ideal)) s k
  rw [outsAt0_A m c t h0 (by omega)]
  frame_open
  simp (disch := decide) only [↓ View.readCov_skip, ↓ View.readCov_cons_toLoadRect, ↓ View.readCov_fill]
  frame_out
  refine Eq.trans ?_ (key.trans ?_)
  · exact canon_append [_] _ _ (kvStores_cover _ _ _ _ _ _)
  pointwise [k0_pay7]
  rfl

theorem scr_B (t : Fin cfg0.N) (h0 : ¬t.val % 16 = 0) (s : Fin 256) (k : Fin 2048) :
    (outsAt0 m c t.val t.isLt).2.2.2.2.2.2.2.2 (ix2 s k)
      = (outsAt0 m c (t.val - 1) (Nat.lt_of_le_of_lt (Nat.sub_le _ _) t.isLt)).2.2.2.2.2.2.2.2 (ix2 s k) + (kvPart z t s k : EReal) := by
  have key := kvStores_at (adds (rd m c H t)) (scr m c ⟨t.val - 1, Nat.lt_of_le_of_lt (Nat.sub_le _ _) t.isLt⟩) s k
  by_cases h1 : t.val % 16 = 15
  · rw [outsAt0_C m c t h0 h1]; frame_out; simp only [read_unread_whole]; exact key
  · rw [outsAt0_B m c t h0 h1]; frame_out; simp only [read_unread_whole]; exact key

/-- The memory's cotangent after the last point: the points' addends in turn, from zero. -/
theorem scr_last (t : Fin cfg0.N) (ht : t.val + 1 = cfg0.N) (s : Fin 256) (k : Fin 2048) : scr m c t (ix2 s k) = (z.dkv s k : EReal) := by
  have h := Pipeline.eq_sum_fin_of_reset_step_apply_last (fun n hn (b : Fin 256 × Fin 2048) => (outsAt0 m c n hn).2.2.2.2.2.2.2.2 (ix2 b.1 b.2)) 16
    (fun _ => (0 : EReal)) (fun t b => (kvPart z t b.1 b.2 : EReal))
    (fun t h0 b => scr_A m c H t h0 b.1 b.2) (fun t h0 b => scr_B m c H t h0 b.1 b.2) (by decide) t ht (s, k)
  refine h.trans ?_
  rw [zero_add, sum_coe]
  refine congrArg _ ?_
  unfold Re.dkv kvPart
  exact (Fin.sum_univ_tiles 16 256 rfl fun i : Fin 4096 => Tkv (z.q i) (z.o i) z.kv s k).symm

omit H in
/-- A load of the whole buffer reads what its stores left. -/
theorem readCov_all {sig' : RefSig} {κ : Kind} {sp : Space} (v : View sig' κ sp S256x2048 .f32) (L : List (View.Piece (Elt Ideal) S256x2048 .f32)) :
    v.readCov L (Rect.unit ![0, 0] ![256, 2048] inb_S256x2048_S256x2048_0_0).toLoadRect = View.canon L := by
  rw [View.readCov_eq_canon']
  funext j
  exact congrArg (View.canon L) (Rect.emb_unit_full (s := S256x2048) (off := ![0, 0]) inb_S256x2048_S256x2048_0_0 j)

omit H in
/-- What the last point leaves of the memory's cotangent. -/
abbrev scrLast (t : Fin cfg0.N) : Vec Ideal S256x2048 .f32 :=
  View.canon (kvStores (iblk m c 0 t) (iblk m c 6 t) (iblk m c 3 t) (iblk m c 4 t) (scr m c ⟨t.val - 1, Nat.lt_of_le_of_lt (Nat.sub_le _ _) t.isLt⟩))

theorem scrLast_eq (t : Fin cfg0.N) (ht : t.val + 1 = cfg0.N) (s : Fin 256) (k : Fin 2048) : scrLast m c t (ix2 s k) = (z.dkv s k : EReal) := by
  have hN : cfg0.N = 16 := rfl
  refine Eq.trans ?_ (scr_last m c H t ht s k)
  unfold scr
  rw [outsAt0_C m c t (by omega) (by omega)]
  frame_out
  simp only [read_unread_whole]

omit H in
/-- A load of half the rows. -/
theorem ld_rows (X : Vec Ideal S1024x2048 .bf16) (o : ℕ) (inb) (a : Fin 512) (e : Fin 1024) (k : Fin 2048) (h : e.val = o + a.val) :
    View.ld X (Rect.unit (s := S1024x2048) ![o, 0] ![512, 2048] inb) (ix2 a k) = X (ix2 e k) := by
  pointwise
  exact congrArg X (congrArg₂ ix2 (Fin.ext (by simp; omega)) (Fin.ext (by simp)))

set_option maxHeartbeats 1000000 in
/-- The upper rows of the gradient of the weights of keys and values after the last point. -/
theorem out15 (t : Fin cfg0.N) (ht : t.val + 1 = cfg0.N) (a : Fin 512) (k : Fin 2048) :
    (outsAt0 m c t.val t.isLt).2.2.2.2.2.1 (ix2 a k) = (z.dw ⟨a.val, by omega⟩ k : EReal) := by
  have hN : cfg0.N = 16 := rfl
  have h0 : ¬t.val % 16 = 0 := by omega
  have h1 : t.val % 16 = 15 := by omega
  have key := pay_dw (scrLast_eq m c H t ht) (C7 m c H t)
  rw [outsAt0_C m c t h0 h1]
  frame_out
  rw [View.readCov_fill]
  simp only [read_unread_whole]
  rw [readCov_all]
  · exact (ld_rows _ 0 _ a ⟨a.val, by omega⟩ k (by simp)).trans (key ⟨a.val, by omega⟩ k)
  · intro i
    fin_cases i <;> rfl

set_option maxHeartbeats 1000000 in
/-- The lower rows of the gradient of the weights of keys and values after the last point. -/
theorem out16 (t : Fin cfg0.N) (ht : t.val + 1 = cfg0.N) (a : Fin 512) (k : Fin 2048) :
    (outsAt0 m c t.val t.isLt).2.2.2.2.2.2.1 (ix2 a k) = (z.dw ⟨512 + a.val, by omega⟩ k : EReal) := by
  have hN : cfg0.N = 16 := rfl
  have h0 : ¬t.val % 16 = 0 := by omega
  have h1 : t.val % 16 = 15 := by omega
  have key := pay_dw (scrLast_eq m c H t ht) (C7 m c H t)
  rw [outsAt0_C m c t h0 h1]
  frame_out
  rw [View.readCov_fill]
  simp only [read_unread_whole]
  rw [readCov_all]
  · exact (ld_rows _ 512 _ a ⟨512 + a.val, by omega⟩ k (by simp)).trans (key ⟨512 + a.val, by omega⟩ k)
  · intro i
    fin_cases i <;> rfl

set_option maxHeartbeats 1000000 in
/-- The gradient of the memory's scale after the last point. -/
theorem out17 (t : Fin cfg0.N) (ht : t.val + 1 = cfg0.N) (j : Fin 1024) :
    (outsAt0 m c t.val t.isLt).2.2.2.2.2.2.2.1 (ix2 0 j) = (z.dgm j : EReal) := by
  have hN : cfg0.N = 16 := rfl
  have h0 : ¬t.val % 16 = 0 := by omega
  have h1 : t.val % 16 = 15 := by omega
  have key := pay_dgm (scrLast_eq m c H t ht) (C9 m c H t) (C8 m c H t) j
  rw [outsAt0_C m c t h0 h1]
  frame_out
  simp only [read_unread_whole]
  rw [readCov_all]
  exact key

/-! ### The arrays -/

theorem arr10 : (dats m 0 c).arrAt 10 cfg0.N = fun i => (z.dx (i 0) (i 1) : EReal) := by
  refine (dats m 0 c).arrAt_eq_of_covers 10 _ (by decide +kernel) fun t _ y => ?_
  blk_simp
  rw [after0_10]
  idx_vars y
  rw [out10 m c H]
  exact congrArg _ (congrArg₂ _ (Fin.ext (by blk_simp [idx t])) (Fin.ext (by blk_simp [idx t])))

theorem arr12 : (dats m 0 c).arrAt 12 cfg0.N = fun i => (z.r (i 0) (i 1) : EReal) := by
  refine (dats m 0 c).arrAt_eq_of_covers 12 _ (by decide +kernel) fun t _ y => ?_
  blk_simp
  rw [after0_12]
  idx_vars y
  rw [out12 m c H]
  exact congrArg _ (congrArg₂ _ (Fin.ext (by blk_simp [idx t])) (Fin.ext (by blk_simp [idx t])))

theorem arr13 : (dats m 0 c).arrAt 13 cfg0.N = fun i => (rmsRow (z.x (i 0)) z.gx (i 1) : EReal) := by
  refine (dats m 0 c).arrAt_eq_of_covers 13 _ (by decide +kernel) fun t _ y => ?_
  blk_simp
  rw [after0_13]
  idx_vars y
  rw [out13 m c H]
  exact congrArg _ (congrArg₂ (fun i k => rmsRow (z.x i) z.gx k) (Fin.ext (by blk_simp [idx t])) (Fin.ext (by blk_simp [idx t])))

theorem arr14 : (dats m 0 c).arrAt 14 cfg0.N = fun i => (z.dq (i 0) (i 1) : EReal) := by
  refine (dats m 0 c).arrAt_eq_of_covers 14 _ (by decide +kernel) fun t _ y => ?_
  blk_simp
  rw [after0_14]
  idx_vars y
  rw [out14 m c H]
  exact congrArg _ (congrArg₂ _ (Fin.ext (by blk_simp [idx t])) (Fin.ext (by blk_simp [idx t])))

theorem arr11 : (dats m 0 c).arrAt 11 cfg0.N = fun i => (z.dg (i 1) : EReal) := by
  refine (dats m 0 c).arrAt_eq_of_after_last 11 t0_15 (by decide +kernel) _ fun j => ?_
  blk_simp
  rw [after0_11]
  idx_vars j
  obtain rfl : j0 = 0 := Subsingleton.elim _ _
  rw [out11 m c H _ rfl]

theorem arr17 : (dats m 0 c).arrAt 17 cfg0.N = fun i => (z.dgm (i 1) : EReal) := by
  refine (dats m 0 c).arrAt_eq_of_after_last 17 t0_15 (by decide +kernel) _ fun j => ?_
  blk_simp
  rw [after0_17]
  idx_vars j
  obtain rfl : j0 = 0 := Subsingleton.elim _ _
  rw [out17 m c H _ rfl]

theorem arr15 : (dats m 0 c).arrAt 15 cfg0.N = fun i => (z.dw ⟨(i 0).val, by have := (i 0).isLt; simp at this; omega⟩ (i 1) : EReal) := by
  refine (dats m 0 c).arrAt_eq_of_after_last 15 t0_15 (by decide +kernel) _ fun j => ?_
  blk_simp
  rw [after0_15]
  idx_vars j
  rw [out15 m c H _ rfl]

theorem arr16 : (dats m 0 c).arrAt 16 cfg0.N = fun i => (z.dw ⟨512 + (i 0).val, by have := (i 0).isLt; simp at this; omega⟩ (i 1) : EReal) := by
  refine (dats m 0 c).arrAt_eq_of_after_last 16 t0_15 (by decide +kernel) _ fun j => ?_
  blk_simp
  rw [after0_16]
  idx_vars j
  rw [out16 m c H _ rfl]

end Point

/-! ## The claim -/

/-- The precondition makes the arguments coercions of reals. -/
theorem args_of_pre (a0 : Vec Ideal S1x4096x1024 .f32) (a1 : Vec Ideal S1x256x1024 .f32) (a2 a3 : Vec Ideal S1x1024 .f32) (a4 : Vec Ideal S1x1024x1024 .f32)
    (a5 : Vec Ideal S1x1024x2048 .f32) (a6 : Vec Ideal S1x1024x1024 .f32) (a7 : Vec Ideal S1x4096x1024 .f32) [Cert.Pre_finite_xattn.Facts]
    (h : (Cert.Pre_finite_xattn.fn (F := Ideal) a0 a1 a2 a3 a4 a5 a6 a7).1 = (fun _ => 1#1)
      ∧ (Cert.Pre_finite_xattn.fn (F := Ideal) a0 a1 a2 a3 a4 a5 a6 a7).2.1 = (fun _ => 1#1)
      ∧ (Cert.Pre_finite_xattn.fn (F := Ideal) a0 a1 a2 a3 a4 a5 a6 a7).2.2.1 = (fun _ => 1#1)
      ∧ (Cert.Pre_finite_xattn.fn (F := Ideal) a0 a1 a2 a3 a4 a5 a6 a7).2.2.2.1 = (fun _ => 1#1)
      ∧ (Cert.Pre_finite_xattn.fn (F := Ideal) a0 a1 a2 a3 a4 a5 a6 a7).2.2.2.2.1 = (fun _ => 1#1)
      ∧ (Cert.Pre_finite_xattn.fn (F := Ideal) a0 a1 a2 a3 a4 a5 a6 a7).2.2.2.2.2.1 = (fun _ => 1#1)
      ∧ (Cert.Pre_finite_xattn.fn (F := Ideal) a0 a1 a2 a3 a4 a5 a6 a7).2.2.2.2.2.2.1 = (fun _ => 1#1)
      ∧ (Cert.Pre_finite_xattn.fn (F := Ideal) a0 a1 a2 a3 a4 a5 a6 a7).2.2.2.2.2.2.2 = (fun _ => 1#1)) :
    Args a0 a1 a2 a3 a4 a5 a6 a7 ⟨fun i j => (a0 (ix3 0 i j)).toReal, fun i j => (a1 (ix3 0 i j)).toReal, fun j => (a2 (ix2 0 j)).toReal,
      fun j => (a3 (ix2 0 j)).toReal, fun i j => (a4 (ix3 0 i j)).toReal, fun i j => (a5 (ix3 0 i j)).toReal, fun i j => (a6 (ix3 0 i j)).toReal,
      fun i j => (a7 (ix3 0 i j)).toReal⟩ :=
  ⟨fun i j => real_of_abs (congrFun h.1 (ix3 0 i j)),
    fun i j => real_of_abs (congrFun h.2.1 (ix3 0 i j)),
    fun j => real_of_abs (congrFun h.2.2.1 (ix2 0 j)),
    fun j => real_of_abs (congrFun h.2.2.2.1 (ix2 0 j)),
    fun i j => real_of_abs (congrFun h.2.2.2.2.1 (ix3 0 i j)),
    fun i j => real_of_abs (congrFun h.2.2.2.2.2.1 (ix3 0 i j)),
    fun i j => real_of_abs (congrFun h.2.2.2.2.2.2.1 (ix3 0 i j)),
    fun i j => real_of_abs (congrFun h.2.2.2.2.2.2.2 (ix3 0 i j))⟩

set_option maxHeartbeats 4000000 in
/-- The gradient call of the cross-attention returns what differentiation of the forward lines returns. -/
theorem value [Cert.Pre_finite_xattn.Facts] : Cert.algebraic_KernelXattnIdeal_ReferenceXattnIdeal_pre_finite_xattn := by
  intro m g m' g' hpre hagree
  have H := fun c => args_of_pre _ _ _ _ _ _ _ _ (hpre c)
  refine ⟨_, _, _, _, _, _, _, _, Value.run_blocks m g, ?_⟩
  refine (θ_run _ _ _).mono (fun s h c => ?_) (Cert.ReferenceXattnIdeal.Value.run m' g')
  obtain ⟨e0, e1, e2, e3, e4, e5, e6, e7⟩ := hagree c
  change StableHlo.launchContents m' c (Proc.tc.devRef Cert.ReferenceXattnIdeal.main_arg0) = _ at e0
  change StableHlo.launchContents m' c (Proc.tc.devRef Cert.ReferenceXattnIdeal.main_arg1) = _ at e1
  change StableHlo.launchContents m' c (Proc.tc.devRef Cert.ReferenceXattnIdeal.main_arg2) = _ at e2
  change StableHlo.launchContents m' c (Proc.tc.devRef Cert.ReferenceXattnIdeal.main_arg3) = _ at e3
  change StableHlo.launchContents m' c (Proc.tc.devRef Cert.ReferenceXattnIdeal.main_arg4) = _ at e4
  change StableHlo.launchContents m' c (Proc.tc.devRef Cert.ReferenceXattnIdeal.main_arg5) = _ at e5
  change StableHlo.launchContents m' c (Proc.tc.devRef Cert.ReferenceXattnIdeal.main_arg6) = _ at e6
  change StableHlo.launchContents m' c (Proc.tc.devRef Cert.ReferenceXattnIdeal.main_arg7) = _ at e7
  obtain ⟨h0, h1, h2, h3, h4, h5, h6, h7, hr⟩ := h c
  refine ⟨h0.trans ?_, h1.trans ?_, h2.trans ?_, h3.trans ?_, h4.trans ?_, h5.trans ?_, h6.trans ?_, h7.trans ?_, hr⟩
  · rw [Cert.ReferenceXattnIdeal.Read.val_main_v156_eq, e0, e1, e2, e3, e4, e5, e6, e7, arr10 m c (H c)]
    funext i
    idx_vars i
    exact ref156 (H c) _ _
  · rw [Cert.ReferenceXattnIdeal.Read.val_main_v141_eq, e0, e1, e2, e3, e4, e5, e6, e7, arr11 m c (H c)]
    funext i
    idx_vars i
    obtain rfl : i0 = 0 := Subsingleton.elim _ _
    exact ref141 (H c) _
  · rw [Cert.ReferenceXattnIdeal.Read.val_main_v158_eq, e7, arr12 m c (H c)]
    funext i
    idx_vars i
    exact ref158 (H c) _ _
  · rw [Cert.ReferenceXattnIdeal.Read.val_main_v160_eq, e0, e2, arr13 m c (H c)]
    funext i
    idx_vars i
    exact ref160 (H c) _ _
  · rw [Cert.ReferenceXattnIdeal.Read.val_main_v162_eq, e0, e1, e2, e3, e4, e5, e6, e7, arr14 m c (H c)]
    funext i
    idx_vars i
    exact ref162 (H c) _ _
  · rw [Cert.ReferenceXattnIdeal.Read.val_main_v165_eq, e0, e1, e2, e3, e4, e5, e6, e7, arr15 m c (H c)]
    funext i
    idx_vars i
    exact ref165 (H c) _ _
  · rw [Cert.ReferenceXattnIdeal.Read.val_main_v168_eq, e0, e1, e2, e3, e4, e5, e6, e7, arr16 m c (H c)]
    funext i
    idx_vars i
    exact ref168 (H c) _ _
  · rw [Cert.ReferenceXattnIdeal.Read.val_main_v118_eq, e0, e1, e2, e3, e4, e5, e6, e7, arr17 m c (H c)]
    funext i
    idx_vars i
    obtain rfl : i0 = 0 := Subsingleton.elim _ _
    exact ref118 (H c) _

end Cert.Xattn
end
-- ==== Proof.Head.lean ====
/- The last feed-forward sublayer with the final normalisation, the loss and the loss's gradient (`ffn2_fwd` with its head). -/
module

public import proofs.«01_k».proof.Defs
public import proofs.«01_k».proof.Proof.Ffn
public import proofs.«01_k».proof.Proof.Gen.KernelHeadIdeal.Value
public import proofs.«01_k».proof.Proof.Gen.ReferenceHeadIdeal.Read
public import proofs.«01_k».proof.Proof.Gen.Pre_finite_head

@[expose] public section

set_option maxRecDepth 16384

noncomputable section

open Idealize.ShloMosaic Idealize.ShloMosaic.TcCoe Idealize.SL.Sem
open Idealize.ShloMosaic.Pipeline (Dat)
open Cert.Lift
open Cert.Ffn (pre act gateCol upCol)

namespace Cert.Head
open Cert.KernelHeadIdeal Cert.KernelHeadIdeal.Gen

/-! ## The results over the reals -/

/-- The sublayer's output row. -/
def yrow (x g : Fin 1024 → ℝ) (w : Fin 1024 → Fin 5632 → ℝ) (d : Fin 2816 → Fin 1024 → ℝ) (j : Fin 1024) : ℝ :=
  x j + 1 / 2 * ∑ k, act (fun k => pre x g w (gateCol k)) (fun k => pre x g w (upCol k)) k * d k j

/-- The error of a normalised row against the target. -/
def err (y f t : Fin 1024 → ℝ) (j : Fin 1024) : ℝ := rmsRow y f j - t j

/-- The arguments' reals: rows, scale, weights, final scale, target. -/
structure Re where
  x : Fin 4096 → Fin 1024 → ℝ
  g : Fin 1024 → ℝ
  w : Fin 1024 → Fin 5632 → ℝ
  d : Fin 2816 → Fin 1024 → ℝ
  f : Fin 1024 → ℝ
  t : Fin 4096 → Fin 1024 → ℝ

variable (z : Re)
/-- The gate of row `i`. -/
def Re.gate (i : Fin 4096) (k : Fin 2816) : ℝ := pre (z.x i) z.g z.w (gateCol k)
/-- The value of row `i`. -/
def Re.up (i : Fin 4096) (k : Fin 2816) : ℝ := pre (z.x i) z.g z.w (upCol k)
/-- The sublayer's output. -/
def Re.y (i : Fin 4096) : Fin 1024 → ℝ := yrow (z.x i) z.g z.w z.d
/-- The error of row `i`. -/
def Re.e (i : Fin 4096) : Fin 1024 → ℝ := err (z.y i) z.f (z.t i)
/-- The loss. -/
def Re.loss : ℝ := 1 / 2 * ∑ i, (∑ j, z.e i j * z.e i j) / 1024
/-- The gradient of the loss by the sublayer's output. -/
def Re.dy (i : Fin 4096) (j : Fin 1024) : ℝ := rmsGrad (z.y i) (fun j => z.e i j / 1024 * z.f j) j
/-- The gradient of the loss by the final scale. -/
def Re.df (j : Fin 1024) : ℝ := ∑ i, z.e i j / 1024 * (z.y i j * rinv (z.y i))

/-- The arguments are the coercions of these reals. -/
structure Args (a0 : Vec Ideal S1x4096x1024 .f32) (a1 : Vec Ideal S1x1024 .f32) (a2 : Vec Ideal S1x1024x5632 .f32)
    (a3 : Vec Ideal S1x2816x1024 .f32) (a4 : Vec Ideal S1024 .f32) (a5 : Vec Ideal S1x4096x1024 .f32) (z : Re) : Prop where
  h0 : ∀ i j, a0 (ix3 0 i j) = (z.x i j : EReal)
  h1 : ∀ j, a1 (ix2 0 j) = (z.g j : EReal)
  h2 : ∀ i j, a2 (ix3 0 i j) = (z.w i j : EReal)
  h3 : ∀ i j, a3 (ix3 0 i j) = (z.d i j : EReal)
  h4 : ∀ j, a4 (ix1 j) = (z.f j : EReal)
  h5 : ∀ i j, a5 (ix3 0 i j) = (z.t i j : EReal)

/-! ## One block's payloads -/

section Block
variable {X : Vec Ideal S256x1024 .f32} {G : Vec Ideal S1x1024 .f32} {W : Vec Ideal S1024x5632 .bf16} {D : Vec Ideal S2816x1024 .bf16}
  {x : Fin 256 → Fin 1024 → ℝ} {g : Fin 1024 → ℝ} {w : Fin 1024 → Fin 5632 → ℝ} {d : Fin 2816 → Fin 1024 → ℝ}

/-- The columns of the joint weights from `o` on. -/
abbrev wcol (W : Vec Ideal S1024x5632 .bf16) (o : ℕ) (h : ∀ a, (![0, o] : Fin 2 → ℕ) a + (![1024, 1408] : Fin 2 → ℕ) a ≤ S1024x5632.size a) : Vec Ideal S1024x1408 .bf16 :=
  View.ld W (Rect.unit (s := S1024x5632) ![0, o] ![1024, 1408] h)

/-- The rows of the output weights from `o` on. -/
abbrev drow (D : Vec Ideal S2816x1024 .bf16) (o : ℕ) (h : ∀ a, (![o, 0] : Fin 2 → ℕ) a + (![1408, 1024] : Fin 2 → ℕ) a ≤ S2816x1024.size a) : Vec Ideal S1408x1024 .bf16 :=
  View.ld D (Rect.unit (s := S2816x1024) ![o, 0] ![1408, 1024] h)

theorem ld_wcol (hW : ∀ a b, W (ix2 a b) = (w a b : EReal)) (o : ℕ) (h) (a : Fin 1024) (k : Fin 1408) (e : Fin 5632) (he : e.val = o + k.val) :
    wcol W o h (ix2 a k) = (w a e : EReal) := by
  rw [← hW]
  pointwise [wcol]
  exact congrArg W (congrArg₂ ix2 (Fin.ext (by simp)) (Fin.ext (by simp; omega)))

theorem ld_drow (hD : ∀ a b, D (ix2 a b) = (d a b : EReal)) (o : ℕ) (h) (k : Fin 1408) (b : Fin 1024) (e : Fin 2816) (he : e.val = o + k.val) :
    drow D o h (ix2 k b) = (d e b : EReal) := by
  rw [← hD]
  pointwise [drow]
  exact congrArg D (congrArg₂ ix2 (Fin.ext (by simp; omega)) (Fin.ext (by simp)))

/-- The normalised rows. -/
theorem pay_h (hX : ∀ a b, X (ix2 a b) = (x a b : EReal)) (hG : ∀ b, G (ix2 0 b) = (g b : EReal)) (a : Fin 256) (b : Fin 1024) :
    k0_pay4 X G (ix2 a b) = (rmsRow (x a) g b : EReal) := by
  pointwise [k0_pay4, k0_pay3]
  simp only [hX, hG, ← EReal.coe_mul, sum_coe]
  rw [w1024, weps, div_coe _ (by norm_num), ← EReal.coe_add, rsqrt_ms, ← EReal.coe_mul, ← EReal.coe_mul, rmsRow]

/-- Columns of the joint projection, first column group. -/
theorem pay_p0 (hX : ∀ a b, X (ix2 a b) = (x a b : EReal)) (hG : ∀ b, G (ix2 0 b) = (g b : EReal)) (hW : ∀ a b, W (ix2 a b) = (w a b : EReal))
    (o : ℕ) (h) (a : Fin 256) (k : Fin 1408) (e : Fin 5632) (he : e.val = o + k.val) :
    k0_pay6 X G (wcol W o h) (ix2 a k) = (pre (x a) g w e : EReal) := by
  pointwise [k0_pay6]
  simp only [pay_h hX hG, fun j => ld_wcol hW o h j k e he, ← EReal.coe_mul, sum_coe]
  rfl

/-- The same of any normalised rows. -/
theorem pay_p1 {Hn : FVec Ideal S256x1024 .bf16} (hH : ∀ a b, Hn (ix2 a b) = (rmsRow (x a) g b : EReal)) (hW : ∀ a b, W (ix2 a b) = (w a b : EReal))
    (o : ℕ) (h) (a : Fin 256) (k : Fin 1408) (e : Fin 5632) (he : e.val = o + k.val) :
    k0_pay11 Hn (wcol W o h) (ix2 a k) = (pre (x a) g w e : EReal) := by
  pointwise [k0_pay11]
  simp only [hH, fun j => ld_wcol hW o h j k e he, ← EReal.coe_mul, sum_coe]
  rfl

/-- The block of the sublayer's output. -/
abbrev yblk (X : Vec Ideal S256x1024 .f32) (G : Vec Ideal S1x1024 .f32) (W : Vec Ideal S1024x5632 .bf16) (D : Vec Ideal S2816x1024 .bf16) : FVec Ideal S256x1024 .f32 :=
  k0_pay15 (k0_pay3 X) (k0_pay4 X G) (k0_pay5 (F := Ideal))
    (k0_pay10 X G (wcol W 0 inb_S1024x5632_S1024x1408_0_0) (wcol W 2816 inb_S1024x5632_S1024x1408_0_2816))
    (drow D 0 inb_S2816x1024_S1408x1024_0_0) (wcol W 1408 inb_S1024x5632_S1024x1408_0_1408) (wcol W 4224 inb_S1024x5632_S1024x1408_0_4224)
    (drow D 1408 inb_S2816x1024_S1408x1024_1408_0)

/-- The first half of the activation. -/
theorem pay_a0 (hX : ∀ a b, X (ix2 a b) = (x a b : EReal)) (hG : ∀ b, G (ix2 0 b) = (g b : EReal)) (hW : ∀ a b, W (ix2 a b) = (w a b : EReal))
    (a : Fin 256) (k : Fin 1408) :
    k0_pay10 X G (wcol W 0 inb_S1024x5632_S1024x1408_0_0) (wcol W 2816 inb_S1024x5632_S1024x1408_0_2816) (ix2 a k)
      = (act (fun k => pre (x a) g w (gateCol k)) (fun k => pre (x a) g w (upCol k)) ⟨k.val, by omega⟩ : EReal) := by
  pointwise [k0_pay10]
  have e : k0_pay7 X G (wcol W 2816 inb_S1024x5632_S1024x1408_0_2816) (ix2 a k) = (pre (x a) g w (upCol ⟨k.val, by omega⟩) : EReal) :=
    pay_p0 hX hG hW _ _ a k _ rfl
  rw [e, pay_p0 hX hG hW _ _ a k (gateCol ⟨k.val, by omega⟩) (by simp), ← EReal.coe_one, sg_kernel, ← EReal.coe_mul, ← EReal.coe_mul]
  rfl

theorem pay_y (hX : ∀ a b, X (ix2 a b) = (x a b : EReal)) (hG : ∀ b, G (ix2 0 b) = (g b : EReal)) (hW : ∀ a b, W (ix2 a b) = (w a b : EReal))
    (hD : ∀ a b, D (ix2 a b) = (d a b : EReal)) (a : Fin 256) (j : Fin 1024) : yblk X G W D (ix2 a j) = (yrow (x a) g w d j : EReal) := by
  have hH := pay_h hX hG
  have e1 (k : Fin 1408) : k0_pay11 (k0_pay4 X G) (wcol W 1408 inb_S1024x5632_S1024x1408_0_1408) (ix2 a k)
      = (pre (x a) g w (gateCol ⟨1408 + k.val, by omega⟩) : EReal) := pay_p1 hH hW _ _ a k _ rfl
  have e2 (k : Fin 1408) : k0_pay12 (k0_pay4 X G) (wcol W 4224 inb_S1024x5632_S1024x1408_0_4224) (ix2 a k)
      = (pre (x a) g w (upCol ⟨1408 + k.val, by omega⟩) : EReal) := pay_p1 hH hW _ _ a k _ (by simp; omega)
  have e3 (k : Fin 1408) := ld_drow hD 0 inb_S2816x1024_S1408x1024_0_0 k j ⟨k.val, by omega⟩ (by simp)
  have e4 (k : Fin 1408) := ld_drow hD 1408 inb_S2816x1024_S1408x1024_1408_0 k j ⟨1408 + k.val, by omega⟩ rfl
  pointwise [yblk, k0_pay15, k0_pay5, k0_pay3]
  simp only [e1, e2, e3, e4, pay_a0 hX hG hW, hX, ← EReal.coe_one, sg_kernel, ← EReal.coe_mul, sum_coe]
  rw [whalf]
  simp only [← EReal.coe_mul, ← EReal.coe_add]
  unfold yrow
  rw [sum_cut 1408 1408 rfl]
  rfl

end Block

section Loss
variable {Y : FVec Ideal S256x1024 .f32} {Fs : Vec Ideal S1x1024 .f32} {T : Vec Ideal S256x1024 .f32}
  {y t : Fin 256 → Fin 1024 → ℝ} {f : Fin 1024 → ℝ}

theorem pay_r (hY : ∀ a b, Y (ix2 a b) = (y a b : EReal)) (a : Fin 256) : k0_pay18 Y (ix2 a 0) = (rinv (y a) : EReal) := by
  pointwise [k0_pay18]
  simp only [hY, ← EReal.coe_mul, sum_coe]
  rw [w1024, weps, div_coe _ (by norm_num), ← EReal.coe_add, rsqrt_ms]

theorem pay_n (hY : ∀ a b, Y (ix2 a b) = (y a b : EReal)) (a : Fin 256) (j : Fin 1024) : k0_pay19 Y (ix2 a j) = ((y a j * rinv (y a) : ℝ) : EReal) := by
  pointwise [k0_pay19]
  rw [pay_r hY, hY, EReal.coe_mul]

theorem pay_e (hY : ∀ a b, Y (ix2 a b) = (y a b : EReal)) (hF : ∀ b, Fs (ix2 0 b) = (f b : EReal)) (hT : ∀ a b, T (ix2 a b) = (t a b : EReal))
    (a : Fin 256) (j : Fin 1024) : k0_pay21 Y Fs T (ix2 a j) = (err (y a) f (t a) j : EReal) := by
  pointwise [k0_pay21, k0_pay20]
  rw [pay_n hY, hF, hT, ← EReal.coe_mul, ← EReal.coe_sub]
  rfl

theorem pay_loss {Z : Vec Ideal S1x128 .f32} (hY : ∀ a b, Y (ix2 a b) = (y a b : EReal)) (hF : ∀ b, Fs (ix2 0 b) = (f b : EReal))
    (hT : ∀ a b, T (ix2 a b) = (t a b : EReal)) (j : Fin 128) :
    k0_pay22 Y Fs T Z (ix2 0 j) = Z (ix2 0 j) + ((1 / 2 * ∑ a, (∑ j, err (y a) f (t a) j * err (y a) f (t a) j) / 1024 : ℝ) : EReal) := by
  pointwise [k0_pay22]
  simp only [pay_e hY hF hT, ← EReal.coe_mul, sum_coe]
  rw [w1024, whalf]
  simp only [div_coe _ (show (1024 : ℝ) ≠ 0 by norm_num), sum_coe, ← EReal.coe_mul]

theorem pay_de (hY : ∀ a b, Y (ix2 a b) = (y a b : EReal)) (hF : ∀ b, Fs (ix2 0 b) = (f b : EReal)) (hT : ∀ a b, T (ix2 a b) = (t a b : EReal))
    (a : Fin 256) (j : Fin 1024) : k0_pay23 Y Fs T (ix2 a j) = ((err (y a) f (t a) j / 1024 : ℝ) : EReal) := by
  pointwise [k0_pay23]
  rw [pay_e hY hF hT, w1024, div_coe _ (by norm_num)]

theorem pay_dn (hY : ∀ a b, Y (ix2 a b) = (y a b : EReal)) (hF : ∀ b, Fs (ix2 0 b) = (f b : EReal)) (hT : ∀ a b, T (ix2 a b) = (t a b : EReal))
    (a : Fin 256) (j : Fin 1024) : k0_pay24 Y Fs T (ix2 a j) = ((err (y a) f (t a) j / 1024 * f j : ℝ) : EReal) := by
  pointwise [k0_pay24, k0_pay20]
  rw [pay_de hY hF hT, hF, ← EReal.coe_mul]

theorem pay_dy (hY : ∀ a b, Y (ix2 a b) = (y a b : EReal)) (hF : ∀ b, Fs (ix2 0 b) = (f b : EReal)) (hT : ∀ a b, T (ix2 a b) = (t a b : EReal))
    (a : Fin 256) (j : Fin 1024) : k0_pay1 (k0_pay18 Y) (k0_pay19 Y) (k0_pay24 Y Fs T) (k0_pay25 Y Fs T) (ix2 a j)
      = (rmsGrad (y a) (fun j => err (y a) f (t a) j / 1024 * f j) j : EReal) := by
  pointwise [k0_pay1, k0_pay25]
  simp only [pay_r hY, pay_n hY, pay_dn hY hF hT, ← EReal.coe_mul, sum_coe]
  rw [w1024, div_coe _ (by norm_num)]
  simp only [← EReal.coe_mul, ← EReal.coe_sub]
  rfl

theorem pay_df {Z : Vec Ideal S1x1024 .f32} (hY : ∀ a b, Y (ix2 a b) = (y a b : EReal)) (hF : ∀ b, Fs (ix2 0 b) = (f b : EReal))
    (hT : ∀ a b, T (ix2 a b) = (t a b : EReal)) (j : Fin 1024) :
    k0_pay2 (k0_pay19 Y) (k0_pay23 Y Fs T) Z (ix2 0 j) = Z (ix2 0 j) + ((∑ a, err (y a) f (t a) j / 1024 * (y a j * rinv (y a)) : ℝ) : EReal) := by
  pointwise [k0_pay2]
  simp only [pay_n hY, pay_de hY hF hT, ← EReal.coe_mul, sum_coe]

end Loss

variable (m : (ℓ : Loc nD τ sig) → Buf (Elt Ideal) ℓ)

/-- The windows' index maps over the sixteen points. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0]
    ∧ win0_9.index t = ![0, 0] ∧ win0_10.index t = ![0, 0] :=
  (by decide +kernel : ∀ t : Fin grid0.N, _)

/-- Row `a` of point `t`'s block. -/
abbrev row (t : Fin cfg0.N) (a : Fin 256) : Fin 4096 := ⟨t.val * 256 + a.val, by have := t.isLt; have := a.isLt; have : cfg0.N = 16 := rfl; omega⟩

section Out
variable {z} (c : Dev nD)
  (H : Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) z)
include H

theorem C0 (t : Fin cfg0.N) (a : Fin 256) (b : Fin 1024) : iblk m c 0 t (ix2 a b) = (z.x (row t a) b : EReal) := by
  rw [← H.h0]; blk_point [iblk, V, idx t]
theorem C1 (t : Fin cfg0.N) (b : Fin 1024) : iblk m c 1 t (ix2 0 b) = (z.g b : EReal) := by
  rw [← H.h1]; blk_point [iblk, V, idx t]
theorem C2 (t : Fin cfg0.N) (a : Fin 1024) (b : Fin 5632) : iblk m c 2 t (ix2 a b) = (z.w a b : EReal) := by
  rw [← H.h2]; blk_point [iblk, V, idx t]
theorem C3 (t : Fin cfg0.N) (a : Fin 2816) (b : Fin 1024) : iblk m c 3 t (ix2 a b) = (z.d a b : EReal) := by
  rw [← H.h3]; blk_point [iblk, V, idx t]
theorem C4 (t : Fin cfg0.N) (b : Fin 1024) : iblk m c 4 t (ix2 0 b) = (z.f b : EReal) := by
  rw [← H.h4]; blk_point [iblk, V, idx t]
theorem C5 (t : Fin cfg0.N) (a : Fin 256) (b : Fin 1024) : iblk m c 5 t (ix2 a b) = (z.t (row t a) b : EReal) := by
  rw [← H.h5]; blk_point [iblk, V, idx t]

/-- The block of the sublayer's output at a point. -/
theorem Cy (t : Fin cfg0.N) (a : Fin 256) (b : Fin 1024) :
    yblk (iblk m c 0 t) (iblk m c 1 t) (iblk m c 2 t) (iblk m c 3 t) (ix2 a b) = (z.y (row t a) b : EReal) :=
  pay_y (C0 m c H t) (C1 m c H t) (C2 m c H t) (C3 m c H t) a b

theorem out6 (t : Fin cfg0.N) (a : Fin 256) (b : Fin 1024) : (outsAt0 m c t.val t.isLt).1 (ix2 a b) = (z.dy (row t a) b : EReal) := by
  have key := pay_dy (Cy m c H t) (C4 m c H t) (C5 m c H t) a b
  by_cases h0 : t.val % 16 = 0
  · rw [outsAt0_A m c t h0]; frame_out; exact key
  · rw [outsAt0_B m c t h0]; frame_out; exact key

/-- The gate's block: two stores. -/
theorem out7 (t : Fin cfg0.N) (a : Fin 256) (k : Fin 2816) : (outsAt0 m c t.val t.isLt).2.1 (ix2 a k) = (z.gate (row t a) k : EReal) := by
  have hH := pay_h (C0 m c H t) (C1 m c H t)
  by_cases hz : t.val % 16 = 0
  on_goal 1 => rw [outsAt0_A m c t hz]
  on_goal 2 => rw [outsAt0_B m c t hz]
  all_goals
    frame_out
    canon_tiles y h
    all_goals
      idx_vars y
      obtain rfl : y0 = a := Fin.ext h0.symm
    · exact pay_p1 hH (C2 m c H t) _ _ _ _ (gateCol k) (by simp; omega)
    · exact pay_p0 (C0 m c H t) (C1 m c H t) (C2 m c H t) _ _ _ _ (gateCol k) (by simp; omega)

/-- The value's block: two stores. -/
theorem out8 (t : Fin cfg0.N) (a : Fin 256) (k : Fin 2816) : (outsAt0 m c t.val t.isLt).2.2.1 (ix2 a k) = (z.up (row t a) k : EReal) := by
  have hH := pay_h (C0 m c H t) (C1 m c H t)
  by_cases hz : t.val % 16 = 0
  on_goal 1 => rw [outsAt0_A m c t hz]
  on_goal 2 => rw [outsAt0_B m c t hz]
  all_goals
    frame_out
    canon_tiles y h
    all_goals
      idx_vars y
      obtain rfl : y0 = a := Fin.ext h0.symm
    · exact pay_p1 hH (C2 m c H t) _ _ _ _ (upCol k) (by simp; omega)
    · exact pay_p0 (C0 m c H t) (C1 m c H t) (C2 m c H t) _ _ _ _ (upCol k) (by simp; omega)

omit H in
/-- The addend of point `t` to the final scale's gradient. -/
def dfPart (z : Re) (t : Fin cfg0.N) (j : Fin 1024) : ℝ := ∑ a, z.e (row t a) j / 1024 * (z.y (row t a) j * rinv (z.y (row t a)))

omit H in
/-- The addend of point `t` to the loss. -/
def lossPart (z : Re) (t : Fin cfg0.N) : ℝ := 1 / 2 * ∑ a, (∑ j, z.e (row t a) j * z.e (row t a) j) / 1024

/-- The final scale's gradient after the last point. -/
theorem out9 (t : Fin cfg0.N) (ht : t.val + 1 = cfg0.N) (b : Fin 1024) : (outsAt0 m c t.val t.isLt).2.2.2.1 (ix2 0 b) = (z.df b : EReal) := by
  have key := fun (t : Fin cfg0.N) (A : Vec Ideal S1x1024 .f32) (b : Fin 1024) => pay_df (Z := A) (Cy m c H t) (C4 m c H t) (C5 m c H t) b
  have h := Pipeline.eq_sum_fin_of_reset_step_apply_last (fun n hn b => (outsAt0 m c n hn).2.2.2.1 (ix2 0 b)) 16 (fun _ => (0 : EReal))
    (fun t b => (dfPart z t b : EReal))
    (fun t h0 b => by
      show (outsAt0 m c t.val t.isLt).2.2.2.1 (ix2 0 b) = _
      rw [outsAt0_A m c t h0]; frame_out
      rw [key]
      pointwise [k0_pay16]
      rfl)
    (fun t h0 b => by
      show (outsAt0 m c t.val t.isLt).2.2.2.1 (ix2 0 b) = _
      rw [outsAt0_B m c t h0]; frame_out
      rw [key]
      rfl)
    (by decide) t ht b
  refine h.trans ?_
  rw [zero_add, sum_coe]
  refine congrArg _ ?_
  unfold Re.df dfPart
  exact (Fin.sum_univ_tiles 16 256 rfl fun i : Fin 4096 => z.e i b / 1024 * (z.y i b * rinv (z.y i))).symm

/-- The loss after the last point, in every lane. -/
theorem out10 (t : Fin cfg0.N) (ht : t.val + 1 = cfg0.N) (b : Fin 128) : (outsAt0 m c t.val t.isLt).2.2.2.2 (ix2 0 b) = (z.loss : EReal) := by
  have key := fun (t : Fin cfg0.N) (A : Vec Ideal S1x128 .f32) (b : Fin 128) => pay_loss (Z := A) (Cy m c H t) (C4 m c H t) (C5 m c H t) b
  have h := Pipeline.eq_sum_fin_of_reset_step_apply_last (fun n hn b => (outsAt0 m c n hn).2.2.2.2 (ix2 0 b)) 16 (fun _ => (0 : EReal))
    (fun t _ => (lossPart z t : EReal))
    (fun t h0 b => by
      show (outsAt0 m c t.val t.isLt).2.2.2.2 (ix2 0 b) = _
      rw [outsAt0_A m c t h0]; frame_out
      rw [key]
      pointwise [k0_pay17]
      rfl)
    (fun t h0 b => by
      show (outsAt0 m c t.val t.isLt).2.2.2.2 (ix2 0 b) = _
      rw [outsAt0_B m c t h0]; frame_out
      rw [key]
      rfl)
    (by decide) t ht b
  refine h.trans ?_
  rw [zero_add, sum_coe]
  refine congrArg _ ?_
  unfold Re.loss lossPart
  rw [← Finset.mul_sum]
  exact congrArg _ (Fin.sum_univ_tiles 16 256 rfl fun i : Fin 4096 => (∑ j, z.e i j * z.e i j) / 1024).symm

theorem arr6 : (dats m 0 c).arrAt 6 cfg0.N = fun i => (z.dy (i 0) (i 1) : EReal) := by
  refine (dats m 0 c).arrAt_eq_of_covers 6 _ (by decide +kernel) fun t _ y => ?_
  blk_simp
  rw [after0_6]
  idx_vars y
  rw [out6 m c H]
  exact congrArg _ (congrArg₂ _ (Fin.ext (by blk_simp [idx t])) (Fin.ext (by blk_simp [idx t])))

theorem arr7 : (dats m 0 c).arrAt 7 cfg0.N = fun i => (z.gate (i 0) (i 1) : EReal) := by
  refine (dats m 0 c).arrAt_eq_of_covers 7 _ (by decide +kernel) fun t _ y => ?_
  blk_simp
  rw [after0_7]
  idx_vars y
  rw [out7 m c H]
  exact congrArg _ (congrArg₂ _ (Fin.ext (by blk_simp [idx t])) (Fin.ext (by blk_simp [idx t])))

theorem arr8 : (dats m 0 c).arrAt 8 cfg0.N = fun i => (z.up (i 0) (i 1) : EReal) := by
  refine (dats m 0 c).arrAt_eq_of_covers 8 _ (by decide +kernel) fun t _ y => ?_
  blk_simp
  rw [after0_8]
  idx_vars y
  rw [out8 m c H]
  exact congrArg _ (congrArg₂ _ (Fin.ext (by blk_simp [idx t])) (Fin.ext (by blk_simp [idx t])))

theorem arr9 : (dats m 0 c).arrAt 9 cfg0.N = fun i => (z.df (i 1) : EReal) := by
  refine (dats m 0 c).arrAt_eq_of_after_last 9 t0_15 (by decide +kernel) _ fun j => ?_
  blk_simp
  rw [after0_9]
  idx_vars j
  obtain rfl : j0 = 0 := Subsingleton.elim _ _
  rw [out9 m c H _ rfl]

theorem arr10 : (dats m 0 c).arrAt 10 cfg0.N = fun i => (z.loss : EReal) := by
  refine (dats m 0 c).arrAt_eq_of_after_last 10 t0_15 (by decide +kernel) _ fun j => ?_
  blk_simp
  rw [after0_10]
  idx_vars j
  obtain rfl : j0 = 0 := Subsingleton.elim _ _
  rw [out10 m c H _ rfl]

end Out

/-! ## The reference -/

/-- The word of two. -/
theorem w2 : Ideal.ofBits .f32 0x40000000#32 = ((2 : ℝ) : EReal) := by
  simp [Ideal.ofBits, Ideal.ieee, -EReal.coe_mul]; norm_num

section Reference
open Cert.ReferenceHeadIdeal Cert.ReferenceHeadIdeal.Read
variable {z} {a0 : Vec Ideal Cert.KernelHeadIdeal.S1x4096x1024 .f32} {a1 : Vec Ideal Cert.KernelHeadIdeal.S1x1024 .f32}
  {a2 : Vec Ideal Cert.KernelHeadIdeal.S1x1024x5632 .f32} {a3 : Vec Ideal Cert.KernelHeadIdeal.S1x2816x1024 .f32}
  {a4 : Vec Ideal Cert.KernelHeadIdeal.S1024 .f32} {a5 : Vec Ideal Cert.KernelHeadIdeal.S1x4096x1024 .f32} (H : Args a0 a1 a2 a3 a4 a5 z)
include H

theorem ref14 (i : Fin 4096) (j : Fin 1024) : val_main_v14 (F := Ideal) a0 a1 (ix2 i j) = (rmsRow (z.x i) z.g j : EReal) := by
  pointwise [val_main_v14, val_main_v11, val_main_v13, val_main_v0, val_main_v10, val_main_v12, val_main_v9, val_main_v1, val_main_v8, val_main_v6,
    val_main_v7, val_main_v4, val_main_v5, val_main_cst_1, val_main_v3, val_main_cst_0, val_main_v2, val_main_cst]
  simp only [H.h0, H.h1, ← EReal.coe_mul, sum_coe]
  rw [w1024, weps, div_coe _ (by norm_num), ← EReal.coe_add, rsqrt_ms, ← EReal.coe_mul, ← EReal.coe_mul, rmsRow]

theorem ref16 (i : Fin 4096) (k : Fin 5632) : val_main_v16 (F := Ideal) a0 a1 a2 (ix2 i k) = (pre (z.x i) z.g z.w k : EReal) := by
  pointwise [val_main_v16, val_main_v15]
  simp only [ref14 H, H.h2, ← EReal.coe_mul, sum_coe]
  rfl

theorem ref17 (i : Fin 4096) (k : Fin 2816) : val_main_v17 (F := Ideal) a0 a1 a2 (ix2 i k) = (z.gate i k : EReal) := by
  pointwise [val_main_v17]
  exact ref16 H _ _

theorem ref18 (i : Fin 4096) (k : Fin 2816) : val_main_v18 (F := Ideal) a0 a1 a2 (ix2 i k) = (z.up i k : EReal) := by
  pointwise [val_main_v18]
  exact ref16 H _ _

theorem ref21 (i : Fin 4096) (k : Fin 2816) : val_main_v21 (F := Ideal) a0 a1 a2 (ix2 i k) = (act (z.gate i) (z.up i) k : EReal) := by
  pointwise [val_main_v21, val_main_v20, val_main_call0_v5, val_main_call0_v4, val_main_call0_v3, val_main_call0_cst_0, val_main_call0_v2,
    val_main_call0_v1, val_main_call0_cst, val_main_call0_v0]
  rw [ref17 H, ref18 H, ← EReal.coe_one, sg_host, ← EReal.coe_mul, ← EReal.coe_mul, act]

theorem ref26 (i : Fin 4096) (j : Fin 1024) : val_main_v26 (F := Ideal) a0 a1 a2 a3 (ix2 i j) = (z.y i j : EReal) := by
  pointwise [val_main_v26, val_main_v19, val_main_v25, val_main_v24, val_main_v23, val_main_cst_2, val_main_v22]
  simp only [ref21 H, H.h3, H.h0, ← EReal.coe_mul, sum_coe]
  rw [whalf, ← EReal.coe_mul, ← EReal.coe_add]
  rfl

theorem ref33 (i : Fin 4096) : val_main_v33 (F := Ideal) a0 a1 a2 a3 (ix2 i 0) = (((∑ k, z.y i k * z.y i k) / 1024 + eps : ℝ) : EReal) := by
  pointwise [val_main_v33, val_main_v31, val_main_v32, val_main_v29, val_main_v30, val_main_cst_5, val_main_v28, val_main_cst_4, val_main_v27,
    val_main_cst_3]
  simp only [ref26 H, ← EReal.coe_mul, sum_coe]
  rw [w1024, weps, div_coe _ (by norm_num), ← EReal.coe_add]

theorem ref34 (i : Fin 4096) : val_main_v34 (F := Ideal) a0 a1 a2 a3 (ix2 i 0) = (rinv (z.y i) : EReal) := by
  pointwise [val_main_v34]
  rw [ref33 H, rsqrt_ms]

theorem ref37 (i : Fin 4096) : val_main_v37 (F := Ideal) a0 a1 a2 a3 (ix2 i 0) = ((-(1 / 2) * (rinv (z.y i) / ((∑ k, z.y i k * z.y i k) / 1024 + eps)) : ℝ) : EReal) := by
  pointwise [val_main_v37, val_main_v36, val_main_v35, val_main_cst_6]
  rw [ref33 H, ref34 H, wnhalf, div_coe _ (ms_pos _).ne', ← EReal.coe_mul]

theorem ref39 (i : Fin 4096) (j : Fin 1024) : val_main_v39 (F := Ideal) a0 a1 a2 a3 (ix2 i j) = ((z.y i j * rinv (z.y i) : ℝ) : EReal) := by
  pointwise [val_main_v39, val_main_v38]
  rw [ref26 H, ref34 H, ← EReal.coe_mul]

theorem ref44 (i : Fin 4096) (j : Fin 1024) : val_main_v44 (F := Ideal) a0 a1 a2 a3 a4 a5 (ix2 i j) = (z.e i j : EReal) := by
  pointwise [val_main_v44, val_main_v42, val_main_v43, val_main_v41, val_main_v40]
  rw [ref39 H, H.h4, H.h5, ← EReal.coe_mul, ← EReal.coe_sub]
  rfl

theorem ref82 (j : Fin 128) : val_main_v82 (F := Ideal) a0 a1 a2 a3 a4 a5 (ix2 0 j) = (z.loss : EReal) := by
  pointwise [val_main_v82, val_main_v52, val_main_cst_11, val_main_v51, val_main_v50, val_main_cst_10, val_main_v48, val_main_v49, val_main_v45,
    val_main_cst_8, val_main_cst_9]
  simp only [ref44 H, ← EReal.coe_mul, sum_coe]
  rw [w1024, whalf]
  simp only [div_coe _ (show (1024 : ℝ) ≠ 0 by norm_num), sum_coe, ← EReal.coe_mul]
  rfl

theorem ref58 (i : Fin 4096) (j : Fin 1024) : val_main_v58 (F := Ideal) a0 a1 a2 a3 a4 a5 (ix2 i j) = ((z.e i j / 1024 : ℝ) : EReal) := by
  pointwise [val_main_v58, val_main_v57, val_main_v47, val_main_v56, val_main_v46, val_main_v54, val_main_v55, val_main_cst_7, val_main_v53,
    val_main_cst_14, val_main_cst_12, val_main_cst_13]
  rw [ref44 H, w1024, whalf, w2, div_coe _ (by norm_num), ← EReal.coe_mul, ← EReal.coe_mul]
  exact congrArg _ (by ring)

theorem ref81 (j : Fin 1024) : val_main_v81 (F := Ideal) a0 a1 a2 a3 a4 a5 (ix2 0 j) = (z.df j : EReal) := by
  pointwise [val_main_v81, val_main_v64, val_main_v61, val_main_cst_16, val_main_v60, val_main_v59, val_main_cst_15]
  simp only [ref58 H, ref39 H, ← EReal.coe_mul, sum_coe]
  rw [Fin.sum_univ_one]
  exact congrArg _ (Finset.sum_congr rfl fun i _ => mul_comm _ _)

theorem ref63 (i : Fin 4096) (j : Fin 1024) : val_main_v63 (F := Ideal) a0 a1 a2 a3 a4 a5 (ix2 i j) = ((z.e i j / 1024 * z.f j : ℝ) : EReal) := by
  pointwise [val_main_v63, val_main_v62, val_main_v40]
  rw [ref58 H, H.h4, ← EReal.coe_mul]

theorem ref73 (i : Fin 4096) : val_main_v73 (F := Ideal) a0 a1 a2 a3 a4 a5 (ix1 i)
    = (((∑ k, z.y i k * (z.e i k / 1024 * z.f k)) * (-(1 / 2) * (rinv (z.y i) / ((∑ k, z.y i k * z.y i k) / 1024 + eps))) / 1024 : ℝ) : EReal) := by
  pointwise [val_main_v73, val_main_v72, val_main_cst_19, val_main_v70, val_main_v71, val_main_v67, val_main_cst_18, val_main_v66, val_main_v65,
    val_main_cst_17]
  rw [Fin.sum_univ_one]
  simp only [ref63 H, ref37 H, ref26 H, ← EReal.coe_mul, sum_coe]
  rw [w1024, div_coe _ (by norm_num)]

theorem ref78 (i : Fin 4096) (j : Fin 1024) : val_main_v78 (F := Ideal) a0 a1 a2 a3 a4 a5 (ix2 i j) = (z.dy i j : EReal) := by
  pointwise [val_main_v78, val_main_v76, val_main_v77, val_main_v69, val_main_v75, val_main_v74, val_main_v68]
  rw [ref73 H, ref63 H, ref34 H, ref26 H]
  simp only [← EReal.coe_mul, ← EReal.coe_add]
  rw [Re.dy, ← rmsGrad_eq]

theorem ref79 (i : Fin 4096) (k : Fin 2816) : val_main_v79 (F := Ideal) a0 a1 a2 (ix2 i k) = (z.gate i k : EReal) := by
  pointwise [val_main_v79]
  exact ref17 H _ _

theorem ref80 (i : Fin 4096) (k : Fin 2816) : val_main_v80 (F := Ideal) a0 a1 a2 (ix2 i k) = (z.up i k : EReal) := by
  pointwise [val_main_v80]
  exact ref18 H _ _

end Reference

/-! ## The claim -/

/-- The precondition makes the arguments coercions of reals. -/
theorem args_of_pre (a0 : Vec Ideal S1x4096x1024 .f32) (a1 : Vec Ideal S1x1024 .f32) (a2 : Vec Ideal S1x1024x5632 .f32)
    (a3 : Vec Ideal S1x2816x1024 .f32) (a4 : Vec Ideal S1024 .f32) (a5 : Vec Ideal S1x4096x1024 .f32) [Cert.Pre_finite_head.Facts]
    (h : (Cert.Pre_finite_head.fn (F := Ideal) a0 a1 a2 a3 a4 a5).1 = (fun _ => 1#1)
      ∧ (Cert.Pre_finite_head.fn (F := Ideal) a0 a1 a2 a3 a4 a5).2.1 = (fun _ => 1#1)
      ∧ (Cert.Pre_finite_head.fn (F := Ideal) a0 a1 a2 a3 a4 a5).2.2.1 = (fun _ => 1#1)
      ∧ (Cert.Pre_finite_head.fn (F := Ideal) a0 a1 a2 a3 a4 a5).2.2.2.1 = (fun _ => 1#1)
      ∧ (Cert.Pre_finite_head.fn (F := Ideal) a0 a1 a2 a3 a4 a5).2.2.2.2.1 = (fun _ => 1#1)
      ∧ (Cert.Pre_finite_head.fn (F := Ideal) a0 a1 a2 a3 a4 a5).2.2.2.2.2 = (fun _ => 1#1)) :
    Args a0 a1 a2 a3 a4 a5 ⟨fun i j => (a0 (ix3 0 i j)).toReal, fun j => (a1 (ix2 0 j)).toReal, fun i j => (a2 (ix3 0 i j)).toReal,
      fun i j => (a3 (ix3 0 i j)).toReal, fun j => (a4 (ix1 j)).toReal, fun i j => (a5 (ix3 0 i j)).toReal⟩ :=
  ⟨fun i j => real_of_abs (congrFun h.1 (ix3 0 i j)), fun j => real_of_abs (congrFun h.2.1 (ix2 0 j)),
    fun i j => real_of_abs (congrFun h.2.2.1 (ix3 0 i j)), fun i j => real_of_abs (congrFun h.2.2.2.1 (ix3 0 i j)),
    fun j => real_of_abs (congrFun h.2.2.2.2.1 (ix1 j)), fun i j => real_of_abs (congrFun h.2.2.2.2.2 (ix3 0 i j))⟩

set_option maxHeartbeats 1000000 in
/-- The last sublayer's call with its head returns the loss and what differentiation of the loss returns. -/
theorem value [Cert.Pre_finite_head.Facts] : Cert.algebraic_KernelHeadIdeal_ReferenceHeadIdeal_pre_finite_head := by
  intro m g m' g' hpre hagree
  have H := fun c => args_of_pre _ _ _ _ _ _ (hpre c)
  refine ⟨_, _, _, _, _, Value.run_blocks m g, ?_⟩
  refine (θ_run _ _ _).mono (fun s h c => ?_) (Cert.ReferenceHeadIdeal.Value.run m' g')
  obtain ⟨e0, e1, e2, e3, e4, e5⟩ := hagree c
  obtain ⟨h0, h1, h2, h3, h4, hr⟩ := h c
  refine ⟨h0.trans ?_, h1.trans ?_, h2.trans ?_, h3.trans ?_, h4.trans ?_, hr⟩
  · rw [Cert.ReferenceHeadIdeal.Read.val_main_v78_eq, e0, e1, e2, e3, e4, e5, arr6 m c (H c)]
    funext i
    idx_vars i
    exact ref78 (H c) _ _
  · rw [Cert.ReferenceHeadIdeal.Read.val_main_v79_eq, e0, e1, e2, arr7 m c (H c)]
    funext i
    idx_vars i
    exact ref79 (H c) _ _
  · rw [Cert.ReferenceHeadIdeal.Read.val_main_v80_eq, e0, e1, e2, arr8 m c (H c)]
    funext i
    idx_vars i
    exact ref80 (H c) _ _
  · rw [Cert.ReferenceHeadIdeal.Read.val_main_v81_eq, e0, e1, e2, e3, e4, e5, arr9 m c (H c)]
    funext i
    idx_vars i
    obtain rfl : i0 = 0 := Subsingleton.elim _ _
    exact ref81 (H c) _
  · rw [Cert.ReferenceHeadIdeal.Read.val_main_v82_eq, e0, e1, e2, e3, e4, e5, arr10 m c (H c)]
    funext i
    idx_vars i
    obtain rfl : i0 = 0 := Subsingleton.elim _ _
    exact ref82 (H c) _

end Cert.Head
end
-- ==== Proof.XattnFwd.lean ====
/- The cross-attention to the memory (`xattn_fwd`): the call returns what the reference's forward lines return. -/
module

public import proofs.«01_k».proof.Defs
public import proofs.«01_k».proof.Proof.XattnA
public import proofs.«01_k».proof.Proof.Gen.KernelXattnFwdIdeal.Frame
public import proofs.«01_k».proof.Proof.Gen.KernelXattnFwdIdeal.Value
public import proofs.«01_k».proof.Proof.Gen.ReferenceXattnFwdIdeal.Read
public import proofs.«01_k».proof.Proof.Gen.Pre_finite_xattn_fwd

@[expose] public section

set_option maxRecDepth 16384

noncomputable section

open Idealize.ShloMosaic Idealize.ShloMosaic.TcCoe Idealize.SL.Sem
open Idealize.ShloMosaic.Pipeline (Dat)
open Cert.Lift
open Cert.Xattn (lg hc kc vc hd he Hp)

namespace Cert.XattnFwd
open Cert.KernelXattnFwdIdeal Cert.KernelXattnFwdIdeal.Gen

/-! ## The attention over the reals -/

/-- The attention's output of a query row: each head's weighted sum of its values. -/
def Ho (q : Fin 1024 → ℝ) (kv : Fin 256 → Fin 2048 → ℝ) (k : Fin 1024) : ℝ :=
  ∑ s, Hp q kv (hd k.val k.isLt) s * kv s (vc (hd k.val k.isLt) (he k.val))

theorem Ho_at (q : Fin 1024 → ℝ) (kv : Fin 256 → Fin 2048 → ℝ) (h : Fin 4) (e : Fin 256) (k : Fin 1024) (hk : k.val = h.val * 256 + e.val) :
    Ho q kv k = ∑ s, Hp q kv h s * kv s (vc h e) := by
  have h1 : hd k.val k.isLt = h := Fin.ext (by simp only; omega)
  have h2 : he k.val = e := Fin.ext (by simp only; omega)
  unfold Ho
  rw [h1, h2]

/-- The arguments as reals: input, memory, the two normalisations' scales, the weights of queries, keys and values. -/
structure Re where
  x : Fin 4096 → Fin 1024 → ℝ
  me : Fin 256 → Fin 1024 → ℝ
  gx : Fin 1024 → ℝ
  gm : Fin 1024 → ℝ
  wq : Fin 1024 → Fin 1024 → ℝ
  wkv : Fin 1024 → Fin 2048 → ℝ

namespace Re
variable (z : Re)

/-- The queries. -/
def q (i : Fin 4096) (k : Fin 1024) : ℝ := ∑ j, rmsRow (z.x i) z.gx j * z.wq j k
/-- The keys and the values. -/
def kv (s : Fin 256) (k : Fin 2048) : ℝ := ∑ j, rmsRow (z.me s) z.gm j * z.wkv j k
/-- The attention's output. -/
def o (i : Fin 4096) (k : Fin 1024) : ℝ := Ho (z.q i) z.kv k

end Re

/-- The arguments are the coercions of these reals. -/
structure Args (a0 : Vec Ideal S1x4096x1024 .f32) (a1 : Vec Ideal S1x256x1024 .f32) (a2 a3 : Vec Ideal S1x1024 .f32) (a4 : Vec Ideal S1x1024x1024 .f32)
    (a5 : Vec Ideal S1x1024x2048 .f32) (z : Re) : Prop where
  h0 : ∀ i j, a0 (ix3 0 i j) = (z.x i j : EReal)
  h1 : ∀ i j, a1 (ix3 0 i j) = (z.me i j : EReal)
  h2 : ∀ j, a2 (ix2 0 j) = (z.gx j : EReal)
  h3 : ∀ j, a3 (ix2 0 j) = (z.gm j : EReal)
  h4 : ∀ i j, a4 (ix3 0 i j) = (z.wq i j : EReal)
  h5 : ∀ i j, a5 (ix3 0 i j) = (z.wkv i j : EReal)

/-! ## The payloads -/

section Block
variable {X : Vec Ideal S256x1024 .f32} {G : Vec Ideal S1x1024 .f32} {Wq Wo : Vec Ideal S1024x1024 .bf16} {KV : Vec Ideal S256x2048 .bf16}
  {x q : Fin 256 → Fin 1024 → ℝ} {g : Fin 1024 → ℝ} {wq : Fin 1024 → Fin 1024 → ℝ} {kv : Fin 256 → Fin 2048 → ℝ}

/-- The queries of a block. -/
theorem pay_q (hX : ∀ a b, X (ix2 a b) = (x a b : EReal)) (hG : ∀ b, G (ix2 0 b) = (g b : EReal)) (hW : ∀ a b, Wq (ix2 a b) = (wq a b : EReal))
    (a : Fin 256) (k : Fin 1024) : k0_pay4 X G Wq (ix2 a k) = ((∑ j, rmsRow (x a) g j * wq j k : ℝ) : EReal) := by
  pointwise [k0_pay4, k0_pay3]
  simp only [hX, hG, hW, ← EReal.coe_mul, sum_coe]
  rw [w1024, weps, div_coe _ (by norm_num), ← EReal.coe_add, rsqrt_ms]
  simp only [← EReal.coe_mul, sum_coe]
  rfl

/-- One head's output as the kernel spells it, its columns read off the joint blocks. -/
theorem head_at (q : Fin 1024 → ℝ) (kv : Fin 256 → Fin 2048 → ℝ) (h : Fin 4) (e : Fin 256) (k : Fin 1024) (hk : k.val = h.val * 256 + e.val)
    (iq : Fin 256 → Fin 1024) (ik : Fin 256 → Fin 2048) (iv : Fin 2048) (hq : ∀ e, (iq e).val = h.val * 256 + e.val)
    (hk' : ∀ e, (ik e).val = h.val * 256 + e.val) (hv : iv.val = 1024 + (h.val * 256 + e.val)) :
    ∑ s : Fin 256, Ideal.exp ((((∑ e, q (iq e) * kv s (ik e)) * (1 / 16) : ℝ) : EReal)
        - Finset.fold max ⊥ (fun s => (((∑ e, q (iq e) * kv s (ik e)) * (1 / 16) : ℝ) : EReal)) Finset.univ)
      * Ideal.div ((1 : ℝ) : EReal) (∑ s : Fin 256, Ideal.exp ((((∑ e, q (iq e) * kv s (ik e)) * (1 / 16) : ℝ) : EReal)
        - Finset.fold max ⊥ (fun s => (((∑ e, q (iq e) * kv s (ik e)) * (1 / 16) : ℝ) : EReal)) Finset.univ))
      * (kv s iv : EReal) = (Ho q kv k : EReal) := by
  obtain rfl : iq = hc h := funext fun e => Fin.ext (hq e)
  obtain rfl : ik = kc h := funext fun e => Fin.ext (hk' e)
  obtain rfl : iv = vc h e := Fin.ext hv
  have key := soft_kernel (lg (fun e => q (hc h e)) (fun s e => kv s (kc h e)))
  rw [Ho_at q kv h e k hk]
  unfold Hp
  unfold lg at key ⊢
  simp only [key, ← EReal.coe_mul, sum_coe]

set_option maxHeartbeats 4000000 in
/-- The attention's output on a block. -/
theorem pay_o (hX : ∀ a k, k0_pay4 (View.ld X r0_0) (View.ld G r0_1) (View.ld Wq r0_2) (ix2 a k) = (q a k : EReal))
    (hK : ∀ a b, KV (ix2 a b) = (kv a b : EReal)) (a : Fin 256) (k : Fin 1024) :
    k0_pay1 (k0_pay10 X G Wq KV Wo) (k0_pay11 X G Wq KV Wo) (k0_pay12 X G Wq KV Wo) (k0_pay13 X G Wq KV Wo) (k0_pay14 X G Wq KV Wo)
      (View.ld KV r0_8) (View.ld KV r0_9) (View.ld KV r0_10) (ix2 a k) = (Ho (q a) kv k : EReal) := by
  pointwise [k0_pay1, k0_pay10, k0_pay11, k0_pay12, k0_pay13, k0_pay14, k0_pay5, k0_pay6, k0_pay7, k0_pay8, k0_pay9]
  simp only [hX, hK, wninf, w16th, ← EReal.coe_mul, sum_coe, ← EReal.coe_one]
  by_cases h0 : k.val < 256
  · rw [dif_pos h0]
    refine (head_at (q a) kv 0 ⟨k.val, h0⟩ k ?_ (fun e => ⟨e.val, by omega⟩) (fun e => ⟨e.val, by omega⟩) ⟨1024 + k.val, by omega⟩ ?_ ?_ ?_)
    all_goals simp
  rw [dif_neg h0]
  by_cases h1 : k.val - 256 < 256
  · rw [dif_pos h1]
    refine (head_at (q a) kv 1 ⟨k.val - 256, h1⟩ k ?_ (fun e => ⟨256 + e.val, by omega⟩) (fun e => ⟨256 + e.val, by omega⟩)
      ⟨1280 + (k.val - 256), by omega⟩ ?_ ?_ ?_)
    all_goals simp
    all_goals omega
  rw [dif_neg h1]
  by_cases h2 : k.val - 256 - 256 < 256
  · rw [dif_pos h2]
    refine (head_at (q a) kv 2 ⟨k.val - 256 - 256, h2⟩ k ?_ (fun e => ⟨512 + e.val, by omega⟩) (fun e => ⟨512 + e.val, by omega⟩)
      ⟨1536 + (k.val - 256 - 256), by omega⟩ ?_ ?_ ?_)
    all_goals simp
    all_goals omega
  rw [dif_neg h2]
  refine (head_at (q a) kv 3 ⟨k.val - 256 - 256 - 256, by omega⟩ k ?_ (fun e => ⟨768 + e.val, by omega⟩) (fun e => ⟨768 + e.val, by omega⟩)
    ⟨1792 + (k.val - 256 - 256 - 256), by omega⟩ ?_ ?_ ?_)
  all_goals simp
  all_goals omega

theorem ld0 : View.ld X r0_0 = X := by funext i; idx_vars i; pointwise [r0_0]
theorem ld1 : View.ld G r0_1 = G := by funext i; idx_vars i; obtain rfl : i0 = 0 := Subsingleton.elim _ _; pointwise [r0_1]
theorem ld2 : View.ld Wq r0_2 = Wq := by funext i; idx_vars i; pointwise [r0_2]

end Block

/-! ## The kernel's points -/

variable (m : (ℓ : Loc nD τ sig) → Buf (Elt Ideal) ℓ)

/-- The windows' index maps over the sixteen points. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- Row `a` of point `t`'s block. -/
abbrev row (t : Fin cfg0.N) (a : Fin 256) : Fin 4096 := ⟨t.val * 256 + a.val, by have := t.isLt; have := a.isLt; have : cfg0.N = 16 := rfl; omega⟩

section Point
variable (c : Dev nD) {z : Re}
  (H : Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) z)

/-- The output projection's weights, of which nothing is asked. -/
abbrev wo (a b : Fin 1024) : EReal := m ((c : Thread nD τ).loc main_arg6) (ix3 0 a b)

theorem C4 (t : Fin cfg0.N) (a b : Fin 1024) : iblk m c 4 t (ix2 a b) = wo m c a b := by
  unfold wo; blk_point [iblk, V, idx t]

include H

set_option maxHeartbeats 1000000 in
theorem C0 (t : Fin cfg0.N) (a : Fin 256) (b : Fin 1024) : iblk m c 0 t (ix2 a b) = (z.x (row t a) b : EReal) := by
  rw [← H.h0]; blk_point [iblk, V, idx t]

theorem C1 (t : Fin cfg0.N) (b : Fin 1024) : iblk m c 1 t (ix2 0 b) = (z.gx b : EReal) := by
  rw [← H.h2]; blk_point [iblk, V, idx t]

theorem C2 (t : Fin cfg0.N) (a b : Fin 1024) : iblk m c 2 t (ix2 a b) = (z.wq a b : EReal) := by
  rw [← H.h4]; blk_point [iblk, V, idx t]

/-- The keys and values. -/
theorem saved_kv (i : Fin 256) (k : Fin 2048) : (V m c main_v17 : Vec Ideal S256x2048 .bf16) (ix2 i k) = (z.kv i k : EReal) := by
  entry_read
  pointwise
  simp only [H.h1, H.h3, H.h5, ← EReal.coe_mul, sum_coe]
  rw [w1024, weps, div_coe _ (by norm_num), ← EReal.coe_add, rsqrt_ms]
  simp only [← EReal.coe_mul, sum_coe]
  rfl

theorem C3 (t : Fin cfg0.N) (a : Fin 256) (k : Fin 2048) : iblk m c 3 t (ix2 a k) = (z.kv a k : EReal) := by
  refine Eq.trans ?_ (saved_kv m c H a k)
  unfold iblk
  blk_simp [idx t]
  blk_ext [idx t]

theorem bq (t : Fin cfg0.N) (a : Fin 256) (k : Fin 1024) :
    k0_pay4 (iblk m c 0 t) (iblk m c 1 t) (iblk m c 2 t) (ix2 a k) = (z.q (row t a) k : EReal) :=
  pay_q (C0 m c H t) (C1 m c H t) (C2 m c H t) a k

theorem bo (t : Fin cfg0.N) (a : Fin 256) (k : Fin 1024) :
    k0_pay1 (k0_pay10 (iblk m c 0 t) (iblk m c 1 t) (iblk m c 2 t) (iblk m c 3 t) (iblk m c 4 t))
      (k0_pay11 (iblk m c 0 t) (iblk m c 1 t) (iblk m c 2 t) (iblk m c 3 t) (iblk m c 4 t))
      (k0_pay12 (iblk m c 0 t) (iblk m c 1 t) (iblk m c 2 t) (iblk m c 3 t) (iblk m c 4 t))
      (k0_pay13 (iblk m c 0 t) (iblk m c 1 t) (iblk m c 2 t) (iblk m c 3 t) (iblk m c 4 t))
      (k0_pay14 (iblk m c 0 t) (iblk m c 1 t) (iblk m c 2 t) (iblk m c 3 t) (iblk m c 4 t))
      (View.ld (iblk m c 3 t) r0_8) (View.ld (iblk m c 3 t) r0_9) (View.ld (iblk m c 3 t) r0_10) (ix2 a k) = (z.o (row t a) k : EReal) :=
  pay_o (X := iblk m c 0 t) (G := iblk m c 1 t) (Wq := iblk m c 2 t) (Wo := iblk m c 4 t) (KV := iblk m c 3 t) (q := fun a k => z.q (row t a) k) (kv := z.kv)
    (fun a k => (congrFun (congr (congr (congrArg k0_pay4 ld0) ld1) ld2) _).trans (bq m c H t a k)) (C3 m c H t) a k

theorem arr6 : (dats m 0 c).arrAt 6 cfg0.N = fun i => (z.q (i 0) (i 1) : EReal) := by
  refine (dats m 0 c).arrAt_eq_of_covers 6 _ (by decide +kernel) fun t _ y => ?_
  blk_simp
  rw [after0_6]
  unfold_out out0_6
  idx_vars y
  frame_out
  rw [bq m c H]
  exact congrArg _ (congrArg₂ _ (Fin.ext (by blk_simp [idx t])) (Fin.ext (by blk_simp [idx t])))

theorem arr7 : (dats m 0 c).arrAt 7 cfg0.N = fun i => (z.o (i 0) (i 1) : EReal) := by
  refine (dats m 0 c).arrAt_eq_of_covers 7 _ (by decide +kernel) fun t _ y => ?_
  blk_simp
  rw [after0_7]
  unfold out0_7
  idx_vars y
  frame_out
  refine (bo m c H t y0 y1).trans ?_
  exact congrArg _ (congrArg₂ _ (Fin.ext (by blk_simp [idx t])) (Fin.ext (by blk_simp [idx t])))

/-- The call's first result: the input plus the projected attention. -/
abbrev xo (z : Re) (w : Fin 1024 → Fin 1024 → EReal) (i : Fin 4096) (j : Fin 1024) : EReal := (z.x i j : EReal) + ∑ k, (z.o i k : EReal) * w k j

set_option maxHeartbeats 4000000 in
theorem arr5 : (dats m 0 c).arrAt 5 cfg0.N = fun i => xo z (wo m c) (i 0) (i 1) := by
  refine (dats m 0 c).arrAt_eq_of_covers 5 _ (by decide +kernel) fun t _ y => ?_
  blk_simp
  rw [after0_5]
  unfold out0_5
  idx_vars y
  frame_out
  pointwise [k0_pay2, k0_pay3]
  simp only [C0 m c H, C4 m c]
  refine Eq.trans (congrArg (_ + ·) (Finset.sum_congr rfl fun x _ => congrArg (· * _) (bo m c H t y0 x))) ?_
  exact congrArg₂ (xo z (wo m c)) (Fin.ext (by blk_simp [idx t])) (Fin.ext (by blk_simp [idx t]))

end Point

/-! ## The reference's lines -/

namespace Ref
open Cert.ReferenceXattnFwdIdeal.Read

variable {a0 : Vec Ideal Cert.KernelXattnFwdIdeal.S1x4096x1024 .f32} {a1 : Vec Ideal Cert.KernelXattnFwdIdeal.S1x256x1024 .f32}
  {a2 a3 : Vec Ideal Cert.KernelXattnFwdIdeal.S1x1024 .f32} {a4 : Vec Ideal Cert.KernelXattnFwdIdeal.S1x1024x1024 .f32}
  {a5 : Vec Ideal Cert.KernelXattnFwdIdeal.S1x1024x2048 .f32} (a6 : Vec Ideal Cert.KernelXattnFwdIdeal.S1x1024x1024 .f32) {z : Re} (H : Args a0 a1 a2 a3 a4 a5 z)
include H

theorem ref13 (i : Fin 4096) (j : Fin 1024) : val_main_v13 (F := Ideal) a0 a2 (ix3 0 i j) = (rmsRow (z.x i) z.gx j : EReal) := by
  pointwise [val_main_v13, val_main_v10, val_main_v12, val_main_v11, val_main_v0, val_main_v9, val_main_v8, val_main_v7, val_main_v5, val_main_v3, val_main_v4, val_main_v6, val_main_v2, val_main_v1, val_main_cst, val_main_cst_0, val_main_cst_1]
  simp only [H.h0, H.h2, ← EReal.coe_mul, sum_coe, add_zero, zero_add]
  rw [w1024, weps, div_coe _ (by norm_num), ← EReal.coe_add, rsqrt_ms, ← EReal.coe_mul, ← EReal.coe_mul, rmsRow]

theorem ref27 (s : Fin 256) (j : Fin 1024) : val_main_v27 (F := Ideal) a1 a3 (ix3 0 s j) = (rmsRow (z.me s) z.gm j : EReal) := by
  pointwise [val_main_v27, val_main_v24, val_main_v26, val_main_v25, val_main_v14, val_main_v23, val_main_v22, val_main_v21, val_main_v19, val_main_v17, val_main_v18, val_main_v20, val_main_v16, val_main_v15, val_main_cst_2, val_main_cst_3, val_main_cst_4]
  simp only [H.h1, H.h3, ← EReal.coe_mul, sum_coe, add_zero, zero_add]
  rw [w1024, weps, div_coe _ (by norm_num), ← EReal.coe_add, rsqrt_ms, ← EReal.coe_mul, ← EReal.coe_mul, rmsRow]

theorem ref31 (i : Fin 4096) (k : Fin 1024) : val_main_v31 (F := Ideal) a0 a2 a4 (ix3 0 i k) = (z.q i k : EReal) := by
  pointwise [val_main_v31, val_main_v28]
  simp only [ref13 H, H.h4, ← EReal.coe_mul, sum_coe]
  rfl

theorem ref32 (i : Fin 4096) (h : Fin 4) (e : Fin 256) : val_main_v32 (F := Ideal) a0 a2 a4 (ix4 0 i h e) = (z.q i (hc h e) : EReal) := by
  pointwise [val_main_v32]
  exact (ref31 H _ _).trans (congrArg _ (congrArg₂ _ (Fin.ext (by simp only)) (Fin.ext (by simp only))))

theorem ref33 (s : Fin 256) (k : Fin 2048) : val_main_v33 (F := Ideal) a1 a3 a5 (ix3 0 s k) = (z.kv s k : EReal) := by
  pointwise [val_main_v33, val_main_v29]
  simp only [ref27 H, H.h5, ← EReal.coe_mul, sum_coe]
  rfl

theorem ref36 (s : Fin 256) (h : Fin 4) (e : Fin 256) : val_main_v36 (F := Ideal) a1 a3 a5 (ix4 0 s h e) = (z.kv s (kc h e) : EReal) := by
  pointwise [val_main_v36, val_main_v34]
  exact (ref33 H _ _).trans (congrArg _ (congrArg₂ _ (Fin.ext (by simp only)) (Fin.ext (by simp only))))

theorem ref37 (s : Fin 256) (h : Fin 4) (e : Fin 256) : val_main_v37 (F := Ideal) a1 a3 a5 (ix4 0 s h e) = (z.kv s (vc h e) : EReal) := by
  pointwise [val_main_v37, val_main_v35]
  exact (ref33 H _ _).trans (congrArg _ (congrArg₂ _ (Fin.ext (by simp only)) (Fin.ext (by simp only))))

/-- The scaled products of query `i` in head `h`. -/
abbrev lgi (z : Re) (i : Fin 4096) (h : Fin 4) : Fin 256 → ℝ := lg (fun e => z.q i (hc h e)) (fun s e => z.kv s (kc h e))

theorem ref40 (h : Fin 4) (i : Fin 4096) (s : Fin 256) : val_main_v40 (F := Ideal) a0 a1 a2 a3 a4 a5 (ix4 0 h i s) = (lgi z i h s : EReal) := by
  pointwise [val_main_v40, val_main_v38, val_main_v39, val_main_cst_5]
  simp only [ref32 H, ref36 H, ← EReal.coe_mul, sum_coe, w16th]
  rfl

/-- The row's maximum, which the reference subtracts. -/
theorem ref43 (h : Fin 4) (i : Fin 4096) : ∃ M : ℝ, val_main_v43 (F := Ideal) a0 a1 a2 a3 a4 a5 (ix3 0 h i) = (M : EReal) := by
  have k : ∃ M : ℝ, val_main_v41 (F := Ideal) a0 a1 a2 a3 a4 a5 (ix3 0 h i) = (M : EReal) := by
    pointwise [val_main_v41, val_main_cst_6]
    simp only [ref40 H, wninf]
    exact fold_max_coe _
  obtain ⟨M, k⟩ := k
  refine ⟨M, ?_⟩
  rw [val_main_v43_apply, k]
  pointwise [val_main_v42, val_main_cst_7]
  rw [wninf]
  exact max_eq_right bot_le

/-- The attention's weights. -/
theorem ref51 (h : Fin 4) (i : Fin 4096) (s : Fin 256) : val_main_v51 (F := Ideal) a0 a1 a2 a3 a4 a5 (ix4 0 h i s) = (Hp (z.q i) z.kv h s : EReal) := by
  obtain ⟨M, k⟩ := ref43 H h i
  have e (s : Fin 256) : val_main_v47 (F := Ideal) a0 a1 a2 a3 a4 a5 (ix4 0 h i s) = (Real.exp (lgi z i h s - M) : EReal) := by
    pointwise [val_main_v47, val_main_v46, val_main_v45, val_main_v44]
    rw [ref40 H, k, ← EReal.coe_sub]
    rfl
  pointwise [val_main_v51, val_main_v50, val_main_v49, val_main_v48, val_main_cst_8]
  simp only [e, sum_coe, zero_add]
  rw [div_coe _ (sum_exp_pos _).ne', soft_shift]
  rfl

theorem ref54 (i : Fin 4096) (k : Fin 1024) : val_main_v54 (F := Ideal) a0 a1 a2 a3 a4 a5 (ix3 0 i k) = (z.o i k : EReal) := by
  have key (h : Fin 4) (e : Fin 256) : val_main_v53 (F := Ideal) a0 a1 a2 a3 a4 a5 (ix4 0 i h e) = ((∑ s, Hp (z.q i) z.kv h s * z.kv s (vc h e) : ℝ) : EReal) := by
    pointwise [val_main_v53, val_main_v52]
    simp only [ref37 H, ref51 H, ← EReal.coe_mul, sum_coe]
    exact congrArg _ (Finset.sum_congr rfl fun s _ => mul_comm _ _)
  pointwise [val_main_v54]
  exact (key _ _).trans (congrArg _ (Ho_at (z.q i) z.kv _ _ k (by simp only; omega)).symm)

theorem ref59 (i : Fin 4096) (k : Fin 1024) : val_main_v59 (F := Ideal) a0 a2 a4 (ix2 i k) = (z.q i k : EReal) := by
  pointwise [val_main_v59, val_main_v58]
  exact (ref31 H _ _).trans (congrArg _ (congrArg₂ _ (Fin.ext (by simp only)) (Fin.ext (by simp only))))

theorem ref61 (i : Fin 4096) (k : Fin 1024) : val_main_v61 (F := Ideal) a0 a1 a2 a3 a4 a5 (ix2 i k) = (z.o i k : EReal) := by
  pointwise [val_main_v61, val_main_v60]
  exact (ref54 H _ _).trans (congrArg _ (congrArg₂ _ (Fin.ext (by simp only)) (Fin.ext (by simp only))))

theorem ref57 (i : Fin 4096) (j : Fin 1024) : val_main_v57 (F := Ideal) a0 a1 a2 a3 a4 a5 a6 (ix2 i j) = xo z (fun a b => a6 (ix3 0 a b)) i j := by
  have key (i : Fin 4096) (j : Fin 1024) : val_main_v56 (F := Ideal) a0 a1 a2 a3 a4 a5 a6 (ix3 0 i j) = xo z (fun a b => a6 (ix3 0 a b)) i j := by
    pointwise [val_main_v56, val_main_v55, val_main_v30]
    simp only [ref54 H, H.h0]
  pointwise [val_main_v57]
  exact (key _ _).trans (congrArg₂ _ (Fin.ext (by simp only)) (Fin.ext (by simp only)))

end Ref

/-! ## The claim -/

/-- Where the precondition holds the arguments are real. -/
theorem args_of_pre (a0 : Vec Ideal S1x4096x1024 .f32) (a1 : Vec Ideal S1x256x1024 .f32) (a2 a3 : Vec Ideal S1x1024 .f32) (a4 : Vec Ideal S1x1024x1024 .f32)
    (a5 : Vec Ideal S1x1024x2048 .f32) (a6 : Vec Ideal S1x1024x1024 .f32) [Cert.Pre_finite_xattn_fwd.Facts]
    (h : (Cert.Pre_finite_xattn_fwd.fn (F := Ideal) a0 a1 a2 a3 a4 a5 a6).1 = (fun _ => 1#1)
      ∧ (Cert.Pre_finite_xattn_fwd.fn (F := Ideal) a0 a1 a2 a3 a4 a5 a6).2.1 = (fun _ => 1#1)
      ∧ (Cert.Pre_finite_xattn_fwd.fn (F := Ideal) a0 a1 a2 a3 a4 a5 a6).2.2.1 = (fun _ => 1#1)
      ∧ (Cert.Pre_finite_xattn_fwd.fn (F := Ideal) a0 a1 a2 a3 a4 a5 a6).2.2.2.1 = (fun _ => 1#1)
      ∧ (Cert.Pre_finite_xattn_fwd.fn (F := Ideal) a0 a1 a2 a3 a4 a5 a6).2.2.2.2.1 = (fun _ => 1#1)
      ∧ (Cert.Pre_finite_xattn_fwd.fn (F := Ideal) a0 a1 a2 a3 a4 a5 a6).2.2.2.2.2 = (fun _ => 1#1)) :
    Args a0 a1 a2 a3 a4 a5 ⟨fun i j => (a0 (ix3 0 i j)).toReal, fun i j => (a1 (ix3 0 i j)).toReal, fun j => (a2 (ix2 0 j)).toReal,
      fun j => (a3 (ix2 0 j)).toReal, fun i j => (a4 (ix3 0 i j)).toReal, fun i j => (a5 (ix3 0 i j)).toReal⟩ :=
  ⟨fun i j => real_of_abs (congrFun h.1 (ix3 0 i j)),
    fun i j => real_of_abs (congrFun h.2.1 (ix3 0 i j)),
    fun j => real_of_abs (congrFun h.2.2.1 (ix2 0 j)),
    fun j => real_of_abs (congrFun h.2.2.2.1 (ix2 0 j)),
    fun i j => real_of_abs (congrFun h.2.2.2.2.1 (ix3 0 i j)),
    fun i j => real_of_abs (congrFun h.2.2.2.2.2 (ix3 0 i j))⟩

set_option maxHeartbeats 4000000 in
/-- The call and the reference's forward lines return the same three results: the stream after the attention, the queries, the attention's output. -/
theorem value [Cert.Pre_finite_xattn_fwd.Facts] : Cert.algebraic_KernelXattnFwdIdeal_ReferenceXattnFwdIdeal_pre_finite_xattn_fwd := by
  intro m g m' g' hpre hagree
  have H := fun c => args_of_pre _ _ _ _ _ _ _ (hpre c)
  refine ⟨_, _, _, Value.run_blocks m g, ?_⟩
  refine (θ_run _ _ _).mono (fun s h c => ?_) (Cert.ReferenceXattnFwdIdeal.Value.run m' g')
  obtain ⟨e0, e1, e2, e3, e4, e5, e6⟩ := hagree c
  obtain ⟨h0, h1, h2, hr⟩ := h c
  refine ⟨h0.trans ?_, h1.trans ?_, h2.trans ?_, hr⟩
  · rw [Cert.ReferenceXattnFwdIdeal.Read.val_main_v57_eq, e0, e1, e2, e3, e4, e5, e6, arr5 m c (H c)]
    funext i
    idx_vars i
    exact Ref.ref57 (m ((c : Thread nD τ).loc main_arg6)) (H c) _ _
  · rw [Cert.ReferenceXattnFwdIdeal.Read.val_main_v59_eq, e0, e2, e4, arr6 m c (H c)]
    funext i
    idx_vars i
    exact Ref.ref59 (H c) _ _
  · rw [Cert.ReferenceXattnFwdIdeal.Read.val_main_v61_eq, e0, e1, e2, e3, e4, e5, arr7 m c (H c)]
    funext i
    idx_vars i
    exact Ref.ref61 (H c) _ _

end Cert.XattnFwd
end
-- ==== Proof.SwaFwdA.lean ====
/- The sliding-window attention (`swa_fwd`): the attention over the reals, and what the call computes of a head. -/
module

public import proofs.«01_k».proof.Defs
public import proofs.«01_k».proof.Proof.Lift
public import proofs.«01_k».proof.Proof.Gen.KernelSwaFwdIdeal.Frame
public import proofs.«01_k».proof.Proof.Gen.KernelSwaFwdIdeal.Value

@[expose] public section

set_option maxRecDepth 16384

noncomputable section

open Idealize.ShloMosaic Idealize.ShloMosaic.TcCoe Idealize.SL.Sem
open Idealize.ShloMosaic.Pipeline (Dat)
open Cert.Lift

namespace Cert.SwaFwd
open Cert.KernelSwaFwdIdeal Cert.KernelSwaFwdIdeal.Gen

/-! ## Softmax over the visible keys and one sink -/

/-- The weight of key `j`: zero where it is not visible, else its exponential over the sum of the visible ones and the sink's. -/
def pm {n : ℕ} (w : Fin n → BitVec 1) (l : Fin n → ℝ) (s : ℝ) (j : Fin n) : ℝ :=
  (if w j = 1#1 then Real.exp (l j) else 0) / ((∑ k, if w k = 1#1 then Real.exp (l k) else 0) + Real.exp s)

/-- The scores with the keys that are not visible at −∞. -/
def ml {n : ℕ} (w : Fin n → BitVec 1) (l : Fin n → ℝ) (j : Fin n) : EReal := if w j = 1#1 then (l j : EReal) else ⊥

/-- The exponential of a masked score less a real. -/
def em {n : ℕ} (w : Fin n → BitVec 1) (l : Fin n → ℝ) (M : ℝ) (j : Fin n) : ℝ := if w j = 1#1 then Real.exp (l j - M) else 0

theorem exp_ml {n : ℕ} (w : Fin n → BitVec 1) (l : Fin n → ℝ) (M : ℝ) (j : Fin n) : Ideal.exp (ml w l j - (M : EReal)) = (em w l M j : EReal) := by
  unfold ml em
  by_cases h : w j = 1#1
  · rw [if_pos h, if_pos h, ← EReal.coe_sub]; rfl
  · rw [if_neg h, if_neg h, EReal.bot_sub]; rfl

theorem em_sum_pos {n : ℕ} (w : Fin n → BitVec 1) (l : Fin n → ℝ) (M s : ℝ) : 0 < (∑ k, em w l M k) + Real.exp (s - M) :=
  add_pos_of_nonneg_of_pos (Finset.sum_nonneg fun k _ => by unfold em; split_ifs <;> positivity) (Real.exp_pos _)

/-- The weights do not change when every score and the sink is lowered by the same real. -/
theorem em_div {n : ℕ} (w : Fin n → BitVec 1) (l : Fin n → ℝ) (M s : ℝ) (j : Fin n) :
    em w l M j / ((∑ k, em w l M k) + Real.exp (s - M)) = pm w l s j := by
  have h (k : Fin n) : em w l M k = (if w k = 1#1 then Real.exp (l k) else 0) * Real.exp (-M) := by
    unfold em
    split_ifs
    · rw [← Real.exp_add, sub_eq_add_neg]
    · rw [zero_mul]
  simp only [h]
  rw [sub_eq_add_neg, Real.exp_add, ← Finset.sum_mul, ← add_mul, mul_div_mul_right _ _ (Real.exp_pos _).ne', pm]

theorem ml_lt {n : ℕ} (w : Fin n → BitVec 1) (l : Fin n → ℝ) (j : Fin n) : ml w l j < ⊤ := by
  unfold ml; split_ifs
  · exact EReal.coe_lt_top _
  · exact bot_lt_top

/-- The maximum of the masked scores and the sink is real. -/
theorem max_real {n : ℕ} (w : Fin n → BitVec 1) (l : Fin n → ℝ) (s : ℝ) :
    ∃ M : ℝ, max (Finset.fold max ⊥ (fun k => ml w l k) Finset.univ) (s : EReal) = (M : EReal) := by
  refine ⟨(max (Finset.fold max ⊥ (fun k => ml w l k) Finset.univ) (s : EReal)).toReal, (EReal.coe_toReal ?_ ?_).symm⟩
  · exact (max_lt ((Finset.fold_max_lt _).2 ⟨bot_lt_top, fun k _ => ml_lt w l k⟩) (EReal.coe_lt_top _)).ne
  · exact ((EReal.bot_lt_coe s).trans_le (le_max_right _ _)).ne'

/-- The weights as the call spells them. -/
theorem sm_kernel {n : ℕ} (w : Fin n → BitVec 1) (l : Fin n → ℝ) (s : ℝ) (j : Fin n) :
    Ideal.exp (ml w l j - max (Finset.fold max ⊥ (fun k => ml w l k) Finset.univ) (s : EReal))
      * Ideal.div ((1 : ℝ) : EReal) ((∑ k, Ideal.exp (ml w l k - max (Finset.fold max ⊥ (fun k => ml w l k) Finset.univ) (s : EReal)))
        + Ideal.exp ((s : EReal) - max (Finset.fold max ⊥ (fun k => ml w l k) Finset.univ) (s : EReal))) = (pm w l s j : EReal) := by
  obtain ⟨M, hM⟩ := max_real w l s
  rw [hM]
  simp only [exp_ml, sum_coe]
  rw [← EReal.coe_sub, show Ideal.exp ((s - M : ℝ) : EReal) = (Real.exp (s - M) : EReal) from rfl, ← EReal.coe_add,
    div_coe _ (em_sum_pos w l M s).ne', ← EReal.coe_mul, mul_one_div, em_div]

/-- The masked scores followed by the sink. -/
def ms {n : ℕ} (w : Fin n → BitVec 1) (l : Fin n → ℝ) (s : ℝ) (k : Fin (n + 1)) : EReal := if h : k.val < n then ml w l ⟨k.val, h⟩ else (s : EReal)

theorem ms_castSucc {n : ℕ} (w : Fin n → BitVec 1) (l : Fin n → ℝ) (s : ℝ) (k : Fin n) : ms w l s k.castSucc = ml w l k := by
  unfold ms; rw [dif_pos (by simp : k.castSucc.val < n)]; rfl

theorem ms_last {n : ℕ} (w : Fin n → BitVec 1) (l : Fin n → ℝ) (s : ℝ) : ms w l s (Fin.last n) = (s : EReal) := by
  unfold ms; rw [dif_neg (by simp)]

theorem max_real_host {n : ℕ} (w : Fin n → BitVec 1) (l : Fin n → ℝ) (s : ℝ) :
    ∃ M : ℝ, Finset.fold max ⊥ (fun k => ms w l s k) Finset.univ = (M : EReal) := by
  refine ⟨(Finset.fold max ⊥ (fun k => ms w l s k) Finset.univ).toReal, (EReal.coe_toReal ?_ ?_).symm⟩
  · refine ((Finset.fold_max_lt _).2 ⟨bot_lt_top, fun k _ => ?_⟩).ne
    unfold ms; split_ifs
    · exact ml_lt w l _
    · exact EReal.coe_lt_top _
  · exact ((EReal.bot_lt_coe s).trans_le ((Finset.le_fold_max _).2 (Or.inr ⟨Fin.last n, Finset.mem_univ _, (ms_last w l s).ge⟩))).ne'

/-- The weights as the reference's softmax spells them, whatever real it subtracts. -/
theorem sm_host {n : ℕ} (w : Fin n → BitVec 1) (l : Fin n → ℝ) (s M : ℝ) (j : Fin n) :
    Ideal.div (Ideal.exp (ml w l j - (M : EReal))) (∑ k, Ideal.exp (ms w l s k - (M : EReal))) = (pm w l s j : EReal) := by
  rw [Fin.sum_univ_castSucc]
  simp only [ms_castSucc, ms_last, exp_ml, sum_coe]
  rw [← EReal.coe_sub, show Ideal.exp ((s - M : ℝ) : EReal) = (Real.exp (s - M) : EReal) from rfl, ← EReal.coe_add,
    div_coe _ (em_sum_pos w l M s).ne', em_div]

/-! ## The payloads -/

theorem w8th : Ideal.ofBits .f32 0x3E000000#32 = ((1 / 8 : ℝ) : EReal) := by
  simp [Ideal.ofBits, Ideal.ieee, -EReal.coe_mul]; norm_num

/-- The sink of row `r` of a group: its head's. -/
def sk (s : Fin 4 → ℝ) (r : Fin 512) : ℝ := s ⟨r.val / 128, by omega⟩

theorem cmp_row : ∀ r : Fin 512, IntOp.cmpi .sge (BitVec.ofNat 32 r.val) 128#32 = (if 128 ≤ r.val then 1#1 else 0#1)
    ∧ IntOp.cmpi .sge (BitVec.ofNat 32 r.val) 256#32 = (if 256 ≤ r.val then 1#1 else 0#1)
    ∧ IntOp.cmpi .sge (BitVec.ofNat 32 r.val) 384#32 = (if 384 ≤ r.val then 1#1 else 0#1) := by decide +kernel

theorem sel1 {α : Type} (a b : α) : Scalar.select 1#1 a b = a := rfl
theorem sel0 {α : Type} (a b : α) : Scalar.select 0#1 a b = b := rfl

/-- The sinks' column, as the call selects it. -/
theorem sink_at (s : Fin 4 → ℝ) (r : Fin 512) :
    Scalar.select (IntOp.cmpi .sge (BitVec.ofNat 32 r.val) 384#32) ((s 3 : ℝ) : EReal)
      (Scalar.select (IntOp.cmpi .sge (BitVec.ofNat 32 r.val) 256#32) ((s 2 : ℝ) : EReal)
        (Scalar.select (IntOp.cmpi .sge (BitVec.ofNat 32 r.val) 128#32) ((s 1 : ℝ) : EReal) ((s 0 : ℝ) : EReal))) = (sk s r : EReal) := by
  obtain ⟨h1, h2, h3⟩ := cmp_row r
  have e (n : Fin 4) (h : r.val / 128 = n.val) : sk s r = s n := congrArg s (Fin.ext h)
  rw [h1, h2, h3]
  by_cases c3 : 384 ≤ r.val
  · rw [if_pos c3, sel1, e 3 (by simp; omega)]
  rw [if_neg c3, sel0]
  by_cases c2 : 256 ≤ r.val
  · rw [if_pos c2, sel1, e 2 (by simp; omega)]
  rw [if_neg c2, sel0]
  by_cases c1 : 128 ≤ r.val
  · rw [if_pos c1, sel1, e 1 (by simp; omega)]
  rw [if_neg c1, sel0, e 0 (by simp; omega)]

/-- The masked score, as the call selects it: the mask's constant is read as −∞. -/
theorem ml_at (w : BitVec 1) (x : EReal) : Scalar.select w x (Named.named (F := Ideal) κ "mask" (φ := .f32) 0xF149F2CA#32) = if w = 1#1 then x else ⊥ := by
  rcases BitVec.eq_zero_or_eq_one w with h | h <;> subst h <;> rfl

/-- The output of a group's row: the weighted sum of its values. -/
def og (w : Fin 512 → Fin 256 → BitVec 1) (q : Fin 512 → Fin 64 → ℝ) (k v : Fin 256 → Fin 64 → ℝ) (b : Fin 512 → Fin 256 → ℝ) (s : Fin 4 → ℝ)
    (r : Fin 512) (e : Fin 64) : ℝ := ∑ j, pm (w r) (fun j => (∑ e, q r e * k j e) * (1 / 8) + b r j) (sk s r) j * v j e

section Head
variable {W : IVec S512x256 1} {K Vv : FVec Ideal S256x64 .bf16} {Q : FVec Ideal S512x64 .bf16} {B : FVec Ideal S512x256 .f32}
  {q : Fin 512 → Fin 64 → ℝ} {k v : Fin 256 → Fin 64 → ℝ} {b : Fin 512 → Fin 256 → ℝ} {s : Fin 4 → ℝ}

theorem pay_h1 (hQ : ∀ r e, Q (ix2 r e) = (q r e : EReal)) (hK : ∀ j e, K (ix2 j e) = (k j e : EReal)) (hV : ∀ j e, Vv (ix2 j e) = (v j e : EReal))
    (hB : ∀ r j, B (ix2 r j) = (b r j : EReal)) (r : Fin 512) (e : Fin 64) :
    k0_pay27 W (((0 : ℝ) : EReal)) K Vv Q B (iota .tc S512x1 32 [0] iota_S512x1_d0_w32) k0_pay26 ((s 0 : ℝ) : EReal) ((s 1 : ℝ) : EReal) ((s 2 : ℝ) : EReal) ((s 3 : ℝ) : EReal) (ix2 r e)
      = (og (fun r j => W (ix2 r j)) q k v b s r e : EReal) := by
  pointwise [k0_pay27, k0_pay26]
  simp only [hQ, hK, hV, hB, wninf, w8th, ← EReal.coe_mul, sum_coe, ← EReal.coe_one, ← EReal.coe_add]
  simp only [sink_at, ml_at]
  have key := sm_kernel (fun j => W (ix2 r j)) (fun j => (∑ e, q r e * k j e) * (1 / 8) + b r j) (sk s r)
  simp only [ml] at key
  simp only [key, ← EReal.coe_mul, sum_coe, EReal.coe_zero, add_zero]
  rfl

theorem pay_h2 (hQ : ∀ r e, Q (ix2 r e) = (q r e : EReal)) (hK : ∀ j e, K (ix2 j e) = (k j e : EReal)) (hV : ∀ j e, Vv (ix2 j e) = (v j e : EReal))
    (hB : ∀ r j, B (ix2 r j) = (b r j : EReal)) (r : Fin 512) (e : Fin 64) :
    k0_pay37 W ((0 : ℝ) : EReal) K Vv Q B (iota .tc S512x1 32 [0] iota_S512x1_d0_w32) (k0_pay36 ((s 0 : ℝ) : EReal) ((s 1 : ℝ) : EReal)) ((s 2 : ℝ) : EReal) ((s 3 : ℝ) : EReal) (ix2 r e)
      = (og (fun r j => W (ix2 r j)) q k v b s r e : EReal) := by
  pointwise [k0_pay37, k0_pay36]
  simp only [hQ, hK, hV, hB, wninf, w8th, ← EReal.coe_mul, sum_coe, ← EReal.coe_one, ← EReal.coe_add]
  simp only [sink_at, ml_at]
  have key := sm_kernel (fun j => W (ix2 r j)) (fun j => (∑ e, q r e * k j e) * (1 / 8) + b r j) (sk s r)
  simp only [ml] at key
  simp only [key, ← EReal.coe_mul, sum_coe, EReal.coe_zero, add_zero]
  rfl

theorem pay_h3 (hQ : ∀ r e, Q (ix2 r e) = (q r e : EReal)) (hK : ∀ j e, K (ix2 j e) = (k j e : EReal)) (hV : ∀ j e, Vv (ix2 j e) = (v j e : EReal))
    (hB : ∀ r j, B (ix2 r j) = (b r j : EReal)) (r : Fin 512) (e : Fin 64) :
    k0_pay48 W ((0 : ℝ) : EReal) K Vv Q B (k0_pay46 ((s 0 : ℝ) : EReal) ((s 1 : ℝ) : EReal) ((s 2 : ℝ) : EReal)) k0_pay47 ((s 3 : ℝ) : EReal) (ix2 r e)
      = (og (fun r j => W (ix2 r j)) q k v b s r e : EReal) := by
  pointwise [k0_pay48, k0_pay46, k0_pay47]
  simp only [hQ, hK, hV, hB, wninf, w8th, ← EReal.coe_mul, sum_coe, ← EReal.coe_one, ← EReal.coe_add]
  simp only [sink_at, ml_at]
  have key := sm_kernel (fun j => W (ix2 r j)) (fun j => (∑ e, q r e * k j e) * (1 / 8) + b r j) (sk s r)
  simp only [ml] at key
  simp only [key, ← EReal.coe_mul, sum_coe, EReal.coe_zero, add_zero]
  rfl

theorem pay_h0 {Q0 Q1 Q2 Q3 : FVec Ideal S128x64 .bf16} {B : Vec Ideal S1x512x256 .f32}
    (hQ : ∀ (r : Fin 512) e, (if h : r.val < 128 then Q0 (ix2 ⟨r.val, h⟩ e)
      else if h : r.val - 128 < 128 then Q1 (ix2 ⟨r.val - 128, h⟩ e)
        else if h : r.val - 128 - 128 < 128 then Q2 (ix2 ⟨r.val - 128 - 128, h⟩ e) else Q3 (ix2 ⟨r.val - 128 - 128 - 128, by omega⟩ e)) = (q r e : EReal))
    (hK : ∀ j e, K (ix2 j e) = (k j e : EReal)) (hV : ∀ j e, Vv (ix2 j e) = (v j e : EReal))
    (hB : ∀ r j, B (ix3 0 r j) = (b r j : EReal)) (r : Fin 512) (e : Fin 64) :
    k0_pay17 ((0 : ℝ) : EReal) Vv (k0_pay14 W K Q0 Q1 Q2 Q3 B ((s 0 : ℝ) : EReal) ((s 1 : ℝ) : EReal) ((s 2 : ℝ) : EReal) ((s 3 : ℝ) : EReal))
      (k0_pay15 W K Q0 Q1 Q2 Q3 B ((s 0 : ℝ) : EReal) ((s 1 : ℝ) : EReal) ((s 2 : ℝ) : EReal) ((s 3 : ℝ) : EReal))
      (k0_pay16 W K Q0 Q1 Q2 Q3 B ((s 0 : ℝ) : EReal) ((s 1 : ℝ) : EReal) ((s 2 : ℝ) : EReal) ((s 3 : ℝ) : EReal)) (ix2 r e)
      = (og (fun r j => W (ix2 r j)) q k v b s r e : EReal) := by
  pointwise [k0_pay17, k0_pay14, k0_pay15, k0_pay16, k0_pay13, k0_pay12, k0_pay11]
  simp only [hQ, hK, hV, hB, wninf, w8th, ← EReal.coe_mul, sum_coe, ← EReal.coe_one, ← EReal.coe_add]
  simp only [sink_at, ml_at]
  have key := sm_kernel (fun j => W (ix2 r j)) (fun j => (∑ e, q r e * k j e) * (1 / 8) + b r j) (sk s r)
  simp only [ml] at key
  simp only [key, ← EReal.coe_mul, sum_coe, EReal.coe_zero, add_zero]
  rfl

end Head

/-! ## The values a point's body names -/

section Run
open kernelRun0_A
variable (c : Dev nD) (i : grid0.Coords)
  (arg1 : Memref sig .tc .vmem S128x1024 .bf16) (harg1 : arg1.IsWhole) (arg2 : Memref sig .tc .vmem S128x256 .bf16) (harg2 : arg2.IsWhole)
  (arg3 : Memref sig .tc .vmem S128x256 .bf16) (harg3 : arg3.IsWhole) (arg4 : Memref sig .tc .vmem S128x256 .bf16) (harg4 : arg4.IsWhole)
  (arg5 : Memref sig .tc .vmem S128x256 .bf16) (harg5 : arg5.IsWhole) (arg6 : Memref sig .tc .vmem S128x1 .i32) (harg6 : arg6.IsWhole)
  (arg7 : Memref sig .tc .vmem S1x128 .i32) (harg7 : arg7.IsWhole) (arg8 : Memref sig .tc .vmem S1x128 .i32) (harg8 : arg8.IsWhole)
  (arg9 : Memref sig .tc .vmem S4x512x256 .f32) (harg9 : arg9.IsWhole) (arg10 : Memref sig .tc .smem S1x16 .f32) (harg10 : arg10.IsWhole)
  (x0 : Vec Ideal S128x1024 .bf16) (x1 x2 x3 x4 : Vec Ideal S128x256 .bf16) (x5 : Vec Ideal S128x1 .i32) (x6 x7 : Vec Ideal S1x128 .i32)
  (x8 : Vec Ideal S4x512x256 .f32) (x9 : Vec Ideal S1x16 .f32)

/-- Two blocks of rows, one under the other. -/
def two {α : Type} (x y : S128x256.Idx → α) (j e : Fin 256) : α :=
  if h : j.val < 128 then x (ix2 ⟨j.val, h⟩ e) else y (ix2 ⟨j.val - 128, by omega⟩ e)

theorem keys (j e : Fin 256) : sl.v62 (F := Ideal) c arg2 harg2 arg3 harg3 x1 x2 (ix2 j e) = two x1 x2 j e := by
  unfold sl.v62
  pointwise [sl.v59, sl.v61]
  simp only [View.readAt_eq_ld, Memref.IsWhole.read_unread]
  pointwise
  rfl

theorem vals (j e : Fin 256) : sl.v67 (F := Ideal) c arg4 harg4 arg5 harg5 x3 x4 (ix2 j e) = two x3 x4 j e := by
  unfold sl.v67
  pointwise [sl.v64, sl.v66]
  simp only [View.readAt_eq_ld, Memref.IsWhole.read_unread]
  pointwise
  rfl

/-- Four heads' columns, one under the other. -/
theorem four (x : Vec Ideal S128x1024 .bf16) (b : ℕ) (hb : b + 256 ≤ 1024) (r : Fin 512) (e : Fin 64) :
    (if h : r.val < 128 then x (ix2 ⟨r.val, h⟩ ⟨b + e.val, by omega⟩)
      else if h : r.val - 128 < 128 then x (ix2 ⟨r.val - 128, h⟩ ⟨b + 64 + e.val, by omega⟩)
        else if h : r.val - 128 - 128 < 128 then x (ix2 ⟨r.val - 128 - 128, h⟩ ⟨b + 128 + e.val, by omega⟩)
          else x (ix2 ⟨r.val - 128 - 128 - 128, by omega⟩ ⟨b + 192 + e.val, by omega⟩))
      = x (ix2 ⟨r.val % 128, by omega⟩ ⟨b + r.val / 128 * 64 + e.val, by omega⟩) := by
  split_ifs
  all_goals exact congrArg x (congrArg₂ ix2 (Fin.ext (by simp only; omega)) (Fin.ext (by simp only; omega)))

theorem quer1 (r : Fin 512) (e : Fin 64) : sl.v144 (F := Ideal) c arg1 harg1 x0 (ix2 r e)
    = x0 (ix2 ⟨r.val % 128, by omega⟩ ⟨256 + r.val / 128 * 64 + e.val, by omega⟩) := by
  unfold sl.v144
  pointwise [sl.v137, sl.v139, sl.v141, sl.v143]
  simp only [View.readAt_eq_ld, Memref.IsWhole.read_unread]
  pointwise
  exact four x0 256 (by norm_num) r e

theorem quer2 (r : Fin 512) (e : Fin 64) : sl.v210 (F := Ideal) c arg1 harg1 x0 (ix2 r e)
    = x0 (ix2 ⟨r.val % 128, by omega⟩ ⟨512 + r.val / 128 * 64 + e.val, by omega⟩) := by
  unfold sl.v210
  pointwise [sl.v203, sl.v205, sl.v207, sl.v209]
  simp only [View.readAt_eq_ld, Memref.IsWhole.read_unread]
  pointwise
  exact four x0 512 (by norm_num) r e

theorem quer3 (r : Fin 512) (e : Fin 64) : sl.v276 (F := Ideal) c arg1 harg1 x0 (ix2 r e)
    = x0 (ix2 ⟨r.val % 128, by omega⟩ ⟨768 + r.val / 128 * 64 + e.val, by omega⟩) := by
  unfold sl.v276
  pointwise [sl.v269, sl.v271, sl.v273, sl.v275]
  simp only [View.readAt_eq_ld, Memref.IsWhole.read_unread]
  pointwise
  exact four x0 768 (by norm_num) r e

theorem bias1 (r : Fin 512) (j : Fin 256) : sl.v146 (F := Ideal) c arg9 harg9 x8 (ix2 r j) = x8 (ix3 1 r j) := by
  unfold sl.v146
  pointwise
  simp only [View.readAt_eq_ld, Memref.IsWhole.read_unread]
  pointwise

theorem bias2 (r : Fin 512) (j : Fin 256) : sl.v212 (F := Ideal) c arg9 harg9 x8 (ix2 r j) = x8 (ix3 2 r j) := by
  unfold sl.v212
  pointwise
  simp only [View.readAt_eq_ld, Memref.IsWhole.read_unread]
  pointwise

theorem bias3 (r : Fin 512) (j : Fin 256) : sl.v278 (F := Ideal) c arg9 harg9 x8 (ix2 r j) = x8 (ix3 3 r j) := by
  unfold sl.v278
  pointwise
  simp only [View.readAt_eq_ld, Memref.IsWhole.read_unread]
  pointwise

/-- The sixteen sinks a point reads. -/
theorem sinks : sl.r (F := Ideal) c arg10 harg10 x9 = x9 (ix2 0 0)
    ∧ sl.r_1 (F := Ideal) c arg10 harg10 x9 = x9 (ix2 0 1)
    ∧ sl.r_2 (F := Ideal) c arg10 harg10 x9 = x9 (ix2 0 2)
    ∧ sl.r_3 (F := Ideal) c arg10 harg10 x9 = x9 (ix2 0 3)
    ∧ sl.r_7 (F := Ideal) c arg10 harg10 x9 = x9 (ix2 0 4)
    ∧ sl.r_8 (F := Ideal) c arg10 harg10 x9 = x9 (ix2 0 5)
    ∧ sl.r_9 (F := Ideal) c arg10 harg10 x9 = x9 (ix2 0 6)
    ∧ sl.r_10 (F := Ideal) c arg10 harg10 x9 = x9 (ix2 0 7)
    ∧ sl.r_12 (F := Ideal) c arg10 harg10 x9 = x9 (ix2 0 8)
    ∧ sl.r_13 (F := Ideal) c arg10 harg10 x9 = x9 (ix2 0 9)
    ∧ sl.r_14 (F := Ideal) c arg10 harg10 x9 = x9 (ix2 0 10)
    ∧ sl.r_15 (F := Ideal) c arg10 harg10 x9 = x9 (ix2 0 11)
    ∧ sl.r_18 (F := Ideal) c arg10 harg10 x9 = x9 (ix2 0 12)
    ∧ sl.r_19 (F := Ideal) c arg10 harg10 x9 = x9 (ix2 0 13)
    ∧ sl.r_20 (F := Ideal) c arg10 harg10 x9 = x9 (ix2 0 14)
    ∧ sl.r_21 (F := Ideal) c arg10 harg10 x9 = x9 (ix2 0 15) := by
  refine ⟨?_, ?_, ?_, ?_, ?_, ?_, ?_, ?_, ?_, ?_, ?_, ?_, ?_, ?_, ?_, ?_⟩
  all_goals
    simp only [sl.r, sl.r_1, sl.r_2, sl.r_3, sl.r_7, sl.r_8, sl.r_9, sl.r_10, sl.r_12, sl.r_13, sl.r_14, sl.r_15, sl.r_18, sl.r_19, sl.r_20, sl.r_21, View.readAt_eq_ld,
      Memref.IsWhole.read_unread]
    pointwise

/-- The columns' positions: the previous block's, then the block's own; before the first block they stand at the padding. -/
def pk (i : ℕ) (x6 x7 : S1x128.Idx → BitVec 32) (j : Fin 256) : BitVec 32 :=
  if h : j.val < 128 then (if i = 0 then 1073741824#32 else x6 (ix2 0 ⟨j.val, h⟩)) else x7 (ix2 0 ⟨j.val - 128, by omega⟩)

/-- Whether a position is in the window. -/
def inw (d : BitVec 32) : BitVec 1 := IntOp.andi (IntOp.cmpi .sge d 0#32) (IntOp.cmpi .slt d 128#32)

theorem cmp_coord : ∀ n : Fin 32, Scalar.cmpi .eq (BitVec.ofNat 32 n.val) 0#32 = (if n.val = 0 then 1#1 else 0#1) := by decide +kernel

theorem cmp_col : ∀ j : Fin 256, IntOp.cmpi .slt (BitVec.ofNat 32 j.val) 128#32 = (if j.val < 128 then 1#1 else 0#1) := by decide +kernel

/-- The columns' positions, as the call selects them. -/
theorem pk_at (j : Fin 256) :
    Scalar.select (IntOp.andi (Scalar.cmpi .eq (BitVec.ofNat 32 (i 0).val) 0#32) (IntOp.cmpi .slt (BitVec.ofNat 32 j.val) 128#32)) 1073741824#32
      (if h : j.val < 128 then x6 (ix2 0 ⟨j.val, h⟩) else x7 (ix2 0 ⟨j.val - 128, by omega⟩)) = pk (i 0).val x6 x7 j := by
  rw [cmp_coord (i 0), cmp_col j]
  unfold pk
  by_cases h : j.val < 128
  · rw [dif_pos h, dif_pos h, if_pos h]
    by_cases h0 : (i 0).val = 0
    · rw [if_pos h0, if_pos h0]; rfl
    · rw [if_neg h0, if_neg h0]; rfl
  · rw [dif_neg h, dif_neg h, if_neg h]
    by_cases h0 : (i 0).val = 0
    · rw [if_pos h0]; rfl
    · rw [if_neg h0]; rfl

theorem four_rows (x : S128x1.Idx → BitVec 32) (r : Fin 512) :
    (if h : r.val < 128 then x (ix2 ⟨r.val, h⟩ 0)
      else if h : r.val - 128 < 128 then x (ix2 ⟨r.val - 128, h⟩ 0)
        else if h : r.val - 128 - 128 < 128 then x (ix2 ⟨r.val - 128 - 128, h⟩ 0) else x (ix2 ⟨r.val - 128 - 128 - 128, by omega⟩ 0))
      = x (ix2 ⟨r.val % 128, by omega⟩ 0) := by
  split_ifs
  all_goals exact congrArg x (congrArg₂ ix2 (Fin.ext (by simp only; omega)) rfl)

theorem vis (r : Fin 512) (j : Fin 256) : sl.v21 (F := Ideal) c i arg6 harg6 arg7 harg7 arg8 harg8 x5 x6 x7 (ix2 r j)
    = inw (IntOp.subi (x5 (ix2 ⟨r.val % 128, by omega⟩ 0)) (pk (i 0).val x6 x7 j)) := by
  unfold sl.v21
  pointwise [sl.v18, sl.v20, sl.v16, sl.v17, sl.v19, sl.v14, sl.v15, sl.v13, sl.v12, sl.v10, sl.v9, sl.v8, sl.v7, sl.v5, sl.v4, sl.v3, sl.v2]
  simp only [View.readAt_eq_ld, Memref.IsWhole.read_unread]
  pointwise
  rw [pk_at, four_rows]
  rfl

section Poison
variable {x5 x6 x7}
  (hp : ∀ (r : Fin 128) (j : Fin 256), inw (IntOp.subi (x5 (ix2 r 0)) (pk (i 0).val x6 x7 j)) = 1#1 →
    IntOp.subi (x5 (ix2 r 0)) (pk (i 0).val x6 x7 j) = IntOp.subi (IntOp.addi (BitVec.ofNat 32 r.val) 128#32) (BitVec.ofNat 32 j.val))
include hp

theorem off (r : Fin 128) (j : Fin 256) : sl.v50 (F := Ideal) c i arg6 harg6 arg7 harg7 arg8 harg8 x5 x6 x7 (ix2 r j) = 0#32 := by
  have k := hp r j
  unfold sl.v50
  pointwise [sl.v49, sl.v48, sl.v47, sl.v44, sl.v43, sl.v42, sl.v41, sl.v40, sl.v39, sl.v38, sl.v37, sl.v36, sl.v35, sl.v12, sl.v10, sl.v9, sl.v8,
    sl.v7, sl.v5, sl.v4, sl.v3, sl.v2]
  simp only [View.readAt_eq_ld, Memref.IsWhole.read_unread]
  pointwise
  rw [pk_at]
  change BitVec.setWidth 32 (IntOp.andi (inw _) _) = 0#32
  rcases BitVec.eq_zero_or_eq_one (inw (IntOp.subi (x5 (ix2 r 0)) (pk (i 0).val x6 x7 j))) with h | h
  · rw [h]; simp [IntOp.andi]
  · rw [h, k h]; simp [IntOp.cmpi, IntOp.andi]

/-- Where every visible position is at its place the call adds nothing to its output. -/
theorem poison : sl.v57 (F := Ideal) c i arg6 harg6 arg7 harg7 arg8 harg8 x5 x6 x7 = ((0 : ℝ) : EReal) := by
  unfold sl.v57 sl.v56 sl.v55 sl.v54
  pointwise [sl.v53, sl.v52, sl.v51]
  simp only [off c i arg6 harg6 arg7 harg7 arg8 harg8 hp]
  have z : sl.cst_19 (F := Ideal) = ((0 : ℝ) : EReal) := by unfold sl.cst_19; exact w0
  rw [z, if_neg]
  refine not_lt.2 ((Finset.fold_max_le _).2 ⟨?_, fun x _ => ?_⟩)
  · rw [wninf]; exact bot_le
  · exact le_of_eq (by simp [FloatOps.sitofp])
end Poison

end Run

end Cert.SwaFwd
end
-- ==== Proof.SwaFwdB.lean ====
/- The sliding-window attention (`swa_fwd`): what a point of the call stores. -/
module

public import proofs.«01_k».proof.Proof.SwaFwdA

@[expose] public section

set_option maxRecDepth 16384

noncomputable section

open Idealize.ShloMosaic Idealize.ShloMosaic.TcCoe Idealize.SL.Sem
open Idealize.ShloMosaic.Pipeline (Dat)
open Cert.Lift

namespace Cert.SwaFwd
open Cert.KernelSwaFwdIdeal Cert.KernelSwaFwdIdeal.Gen

/-! ## A point's blocks -/

/-- A group's rows: four heads of the same 128 queries. -/
def wr (w : Fin 128 → Fin 256 → BitVec 1) (r : Fin 512) (j : Fin 256) : BitVec 1 := w ⟨r.val % 128, by omega⟩ j
def qg (q : Fin 128 → Fin 1024 → ℝ) (g : Fin 4) (r : Fin 512) (e : Fin 64) : ℝ := q ⟨r.val % 128, by omega⟩ ⟨g.val * 256 + r.val / 128 * 64 + e.val, by omega⟩
def kg (k : Fin 256 → Fin 256 → ℝ) (g : Fin 4) (j : Fin 256) (e : Fin 64) : ℝ := k j ⟨g.val * 64 + e.val, by omega⟩
def sg (s : Fin 16 → ℝ) (g n : Fin 4) : ℝ := s ⟨g.val * 4 + n.val, by omega⟩

/-- The output of row `r` of group `g`. -/
def oG (w : Fin 128 → Fin 256 → BitVec 1) (q : Fin 128 → Fin 1024 → ℝ) (k v : Fin 256 → Fin 256 → ℝ) (b : Fin 4 → Fin 512 → Fin 256 → ℝ) (s : Fin 16 → ℝ)
    (g : Fin 4) (r : Fin 512) (e : Fin 64) : ℝ := og (wr w) (qg q g) (kg k g) (kg v g) (b g) (sg s g) r e

/-- The output of a point: column `x` belongs to group `x / 256` and to its head `x / 64 % 4`. -/
def oB (w : Fin 128 → Fin 256 → BitVec 1) (q : Fin 128 → Fin 1024 → ℝ) (k v : Fin 256 → Fin 256 → ℝ) (b : Fin 4 → Fin 512 → Fin 256 → ℝ) (s : Fin 16 → ℝ)
    (a : Fin 128) (x : Fin 1024) : ℝ :=
  oG w q k v b s ⟨x.val / 256, by omega⟩ ⟨x.val / 64 % 4 * 128 + a.val, by omega⟩ ⟨x.val % 64, by omega⟩

/-- A point's blocks are these reals, these columns are visible, and every visible one is at its place. -/
structure Blk (i : ℕ) (x0 : Vec Ideal S128x1024 .bf16) (x1 x2 x3 x4 : Vec Ideal S128x256 .bf16) (x5 : Vec Ideal S128x1 .i32) (x6 x7 : Vec Ideal S1x128 .i32)
    (x8 : Vec Ideal S4x512x256 .f32) (x9 : Vec Ideal S1x16 .f32) (w : Fin 128 → Fin 256 → BitVec 1) (q : Fin 128 → Fin 1024 → ℝ) (k v : Fin 256 → Fin 256 → ℝ)
    (b : Fin 4 → Fin 512 → Fin 256 → ℝ) (s : Fin 16 → ℝ) : Prop where
  hq : ∀ a e, x0 (ix2 a e) = (q a e : EReal)
  hk : ∀ j e, two x1 x2 j e = (k j e : EReal)
  hv : ∀ j e, two x3 x4 j e = (v j e : EReal)
  hb : ∀ g r j, x8 (ix3 g r j) = (b g r j : EReal)
  hs : ∀ n, x9 (ix2 0 n) = (s n : EReal)
  hw : ∀ a j, inw (IntOp.subi (x5 (ix2 a 0)) (pk i x6 x7 j)) = w a j
  hp : ∀ (a : Fin 128) (j : Fin 256), inw (IntOp.subi (x5 (ix2 a 0)) (pk i x6 x7 j)) = 1#1 →
    IntOp.subi (x5 (ix2 a 0)) (pk i x6 x7 j) = IntOp.subi (IntOp.addi (BitVec.ofNat 32 a.val) 128#32) (BitVec.ofNat 32 j.val)

section Run
open kernelRun0_A
variable (c : Dev nD) (i : grid0.Coords)
  (arg1 : Memref sig .tc .vmem S128x1024 .bf16) (harg1 : arg1.IsWhole) (arg2 : Memref sig .tc .vmem S128x256 .bf16) (harg2 : arg2.IsWhole)
  (arg3 : Memref sig .tc .vmem S128x256 .bf16) (harg3 : arg3.IsWhole) (arg4 : Memref sig .tc .vmem S128x256 .bf16) (harg4 : arg4.IsWhole)
  (arg5 : Memref sig .tc .vmem S128x256 .bf16) (harg5 : arg5.IsWhole) (arg6 : Memref sig .tc .vmem S128x1 .i32) (harg6 : arg6.IsWhole)
  (arg7 : Memref sig .tc .vmem S1x128 .i32) (harg7 : arg7.IsWhole) (arg8 : Memref sig .tc .vmem S1x128 .i32) (harg8 : arg8.IsWhole)
  (arg9 : Memref sig .tc .vmem S4x512x256 .f32) (harg9 : arg9.IsWhole) (arg10 : Memref sig .tc .smem S1x16 .f32) (harg10 : arg10.IsWhole)
  (arg11 : Memref sig .tc .vmem S128x1024 .f32) (harg11 : arg11.IsWhole)
  {x0 : Vec Ideal S128x1024 .bf16} {x1 x2 x3 x4 : Vec Ideal S128x256 .bf16} {x5 : Vec Ideal S128x1 .i32} {x6 x7 : Vec Ideal S1x128 .i32}
  {x8 : Vec Ideal S4x512x256 .f32} {x9 : Vec Ideal S1x16 .f32} {w : Fin 128 → Fin 256 → BitVec 1} {q : Fin 128 → Fin 1024 → ℝ} {k v : Fin 256 → Fin 256 → ℝ}
  {b : Fin 4 → Fin 512 → Fin 256 → ℝ} {s : Fin 16 → ℝ} (B : Blk (i 0).val x0 x1 x2 x3 x4 x5 x6 x7 x8 x9 w q k v b s)
include B

/-- The visible columns of a group's rows. -/
theorem vis_eq : (fun (r : Fin 512) (j : Fin 256) => sl.v21 (F := Ideal) c i arg6 harg6 arg7 harg7 arg8 harg8 x5 x6 x7 (ix2 r j)) = wr w :=
  funext₂ fun r j => (vis c i arg6 harg6 arg7 harg7 arg8 harg8 x5 x6 x7 r j).trans (B.hw _ j)

/-- Group 1. -/
theorem grp1 (r : Fin 512) (e : Fin 64) : sl.r_11 (F := Ideal) c i arg1 harg1 arg2 harg2 arg3 harg3 arg4 harg4 arg5 harg5 arg6 harg6 arg7 harg7 arg8 harg8 arg9 harg9 arg10 harg10 x0 x1 x2 x3 x4 x5 x6 x7 x8 x9 (ix2 r e) = (oG w q k v b s 1 r e : EReal) := by
  have hK : ∀ j e, sl.v134 (F := Ideal) c arg2 harg2 arg3 harg3 x1 x2 (ix2 j e) = (kg k 1 j e : EReal) := fun j e => by
    unfold sl.v134
    pointwise
    refine (keys c arg2 harg2 arg3 harg3 x1 x2 _ _).trans ((B.hk _ _).trans ?_)
    exact congrArg (fun n => ((k j n : ℝ) : EReal)) (Fin.ext (by simp))
  have hV : ∀ j e, sl.v135 (F := Ideal) c arg4 harg4 arg5 harg5 x3 x4 (ix2 j e) = (kg v 1 j e : EReal) := fun j e => by
    unfold sl.v135
    pointwise
    refine (vals c arg4 harg4 arg5 harg5 x3 x4 _ _).trans ((B.hv _ _).trans ?_)
    exact congrArg (fun n => ((v j n : ℝ) : EReal)) (Fin.ext (by simp))
  have hQ : ∀ r e, sl.v144 (F := Ideal) c arg1 harg1 x0 (ix2 r e) = (qg q 1 r e : EReal) := fun r e =>
    (quer1 c arg1 harg1 x0 r e).trans (B.hq _ _)
  have hB : ∀ r j, sl.v146 (F := Ideal) c arg9 harg9 x8 (ix2 r j) = (b 1 r j : EReal) := fun r j => (bias1 c arg9 harg9 x8 r j).trans (B.hb _ _ _)
  have s0 : sl.r_7 (F := Ideal) c arg10 harg10 x9 = (sg s 1 0 : EReal) := (sinks c arg10 harg10 x9).2.2.2.2.1.trans (B.hs _)
  have s1 : sl.r_8 (F := Ideal) c arg10 harg10 x9 = (sg s 1 1 : EReal) := (sinks c arg10 harg10 x9).2.2.2.2.2.1.trans (B.hs _)
  have s2 : sl.r_9 (F := Ideal) c arg10 harg10 x9 = (sg s 1 2 : EReal) := (sinks c arg10 harg10 x9).2.2.2.2.2.2.1.trans (B.hs _)
  have s3 : sl.r_10 (F := Ideal) c arg10 harg10 x9 = (sg s 1 3 : EReal) := (sinks c arg10 harg10 x9).2.2.2.2.2.2.2.1.trans (B.hs _)
  unfold sl.r_11
  rw [poison c i arg6 harg6 arg7 harg7 arg8 harg8 B.hp, s0, s1, s2, s3]
  refine (pay_h1 hQ hK hV hB r e).trans ?_
  rw [vis_eq c i arg6 harg6 arg7 harg7 arg8 harg8 B]
  rfl

/-- Group 2. -/
theorem grp2 (r : Fin 512) (e : Fin 64) : sl.r_16 (F := Ideal) c i arg1 harg1 arg2 harg2 arg3 harg3 arg4 harg4 arg5 harg5 arg6 harg6 arg7 harg7 arg8 harg8 arg9 harg9 arg10 harg10 x0 x1 x2 x3 x4 x5 x6 x7 x8 x9 (ix2 r e) = (oG w q k v b s 2 r e : EReal) := by
  have hK : ∀ j e, sl.v200 (F := Ideal) c arg2 harg2 arg3 harg3 x1 x2 (ix2 j e) = (kg k 2 j e : EReal) := fun j e => by
    unfold sl.v200
    pointwise
    refine (keys c arg2 harg2 arg3 harg3 x1 x2 _ _).trans ((B.hk _ _).trans ?_)
    exact congrArg (fun n => ((k j n : ℝ) : EReal)) (Fin.ext (by simp))
  have hV : ∀ j e, sl.v201 (F := Ideal) c arg4 harg4 arg5 harg5 x3 x4 (ix2 j e) = (kg v 2 j e : EReal) := fun j e => by
    unfold sl.v201
    pointwise
    refine (vals c arg4 harg4 arg5 harg5 x3 x4 _ _).trans ((B.hv _ _).trans ?_)
    exact congrArg (fun n => ((v j n : ℝ) : EReal)) (Fin.ext (by simp))
  have hQ : ∀ r e, sl.v210 (F := Ideal) c arg1 harg1 x0 (ix2 r e) = (qg q 2 r e : EReal) := fun r e =>
    (quer2 c arg1 harg1 x0 r e).trans (B.hq _ _)
  have hB : ∀ r j, sl.v212 (F := Ideal) c arg9 harg9 x8 (ix2 r j) = (b 2 r j : EReal) := fun r j => (bias2 c arg9 harg9 x8 r j).trans (B.hb _ _ _)
  have s0 : sl.r_12 (F := Ideal) c arg10 harg10 x9 = (sg s 2 0 : EReal) := (sinks c arg10 harg10 x9).2.2.2.2.2.2.2.2.1.trans (B.hs _)
  have s1 : sl.r_13 (F := Ideal) c arg10 harg10 x9 = (sg s 2 1 : EReal) := (sinks c arg10 harg10 x9).2.2.2.2.2.2.2.2.2.1.trans (B.hs _)
  have s2 : sl.r_14 (F := Ideal) c arg10 harg10 x9 = (sg s 2 2 : EReal) := (sinks c arg10 harg10 x9).2.2.2.2.2.2.2.2.2.2.1.trans (B.hs _)
  have s3 : sl.r_15 (F := Ideal) c arg10 harg10 x9 = (sg s 2 3 : EReal) := (sinks c arg10 harg10 x9).2.2.2.2.2.2.2.2.2.2.2.1.trans (B.hs _)
  unfold sl.r_16
  have z : sl.v222 (F := Ideal) c arg10 harg10 x9 = k0_pay36 ((sg s 2 0 : ℝ) : EReal) ((sg s 2 1 : ℝ) : EReal) :=
    (show _ = k0_pay36 (sl.r_12 (F := Ideal) c arg10 harg10 x9) (sl.r_13 (F := Ideal) c arg10 harg10 x9) from rfl).trans (by rw [s0, s1])
  rw [poison c i arg6 harg6 arg7 harg7 arg8 harg8 B.hp, s2, s3, z]
  refine (pay_h2 hQ hK hV hB r e).trans ?_
  rw [vis_eq c i arg6 harg6 arg7 harg7 arg8 harg8 B]
  rfl

/-- Group 0. -/
theorem grp0 (r : Fin 512) (e : Fin 64) : sl.v125 (F := Ideal) c i arg1 harg1 arg2 harg2 arg3 harg3 arg4 harg4 arg5 harg5 arg6 harg6 arg7 harg7 arg8 harg8 arg9 harg9 arg10 harg10 x0 x1 x2 x3 x4 x5 x6 x7 x8 x9 (ix2 r e) = (oG w q k v b s 0 r e : EReal) := by
  have hK : ∀ j e, sl.v68 (F := Ideal) c arg2 harg2 arg3 harg3 x1 x2 (ix2 j e) = (kg k 0 j e : EReal) := fun j e => by
    unfold sl.v68
    pointwise
    refine (keys c arg2 harg2 arg3 harg3 x1 x2 _ _).trans ((B.hk _ _).trans ?_)
    exact congrArg (fun n => ((k j n : ℝ) : EReal)) (Fin.ext (by simp))
  have hV : ∀ j e, sl.v69 (F := Ideal) c arg4 harg4 arg5 harg5 x3 x4 (ix2 j e) = (kg v 0 j e : EReal) := fun j e => by
    unfold sl.v69
    pointwise
    refine (vals c arg4 harg4 arg5 harg5 x3 x4 _ _).trans ((B.hv _ _).trans ?_)
    exact congrArg (fun n => ((v j n : ℝ) : EReal)) (Fin.ext (by simp))
  have s0 : sl.r (F := Ideal) c arg10 harg10 x9 = (sg s 0 0 : EReal) := (sinks c arg10 harg10 x9).1.trans (B.hs _)
  have s1 : sl.r_1 (F := Ideal) c arg10 harg10 x9 = (sg s 0 1 : EReal) := (sinks c arg10 harg10 x9).2.1.trans (B.hs _)
  have s2 : sl.r_2 (F := Ideal) c arg10 harg10 x9 = (sg s 0 2 : EReal) := (sinks c arg10 harg10 x9).2.2.1.trans (B.hs _)
  have s3 : sl.r_3 (F := Ideal) c arg10 harg10 x9 = (sg s 0 3 : EReal) := (sinks c arg10 harg10 x9).2.2.2.1.trans (B.hs _)
  have hQ : ∀ (r : Fin 512) (e : Fin 64), (if h : r.val < 128 then sl.v71 (F := Ideal) c arg1 harg1 x0 (ix2 ⟨r.val, h⟩ e)
      else if h : r.val - 128 < 128 then sl.v73 (F := Ideal) c arg1 harg1 x0 (ix2 ⟨r.val - 128, h⟩ e)
        else if h : r.val - 128 - 128 < 128 then sl.v75 (F := Ideal) c arg1 harg1 x0 (ix2 ⟨r.val - 128 - 128, h⟩ e)
          else x0 (ix2 ⟨r.val - 128 - 128 - 128, by omega⟩ ⟨192 + e.val, by omega⟩)) = (qg q 0 r e : EReal) := fun r e => by
    pointwise [sl.v71, sl.v73, sl.v75]
    simp only [View.readAt_eq_ld, Memref.IsWhole.read_unread]
    pointwise
    refine Eq.trans ?_ ((four x0 0 (by norm_num) r e).trans ((B.hq _ _).trans ?_))
    · split_ifs
      all_goals exact congrArg x0 (congrArg₂ ix2 rfl (Fin.ext (by simp)))
    · exact congrArg (fun n => ((q _ n : ℝ) : EReal)) (Fin.ext (by simp))
  change k0_pay17 (sl.v57 (F := Ideal) c i arg6 harg6 arg7 harg7 arg8 harg8 x5 x6 x7) (sl.v69 c arg4 harg4 arg5 harg5 x3 x4)
    (sl.r_4 c i arg1 harg1 arg2 harg2 arg3 harg3 arg6 harg6 arg7 harg7 arg8 harg8 arg9 harg9 arg10 harg10 x0 x1 x2 x5 x6 x7 x8 x9)
    (sl.r_5 c i arg1 harg1 arg2 harg2 arg3 harg3 arg6 harg6 arg7 harg7 arg8 harg8 arg9 harg9 arg10 harg10 x0 x1 x2 x5 x6 x7 x8 x9)
    (sl.r_6 c i arg1 harg1 arg2 harg2 arg3 harg3 arg6 harg6 arg7 harg7 arg8 harg8 arg9 harg9 arg10 harg10 x0 x1 x2 x5 x6 x7 x8 x9) (ix2 r e) = _
  unfold sl.r_4 sl.r_5 sl.r_6
  rw [poison c i arg6 harg6 arg7 harg7 arg8 harg8 B.hp, s0, s1, s2, s3]
  simp only [View.readAt_eq_ld, Memref.IsWhole.read_unread]
  refine (pay_h0 (fun r e => Eq.trans ?_ (hQ r e)) hK hV (fun r j => Eq.trans ?_ (B.hb 0 r j)) r e).trans ?_
  · split_ifs
    · rfl
    · rfl
    · rfl
    · pointwise
  · pointwise
  rw [vis_eq c i arg6 harg6 arg7 harg7 arg8 harg8 B]
  rfl

/-- Group 3. -/
theorem grp3 (r : Fin 512) (e : Fin 64) : k0_pay48 (sl.v21 (F := Ideal) c i arg6 harg6 arg7 harg7 arg8 harg8 x5 x6 x7)
    (sl.v57 c i arg6 harg6 arg7 harg7 arg8 harg8 x5 x6 x7) (sl.v266 c arg2 harg2 arg3 harg3 x1 x2) (sl.v267 c arg4 harg4 arg5 harg5 x3 x4)
    (sl.v276 c arg1 harg1 x0) (sl.v278 c arg9 harg9 x8) (sl.v293 c arg10 harg10 x9) (cmpi .sge sl.v147 sl.v294) (sl.r_21 c arg10 harg10 x9) (ix2 r e) = (oG w q k v b s 3 r e : EReal) := by
  have hK : ∀ j e, sl.v266 (F := Ideal) c arg2 harg2 arg3 harg3 x1 x2 (ix2 j e) = (kg k 3 j e : EReal) := fun j e => by
    unfold sl.v266
    pointwise
    refine (keys c arg2 harg2 arg3 harg3 x1 x2 _ _).trans ((B.hk _ _).trans ?_)
    exact congrArg (fun n => ((k j n : ℝ) : EReal)) (Fin.ext (by simp))
  have hV : ∀ j e, sl.v267 (F := Ideal) c arg4 harg4 arg5 harg5 x3 x4 (ix2 j e) = (kg v 3 j e : EReal) := fun j e => by
    unfold sl.v267
    pointwise
    refine (vals c arg4 harg4 arg5 harg5 x3 x4 _ _).trans ((B.hv _ _).trans ?_)
    exact congrArg (fun n => ((v j n : ℝ) : EReal)) (Fin.ext (by simp))
  have hQ : ∀ r e, sl.v276 (F := Ideal) c arg1 harg1 x0 (ix2 r e) = (qg q 3 r e : EReal) := fun r e =>
    (quer3 c arg1 harg1 x0 r e).trans (B.hq _ _)
  have hB : ∀ r j, sl.v278 (F := Ideal) c arg9 harg9 x8 (ix2 r j) = (b 3 r j : EReal) := fun r j => (bias3 c arg9 harg9 x8 r j).trans (B.hb _ _ _)
  have s0 : sl.r_18 (F := Ideal) c arg10 harg10 x9 = (sg s 3 0 : EReal) := (sinks c arg10 harg10 x9).2.2.2.2.2.2.2.2.2.2.2.2.1.trans (B.hs _)
  have s1 : sl.r_19 (F := Ideal) c arg10 harg10 x9 = (sg s 3 1 : EReal) := (sinks c arg10 harg10 x9).2.2.2.2.2.2.2.2.2.2.2.2.2.1.trans (B.hs _)
  have s2 : sl.r_20 (F := Ideal) c arg10 harg10 x9 = (sg s 3 2 : EReal) := (sinks c arg10 harg10 x9).2.2.2.2.2.2.2.2.2.2.2.2.2.2.1.trans (B.hs _)
  have s3 : sl.r_21 (F := Ideal) c arg10 harg10 x9 = (sg s 3 3 : EReal) := (sinks c arg10 harg10 x9).2.2.2.2.2.2.2.2.2.2.2.2.2.2.2.trans (B.hs _)
  have z : sl.v293 (F := Ideal) c arg10 harg10 x9 = k0_pay46 ((sg s 3 0 : ℝ) : EReal) ((sg s 3 1 : ℝ) : EReal) ((sg s 3 2 : ℝ) : EReal) :=
    (show _ = k0_pay46 (sl.r_18 (F := Ideal) c arg10 harg10 x9) (sl.r_19 (F := Ideal) c arg10 harg10 x9) (sl.r_20 (F := Ideal) c arg10 harg10 x9) from rfl).trans
      (by rw [s0, s1, s2])
  rw [poison c i arg6 harg6 arg7 harg7 arg8 harg8 B.hp, s3, z]
  refine (pay_h3 hQ hK hV hB r e).trans ?_
  rw [vis_eq c i arg6 harg6 arg7 harg7 arg8 harg8 B]
  rfl

omit B in
theorem oB_at (g h : Fin 4) (a a' : Fin 128) (e : Fin 64) (r : Fin 512) (y : Fin 1024) (ha : a'.val = a.val) (hr : r.val = h.val * 128 + a.val)
    (hy : y.val = g.val * 256 + h.val * 64 + e.val) : oG w q k v b s g r e = oB w q k v b s a' y := by
  unfold oB
  have h1 : (⟨y.val / 256, by omega⟩ : Fin 4) = g := Fin.ext (by simp only; omega)
  have h2 : (⟨y.val / 64 % 4 * 128 + a'.val, by omega⟩ : Fin 512) = r := Fin.ext (by simp only; omega)
  have h3 : (⟨y.val % 64, by omega⟩ : Fin 64) = e := Fin.ext (by simp only; omega)
  rw [h1, h2, h3]

omit B in
/-- The rows of a group's head `h`, stored as its columns. -/
theorem piece (g h : Fin 4) {pay : S512x64.Idx → EReal} (hpay : ∀ r e, pay (ix2 r e) = (oG w q k v b s g r e : EReal)) (n o : ℕ)
    (hs : S512x64.Slices ![n, 0] S128x64) (inb : ∀ a, (![0, o] : Fin 2 → ℕ) a + (![128, 64] : Fin 2 → ℕ) a ≤ S128x1024.size a) (hn : n = h.val * 128) (ho : o = g.val * 256 + h.val * 64) (x : S128x64.Idx) :
    extractStridedSlice S128x64 ![n, 0] pay hs x
      = ((oB w q k v b s ((Rect.unit (s := S128x1024) ![0, o] ![128, 64] inb).emb x 0) ((Rect.unit (s := S128x1024) ![0, o] ![128, 64] inb).emb x 1) : ℝ) : EReal) := by
  subst hn ho
  idx_vars x
  rw [extractStridedSlice_apply _ _ _ (ix2 x0 x1) (ix2 ⟨h.val * 128 + x0.val, by omega⟩ x1) (fun a => by fin_cases a <;> simp), hpay]
  refine congrArg (fun z : ℝ => (z : EReal)) (oB_at g h x0 _ x1 _ _ ?_ rfl ?_)
  · simp
  · simp

set_option maxHeartbeats 4000000 in
/-- What a point leaves in its output block. -/
theorem out_at (y : S128x1024.Idx) : out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 x9 y = (oB w q k v b s (y 0) (y 1) : EReal) := by
  unfold out0_A_10
  rw [View.read_writes_junk_eq_canon]
  refine View.canon_apply_of_pieces (fun y => ((oB w q k v b s (y 0) (y 1) : ℝ) : EReal)) _ ?_ y
    (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9 y)
  intro p hp x
  simp only [kernelRun0_A, List.mem_cons, List.mem_nil_iff, or_false] at hp
  rcases hp with rfl | rfl | rfl | rfl | rfl | rfl | rfl | rfl | rfl | rfl | rfl | rfl | rfl | rfl | rfl | rfl
  · exact piece 3 3 (grp3 c i arg1 harg1 arg2 harg2 arg3 harg3 arg4 harg4 arg5 harg5 arg6 harg6 arg7 harg7 arg8 harg8 arg9 harg9 arg10 harg10 B) 384 960 slices_S512x64_o384_0_S128x64 inb_S128x1024_S128x64_0_960 rfl rfl x
  · exact piece 3 2 (grp3 c i arg1 harg1 arg2 harg2 arg3 harg3 arg4 harg4 arg5 harg5 arg6 harg6 arg7 harg7 arg8 harg8 arg9 harg9 arg10 harg10 B) 256 896 slices_S512x64_o256_0_S128x64 inb_S128x1024_S128x64_0_896 rfl rfl x
  · exact piece 3 1 (grp3 c i arg1 harg1 arg2 harg2 arg3 harg3 arg4 harg4 arg5 harg5 arg6 harg6 arg7 harg7 arg8 harg8 arg9 harg9 arg10 harg10 B) 128 832 slices_S512x64_o128_0_S128x64 inb_S128x1024_S128x64_0_832 rfl rfl x
  · exact piece 3 0 (grp3 c i arg1 harg1 arg2 harg2 arg3 harg3 arg4 harg4 arg5 harg5 arg6 harg6 arg7 harg7 arg8 harg8 arg9 harg9 arg10 harg10 B) 0 768 slices_S512x64_o0_0_S128x64 inb_S128x1024_S128x64_0_768 rfl rfl x
  · exact piece 2 3 (grp2 c i arg1 harg1 arg2 harg2 arg3 harg3 arg4 harg4 arg5 harg5 arg6 harg6 arg7 harg7 arg8 harg8 arg9 harg9 arg10 harg10 B) 384 704 slices_S512x64_o384_0_S128x64 inb_S128x1024_S128x64_0_704 rfl rfl x
  · exact piece 2 2 (grp2 c i arg1 harg1 arg2 harg2 arg3 harg3 arg4 harg4 arg5 harg5 arg6 harg6 arg7 harg7 arg8 harg8 arg9 harg9 arg10 harg10 B) 256 640 slices_S512x64_o256_0_S128x64 inb_S128x1024_S128x64_0_640 rfl rfl x
  · exact piece 2 1 (grp2 c i arg1 harg1 arg2 harg2 arg3 harg3 arg4 harg4 arg5 harg5 arg6 harg6 arg7 harg7 arg8 harg8 arg9 harg9 arg10 harg10 B) 128 576 slices_S512x64_o128_0_S128x64 inb_S128x1024_S128x64_0_576 rfl rfl x
  · exact piece 2 0 (grp2 c i arg1 harg1 arg2 harg2 arg3 harg3 arg4 harg4 arg5 harg5 arg6 harg6 arg7 harg7 arg8 harg8 arg9 harg9 arg10 harg10 B) 0 512 slices_S512x64_o0_0_S128x64 inb_S128x1024_S128x64_0_512 rfl rfl x
  · exact piece 1 3 (grp1 c i arg1 harg1 arg2 harg2 arg3 harg3 arg4 harg4 arg5 harg5 arg6 harg6 arg7 harg7 arg8 harg8 arg9 harg9 arg10 harg10 B) 384 448 slices_S512x64_o384_0_S128x64 inb_S128x1024_S128x64_0_448 rfl rfl x
  · exact piece 1 2 (grp1 c i arg1 harg1 arg2 harg2 arg3 harg3 arg4 harg4 arg5 harg5 arg6 harg6 arg7 harg7 arg8 harg8 arg9 harg9 arg10 harg10 B) 256 384 slices_S512x64_o256_0_S128x64 inb_S128x1024_S128x64_0_384 rfl rfl x
  · exact piece 1 1 (grp1 c i arg1 harg1 arg2 harg2 arg3 harg3 arg4 harg4 arg5 harg5 arg6 harg6 arg7 harg7 arg8 harg8 arg9 harg9 arg10 harg10 B) 128 320 slices_S512x64_o128_0_S128x64 inb_S128x1024_S128x64_0_320 rfl rfl x
  · exact piece 1 0 (grp1 c i arg1 harg1 arg2 harg2 arg3 harg3 arg4 harg4 arg5 harg5 arg6 harg6 arg7 harg7 arg8 harg8 arg9 harg9 arg10 harg10 B) 0 256 slices_S512x64_o0_0_S128x64 inb_S128x1024_S128x64_0_256 rfl rfl x
  · exact piece 0 3 (grp0 c i arg1 harg1 arg2 harg2 arg3 harg3 arg4 harg4 arg5 harg5 arg6 harg6 arg7 harg7 arg8 harg8 arg9 harg9 arg10 harg10 B) 384 192 slices_S512x64_o384_0_S128x64 inb_S128x1024_S128x64_0_192 rfl rfl x
  · exact piece 0 2 (grp0 c i arg1 harg1 arg2 harg2 arg3 harg3 arg4 harg4 arg5 harg5 arg6 harg6 arg7 harg7 arg8 harg8 arg9 harg9 arg10 harg10 B) 256 128 slices_S512x64_o256_0_S128x64 inb_S128x1024_S128x64_0_128 rfl rfl x
  · exact piece 0 1 (grp0 c i arg1 harg1 arg2 harg2 arg3 harg3 arg4 harg4 arg5 harg5 arg6 harg6 arg7 harg7 arg8 harg8 arg9 harg9 arg10 harg10 B) 128 64 slices_S512x64_o128_0_S128x64 inb_S128x1024_S128x64_0_64 rfl rfl x
  · exact piece 0 0 (grp0 c i arg1 harg1 arg2 harg2 arg3 harg3 arg4 harg4 arg5 harg5 arg6 harg6 arg7 harg7 arg8 harg8 arg9 harg9 arg10 harg10 B) 0 0 slices_S512x64_o0_0_S128x64 inb_S128x1024_S128x64_0_0 rfl rfl x

end Run

end Cert.SwaFwd
end
-- ==== Proof.SwaFwdR.lean ====
/- The sliding-window attention (`swa_fwd`): the reference's lines, read at an index. -/
module

public import proofs.«01_k».proof.Proof.SwaFwdA
public import proofs.«01_k».proof.Proof.Gen.ReferenceSwaFwdIdeal.Read

@[expose] public section

set_option maxRecDepth 16384

noncomputable section

open Idealize.ShloMosaic Idealize.ShloMosaic.TcCoe Idealize.SL.Sem
open Cert.Lift

namespace Cert.SwaFwd
open Cert.ReferenceSwaFwdIdeal Cert.ReferenceSwaFwdIdeal.Read

/-! ## The arguments -/

/-- The arguments: queries, keys, values, the bias of a bucket, the sinks as reals, the positions as words. -/
structure Re where
  q : Fin 4096 → Fin 1024 → ℝ
  k : Fin 4096 → Fin 256 → ℝ
  v : Fin 4096 → Fin 256 → ℝ
  p : Fin 4096 → BitVec 32
  rb : Fin 32 → Fin 16 → ℝ
  s : Fin 16 → ℝ

/-- The arguments are the coercions of these reals, and these words. -/
structure Args (a0 : Vec Ideal S1x4096x1024 .f32) (a1 a2 : Vec Ideal S1x4096x256 .f32) (a3 : Vec Ideal S1x4096 .i32) (a4 : Vec Ideal S32x16 .f32)
    (a5 : Vec Ideal S1x16 .f32) (z : Re) : Prop where
  h0 : ∀ i j, a0 (ix3 0 i j) = (z.q i j : EReal)
  h1 : ∀ i j, a1 (ix3 0 i j) = (z.k i j : EReal)
  h2 : ∀ i j, a2 (ix3 0 i j) = (z.v i j : EReal)
  h3 : ∀ i, a3 (ix2 0 i) = z.p i
  h4 : ∀ i j, a4 (ix2 i j) = (z.rb i j : EReal)
  h5 : ∀ j, a5 (ix2 0 j) = (z.s j : EReal)

/-- Row `a` of block `t`. -/
def rw' (t : Fin 32) (a : Fin 128) : Fin 4096 := ⟨t.val * 128 + a.val, by omega⟩

/-- The rows of a block's window: the previous block's rows, then its own; before the first block stands a padding. -/
def win {α : Type} (pad : α) (x : Fin 4096 → α) (t : Fin 32) (j : Fin 256) : α :=
  if h : j.val < 128 then (if h0 : t.val = 0 then pad else x ⟨(t.val - 1) * 128 + j.val, by omega⟩) else x ⟨t.val * 128 + (j.val - 128), by omega⟩

variable {a0 : Vec Ideal S1x4096x1024 .f32} {a1 a2 : Vec Ideal S1x4096x256 .f32} {a3 : Vec Ideal S1x4096 .i32} {a4 : Vec Ideal S32x16 .f32}
  {a5 : Vec Ideal S1x16 .f32} {z : Re}

theorem gather_at (x : Vec Ideal S32x16 .f32) (n : IVec S1x32x128x256x1 32) (t : Fin 32) (a : Fin 128) (j : Fin 256) (h : Fin 16) :
    Host.gather gather_S32x16_S1x32x128x256x1_S1x32x128x256x16_4_0_n_n_0_4_116 x n (ix5 0 t a j h)
      = x (ix2 ⟨min (n (ix5 0 t a j 0)).toInt.toNat 31, by omega⟩ h) := by
  unfold Host.gather
  refine congrArg x (funext fun b => Fin.ext ?_)
  match b with
  | ⟨0, _⟩ =>
    change GatherDims.start _ _ n 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x16_S1x32x128x256x1_S1x32x128x256x16_4_0_n_n_0_4_116.startIndexMap from List.mem_singleton.mpr rfl)]
    have e : gather_S32x16_S1x32x128x256x1_S1x32x128x256x16_4_0_n_n_0_4_116.siIdx (ix5 0 t a j h)
        ⟨List.idxOf (0 : Fin 2) gather_S32x16_S1x32x128x256x1_S1x32x128x256x16_4_0_n_n_0_4_116.startIndexMap,
          List.idxOf_lt_length_iff.2 (List.mem_singleton.mpr rfl)⟩ = ix5 0 t a j 0 := by
      funext b; refine Fin.ext ?_
      match b with
      | ⟨0, _⟩ => rfl
      | ⟨1, _⟩ => rfl
      | ⟨2, _⟩ => rfl
      | ⟨3, _⟩ => rfl
      | ⟨4, _⟩ => rfl
    rw [e]
    rfl
  | ⟨1, _⟩ =>
    change GatherDims.start _ _ n 1 + GatherDims.batchCoord _ _ 1 + GatherDims.offCoord _ _ 1 = _
    rw [GatherDims.batchCoord_eq_zero _ _ _ List.not_mem_nil]
    unfold GatherDims.start
    rw [dif_neg (by decide)]
    simp only [Nat.add_zero, Nat.zero_add]
    unfold GatherDims.offCoord
    rw [dif_pos (by decide)]
    rfl

/-- The bucket of a distance before it is wrapped. -/
def bk0 (d : BitVec 32) : BitVec 32 :=
  Scalar.select (IntOp.cmpi .slt (IntOp.maxsi d 0#32) 16#32) (IntOp.maxsi d 0#32)
    (IntOp.minsi (IntOp.addi 16#32 (FloatOps.fptosi (F := Ideal) (φ := .f32) 32
      (Ideal.div (Ideal.log (Ideal.div (FloatOps.sitofp (F := Ideal) .f32 (IntOp.maxsi (IntOp.maxsi d 0#32) 1#32)) (Ideal.ofBits .f32 1098907648#32)))
        (Ideal.ofBits .f32 1074075026#32) * Ideal.ofBits .f32 1098907648#32))) 31#32)

/-- The bucket of a distance, an index into the table. -/
def bk (d : BitVec 32) : BitVec 32 := Scalar.select (IntOp.cmpi .slt (bk0 d) 0#32) (IntOp.addi (bk0 d) 32#32) (bk0 d)

/-- The table's row a distance selects. -/
def brow (d : BitVec 32) : Fin 32 := ⟨min (bk d).toInt.toNat 31, by omega⟩

theorem ref57 (t : Fin 32) (a : Fin 128) (j : Fin 256) : val_main_v57 (F := Ideal) a3 (ix4 0 t a j) = bk (val_main_v27 (F := Ideal) a3 (ix4 0 t a j)) := by
  pointwise [val_main_v57, val_main_v54, val_main_v56, val_main_v52, val_main_v53, val_main_v55, val_main_v51, val_main_v34, val_main_v49,
    val_main_c_11, val_main_c_12, val_main_v50, val_main_v33, val_main_v47, val_main_v48, val_main_c_10, val_main_c_3, val_main_v46, val_main_v45,
    val_main_c_9, val_main_c_8, val_main_v44, val_main_v42, val_main_v43, val_main_v40, val_main_v41, val_main_cst_7, val_main_v39, val_main_cst_6,
    val_main_v37, val_main_v38, val_main_v36, val_main_cst_5, val_main_v35, val_main_c_4]
  rfl

namespace Re
variable (z : Re)

/-- The distance of column `j` of a block's window from its query `a`. -/
def rel (t : Fin 32) (a : Fin 128) (j : Fin 256) : BitVec 32 := IntOp.subi (z.p (rw' t a)) (win 1073741824#32 z.p t j)
/-- Whether it is visible. -/
def vis (t : Fin 32) (a : Fin 128) (j : Fin 256) : BitVec 1 := inw (z.rel t a j)
/-- Head `h` of group `g`. -/
def _root_.Cert.SwaFwd.hd (g h : Fin 4) : Fin 16 := ⟨g.val * 4 + h.val, by omega⟩
/-- The score of column `j`. -/
def lgt (t : Fin 32) (a : Fin 128) (g h : Fin 4) (j : Fin 256) : ℝ :=
  (∑ e : Fin 64, z.q (rw' t a) ⟨g.val * 256 + h.val * 64 + e.val, by omega⟩ * win (fun _ => 0) z.k t j ⟨g.val * 64 + e.val, by omega⟩) * (1 / 8)
    + z.rb (brow (z.rel t a j)) (hd g h)
/-- The attention's output. -/
def o (t : Fin 32) (a : Fin 128) (g h : Fin 4) (e : Fin 64) : ℝ :=
  ∑ j, pm (z.vis t a) (z.lgt t a g h) (z.s (hd g h)) j * win (fun _ => 0) z.v t j ⟨g.val * 64 + e.val, by omega⟩

end Re

/-- The indices of a row's columns. -/
def em6 (t : Fin 32) (g h : Fin 4) (a : Fin 128) : Fin 257 ↪ S1x32x4x4x128x257.Idx where
  toFun k := ix6 0 t g h a k
  inj' k k' e := by
    have e5 : ((ix6 0 t g h a k : S1x32x4x4x128x257.Idx) 5).val = ((ix6 0 t g h a k' : S1x32x4x4x128x257.Idx) 5).val := congrArg (fun y : S1x32x4x4x128x257.Idx => (y 5).val) e
    exact Fin.ext e5

theorem em6_at (t : Fin 32) (g h : Fin 4) (a : Fin 128) (k : Fin 257) : em6 t g h a k = ix6 0 t g h a k := rfl

/-- The indices a reduction along the last axis sums over. -/
theorem fib (hd : S1x32x4x4x128x257.ReducesTo [5] S1x32x4x4x128) (t : Fin 32) (g h : Fin 4) (a : Fin 128) :
    (Finset.univ.filter fun i : S1x32x4x4x128x257.Idx => hd.drop i = ix5 0 t g h a)
      = Finset.univ.map (em6 t g h a) := by
  ext i
  simp only [Finset.mem_filter, Finset.mem_univ, true_and, Finset.mem_map, em6_at]
  constructor
  · intro e
    refine ⟨i 5, ?_⟩
    funext b; apply Fin.ext
    match b with
    | ⟨0, _⟩ => exact congrArg Fin.val (Subsingleton.elim (α := Fin 1) 0 (i 0))
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b; apply Fin.ext
    match b with
    | ⟨0, _⟩ => rfl
    | ⟨1, _⟩ => rfl
    | ⟨2, _⟩ => rfl
    | ⟨3, _⟩ => rfl
    | ⟨4, _⟩ => rfl

theorem red_sum (hd : S1x32x4x4x128x257.ReducesTo [5] S1x32x4x4x128) (x : S1x32x4x4x128x257.Idx → EReal) (i : EReal) (t : Fin 32) (g h : Fin 4) (a : Fin 128) :
    Ideal.hostReduceAdd hd x i (ix5 0 t g h a) = i + ∑ k, x (ix6 0 t g h a k) := by
  unfold Ideal.hostReduceAdd
  rw [fib, Finset.sum_map]
  rfl

theorem red_max (hd : S1x32x4x4x128x257.ReducesTo [5] S1x32x4x4x128) (hu : 0 < S_.numel) (x : S1x32x4x4x128x257.Idx → EReal) (i : S_.Idx → EReal)
    (t : Fin 32) (g h : Fin 4) (a : Fin 128) :
    Host.reduce (max : EReal → EReal → EReal) x i hd hu (ix5 0 t g h a) = Finset.fold max (i (Shape.Idx.first hu)) (fun k => x (ix6 0 t g h a k)) Finset.univ := by
  rw [Host.reduce_eq_fold, fib, Finset.fold_map]
  rfl

section
variable (H : Args a0 a1 a2 a3 a4 a5 z)
include H

theorem ref8 (t : Fin 32) (j : Fin 256) (g : Fin 4) (e : Fin 64) :
    val_main_v8 (F := Ideal) a1 (ix5 0 t j g e) = ((win (fun _ => 0) z.k t j ⟨g.val * 64 + e.val, by omega⟩ : ℝ) : EReal) := by
  pointwise [val_main_v8, val_main_v7, val_main_v3, val_main_v5, val_main_v6, val_main_v2, val_main_cst]
  unfold win
  by_cases h : j.val < 128
  · rw [dif_pos h, dif_pos h]
    by_cases h0 : t.val = 0
    · rw [dif_pos (by omega), dif_pos h0]; rfl
    · rw [dif_neg (by omega), dif_neg h0]; exact H.h1 _ _
  · rw [dif_neg h, dif_neg h]; exact H.h1 _ _

theorem ref15 (t : Fin 32) (j : Fin 256) (g : Fin 4) (e : Fin 64) :
    val_main_v15 (F := Ideal) a2 (ix5 0 t j g e) = ((win (fun _ => 0) z.v t j ⟨g.val * 64 + e.val, by omega⟩ : ℝ) : EReal) := by
  pointwise [val_main_v15, val_main_v14, val_main_v10, val_main_v12, val_main_v13, val_main_v9, val_main_cst_0]
  unfold win
  by_cases h : j.val < 128
  · rw [dif_pos h, dif_pos h]
    by_cases h0 : t.val = 0
    · rw [dif_pos (by omega), dif_pos h0]; rfl
    · rw [dif_neg (by omega), dif_neg h0]; exact H.h2 _ _
  · rw [dif_neg h, dif_neg h]; exact H.h2 _ _

theorem ref22 (t : Fin 32) (j : Fin 256) : val_main_v22 (F := Ideal) a3 (ix3 0 t j) = win 1073741824#32 z.p t j := by
  pointwise [val_main_v22, val_main_v21, val_main_v17, val_main_v19, val_main_v20, val_main_c]
  unfold win
  by_cases h : j.val < 128
  · rw [dif_pos h, dif_pos h]
    by_cases h0 : t.val = 0
    · rw [dif_pos (by omega), dif_pos h0]
    · rw [dif_neg (by omega), dif_neg h0]; exact H.h3 _
  · rw [dif_neg h, dif_neg h]; exact H.h3 _

theorem ref27 (t : Fin 32) (a : Fin 128) (j : Fin 256) : val_main_v27 (F := Ideal) a3 (ix4 0 t a j) = z.rel t a j := by
  pointwise [val_main_v27, val_main_v25, val_main_v26, val_main_v23, val_main_v24, val_main_v16]
  rw [ref22 H, H.h3]
  rfl

theorem ref32 (t : Fin 32) (a : Fin 128) (j : Fin 256) : val_main_v32 (F := Ideal) a3 (ix4 0 t a j) = z.vis t a j := by
  pointwise [val_main_v32, val_main_v29, val_main_v31, val_main_v28, val_main_v30, val_main_c_1, val_main_c_2]
  rw [ref27 H]
  rfl

theorem ref1 (t : Fin 32) (a : Fin 128) (g h : Fin 4) (e : Fin 64) :
    val_main_v1 (F := Ideal) a0 (ix6 0 t a g h e) = (z.q (rw' t a) ⟨g.val * 256 + h.val * 64 + e.val, by omega⟩ : EReal) := by
  pointwise [val_main_v1]
  exact H.h0 _ _

theorem ref61 (t : Fin 32) (g h : Fin 4) (a : Fin 128) (j : Fin 256) : val_main_v61 (F := Ideal) a3 a4 (ix6 0 t g h a j) = (z.rb (brow (z.rel t a j)) (hd g h) : EReal) := by
  pointwise [val_main_v61, val_main_v60]
  unfold val_main_v59
  rw [gather_at]
  have e : val_main_v58 (F := Ideal) a3 (ix5 0 t a j 0) = bk (z.rel t a j) := by
    pointwise [val_main_v58]
    rw [ref57, ref27 H]
  exact (H.h4 _ _).trans (congrArg (fun x : ℝ => (x : EReal)) (congrArg₂ z.rb
    (Fin.ext (congrArg (fun d : BitVec 32 => min d.toInt.toNat 31) e)) (Fin.ext rfl)))

theorem ref67 (t : Fin 32) (g h : Fin 4) (a : Fin 128) (j : Fin 256) : val_main_v67 (F := Ideal) a0 a1 a3 a4 (ix6 0 t g h a j) = (z.lgt t a g h j : EReal) := by
  pointwise [val_main_v67, val_main_v65, val_main_v63, val_main_v64, val_main_v62, val_main_cst_13]
  refine (congrArg₂ (· + ·) (congrArg₂ (· * ·) (Finset.sum_congr rfl fun e _ => congrArg₂ (· * ·) (ref8 H t j g e) (ref1 H t a g h e)) w8th) (ref61 H t g h a j)).trans ?_
  simp only [← EReal.coe_mul, sum_coe, ← EReal.coe_add]
  refine congrArg (fun x : ℝ => (x : EReal)) (congrArg (· + _) (congrArg (· * _) (Finset.sum_congr rfl fun e _ => ?_)))
  exact mul_comm _ _

theorem ref68 (t : Fin 32) (g h : Fin 4) (a : Fin 128) (j : Fin 256) : val_main_v68 (F := Ideal) a0 a1 a3 a4 (ix6 0 t g h a j) = ml (z.vis t a) (z.lgt t a g h) j := by
  pointwise [val_main_v68, val_main_call1_v1, val_main_call1_v2, val_main_v66, val_main_call1_v0, val_main_cst_14]
  rw [ref67 H, ref32 H]
  change Scalar.select (z.vis t a j) (z.lgt t a g h j : EReal) (Ideal.ofBits .f32 0xFF800000#32) = _
  rw [wninf]
  unfold ml
  rcases BitVec.eq_zero_or_eq_one (z.vis t a j) with h | h <;> rw [h] <;> rfl

theorem ref71 (t : Fin 32) (g h : Fin 4) (a : Fin 128) (j : Fin 257) :
    val_main_v71 (F := Ideal) a0 a1 a3 a4 a5 (ix6 0 t g h a j) = ms (z.vis t a) (z.lgt t a g h) (z.s (hd g h)) j := by
  pointwise [val_main_v71, val_main_v70, val_main_v69, val_main_v0]
  unfold ms
  by_cases hj : j.val < 256
  · rw [dif_pos hj, dif_pos hj]; exact ref68 H _ _ _ _ _
  · rw [dif_neg hj, dif_neg hj]; exact H.h5 _

theorem ref74 (t : Fin 32) (g h : Fin 4) (a : Fin 128) : ∃ M : ℝ, val_main_v74 (F := Ideal) a0 a1 a3 a4 a5 (ix5 0 t g h a) = (M : EReal) := by
  obtain ⟨M, k⟩ := max_real_host (z.vis t a) (z.lgt t a g h) (z.s (hd g h))
  refine ⟨M, ?_⟩
  have e : val_main_v72 (F := Ideal) a0 a1 a3 a4 a5 (ix5 0 t g h a) = (M : EReal) := by
    unfold val_main_v72
    refine (red_max _ _ _ _ t g h a).trans ?_
    rw [← k]
    exact congrArg₂ (fun b f => Finset.fold max b f Finset.univ) wninf (funext fun k => ref71 H t g h a k)
  rw [val_main_v74_apply, e]
  pointwise [val_main_v73, val_main_cst_16]
  rw [wninf]
  exact max_eq_right bot_le

theorem ref83 (t : Fin 32) (g h : Fin 4) (a : Fin 128) (j : Fin 256) :
    val_main_v83 (F := Ideal) a0 a1 a3 a4 a5 (ix6 0 t g h a j) = (pm (z.vis t a) (z.lgt t a g h) (z.s (hd g h)) j : EReal) := by
  obtain ⟨M, k⟩ := ref74 H t g h a
  have e (j : Fin 257) : val_main_v78 (F := Ideal) a0 a1 a3 a4 a5 (ix6 0 t g h a j) = Ideal.exp (ms (z.vis t a) (z.lgt t a g h) (z.s (hd g h)) j - (M : EReal)) := by
    pointwise [val_main_v78, val_main_v77, val_main_v76, val_main_v75]
    rw [ref71 H, k]
  pointwise [val_main_v83, val_main_v82, val_main_v81, val_main_v80, val_main_v79, val_main_cst_17]
  rw [red_sum]
  simp only [e, zero_add]
  rw [← sm_host (z.vis t a) (z.lgt t a g h) (z.s (hd g h)) M j, ← ms_castSucc (z.vis t a) (z.lgt t a g h) (z.s (hd g h))]
  rfl

theorem ref84 (t : Fin 32) (g h : Fin 4) (a : Fin 128) (e : Fin 64) : val_main_v84 (F := Ideal) a0 a1 a2 a3 a4 a5 (ix6 0 t g e h a) = (z.o t a g h e : EReal) := by
  pointwise [val_main_v84]
  refine (Finset.sum_congr rfl fun j _ => congrArg₂ (· * ·) (ref15 H t j g e) (ref83 H t g h a j)).trans ?_
  simp only [← EReal.coe_mul, sum_coe]
  exact congrArg (fun x : ℝ => (x : EReal)) (Finset.sum_congr rfl fun j _ => mul_comm _ _)

/-- Column `x` of the output belongs to group `x / 256` and to its head `x / 64 % 4`. -/
theorem ref87 (i : Fin 4096) (x : Fin 1024) : val_main_v87 (F := Ideal) a0 a1 a2 a3 a4 a5 (ix2 i x)
    = (z.o ⟨i.val / 128, by omega⟩ ⟨i.val % 128, by omega⟩ ⟨x.val / 256, by omega⟩ ⟨x.val / 64 % 4, by omega⟩ ⟨x.val % 64, by omega⟩ : EReal) := by
  pointwise [val_main_v87, val_main_v86, val_main_v85]
  exact ref84 H _ _ _ _ _

end

end Cert.SwaFwd
end
-- ==== Proof.SwaFwdC.lean ====
/- The sliding-window attention (`swa_fwd`): the arrays the call reads, and what it computes of them. -/
module

public import proofs.«01_k».proof.Defs
public import proofs.«01_k».proof.Proof.SwaFwdB
public import proofs.«01_k».proof.Proof.SwaFwdR
public import proofs.«01_k».proof.Proof.Gen.KernelSwaFwdIdeal.Frame
public import proofs.«01_k».proof.Proof.Gen.KernelSwaFwdIdeal.Value

@[expose] public section

set_option maxRecDepth 16384

noncomputable section

open Idealize.ShloMosaic Idealize.ShloMosaic.TcCoe Idealize.SL.Sem
open Idealize.ShloMosaic.Pipeline (Dat)
open Cert.Lift

namespace Cert.SwaFwd
open Cert.KernelSwaFwdIdeal Cert.KernelSwaFwdIdeal.Gen

/-! ## The call's window and the reference's -/

/-- The rows of a block's window as the call reads them: before the first block stands the first block itself. -/
def wk {α : Type} (x : Fin 4096 → α) (t : Fin 32) (j : Fin 256) : α :=
  if h : j.val < 128 then x ⟨(t.val - 1) * 128 + j.val, by omega⟩ else x ⟨t.val * 128 + (j.val - 128), by omega⟩

theorem wk_win {α : Type} (pad : α) (x : Fin 4096 → α) (t : Fin 32) (j : Fin 256) (h : ¬ (t.val = 0 ∧ j.val < 128)) : wk x t j = win pad x t j := by
  unfold wk win
  by_cases hj : j.val < 128
  · rw [dif_pos hj, dif_pos hj, dif_neg (fun h0 => h ⟨h0, hj⟩)]
  · rw [dif_neg hj, dif_neg hj]

/-- The scores of the columns that are not visible do not matter. -/
theorem pm_congr {n : ℕ} {w : Fin n → BitVec 1} {l l' : Fin n → ℝ} (s : ℝ) (j : Fin n) (h : ∀ k, w k = 1#1 → l k = l' k) : pm w l s j = pm w l' s j := by
  have e (k : Fin n) : (if w k = 1#1 then Real.exp (l k) else 0) = if w k = 1#1 then Real.exp (l' k) else 0 := by
    by_cases hk : w k = 1#1
    · rw [if_pos hk, if_pos hk, h k hk]
    · rw [if_neg hk, if_neg hk]
  unfold pm
  rw [e j, Finset.sum_congr rfl fun k _ => e k]

theorem pm_zero {n : ℕ} {w : Fin n → BitVec 1} (l : Fin n → ℝ) (s : ℝ) {j : Fin n} (h : ¬ w j = 1#1) : pm w l s j = 0 := by
  unfold pm
  rw [if_neg h, zero_div]

/-- Every visible column is at its place: the distance of column `j` from query `a` is `a + 128 - j`. -/
def Placed (z : Re) : Prop := ∀ (t : Fin 32) (a : Fin 128) (j : Fin 256), z.vis t a j = 1#1 →
  z.rel t a j = IntOp.subi (IntOp.addi (BitVec.ofNat 32 a.val) 128#32) (BitVec.ofNat 32 j.val)

/-- The bias the call adds: the table's row of `a + 128 - j`. -/
def bt (z : Re) (g : Fin 4) (r : Fin 512) (j : Fin 256) : ℝ :=
  z.rb (brow (IntOp.subi (IntOp.addi (BitVec.ofNat 32 (r.val % 128)) 128#32) (BitVec.ofNat 32 j.val))) (hd g ⟨r.val / 128, by omega⟩)

/-- No column before the first block is visible. -/
theorem first {z : Re} (P : Placed z) (t : Fin 32) (a : Fin 128) (j : Fin 256) (h : z.vis t a j = 1#1) : ¬ (t.val = 0 ∧ j.val < 128) := by
  rintro ⟨h0, hj⟩
  obtain ⟨j', hj', hne⟩ : ∃ j' : Fin 256, j'.val < 128 ∧ j'.val ≠ j.val := by
    by_cases hz : j.val = 0
    · exact ⟨1, by decide, by rw [hz]; decide⟩
    · exact ⟨0, by decide, fun h => hz h.symm⟩
  have e : z.rel t a j' = z.rel t a j := by
    unfold Re.rel win
    rw [dif_pos hj, dif_pos hj', dif_pos h0, dif_pos h0]
  have h' : z.vis t a j' = 1#1 := by
    rw [← h]; unfold Re.vis; rw [e]
  have k := (P t a j' h').symm.trans (e.trans (P t a j h))
  have k' : BitVec.ofNat 32 j'.val = BitVec.ofNat 32 j.val := by
    have := congrArg (fun d => IntOp.addi (BitVec.ofNat 32 a.val) 128#32 - d) k
    simpa [IntOp.subi] using this
  have := congrArg BitVec.toNat k'
  simp only [BitVec.toNat_ofNat] at this
  omega

/-- What the call computes of a block is the reference's attention. -/
theorem oG_eq {z : Re} (P : Placed z) (t : Fin 32) (a : Fin 128) (g h : Fin 4) (e : Fin 64) (r : Fin 512) (hr : r.val = h.val * 128 + a.val) :
    oG (z.vis t) (fun a e => z.q (rw' t a) e) (wk z.k t) (wk z.v t) (bt z) z.s g r e = z.o t a g h e := by
  have ra : (⟨r.val % 128, by omega⟩ : Fin 128) = a := Fin.ext (by simp only; omega)
  have rh : (⟨r.val / 128, by omega⟩ : Fin 4) = h := Fin.ext (by simp only; omega)
  have ew : wr (z.vis t) r = z.vis t a := funext fun j => by unfold wr; rw [ra]
  have es : sk (sg z.s g) r = z.s (hd g h) := by unfold sk sg; rw [rh]; rfl
  unfold oG og Re.o
  rw [ew, es]
  refine Finset.sum_congr rfl fun j _ => ?_
  by_cases hv : z.vis t a j = 1#1
  · refine congrArg₂ (· * ·) (pm_congr _ _ fun k hk => ?_) ?_
    · unfold Re.lgt bt
      rw [rh, P t a k hk]
      refine congrArg₂ (· + ·) (congrArg (· * _) (Finset.sum_congr rfl fun e _ => congrArg₂ (· * ·) ?_ ?_)) ?_
      · unfold qg
        rw [ra]
        exact congrArg _ (Fin.ext (by simp only; omega))
      · exact congrFun (wk_win (fun _ => 0) z.k t k (first P t a k hk)) _
      · have : r.val % 128 = a.val := by omega
        rw [this]
    · exact congrFun (wk_win (fun _ => 0) z.v t j (first P t a j hv)) _
  · rw [pm_zero _ _ hv, pm_zero _ _ hv, zero_mul, zero_mul]

/-! ## The call's points -/

/-- The call's gather from the bias table: it reads the row an index selects. -/
theorem gather3_at (x : Vec Ideal S32x16 .f32) (n : IVec S128x256x1 32) (a : Fin 128) (j : Fin 256) (h : Fin 16) :
    Host.gather gather_S32x16_S128x256x1_S128x256x16_2_0_n_n_0_2_116 x n (ix3 a j h)
      = x (ix2 ⟨min (n (ix3 a j 0)).toInt.toNat 31, by omega⟩ h) := by
  unfold Host.gather
  refine congrArg x (funext fun b => Fin.ext ?_)
  match b with
  | ⟨0, _⟩ =>
    change GatherDims.start _ _ n 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x16_S128x256x1_S128x256x16_2_0_n_n_0_2_116.startIndexMap from List.mem_singleton.mpr rfl)]
    have e : gather_S32x16_S128x256x1_S128x256x16_2_0_n_n_0_2_116.siIdx (ix3 a j h)
        ⟨List.idxOf (0 : Fin 2) gather_S32x16_S128x256x1_S128x256x16_2_0_n_n_0_2_116.startIndexMap,
          List.idxOf_lt_length_iff.2 (List.mem_singleton.mpr rfl)⟩ = ix3 a j 0 := by
      funext b; refine Fin.ext ?_
      match b with
      | ⟨0, _⟩ => rfl
      | ⟨1, _⟩ => rfl
      | ⟨2, _⟩ => rfl
    rw [e]
    rfl
  | ⟨1, _⟩ =>
    change GatherDims.start _ _ n 1 + GatherDims.batchCoord _ _ 1 + GatherDims.offCoord _ _ 1 = _
    rw [GatherDims.batchCoord_eq_zero _ _ _ List.not_mem_nil]
    unfold GatherDims.start
    rw [dif_neg (by decide)]
    simp only [Nat.add_zero, Nat.zero_add]
    unfold GatherDims.offCoord
    rw [dif_pos (by decide)]
    rfl

/-- The call of the selection, as one operation on the buffers themselves. -/
theorem ops1 : (hostOps0_1 : List (HloOp τ sig (Elt Ideal))) = [StableHlo.ternary main_v32 main_v15 main_v30 main_v33
    (select : (⟨S128x256, .i1⟩ : BufTy).Contents (Elt Ideal) → (⟨S128x256, .i32⟩ : BufTy).Contents (Elt Ideal) → (⟨S128x256, .i32⟩ : BufTy).Contents (Elt Ideal)
      → (⟨S128x256, .i32⟩ : BufTy).Contents (Elt Ideal))] := rfl

theorem after_app (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- What stands after the concatenation does not write its result. -/
theorem skip (W : Valuation τ sig (Elt Ideal)) :
    StableHlo.after (hostOps0.drop 5 ++ (hostOps0_1 ++ hostOps0_2)) W (Proc.tc.devRef main_v4) = W (Proc.tc.devRef main_v4) := by
  simp only [hostOps0, ops1, hostOps0_2, List.drop_succ_cons, List.drop_zero, List.cons_append, List.nil_append]
  entry_read
  rfl

/-- The queries, keys and values side by side, at an index. -/
theorem cat_at (x : Vec Ideal S4096x1024 .f32) (y w : Vec Ideal S4096x256 .f32) (i : Fin 4096) (n : Fin 1536) :
    (truncf (F := Ideal) (φ := .f32) .bf16 (concatenate S4096x1536 1 [⟨S4096x1024, x⟩, ⟨S4096x256, y⟩, ⟨S4096x256, w⟩] concatenates_S4096x1024_S4096x256_S4096x256_S4096x1536_d1) bitsLt_bf16_f32) (ix2 i n)
      = if h : n.val < 1024 then x (ix2 i ⟨n.val, h⟩) else if h' : n.val < 1280 then y (ix2 i ⟨n.val - 1024, by omega⟩) else w (ix2 i ⟨n.val - 1280, by omega⟩) := by
  pointwise
  by_cases h : n.val < 1024
  · rw [dif_pos h, dif_pos h]
  · rw [dif_neg h, dif_neg h]
    by_cases h' : n.val < 1280
    · rw [dif_pos (by omega), dif_pos h']
    · rw [dif_neg (by omega), dif_neg h']; rfl

variable (m : (ℓ : Loc nD τ sig) → Buf (Elt Ideal) ℓ)

/-- The reshaped arguments. -/
abbrev W3 (c : Dev nD) : Valuation τ sig (Elt Ideal) := StableHlo.after (hostOps0.take 3) (fun b => m (c, b))

theorem first4 (c : Dev nD) : (V m c main_v4 : FVec Ideal S4096x1536 .bf16)
    = truncf (F := Ideal) (φ := .f32) .bf16 (concatenate S4096x1536 1 [⟨S4096x1024, W3 m c (Proc.tc.devRef main_v0)⟩, ⟨S4096x256, W3 m c (Proc.tc.devRef main_v1)⟩,
      ⟨S4096x256, W3 m c (Proc.tc.devRef main_v2)⟩] concatenates_S4096x1024_S4096x256_S4096x256_S4096x1536_d1) bitsLt_bf16_f32 := by
  have e : ([hostOps0, hostOps0_1, hostOps0_2].flatten : List (HloOp τ sig (Elt Ideal))) = hostOps0.take 5 ++ (hostOps0.drop 5 ++ (hostOps0_1 ++ hostOps0_2)) := by
    rw [← List.append_assoc, List.take_append_drop]
    rfl
  refine (congrArg (fun l => StableHlo.after l (fun b => m (c, b)) (Proc.tc.devRef main_v4)) e).trans ?_
  refine (congrFun (after_app _ _ _) _).trans ((skip _).trans ?_)
  simp only [W3, hostOps0, List.take_succ_cons, List.take_zero, StableHlo.after_cons, StableHlo.after_nil]
  refine (StableHlo.unary_result _ _ _ _ _ _).trans ?_
  exact congrArg (fun x : FVec Ideal S4096x1536 .f32 => truncf .bf16 x bitsLt_bf16_f32) (StableHlo.nary_result _ _ _ _ _ _)

theorem read0 (c : Dev nD) (i : Fin 4096) (n : Fin 1024) : W3 m c (Proc.tc.devRef main_v0) (ix2 i n) = m ((c : Thread nD τ).loc main_arg0) (ix3 0 i n) := by
  simp only [W3, hostOps0, List.take_succ_cons, List.take_zero]
  entry_read
  pointwise

theorem read1 (c : Dev nD) (i : Fin 4096) (n : Fin 256) : W3 m c (Proc.tc.devRef main_v1) (ix2 i n) = m ((c : Thread nD τ).loc main_arg1) (ix3 0 i n) := by
  simp only [W3, hostOps0, List.take_succ_cons, List.take_zero]
  entry_read
  pointwise

theorem read2 (c : Dev nD) (i : Fin 4096) (n : Fin 256) : W3 m c (Proc.tc.devRef main_v2) (ix2 i n) = m ((c : Thread nD τ).loc main_arg2) (ix3 0 i n) := by
  simp only [W3, hostOps0, List.take_succ_cons, List.take_zero]
  entry_read
  pointwise

/-- The windows' index maps over the 32 points. -/
theorem idx : ∀ t : Fin cfg0.N, win0_0.index t = ![t.val, 0] ∧ win0_1.index t = ![t.val - 1, 4] ∧ win0_2.index t = ![t.val, 4] ∧ win0_3.index t = ![t.val - 1, 5]
    ∧ win0_4.index t = ![t.val, 5] ∧ win0_5.index t = ![t.val, 0] ∧ win0_6.index t = ![0, t.val - 1] ∧ win0_7.index t = ![0, t.val]
    ∧ win0_8.index t = ![0, 0, 0] ∧ win0_9.index t = ![0, 0] ∧ win0_10.index t = ![t.val, 0] :=
  (by decide +kernel : ∀ t : Fin grid0.N, _)

theorem coord : ∀ t : Fin cfg0.N, (grid0.coords t 0).val = t.val :=
  (by decide +kernel : ∀ t : Fin grid0.N, _)

/-- A point's number. -/
abbrev pt (t : Fin cfg0.N) : Fin 32 := ⟨t.val, t.isLt⟩

section Point
variable (c : Dev nD) {z : Re}
  (H : Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) z)
include H

/-- The array of the queries, keys and values. -/
theorem saved (i : Fin 4096) (n : Fin 1536) : (V m c main_v4 : Vec Ideal S4096x1536 .bf16) (ix2 i n)
    = if h : n.val < 1024 then (z.q i ⟨n.val, h⟩ : EReal) else if h' : n.val < 1280 then (z.k i ⟨n.val - 1024, by omega⟩ : EReal)
      else (z.v i ⟨n.val - 1280, by omega⟩ : EReal) := by
  refine (congrFun (first4 m c) (ix2 i n)).trans ((cat_at _ _ _ i n).trans ?_)
  by_cases h : n.val < 1024
  · rw [dif_pos h, dif_pos h]; exact (read0 m c _ _).trans (H.h0 _ _)
  · rw [dif_neg h, dif_neg h]
    by_cases h' : n.val < 1280
    · rw [dif_pos h', dif_pos h']; exact (read1 m c _ _).trans (H.h1 _ _)
    · rw [dif_neg h', dif_neg h']; exact (read2 m c _ _).trans (H.h2 _ _)

/-- The positions, a column of them. -/
theorem saved_p (i : Fin 4096) : (V m c main_v42 : Vec Ideal S4096x1 .i32) (ix2 i 0) = z.p i := by
  simp only [V, hostOps0, ops1, hostOps0_2, List.flatten_cons, List.flatten_nil, List.cons_append, List.nil_append, List.append_nil]
  entry_read
  pointwise
  exact H.h3 _

set_option maxHeartbeats 4000000 in
/-- The bias of a group's rows. -/
theorem saved_b (g : Fin 4) (r : Fin 512) (j : Fin 256) : (V m c main_v43 : Vec Ideal S4x512x256 .f32) (ix3 g r j) = (bt z g r j : EReal) := by
  simp only [V, hostOps0, ops1, hostOps0_2, List.flatten_cons, List.flatten_nil, List.cons_append, List.nil_append, List.append_nil]
  entry_read
  pointwise
  refine (gather3_at _ _ _ _ _).trans ((H.h4 _ _).trans (congrArg (fun x : ℝ => (x : EReal)) (congrArg₂ z.rb
    (Fin.ext (congrArg (fun d : BitVec 32 => min d.toInt.toNat 31) ?_)) rfl)))
  pointwise
  rfl

end Point

end Cert.SwaFwd
end
-- ==== Proof.SwaFwd.lean ====
/- The sliding-window attention (`swa_fwd`): the call returns what the reference's forward lines return. -/
module

public import proofs.«01_k».proof.Defs
public import proofs.«01_k».proof.Proof.SwaFwdB
public import proofs.«01_k».proof.Proof.SwaFwdC
public import proofs.«01_k».proof.Proof.SwaFwdR
public import proofs.«01_k».proof.Proof.Gen.Pre_finite_swa_fwd

@[expose] public section

set_option maxRecDepth 16384

noncomputable section

open Idealize.ShloMosaic Idealize.ShloMosaic.TcCoe Idealize.SL.Sem
open Idealize.ShloMosaic.Pipeline (Dat)
open Cert.Lift

namespace Cert.SwaFwd
open Cert.KernelSwaFwdIdeal Cert.KernelSwaFwdIdeal.Gen

variable (m : (ℓ : Loc nD τ sig) → Buf (Elt Ideal) ℓ)

section Point
variable (c : Dev nD) {z : Re}
  (H : Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) z)
include H

/-! ## A point's blocks -/

theorem C0 (t : Fin cfg0.N) (a : Fin 128) (e : Fin 1024) : X0_0 m c t (ix2 a e) = (z.q (rw' (pt t) a) e : EReal) := by
  unfold X0_0 Pipeline.Window.fill
  rw [dif_pos (moved0_0 t _)]
  refine Eq.trans ?_ ((saved m c H (rw' (pt t) a) ⟨e.val, by omega⟩).trans (dif_pos e.isLt))
  unfold iblk
  blk_simp [idx t]
  blk_ext [idx t]
  rfl

theorem C1 (t : Fin cfg0.N) (j : Fin 128) (e : Fin 256) : iblk m c 1 t (ix2 j e) = (z.k ⟨(t.val - 1) * 128 + j.val, by have : t.val < 32 := t.isLt; omega⟩ e : EReal) := by
  refine Eq.trans ?_ ((saved m c H _ ⟨1024 + e.val, by omega⟩).trans ((dif_neg (by simp only; omega)).trans ((dif_pos (by simp only; omega)).trans
    (congrArg (fun n => ((z.k _ n : ℝ) : EReal)) (Fin.ext (by simp only; omega))))))
  unfold iblk
  blk_simp [idx t]
  blk_ext [idx t]

theorem C2 (t : Fin cfg0.N) (j : Fin 128) (e : Fin 256) : iblk m c 2 t (ix2 j e) = (z.k ⟨t.val * 128 + j.val, by have : t.val < 32 := t.isLt; omega⟩ e : EReal) := by
  refine Eq.trans ?_ ((saved m c H _ ⟨1024 + e.val, by omega⟩).trans ((dif_neg (by simp only; omega)).trans ((dif_pos (by simp only; omega)).trans
    (congrArg (fun n => ((z.k _ n : ℝ) : EReal)) (Fin.ext (by simp only; omega))))))
  unfold iblk
  blk_simp [idx t]
  blk_ext [idx t]

theorem C3 (t : Fin cfg0.N) (j : Fin 128) (e : Fin 256) : iblk m c 3 t (ix2 j e) = (z.v ⟨(t.val - 1) * 128 + j.val, by have : t.val < 32 := t.isLt; omega⟩ e : EReal) := by
  refine Eq.trans ?_ ((saved m c H _ ⟨1280 + e.val, by omega⟩).trans ((dif_neg (by simp only; omega)).trans ((dif_neg (by simp only; omega)).trans
    (congrArg (fun n => ((z.v _ n : ℝ) : EReal)) (Fin.ext (by simp only; omega))))))
  unfold iblk
  blk_simp [idx t]
  blk_ext [idx t]

theorem C4 (t : Fin cfg0.N) (j : Fin 128) (e : Fin 256) : iblk m c 4 t (ix2 j e) = (z.v ⟨t.val * 128 + j.val, by have : t.val < 32 := t.isLt; omega⟩ e : EReal) := by
  refine Eq.trans ?_ ((saved m c H _ ⟨1280 + e.val, by omega⟩).trans ((dif_neg (by simp only; omega)).trans ((dif_neg (by simp only; omega)).trans
    (congrArg (fun n => ((z.v _ n : ℝ) : EReal)) (Fin.ext (by simp only; omega))))))
  unfold iblk
  blk_simp [idx t]
  blk_ext [idx t]

theorem C5 (t : Fin cfg0.N) (a : Fin 128) : iblk m c 5 t (ix2 a 0) = z.p (rw' (pt t) a) := by
  refine Eq.trans ?_ (saved_p m c H (rw' (pt t) a))
  unfold iblk
  blk_simp [idx t]
  blk_ext [idx t]
  rfl

theorem C6 (t : Fin cfg0.N) (j : Fin 128) : iblk m c 6 t (ix2 0 j) = z.p ⟨(t.val - 1) * 128 + j.val, by have : t.val < 32 := t.isLt; omega⟩ := by
  rw [← H.h3]; blk_point [iblk, V, idx t]

theorem C7 (t : Fin cfg0.N) (j : Fin 128) : iblk m c 7 t (ix2 0 j) = z.p ⟨t.val * 128 + j.val, by have : t.val < 32 := t.isLt; omega⟩ := by
  rw [← H.h3]; blk_point [iblk, V, idx t]

theorem C8 (t : Fin cfg0.N) (g : Fin 4) (r : Fin 512) (j : Fin 256) : iblk m c 8 t (ix3 g r j) = (bt z g r j : EReal) := by
  refine Eq.trans ?_ (saved_b m c H g r j)
  unfold iblk
  blk_simp [idx t]
  blk_ext [idx t]

theorem C9 (t : Fin cfg0.N) (n : Fin 16) : iblk m c 9 t (ix2 0 n) = (z.s n : EReal) := by
  rw [← H.h5]; blk_point [iblk, V, idx t]

/-- The distances as the call computes them. -/
theorem rel_at (t : Fin cfg0.N) (a : Fin 128) (j : Fin 256) :
    IntOp.subi (iblk m c 5 t (ix2 a 0)) (pk (grid0.coords t 0).val (iblk m c 6 t) (iblk m c 7 t) j) = z.rel (pt t) a j := by
  rw [C5 m c H, coord t]
  unfold Re.rel
  refine congrArg (IntOp.subi _) ?_
  unfold pk win
  by_cases hj : j.val < 128
  · rw [dif_pos hj, dif_pos hj]
    by_cases h0 : t.val = 0
    · rw [if_pos h0, dif_pos h0]
    · rw [if_neg h0, dif_neg h0]; exact C6 m c H t _
  · rw [dif_neg hj, dif_neg hj]; exact C7 m c H t _

theorem blk (P : Placed z) (t : Fin cfg0.N) :
    Blk (grid0.coords t 0).val (X0_0 m c t) (iblk m c 1 t) (iblk m c 2 t) (iblk m c 3 t) (iblk m c 4 t) (iblk m c 5 t) (iblk m c 6 t) (iblk m c 7 t)
      (iblk m c 8 t) (iblk m c 9 t) (z.vis (pt t)) (fun a e => z.q (rw' (pt t) a) e) (wk z.k (pt t)) (wk z.v (pt t)) (bt z) z.s where
  hq := C0 m c H t
  hk j e := by
    unfold two wk
    by_cases hj : j.val < 128
    · rw [dif_pos hj, dif_pos hj]; exact C1 m c H t _ e
    · rw [dif_neg hj, dif_neg hj]; exact C2 m c H t _ e
  hv j e := by
    unfold two wk
    by_cases hj : j.val < 128
    · rw [dif_pos hj, dif_pos hj]; exact C3 m c H t _ e
    · rw [dif_neg hj, dif_neg hj]; exact C4 m c H t _ e
  hb := C8 m c H t
  hs := C9 m c H t
  hw a j := congrArg inw (rel_at m c H t a j)
  hp a j h := by
    rw [rel_at m c H t a j] at h ⊢
    exact P (pt t) a j h

/-- Row `i` and column `x` of what the reference computes. -/
abbrev res (z : Re) (i : Fin 4096) (x : Fin 1024) : ℝ :=
  z.o ⟨i.val / 128, by omega⟩ ⟨i.val % 128, by omega⟩ ⟨x.val / 256, by omega⟩ ⟨x.val / 64 % 4, by omega⟩ ⟨x.val % 64, by omega⟩

omit H in
theorem oB_eq (P : Placed z) (t : Fin 32) (a : Fin 128) (y : Fin 1024) (i : Fin 4096) (x : Fin 1024) (hi : i.val = t.val * 128 + a.val) (hx : x.val = y.val) :
    oB (z.vis t) (fun a e => z.q (rw' t a) e) (wk z.k t) (wk z.v t) (bt z) z.s a y = res z i x := by
  obtain rfl : x = y := Fin.ext hx
  unfold oB res
  refine (oG_eq P t a ⟨x.val / 256, by omega⟩ ⟨x.val / 64 % 4, by omega⟩ ⟨x.val % 64, by omega⟩ ⟨x.val / 64 % 4 * 128 + a.val, by omega⟩ (by simp only)).trans ?_
  have h1 : (⟨i.val / 128, by omega⟩ : Fin 32) = t := Fin.ext (by simp only; omega)
  have h2 : (⟨i.val % 128, by omega⟩ : Fin 128) = a := Fin.ext (by simp only; omega)
  rw [h1, h2]

set_option maxHeartbeats 4000000 in
theorem arr10 (P : Placed z) : (dats m 0 c).arrAt 10 cfg0.N = fun i => (res z (i 0) (i 1) : EReal) := by
  refine (dats m 0 c).arrAt_eq_of_covers 10 _ (by decide +kernel) fun t _ y => ?_
  blk_simp
  rw [after0_10]
  unfold outsAt0
  refine (out_at c (grid0.coords t) _ _ _ _ _ _ _ _ _ _ _ _ _ _ _ _ _ _ _ _ _ _ (blk m c H P t) y).trans ?_
  idx_vars y
  exact congrArg (fun x : ℝ => (x : EReal)) (oB_eq P (pt t) y0 y1 _ _ (by blk_simp [idx t]) (by blk_simp [idx t]))

end Point

/-! ## The claim -/

/-- Where the precondition holds the arguments are real. -/
theorem args_of_pre (a0 : Vec Ideal S1x4096x1024 .f32) (a1 a2 : Vec Ideal S1x4096x256 .f32) (a3 : Vec Ideal S1x4096 .i32) (a4 : Vec Ideal S32x16 .f32)
    (a5 : Vec Ideal S1x16 .f32) [Cert.Pre_finite_swa_fwd.Facts]
    (h : (Cert.Pre_finite_swa_fwd.fn (F := Ideal) a0 a1 a2 a3 a4 a5).1 = (fun _ => 1#1)
      ∧ (Cert.Pre_finite_swa_fwd.fn (F := Ideal) a0 a1 a2 a3 a4 a5).2.1 = (fun _ => 1#1)
      ∧ (Cert.Pre_finite_swa_fwd.fn (F := Ideal) a0 a1 a2 a3 a4 a5).2.2.1 = (fun _ => 1#1)
      ∧ (Cert.Pre_finite_swa_fwd.fn (F := Ideal) a0 a1 a2 a3 a4 a5).2.2.2.1 = (fun _ => 1#1)
      ∧ (Cert.Pre_finite_swa_fwd.fn (F := Ideal) a0 a1 a2 a3 a4 a5).2.2.2.2.1 = (fun _ => 1#1)
      ∧ (Cert.Pre_finite_swa_fwd.fn (F := Ideal) a0 a1 a2 a3 a4 a5).2.2.2.2.2 = (fun _ => 1#1)) :
    Args a0 a1 a2 a3 a4 a5 ⟨fun i j => (a0 (ix3 0 i j)).toReal, fun i j => (a1 (ix3 0 i j)).toReal, fun i j => (a2 (ix3 0 i j)).toReal,
      fun i => a3 (ix2 0 i), fun i j => (a4 (ix2 i j)).toReal, fun j => (a5 (ix2 0 j)).toReal⟩ :=
  ⟨fun i j => real_of_abs (congrFun h.1 (ix3 0 i j)),
    fun i j => real_of_abs (congrFun h.2.1 (ix3 0 i j)),
    fun i j => real_of_abs (congrFun h.2.2.1 (ix3 0 i j)),
    fun i => rfl,
    fun i j => real_of_abs (congrFun h.2.2.2.1 (ix2 i j)),
    fun j => real_of_abs (congrFun h.2.2.2.2.1 (ix2 0 j))⟩

theorem win_lt {α : Type} (pad : α) (x : Fin 4096 → α) (t : Fin 32) (j : Fin 256) : win pad x t j
    = if h : j.val < 128 then (if h0 : t.val < 1 then pad else x ⟨(t.val - 1) * 128 + j.val, by omega⟩) else x ⟨t.val * 128 + (j.val - 128), by omega⟩ := by
  unfold win
  by_cases hj : j.val < 128
  · rw [dif_pos hj, dif_pos hj]
    by_cases h0 : t.val = 0
    · rw [dif_pos h0, dif_pos (by omega)]
    · rw [dif_neg h0, dif_neg (by omega)]
  · rw [dif_neg hj, dif_neg hj]

theorem at_place (d x : BitVec 32) (h : IntOp.ori (IntOp.ori (IntOp.cmpi .slt d 0#32) (IntOp.cmpi .sge d 128#32)) (IntOp.cmpi .eq d x) = 1#1) (hv : inw d = 1#1) : d = x := by
  by_contra hne
  have key (u v : BitVec 32) : u.slt v = !(v.sle u) := by
    rw [BitVec.slt, BitVec.sle]
    by_cases k : u.toInt < v.toInt
    · rw [decide_eq_true k, decide_eq_false (by omega)]; rfl
    · rw [decide_eq_false k, decide_eq_true (by omega)]; rfl
  unfold inw at hv
  simp only [IntOp.ori, IntOp.andi, IntOp.cmpi] at h hv
  rw [beq_false_of_ne hne, key d] at h
  rw [key d] at hv
  generalize (0#32).sle d = p at h hv
  generalize (128#32).sle d = r at h hv
  revert h hv
  revert p r
  decide

/-- Where it holds every visible column is at its place. -/
theorem placed_of_pre (a0 : Vec Ideal S1x4096x1024 .f32) (a1 a2 : Vec Ideal S1x4096x256 .f32) (a3 : Vec Ideal S1x4096 .i32) (a4 : Vec Ideal S32x16 .f32)
    (a5 : Vec Ideal S1x16 .f32) [Cert.Pre_finite_swa_fwd.Facts]
    (h : (Cert.Pre_finite_swa_fwd.fn (F := Ideal) a0 a1 a2 a3 a4 a5).2.2.2.2.2 = (fun _ => 1#1)) {z : Re} (hp : ∀ i, a3 (ix2 0 i) = z.p i) : Placed z := by
  intro t a j hv
  have k := congrFun h (ix4 0 t a j)
  have e : (Cert.Pre_finite_swa_fwd.fn (F := Ideal) a0 a1 a2 a3 a4 a5).2.2.2.2.2 (ix4 0 t a j)
      = IntOp.ori (IntOp.ori (IntOp.cmpi .slt (z.rel t a j) 0#32) (IntOp.cmpi .sge (z.rel t a j) 128#32))
        (IntOp.cmpi .eq (z.rel t a j) (IntOp.subi (IntOp.addi (BitVec.ofNat 32 a.val) 128#32) (BitVec.ofNat 32 j.val))) := by
    have w : win 1073741824#32 (fun i => a3 (ix2 0 i)) t j = win 1073741824#32 z.p t j := congrArg (fun p => win 1073741824#32 p t j) (funext hp)
    unfold Re.rel
    rw [← hp, ← w]
    pointwise [Cert.Pre_finite_swa_fwd.fn, Cert.Pre_finite_swa_fwd.fn_part1]
    rw [win_lt]
    rfl
  rw [e] at k
  exact at_place _ _ k hv

/-- The named constant is the mask's −∞. -/
theorem preserves : Cert.preserves_KernelSwaFwd_KernelSwaFwdIdeal :=
  IdealRules.named_const.statement Cert.KernelSwaFwdIdeal.κ "mask" .f32 0xF149F2CA#32 ⊥ rfl

set_option maxHeartbeats 4000000 in
/-- The call and the reference's forward lines return the same attention. -/
theorem value [Cert.Pre_finite_swa_fwd.Facts] : Cert.algebraic_KernelSwaFwdIdeal_ReferenceSwaFwdIdeal_pre_finite_swa_fwd := by
  intro m g m' g' hpre hagree
  have H := fun c => args_of_pre _ _ _ _ _ _ (hpre c)
  have P := fun c => placed_of_pre _ _ _ _ _ _ (hpre c).2.2.2.2.2 (H c).h3
  refine ⟨_, Value.run_blocks m g, ?_⟩
  refine (θ_run _ _ _).mono (fun s h c => ?_) (Cert.ReferenceSwaFwdIdeal.Value.run m' g')
  obtain ⟨e0, e1, e2, e3, e4, e5⟩ := hagree c
  obtain ⟨h0, hr⟩ := h c
  refine ⟨h0.trans ?_, hr⟩
  rw [Cert.ReferenceSwaFwdIdeal.Read.val_main_v87_eq, e0, e1, e2, e3, e4, e5, arr10 m c (H c) (P c)]
  funext i
  idx_vars i
  exact ref87 (H c) _ _

end Cert.SwaFwd
end
-- ==== Proof.MixOutFwd.lean ====
/- The gates, the short convolution and the output projection (`mix_out_fwd`): the call returns what the reference's forward lines return. -/
module

public import proofs.«01_k».proof.Defs
public import proofs.«01_k».proof.Proof.Lift
public import proofs.«01_k».proof.Proof.Gen.KernelMixOutFwdIdeal.Frame
public import proofs.«01_k».proof.Proof.Gen.KernelMixOutFwdIdeal.Value
public import proofs.«01_k».proof.Proof.Gen.ReferenceMixOutFwdIdeal.Read

@[expose] public section

set_option maxRecDepth 16384

noncomputable section

open Idealize.ShloMosaic Idealize.ShloMosaic.TcCoe Idealize.SL.Sem
open Idealize.ShloMosaic.Pipeline (Dat)
open Cert.Lift

namespace Cert.MixOutFwd
open Cert.KernelMixOutFwdIdeal Cert.KernelMixOutFwdIdeal.Gen

/-! ## The function both compute, over the extended reals -/

/-- The gate: one over one plus the exponential of the negative. -/
def gate (v : EReal) : EReal := Ideal.div 1 (1 + Ideal.exp (-v))

/-- The arguments: the stream, the five joint projections (convolution input, convolution gate, second factor, the two gates), the
    attention's output, the three taps, the output weights. -/
structure Re where
  x : Fin 4096 → Fin 1024 → EReal
  p : Fin 4096 → Fin 5120 → EReal
  t : Fin 4096 → Fin 1024 → EReal
  w : Fin 3 → Fin 1024 → EReal
  o : Fin 1024 → Fin 1024 → EReal

namespace Re
variable (z : Re)

/-- The convolution's input. -/
def u (i : Fin 4096) (j : Fin 1024) : EReal := z.p i ⟨j.val, by omega⟩ * z.p i ⟨2048 + j.val, by omega⟩
/-- The convolution's input `d` rows back, zero before the first row. -/
def b (d : ℕ) (i : Fin 4096) (j : Fin 1024) : EReal := if d ≤ i.val then z.u ⟨i.val - d, by omega⟩ j else 0
/-- The convolution. -/
def cv (i : Fin 4096) (j : Fin 1024) : EReal := z.w 0 j * z.b 2 i j + z.w 1 j * z.b 1 i j + z.w 2 j * z.u i j
/-- The gated sum of the attention's output and of the convolution. -/
def g (i : Fin 4096) (j : Fin 1024) : EReal :=
  gate (z.p i ⟨3072 + j.val, by omega⟩) * z.t i j + gate (z.p i ⟨4096 + j.val, by omega⟩) * (z.p i ⟨1024 + j.val, by omega⟩ * z.cv i j)
/-- The stream after the projection. -/
def y (i : Fin 4096) (j : Fin 1024) : EReal := z.x i j + ∑ k, z.g i k * z.o k j

end Re

/-- The arguments read as functions of their coordinates. -/
abbrev args (a0 : Vec Ideal S1x4096x1024 .f32) (a1 : Vec Ideal S1x4096x5120 .f32) (a2 : Vec Ideal S1x4096x1024 .f32) (a3 : Vec Ideal S1x3x1024 .f32)
    (a4 : Vec Ideal S1x1024x1024 .f32) : Re :=
  ⟨fun i j => a0 (ix3 0 i j), fun i j => a1 (ix3 0 i j), fun i j => a2 (ix3 0 i j), fun i j => a3 (ix3 0 i j), fun i j => a4 (ix3 0 i j)⟩

/-! ## The payloads -/

theorem cmp_coord : ∀ n : Fin 16, Scalar.cmpi .eq (BitVec.ofNat 32 n.val) 0#32 = (if n.val = 0 then 1#1 else 0#1) := by decide +kernel

theorem cmp_row : ∀ r : Fin 256, IntOp.cmpi .eq (BitVec.ofNat 32 r.val) 0#32 = (if r.val = 0 then 1#1 else 0#1)
    ∧ IntOp.cmpi .eq (BitVec.ofNat 32 r.val) 1#32 = (if r.val = 1 then 1#1 else 0#1) := by decide +kernel

section Block
variable (i : grid0.Coords) {C U B GA GC : Vec Ideal S256x1024 .bf16} {CH UH : Vec Ideal S16x1024 .bf16} {AT X : Vec Ideal S256x1024 .f32} {W : Vec Ideal S3x1024 .f32}
  {O : Vec Ideal S1024x1024 .bf16}

theorem ld0 (Z : Vec Ideal S256x1024 .bf16) : View.ld Z r0_0 = Z := by funext i; idx_vars i; pointwise [r0_0]
theorem ld1 (Z : Vec Ideal S16x1024 .bf16) : View.ld Z r0_1 = Z := by funext i; idx_vars i; pointwise [r0_1]

/-- The rows before the block, which count as zero before the first block. -/
theorem pay4_at (a : Fin 16) (j : Fin 1024) : k0_pay4 i CH UH (ix2 a j) = if (i 0).val = 0 then 0 else CH (ix2 a j) * UH (ix2 a j) := by
  pointwise [k0_pay4]
  rw [cmp_coord (i 0)]
  split_ifs <;> rfl

/-- The convolution's input one row back. -/
theorem pay5_at (a : Fin 256) (j : Fin 1024) : k0_pay5 i C U CH UH (ix2 a j)
    = if h : a.val = 0 then (if (i 0).val = 0 then 0 else CH (ix2 15 j) * UH (ix2 15 j))
      else C (ix2 ⟨a.val - 1, by omega⟩ j) * U (ix2 ⟨a.val - 1, by omega⟩ j) := by
  pointwise [k0_pay5, k0_pay3]
  rw [(cmp_row a).1, pay4_at]
  by_cases h : a.val = 0
  · rw [if_pos h, dif_pos h]; rfl
  · rw [if_neg h, dif_neg h]
    have e : (⟨(a.val + 256 - 1) % 256, Nat.mod_lt _ (by norm_num)⟩ : Fin 256) = ⟨a.val - 1, by omega⟩ := Fin.ext (by simp only; omega)
    exact congrArg (fun b => C (ix2 b j) * U (ix2 b j)) e

/-- The convolution's input two rows back. -/
theorem pay6_at (a : Fin 256) (j : Fin 1024) : k0_pay6 i C U CH UH (ix2 a j)
    = if h : a.val = 0 then (if (i 0).val = 0 then 0 else CH (ix2 14 j) * UH (ix2 14 j))
      else if h' : a.val = 1 then (if (i 0).val = 0 then 0 else CH (ix2 15 j) * UH (ix2 15 j))
      else C (ix2 ⟨a.val - 2, by omega⟩ j) * U (ix2 ⟨a.val - 2, by omega⟩ j) := by
  pointwise [k0_pay6, k0_pay3]
  rw [(cmp_row a).1, (cmp_row a).2, pay4_at, pay4_at]
  by_cases h : a.val = 0
  · rw [if_pos h, dif_pos h]; rfl
  rw [if_neg h, dif_neg h]
  by_cases h' : a.val = 1
  · rw [if_pos h', dif_pos h']; rfl
  · rw [if_neg h', dif_neg h']
    have e : (⟨(a.val + 256 - 2) % 256, Nat.mod_lt _ (by norm_num)⟩ : Fin 256) = ⟨a.val - 2, by omega⟩ := Fin.ext (by simp only; omega)
    exact congrArg (fun b => C (ix2 b j) * U (ix2 b j)) e

end Block

/-! ## The kernel's points -/

variable (m : (ℓ : Loc nD τ sig) → Buf (Elt Ideal) ℓ)

/-- The windows' index maps over the sixteen points. -/
theorem idx : ∀ t : Fin cfg0.N, win0_0.index t = ![t.val, 0] ∧ win0_1.index t = ![t.val, 1] ∧ win0_2.index t = ![t.val, 2] ∧ win0_3.index t = ![t.val, 3]
    ∧ win0_4.index t = ![t.val, 4] ∧ win0_5.index t = ![t.val * 16 - 1, 0] ∧ win0_6.index t = ![t.val * 16 - 1, 2] ∧ win0_7.index t = ![t.val, 0]
    ∧ win0_8.index t = ![0, 0] ∧ win0_9.index t = ![0, 0] ∧ win0_10.index t = ![t.val, 0] ∧ win0_11.index t = ![t.val, 0] ∧ win0_12.index t = ![t.val, 0] :=
  (by decide +kernel : ∀ t : Fin grid0.N, _)

theorem coord : ∀ t : Fin cfg0.N, (grid0.coords t 0).val = t.val :=
  (by decide +kernel : ∀ t : Fin grid0.N, _)

/-- Row `a` of point `t`'s block. -/
abbrev row (t : Fin cfg0.N) (a : Fin 256) : Fin 4096 := ⟨t.val * 256 + a.val, by have := t.isLt; have := a.isLt; have : cfg0.N = 16 := rfl; omega⟩

/-- Row `a` of the sixteen rows before point `t`'s block. -/
abbrev before (t : Fin cfg0.N) (a : Fin 16) : Fin 4096 :=
  ⟨(t.val * 16 - 1) * 16 + a.val, by have := t.isLt; have := a.isLt; have : cfg0.N = 16 := rfl; omega⟩

section Point
variable (c : Dev nD)

/-- The call's arguments. -/
abbrev z : Re := args (m ((c : Thread nD τ).loc main_arg0)) (m ((c : Thread nD τ).loc main_arg1)) (m ((c : Thread nD τ).loc main_arg2))
    (m ((c : Thread nD τ).loc main_arg3)) (m ((c : Thread nD τ).loc main_arg4))

set_option maxHeartbeats 1000000

theorem C0 (t : Fin cfg0.N) (a : Fin 256) (j : Fin 1024) : iblk m c 0 t (ix2 a j) = (z m c).p (row t a) ⟨j.val, by omega⟩ := by
  unfold z args; blk_point [iblk, V, idx t]
theorem C1 (t : Fin cfg0.N) (a : Fin 256) (j : Fin 1024) : iblk m c 1 t (ix2 a j) = (z m c).p (row t a) ⟨1024 + j.val, by omega⟩ := by
  unfold z args; blk_point [iblk, V, idx t]
theorem C2 (t : Fin cfg0.N) (a : Fin 256) (j : Fin 1024) : iblk m c 2 t (ix2 a j) = (z m c).p (row t a) ⟨2048 + j.val, by omega⟩ := by
  unfold z args; blk_point [iblk, V, idx t]
theorem C3 (t : Fin cfg0.N) (a : Fin 256) (j : Fin 1024) : iblk m c 3 t (ix2 a j) = (z m c).p (row t a) ⟨3072 + j.val, by omega⟩ := by
  unfold z args; blk_point [iblk, V, idx t]
theorem C4 (t : Fin cfg0.N) (a : Fin 256) (j : Fin 1024) : iblk m c 4 t (ix2 a j) = (z m c).p (row t a) ⟨4096 + j.val, by omega⟩ := by
  unfold z args; blk_point [iblk, V, idx t]
theorem C5 (t : Fin cfg0.N) (a : Fin 16) (j : Fin 1024) : iblk m c 5 t (ix2 a j) = (z m c).p (before t a) ⟨j.val, by omega⟩ := by
  unfold z args; blk_point [iblk, V, idx t]
theorem C6 (t : Fin cfg0.N) (a : Fin 16) (j : Fin 1024) : iblk m c 6 t (ix2 a j) = (z m c).p (before t a) ⟨2048 + j.val, by omega⟩ := by
  unfold z args; blk_point [iblk, V, idx t]
theorem C7 (t : Fin cfg0.N) (a : Fin 256) (j : Fin 1024) : iblk m c 7 t (ix2 a j) = (z m c).t (row t a) j := by
  unfold z args; blk_point [iblk, V, idx t]
theorem C8 (t : Fin cfg0.N) (a : Fin 3) (j : Fin 1024) : iblk m c 8 t (ix2 a j) = (z m c).w a j := by
  unfold z args; blk_point [iblk, V, idx t]
theorem C9 (t : Fin cfg0.N) (a j : Fin 1024) : iblk m c 9 t (ix2 a j) = (z m c).o a j := by
  unfold z args; blk_point [iblk, V, idx t]
theorem C10 (t : Fin cfg0.N) (a : Fin 256) (j : Fin 1024) : iblk m c 10 t (ix2 a j) = (z m c).x (row t a) j := by
  unfold z args; blk_point [iblk, V, idx t]

/-- The convolution's input over a point's block. -/
theorem b0 (t : Fin cfg0.N) (a : Fin 256) (j : Fin 1024) : k0_pay3 (iblk m c 0 t) (iblk m c 2 t) (ix2 a j) = (z m c).u (row t a) j := by
  pointwise [k0_pay3]
  rw [C0 m c t, C2 m c t]
  rfl

abbrev ib0 (t : Fin cfg0.N) : Vec Ideal S256x1024 .bf16 := iblk m c 0 t
abbrev ib2 (t : Fin cfg0.N) : Vec Ideal S256x1024 .bf16 := iblk m c 2 t
abbrev ib5 (t : Fin cfg0.N) : Vec Ideal S16x1024 .bf16 := iblk m c 5 t
abbrev ib6 (t : Fin cfg0.N) : Vec Ideal S16x1024 .bf16 := iblk m c 6 t

/-- A row before the block is the same row counted from the block's own. -/
theorem back (t : Fin cfg0.N) (a : Fin 256) (d : ℕ) (e : Fin 16) (j : Fin 1024) (h : a.val + 16 = d + e.val) :
    (if (grid0.coords t 0).val = 0 then (0 : EReal) else ib5 m c t (ix2 e j) * ib6 m c t (ix2 e j)) = (z m c).b d (row t a) j := by
  rw [coord t]
  unfold Re.b
  by_cases h0 : t.val = 0
  · rw [if_pos h0, if_neg (by simp only [row]; omega)]
  · rw [if_neg h0, if_pos (by simp only [row]; omega)]
    refine (congrArg₂ (fun s t : EReal => s * t) (C5 m c t e j) (C6 m c t e j)).trans ?_
    exact congrArg (fun i => (z m c).u i j) (Fin.ext (by simp only [row, before]; omega))

/-- A row of the block itself. -/
theorem inside (t : Fin cfg0.N) (a b : Fin 256) (d : ℕ) (j : Fin 1024) (h : b.val + d = a.val) :
    ib0 m c t (ix2 b j) * ib2 m c t (ix2 b j) = (z m c).b d (row t a) j := by
  refine (congrArg₂ (fun s t : EReal => s * t) (C0 m c t b j) (C2 m c t b j)).trans ?_
  unfold Re.b
  rw [if_pos (by simp only [row]; omega)]
  exact congrArg (fun i => (z m c).u i j) (Fin.ext (by simp only [row]; omega))

theorem b1 (t : Fin cfg0.N) (a : Fin 256) (j : Fin 1024) :
    k0_pay5 (grid0.coords t) (iblk m c 0 t) (iblk m c 2 t) (iblk m c 5 t) (iblk m c 6 t) (ix2 a j) = (z m c).b 1 (row t a) j := by
  rw [pay5_at]
  by_cases h : a.val = 0
  · rw [dif_pos h]; exact back m c t a 1 15 j (by simp; omega)
  · rw [dif_neg h]; exact inside m c t a _ 1 j (by simp only; omega)

theorem b2 (t : Fin cfg0.N) (a : Fin 256) (j : Fin 1024) :
    k0_pay6 (grid0.coords t) (iblk m c 0 t) (iblk m c 2 t) (iblk m c 5 t) (iblk m c 6 t) (ix2 a j) = (z m c).b 2 (row t a) j := by
  rw [pay6_at]
  by_cases h : a.val = 0
  · rw [dif_pos h]; exact back m c t a 2 14 j (by simp; omega)
  rw [dif_neg h]
  by_cases h' : a.val = 1
  · rw [dif_pos h']; exact back m c t a 2 15 j (by simp; omega)
  · rw [dif_neg h']; exact inside m c t a _ 2 j (by simp only; omega)

/-- The gated sum over a point's block. -/
theorem bg (t : Fin cfg0.N) (a : Fin 256) (j : Fin 1024) :
    k0_pay1 (k0_pay11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))
      (k0_pay12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))
      (k0_pay13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))
      (k0_pay14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))
      (ix2 a j) = (z m c).g (row t a) j := by
  pointwise [k0_pay1, k0_pay11, k0_pay12, k0_pay13, k0_pay14, k0_pay7, k0_pay8, k0_pay9, k0_pay10]
  rw [ld0 (iblk m c 0 t), ld0 (iblk m c 2 t), ld1 (iblk m c 5 t), ld1 (iblk m c 6 t), b0 m c t, b1 m c t, b2 m c t]
  simp only [C1 m c t, C3 m c t, C4 m c t, C7 m c t, C8 m c t, zero_sub]
  rfl

theorem arr12 : (dats m 0 c).arrAt 12 cfg0.N = fun i => (z m c).g (i 0) (i 1) := by
  refine (dats m 0 c).arrAt_eq_of_covers 12 _ (by decide +kernel) fun t _ y => ?_
  blk_simp
  rw [after0_12]
  unfold out0_12
  idx_vars y
  frame_out
  refine (bg m c t y0 y1).trans ?_
  exact congrArg₂ (z m c).g (Fin.ext (by blk_simp [idx t])) (Fin.ext (by blk_simp [idx t]))

theorem arr11 : (dats m 0 c).arrAt 11 cfg0.N = fun i => (z m c).y (i 0) (i 1) := by
  refine (dats m 0 c).arrAt_eq_of_covers 11 _ (by decide +kernel) fun t _ y => ?_
  blk_simp
  rw [after0_11]
  unfold out0_11
  idx_vars y
  frame_out
  pointwise [k0_pay2]
  simp only [C10 m c t, C9 m c t]
  refine Eq.trans (congrArg (fun s : EReal => (z m c).x (row t y0) y1 + s) (Finset.sum_congr rfl fun k _ => congrArg (fun s : EReal => s * (z m c).o k y1) (bg m c t y0 k))) ?_
  exact congrArg₂ (z m c).y (Fin.ext (by blk_simp [idx t])) (Fin.ext (by blk_simp [idx t]))

end Point

/-! ## The reference's lines -/

namespace Ref
open Cert.ReferenceMixOutFwdIdeal.Read

variable (a0 : Vec Ideal Cert.KernelMixOutFwdIdeal.S1x4096x1024 .f32) (a1 : Vec Ideal Cert.KernelMixOutFwdIdeal.S1x4096x5120 .f32)
  (a2 : Vec Ideal Cert.KernelMixOutFwdIdeal.S1x4096x1024 .f32) (a3 : Vec Ideal Cert.KernelMixOutFwdIdeal.S1x3x1024 .f32)
  (a4 : Vec Ideal Cert.KernelMixOutFwdIdeal.S1x1024x1024 .f32)

/-- The convolution's input padded with two zero rows in front. -/
theorem ref7 (k : Fin 4098) (j : Fin 1024) : val_main_v7 (F := Ideal) a1 (ix3 0 k j)
    = if h : 2 ≤ k.val then (args a0 a1 a2 a3 a4).u ⟨k.val - 2, by omega⟩ j else 0 := by
  pointwise [val_main_v7, val_main_v5, val_main_v0, val_main_v2, val_main_call0_v0, val_main_c]
  by_cases h : 2 ≤ k.val
  · rw [dif_pos h, dif_pos ⟨h, by omega⟩]; rfl
  · rw [dif_neg h, dif_neg (fun e => h e.1)]
    show ((((0#32 : BitVec 32).toInt : ℝ)) : EReal) = 0
    simp

/-- The padded input read `d` rows before row `i` of the input, `d` being 0, 1 or 2. -/
theorem ref_back (i : Fin 4096) (d : ℕ) (k : Fin 4098) (j : Fin 1024) (h : k.val + d = i.val + 2) :
    val_main_v7 (F := Ideal) a1 (ix3 0 k j) = (args a0 a1 a2 a3 a4).b d i j := by
  rw [ref7 a0 a1 a2 a3 a4]
  unfold Re.b
  by_cases hk : 2 ≤ k.val
  · rw [dif_pos hk, if_pos (by omega)]
    exact congrArg (fun i => (args a0 a1 a2 a3 a4).u i j) (Fin.ext (by simp only; omega))
  · rw [dif_neg hk, if_neg (by omega)]

/-- The gated sum. -/
theorem ref45 (i : Fin 4096) (j : Fin 1024) : val_main_v45 (F := Ideal) a1 a2 a3 (ix3 0 i j) = (args a0 a1 a2 a3 a4).g i j := by
  pointwise [val_main_v45, val_main_v37, val_main_v44, val_main_v36, val_main_v43, val_main_v30, val_main_v35, val_main_v34, val_main_v42,
    val_main_v41, val_main_v1, val_main_v29, val_main_cst_1, val_main_v33, val_main_v32, val_main_cst_3, val_main_v40, val_main_v39, val_main_v22,
    val_main_v28, val_main_cst_0, val_main_v31, val_main_cst_2, val_main_v38, val_main_v15, val_main_v21, val_main_v27, val_main_v25, val_main_v3,
    val_main_v4, val_main_v14, val_main_v13, val_main_v20, val_main_v18, val_main_v26, val_main_cst, val_main_v12, val_main_v10, val_main_v19,
    val_main_v24, val_main_v11, val_main_v17, val_main_v23, val_main_v9, val_main_v16, val_main_v6, val_main_v8]
  rw [ref_back a0 a1 a2 a3 a4 i 2 ⟨i.val, by omega⟩ j rfl, ref_back a0 a1 a2 a3 a4 i 1 ⟨1 + i.val, by omega⟩ j (by simp only; omega),
    ref_back a0 a1 a2 a3 a4 i 0 ⟨2 + i.val, by omega⟩ j (by simp only; omega)]
  rfl

theorem ref51 (i : Fin 4096) (j : Fin 1024) : val_main_v51 (F := Ideal) a1 a2 a3 (ix2 i j) = (args a0 a1 a2 a3 a4).g i j := by
  pointwise [val_main_v51, val_main_v50]
  exact (ref45 a0 a1 a2 a3 a4 _ _).trans (congrArg₂ _ (Fin.ext (by simp only)) (Fin.ext (by simp only)))

theorem ref49 (i : Fin 4096) (j : Fin 1024) : val_main_v49 (F := Ideal) a0 a1 a2 a3 a4 (ix2 i j) = (args a0 a1 a2 a3 a4).y i j := by
  have key (i : Fin 4096) (j : Fin 1024) : val_main_v48 (F := Ideal) a0 a1 a2 a3 a4 (ix3 0 i j) = (args a0 a1 a2 a3 a4).y i j := by
    pointwise [val_main_v48, val_main_v47, val_main_v46]
    simp only [ref45 a0 a1 a2 a3 a4]
    rfl
  pointwise [val_main_v49]
  exact (key _ _).trans (congrArg₂ _ (Fin.ext (by simp only)) (Fin.ext (by simp only)))

end Ref

/-! ## The claim -/

/-- The call and the reference's forward lines return the same two results: the stream after the projection and the gated sum. -/
theorem value : Cert.algebraic_KernelMixOutFwdIdeal_ReferenceMixOutFwdIdeal := by
  intro m g m' g' _ hagree
  refine ⟨_, _, Value.run_blocks m g, ?_⟩
  refine (θ_run _ _ _).mono (fun s h c => ?_) (Cert.ReferenceMixOutFwdIdeal.Value.run m' g')
  obtain ⟨e0, e1, e2, e3, e4⟩ := hagree c
  obtain ⟨h0, h1, hr⟩ := h c
  refine ⟨h0.trans ?_, h1.trans ?_, hr⟩
  · rw [Cert.ReferenceMixOutFwdIdeal.Read.val_main_v49_eq, e0, e1, e2, e3, e4, arr11 m c]
    funext i
    idx_vars i
    exact Ref.ref49 _ _ _ _ _ _ _
  · rw [Cert.ReferenceMixOutFwdIdeal.Read.val_main_v51_eq, e1, e2, e3, arr12 m c]
    funext i
    idx_vars i
    exact Ref.ref51 (m ((c : Thread nD τ).loc main_arg0)) _ _ _ (m ((c : Thread nD τ).loc main_arg4)) _ _

end Cert.MixOutFwd
end
-- ==== Proof.FfnFwd.lean ====
/- The first feed-forward sublayer (`ffn1_fwd`): the call returns what the reference's forward lines return. -/
module

public import proofs.«01_k».proof.Defs
public import proofs.«01_k».proof.Proof.Lift
public import proofs.«01_k».proof.Proof.Gen.KernelFfnFwdIdeal.Frame
public import proofs.«01_k».proof.Proof.Gen.KernelFfnFwdIdeal.Value
public import proofs.«01_k».proof.Proof.Gen.ReferenceFfnFwdIdeal.Read

@[expose] public section

set_option maxRecDepth 16384

noncomputable section

open Idealize.ShloMosaic Idealize.ShloMosaic.TcCoe Idealize.SL.Sem
open Idealize.ShloMosaic.Pipeline (Dat)
open Cert.Lift

namespace Cert.FfnFwd
open Cert.KernelFfnFwdIdeal Cert.KernelFfnFwdIdeal.Gen

/-! ## The function both compute, over the extended reals -/

/-- The reciprocal root of a row's mean square plus the constant both programs add. -/
def scale (x : Fin 1024 → EReal) : EReal :=
  Ideal.rsqrt (Ideal.div (∑ k, x k * x k) (Ideal.ofBits .f32 0x44800000#32) + Ideal.ofBits .f32 0x358637BD#32)

/-- The sigmoid. -/
def sgm (v : EReal) : EReal := Ideal.div 1 (1 + Ideal.exp (-v))

/-- The arguments: the stream, the normalisation's scale, the joint gate and value weights, the output weights. -/
structure Re where
  x : Fin 4096 → Fin 1024 → EReal
  g : Fin 1024 → EReal
  w : Fin 1024 → Fin 5632 → EReal
  d : Fin 2816 → Fin 1024 → EReal

namespace Re
variable (z : Re)

/-- The normalised rows. -/
def h (i : Fin 4096) (j : Fin 1024) : EReal := z.x i j * scale (z.x i) * z.g j
/-- The joint projection. -/
def p (i : Fin 4096) (k : Fin 5632) : EReal := ∑ j, z.h i j * z.w j k
/-- The gate's column. -/
def gt (i : Fin 4096) (k : Fin 2816) : EReal := z.p i ⟨k.val, by omega⟩
/-- The value's column. -/
def up (i : Fin 4096) (k : Fin 2816) : EReal := z.p i ⟨2816 + k.val, by omega⟩
/-- The activation. -/
def act (i : Fin 4096) (k : Fin 2816) : EReal := z.gt i k * sgm (z.gt i k) * z.up i k
/-- The sublayer's output. -/
def y (i : Fin 4096) (j : Fin 1024) : EReal := z.x i j + Ideal.ofBits .f32 0x3F000000#32 * ∑ k, z.act i k * z.d k j

end Re

/-- The arguments read as functions of their coordinates. -/
abbrev args (a0 : Vec Ideal S1x4096x1024 .f32) (a1 : Vec Ideal S1x1024 .f32) (a2 : Vec Ideal S1x1024x5632 .f32) (a3 : Vec Ideal S1x2816x1024 .f32) : Re :=
  ⟨fun i j => a0 (ix3 0 i j), fun j => a1 (ix2 0 j), fun i j => a2 (ix3 0 i j), fun i j => a3 (ix3 0 i j)⟩

/-! ## The kernel's points -/

variable (m : (ℓ : Loc nD τ sig) → Buf (Elt Ideal) ℓ)

/-- The windows' index maps over the sixteen points. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

/-- Row `a` of point `t`'s block. -/
abbrev row (t : Fin cfg0.N) (a : Fin 256) : Fin 4096 := ⟨t.val * 256 + a.val, by have := t.isLt; have := a.isLt; have : cfg0.N = 16 := rfl; omega⟩

section Point
variable (c : Dev nD)

/-- The call's arguments. -/
abbrev z : Re := args (m ((c : Thread nD τ).loc main_arg0)) (m ((c : Thread nD τ).loc main_arg1)) (m ((c : Thread nD τ).loc main_arg2))
    (m ((c : Thread nD τ).loc main_arg3))

set_option maxHeartbeats 1000000

/-- The blocks of a point, typed as arrays. -/
abbrev ib0 (t : Fin cfg0.N) : Vec Ideal S256x1024 .f32 := iblk m c 0 t
abbrev ib1 (t : Fin cfg0.N) : Vec Ideal S1x1024 .f32 := iblk m c 1 t
abbrev ib2 (t : Fin cfg0.N) : Vec Ideal S1024x5632 .bf16 := iblk m c 2 t
abbrev ib3 (t : Fin cfg0.N) : Vec Ideal S2816x1024 .bf16 := iblk m c 3 t

theorem C0 (t : Fin cfg0.N) (a : Fin 256) (j : Fin 1024) : ib0 m c t (ix2 a j) = (z m c).x (row t a) j := by
  unfold z args; blk_point [ib0, iblk, V, idx t]
theorem C1 (t : Fin cfg0.N) (j : Fin 1024) : ib1 m c t (ix2 0 j) = (z m c).g j := by
  unfold z args; blk_point [ib1, iblk, V, idx t]
theorem C2 (t : Fin cfg0.N) (a : Fin 1024) (j : Fin 5632) : ib2 m c t (ix2 a j) = (z m c).w a j := by
  unfold z args; blk_point [ib2, iblk, V, idx t]
theorem C3 (t : Fin cfg0.N) (a : Fin 2816) (j : Fin 1024) : ib3 m c t (ix2 a j) = (z m c).d a j := by
  unfold z args; blk_point [ib3, iblk, V, idx t]

/-- The columns of the joint weights from `o` on. -/
abbrev wcol (W : Vec Ideal S1024x5632 .bf16) (o : ℕ) (h : ∀ a, (![0, o] : Fin 2 → ℕ) a + (![1024, 1408] : Fin 2 → ℕ) a ≤ S1024x5632.size a) : Vec Ideal S1024x1408 .bf16 :=
  View.ld W (Rect.unit (s := S1024x5632) ![0, o] ![1024, 1408] h)

/-- The rows of the output weights from `o` on. -/
abbrev drow (D : Vec Ideal S2816x1024 .bf16) (o : ℕ) (h : ∀ a, (![o, 0] : Fin 2 → ℕ) a + (![1408, 1024] : Fin 2 → ℕ) a ≤ S2816x1024.size a) : Vec Ideal S1408x1024 .bf16 :=
  View.ld D (Rect.unit (s := S2816x1024) ![o, 0] ![1408, 1024] h)

theorem ldw (t : Fin cfg0.N) (o : ℕ) (h) (a : Fin 1024) (k : Fin 1408) (e : Fin 5632) (he : e.val = o + k.val) :
    wcol (ib2 m c t) o h (ix2 a k) = (z m c).w a e := by
  rw [← C2 m c t]
  pointwise [wcol]
  exact congrArg (ib2 m c t) (congrArg₂ ix2 (Fin.ext (by simp)) (Fin.ext (by simp; omega)))

theorem ldd (t : Fin cfg0.N) (o : ℕ) (h) (k : Fin 1408) (b : Fin 1024) (e : Fin 2816) (he : e.val = o + k.val) :
    drow (ib3 m c t) o h (ix2 k b) = (z m c).d e b := by
  rw [← C3 m c t]
  pointwise [drow]
  exact congrArg (ib3 m c t) (congrArg₂ ix2 (Fin.ext (by simp; omega)) (Fin.ext (by simp)))

/-- The normalised rows of a block. -/
theorem bh (t : Fin cfg0.N) (a : Fin 256) (j : Fin 1024) : k0_pay7 (ib0 m c t) (ib1 m c t) (ix2 a j) = (z m c).h (row t a) j := by
  pointwise [k0_pay7, k0_pay6]
  simp only [C0 m c t, C1 m c t]
  rfl

/-- A column of the joint projection, read in either half. -/
theorem bp (t : Fin cfg0.N) (o : ℕ) (h) (a : Fin 256) (k : Fin 1408) (e : Fin 5632) (he : e.val = o + k.val) :
    k0_pay1 (k0_pay7 (ib0 m c t) (ib1 m c t)) (wcol (ib2 m c t) o h) (ix2 a k) = (z m c).p (row t a) e := by
  pointwise [k0_pay1]
  simp only [bh m c t, fun j => ldw m c t o h j k e he]
  rfl

/-- The activation's first half. -/
theorem ba (t : Fin cfg0.N) (a : Fin 256) (k : Fin 1408) :
    k0_pay13 (ib0 m c t) (ib1 m c t) (wcol (ib2 m c t) 0 inb_S1024x5632_S1024x1408_0_0) (wcol (ib2 m c t) 2816 inb_S1024x5632_S1024x1408_0_2816) (ix2 a k)
      = (z m c).act (row t a) ⟨k.val, by omega⟩ := by
  pointwise [k0_pay13]
  have e1 : k0_pay9 (ib0 m c t) (ib1 m c t) (wcol (ib2 m c t) 0 inb_S1024x5632_S1024x1408_0_0) (ix2 a k) = (z m c).gt (row t a) ⟨k.val, by omega⟩ :=
    bp m c t _ _ a k _ (by simp)
  have e2 : k0_pay10 (ib0 m c t) (ib1 m c t) (wcol (ib2 m c t) 2816 inb_S1024x5632_S1024x1408_0_2816) (ix2 a k) = (z m c).up (row t a) ⟨k.val, by omega⟩ :=
    bp m c t _ _ a k _ rfl
  rw [e1, e2, zero_sub]
  rfl

/-- The sublayer's output over a block. -/
theorem b4 (t : Fin cfg0.N) (a : Fin 256) (j : Fin 1024) :
    k0_pay5 (k0_pay6 (ib0 m c t)) (k0_pay7 (ib0 m c t) (ib1 m c t)) (k0_pay8 (F := Ideal))
      (k0_pay13 (ib0 m c t) (ib1 m c t) (wcol (ib2 m c t) 0 inb_S1024x5632_S1024x1408_0_0) (wcol (ib2 m c t) 2816 inb_S1024x5632_S1024x1408_0_2816))
      (drow (ib3 m c t) 0 inb_S2816x1024_S1408x1024_0_0) (wcol (ib2 m c t) 1408 inb_S1024x5632_S1024x1408_0_1408)
      (wcol (ib2 m c t) 4224 inb_S1024x5632_S1024x1408_0_4224) (drow (ib3 m c t) 1408 inb_S2816x1024_S1408x1024_1408_0) (ix2 a j)
      = (z m c).y (row t a) j := by
  have e1 (k : Fin 1408) : k0_pay1 (k0_pay7 (ib0 m c t) (ib1 m c t)) (wcol (ib2 m c t) 1408 inb_S1024x5632_S1024x1408_0_1408) (ix2 a k)
      = (z m c).gt (row t a) ⟨1408 + k.val, by omega⟩ := bp m c t _ _ a k _ rfl
  have e2 (k : Fin 1408) : k0_pay2 (k0_pay7 (ib0 m c t) (ib1 m c t)) (wcol (ib2 m c t) 4224 inb_S1024x5632_S1024x1408_0_4224) (ix2 a k)
      = (z m c).up (row t a) ⟨1408 + k.val, by omega⟩ := bp m c t _ _ a k _ (by simp only; omega)
  have e3 (k : Fin 1408) := ldd m c t 0 inb_S2816x1024_S1408x1024_0_0 k j ⟨k.val, by omega⟩ (by simp)
  have e4 (k : Fin 1408) := ldd m c t 1408 inb_S2816x1024_S1408x1024_1408_0 k j ⟨1408 + k.val, by omega⟩ rfl
  pointwise [k0_pay5, k0_pay8, k0_pay6]
  simp only [e1, e2, e3, e4, ba m c t, C0 m c t, zero_sub]
  unfold Re.y
  rw [sum_cut 1408 1408 rfl]
  rfl

theorem arr4 : (dats m 0 c).arrAt 4 cfg0.N = fun i => (z m c).y (i 0) (i 1) := by
  refine (dats m 0 c).arrAt_eq_of_covers 4 _ (by decide +kernel) fun t _ y => ?_
  blk_simp
  rw [after0_4]
  unfold out0_4 k0_pay14
  idx_vars y
  frame_out
  refine (b4 m c t y0 y1).trans ?_
  exact congrArg₂ (z m c).y (Fin.ext (by blk_simp [idx t])) (Fin.ext (by blk_simp [idx t]))

/-- The gate's block: two stores. -/
theorem b5 (t : Fin cfg0.N) (a : Fin 256) (k : Fin 2816) :
    out0_5 (iblk m c 0 t) (iblk m c 1 t) (iblk m c 2 t) (iblk m c 3 t) (ix2 a k) = (z m c).gt (row t a) k := by
  unfold out0_5 k0_pay14
  frame_out
  canon_tiles y h
  all_goals
    idx_vars y
    obtain rfl : y0 = a := Fin.ext h0.symm
  · exact bp m c t _ _ _ _ _ (by simp; omega)
  · exact bp m c t _ _ _ _ _ (by simp; omega)

/-- The value's block: two stores. -/
theorem b6 (t : Fin cfg0.N) (a : Fin 256) (k : Fin 2816) :
    out0_6 (iblk m c 0 t) (iblk m c 1 t) (iblk m c 2 t) (iblk m c 3 t) (ix2 a k) = (z m c).up (row t a) k := by
  unfold out0_6 k0_pay14
  frame_out
  canon_tiles y h
  all_goals
    idx_vars y
    obtain rfl : y0 = a := Fin.ext h0.symm
  · exact bp m c t _ _ _ _ _ (by simp; omega)
  · exact bp m c t _ _ _ _ _ (by simp; omega)

theorem arr5 : (dats m 0 c).arrAt 5 cfg0.N = fun i => (z m c).gt (i 0) (i 1) := by
  refine (dats m 0 c).arrAt_eq_of_covers 5 _ (by decide +kernel) fun t _ y => ?_
  blk_simp
  rw [after0_5]
  idx_vars y
  rw [b5 m c t]
  exact congrArg₂ (z m c).gt (Fin.ext (by blk_simp [idx t])) (Fin.ext (by blk_simp [idx t]))

theorem arr6 : (dats m 0 c).arrAt 6 cfg0.N = fun i => (z m c).up (i 0) (i 1) := by
  refine (dats m 0 c).arrAt_eq_of_covers 6 _ (by decide +kernel) fun t _ y => ?_
  blk_simp
  rw [after0_6]
  idx_vars y
  rw [b6 m c t]
  exact congrArg₂ (z m c).up (Fin.ext (by blk_simp [idx t])) (Fin.ext (by blk_simp [idx t]))

end Point

/-! ## The reference's lines -/

namespace Ref
open Cert.ReferenceFfnFwdIdeal.Read

variable (a0 : Vec Ideal Cert.KernelFfnFwdIdeal.S1x4096x1024 .f32) (a1 : Vec Ideal Cert.KernelFfnFwdIdeal.S1x1024 .f32)
  (a2 : Vec Ideal Cert.KernelFfnFwdIdeal.S1x1024x5632 .f32) (a3 : Vec Ideal Cert.KernelFfnFwdIdeal.S1x2816x1024 .f32)

theorem ref14 (i : Fin 4096) (j : Fin 1024) : val_main_v14 (F := Ideal) a0 a1 (ix2 i j) = (args a0 a1 a2 a3).h i j := by
  pointwise [val_main_v14, val_main_v11, val_main_v13, val_main_v0, val_main_v10, val_main_v12, val_main_v9, val_main_v1, val_main_v8, val_main_v6,
    val_main_v7, val_main_v4, val_main_v5, val_main_cst_1, val_main_v3, val_main_cst_0, val_main_v2, val_main_cst]
  rfl

theorem ref16 (i : Fin 4096) (k : Fin 5632) : val_main_v16 (F := Ideal) a0 a1 a2 (ix2 i k) = (args a0 a1 a2 a3).p i k := by
  pointwise [val_main_v16, val_main_v15]
  simp only [ref14 a0 a1 a2 a3]
  rfl

theorem ref17 (i : Fin 4096) (k : Fin 2816) : val_main_v17 (F := Ideal) a0 a1 a2 (ix2 i k) = (args a0 a1 a2 a3).gt i k := by
  pointwise [val_main_v17]
  exact ref16 a0 a1 a2 a3 _ _

theorem ref18 (i : Fin 4096) (k : Fin 2816) : val_main_v18 (F := Ideal) a0 a1 a2 (ix2 i k) = (args a0 a1 a2 a3).up i k := by
  pointwise [val_main_v18]
  exact ref16 a0 a1 a2 a3 _ _

theorem ref21 (i : Fin 4096) (k : Fin 2816) : val_main_v21 (F := Ideal) a0 a1 a2 (ix2 i k) = (args a0 a1 a2 a3).act i k := by
  pointwise [val_main_v21, val_main_v20, val_main_call0_v5, val_main_call0_v4, val_main_call0_v3, val_main_call0_cst_0, val_main_call0_v2,
    val_main_call0_v1, val_main_call0_cst, val_main_call0_v0]
  rw [ref17 a0 a1 a2 a3, ref18 a0 a1 a2 a3]
  rfl

theorem ref26 (i : Fin 4096) (j : Fin 1024) : val_main_v26 (F := Ideal) a0 a1 a2 a3 (ix2 i j) = (args a0 a1 a2 a3).y i j := by
  pointwise [val_main_v26, val_main_v19, val_main_v25, val_main_v24, val_main_v23, val_main_cst_2, val_main_v22]
  simp only [ref21 a0 a1 a2 a3]
  rfl

theorem ref27 (i : Fin 4096) (k : Fin 2816) : val_main_v27 (F := Ideal) a0 a1 a2 (ix2 i k) = (args a0 a1 a2 a3).gt i k := by
  pointwise [val_main_v27]
  exact ref17 a0 a1 a2 a3 _ _

theorem ref28 (i : Fin 4096) (k : Fin 2816) : val_main_v28 (F := Ideal) a0 a1 a2 (ix2 i k) = (args a0 a1 a2 a3).up i k := by
  pointwise [val_main_v28]
  exact ref18 a0 a1 a2 a3 _ _

end Ref

/-! ## The claim -/

/-- The call and the reference's forward lines return the same three results: the stream after the sublayer, the gate and the value. -/
theorem value : Cert.algebraic_KernelFfnFwdIdeal_ReferenceFfnFwdIdeal := by
  intro m g m' g' _ hagree
  refine ⟨_, _, _, Value.run_blocks m g, ?_⟩
  refine (θ_run _ _ _).mono (fun s h c => ?_) (Cert.ReferenceFfnFwdIdeal.Value.run m' g')
  obtain ⟨e0, e1, e2, e3⟩ := hagree c
  obtain ⟨h0, h1, h2, hr⟩ := h c
  refine ⟨h0.trans ?_, h1.trans ?_, h2.trans ?_, hr⟩
  · rw [Cert.ReferenceFfnFwdIdeal.Read.val_main_v26_eq, e0, e1, e2, e3, arr4 m c]
    funext i
    idx_vars i
    exact Ref.ref26 _ _ _ _ _ _
  · rw [Cert.ReferenceFfnFwdIdeal.Read.val_main_v27_eq, e0, e1, e2, arr5 m c]
    funext i
    idx_vars i
    exact Ref.ref27 _ _ _ (m ((c : Thread nD τ).loc main_arg3)) _ _
  · rw [Cert.ReferenceFfnFwdIdeal.Read.val_main_v28_eq, e0, e1, e2, arr6 m c]
    funext i
    idx_vars i
    exact Ref.ref28 _ _ _ (m ((c : Thread nD τ).loc main_arg3)) _ _

end Cert.FfnFwd
end
-- ==== Proof.MixProj.lean ====
/- The normalisation before the mixers and their joint projection (`mix_proj`): the call returns what the reference's forward lines return. -/
module

public import proofs.«01_k».proof.Defs
public import proofs.«01_k».proof.Proof.FfnFwd
public import proofs.«01_k».proof.Proof.Gen.KernelMixProjIdeal.Frame
public import proofs.«01_k».proof.Proof.Gen.KernelMixProjIdeal.Value
public import proofs.«01_k».proof.Proof.Gen.ReferenceMixProjIdeal.Read

@[expose] public section

set_option maxRecDepth 16384

noncomputable section

open Idealize.ShloMosaic Idealize.ShloMosaic.TcCoe Idealize.SL.Sem
open Idealize.ShloMosaic.Pipeline (Dat)
open Cert.FfnFwd (scale)

namespace Cert.MixProj
open Cert.KernelMixProjIdeal Cert.KernelMixProjIdeal.Gen

/-! ## The function both compute, over the extended reals -/

/-- The arguments: the rows, the normalisation's scale, the weights. -/
structure Re where
  x : Fin 4096 → Fin 1024 → EReal
  g : Fin 1024 → EReal
  w : Fin 1024 → Fin 6656 → EReal

namespace Re
variable (z : Re)

/-- The normalised rows. -/
def h (i : Fin 4096) (j : Fin 1024) : EReal := z.x i j * scale (z.x i) * z.g j
/-- The projection. -/
def p (i : Fin 4096) (k : Fin 6656) : EReal := ∑ j, z.h i j * z.w j k
/-- The attention's columns. -/
def q (i : Fin 4096) (k : Fin 1536) : EReal := z.p i ⟨k.val, by omega⟩
/-- The other columns. -/
def e (i : Fin 4096) (k : Fin 5120) : EReal := z.p i ⟨1536 + k.val, by omega⟩

end Re

/-- The arguments read as functions of their coordinates. -/
abbrev args (a0 : Vec Ideal S1x4096x1024 .f32) (a1 : Vec Ideal S1x1024 .f32) (a2 : Vec Ideal S1x1024x6656 .f32) : Re :=
  ⟨fun i j => a0 (ix3 0 i j), fun j => a1 (ix2 0 j), fun i j => a2 (ix3 0 i j)⟩

/-! ## The kernel's points -/

variable (m : (ℓ : Loc nD τ sig) → Buf (Elt Ideal) ℓ)

/-- The windows' index maps over the sixteen points. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] :=
  (by decide +kernel : ∀ t : Fin grid0.N, _)

/-- Row `a` of point `t`'s block. -/
abbrev row (t : Fin cfg0.N) (a : Fin 256) : Fin 4096 := ⟨t.val * 256 + a.val, by have := t.isLt; have := a.isLt; have : cfg0.N = 16 := rfl; omega⟩

section Point
variable (c : Dev nD)

/-- The call's arguments. -/
abbrev z : Re := args (m ((c : Thread nD τ).loc main_arg0)) (m ((c : Thread nD τ).loc main_arg1)) (m ((c : Thread nD τ).loc main_arg2))

set_option maxHeartbeats 1000000

/-- The blocks of a point, typed as arrays. -/
abbrev ib0 (t : Fin cfg0.N) : Vec Ideal S256x1024 .f32 := iblk m c 0 t
abbrev ib1 (t : Fin cfg0.N) : Vec Ideal S1x1024 .f32 := iblk m c 1 t
abbrev ib2 (t : Fin cfg0.N) : Vec Ideal S1024x6656 .bf16 := iblk m c 2 t

theorem C0 (t : Fin cfg0.N) (a : Fin 256) (j : Fin 1024) : ib0 m c t (ix2 a j) = (z m c).x (row t a) j := by
  unfold z args; blk_point [ib0, iblk, V, idx t]
theorem C1 (t : Fin cfg0.N) (j : Fin 1024) : ib1 m c t (ix2 0 j) = (z m c).g j := by
  unfold z args; blk_point [ib1, iblk, V, idx t]
theorem C2 (t : Fin cfg0.N) (a : Fin 1024) (j : Fin 6656) : ib2 m c t (ix2 a j) = (z m c).w a j := by
  unfold z args; blk_point [ib2, iblk, V, idx t]

/-- The normalised rows of a block. -/
theorem bh (t : Fin cfg0.N) (a : Fin 256) (j : Fin 1024) : k0_pay4 (ib0 m c t) (ib1 m c t) (ix2 a j) = (z m c).h (row t a) j := by
  pointwise [k0_pay4]
  simp only [C0 m c t, C1 m c t]
  rfl

/-- A thousand and twenty-four columns of the weights from `o` on. -/
abbrev wcol (W : Vec Ideal S1024x6656 .bf16) (o : ℕ) (h : ∀ a, (![0, o] : Fin 2 → ℕ) a + (![1024, 1024] : Fin 2 → ℕ) a ≤ S1024x6656.size a) : Vec Ideal S1024x1024 .bf16 :=
  View.ld W (Rect.unit (s := S1024x6656) ![0, o] ![1024, 1024] h)

theorem ldw (t : Fin cfg0.N) (o : ℕ) (h) (a : Fin 1024) (k : Fin 1024) (e : Fin 6656) (he : e.val = o + k.val) :
    wcol (ib2 m c t) o h (ix2 a k) = (z m c).w a e := by
  rw [← C2 m c t]
  pointwise [wcol]
  exact congrArg (ib2 m c t) (congrArg₂ ix2 (Fin.ext (by simp)) (Fin.ext (by simp; omega)))

/-- The attention's columns of the weights. -/
abbrev wq (W : Vec Ideal S1024x6656 .bf16) : Vec Ideal S1024x1536 .bf16 := View.ld W r0_2

theorem ldq (t : Fin cfg0.N) (a : Fin 1024) (k : Fin 1536) : wq (ib2 m c t) (ix2 a k) = (z m c).w a ⟨k.val, by omega⟩ := by
  rw [← C2 m c t]
  pointwise [wq, r0_2]
  try exact congrArg (ib2 m c t) (congrArg₂ ix2 (Fin.ext (by simp)) (Fin.ext (by simp)))

/-- A column of the projection from `o` on. -/
theorem bp (t : Fin cfg0.N) (o : ℕ) (h) (a : Fin 256) (k : Fin 1024) (e : Fin 6656) (he : e.val = o + k.val) :
    k0_pay1 (k0_pay4 (ib0 m c t) (ib1 m c t)) (wcol (ib2 m c t) o h) (ix2 a k) = (z m c).p (row t a) e := by
  pointwise [k0_pay1]
  simp only [bh m c t, fun j => ldw m c t o h j k e he]
  rfl

/-- A column of the attention's. -/
theorem bq (t : Fin cfg0.N) (a : Fin 256) (k : Fin 1536) : k0_pay5 (ib0 m c t) (ib1 m c t) (wq (ib2 m c t)) (ix2 a k) = (z m c).q (row t a) k := by
  pointwise [k0_pay5]
  simp only [bh m c t, ldq m c t]
  rfl

theorem arr3 : (dats m 0 c).arrAt 3 cfg0.N = fun i => (z m c).q (i 0) (i 1) := by
  refine (dats m 0 c).arrAt_eq_of_covers 3 _ (by decide +kernel) fun t _ y => ?_
  blk_simp
  rw [after0_3]
  unfold out0_3
  idx_vars y
  frame_out
  refine (bq m c t y0 y1).trans ?_
  exact congrArg₂ (z m c).q (Fin.ext (by blk_simp [idx t])) (Fin.ext (by blk_simp [idx t]))

/-- The other columns' block: five stores. -/
theorem b4 (t : Fin cfg0.N) (a : Fin 256) (k : Fin 5120) :
    out0_4 (iblk m c 0 t) (iblk m c 1 t) (iblk m c 2 t) (ix2 a k) = (z m c).e (row t a) k := by
  unfold out0_4 k0_pay8
  frame_out
  canon_tiles y h
  all_goals
    idx_vars y
    obtain rfl : y0 = a := Fin.ext h0.symm
  · exact bp m c t _ _ _ _ _ (by simp; omega)
  · exact bp m c t _ _ _ _ _ (by simp; omega)
  · exact bp m c t _ _ _ _ _ (by simp; omega)
  · exact bp m c t _ _ _ _ _ (by simp; omega)
  · exact bp m c t _ _ _ _ _ (by simp; omega)

theorem arr4 : (dats m 0 c).arrAt 4 cfg0.N = fun i => (z m c).e (i 0) (i 1) := by
  refine (dats m 0 c).arrAt_eq_of_covers 4 _ (by decide +kernel) fun t _ y => ?_
  blk_simp
  rw [after0_4]
  idx_vars y
  rw [b4 m c t]
  exact congrArg₂ (z m c).e (Fin.ext (by blk_simp [idx t])) (Fin.ext (by blk_simp [idx t]))

end Point

/-! ## The reference's lines -/

namespace Ref
open Cert.ReferenceMixProjIdeal.Read

variable (a0 : Vec Ideal Cert.KernelMixProjIdeal.S1x4096x1024 .f32) (a1 : Vec Ideal Cert.KernelMixProjIdeal.S1x1024 .f32)
  (a2 : Vec Ideal Cert.KernelMixProjIdeal.S1x1024x6656 .f32)

theorem ref14 (i : Fin 4096) (j : Fin 1024) : val_main_v14 (F := Ideal) a0 a1 (ix2 i j) = (args a0 a1 a2).h i j := by
  pointwise [val_main_v14, val_main_v11, val_main_v13, val_main_v0, val_main_v10, val_main_v12, val_main_v9, val_main_v1, val_main_v8, val_main_v6,
    val_main_v7, val_main_v4, val_main_v5, val_main_cst_1, val_main_v3, val_main_cst_0, val_main_v2, val_main_cst]
  rfl

theorem ref16 (i : Fin 4096) (k : Fin 6656) : val_main_v16 (F := Ideal) a0 a1 a2 (ix2 i k) = (args a0 a1 a2).p i k := by
  pointwise [val_main_v16, val_main_v15]
  simp only [ref14 a0 a1 a2]
  rfl

theorem ref18 (i : Fin 4096) (k : Fin 1536) : val_main_v18 (F := Ideal) a0 a1 a2 (ix2 i k) = (args a0 a1 a2).q i k := by
  pointwise [val_main_v18, val_main_v17]
  exact ref16 a0 a1 a2 _ _

theorem ref20 (i : Fin 4096) (k : Fin 5120) : val_main_v20 (F := Ideal) a0 a1 a2 (ix2 i k) = (args a0 a1 a2).e i k := by
  pointwise [val_main_v20, val_main_v19]
  exact ref16 a0 a1 a2 _ _

end Ref

/-! ## The claim -/

/-- The call and the reference's forward lines return the same two results: the attention's columns of the projection and the others. -/
theorem value : Cert.algebraic_KernelMixProjIdeal_ReferenceMixProjIdeal := by
  intro m g m' g' _ hagree
  refine ⟨_, _, Value.run_blocks m g, ?_⟩
  refine (θ_run _ _ _).mono (fun s h c => ?_) (Cert.ReferenceMixProjIdeal.Value.run m' g')
  obtain ⟨e0, e1, e2⟩ := hagree c
  obtain ⟨h0, h1, hr⟩ := h c
  refine ⟨h0.trans ?_, h1.trans ?_, hr⟩
  · rw [Cert.ReferenceMixProjIdeal.Read.val_main_v18_eq, e0, e1, e2, arr3 m c]
    funext i
    idx_vars i
    exact Ref.ref18 _ _ _ _ _
  · rw [Cert.ReferenceMixProjIdeal.Read.val_main_v20_eq, e0, e1, e2, arr4 m c]
    funext i
    idx_vars i
    exact Ref.ref20 _ _ _ _ _

end Cert.MixProj
end
-- ==== Proof.MemKv.lean ====
/- The memory's normalisation, and its keys and values (`mem_kv`): the call returns what the reference's forward lines return. -/
module

public import proofs.«01_k».proof.Defs
public import proofs.«01_k».proof.Proof.FfnFwd
public import proofs.«01_k».proof.Proof.Gen.KernelMemKvIdeal.Frame
public import proofs.«01_k».proof.Proof.Gen.KernelMemKvIdeal.Value
public import proofs.«01_k».proof.Proof.Gen.ReferenceMemKvIdeal.Read

@[expose] public section

set_option maxRecDepth 16384

noncomputable section

open Idealize.ShloMosaic Idealize.ShloMosaic.TcCoe Idealize.SL.Sem
open Idealize.ShloMosaic.Pipeline (Dat)
open Cert.FfnFwd (scale)

namespace Cert.MemKv
open Cert.KernelMemKvIdeal Cert.KernelMemKvIdeal.Gen

/-! ## The function both compute, over the extended reals -/

/-- The arguments: the rows, the normalisation's scale, the weights. -/
structure Re where
  x : Fin 256 → Fin 1024 → EReal
  g : Fin 1024 → EReal
  w : Fin 1024 → Fin 2048 → EReal

namespace Re
variable (z : Re)

/-- The normalised rows. -/
def h (i : Fin 256) (j : Fin 1024) : EReal := z.x i j * scale (z.x i) * z.g j
/-- The projection. -/
def p (i : Fin 256) (k : Fin 2048) : EReal := ∑ j, z.h i j * z.w j k

end Re

/-- The arguments read as functions of their coordinates. -/
abbrev args (a0 : Vec Ideal S1x256x1024 .f32) (a1 : Vec Ideal S1x1024 .f32) (a2 : Vec Ideal S1x1024x2048 .f32) : Re :=
  ⟨fun i j => a0 (ix3 0 i j), fun j => a1 (ix2 0 j), fun i j => a2 (ix3 0 i j)⟩

/-! ## The kernel's points -/

variable (m : (ℓ : Loc nD τ sig) → Buf (Elt Ideal) ℓ)

/-- The windows' index maps over the one point. -/
theorem idx : ∀ t : Fin cfg0.N, win0_0.index t = ![0, 0] ∧ win0_1.index t = ![0, 0] ∧ win0_2.index t = ![0, 0] ∧ win0_3.index t = ![0, 0]
    ∧ win0_4.index t = ![0, 0] :=
  (by decide +kernel : ∀ t : Fin grid0.N, _)

section Point
variable (c : Dev nD)

/-- The call's arguments. -/
abbrev z : Re := args (m ((c : Thread nD τ).loc main_arg0)) (m ((c : Thread nD τ).loc main_arg1)) (m ((c : Thread nD τ).loc main_arg2))

set_option maxHeartbeats 1000000

/-- The blocks of a point, typed as arrays. -/
abbrev ib0 (t : Fin cfg0.N) : Vec Ideal S256x1024 .f32 := iblk m c 0 t
abbrev ib1 (t : Fin cfg0.N) : Vec Ideal S1x1024 .f32 := iblk m c 1 t
abbrev ib2 (t : Fin cfg0.N) : Vec Ideal S1024x2048 .bf16 := iblk m c 2 t

theorem C0 (t : Fin cfg0.N) (a : Fin 256) (j : Fin 1024) : ib0 m c t (ix2 a j) = (z m c).x (a) j := by
  unfold z args; blk_point [ib0, iblk, V, idx t]
theorem C1 (t : Fin cfg0.N) (j : Fin 1024) : ib1 m c t (ix2 0 j) = (z m c).g j := by
  unfold z args; blk_point [ib1, iblk, V, idx t]
theorem C2 (t : Fin cfg0.N) (a : Fin 1024) (j : Fin 2048) : ib2 m c t (ix2 a j) = (z m c).w a j := by
  unfold z args; blk_point [ib2, iblk, V, idx t]

/-- The normalised rows of a block. -/
theorem bh (t : Fin cfg0.N) (a : Fin 256) (j : Fin 1024) : k0_pay1 (ib0 m c t) (ib1 m c t) (ix2 a j) = (z m c).h (a) j := by
  pointwise [k0_pay1]
  simp only [C0 m c t, C1 m c t]
  rfl

/-- The keys and values of a block. -/
theorem bp (t : Fin cfg0.N) (a : Fin 256) (k : Fin 2048) : k0_pay2 (ib0 m c t) (ib1 m c t) (ib2 m c t) (ix2 a k) = (z m c).p a k := by
  pointwise [k0_pay2]
  simp only [bh m c t, C2 m c t]
  rfl

theorem arr3 : (dats m 0 c).arrAt 3 cfg0.N = fun i => (z m c).h (i 0) (i 1) := by
  refine (dats m 0 c).arrAt_eq_of_covers 3 _ (by decide +kernel) fun t _ y => ?_
  blk_simp
  rw [after0_3]
  unfold out0_3
  idx_vars y
  frame_out
  refine (bh m c t y0 y1).trans ?_
  exact congrArg₂ (z m c).h (Fin.ext (by blk_simp [idx t])) (Fin.ext (by blk_simp [idx t]))

theorem arr4 : (dats m 0 c).arrAt 4 cfg0.N = fun i => (z m c).p (i 0) (i 1) := by
  refine (dats m 0 c).arrAt_eq_of_covers 4 _ (by decide +kernel) fun t _ y => ?_
  blk_simp
  rw [after0_4]
  unfold out0_4
  idx_vars y
  frame_out
  refine (bp m c t y0 y1).trans ?_
  exact congrArg₂ (z m c).p (Fin.ext (by blk_simp [idx t])) (Fin.ext (by blk_simp [idx t]))

end Point

/-! ## The reference's lines -/

namespace Ref
open Cert.ReferenceMemKvIdeal.Read

variable (a0 : Vec Ideal Cert.KernelMemKvIdeal.S1x256x1024 .f32) (a1 : Vec Ideal Cert.KernelMemKvIdeal.S1x1024 .f32)
  (a2 : Vec Ideal Cert.KernelMemKvIdeal.S1x1024x2048 .f32)

theorem ref14 (i : Fin 256) (j : Fin 1024) : val_main_v14 (F := Ideal) a0 a1 (ix2 i j) = (args a0 a1 a2).h i j := by
  pointwise [val_main_v14, val_main_v11, val_main_v13, val_main_v0, val_main_v10, val_main_v12, val_main_v9, val_main_v1, val_main_v8, val_main_v6,
    val_main_v7, val_main_v4, val_main_v5, val_main_cst_1, val_main_v3, val_main_cst_0, val_main_v2, val_main_cst]
  rfl

theorem ref15 (i : Fin 256) (j : Fin 1024) : val_main_v15 (F := Ideal) a0 a1 (ix2 i j) = (args a0 a1 a2).h i j := by
  pointwise [val_main_v15]
  exact ref14 a0 a1 a2 _ _

theorem ref18 (i : Fin 256) (k : Fin 2048) : val_main_v18 (F := Ideal) a0 a1 a2 (ix2 i k) = (args a0 a1 a2).p i k := by
  pointwise [val_main_v18, val_main_v17, val_main_v16]
  simp only [ref14 a0 a1 a2]
  rfl

end Ref

/-! ## The claim -/

/-- The call and the reference's forward lines return the same two results: the normalised memory, and its keys and values. -/
theorem value : Cert.algebraic_KernelMemKvIdeal_ReferenceMemKvIdeal := by
  intro m g m' g' _ hagree
  refine ⟨_, _, Value.run_blocks m g, ?_⟩
  refine (θ_run _ _ _).mono (fun s h c => ?_) (Cert.ReferenceMemKvIdeal.Value.run m' g')
  obtain ⟨e0, e1, e2⟩ := hagree c
  obtain ⟨h0, h1, hr⟩ := h c
  refine ⟨h0.trans ?_, h1.trans ?_, hr⟩
  · rw [Cert.ReferenceMemKvIdeal.Read.val_main_v15_eq, e0, e1, arr3 m c]
    funext i
    idx_vars i
    exact Ref.ref15 _ _ (m ((c : Thread nD τ).loc main_arg2)) _ _
  · rw [Cert.ReferenceMemKvIdeal.Read.val_main_v18_eq, e0, e1, e2, arr4 m c]
    funext i
    idx_vars i
    exact Ref.ref18 _ _ _ _ _

end Cert.MemKv
end
-- ==== Proof.lean ====
module

public import proofs.«01_k».proof.Defs
public import proofs.«01_k».proof.Proof.MixIn
public import proofs.«01_k».proof.Proof.Gen.KernelMixIn.Frame
public import proofs.«01_k».proof.Proof.Gen.KernelMixInIdeal.Frame
public import proofs.«01_k».proof.Proof.Gen.ReferenceMixInIdeal.Run
public import proofs.«01_k».proof.Proof.Ffn
public import proofs.«01_k».proof.Proof.Gen.KernelFfn.Frame
public import proofs.«01_k».proof.Proof.Gen.KernelFfnIdeal.Frame
public import proofs.«01_k».proof.Proof.Gen.ReferenceFfnIdeal.Run
public import proofs.«01_k».proof.Proof.Xattn
public import proofs.«01_k».proof.Proof.Gen.KernelXattn.Frame
public import proofs.«01_k».proof.Proof.Gen.KernelXattnIdeal.Frame
public import proofs.«01_k».proof.Proof.Gen.ReferenceXattnIdeal.Run
public import proofs.«01_k».proof.Proof.Head
public import proofs.«01_k».proof.Proof.Gen.KernelHead.Frame
public import proofs.«01_k».proof.Proof.Gen.KernelHeadIdeal.Frame
public import proofs.«01_k».proof.Proof.Gen.ReferenceHeadIdeal.Run
public import proofs.«01_k».proof.Proof.Gen.KernelBias.Frame
public import proofs.«01_k».proof.Proof.Gen.KernelBiasIdeal.Frame
public import proofs.«01_k».proof.Proof.Gen.ReferenceBiasIdeal.Run
public import proofs.«01_k».proof.Proof.XattnFwd
public import proofs.«01_k».proof.Proof.Gen.KernelXattnFwd.Frame
public import proofs.«01_k».proof.Proof.Gen.KernelXattnFwdIdeal.Frame
public import proofs.«01_k».proof.Proof.Gen.ReferenceXattnFwdIdeal.Run
public import proofs.«01_k».proof.Proof.SwaFwd
public import proofs.«01_k».proof.Proof.Gen.KernelSwaFwd.Frame
public import proofs.«01_k».proof.Proof.Gen.KernelSwaFwdIdeal.Frame
public import proofs.«01_k».proof.Proof.Gen.ReferenceSwaFwdIdeal.Run
public import proofs.«01_k».proof.Proof.MixOutFwd
public import proofs.«01_k».proof.Proof.Gen.KernelMixOutFwd.Frame
public import proofs.«01_k».proof.Proof.Gen.KernelMixOutFwdIdeal.Frame
public import proofs.«01_k».proof.Proof.Gen.ReferenceMixOutFwdIdeal.Run
public import proofs.«01_k».proof.Proof.FfnFwd
public import proofs.«01_k».proof.Proof.Gen.KernelFfnFwd.Frame
public import proofs.«01_k».proof.Proof.Gen.KernelFfnFwdIdeal.Frame
public import proofs.«01_k».proof.Proof.Gen.ReferenceFfnFwdIdeal.Run
public import proofs.«01_k».proof.Proof.MixProj
public import proofs.«01_k».proof.Proof.Gen.KernelMixProj.Frame
public import proofs.«01_k».proof.Proof.Gen.KernelMixProjIdeal.Frame
public import proofs.«01_k».proof.Proof.Gen.ReferenceMixProjIdeal.Run
public import proofs.«01_k».proof.Proof.MemKv
public import proofs.«01_k».proof.Proof.Gen.KernelMemKv.Frame
public import proofs.«01_k».proof.Proof.Gen.KernelMemKvIdeal.Frame
public import proofs.«01_k».proof.Proof.Gen.ReferenceMemKvIdeal.Run
public import proofs.«01_k».proof.Proof.Gen.Pre_finite_mix_in
public import proofs.«01_k».proof.Proof.Gen.Pre_finite_ffn
public import proofs.«01_k».proof.Proof.Gen.Pre_finite_xattn
public import proofs.«01_k».proof.Proof.Gen.Pre_finite_head
public import proofs.«01_k».proof.Proof.Gen.Pre_finite_xattn_fwd
public import proofs.«01_k».proof.Proof.Gen.Pre_finite_swa_fwd
public import Idealize.ShloMosaic.Adequacy
public import Idealize.ShloMosaic.Init

@[expose] public section

noncomputable section

namespace Cert.Proof

open Idealize.ShloMosaic Idealize.SL.Sem

/-- `ReferenceMixInIdeal` runs, leaves its arguments as launched and declares no semaphore. -/
theorem frame_ReferenceMixInIdeal : Cert.quiescent_ReferenceMixInIdeal := fun m ρ _ =>
  (θ_run _ _ _).mono (fun s h => ⟨fun c => (h c).2.2.2, sem_eq_zero_of_no_sems rfl _⟩) (Cert.ReferenceMixInIdeal.Value.run (F := Ideal) m ρ)

/-- `ReferenceFfnIdeal` runs, leaves its arguments as launched and declares no semaphore. -/
theorem frame_ReferenceFfnIdeal : Cert.quiescent_ReferenceFfnIdeal := fun m ρ _ =>
  (θ_run _ _ _).mono (fun s h => ⟨fun c => (h c).2.2.2.2.2.2, sem_eq_zero_of_no_sems rfl _⟩) (Cert.ReferenceFfnIdeal.Value.run (F := Ideal) m ρ)

/-- `ReferenceXattnIdeal` runs, leaves its arguments as launched and declares no semaphore. -/
theorem frame_ReferenceXattnIdeal : Cert.quiescent_ReferenceXattnIdeal := fun m ρ _ =>
  (θ_run _ _ _).mono (fun s h => ⟨fun c => (h c).2.2.2.2.2.2.2.2, sem_eq_zero_of_no_sems rfl _⟩) (Cert.ReferenceXattnIdeal.Value.run (F := Ideal) m ρ)

/-- `ReferenceHeadIdeal` runs, leaves its arguments as launched and declares no semaphore. -/
theorem frame_ReferenceHeadIdeal : Cert.quiescent_ReferenceHeadIdeal := fun m ρ _ =>
  (θ_run _ _ _).mono (fun s h => ⟨fun c => (h c).2.2.2.2.2, sem_eq_zero_of_no_sems rfl _⟩) (Cert.ReferenceHeadIdeal.Value.run (F := Ideal) m ρ)

/-- `ReferenceBiasIdeal` runs, leaves its arguments as launched and declares no semaphore. -/
theorem frame_ReferenceBiasIdeal : Cert.quiescent_ReferenceBiasIdeal := fun m ρ _ =>
  (θ_run _ _ _).mono (fun s h => ⟨fun c => (h c).2.2, sem_eq_zero_of_no_sems rfl _⟩) (Cert.ReferenceBiasIdeal.Value.run (F := Ideal) m ρ)

/-- `ReferenceXattnFwdIdeal` runs, leaves its arguments as launched and declares no semaphore. -/
theorem frame_ReferenceXattnFwdIdeal : Cert.quiescent_ReferenceXattnFwdIdeal := fun m ρ _ =>
  (θ_run _ _ _).mono (fun s h => ⟨fun c => (h c).2.2.2, sem_eq_zero_of_no_sems rfl _⟩) (Cert.ReferenceXattnFwdIdeal.Value.run (F := Ideal) m ρ)

/-- `ReferenceSwaFwdIdeal` runs, leaves its arguments as launched and declares no semaphore. -/
theorem frame_ReferenceSwaFwdIdeal : Cert.quiescent_ReferenceSwaFwdIdeal := fun m ρ _ =>
  (θ_run _ _ _).mono (fun s h => ⟨fun c => (h c).2, sem_eq_zero_of_no_sems rfl _⟩) (Cert.ReferenceSwaFwdIdeal.Value.run (F := Ideal) m ρ)

/-- `ReferenceMixOutFwdIdeal` runs, leaves its arguments as launched and declares no semaphore. -/
theorem frame_ReferenceMixOutFwdIdeal : Cert.quiescent_ReferenceMixOutFwdIdeal := fun m ρ _ =>
  (θ_run _ _ _).mono (fun s h => ⟨fun c => (h c).2.2, sem_eq_zero_of_no_sems rfl _⟩) (Cert.ReferenceMixOutFwdIdeal.Value.run (F := Ideal) m ρ)

/-- `ReferenceFfnFwdIdeal` runs, leaves its arguments as launched and declares no semaphore. -/
theorem frame_ReferenceFfnFwdIdeal : Cert.quiescent_ReferenceFfnFwdIdeal := fun m ρ _ =>
  (θ_run _ _ _).mono (fun s h => ⟨fun c => (h c).2.2.2, sem_eq_zero_of_no_sems rfl _⟩) (Cert.ReferenceFfnFwdIdeal.Value.run (F := Ideal) m ρ)

/-- `ReferenceMixProjIdeal` runs, leaves its arguments as launched and declares no semaphore. -/
theorem frame_ReferenceMixProjIdeal : Cert.quiescent_ReferenceMixProjIdeal := fun m ρ _ =>
  (θ_run _ _ _).mono (fun s h => ⟨fun c => (h c).2.2, sem_eq_zero_of_no_sems rfl _⟩) (Cert.ReferenceMixProjIdeal.Value.run (F := Ideal) m ρ)

/-- `ReferenceMemKvIdeal` runs, leaves its arguments as launched and declares no semaphore. -/
theorem frame_ReferenceMemKvIdeal : Cert.quiescent_ReferenceMemKvIdeal := fun m ρ _ =>
  (θ_run _ _ _).mono (fun s h => ⟨fun c => (h c).2.2, sem_eq_zero_of_no_sems rfl _⟩) (Cert.ReferenceMemKvIdeal.Value.run (F := Ideal) m ρ)

/-- Everything the certificate claims. -/
theorem claim : Cert.Claim := ⟨Cert.KernelMixIn.Gen.facts,
  Cert.KernelMixInIdeal.Gen.facts,
  Cert.ReferenceMixInIdeal.Gen.facts,
  Cert.KernelFfn.Gen.facts,
  Cert.KernelFfnIdeal.Gen.facts,
  Cert.ReferenceFfnIdeal.Gen.facts,
  Cert.KernelXattn.Gen.facts,
  Cert.KernelXattnIdeal.Gen.facts,
  Cert.ReferenceXattnIdeal.Gen.facts,
  Cert.KernelHead.Gen.facts,
  Cert.KernelHeadIdeal.Gen.facts,
  Cert.ReferenceHeadIdeal.Gen.facts,
  Cert.KernelBias.Gen.facts,
  Cert.KernelBiasIdeal.Gen.facts,
  Cert.ReferenceBiasIdeal.Gen.facts,
  Cert.KernelXattnFwd.Gen.facts,
  Cert.KernelXattnFwdIdeal.Gen.facts,
  Cert.ReferenceXattnFwdIdeal.Gen.facts,
  Cert.KernelSwaFwd.Gen.facts,
  Cert.KernelSwaFwdIdeal.Gen.facts,
  Cert.ReferenceSwaFwdIdeal.Gen.facts,
  Cert.KernelMixOutFwd.Gen.facts,
  Cert.KernelMixOutFwdIdeal.Gen.facts,
  Cert.ReferenceMixOutFwdIdeal.Gen.facts,
  Cert.KernelFfnFwd.Gen.facts,
  Cert.KernelFfnFwdIdeal.Gen.facts,
  Cert.ReferenceFfnFwdIdeal.Gen.facts,
  Cert.KernelMixProj.Gen.facts,
  Cert.KernelMixProjIdeal.Gen.facts,
  Cert.ReferenceMixProjIdeal.Gen.facts,
  Cert.KernelMemKv.Gen.facts,
  Cert.KernelMemKvIdeal.Gen.facts,
  Cert.ReferenceMemKvIdeal.Gen.facts,
  Cert.Pre_finite_mix_in.Gen.facts,
  Cert.Pre_finite_ffn.Gen.facts,
  Cert.Pre_finite_xattn.Gen.facts,
  Cert.Pre_finite_head.Gen.facts,
  Cert.Pre_finite_xattn_fwd.Gen.facts,
  Cert.Pre_finite_swa_fwd.Gen.facts,
  fun m ρ _ => Cert.KernelMixIn.Gen.frame m ρ,
  fun m ρ _ => Cert.KernelMixInIdeal.Gen.frame m ρ,
  fun m ρ _ => Cert.KernelMixInIdeal.Gen.frame m ρ,
  fun m ρ _ => frame_ReferenceMixInIdeal m ρ trivial,
  fun m ρ _ => frame_ReferenceMixInIdeal m ρ trivial,
  fun m ρ _ => Cert.KernelFfn.Gen.frame m ρ,
  fun m ρ _ => Cert.KernelFfnIdeal.Gen.frame m ρ,
  fun m ρ _ => Cert.KernelFfnIdeal.Gen.frame m ρ,
  fun m ρ _ => frame_ReferenceFfnIdeal m ρ trivial,
  fun m ρ _ => frame_ReferenceFfnIdeal m ρ trivial,
  fun m ρ _ => Cert.KernelXattn.Gen.frame m ρ,
  fun m ρ _ => Cert.KernelXattnIdeal.Gen.frame m ρ,
  fun m ρ _ => Cert.KernelXattnIdeal.Gen.frame m ρ,
  fun m ρ _ => frame_ReferenceXattnIdeal m ρ trivial,
  fun m ρ _ => frame_ReferenceXattnIdeal m ρ trivial,
  fun m ρ _ => Cert.KernelHead.Gen.frame m ρ,
  fun m ρ _ => Cert.KernelHeadIdeal.Gen.frame m ρ,
  fun m ρ _ => Cert.KernelHeadIdeal.Gen.frame m ρ,
  fun m ρ _ => frame_ReferenceHeadIdeal m ρ trivial,
  fun m ρ _ => frame_ReferenceHeadIdeal m ρ trivial,
  fun m ρ _ => Cert.KernelBias.Gen.frame m ρ,
  fun m ρ _ => Cert.KernelBiasIdeal.Gen.frame m ρ,
  fun m ρ _ => frame_ReferenceBiasIdeal m ρ trivial,
  fun m ρ _ => Cert.KernelXattnFwd.Gen.frame m ρ,
  fun m ρ _ => Cert.KernelXattnFwdIdeal.Gen.frame m ρ,
  fun m ρ _ => Cert.KernelXattnFwdIdeal.Gen.frame m ρ,
  fun m ρ _ => frame_ReferenceXattnFwdIdeal m ρ trivial,
  fun m ρ _ => frame_ReferenceXattnFwdIdeal m ρ trivial,
  fun m ρ _ => Cert.KernelSwaFwd.Gen.frame m ρ,
  fun m ρ _ => Cert.KernelSwaFwdIdeal.Gen.frame m ρ,
  fun m ρ _ => Cert.KernelSwaFwdIdeal.Gen.frame m ρ,
  fun m ρ _ => frame_ReferenceSwaFwdIdeal m ρ trivial,
  fun m ρ _ => frame_ReferenceSwaFwdIdeal m ρ trivial,
  fun m ρ _ => Cert.KernelMixOutFwd.Gen.frame m ρ,
  fun m ρ _ => Cert.KernelMixOutFwdIdeal.Gen.frame m ρ,
  fun m ρ _ => frame_ReferenceMixOutFwdIdeal m ρ trivial,
  fun m ρ _ => Cert.KernelFfnFwd.Gen.frame m ρ,
  fun m ρ _ => Cert.KernelFfnFwdIdeal.Gen.frame m ρ,
  fun m ρ _ => frame_ReferenceFfnFwdIdeal m ρ trivial,
  fun m ρ _ => Cert.KernelMixProj.Gen.frame m ρ,
  fun m ρ _ => Cert.KernelMixProjIdeal.Gen.frame m ρ,
  fun m ρ _ => frame_ReferenceMixProjIdeal m ρ trivial,
  fun m ρ _ => Cert.KernelMemKv.Gen.frame m ρ,
  fun m ρ _ => Cert.KernelMemKvIdeal.Gen.frame m ρ,
  fun m ρ _ => frame_ReferenceMemKvIdeal m ρ trivial,
  trivial,
  Cert.MixIn.value,
  trivial,
  Cert.Ffn.value,
  trivial,
  Cert.Xattn.value,
  trivial,
  Cert.Head.value,
  trivial,
  trivial,
  Cert.XattnFwd.value,
  Cert.SwaFwd.preserves,
  Cert.SwaFwd.value,
  trivial,
  Cert.MixOutFwd.value,
  trivial,
  Cert.FfnFwd.value,
  trivial,
  Cert.MixProj.value,
  trivial,
  Cert.MemKv.value⟩

end Cert.Proof

end
